-- ==== Defs.lean ====
def Pre_KernelNorm (m : (ℓ : Loc Cert.KernelNorm.nD Cert.KernelNorm.τ Cert.KernelNorm.sig) → Buf (Elt Bits) ℓ) : Prop :=
  True

def Pre_KernelNormIdeal (m : (ℓ : Loc Cert.KernelNormIdeal.nD Cert.KernelNormIdeal.τ Cert.KernelNormIdeal.sig) → Buf (Elt Ideal) ℓ) : Prop :=
  True

def Pre_KernelNormIdeal_norm_finite [hPre_norm_finite : Cert.Pre_norm_finite.Facts] (m : (ℓ : Loc Cert.KernelNormIdeal.nD Cert.KernelNormIdeal.τ Cert.KernelNormIdeal.sig) → Buf (Elt Ideal) ℓ) : Prop :=
  ∀ c : Dev Cert.KernelNormIdeal.nD,
    (Cert.Pre_norm_finite.fn (F := Ideal) (m ((c.tc : Thread Cert.KernelNormIdeal.nD Cert.KernelNormIdeal.τ).loc Cert.KernelNormIdeal.main_arg0)) (m ((c.tc : Thread Cert.KernelNormIdeal.nD Cert.KernelNormIdeal.τ).loc Cert.KernelNormIdeal.main_arg1)) (m ((c.tc : Thread Cert.KernelNormIdeal.nD Cert.KernelNormIdeal.τ).loc Cert.KernelNormIdeal.main_arg2)) (m ((c.tc : Thread Cert.KernelNormIdeal.nD Cert.KernelNormIdeal.τ).loc Cert.KernelNormIdeal.main_arg3))).1 = (fun _ => 1#1)
    ∧ (Cert.Pre_norm_finite.fn (F := Ideal) (m ((c.tc : Thread Cert.KernelNormIdeal.nD Cert.KernelNormIdeal.τ).loc Cert.KernelNormIdeal.main_arg0)) (m ((c.tc : Thread Cert.KernelNormIdeal.nD Cert.KernelNormIdeal.τ).loc Cert.KernelNormIdeal.main_arg1)) (m ((c.tc : Thread Cert.KernelNormIdeal.nD Cert.KernelNormIdeal.τ).loc Cert.KernelNormIdeal.main_arg2)) (m ((c.tc : Thread Cert.KernelNormIdeal.nD Cert.KernelNormIdeal.τ).loc Cert.KernelNormIdeal.main_arg3))).2.1 = (fun _ => 1#1)
    ∧ (Cert.Pre_norm_finite.fn (F := Ideal) (m ((c.tc : Thread Cert.KernelNormIdeal.nD Cert.KernelNormIdeal.τ).loc Cert.KernelNormIdeal.main_arg0)) (m ((c.tc : Thread Cert.KernelNormIdeal.nD Cert.KernelNormIdeal.τ).loc Cert.KernelNormIdeal.main_arg1)) (m ((c.tc : Thread Cert.KernelNormIdeal.nD Cert.KernelNormIdeal.τ).loc Cert.KernelNormIdeal.main_arg2)) (m ((c.tc : Thread Cert.KernelNormIdeal.nD Cert.KernelNormIdeal.τ).loc Cert.KernelNormIdeal.main_arg3))).2.2 = (fun _ => 1#1)

def Pre_ReferenceNormIdeal (m : (ℓ : Loc Cert.ReferenceNormIdeal.nD Cert.ReferenceNormIdeal.τ Cert.ReferenceNormIdeal.sig) → Buf (Elt Ideal) ℓ) : Prop :=
  True

def Pre_ReferenceNormIdeal_norm_finite [hPre_norm_finite : Cert.Pre_norm_finite.Facts] (m : (ℓ : Loc Cert.ReferenceNormIdeal.nD Cert.ReferenceNormIdeal.τ Cert.ReferenceNormIdeal.sig) → Buf (Elt Ideal) ℓ) : Prop :=
  ∀ c : Dev Cert.ReferenceNormIdeal.nD,
    (Cert.Pre_norm_finite.fn (F := Ideal) (m ((c.tc : Thread Cert.ReferenceNormIdeal.nD Cert.ReferenceNormIdeal.τ).loc Cert.ReferenceNormIdeal.main_arg0)) (m ((c.tc : Thread Cert.ReferenceNormIdeal.nD Cert.ReferenceNormIdeal.τ).loc Cert.ReferenceNormIdeal.main_arg1)) (m ((c.tc : Thread Cert.ReferenceNormIdeal.nD Cert.ReferenceNormIdeal.τ).loc Cert.ReferenceNormIdeal.main_arg2)) (m ((c.tc : Thread Cert.ReferenceNormIdeal.nD Cert.ReferenceNormIdeal.τ).loc Cert.ReferenceNormIdeal.main_arg3))).1 = (fun _ => 1#1)
    ∧ (Cert.Pre_norm_finite.fn (F := Ideal) (m ((c.tc : Thread Cert.ReferenceNormIdeal.nD Cert.ReferenceNormIdeal.τ).loc Cert.ReferenceNormIdeal.main_arg0)) (m ((c.tc : Thread Cert.ReferenceNormIdeal.nD Cert.ReferenceNormIdeal.τ).loc Cert.ReferenceNormIdeal.main_arg1)) (m ((c.tc : Thread Cert.ReferenceNormIdeal.nD Cert.ReferenceNormIdeal.τ).loc Cert.ReferenceNormIdeal.main_arg2)) (m ((c.tc : Thread Cert.ReferenceNormIdeal.nD Cert.ReferenceNormIdeal.τ).loc Cert.ReferenceNormIdeal.main_arg3))).2.1 = (fun _ => 1#1)
    ∧ (Cert.Pre_norm_finite.fn (F := Ideal) (m ((c.tc : Thread Cert.ReferenceNormIdeal.nD Cert.ReferenceNormIdeal.τ).loc Cert.ReferenceNormIdeal.main_arg0)) (m ((c.tc : Thread Cert.ReferenceNormIdeal.nD Cert.ReferenceNormIdeal.τ).loc Cert.ReferenceNormIdeal.main_arg1)) (m ((c.tc : Thread Cert.ReferenceNormIdeal.nD Cert.ReferenceNormIdeal.τ).loc Cert.ReferenceNormIdeal.main_arg2)) (m ((c.tc : Thread Cert.ReferenceNormIdeal.nD Cert.ReferenceNormIdeal.τ).loc Cert.ReferenceNormIdeal.main_arg3))).2.2 = (fun _ => 1#1)

def Pre_KernelConv (m : (ℓ : Loc Cert.KernelConv.nD Cert.KernelConv.τ Cert.KernelConv.sig) → Buf (Elt Bits) ℓ) : Prop :=
  True

def Pre_KernelConvIdeal (m : (ℓ : Loc Cert.KernelConvIdeal.nD Cert.KernelConvIdeal.τ Cert.KernelConvIdeal.sig) → Buf (Elt Ideal) ℓ) : Prop :=
  True

def Pre_ReferenceConvIdeal (m : (ℓ : Loc Cert.ReferenceConvIdeal.nD Cert.ReferenceConvIdeal.τ Cert.ReferenceConvIdeal.sig) → Buf (Elt Ideal) ℓ) : Prop :=
  True

def Pre_KernelFinal (m : (ℓ : Loc Cert.KernelFinal.nD Cert.KernelFinal.τ Cert.KernelFinal.sig) → Buf (Elt Bits) ℓ) : Prop :=
  True

def Pre_KernelFinalIdeal (m : (ℓ : Loc Cert.KernelFinalIdeal.nD Cert.KernelFinalIdeal.τ Cert.KernelFinalIdeal.sig) → Buf (Elt Ideal) ℓ) : Prop :=
  True

def Pre_KernelFinalIdeal_final_finite [hPre_final_finite : Cert.Pre_final_finite.Facts] (m : (ℓ : Loc Cert.KernelFinalIdeal.nD Cert.KernelFinalIdeal.τ Cert.KernelFinalIdeal.sig) → Buf (Elt Ideal) ℓ) : Prop :=
  ∀ c : Dev Cert.KernelFinalIdeal.nD,
    (Cert.Pre_final_finite.fn (F := Ideal) (m ((c.tc : Thread Cert.KernelFinalIdeal.nD Cert.KernelFinalIdeal.τ).loc Cert.KernelFinalIdeal.main_arg0)) (m ((c.tc : Thread Cert.KernelFinalIdeal.nD Cert.KernelFinalIdeal.τ).loc Cert.KernelFinalIdeal.main_arg1)) (m ((c.tc : Thread Cert.KernelFinalIdeal.nD Cert.KernelFinalIdeal.τ).loc Cert.KernelFinalIdeal.main_arg2))).1 = (fun _ => 1#1)
    ∧ (Cert.Pre_final_finite.fn (F := Ideal) (m ((c.tc : Thread Cert.KernelFinalIdeal.nD Cert.KernelFinalIdeal.τ).loc Cert.KernelFinalIdeal.main_arg0)) (m ((c.tc : Thread Cert.KernelFinalIdeal.nD Cert.KernelFinalIdeal.τ).loc Cert.KernelFinalIdeal.main_arg1)) (m ((c.tc : Thread Cert.KernelFinalIdeal.nD Cert.KernelFinalIdeal.τ).loc Cert.KernelFinalIdeal.main_arg2))).2.1 = (fun _ => 1#1)
    ∧ (Cert.Pre_final_finite.fn (F := Ideal) (m ((c.tc : Thread Cert.KernelFinalIdeal.nD Cert.KernelFinalIdeal.τ).loc Cert.KernelFinalIdeal.main_arg0)) (m ((c.tc : Thread Cert.KernelFinalIdeal.nD Cert.KernelFinalIdeal.τ).loc Cert.KernelFinalIdeal.main_arg1)) (m ((c.tc : Thread Cert.KernelFinalIdeal.nD Cert.KernelFinalIdeal.τ).loc Cert.KernelFinalIdeal.main_arg2))).2.2 = (fun _ => 1#1)

def Pre_ReferenceFinalIdeal (m : (ℓ : Loc Cert.ReferenceFinalIdeal.nD Cert.ReferenceFinalIdeal.τ Cert.ReferenceFinalIdeal.sig) → Buf (Elt Ideal) ℓ) : Prop :=
  True

def Pre_ReferenceFinalIdeal_final_finite [hPre_final_finite : Cert.Pre_final_finite.Facts] (m : (ℓ : Loc Cert.ReferenceFinalIdeal.nD Cert.ReferenceFinalIdeal.τ Cert.ReferenceFinalIdeal.sig) → Buf (Elt Ideal) ℓ) : Prop :=
  ∀ c : Dev Cert.ReferenceFinalIdeal.nD,
    (Cert.Pre_final_finite.fn (F := Ideal) (m ((c.tc : Thread Cert.ReferenceFinalIdeal.nD Cert.ReferenceFinalIdeal.τ).loc Cert.ReferenceFinalIdeal.main_arg0)) (m ((c.tc : Thread Cert.ReferenceFinalIdeal.nD Cert.ReferenceFinalIdeal.τ).loc Cert.ReferenceFinalIdeal.main_arg1)) (m ((c.tc : Thread Cert.ReferenceFinalIdeal.nD Cert.ReferenceFinalIdeal.τ).loc Cert.ReferenceFinalIdeal.main_arg2))).1 = (fun _ => 1#1)
    ∧ (Cert.Pre_final_finite.fn (F := Ideal) (m ((c.tc : Thread Cert.ReferenceFinalIdeal.nD Cert.ReferenceFinalIdeal.τ).loc Cert.ReferenceFinalIdeal.main_arg0)) (m ((c.tc : Thread Cert.ReferenceFinalIdeal.nD Cert.ReferenceFinalIdeal.τ).loc Cert.ReferenceFinalIdeal.main_arg1)) (m ((c.tc : Thread Cert.ReferenceFinalIdeal.nD Cert.ReferenceFinalIdeal.τ).loc Cert.ReferenceFinalIdeal.main_arg2))).2.1 = (fun _ => 1#1)
    ∧ (Cert.Pre_final_finite.fn (F := Ideal) (m ((c.tc : Thread Cert.ReferenceFinalIdeal.nD Cert.ReferenceFinalIdeal.τ).loc Cert.ReferenceFinalIdeal.main_arg0)) (m ((c.tc : Thread Cert.ReferenceFinalIdeal.nD Cert.ReferenceFinalIdeal.τ).loc Cert.ReferenceFinalIdeal.main_arg1)) (m ((c.tc : Thread Cert.ReferenceFinalIdeal.nD Cert.ReferenceFinalIdeal.τ).loc Cert.ReferenceFinalIdeal.main_arg2))).2.2 = (fun _ => 1#1)

def Pre_KernelOutProj (m : (ℓ : Loc Cert.KernelOutProj.nD Cert.KernelOutProj.τ Cert.KernelOutProj.sig) → Buf (Elt Bits) ℓ) : Prop :=
  True

def Pre_KernelOutProjIdeal (m : (ℓ : Loc Cert.KernelOutProjIdeal.nD Cert.KernelOutProjIdeal.τ Cert.KernelOutProjIdeal.sig) → Buf (Elt Ideal) ℓ) : Prop :=
  True

def Pre_KernelOutProjIdeal_outproj_finite [hPre_outproj_finite : Cert.Pre_outproj_finite.Facts] (m : (ℓ : Loc Cert.KernelOutProjIdeal.nD Cert.KernelOutProjIdeal.τ Cert.KernelOutProjIdeal.sig) → Buf (Elt Ideal) ℓ) : Prop :=
  ∀ c : Dev Cert.KernelOutProjIdeal.nD,
    (Cert.Pre_outproj_finite.fn (F := Ideal) (m ((c.tc : Thread Cert.KernelOutProjIdeal.nD Cert.KernelOutProjIdeal.τ).loc Cert.KernelOutProjIdeal.main_arg0)) (m ((c.tc : Thread Cert.KernelOutProjIdeal.nD Cert.KernelOutProjIdeal.τ).loc Cert.KernelOutProjIdeal.main_arg1)) (m ((c.tc : Thread Cert.KernelOutProjIdeal.nD Cert.KernelOutProjIdeal.τ).loc Cert.KernelOutProjIdeal.main_arg2)) (m ((c.tc : Thread Cert.KernelOutProjIdeal.nD Cert.KernelOutProjIdeal.τ).loc Cert.KernelOutProjIdeal.main_arg3)) (m ((c.tc : Thread Cert.KernelOutProjIdeal.nD Cert.KernelOutProjIdeal.τ).loc Cert.KernelOutProjIdeal.main_arg4)) (m ((c.tc : Thread Cert.KernelOutProjIdeal.nD Cert.KernelOutProjIdeal.τ).loc Cert.KernelOutProjIdeal.main_arg5)) (m ((c.tc : Thread Cert.KernelOutProjIdeal.nD Cert.KernelOutProjIdeal.τ).loc Cert.KernelOutProjIdeal.main_arg6)) (m ((c.tc : Thread Cert.KernelOutProjIdeal.nD Cert.KernelOutProjIdeal.τ).loc Cert.KernelOutProjIdeal.main_arg7))).1 = (fun _ => 1#1)
    ∧ (Cert.Pre_outproj_finite.fn (F := Ideal) (m ((c.tc : Thread Cert.KernelOutProjIdeal.nD Cert.KernelOutProjIdeal.τ).loc Cert.KernelOutProjIdeal.main_arg0)) (m ((c.tc : Thread Cert.KernelOutProjIdeal.nD Cert.KernelOutProjIdeal.τ).loc Cert.KernelOutProjIdeal.main_arg1)) (m ((c.tc : Thread Cert.KernelOutProjIdeal.nD Cert.KernelOutProjIdeal.τ).loc Cert.KernelOutProjIdeal.main_arg2)) (m ((c.tc : Thread Cert.KernelOutProjIdeal.nD Cert.KernelOutProjIdeal.τ).loc Cert.KernelOutProjIdeal.main_arg3)) (m ((c.tc : Thread Cert.KernelOutProjIdeal.nD Cert.KernelOutProjIdeal.τ).loc Cert.KernelOutProjIdeal.main_arg4)) (m ((c.tc : Thread Cert.KernelOutProjIdeal.nD Cert.KernelOutProjIdeal.τ).loc Cert.KernelOutProjIdeal.main_arg5)) (m ((c.tc : Thread Cert.KernelOutProjIdeal.nD Cert.KernelOutProjIdeal.τ).loc Cert.KernelOutProjIdeal.main_arg6)) (m ((c.tc : Thread Cert.KernelOutProjIdeal.nD Cert.KernelOutProjIdeal.τ).loc Cert.KernelOutProjIdeal.main_arg7))).2.1 = (fun _ => 1#1)
    ∧ (Cert.Pre_outproj_finite.fn (F := Ideal) (m ((c.tc : Thread Cert.KernelOutProjIdeal.nD Cert.KernelOutProjIdeal.τ).loc Cert.KernelOutProjIdeal.main_arg0)) (m ((c.tc : Thread Cert.KernelOutProjIdeal.nD Cert.KernelOutProjIdeal.τ).loc Cert.KernelOutProjIdeal.main_arg1)) (m ((c.tc : Thread Cert.KernelOutProjIdeal.nD Cert.KernelOutProjIdeal.τ).loc Cert.KernelOutProjIdeal.main_arg2)) (m ((c.tc : Thread Cert.KernelOutProjIdeal.nD Cert.KernelOutProjIdeal.τ).loc Cert.KernelOutProjIdeal.main_arg3)) (m ((c.tc : Thread Cert.KernelOutProjIdeal.nD Cert.KernelOutProjIdeal.τ).loc Cert.KernelOutProjIdeal.main_arg4)) (m ((c.tc : Thread Cert.KernelOutProjIdeal.nD Cert.KernelOutProjIdeal.τ).loc Cert.KernelOutProjIdeal.main_arg5)) (m ((c.tc : Thread Cert.KernelOutProjIdeal.nD Cert.KernelOutProjIdeal.τ).loc Cert.KernelOutProjIdeal.main_arg6)) (m ((c.tc : Thread Cert.KernelOutProjIdeal.nD Cert.KernelOutProjIdeal.τ).loc Cert.KernelOutProjIdeal.main_arg7))).2.2 = (fun _ => 1#1)

def Pre_ReferenceOutProjIdeal (m : (ℓ : Loc Cert.ReferenceOutProjIdeal.nD Cert.ReferenceOutProjIdeal.τ Cert.ReferenceOutProjIdeal.sig) → Buf (Elt Ideal) ℓ) : Prop :=
  True

def Pre_ReferenceOutProjIdeal_outproj_finite [hPre_outproj_finite : Cert.Pre_outproj_finite.Facts] (m : (ℓ : Loc Cert.ReferenceOutProjIdeal.nD Cert.ReferenceOutProjIdeal.τ Cert.ReferenceOutProjIdeal.sig) → Buf (Elt Ideal) ℓ) : Prop :=
  ∀ c : Dev Cert.ReferenceOutProjIdeal.nD,
    (Cert.Pre_outproj_finite.fn (F := Ideal) (m ((c.tc : Thread Cert.ReferenceOutProjIdeal.nD Cert.ReferenceOutProjIdeal.τ).loc Cert.ReferenceOutProjIdeal.main_arg0)) (m ((c.tc : Thread Cert.ReferenceOutProjIdeal.nD Cert.ReferenceOutProjIdeal.τ).loc Cert.ReferenceOutProjIdeal.main_arg1)) (m ((c.tc : Thread Cert.ReferenceOutProjIdeal.nD Cert.ReferenceOutProjIdeal.τ).loc Cert.ReferenceOutProjIdeal.main_arg2)) (m ((c.tc : Thread Cert.ReferenceOutProjIdeal.nD Cert.ReferenceOutProjIdeal.τ).loc Cert.ReferenceOutProjIdeal.main_arg3)) (m ((c.tc : Thread Cert.ReferenceOutProjIdeal.nD Cert.ReferenceOutProjIdeal.τ).loc Cert.ReferenceOutProjIdeal.main_arg4)) (m ((c.tc : Thread Cert.ReferenceOutProjIdeal.nD Cert.ReferenceOutProjIdeal.τ).loc Cert.ReferenceOutProjIdeal.main_arg5)) (m ((c.tc : Thread Cert.ReferenceOutProjIdeal.nD Cert.ReferenceOutProjIdeal.τ).loc Cert.ReferenceOutProjIdeal.main_arg6)) (m ((c.tc : Thread Cert.ReferenceOutProjIdeal.nD Cert.ReferenceOutProjIdeal.τ).loc Cert.ReferenceOutProjIdeal.main_arg7))).1 = (fun _ => 1#1)
    ∧ (Cert.Pre_outproj_finite.fn (F := Ideal) (m ((c.tc : Thread Cert.ReferenceOutProjIdeal.nD Cert.ReferenceOutProjIdeal.τ).loc Cert.ReferenceOutProjIdeal.main_arg0)) (m ((c.tc : Thread Cert.ReferenceOutProjIdeal.nD Cert.ReferenceOutProjIdeal.τ).loc Cert.ReferenceOutProjIdeal.main_arg1)) (m ((c.tc : Thread Cert.ReferenceOutProjIdeal.nD Cert.ReferenceOutProjIdeal.τ).loc Cert.ReferenceOutProjIdeal.main_arg2)) (m ((c.tc : Thread Cert.ReferenceOutProjIdeal.nD Cert.ReferenceOutProjIdeal.τ).loc Cert.ReferenceOutProjIdeal.main_arg3)) (m ((c.tc : Thread Cert.ReferenceOutProjIdeal.nD Cert.ReferenceOutProjIdeal.τ).loc Cert.ReferenceOutProjIdeal.main_arg4)) (m ((c.tc : Thread Cert.ReferenceOutProjIdeal.nD Cert.ReferenceOutProjIdeal.τ).loc Cert.ReferenceOutProjIdeal.main_arg5)) (m ((c.tc : Thread Cert.ReferenceOutProjIdeal.nD Cert.ReferenceOutProjIdeal.τ).loc Cert.ReferenceOutProjIdeal.main_arg6)) (m ((c.tc : Thread Cert.ReferenceOutProjIdeal.nD Cert.ReferenceOutProjIdeal.τ).loc Cert.ReferenceOutProjIdeal.main_arg7))).2.1 = (fun _ => 1#1)
    ∧ (Cert.Pre_outproj_finite.fn (F := Ideal) (m ((c.tc : Thread Cert.ReferenceOutProjIdeal.nD Cert.ReferenceOutProjIdeal.τ).loc Cert.ReferenceOutProjIdeal.main_arg0)) (m ((c.tc : Thread Cert.ReferenceOutProjIdeal.nD Cert.ReferenceOutProjIdeal.τ).loc Cert.ReferenceOutProjIdeal.main_arg1)) (m ((c.tc : Thread Cert.ReferenceOutProjIdeal.nD Cert.ReferenceOutProjIdeal.τ).loc Cert.ReferenceOutProjIdeal.main_arg2)) (m ((c.tc : Thread Cert.ReferenceOutProjIdeal.nD Cert.ReferenceOutProjIdeal.τ).loc Cert.ReferenceOutProjIdeal.main_arg3)) (m ((c.tc : Thread Cert.ReferenceOutProjIdeal.nD Cert.ReferenceOutProjIdeal.τ).loc Cert.ReferenceOutProjIdeal.main_arg4)) (m ((c.tc : Thread Cert.ReferenceOutProjIdeal.nD Cert.ReferenceOutProjIdeal.τ).loc Cert.ReferenceOutProjIdeal.main_arg5)) (m ((c.tc : Thread Cert.ReferenceOutProjIdeal.nD Cert.ReferenceOutProjIdeal.τ).loc Cert.ReferenceOutProjIdeal.main_arg6)) (m ((c.tc : Thread Cert.ReferenceOutProjIdeal.nD Cert.ReferenceOutProjIdeal.τ).loc Cert.ReferenceOutProjIdeal.main_arg7))).2.2 = (fun _ => 1#1)

def Pre_KernelAttn (m : (ℓ : Loc Cert.KernelAttn.nD Cert.KernelAttn.τ Cert.KernelAttn.sig) → Buf (Elt Bits) ℓ) : Prop :=
  True

def Pre_KernelAttnIdeal (m : (ℓ : Loc Cert.KernelAttnIdeal.nD Cert.KernelAttnIdeal.τ Cert.KernelAttnIdeal.sig) → Buf (Elt Ideal) ℓ) : Prop :=
  True

def Pre_KernelAttnIdeal_attn_finite [hPre_attn_finite : Cert.Pre_attn_finite.Facts] (m : (ℓ : Loc Cert.KernelAttnIdeal.nD Cert.KernelAttnIdeal.τ Cert.KernelAttnIdeal.sig) → Buf (Elt Ideal) ℓ) : Prop :=
  ∀ c : Dev Cert.KernelAttnIdeal.nD,
    (Cert.Pre_attn_finite.fn (F := Ideal) (m ((c.tc : Thread Cert.KernelAttnIdeal.nD Cert.KernelAttnIdeal.τ).loc Cert.KernelAttnIdeal.main_arg0)) (m ((c.tc : Thread Cert.KernelAttnIdeal.nD Cert.KernelAttnIdeal.τ).loc Cert.KernelAttnIdeal.main_arg1)) (m ((c.tc : Thread Cert.KernelAttnIdeal.nD Cert.KernelAttnIdeal.τ).loc Cert.KernelAttnIdeal.main_arg2))).1 = (fun _ => 1#1)
    ∧ (Cert.Pre_attn_finite.fn (F := Ideal) (m ((c.tc : Thread Cert.KernelAttnIdeal.nD Cert.KernelAttnIdeal.τ).loc Cert.KernelAttnIdeal.main_arg0)) (m ((c.tc : Thread Cert.KernelAttnIdeal.nD Cert.KernelAttnIdeal.τ).loc Cert.KernelAttnIdeal.main_arg1)) (m ((c.tc : Thread Cert.KernelAttnIdeal.nD Cert.KernelAttnIdeal.τ).loc Cert.KernelAttnIdeal.main_arg2))).2.1 = (fun _ => 1#1)
    ∧ (Cert.Pre_attn_finite.fn (F := Ideal) (m ((c.tc : Thread Cert.KernelAttnIdeal.nD Cert.KernelAttnIdeal.τ).loc Cert.KernelAttnIdeal.main_arg0)) (m ((c.tc : Thread Cert.KernelAttnIdeal.nD Cert.KernelAttnIdeal.τ).loc Cert.KernelAttnIdeal.main_arg1)) (m ((c.tc : Thread Cert.KernelAttnIdeal.nD Cert.KernelAttnIdeal.τ).loc Cert.KernelAttnIdeal.main_arg2))).2.2 = (fun _ => 1#1)

def Pre_ReferenceAttnIdeal (m : (ℓ : Loc Cert.ReferenceAttnIdeal.nD Cert.ReferenceAttnIdeal.τ Cert.ReferenceAttnIdeal.sig) → Buf (Elt Ideal) ℓ) : Prop :=
  True

def Pre_ReferenceAttnIdeal_attn_finite [hPre_attn_finite : Cert.Pre_attn_finite.Facts] (m : (ℓ : Loc Cert.ReferenceAttnIdeal.nD Cert.ReferenceAttnIdeal.τ Cert.ReferenceAttnIdeal.sig) → Buf (Elt Ideal) ℓ) : Prop :=
  ∀ c : Dev Cert.ReferenceAttnIdeal.nD,
    (Cert.Pre_attn_finite.fn (F := Ideal) (m ((c.tc : Thread Cert.ReferenceAttnIdeal.nD Cert.ReferenceAttnIdeal.τ).loc Cert.ReferenceAttnIdeal.main_arg0)) (m ((c.tc : Thread Cert.ReferenceAttnIdeal.nD Cert.ReferenceAttnIdeal.τ).loc Cert.ReferenceAttnIdeal.main_arg1)) (m ((c.tc : Thread Cert.ReferenceAttnIdeal.nD Cert.ReferenceAttnIdeal.τ).loc Cert.ReferenceAttnIdeal.main_arg2))).1 = (fun _ => 1#1)
    ∧ (Cert.Pre_attn_finite.fn (F := Ideal) (m ((c.tc : Thread Cert.ReferenceAttnIdeal.nD Cert.ReferenceAttnIdeal.τ).loc Cert.ReferenceAttnIdeal.main_arg0)) (m ((c.tc : Thread Cert.ReferenceAttnIdeal.nD Cert.ReferenceAttnIdeal.τ).loc Cert.ReferenceAttnIdeal.main_arg1)) (m ((c.tc : Thread Cert.ReferenceAttnIdeal.nD Cert.ReferenceAttnIdeal.τ).loc Cert.ReferenceAttnIdeal.main_arg2))).2.1 = (fun _ => 1#1)
    ∧ (Cert.Pre_attn_finite.fn (F := Ideal) (m ((c.tc : Thread Cert.ReferenceAttnIdeal.nD Cert.ReferenceAttnIdeal.τ).loc Cert.ReferenceAttnIdeal.main_arg0)) (m ((c.tc : Thread Cert.ReferenceAttnIdeal.nD Cert.ReferenceAttnIdeal.τ).loc Cert.ReferenceAttnIdeal.main_arg1)) (m ((c.tc : Thread Cert.ReferenceAttnIdeal.nD Cert.ReferenceAttnIdeal.τ).loc Cert.ReferenceAttnIdeal.main_arg2))).2.2 = (fun _ => 1#1)

def Pre_KernelPool (m : (ℓ : Loc Cert.KernelPool.nD Cert.KernelPool.τ Cert.KernelPool.sig) → Buf (Elt Bits) ℓ) : Prop :=
  True

def Pre_KernelPoolIdeal (m : (ℓ : Loc Cert.KernelPoolIdeal.nD Cert.KernelPoolIdeal.τ Cert.KernelPoolIdeal.sig) → Buf (Elt Ideal) ℓ) : Prop :=
  True

def Pre_KernelPoolIdeal_pool_finite [hPre_pool_finite : Cert.Pre_pool_finite.Facts] (m : (ℓ : Loc Cert.KernelPoolIdeal.nD Cert.KernelPoolIdeal.τ Cert.KernelPoolIdeal.sig) → Buf (Elt Ideal) ℓ) : Prop :=
  ∀ c : Dev Cert.KernelPoolIdeal.nD,
    (Cert.Pre_pool_finite.fn (F := Ideal) (m ((c.tc : Thread Cert.KernelPoolIdeal.nD Cert.KernelPoolIdeal.τ).loc Cert.KernelPoolIdeal.main_arg0)) (m ((c.tc : Thread Cert.KernelPoolIdeal.nD Cert.KernelPoolIdeal.τ).loc Cert.KernelPoolIdeal.main_arg1)) (m ((c.tc : Thread Cert.KernelPoolIdeal.nD Cert.KernelPoolIdeal.τ).loc Cert.KernelPoolIdeal.main_arg2)) (m ((c.tc : Thread Cert.KernelPoolIdeal.nD Cert.KernelPoolIdeal.τ).loc Cert.KernelPoolIdeal.main_arg3))).1 = (fun _ => 1#1)
    ∧ (Cert.Pre_pool_finite.fn (F := Ideal) (m ((c.tc : Thread Cert.KernelPoolIdeal.nD Cert.KernelPoolIdeal.τ).loc Cert.KernelPoolIdeal.main_arg0)) (m ((c.tc : Thread Cert.KernelPoolIdeal.nD Cert.KernelPoolIdeal.τ).loc Cert.KernelPoolIdeal.main_arg1)) (m ((c.tc : Thread Cert.KernelPoolIdeal.nD Cert.KernelPoolIdeal.τ).loc Cert.KernelPoolIdeal.main_arg2)) (m ((c.tc : Thread Cert.KernelPoolIdeal.nD Cert.KernelPoolIdeal.τ).loc Cert.KernelPoolIdeal.main_arg3))).2.1 = (fun _ => 1#1)
    ∧ (Cert.Pre_pool_finite.fn (F := Ideal) (m ((c.tc : Thread Cert.KernelPoolIdeal.nD Cert.KernelPoolIdeal.τ).loc Cert.KernelPoolIdeal.main_arg0)) (m ((c.tc : Thread Cert.KernelPoolIdeal.nD Cert.KernelPoolIdeal.τ).loc Cert.KernelPoolIdeal.main_arg1)) (m ((c.tc : Thread Cert.KernelPoolIdeal.nD Cert.KernelPoolIdeal.τ).loc Cert.KernelPoolIdeal.main_arg2)) (m ((c.tc : Thread Cert.KernelPoolIdeal.nD Cert.KernelPoolIdeal.τ).loc Cert.KernelPoolIdeal.main_arg3))).2.2.1 = (fun _ => 1#1)
    ∧ (Cert.Pre_pool_finite.fn (F := Ideal) (m ((c.tc : Thread Cert.KernelPoolIdeal.nD Cert.KernelPoolIdeal.τ).loc Cert.KernelPoolIdeal.main_arg0)) (m ((c.tc : Thread Cert.KernelPoolIdeal.nD Cert.KernelPoolIdeal.τ).loc Cert.KernelPoolIdeal.main_arg1)) (m ((c.tc : Thread Cert.KernelPoolIdeal.nD Cert.KernelPoolIdeal.τ).loc Cert.KernelPoolIdeal.main_arg2)) (m ((c.tc : Thread Cert.KernelPoolIdeal.nD Cert.KernelPoolIdeal.τ).loc Cert.KernelPoolIdeal.main_arg3))).2.2.2 = (fun _ => 1#1)

def Pre_ReferencePoolIdeal (m : (ℓ : Loc Cert.ReferencePoolIdeal.nD Cert.ReferencePoolIdeal.τ Cert.ReferencePoolIdeal.sig) → Buf (Elt Ideal) ℓ) : Prop :=
  True

def Pre_ReferencePoolIdeal_pool_finite [hPre_pool_finite : Cert.Pre_pool_finite.Facts] (m : (ℓ : Loc Cert.ReferencePoolIdeal.nD Cert.ReferencePoolIdeal.τ Cert.ReferencePoolIdeal.sig) → Buf (Elt Ideal) ℓ) : Prop :=
  ∀ c : Dev Cert.ReferencePoolIdeal.nD,
    (Cert.Pre_pool_finite.fn (F := Ideal) (m ((c.tc : Thread Cert.ReferencePoolIdeal.nD Cert.ReferencePoolIdeal.τ).loc Cert.ReferencePoolIdeal.main_arg0)) (m ((c.tc : Thread Cert.ReferencePoolIdeal.nD Cert.ReferencePoolIdeal.τ).loc Cert.ReferencePoolIdeal.main_arg1)) (m ((c.tc : Thread Cert.ReferencePoolIdeal.nD Cert.ReferencePoolIdeal.τ).loc Cert.ReferencePoolIdeal.main_arg2)) (m ((c.tc : Thread Cert.ReferencePoolIdeal.nD Cert.ReferencePoolIdeal.τ).loc Cert.ReferencePoolIdeal.main_arg3))).1 = (fun _ => 1#1)
    ∧ (Cert.Pre_pool_finite.fn (F := Ideal) (m ((c.tc : Thread Cert.ReferencePoolIdeal.nD Cert.ReferencePoolIdeal.τ).loc Cert.ReferencePoolIdeal.main_arg0)) (m ((c.tc : Thread Cert.ReferencePoolIdeal.nD Cert.ReferencePoolIdeal.τ).loc Cert.ReferencePoolIdeal.main_arg1)) (m ((c.tc : Thread Cert.ReferencePoolIdeal.nD Cert.ReferencePoolIdeal.τ).loc Cert.ReferencePoolIdeal.main_arg2)) (m ((c.tc : Thread Cert.ReferencePoolIdeal.nD Cert.ReferencePoolIdeal.τ).loc Cert.ReferencePoolIdeal.main_arg3))).2.1 = (fun _ => 1#1)
    ∧ (Cert.Pre_pool_finite.fn (F := Ideal) (m ((c.tc : Thread Cert.ReferencePoolIdeal.nD Cert.ReferencePoolIdeal.τ).loc Cert.ReferencePoolIdeal.main_arg0)) (m ((c.tc : Thread Cert.ReferencePoolIdeal.nD Cert.ReferencePoolIdeal.τ).loc Cert.ReferencePoolIdeal.main_arg1)) (m ((c.tc : Thread Cert.ReferencePoolIdeal.nD Cert.ReferencePoolIdeal.τ).loc Cert.ReferencePoolIdeal.main_arg2)) (m ((c.tc : Thread Cert.ReferencePoolIdeal.nD Cert.ReferencePoolIdeal.τ).loc Cert.ReferencePoolIdeal.main_arg3))).2.2.1 = (fun _ => 1#1)
    ∧ (Cert.Pre_pool_finite.fn (F := Ideal) (m ((c.tc : Thread Cert.ReferencePoolIdeal.nD Cert.ReferencePoolIdeal.τ).loc Cert.ReferencePoolIdeal.main_arg0)) (m ((c.tc : Thread Cert.ReferencePoolIdeal.nD Cert.ReferencePoolIdeal.τ).loc Cert.ReferencePoolIdeal.main_arg1)) (m ((c.tc : Thread Cert.ReferencePoolIdeal.nD Cert.ReferencePoolIdeal.τ).loc Cert.ReferencePoolIdeal.main_arg2)) (m ((c.tc : Thread Cert.ReferencePoolIdeal.nD Cert.ReferencePoolIdeal.τ).loc Cert.ReferencePoolIdeal.main_arg3))).2.2.2 = (fun _ => 1#1)

def Pre_KernelPost (m : (ℓ : Loc Cert.KernelPost.nD Cert.KernelPost.τ Cert.KernelPost.sig) → Buf (Elt Bits) ℓ) : Prop :=
  True

def Pre_KernelPostIdeal (m : (ℓ : Loc Cert.KernelPostIdeal.nD Cert.KernelPostIdeal.τ Cert.KernelPostIdeal.sig) → Buf (Elt Ideal) ℓ) : Prop :=
  True

def Pre_ReferencePostIdeal (m : (ℓ : Loc Cert.ReferencePostIdeal.nD Cert.ReferencePostIdeal.τ Cert.ReferencePostIdeal.sig) → Buf (Elt Ideal) ℓ) : Prop :=
  True

def Pre_KernelFfn (m : (ℓ : Loc Cert.KernelFfn.nD Cert.KernelFfn.τ Cert.KernelFfn.sig) → Buf (Elt Bits) ℓ) : Prop :=
  True

def Pre_KernelFfnIdeal (m : (ℓ : Loc Cert.KernelFfnIdeal.nD Cert.KernelFfnIdeal.τ Cert.KernelFfnIdeal.sig) → Buf (Elt Ideal) ℓ) : Prop :=
  True

def Pre_KernelFfnIdeal_ffn_finite [hPre_ffn_finite : Cert.Pre_ffn_finite.Facts] (m : (ℓ : Loc Cert.KernelFfnIdeal.nD Cert.KernelFfnIdeal.τ Cert.KernelFfnIdeal.sig) → Buf (Elt Ideal) ℓ) : Prop :=
  ∀ c : Dev Cert.KernelFfnIdeal.nD,
    (Cert.Pre_ffn_finite.fn (F := Ideal) (m ((c.tc : Thread Cert.KernelFfnIdeal.nD Cert.KernelFfnIdeal.τ).loc Cert.KernelFfnIdeal.main_arg0)) (m ((c.tc : Thread Cert.KernelFfnIdeal.nD Cert.KernelFfnIdeal.τ).loc Cert.KernelFfnIdeal.main_arg1)) (m ((c.tc : Thread Cert.KernelFfnIdeal.nD Cert.KernelFfnIdeal.τ).loc Cert.KernelFfnIdeal.main_arg2)) (m ((c.tc : Thread Cert.KernelFfnIdeal.nD Cert.KernelFfnIdeal.τ).loc Cert.KernelFfnIdeal.main_arg3)) (m ((c.tc : Thread Cert.KernelFfnIdeal.nD Cert.KernelFfnIdeal.τ).loc Cert.KernelFfnIdeal.main_arg4)) (m ((c.tc : Thread Cert.KernelFfnIdeal.nD Cert.KernelFfnIdeal.τ).loc Cert.KernelFfnIdeal.main_arg5))).1 = (fun _ => 1#1)
    ∧ (Cert.Pre_ffn_finite.fn (F := Ideal) (m ((c.tc : Thread Cert.KernelFfnIdeal.nD Cert.KernelFfnIdeal.τ).loc Cert.KernelFfnIdeal.main_arg0)) (m ((c.tc : Thread Cert.KernelFfnIdeal.nD Cert.KernelFfnIdeal.τ).loc Cert.KernelFfnIdeal.main_arg1)) (m ((c.tc : Thread Cert.KernelFfnIdeal.nD Cert.KernelFfnIdeal.τ).loc Cert.KernelFfnIdeal.main_arg2)) (m ((c.tc : Thread Cert.KernelFfnIdeal.nD Cert.KernelFfnIdeal.τ).loc Cert.KernelFfnIdeal.main_arg3)) (m ((c.tc : Thread Cert.KernelFfnIdeal.nD Cert.KernelFfnIdeal.τ).loc Cert.KernelFfnIdeal.main_arg4)) (m ((c.tc : Thread Cert.KernelFfnIdeal.nD Cert.KernelFfnIdeal.τ).loc Cert.KernelFfnIdeal.main_arg5))).2.1 = (fun _ => 1#1)
    ∧ (Cert.Pre_ffn_finite.fn (F := Ideal) (m ((c.tc : Thread Cert.KernelFfnIdeal.nD Cert.KernelFfnIdeal.τ).loc Cert.KernelFfnIdeal.main_arg0)) (m ((c.tc : Thread Cert.KernelFfnIdeal.nD Cert.KernelFfnIdeal.τ).loc Cert.KernelFfnIdeal.main_arg1)) (m ((c.tc : Thread Cert.KernelFfnIdeal.nD Cert.KernelFfnIdeal.τ).loc Cert.KernelFfnIdeal.main_arg2)) (m ((c.tc : Thread Cert.KernelFfnIdeal.nD Cert.KernelFfnIdeal.τ).loc Cert.KernelFfnIdeal.main_arg3)) (m ((c.tc : Thread Cert.KernelFfnIdeal.nD Cert.KernelFfnIdeal.τ).loc Cert.KernelFfnIdeal.main_arg4)) (m ((c.tc : Thread Cert.KernelFfnIdeal.nD Cert.KernelFfnIdeal.τ).loc Cert.KernelFfnIdeal.main_arg5))).2.2.1 = (fun _ => 1#1)
    ∧ (Cert.Pre_ffn_finite.fn (F := Ideal) (m ((c.tc : Thread Cert.KernelFfnIdeal.nD Cert.KernelFfnIdeal.τ).loc Cert.KernelFfnIdeal.main_arg0)) (m ((c.tc : Thread Cert.KernelFfnIdeal.nD Cert.KernelFfnIdeal.τ).loc Cert.KernelFfnIdeal.main_arg1)) (m ((c.tc : Thread Cert.KernelFfnIdeal.nD Cert.KernelFfnIdeal.τ).loc Cert.KernelFfnIdeal.main_arg2)) (m ((c.tc : Thread Cert.KernelFfnIdeal.nD Cert.KernelFfnIdeal.τ).loc Cert.KernelFfnIdeal.main_arg3)) (m ((c.tc : Thread Cert.KernelFfnIdeal.nD Cert.KernelFfnIdeal.τ).loc Cert.KernelFfnIdeal.main_arg4)) (m ((c.tc : Thread Cert.KernelFfnIdeal.nD Cert.KernelFfnIdeal.τ).loc Cert.KernelFfnIdeal.main_arg5))).2.2.2.1 = (fun _ => 1#1)
    ∧ (Cert.Pre_ffn_finite.fn (F := Ideal) (m ((c.tc : Thread Cert.KernelFfnIdeal.nD Cert.KernelFfnIdeal.τ).loc Cert.KernelFfnIdeal.main_arg0)) (m ((c.tc : Thread Cert.KernelFfnIdeal.nD Cert.KernelFfnIdeal.τ).loc Cert.KernelFfnIdeal.main_arg1)) (m ((c.tc : Thread Cert.KernelFfnIdeal.nD Cert.KernelFfnIdeal.τ).loc Cert.KernelFfnIdeal.main_arg2)) (m ((c.tc : Thread Cert.KernelFfnIdeal.nD Cert.KernelFfnIdeal.τ).loc Cert.KernelFfnIdeal.main_arg3)) (m ((c.tc : Thread Cert.KernelFfnIdeal.nD Cert.KernelFfnIdeal.τ).loc Cert.KernelFfnIdeal.main_arg4)) (m ((c.tc : Thread Cert.KernelFfnIdeal.nD Cert.KernelFfnIdeal.τ).loc Cert.KernelFfnIdeal.main_arg5))).2.2.2.2.1 = (fun _ => 1#1)
    ∧ (Cert.Pre_ffn_finite.fn (F := Ideal) (m ((c.tc : Thread Cert.KernelFfnIdeal.nD Cert.KernelFfnIdeal.τ).loc Cert.KernelFfnIdeal.main_arg0)) (m ((c.tc : Thread Cert.KernelFfnIdeal.nD Cert.KernelFfnIdeal.τ).loc Cert.KernelFfnIdeal.main_arg1)) (m ((c.tc : Thread Cert.KernelFfnIdeal.nD Cert.KernelFfnIdeal.τ).loc Cert.KernelFfnIdeal.main_arg2)) (m ((c.tc : Thread Cert.KernelFfnIdeal.nD Cert.KernelFfnIdeal.τ).loc Cert.KernelFfnIdeal.main_arg3)) (m ((c.tc : Thread Cert.KernelFfnIdeal.nD Cert.KernelFfnIdeal.τ).loc Cert.KernelFfnIdeal.main_arg4)) (m ((c.tc : Thread Cert.KernelFfnIdeal.nD Cert.KernelFfnIdeal.τ).loc Cert.KernelFfnIdeal.main_arg5))).2.2.2.2.2 = (fun _ => 1#1)

def Pre_ReferenceFfnIdeal (m : (ℓ : Loc Cert.ReferenceFfnIdeal.nD Cert.ReferenceFfnIdeal.τ Cert.ReferenceFfnIdeal.sig) → Buf (Elt Ideal) ℓ) : Prop :=
  True

def Pre_ReferenceFfnIdeal_ffn_finite [hPre_ffn_finite : Cert.Pre_ffn_finite.Facts] (m : (ℓ : Loc Cert.ReferenceFfnIdeal.nD Cert.ReferenceFfnIdeal.τ Cert.ReferenceFfnIdeal.sig) → Buf (Elt Ideal) ℓ) : Prop :=
  ∀ c : Dev Cert.ReferenceFfnIdeal.nD,
    (Cert.Pre_ffn_finite.fn (F := Ideal) (m ((c.tc : Thread Cert.ReferenceFfnIdeal.nD Cert.ReferenceFfnIdeal.τ).loc Cert.ReferenceFfnIdeal.main_arg0)) (m ((c.tc : Thread Cert.ReferenceFfnIdeal.nD Cert.ReferenceFfnIdeal.τ).loc Cert.ReferenceFfnIdeal.main_arg1)) (m ((c.tc : Thread Cert.ReferenceFfnIdeal.nD Cert.ReferenceFfnIdeal.τ).loc Cert.ReferenceFfnIdeal.main_arg2)) (m ((c.tc : Thread Cert.ReferenceFfnIdeal.nD Cert.ReferenceFfnIdeal.τ).loc Cert.ReferenceFfnIdeal.main_arg3)) (m ((c.tc : Thread Cert.ReferenceFfnIdeal.nD Cert.ReferenceFfnIdeal.τ).loc Cert.ReferenceFfnIdeal.main_arg4)) (m ((c.tc : Thread Cert.ReferenceFfnIdeal.nD Cert.ReferenceFfnIdeal.τ).loc Cert.ReferenceFfnIdeal.main_arg5))).1 = (fun _ => 1#1)
    ∧ (Cert.Pre_ffn_finite.fn (F := Ideal) (m ((c.tc : Thread Cert.ReferenceFfnIdeal.nD Cert.ReferenceFfnIdeal.τ).loc Cert.ReferenceFfnIdeal.main_arg0)) (m ((c.tc : Thread Cert.ReferenceFfnIdeal.nD Cert.ReferenceFfnIdeal.τ).loc Cert.ReferenceFfnIdeal.main_arg1)) (m ((c.tc : Thread Cert.ReferenceFfnIdeal.nD Cert.ReferenceFfnIdeal.τ).loc Cert.ReferenceFfnIdeal.main_arg2)) (m ((c.tc : Thread Cert.ReferenceFfnIdeal.nD Cert.ReferenceFfnIdeal.τ).loc Cert.ReferenceFfnIdeal.main_arg3)) (m ((c.tc : Thread Cert.ReferenceFfnIdeal.nD Cert.ReferenceFfnIdeal.τ).loc Cert.ReferenceFfnIdeal.main_arg4)) (m ((c.tc : Thread Cert.ReferenceFfnIdeal.nD Cert.ReferenceFfnIdeal.τ).loc Cert.ReferenceFfnIdeal.main_arg5))).2.1 = (fun _ => 1#1)
    ∧ (Cert.Pre_ffn_finite.fn (F := Ideal) (m ((c.tc : Thread Cert.ReferenceFfnIdeal.nD Cert.ReferenceFfnIdeal.τ).loc Cert.ReferenceFfnIdeal.main_arg0)) (m ((c.tc : Thread Cert.ReferenceFfnIdeal.nD Cert.ReferenceFfnIdeal.τ).loc Cert.ReferenceFfnIdeal.main_arg1)) (m ((c.tc : Thread Cert.ReferenceFfnIdeal.nD Cert.ReferenceFfnIdeal.τ).loc Cert.ReferenceFfnIdeal.main_arg2)) (m ((c.tc : Thread Cert.ReferenceFfnIdeal.nD Cert.ReferenceFfnIdeal.τ).loc Cert.ReferenceFfnIdeal.main_arg3)) (m ((c.tc : Thread Cert.ReferenceFfnIdeal.nD Cert.ReferenceFfnIdeal.τ).loc Cert.ReferenceFfnIdeal.main_arg4)) (m ((c.tc : Thread Cert.ReferenceFfnIdeal.nD Cert.ReferenceFfnIdeal.τ).loc Cert.ReferenceFfnIdeal.main_arg5))).2.2.1 = (fun _ => 1#1)
    ∧ (Cert.Pre_ffn_finite.fn (F := Ideal) (m ((c.tc : Thread Cert.ReferenceFfnIdeal.nD Cert.ReferenceFfnIdeal.τ).loc Cert.ReferenceFfnIdeal.main_arg0)) (m ((c.tc : Thread Cert.ReferenceFfnIdeal.nD Cert.ReferenceFfnIdeal.τ).loc Cert.ReferenceFfnIdeal.main_arg1)) (m ((c.tc : Thread Cert.ReferenceFfnIdeal.nD Cert.ReferenceFfnIdeal.τ).loc Cert.ReferenceFfnIdeal.main_arg2)) (m ((c.tc : Thread Cert.ReferenceFfnIdeal.nD Cert.ReferenceFfnIdeal.τ).loc Cert.ReferenceFfnIdeal.main_arg3)) (m ((c.tc : Thread Cert.ReferenceFfnIdeal.nD Cert.ReferenceFfnIdeal.τ).loc Cert.ReferenceFfnIdeal.main_arg4)) (m ((c.tc : Thread Cert.ReferenceFfnIdeal.nD Cert.ReferenceFfnIdeal.τ).loc Cert.ReferenceFfnIdeal.main_arg5))).2.2.2.1 = (fun _ => 1#1)
    ∧ (Cert.Pre_ffn_finite.fn (F := Ideal) (m ((c.tc : Thread Cert.ReferenceFfnIdeal.nD Cert.ReferenceFfnIdeal.τ).loc Cert.ReferenceFfnIdeal.main_arg0)) (m ((c.tc : Thread Cert.ReferenceFfnIdeal.nD Cert.ReferenceFfnIdeal.τ).loc Cert.ReferenceFfnIdeal.main_arg1)) (m ((c.tc : Thread Cert.ReferenceFfnIdeal.nD Cert.ReferenceFfnIdeal.τ).loc Cert.ReferenceFfnIdeal.main_arg2)) (m ((c.tc : Thread Cert.ReferenceFfnIdeal.nD Cert.ReferenceFfnIdeal.τ).loc Cert.ReferenceFfnIdeal.main_arg3)) (m ((c.tc : Thread Cert.ReferenceFfnIdeal.nD Cert.ReferenceFfnIdeal.τ).loc Cert.ReferenceFfnIdeal.main_arg4)) (m ((c.tc : Thread Cert.ReferenceFfnIdeal.nD Cert.ReferenceFfnIdeal.τ).loc Cert.ReferenceFfnIdeal.main_arg5))).2.2.2.2.1 = (fun _ => 1#1)
    ∧ (Cert.Pre_ffn_finite.fn (F := Ideal) (m ((c.tc : Thread Cert.ReferenceFfnIdeal.nD Cert.ReferenceFfnIdeal.τ).loc Cert.ReferenceFfnIdeal.main_arg0)) (m ((c.tc : Thread Cert.ReferenceFfnIdeal.nD Cert.ReferenceFfnIdeal.τ).loc Cert.ReferenceFfnIdeal.main_arg1)) (m ((c.tc : Thread Cert.ReferenceFfnIdeal.nD Cert.ReferenceFfnIdeal.τ).loc Cert.ReferenceFfnIdeal.main_arg2)) (m ((c.tc : Thread Cert.ReferenceFfnIdeal.nD Cert.ReferenceFfnIdeal.τ).loc Cert.ReferenceFfnIdeal.main_arg3)) (m ((c.tc : Thread Cert.ReferenceFfnIdeal.nD Cert.ReferenceFfnIdeal.τ).loc Cert.ReferenceFfnIdeal.main_arg4)) (m ((c.tc : Thread Cert.ReferenceFfnIdeal.nD Cert.ReferenceFfnIdeal.τ).loc Cert.ReferenceFfnIdeal.main_arg5))).2.2.2.2.2 = (fun _ => 1#1)

def Pre_KernelConvFwd (m : (ℓ : Loc Cert.KernelConvFwd.nD Cert.KernelConvFwd.τ Cert.KernelConvFwd.sig) → Buf (Elt Bits) ℓ) : Prop :=
  True

def Pre_KernelConvFwdIdeal (m : (ℓ : Loc Cert.KernelConvFwdIdeal.nD Cert.KernelConvFwdIdeal.τ Cert.KernelConvFwdIdeal.sig) → Buf (Elt Ideal) ℓ) : Prop :=
  True

def Pre_ReferenceConvFwdIdeal (m : (ℓ : Loc Cert.ReferenceConvFwdIdeal.nD Cert.ReferenceConvFwdIdeal.τ Cert.ReferenceConvFwdIdeal.sig) → Buf (Elt Ideal) ℓ) : Prop :=
  True

def Pre_KernelPostFwd (m : (ℓ : Loc Cert.KernelPostFwd.nD Cert.KernelPostFwd.τ Cert.KernelPostFwd.sig) → Buf (Elt Bits) ℓ) : Prop :=
  True

def Pre_KernelPostFwdIdeal (m : (ℓ : Loc Cert.KernelPostFwdIdeal.nD Cert.KernelPostFwdIdeal.τ Cert.KernelPostFwdIdeal.sig) → Buf (Elt Ideal) ℓ) : Prop :=
  True

def Pre_ReferencePostFwdIdeal (m : (ℓ : Loc Cert.ReferencePostFwdIdeal.nD Cert.ReferencePostFwdIdeal.τ Cert.ReferencePostFwdIdeal.sig) → Buf (Elt Ideal) ℓ) : Prop :=
  True

def Pre_KernelPoolFwd (m : (ℓ : Loc Cert.KernelPoolFwd.nD Cert.KernelPoolFwd.τ Cert.KernelPoolFwd.sig) → Buf (Elt Bits) ℓ) : Prop :=
  True

def Pre_KernelPoolFwdIdeal (m : (ℓ : Loc Cert.KernelPoolFwdIdeal.nD Cert.KernelPoolFwdIdeal.τ Cert.KernelPoolFwdIdeal.sig) → Buf (Elt Ideal) ℓ) : Prop :=
  True

def Pre_KernelPoolFwdIdeal_pooled_finite [hPre_pooled_finite : Cert.Pre_pooled_finite.Facts] (m : (ℓ : Loc Cert.KernelPoolFwdIdeal.nD Cert.KernelPoolFwdIdeal.τ Cert.KernelPoolFwdIdeal.sig) → Buf (Elt Ideal) ℓ) : Prop :=
  ∀ c : Dev Cert.KernelPoolFwdIdeal.nD,
    (Cert.Pre_pooled_finite.fn (F := Ideal) (m ((c.tc : Thread Cert.KernelPoolFwdIdeal.nD Cert.KernelPoolFwdIdeal.τ).loc Cert.KernelPoolFwdIdeal.main_arg0)) (m ((c.tc : Thread Cert.KernelPoolFwdIdeal.nD Cert.KernelPoolFwdIdeal.τ).loc Cert.KernelPoolFwdIdeal.main_arg1)) (m ((c.tc : Thread Cert.KernelPoolFwdIdeal.nD Cert.KernelPoolFwdIdeal.τ).loc Cert.KernelPoolFwdIdeal.main_arg2))) = (fun _ => 1#1)

def Pre_ReferencePoolFwdIdeal (m : (ℓ : Loc Cert.ReferencePoolFwdIdeal.nD Cert.ReferencePoolFwdIdeal.τ Cert.ReferencePoolFwdIdeal.sig) → Buf (Elt Ideal) ℓ) : Prop :=
  True

def Pre_ReferencePoolFwdIdeal_pooled_finite [hPre_pooled_finite : Cert.Pre_pooled_finite.Facts] (m : (ℓ : Loc Cert.ReferencePoolFwdIdeal.nD Cert.ReferencePoolFwdIdeal.τ Cert.ReferencePoolFwdIdeal.sig) → Buf (Elt Ideal) ℓ) : Prop :=
  ∀ c : Dev Cert.ReferencePoolFwdIdeal.nD,
    (Cert.Pre_pooled_finite.fn (F := Ideal) (m ((c.tc : Thread Cert.ReferencePoolFwdIdeal.nD Cert.ReferencePoolFwdIdeal.τ).loc Cert.ReferencePoolFwdIdeal.main_arg0)) (m ((c.tc : Thread Cert.ReferencePoolFwdIdeal.nD Cert.ReferencePoolFwdIdeal.τ).loc Cert.ReferencePoolFwdIdeal.main_arg1)) (m ((c.tc : Thread Cert.ReferencePoolFwdIdeal.nD Cert.ReferencePoolFwdIdeal.τ).loc Cert.ReferencePoolFwdIdeal.main_arg2))) = (fun _ => 1#1)

def Pre_KernelFfnFwd (m : (ℓ : Loc Cert.KernelFfnFwd.nD Cert.KernelFfnFwd.τ Cert.KernelFfnFwd.sig) → Buf (Elt Bits) ℓ) : Prop :=
  True

def Pre_KernelFfnFwdIdeal (m : (ℓ : Loc Cert.KernelFfnFwdIdeal.nD Cert.KernelFfnFwdIdeal.τ Cert.KernelFfnFwdIdeal.sig) → Buf (Elt Ideal) ℓ) : Prop :=
  True

def Pre_ReferenceFfnFwdIdeal (m : (ℓ : Loc Cert.ReferenceFfnFwdIdeal.nD Cert.ReferenceFfnFwdIdeal.τ Cert.ReferenceFfnFwdIdeal.sig) → Buf (Elt Ideal) ℓ) : Prop :=
  True

def Pre_KernelLocal (m : (ℓ : Loc Cert.KernelLocal.nD Cert.KernelLocal.τ Cert.KernelLocal.sig) → Buf (Elt Bits) ℓ) : Prop :=
  True

def Pre_KernelLocalIdeal (m : (ℓ : Loc Cert.KernelLocalIdeal.nD Cert.KernelLocalIdeal.τ Cert.KernelLocalIdeal.sig) → Buf (Elt Ideal) ℓ) : Prop :=
  True

def Pre_KernelLocalFwd (m : (ℓ : Loc Cert.KernelLocalFwd.nD Cert.KernelLocalFwd.τ Cert.KernelLocalFwd.sig) → Buf (Elt Bits) ℓ) : Prop :=
  True

def Pre_KernelLocalFwdIdeal (m : (ℓ : Loc Cert.KernelLocalFwdIdeal.nD Cert.KernelLocalFwdIdeal.τ Cert.KernelLocalFwdIdeal.sig) → Buf (Elt Ideal) ℓ) : Prop :=
  True

def Pre_KernelInProj (m : (ℓ : Loc Cert.KernelInProj.nD Cert.KernelInProj.τ Cert.KernelInProj.sig) → Buf (Elt Bits) ℓ) : Prop :=
  True

def Pre_KernelInProjIdeal (m : (ℓ : Loc Cert.KernelInProjIdeal.nD Cert.KernelInProjIdeal.τ Cert.KernelInProjIdeal.sig) → Buf (Elt Ideal) ℓ) : Prop :=
  True

def Pre_KernelMergeFwd (m : (ℓ : Loc Cert.KernelMergeFwd.nD Cert.KernelMergeFwd.τ Cert.KernelMergeFwd.sig) → Buf (Elt Bits) ℓ) : Prop :=
  True

def Pre_KernelMergeFwdIdeal (m : (ℓ : Loc Cert.KernelMergeFwdIdeal.nD Cert.KernelMergeFwdIdeal.τ Cert.KernelMergeFwdIdeal.sig) → Buf (Elt Ideal) ℓ) : Prop :=
  True

def Pre_KernelRec (m : (ℓ : Loc Cert.KernelRec.nD Cert.KernelRec.τ Cert.KernelRec.sig) → Buf (Elt Bits) ℓ) : Prop :=
  True

def Pre_KernelRecIdeal (m : (ℓ : Loc Cert.KernelRecIdeal.nD Cert.KernelRecIdeal.τ Cert.KernelRecIdeal.sig) → Buf (Elt Ideal) ℓ) : Prop :=
  True

def Pre_KernelRecFwd (m : (ℓ : Loc Cert.KernelRecFwd.nD Cert.KernelRecFwd.τ Cert.KernelRecFwd.sig) → Buf (Elt Bits) ℓ) : Prop :=
  True

def Pre_KernelRecFwdIdeal (m : (ℓ : Loc Cert.KernelRecFwdIdeal.nD Cert.KernelRecFwdIdeal.τ Cert.KernelRecFwdIdeal.sig) → Buf (Elt Ideal) ℓ) : Prop :=
  True

def quiescent_KernelNorm [hKernelNorm : Cert.KernelNorm.Facts] : Prop :=
  ∀ (m : (ℓ : Loc Cert.KernelNorm.nD Cert.KernelNorm.τ Cert.KernelNorm.sig) → Buf (Elt Bits) ℓ) (g : Dev Cert.KernelNorm.nD → PrngReg), Pre_KernelNorm m →
    θ_run (Cert.KernelNorm.defs (F := Bits)) (onTc (τ := Cert.KernelNorm.τ) (Cert.KernelNorm.main (F := Bits))) ⟨m, fun _ => 0, g⟩ (fun r => (∀ c : Dev Cert.KernelNorm.nD,
      r.2.mem ((c.tc : Thread Cert.KernelNorm.nD Cert.KernelNorm.τ).loc Cert.KernelNorm.main_arg0) = m ((c.tc : Thread Cert.KernelNorm.nD Cert.KernelNorm.τ).loc Cert.KernelNorm.main_arg0)
      ∧ r.2.mem ((c.tc : Thread Cert.KernelNorm.nD Cert.KernelNorm.τ).loc Cert.KernelNorm.main_arg1) = m ((c.tc : Thread Cert.KernelNorm.nD Cert.KernelNorm.τ).loc Cert.KernelNorm.main_arg1)
      ∧ r.2.mem ((c.tc : Thread Cert.KernelNorm.nD Cert.KernelNorm.τ).loc Cert.KernelNorm.main_arg2) = m ((c.tc : Thread Cert.KernelNorm.nD Cert.KernelNorm.τ).loc Cert.KernelNorm.main_arg2)
      ∧ r.2.mem ((c.tc : Thread Cert.KernelNorm.nD Cert.KernelNorm.τ).loc Cert.KernelNorm.main_arg3) = m ((c.tc : Thread Cert.KernelNorm.nD Cert.KernelNorm.τ).loc Cert.KernelNorm.main_arg3))
      ∧ r.2.sem = fun _ => 0)

def quiescent_KernelNormIdeal [hKernelNormIdeal : Cert.KernelNormIdeal.Facts] : Prop :=
  ∀ (m : (ℓ : Loc Cert.KernelNormIdeal.nD Cert.KernelNormIdeal.τ Cert.KernelNormIdeal.sig) → Buf (Elt Ideal) ℓ) (g : Dev Cert.KernelNormIdeal.nD → PrngReg), Pre_KernelNormIdeal m →
    θ_run (Cert.KernelNormIdeal.defs (F := Ideal)) (onTc (τ := Cert.KernelNormIdeal.τ) (Cert.KernelNormIdeal.main (F := Ideal))) ⟨m, fun _ => 0, g⟩ (fun r => (∀ c : Dev Cert.KernelNormIdeal.nD,
      r.2.mem ((c.tc : Thread Cert.KernelNormIdeal.nD Cert.KernelNormIdeal.τ).loc Cert.KernelNormIdeal.main_arg0) = m ((c.tc : Thread Cert.KernelNormIdeal.nD Cert.KernelNormIdeal.τ).loc Cert.KernelNormIdeal.main_arg0)
      ∧ r.2.mem ((c.tc : Thread Cert.KernelNormIdeal.nD Cert.KernelNormIdeal.τ).loc Cert.KernelNormIdeal.main_arg1) = m ((c.tc : Thread Cert.KernelNormIdeal.nD Cert.KernelNormIdeal.τ).loc Cert.KernelNormIdeal.main_arg1)
      ∧ r.2.mem ((c.tc : Thread Cert.KernelNormIdeal.nD Cert.KernelNormIdeal.τ).loc Cert.KernelNormIdeal.main_arg2) = m ((c.tc : Thread Cert.KernelNormIdeal.nD Cert.KernelNormIdeal.τ).loc Cert.KernelNormIdeal.main_arg2)
      ∧ r.2.mem ((c.tc : Thread Cert.KernelNormIdeal.nD Cert.KernelNormIdeal.τ).loc Cert.KernelNormIdeal.main_arg3) = m ((c.tc : Thread Cert.KernelNormIdeal.nD Cert.KernelNormIdeal.τ).loc Cert.KernelNormIdeal.main_arg3))
      ∧ r.2.sem = fun _ => 0)

def quiescent_KernelNormIdeal_pre_norm_finite [hKernelNormIdeal : Cert.KernelNormIdeal.Facts] [hPre_norm_finite : Cert.Pre_norm_finite.Facts] : Prop :=
  ∀ (m : (ℓ : Loc Cert.KernelNormIdeal.nD Cert.KernelNormIdeal.τ Cert.KernelNormIdeal.sig) → Buf (Elt Ideal) ℓ) (g : Dev Cert.KernelNormIdeal.nD → PrngReg), Pre_KernelNormIdeal_norm_finite m →
    θ_run (Cert.KernelNormIdeal.defs (F := Ideal)) (onTc (τ := Cert.KernelNormIdeal.τ) (Cert.KernelNormIdeal.main (F := Ideal))) ⟨m, fun _ => 0, g⟩ (fun r => (∀ c : Dev Cert.KernelNormIdeal.nD,
      r.2.mem ((c.tc : Thread Cert.KernelNormIdeal.nD Cert.KernelNormIdeal.τ).loc Cert.KernelNormIdeal.main_arg0) = m ((c.tc : Thread Cert.KernelNormIdeal.nD Cert.KernelNormIdeal.τ).loc Cert.KernelNormIdeal.main_arg0)
      ∧ r.2.mem ((c.tc : Thread Cert.KernelNormIdeal.nD Cert.KernelNormIdeal.τ).loc Cert.KernelNormIdeal.main_arg1) = m ((c.tc : Thread Cert.KernelNormIdeal.nD Cert.KernelNormIdeal.τ).loc Cert.KernelNormIdeal.main_arg1)
      ∧ r.2.mem ((c.tc : Thread Cert.KernelNormIdeal.nD Cert.KernelNormIdeal.τ).loc Cert.KernelNormIdeal.main_arg2) = m ((c.tc : Thread Cert.KernelNormIdeal.nD Cert.KernelNormIdeal.τ).loc Cert.KernelNormIdeal.main_arg2)
      ∧ r.2.mem ((c.tc : Thread Cert.KernelNormIdeal.nD Cert.KernelNormIdeal.τ).loc Cert.KernelNormIdeal.main_arg3) = m ((c.tc : Thread Cert.KernelNormIdeal.nD Cert.KernelNormIdeal.τ).loc Cert.KernelNormIdeal.main_arg3))
      ∧ r.2.sem = fun _ => 0)

def quiescent_ReferenceNormIdeal [hReferenceNormIdeal : Cert.ReferenceNormIdeal.Facts] : Prop :=
  ∀ (m : (ℓ : Loc Cert.ReferenceNormIdeal.nD Cert.ReferenceNormIdeal.τ Cert.ReferenceNormIdeal.sig) → Buf (Elt Ideal) ℓ) (g : Dev Cert.ReferenceNormIdeal.nD → PrngReg), Pre_ReferenceNormIdeal m →
    θ_run (Cert.ReferenceNormIdeal.defs (F := Ideal)) (onTc (τ := Cert.ReferenceNormIdeal.τ) (Cert.ReferenceNormIdeal.main (F := Ideal))) ⟨m, fun _ => 0, g⟩ (fun r => (∀ c : Dev Cert.ReferenceNormIdeal.nD,
      r.2.mem ((c.tc : Thread Cert.ReferenceNormIdeal.nD Cert.ReferenceNormIdeal.τ).loc Cert.ReferenceNormIdeal.main_arg0) = m ((c.tc : Thread Cert.ReferenceNormIdeal.nD Cert.ReferenceNormIdeal.τ).loc Cert.ReferenceNormIdeal.main_arg0)
      ∧ r.2.mem ((c.tc : Thread Cert.ReferenceNormIdeal.nD Cert.ReferenceNormIdeal.τ).loc Cert.ReferenceNormIdeal.main_arg1) = m ((c.tc : Thread Cert.ReferenceNormIdeal.nD Cert.ReferenceNormIdeal.τ).loc Cert.ReferenceNormIdeal.main_arg1)
      ∧ r.2.mem ((c.tc : Thread Cert.ReferenceNormIdeal.nD Cert.ReferenceNormIdeal.τ).loc Cert.ReferenceNormIdeal.main_arg2) = m ((c.tc : Thread Cert.ReferenceNormIdeal.nD Cert.ReferenceNormIdeal.τ).loc Cert.ReferenceNormIdeal.main_arg2)
      ∧ r.2.mem ((c.tc : Thread Cert.ReferenceNormIdeal.nD Cert.ReferenceNormIdeal.τ).loc Cert.ReferenceNormIdeal.main_arg3) = m ((c.tc : Thread Cert.ReferenceNormIdeal.nD Cert.ReferenceNormIdeal.τ).loc Cert.ReferenceNormIdeal.main_arg3))
      ∧ r.2.sem = fun _ => 0)

def quiescent_ReferenceNormIdeal_pre_norm_finite [hReferenceNormIdeal : Cert.ReferenceNormIdeal.Facts] [hPre_norm_finite : Cert.Pre_norm_finite.Facts] : Prop :=
  ∀ (m : (ℓ : Loc Cert.ReferenceNormIdeal.nD Cert.ReferenceNormIdeal.τ Cert.ReferenceNormIdeal.sig) → Buf (Elt Ideal) ℓ) (g : Dev Cert.ReferenceNormIdeal.nD → PrngReg), Pre_ReferenceNormIdeal_norm_finite m →
    θ_run (Cert.ReferenceNormIdeal.defs (F := Ideal)) (onTc (τ := Cert.ReferenceNormIdeal.τ) (Cert.ReferenceNormIdeal.main (F := Ideal))) ⟨m, fun _ => 0, g⟩ (fun r => (∀ c : Dev Cert.ReferenceNormIdeal.nD,
      r.2.mem ((c.tc : Thread Cert.ReferenceNormIdeal.nD Cert.ReferenceNormIdeal.τ).loc Cert.ReferenceNormIdeal.main_arg0) = m ((c.tc : Thread Cert.ReferenceNormIdeal.nD Cert.ReferenceNormIdeal.τ).loc Cert.ReferenceNormIdeal.main_arg0)
      ∧ r.2.mem ((c.tc : Thread Cert.ReferenceNormIdeal.nD Cert.ReferenceNormIdeal.τ).loc Cert.ReferenceNormIdeal.main_arg1) = m ((c.tc : Thread Cert.ReferenceNormIdeal.nD Cert.ReferenceNormIdeal.τ).loc Cert.ReferenceNormIdeal.main_arg1)
      ∧ r.2.mem ((c.tc : Thread Cert.ReferenceNormIdeal.nD Cert.ReferenceNormIdeal.τ).loc Cert.ReferenceNormIdeal.main_arg2) = m ((c.tc : Thread Cert.ReferenceNormIdeal.nD Cert.ReferenceNormIdeal.τ).loc Cert.ReferenceNormIdeal.main_arg2)
      ∧ r.2.mem ((c.tc : Thread Cert.ReferenceNormIdeal.nD Cert.ReferenceNormIdeal.τ).loc Cert.ReferenceNormIdeal.main_arg3) = m ((c.tc : Thread Cert.ReferenceNormIdeal.nD Cert.ReferenceNormIdeal.τ).loc Cert.ReferenceNormIdeal.main_arg3))
      ∧ r.2.sem = fun _ => 0)

def quiescent_KernelConv [hKernelConv : Cert.KernelConv.Facts] : Prop :=
  ∀ (m : (ℓ : Loc Cert.KernelConv.nD Cert.KernelConv.τ Cert.KernelConv.sig) → Buf (Elt Bits) ℓ) (g : Dev Cert.KernelConv.nD → PrngReg), Pre_KernelConv m →
    θ_run (Cert.KernelConv.defs (F := Bits)) (onTc (τ := Cert.KernelConv.τ) (Cert.KernelConv.main (F := Bits))) ⟨m, fun _ => 0, g⟩ (fun r => (∀ c : Dev Cert.KernelConv.nD,
      r.2.mem ((c.tc : Thread Cert.KernelConv.nD Cert.KernelConv.τ).loc Cert.KernelConv.main_arg0) = m ((c.tc : Thread Cert.KernelConv.nD Cert.KernelConv.τ).loc Cert.KernelConv.main_arg0)
      ∧ r.2.mem ((c.tc : Thread Cert.KernelConv.nD Cert.KernelConv.τ).loc Cert.KernelConv.main_arg1) = m ((c.tc : Thread Cert.KernelConv.nD Cert.KernelConv.τ).loc Cert.KernelConv.main_arg1)
      ∧ r.2.mem ((c.tc : Thread Cert.KernelConv.nD Cert.KernelConv.τ).loc Cert.KernelConv.main_arg2) = m ((c.tc : Thread Cert.KernelConv.nD Cert.KernelConv.τ).loc Cert.KernelConv.main_arg2))
      ∧ r.2.sem = fun _ => 0)

def quiescent_KernelConvIdeal [hKernelConvIdeal : Cert.KernelConvIdeal.Facts] : Prop :=
  ∀ (m : (ℓ : Loc Cert.KernelConvIdeal.nD Cert.KernelConvIdeal.τ Cert.KernelConvIdeal.sig) → Buf (Elt Ideal) ℓ) (g : Dev Cert.KernelConvIdeal.nD → PrngReg), Pre_KernelConvIdeal m →
    θ_run (Cert.KernelConvIdeal.defs (F := Ideal)) (onTc (τ := Cert.KernelConvIdeal.τ) (Cert.KernelConvIdeal.main (F := Ideal))) ⟨m, fun _ => 0, g⟩ (fun r => (∀ c : Dev Cert.KernelConvIdeal.nD,
      r.2.mem ((c.tc : Thread Cert.KernelConvIdeal.nD Cert.KernelConvIdeal.τ).loc Cert.KernelConvIdeal.main_arg0) = m ((c.tc : Thread Cert.KernelConvIdeal.nD Cert.KernelConvIdeal.τ).loc Cert.KernelConvIdeal.main_arg0)
      ∧ r.2.mem ((c.tc : Thread Cert.KernelConvIdeal.nD Cert.KernelConvIdeal.τ).loc Cert.KernelConvIdeal.main_arg1) = m ((c.tc : Thread Cert.KernelConvIdeal.nD Cert.KernelConvIdeal.τ).loc Cert.KernelConvIdeal.main_arg1)
      ∧ r.2.mem ((c.tc : Thread Cert.KernelConvIdeal.nD Cert.KernelConvIdeal.τ).loc Cert.KernelConvIdeal.main_arg2) = m ((c.tc : Thread Cert.KernelConvIdeal.nD Cert.KernelConvIdeal.τ).loc Cert.KernelConvIdeal.main_arg2))
      ∧ r.2.sem = fun _ => 0)

def quiescent_ReferenceConvIdeal [hReferenceConvIdeal : Cert.ReferenceConvIdeal.Facts] : Prop :=
  ∀ (m : (ℓ : Loc Cert.ReferenceConvIdeal.nD Cert.ReferenceConvIdeal.τ Cert.ReferenceConvIdeal.sig) → Buf (Elt Ideal) ℓ) (g : Dev Cert.ReferenceConvIdeal.nD → PrngReg), Pre_ReferenceConvIdeal m →
    θ_run (Cert.ReferenceConvIdeal.defs (F := Ideal)) (onTc (τ := Cert.ReferenceConvIdeal.τ) (Cert.ReferenceConvIdeal.main (F := Ideal))) ⟨m, fun _ => 0, g⟩ (fun r => (∀ c : Dev Cert.ReferenceConvIdeal.nD,
      r.2.mem ((c.tc : Thread Cert.ReferenceConvIdeal.nD Cert.ReferenceConvIdeal.τ).loc Cert.ReferenceConvIdeal.main_arg0) = m ((c.tc : Thread Cert.ReferenceConvIdeal.nD Cert.ReferenceConvIdeal.τ).loc Cert.ReferenceConvIdeal.main_arg0)
      ∧ r.2.mem ((c.tc : Thread Cert.ReferenceConvIdeal.nD Cert.ReferenceConvIdeal.τ).loc Cert.ReferenceConvIdeal.main_arg1) = m ((c.tc : Thread Cert.ReferenceConvIdeal.nD Cert.ReferenceConvIdeal.τ).loc Cert.ReferenceConvIdeal.main_arg1)
      ∧ r.2.mem ((c.tc : Thread Cert.ReferenceConvIdeal.nD Cert.ReferenceConvIdeal.τ).loc Cert.ReferenceConvIdeal.main_arg2) = m ((c.tc : Thread Cert.ReferenceConvIdeal.nD Cert.ReferenceConvIdeal.τ).loc Cert.ReferenceConvIdeal.main_arg2))
      ∧ r.2.sem = fun _ => 0)

def quiescent_KernelFinal [hKernelFinal : Cert.KernelFinal.Facts] : Prop :=
  ∀ (m : (ℓ : Loc Cert.KernelFinal.nD Cert.KernelFinal.τ Cert.KernelFinal.sig) → Buf (Elt Bits) ℓ) (g : Dev Cert.KernelFinal.nD → PrngReg), Pre_KernelFinal m →
    θ_run (Cert.KernelFinal.defs (F := Bits)) (onTc (τ := Cert.KernelFinal.τ) (Cert.KernelFinal.main (F := Bits))) ⟨m, fun _ => 0, g⟩ (fun r => (∀ c : Dev Cert.KernelFinal.nD,
      r.2.mem ((c.tc : Thread Cert.KernelFinal.nD Cert.KernelFinal.τ).loc Cert.KernelFinal.main_arg0) = m ((c.tc : Thread Cert.KernelFinal.nD Cert.KernelFinal.τ).loc Cert.KernelFinal.main_arg0)
      ∧ r.2.mem ((c.tc : Thread Cert.KernelFinal.nD Cert.KernelFinal.τ).loc Cert.KernelFinal.main_arg1) = m ((c.tc : Thread Cert.KernelFinal.nD Cert.KernelFinal.τ).loc Cert.KernelFinal.main_arg1)
      ∧ r.2.mem ((c.tc : Thread Cert.KernelFinal.nD Cert.KernelFinal.τ).loc Cert.KernelFinal.main_arg2) = m ((c.tc : Thread Cert.KernelFinal.nD Cert.KernelFinal.τ).loc Cert.KernelFinal.main_arg2))
      ∧ r.2.sem = fun _ => 0)

def quiescent_KernelFinalIdeal [hKernelFinalIdeal : Cert.KernelFinalIdeal.Facts] : Prop :=
  ∀ (m : (ℓ : Loc Cert.KernelFinalIdeal.nD Cert.KernelFinalIdeal.τ Cert.KernelFinalIdeal.sig) → Buf (Elt Ideal) ℓ) (g : Dev Cert.KernelFinalIdeal.nD → PrngReg), Pre_KernelFinalIdeal m →
    θ_run (Cert.KernelFinalIdeal.defs (F := Ideal)) (onTc (τ := Cert.KernelFinalIdeal.τ) (Cert.KernelFinalIdeal.main (F := Ideal))) ⟨m, fun _ => 0, g⟩ (fun r => (∀ c : Dev Cert.KernelFinalIdeal.nD,
      r.2.mem ((c.tc : Thread Cert.KernelFinalIdeal.nD Cert.KernelFinalIdeal.τ).loc Cert.KernelFinalIdeal.main_arg0) = m ((c.tc : Thread Cert.KernelFinalIdeal.nD Cert.KernelFinalIdeal.τ).loc Cert.KernelFinalIdeal.main_arg0)
      ∧ r.2.mem ((c.tc : Thread Cert.KernelFinalIdeal.nD Cert.KernelFinalIdeal.τ).loc Cert.KernelFinalIdeal.main_arg1) = m ((c.tc : Thread Cert.KernelFinalIdeal.nD Cert.KernelFinalIdeal.τ).loc Cert.KernelFinalIdeal.main_arg1)
      ∧ r.2.mem ((c.tc : Thread Cert.KernelFinalIdeal.nD Cert.KernelFinalIdeal.τ).loc Cert.KernelFinalIdeal.main_arg2) = m ((c.tc : Thread Cert.KernelFinalIdeal.nD Cert.KernelFinalIdeal.τ).loc Cert.KernelFinalIdeal.main_arg2))
      ∧ r.2.sem = fun _ => 0)

def quiescent_KernelFinalIdeal_pre_final_finite [hKernelFinalIdeal : Cert.KernelFinalIdeal.Facts] [hPre_final_finite : Cert.Pre_final_finite.Facts] : Prop :=
  ∀ (m : (ℓ : Loc Cert.KernelFinalIdeal.nD Cert.KernelFinalIdeal.τ Cert.KernelFinalIdeal.sig) → Buf (Elt Ideal) ℓ) (g : Dev Cert.KernelFinalIdeal.nD → PrngReg), Pre_KernelFinalIdeal_final_finite m →
    θ_run (Cert.KernelFinalIdeal.defs (F := Ideal)) (onTc (τ := Cert.KernelFinalIdeal.τ) (Cert.KernelFinalIdeal.main (F := Ideal))) ⟨m, fun _ => 0, g⟩ (fun r => (∀ c : Dev Cert.KernelFinalIdeal.nD,
      r.2.mem ((c.tc : Thread Cert.KernelFinalIdeal.nD Cert.KernelFinalIdeal.τ).loc Cert.KernelFinalIdeal.main_arg0) = m ((c.tc : Thread Cert.KernelFinalIdeal.nD Cert.KernelFinalIdeal.τ).loc Cert.KernelFinalIdeal.main_arg0)
      ∧ r.2.mem ((c.tc : Thread Cert.KernelFinalIdeal.nD Cert.KernelFinalIdeal.τ).loc Cert.KernelFinalIdeal.main_arg1) = m ((c.tc : Thread Cert.KernelFinalIdeal.nD Cert.KernelFinalIdeal.τ).loc Cert.KernelFinalIdeal.main_arg1)
      ∧ r.2.mem ((c.tc : Thread Cert.KernelFinalIdeal.nD Cert.KernelFinalIdeal.τ).loc Cert.KernelFinalIdeal.main_arg2) = m ((c.tc : Thread Cert.KernelFinalIdeal.nD Cert.KernelFinalIdeal.τ).loc Cert.KernelFinalIdeal.main_arg2))
      ∧ r.2.sem = fun _ => 0)

def quiescent_ReferenceFinalIdeal [hReferenceFinalIdeal : Cert.ReferenceFinalIdeal.Facts] : Prop :=
  ∀ (m : (ℓ : Loc Cert.ReferenceFinalIdeal.nD Cert.ReferenceFinalIdeal.τ Cert.ReferenceFinalIdeal.sig) → Buf (Elt Ideal) ℓ) (g : Dev Cert.ReferenceFinalIdeal.nD → PrngReg), Pre_ReferenceFinalIdeal m →
    θ_run (Cert.ReferenceFinalIdeal.defs (F := Ideal)) (onTc (τ := Cert.ReferenceFinalIdeal.τ) (Cert.ReferenceFinalIdeal.main (F := Ideal))) ⟨m, fun _ => 0, g⟩ (fun r => (∀ c : Dev Cert.ReferenceFinalIdeal.nD,
      r.2.mem ((c.tc : Thread Cert.ReferenceFinalIdeal.nD Cert.ReferenceFinalIdeal.τ).loc Cert.ReferenceFinalIdeal.main_arg0) = m ((c.tc : Thread Cert.ReferenceFinalIdeal.nD Cert.ReferenceFinalIdeal.τ).loc Cert.ReferenceFinalIdeal.main_arg0)
      ∧ r.2.mem ((c.tc : Thread Cert.ReferenceFinalIdeal.nD Cert.ReferenceFinalIdeal.τ).loc Cert.ReferenceFinalIdeal.main_arg1) = m ((c.tc : Thread Cert.ReferenceFinalIdeal.nD Cert.ReferenceFinalIdeal.τ).loc Cert.ReferenceFinalIdeal.main_arg1)
      ∧ r.2.mem ((c.tc : Thread Cert.ReferenceFinalIdeal.nD Cert.ReferenceFinalIdeal.τ).loc Cert.ReferenceFinalIdeal.main_arg2) = m ((c.tc : Thread Cert.ReferenceFinalIdeal.nD Cert.ReferenceFinalIdeal.τ).loc Cert.ReferenceFinalIdeal.main_arg2))
      ∧ r.2.sem = fun _ => 0)

def quiescent_ReferenceFinalIdeal_pre_final_finite [hReferenceFinalIdeal : Cert.ReferenceFinalIdeal.Facts] [hPre_final_finite : Cert.Pre_final_finite.Facts] : Prop :=
  ∀ (m : (ℓ : Loc Cert.ReferenceFinalIdeal.nD Cert.ReferenceFinalIdeal.τ Cert.ReferenceFinalIdeal.sig) → Buf (Elt Ideal) ℓ) (g : Dev Cert.ReferenceFinalIdeal.nD → PrngReg), Pre_ReferenceFinalIdeal_final_finite m →
    θ_run (Cert.ReferenceFinalIdeal.defs (F := Ideal)) (onTc (τ := Cert.ReferenceFinalIdeal.τ) (Cert.ReferenceFinalIdeal.main (F := Ideal))) ⟨m, fun _ => 0, g⟩ (fun r => (∀ c : Dev Cert.ReferenceFinalIdeal.nD,
      r.2.mem ((c.tc : Thread Cert.ReferenceFinalIdeal.nD Cert.ReferenceFinalIdeal.τ).loc Cert.ReferenceFinalIdeal.main_arg0) = m ((c.tc : Thread Cert.ReferenceFinalIdeal.nD Cert.ReferenceFinalIdeal.τ).loc Cert.ReferenceFinalIdeal.main_arg0)
      ∧ r.2.mem ((c.tc : Thread Cert.ReferenceFinalIdeal.nD Cert.ReferenceFinalIdeal.τ).loc Cert.ReferenceFinalIdeal.main_arg1) = m ((c.tc : Thread Cert.ReferenceFinalIdeal.nD Cert.ReferenceFinalIdeal.τ).loc Cert.ReferenceFinalIdeal.main_arg1)
      ∧ r.2.mem ((c.tc : Thread Cert.ReferenceFinalIdeal.nD Cert.ReferenceFinalIdeal.τ).loc Cert.ReferenceFinalIdeal.main_arg2) = m ((c.tc : Thread Cert.ReferenceFinalIdeal.nD Cert.ReferenceFinalIdeal.τ).loc Cert.ReferenceFinalIdeal.main_arg2))
      ∧ r.2.sem = fun _ => 0)

def quiescent_KernelOutProj [hKernelOutProj : Cert.KernelOutProj.Facts] : Prop :=
  ∀ (m : (ℓ : Loc Cert.KernelOutProj.nD Cert.KernelOutProj.τ Cert.KernelOutProj.sig) → Buf (Elt Bits) ℓ) (g : Dev Cert.KernelOutProj.nD → PrngReg), Pre_KernelOutProj m →
    θ_run (Cert.KernelOutProj.defs (F := Bits)) (onTc (τ := Cert.KernelOutProj.τ) (Cert.KernelOutProj.main (F := Bits))) ⟨m, fun _ => 0, g⟩ (fun r => (∀ c : Dev Cert.KernelOutProj.nD,
      r.2.mem ((c.tc : Thread Cert.KernelOutProj.nD Cert.KernelOutProj.τ).loc Cert.KernelOutProj.main_arg0) = m ((c.tc : Thread Cert.KernelOutProj.nD Cert.KernelOutProj.τ).loc Cert.KernelOutProj.main_arg0)
      ∧ r.2.mem ((c.tc : Thread Cert.KernelOutProj.nD Cert.KernelOutProj.τ).loc Cert.KernelOutProj.main_arg1) = m ((c.tc : Thread Cert.KernelOutProj.nD Cert.KernelOutProj.τ).loc Cert.KernelOutProj.main_arg1)
      ∧ r.2.mem ((c.tc : Thread Cert.KernelOutProj.nD Cert.KernelOutProj.τ).loc Cert.KernelOutProj.main_arg2) = m ((c.tc : Thread Cert.KernelOutProj.nD Cert.KernelOutProj.τ).loc Cert.KernelOutProj.main_arg2)
      ∧ r.2.mem ((c.tc : Thread Cert.KernelOutProj.nD Cert.KernelOutProj.τ).loc Cert.KernelOutProj.main_arg3) = m ((c.tc : Thread Cert.KernelOutProj.nD Cert.KernelOutProj.τ).loc Cert.KernelOutProj.main_arg3)
      ∧ r.2.mem ((c.tc : Thread Cert.KernelOutProj.nD Cert.KernelOutProj.τ).loc Cert.KernelOutProj.main_arg4) = m ((c.tc : Thread Cert.KernelOutProj.nD Cert.KernelOutProj.τ).loc Cert.KernelOutProj.main_arg4)
      ∧ r.2.mem ((c.tc : Thread Cert.KernelOutProj.nD Cert.KernelOutProj.τ).loc Cert.KernelOutProj.main_arg5) = m ((c.tc : Thread Cert.KernelOutProj.nD Cert.KernelOutProj.τ).loc Cert.KernelOutProj.main_arg5)
      ∧ r.2.mem ((c.tc : Thread Cert.KernelOutProj.nD Cert.KernelOutProj.τ).loc Cert.KernelOutProj.main_arg6) = m ((c.tc : Thread Cert.KernelOutProj.nD Cert.KernelOutProj.τ).loc Cert.KernelOutProj.main_arg6)
      ∧ r.2.mem ((c.tc : Thread Cert.KernelOutProj.nD Cert.KernelOutProj.τ).loc Cert.KernelOutProj.main_arg7) = m ((c.tc : Thread Cert.KernelOutProj.nD Cert.KernelOutProj.τ).loc Cert.KernelOutProj.main_arg7))
      ∧ r.2.sem = fun _ => 0)

def quiescent_KernelOutProjIdeal [hKernelOutProjIdeal : Cert.KernelOutProjIdeal.Facts] : Prop :=
  ∀ (m : (ℓ : Loc Cert.KernelOutProjIdeal.nD Cert.KernelOutProjIdeal.τ Cert.KernelOutProjIdeal.sig) → Buf (Elt Ideal) ℓ) (g : Dev Cert.KernelOutProjIdeal.nD → PrngReg), Pre_KernelOutProjIdeal m →
    θ_run (Cert.KernelOutProjIdeal.defs (F := Ideal)) (onTc (τ := Cert.KernelOutProjIdeal.τ) (Cert.KernelOutProjIdeal.main (F := Ideal))) ⟨m, fun _ => 0, g⟩ (fun r => (∀ c : Dev Cert.KernelOutProjIdeal.nD,
      r.2.mem ((c.tc : Thread Cert.KernelOutProjIdeal.nD Cert.KernelOutProjIdeal.τ).loc Cert.KernelOutProjIdeal.main_arg0) = m ((c.tc : Thread Cert.KernelOutProjIdeal.nD Cert.KernelOutProjIdeal.τ).loc Cert.KernelOutProjIdeal.main_arg0)
      ∧ r.2.mem ((c.tc : Thread Cert.KernelOutProjIdeal.nD Cert.KernelOutProjIdeal.τ).loc Cert.KernelOutProjIdeal.main_arg1) = m ((c.tc : Thread Cert.KernelOutProjIdeal.nD Cert.KernelOutProjIdeal.τ).loc Cert.KernelOutProjIdeal.main_arg1)
      ∧ r.2.mem ((c.tc : Thread Cert.KernelOutProjIdeal.nD Cert.KernelOutProjIdeal.τ).loc Cert.KernelOutProjIdeal.main_arg2) = m ((c.tc : Thread Cert.KernelOutProjIdeal.nD Cert.KernelOutProjIdeal.τ).loc Cert.KernelOutProjIdeal.main_arg2)
      ∧ r.2.mem ((c.tc : Thread Cert.KernelOutProjIdeal.nD Cert.KernelOutProjIdeal.τ).loc Cert.KernelOutProjIdeal.main_arg3) = m ((c.tc : Thread Cert.KernelOutProjIdeal.nD Cert.KernelOutProjIdeal.τ).loc Cert.KernelOutProjIdeal.main_arg3)
      ∧ r.2.mem ((c.tc : Thread Cert.KernelOutProjIdeal.nD Cert.KernelOutProjIdeal.τ).loc Cert.KernelOutProjIdeal.main_arg4) = m ((c.tc : Thread Cert.KernelOutProjIdeal.nD Cert.KernelOutProjIdeal.τ).loc Cert.KernelOutProjIdeal.main_arg4)
      ∧ r.2.mem ((c.tc : Thread Cert.KernelOutProjIdeal.nD Cert.KernelOutProjIdeal.τ).loc Cert.KernelOutProjIdeal.main_arg5) = m ((c.tc : Thread Cert.KernelOutProjIdeal.nD Cert.KernelOutProjIdeal.τ).loc Cert.KernelOutProjIdeal.main_arg5)
      ∧ r.2.mem ((c.tc : Thread Cert.KernelOutProjIdeal.nD Cert.KernelOutProjIdeal.τ).loc Cert.KernelOutProjIdeal.main_arg6) = m ((c.tc : Thread Cert.KernelOutProjIdeal.nD Cert.KernelOutProjIdeal.τ).loc Cert.KernelOutProjIdeal.main_arg6)
      ∧ r.2.mem ((c.tc : Thread Cert.KernelOutProjIdeal.nD Cert.KernelOutProjIdeal.τ).loc Cert.KernelOutProjIdeal.main_arg7) = m ((c.tc : Thread Cert.KernelOutProjIdeal.nD Cert.KernelOutProjIdeal.τ).loc Cert.KernelOutProjIdeal.main_arg7))
      ∧ r.2.sem = fun _ => 0)

def quiescent_KernelOutProjIdeal_pre_outproj_finite [hKernelOutProjIdeal : Cert.KernelOutProjIdeal.Facts] [hPre_outproj_finite : Cert.Pre_outproj_finite.Facts] : Prop :=
  ∀ (m : (ℓ : Loc Cert.KernelOutProjIdeal.nD Cert.KernelOutProjIdeal.τ Cert.KernelOutProjIdeal.sig) → Buf (Elt Ideal) ℓ) (g : Dev Cert.KernelOutProjIdeal.nD → PrngReg), Pre_KernelOutProjIdeal_outproj_finite m →
    θ_run (Cert.KernelOutProjIdeal.defs (F := Ideal)) (onTc (τ := Cert.KernelOutProjIdeal.τ) (Cert.KernelOutProjIdeal.main (F := Ideal))) ⟨m, fun _ => 0, g⟩ (fun r => (∀ c : Dev Cert.KernelOutProjIdeal.nD,
      r.2.mem ((c.tc : Thread Cert.KernelOutProjIdeal.nD Cert.KernelOutProjIdeal.τ).loc Cert.KernelOutProjIdeal.main_arg0) = m ((c.tc : Thread Cert.KernelOutProjIdeal.nD Cert.KernelOutProjIdeal.τ).loc Cert.KernelOutProjIdeal.main_arg0)
      ∧ r.2.mem ((c.tc : Thread Cert.KernelOutProjIdeal.nD Cert.KernelOutProjIdeal.τ).loc Cert.KernelOutProjIdeal.main_arg1) = m ((c.tc : Thread Cert.KernelOutProjIdeal.nD Cert.KernelOutProjIdeal.τ).loc Cert.KernelOutProjIdeal.main_arg1)
      ∧ r.2.mem ((c.tc : Thread Cert.KernelOutProjIdeal.nD Cert.KernelOutProjIdeal.τ).loc Cert.KernelOutProjIdeal.main_arg2) = m ((c.tc : Thread Cert.KernelOutProjIdeal.nD Cert.KernelOutProjIdeal.τ).loc Cert.KernelOutProjIdeal.main_arg2)
      ∧ r.2.mem ((c.tc : Thread Cert.KernelOutProjIdeal.nD Cert.KernelOutProjIdeal.τ).loc Cert.KernelOutProjIdeal.main_arg3) = m ((c.tc : Thread Cert.KernelOutProjIdeal.nD Cert.KernelOutProjIdeal.τ).loc Cert.KernelOutProjIdeal.main_arg3)
      ∧ r.2.mem ((c.tc : Thread Cert.KernelOutProjIdeal.nD Cert.KernelOutProjIdeal.τ).loc Cert.KernelOutProjIdeal.main_arg4) = m ((c.tc : Thread Cert.KernelOutProjIdeal.nD Cert.KernelOutProjIdeal.τ).loc Cert.KernelOutProjIdeal.main_arg4)
      ∧ r.2.mem ((c.tc : Thread Cert.KernelOutProjIdeal.nD Cert.KernelOutProjIdeal.τ).loc Cert.KernelOutProjIdeal.main_arg5) = m ((c.tc : Thread Cert.KernelOutProjIdeal.nD Cert.KernelOutProjIdeal.τ).loc Cert.KernelOutProjIdeal.main_arg5)
      ∧ r.2.mem ((c.tc : Thread Cert.KernelOutProjIdeal.nD Cert.KernelOutProjIdeal.τ).loc Cert.KernelOutProjIdeal.main_arg6) = m ((c.tc : Thread Cert.KernelOutProjIdeal.nD Cert.KernelOutProjIdeal.τ).loc Cert.KernelOutProjIdeal.main_arg6)
      ∧ r.2.mem ((c.tc : Thread Cert.KernelOutProjIdeal.nD Cert.KernelOutProjIdeal.τ).loc Cert.KernelOutProjIdeal.main_arg7) = m ((c.tc : Thread Cert.KernelOutProjIdeal.nD Cert.KernelOutProjIdeal.τ).loc Cert.KernelOutProjIdeal.main_arg7))
      ∧ r.2.sem = fun _ => 0)

def quiescent_ReferenceOutProjIdeal [hReferenceOutProjIdeal : Cert.ReferenceOutProjIdeal.Facts] : Prop :=
  ∀ (m : (ℓ : Loc Cert.ReferenceOutProjIdeal.nD Cert.ReferenceOutProjIdeal.τ Cert.ReferenceOutProjIdeal.sig) → Buf (Elt Ideal) ℓ) (g : Dev Cert.ReferenceOutProjIdeal.nD → PrngReg), Pre_ReferenceOutProjIdeal m →
    θ_run (Cert.ReferenceOutProjIdeal.defs (F := Ideal)) (onTc (τ := Cert.ReferenceOutProjIdeal.τ) (Cert.ReferenceOutProjIdeal.main (F := Ideal))) ⟨m, fun _ => 0, g⟩ (fun r => (∀ c : Dev Cert.ReferenceOutProjIdeal.nD,
      r.2.mem ((c.tc : Thread Cert.ReferenceOutProjIdeal.nD Cert.ReferenceOutProjIdeal.τ).loc Cert.ReferenceOutProjIdeal.main_arg0) = m ((c.tc : Thread Cert.ReferenceOutProjIdeal.nD Cert.ReferenceOutProjIdeal.τ).loc Cert.ReferenceOutProjIdeal.main_arg0)
      ∧ r.2.mem ((c.tc : Thread Cert.ReferenceOutProjIdeal.nD Cert.ReferenceOutProjIdeal.τ).loc Cert.ReferenceOutProjIdeal.main_arg1) = m ((c.tc : Thread Cert.ReferenceOutProjIdeal.nD Cert.ReferenceOutProjIdeal.τ).loc Cert.ReferenceOutProjIdeal.main_arg1)
      ∧ r.2.mem ((c.tc : Thread Cert.ReferenceOutProjIdeal.nD Cert.ReferenceOutProjIdeal.τ).loc Cert.ReferenceOutProjIdeal.main_arg2) = m ((c.tc : Thread Cert.ReferenceOutProjIdeal.nD Cert.ReferenceOutProjIdeal.τ).loc Cert.ReferenceOutProjIdeal.main_arg2)
      ∧ r.2.mem ((c.tc : Thread Cert.ReferenceOutProjIdeal.nD Cert.ReferenceOutProjIdeal.τ).loc Cert.ReferenceOutProjIdeal.main_arg3) = m ((c.tc : Thread Cert.ReferenceOutProjIdeal.nD Cert.ReferenceOutProjIdeal.τ).loc Cert.ReferenceOutProjIdeal.main_arg3)
      ∧ r.2.mem ((c.tc : Thread Cert.ReferenceOutProjIdeal.nD Cert.ReferenceOutProjIdeal.τ).loc Cert.ReferenceOutProjIdeal.main_arg4) = m ((c.tc : Thread Cert.ReferenceOutProjIdeal.nD Cert.ReferenceOutProjIdeal.τ).loc Cert.ReferenceOutProjIdeal.main_arg4)
      ∧ r.2.mem ((c.tc : Thread Cert.ReferenceOutProjIdeal.nD Cert.ReferenceOutProjIdeal.τ).loc Cert.ReferenceOutProjIdeal.main_arg5) = m ((c.tc : Thread Cert.ReferenceOutProjIdeal.nD Cert.ReferenceOutProjIdeal.τ).loc Cert.ReferenceOutProjIdeal.main_arg5)
      ∧ r.2.mem ((c.tc : Thread Cert.ReferenceOutProjIdeal.nD Cert.ReferenceOutProjIdeal.τ).loc Cert.ReferenceOutProjIdeal.main_arg6) = m ((c.tc : Thread Cert.ReferenceOutProjIdeal.nD Cert.ReferenceOutProjIdeal.τ).loc Cert.ReferenceOutProjIdeal.main_arg6)
      ∧ r.2.mem ((c.tc : Thread Cert.ReferenceOutProjIdeal.nD Cert.ReferenceOutProjIdeal.τ).loc Cert.ReferenceOutProjIdeal.main_arg7) = m ((c.tc : Thread Cert.ReferenceOutProjIdeal.nD Cert.ReferenceOutProjIdeal.τ).loc Cert.ReferenceOutProjIdeal.main_arg7))
      ∧ r.2.sem = fun _ => 0)

def quiescent_ReferenceOutProjIdeal_pre_outproj_finite [hReferenceOutProjIdeal : Cert.ReferenceOutProjIdeal.Facts] [hPre_outproj_finite : Cert.Pre_outproj_finite.Facts] : Prop :=
  ∀ (m : (ℓ : Loc Cert.ReferenceOutProjIdeal.nD Cert.ReferenceOutProjIdeal.τ Cert.ReferenceOutProjIdeal.sig) → Buf (Elt Ideal) ℓ) (g : Dev Cert.ReferenceOutProjIdeal.nD → PrngReg), Pre_ReferenceOutProjIdeal_outproj_finite m →
    θ_run (Cert.ReferenceOutProjIdeal.defs (F := Ideal)) (onTc (τ := Cert.ReferenceOutProjIdeal.τ) (Cert.ReferenceOutProjIdeal.main (F := Ideal))) ⟨m, fun _ => 0, g⟩ (fun r => (∀ c : Dev Cert.ReferenceOutProjIdeal.nD,
      r.2.mem ((c.tc : Thread Cert.ReferenceOutProjIdeal.nD Cert.ReferenceOutProjIdeal.τ).loc Cert.ReferenceOutProjIdeal.main_arg0) = m ((c.tc : Thread Cert.ReferenceOutProjIdeal.nD Cert.ReferenceOutProjIdeal.τ).loc Cert.ReferenceOutProjIdeal.main_arg0)
      ∧ r.2.mem ((c.tc : Thread Cert.ReferenceOutProjIdeal.nD Cert.ReferenceOutProjIdeal.τ).loc Cert.ReferenceOutProjIdeal.main_arg1) = m ((c.tc : Thread Cert.ReferenceOutProjIdeal.nD Cert.ReferenceOutProjIdeal.τ).loc Cert.ReferenceOutProjIdeal.main_arg1)
      ∧ r.2.mem ((c.tc : Thread Cert.ReferenceOutProjIdeal.nD Cert.ReferenceOutProjIdeal.τ).loc Cert.ReferenceOutProjIdeal.main_arg2) = m ((c.tc : Thread Cert.ReferenceOutProjIdeal.nD Cert.ReferenceOutProjIdeal.τ).loc Cert.ReferenceOutProjIdeal.main_arg2)
      ∧ r.2.mem ((c.tc : Thread Cert.ReferenceOutProjIdeal.nD Cert.ReferenceOutProjIdeal.τ).loc Cert.ReferenceOutProjIdeal.main_arg3) = m ((c.tc : Thread Cert.ReferenceOutProjIdeal.nD Cert.ReferenceOutProjIdeal.τ).loc Cert.ReferenceOutProjIdeal.main_arg3)
      ∧ r.2.mem ((c.tc : Thread Cert.ReferenceOutProjIdeal.nD Cert.ReferenceOutProjIdeal.τ).loc Cert.ReferenceOutProjIdeal.main_arg4) = m ((c.tc : Thread Cert.ReferenceOutProjIdeal.nD Cert.ReferenceOutProjIdeal.τ).loc Cert.ReferenceOutProjIdeal.main_arg4)
      ∧ r.2.mem ((c.tc : Thread Cert.ReferenceOutProjIdeal.nD Cert.ReferenceOutProjIdeal.τ).loc Cert.ReferenceOutProjIdeal.main_arg5) = m ((c.tc : Thread Cert.ReferenceOutProjIdeal.nD Cert.ReferenceOutProjIdeal.τ).loc Cert.ReferenceOutProjIdeal.main_arg5)
      ∧ r.2.mem ((c.tc : Thread Cert.ReferenceOutProjIdeal.nD Cert.ReferenceOutProjIdeal.τ).loc Cert.ReferenceOutProjIdeal.main_arg6) = m ((c.tc : Thread Cert.ReferenceOutProjIdeal.nD Cert.ReferenceOutProjIdeal.τ).loc Cert.ReferenceOutProjIdeal.main_arg6)
      ∧ r.2.mem ((c.tc : Thread Cert.ReferenceOutProjIdeal.nD Cert.ReferenceOutProjIdeal.τ).loc Cert.ReferenceOutProjIdeal.main_arg7) = m ((c.tc : Thread Cert.ReferenceOutProjIdeal.nD Cert.ReferenceOutProjIdeal.τ).loc Cert.ReferenceOutProjIdeal.main_arg7))
      ∧ r.2.sem = fun _ => 0)

def quiescent_KernelAttn [hKernelAttn : Cert.KernelAttn.Facts] : Prop :=
  ∀ (m : (ℓ : Loc Cert.KernelAttn.nD Cert.KernelAttn.τ Cert.KernelAttn.sig) → Buf (Elt Bits) ℓ) (g : Dev Cert.KernelAttn.nD → PrngReg), Pre_KernelAttn m →
    θ_run (Cert.KernelAttn.defs (F := Bits)) (onTc (τ := Cert.KernelAttn.τ) (Cert.KernelAttn.main (F := Bits))) ⟨m, fun _ => 0, g⟩ (fun r => (∀ c : Dev Cert.KernelAttn.nD,
      r.2.mem ((c.tc : Thread Cert.KernelAttn.nD Cert.KernelAttn.τ).loc Cert.KernelAttn.main_arg0) = m ((c.tc : Thread Cert.KernelAttn.nD Cert.KernelAttn.τ).loc Cert.KernelAttn.main_arg0)
      ∧ r.2.mem ((c.tc : Thread Cert.KernelAttn.nD Cert.KernelAttn.τ).loc Cert.KernelAttn.main_arg1) = m ((c.tc : Thread Cert.KernelAttn.nD Cert.KernelAttn.τ).loc Cert.KernelAttn.main_arg1)
      ∧ r.2.mem ((c.tc : Thread Cert.KernelAttn.nD Cert.KernelAttn.τ).loc Cert.KernelAttn.main_arg2) = m ((c.tc : Thread Cert.KernelAttn.nD Cert.KernelAttn.τ).loc Cert.KernelAttn.main_arg2))
      ∧ r.2.sem = fun _ => 0)

def quiescent_KernelAttnIdeal [hKernelAttnIdeal : Cert.KernelAttnIdeal.Facts] : Prop :=
  ∀ (m : (ℓ : Loc Cert.KernelAttnIdeal.nD Cert.KernelAttnIdeal.τ Cert.KernelAttnIdeal.sig) → Buf (Elt Ideal) ℓ) (g : Dev Cert.KernelAttnIdeal.nD → PrngReg), Pre_KernelAttnIdeal m →
    θ_run (Cert.KernelAttnIdeal.defs (F := Ideal)) (onTc (τ := Cert.KernelAttnIdeal.τ) (Cert.KernelAttnIdeal.main (F := Ideal))) ⟨m, fun _ => 0, g⟩ (fun r => (∀ c : Dev Cert.KernelAttnIdeal.nD,
      r.2.mem ((c.tc : Thread Cert.KernelAttnIdeal.nD Cert.KernelAttnIdeal.τ).loc Cert.KernelAttnIdeal.main_arg0) = m ((c.tc : Thread Cert.KernelAttnIdeal.nD Cert.KernelAttnIdeal.τ).loc Cert.KernelAttnIdeal.main_arg0)
      ∧ r.2.mem ((c.tc : Thread Cert.KernelAttnIdeal.nD Cert.KernelAttnIdeal.τ).loc Cert.KernelAttnIdeal.main_arg1) = m ((c.tc : Thread Cert.KernelAttnIdeal.nD Cert.KernelAttnIdeal.τ).loc Cert.KernelAttnIdeal.main_arg1)
      ∧ r.2.mem ((c.tc : Thread Cert.KernelAttnIdeal.nD Cert.KernelAttnIdeal.τ).loc Cert.KernelAttnIdeal.main_arg2) = m ((c.tc : Thread Cert.KernelAttnIdeal.nD Cert.KernelAttnIdeal.τ).loc Cert.KernelAttnIdeal.main_arg2))
      ∧ r.2.sem = fun _ => 0)

def quiescent_KernelAttnIdeal_pre_attn_finite [hKernelAttnIdeal : Cert.KernelAttnIdeal.Facts] [hPre_attn_finite : Cert.Pre_attn_finite.Facts] : Prop :=
  ∀ (m : (ℓ : Loc Cert.KernelAttnIdeal.nD Cert.KernelAttnIdeal.τ Cert.KernelAttnIdeal.sig) → Buf (Elt Ideal) ℓ) (g : Dev Cert.KernelAttnIdeal.nD → PrngReg), Pre_KernelAttnIdeal_attn_finite m →
    θ_run (Cert.KernelAttnIdeal.defs (F := Ideal)) (onTc (τ := Cert.KernelAttnIdeal.τ) (Cert.KernelAttnIdeal.main (F := Ideal))) ⟨m, fun _ => 0, g⟩ (fun r => (∀ c : Dev Cert.KernelAttnIdeal.nD,
      r.2.mem ((c.tc : Thread Cert.KernelAttnIdeal.nD Cert.KernelAttnIdeal.τ).loc Cert.KernelAttnIdeal.main_arg0) = m ((c.tc : Thread Cert.KernelAttnIdeal.nD Cert.KernelAttnIdeal.τ).loc Cert.KernelAttnIdeal.main_arg0)
      ∧ r.2.mem ((c.tc : Thread Cert.KernelAttnIdeal.nD Cert.KernelAttnIdeal.τ).loc Cert.KernelAttnIdeal.main_arg1) = m ((c.tc : Thread Cert.KernelAttnIdeal.nD Cert.KernelAttnIdeal.τ).loc Cert.KernelAttnIdeal.main_arg1)
      ∧ r.2.mem ((c.tc : Thread Cert.KernelAttnIdeal.nD Cert.KernelAttnIdeal.τ).loc Cert.KernelAttnIdeal.main_arg2) = m ((c.tc : Thread Cert.KernelAttnIdeal.nD Cert.KernelAttnIdeal.τ).loc Cert.KernelAttnIdeal.main_arg2))
      ∧ r.2.sem = fun _ => 0)

def quiescent_ReferenceAttnIdeal [hReferenceAttnIdeal : Cert.ReferenceAttnIdeal.Facts] : Prop :=
  ∀ (m : (ℓ : Loc Cert.ReferenceAttnIdeal.nD Cert.ReferenceAttnIdeal.τ Cert.ReferenceAttnIdeal.sig) → Buf (Elt Ideal) ℓ) (g : Dev Cert.ReferenceAttnIdeal.nD → PrngReg), Pre_ReferenceAttnIdeal m →
    θ_run (Cert.ReferenceAttnIdeal.defs (F := Ideal)) (onTc (τ := Cert.ReferenceAttnIdeal.τ) (Cert.ReferenceAttnIdeal.main (F := Ideal))) ⟨m, fun _ => 0, g⟩ (fun r => (∀ c : Dev Cert.ReferenceAttnIdeal.nD,
      r.2.mem ((c.tc : Thread Cert.ReferenceAttnIdeal.nD Cert.ReferenceAttnIdeal.τ).loc Cert.ReferenceAttnIdeal.main_arg0) = m ((c.tc : Thread Cert.ReferenceAttnIdeal.nD Cert.ReferenceAttnIdeal.τ).loc Cert.ReferenceAttnIdeal.main_arg0)
      ∧ r.2.mem ((c.tc : Thread Cert.ReferenceAttnIdeal.nD Cert.ReferenceAttnIdeal.τ).loc Cert.ReferenceAttnIdeal.main_arg1) = m ((c.tc : Thread Cert.ReferenceAttnIdeal.nD Cert.ReferenceAttnIdeal.τ).loc Cert.ReferenceAttnIdeal.main_arg1)
      ∧ r.2.mem ((c.tc : Thread Cert.ReferenceAttnIdeal.nD Cert.ReferenceAttnIdeal.τ).loc Cert.ReferenceAttnIdeal.main_arg2) = m ((c.tc : Thread Cert.ReferenceAttnIdeal.nD Cert.ReferenceAttnIdeal.τ).loc Cert.ReferenceAttnIdeal.main_arg2))
      ∧ r.2.sem = fun _ => 0)

def quiescent_ReferenceAttnIdeal_pre_attn_finite [hReferenceAttnIdeal : Cert.ReferenceAttnIdeal.Facts] [hPre_attn_finite : Cert.Pre_attn_finite.Facts] : Prop :=
  ∀ (m : (ℓ : Loc Cert.ReferenceAttnIdeal.nD Cert.ReferenceAttnIdeal.τ Cert.ReferenceAttnIdeal.sig) → Buf (Elt Ideal) ℓ) (g : Dev Cert.ReferenceAttnIdeal.nD → PrngReg), Pre_ReferenceAttnIdeal_attn_finite m →
    θ_run (Cert.ReferenceAttnIdeal.defs (F := Ideal)) (onTc (τ := Cert.ReferenceAttnIdeal.τ) (Cert.ReferenceAttnIdeal.main (F := Ideal))) ⟨m, fun _ => 0, g⟩ (fun r => (∀ c : Dev Cert.ReferenceAttnIdeal.nD,
      r.2.mem ((c.tc : Thread Cert.ReferenceAttnIdeal.nD Cert.ReferenceAttnIdeal.τ).loc Cert.ReferenceAttnIdeal.main_arg0) = m ((c.tc : Thread Cert.ReferenceAttnIdeal.nD Cert.ReferenceAttnIdeal.τ).loc Cert.ReferenceAttnIdeal.main_arg0)
      ∧ r.2.mem ((c.tc : Thread Cert.ReferenceAttnIdeal.nD Cert.ReferenceAttnIdeal.τ).loc Cert.ReferenceAttnIdeal.main_arg1) = m ((c.tc : Thread Cert.ReferenceAttnIdeal.nD Cert.ReferenceAttnIdeal.τ).loc Cert.ReferenceAttnIdeal.main_arg1)
      ∧ r.2.mem ((c.tc : Thread Cert.ReferenceAttnIdeal.nD Cert.ReferenceAttnIdeal.τ).loc Cert.ReferenceAttnIdeal.main_arg2) = m ((c.tc : Thread Cert.ReferenceAttnIdeal.nD Cert.ReferenceAttnIdeal.τ).loc Cert.ReferenceAttnIdeal.main_arg2))
      ∧ r.2.sem = fun _ => 0)

def quiescent_KernelPool [hKernelPool : Cert.KernelPool.Facts] : Prop :=
  ∀ (m : (ℓ : Loc Cert.KernelPool.nD Cert.KernelPool.τ Cert.KernelPool.sig) → Buf (Elt Bits) ℓ) (g : Dev Cert.KernelPool.nD → PrngReg), Pre_KernelPool m →
    θ_run (Cert.KernelPool.defs (F := Bits)) (onTc (τ := Cert.KernelPool.τ) (Cert.KernelPool.main (F := Bits))) ⟨m, fun _ => 0, g⟩ (fun r => (∀ c : Dev Cert.KernelPool.nD,
      r.2.mem ((c.tc : Thread Cert.KernelPool.nD Cert.KernelPool.τ).loc Cert.KernelPool.main_arg0) = m ((c.tc : Thread Cert.KernelPool.nD Cert.KernelPool.τ).loc Cert.KernelPool.main_arg0)
      ∧ r.2.mem ((c.tc : Thread Cert.KernelPool.nD Cert.KernelPool.τ).loc Cert.KernelPool.main_arg1) = m ((c.tc : Thread Cert.KernelPool.nD Cert.KernelPool.τ).loc Cert.KernelPool.main_arg1)
      ∧ r.2.mem ((c.tc : Thread Cert.KernelPool.nD Cert.KernelPool.τ).loc Cert.KernelPool.main_arg2) = m ((c.tc : Thread Cert.KernelPool.nD Cert.KernelPool.τ).loc Cert.KernelPool.main_arg2)
      ∧ r.2.mem ((c.tc : Thread Cert.KernelPool.nD Cert.KernelPool.τ).loc Cert.KernelPool.main_arg3) = m ((c.tc : Thread Cert.KernelPool.nD Cert.KernelPool.τ).loc Cert.KernelPool.main_arg3))
      ∧ r.2.sem = fun _ => 0)

def quiescent_KernelPoolIdeal [hKernelPoolIdeal : Cert.KernelPoolIdeal.Facts] : Prop :=
  ∀ (m : (ℓ : Loc Cert.KernelPoolIdeal.nD Cert.KernelPoolIdeal.τ Cert.KernelPoolIdeal.sig) → Buf (Elt Ideal) ℓ) (g : Dev Cert.KernelPoolIdeal.nD → PrngReg), Pre_KernelPoolIdeal m →
    θ_run (Cert.KernelPoolIdeal.defs (F := Ideal)) (onTc (τ := Cert.KernelPoolIdeal.τ) (Cert.KernelPoolIdeal.main (F := Ideal))) ⟨m, fun _ => 0, g⟩ (fun r => (∀ c : Dev Cert.KernelPoolIdeal.nD,
      r.2.mem ((c.tc : Thread Cert.KernelPoolIdeal.nD Cert.KernelPoolIdeal.τ).loc Cert.KernelPoolIdeal.main_arg0) = m ((c.tc : Thread Cert.KernelPoolIdeal.nD Cert.KernelPoolIdeal.τ).loc Cert.KernelPoolIdeal.main_arg0)
      ∧ r.2.mem ((c.tc : Thread Cert.KernelPoolIdeal.nD Cert.KernelPoolIdeal.τ).loc Cert.KernelPoolIdeal.main_arg1) = m ((c.tc : Thread Cert.KernelPoolIdeal.nD Cert.KernelPoolIdeal.τ).loc Cert.KernelPoolIdeal.main_arg1)
      ∧ r.2.mem ((c.tc : Thread Cert.KernelPoolIdeal.nD Cert.KernelPoolIdeal.τ).loc Cert.KernelPoolIdeal.main_arg2) = m ((c.tc : Thread Cert.KernelPoolIdeal.nD Cert.KernelPoolIdeal.τ).loc Cert.KernelPoolIdeal.main_arg2)
      ∧ r.2.mem ((c.tc : Thread Cert.KernelPoolIdeal.nD Cert.KernelPoolIdeal.τ).loc Cert.KernelPoolIdeal.main_arg3) = m ((c.tc : Thread Cert.KernelPoolIdeal.nD Cert.KernelPoolIdeal.τ).loc Cert.KernelPoolIdeal.main_arg3))
      ∧ r.2.sem = fun _ => 0)

def quiescent_KernelPoolIdeal_pre_pool_finite [hKernelPoolIdeal : Cert.KernelPoolIdeal.Facts] [hPre_pool_finite : Cert.Pre_pool_finite.Facts] : Prop :=
  ∀ (m : (ℓ : Loc Cert.KernelPoolIdeal.nD Cert.KernelPoolIdeal.τ Cert.KernelPoolIdeal.sig) → Buf (Elt Ideal) ℓ) (g : Dev Cert.KernelPoolIdeal.nD → PrngReg), Pre_KernelPoolIdeal_pool_finite m →
    θ_run (Cert.KernelPoolIdeal.defs (F := Ideal)) (onTc (τ := Cert.KernelPoolIdeal.τ) (Cert.KernelPoolIdeal.main (F := Ideal))) ⟨m, fun _ => 0, g⟩ (fun r => (∀ c : Dev Cert.KernelPoolIdeal.nD,
      r.2.mem ((c.tc : Thread Cert.KernelPoolIdeal.nD Cert.KernelPoolIdeal.τ).loc Cert.KernelPoolIdeal.main_arg0) = m ((c.tc : Thread Cert.KernelPoolIdeal.nD Cert.KernelPoolIdeal.τ).loc Cert.KernelPoolIdeal.main_arg0)
      ∧ r.2.mem ((c.tc : Thread Cert.KernelPoolIdeal.nD Cert.KernelPoolIdeal.τ).loc Cert.KernelPoolIdeal.main_arg1) = m ((c.tc : Thread Cert.KernelPoolIdeal.nD Cert.KernelPoolIdeal.τ).loc Cert.KernelPoolIdeal.main_arg1)
      ∧ r.2.mem ((c.tc : Thread Cert.KernelPoolIdeal.nD Cert.KernelPoolIdeal.τ).loc Cert.KernelPoolIdeal.main_arg2) = m ((c.tc : Thread Cert.KernelPoolIdeal.nD Cert.KernelPoolIdeal.τ).loc Cert.KernelPoolIdeal.main_arg2)
      ∧ r.2.mem ((c.tc : Thread Cert.KernelPoolIdeal.nD Cert.KernelPoolIdeal.τ).loc Cert.KernelPoolIdeal.main_arg3) = m ((c.tc : Thread Cert.KernelPoolIdeal.nD Cert.KernelPoolIdeal.τ).loc Cert.KernelPoolIdeal.main_arg3))
      ∧ r.2.sem = fun _ => 0)

def quiescent_ReferencePoolIdeal [hReferencePoolIdeal : Cert.ReferencePoolIdeal.Facts] : Prop :=
  ∀ (m : (ℓ : Loc Cert.ReferencePoolIdeal.nD Cert.ReferencePoolIdeal.τ Cert.ReferencePoolIdeal.sig) → Buf (Elt Ideal) ℓ) (g : Dev Cert.ReferencePoolIdeal.nD → PrngReg), Pre_ReferencePoolIdeal m →
    θ_run (Cert.ReferencePoolIdeal.defs (F := Ideal)) (onTc (τ := Cert.ReferencePoolIdeal.τ) (Cert.ReferencePoolIdeal.main (F := Ideal))) ⟨m, fun _ => 0, g⟩ (fun r => (∀ c : Dev Cert.ReferencePoolIdeal.nD,
      r.2.mem ((c.tc : Thread Cert.ReferencePoolIdeal.nD Cert.ReferencePoolIdeal.τ).loc Cert.ReferencePoolIdeal.main_arg0) = m ((c.tc : Thread Cert.ReferencePoolIdeal.nD Cert.ReferencePoolIdeal.τ).loc Cert.ReferencePoolIdeal.main_arg0)
      ∧ r.2.mem ((c.tc : Thread Cert.ReferencePoolIdeal.nD Cert.ReferencePoolIdeal.τ).loc Cert.ReferencePoolIdeal.main_arg1) = m ((c.tc : Thread Cert.ReferencePoolIdeal.nD Cert.ReferencePoolIdeal.τ).loc Cert.ReferencePoolIdeal.main_arg1)
      ∧ r.2.mem ((c.tc : Thread Cert.ReferencePoolIdeal.nD Cert.ReferencePoolIdeal.τ).loc Cert.ReferencePoolIdeal.main_arg2) = m ((c.tc : Thread Cert.ReferencePoolIdeal.nD Cert.ReferencePoolIdeal.τ).loc Cert.ReferencePoolIdeal.main_arg2)
      ∧ r.2.mem ((c.tc : Thread Cert.ReferencePoolIdeal.nD Cert.ReferencePoolIdeal.τ).loc Cert.ReferencePoolIdeal.main_arg3) = m ((c.tc : Thread Cert.ReferencePoolIdeal.nD Cert.ReferencePoolIdeal.τ).loc Cert.ReferencePoolIdeal.main_arg3))
      ∧ r.2.sem = fun _ => 0)

def quiescent_ReferencePoolIdeal_pre_pool_finite [hReferencePoolIdeal : Cert.ReferencePoolIdeal.Facts] [hPre_pool_finite : Cert.Pre_pool_finite.Facts] : Prop :=
  ∀ (m : (ℓ : Loc Cert.ReferencePoolIdeal.nD Cert.ReferencePoolIdeal.τ Cert.ReferencePoolIdeal.sig) → Buf (Elt Ideal) ℓ) (g : Dev Cert.ReferencePoolIdeal.nD → PrngReg), Pre_ReferencePoolIdeal_pool_finite m →
    θ_run (Cert.ReferencePoolIdeal.defs (F := Ideal)) (onTc (τ := Cert.ReferencePoolIdeal.τ) (Cert.ReferencePoolIdeal.main (F := Ideal))) ⟨m, fun _ => 0, g⟩ (fun r => (∀ c : Dev Cert.ReferencePoolIdeal.nD,
      r.2.mem ((c.tc : Thread Cert.ReferencePoolIdeal.nD Cert.ReferencePoolIdeal.τ).loc Cert.ReferencePoolIdeal.main_arg0) = m ((c.tc : Thread Cert.ReferencePoolIdeal.nD Cert.ReferencePoolIdeal.τ).loc Cert.ReferencePoolIdeal.main_arg0)
      ∧ r.2.mem ((c.tc : Thread Cert.ReferencePoolIdeal.nD Cert.ReferencePoolIdeal.τ).loc Cert.ReferencePoolIdeal.main_arg1) = m ((c.tc : Thread Cert.ReferencePoolIdeal.nD Cert.ReferencePoolIdeal.τ).loc Cert.ReferencePoolIdeal.main_arg1)
      ∧ r.2.mem ((c.tc : Thread Cert.ReferencePoolIdeal.nD Cert.ReferencePoolIdeal.τ).loc Cert.ReferencePoolIdeal.main_arg2) = m ((c.tc : Thread Cert.ReferencePoolIdeal.nD Cert.ReferencePoolIdeal.τ).loc Cert.ReferencePoolIdeal.main_arg2)
      ∧ r.2.mem ((c.tc : Thread Cert.ReferencePoolIdeal.nD Cert.ReferencePoolIdeal.τ).loc Cert.ReferencePoolIdeal.main_arg3) = m ((c.tc : Thread Cert.ReferencePoolIdeal.nD Cert.ReferencePoolIdeal.τ).loc Cert.ReferencePoolIdeal.main_arg3))
      ∧ r.2.sem = fun _ => 0)

def quiescent_KernelPost [hKernelPost : Cert.KernelPost.Facts] : Prop :=
  ∀ (m : (ℓ : Loc Cert.KernelPost.nD Cert.KernelPost.τ Cert.KernelPost.sig) → Buf (Elt Bits) ℓ) (g : Dev Cert.KernelPost.nD → PrngReg), Pre_KernelPost m →
    θ_run (Cert.KernelPost.defs (F := Bits)) (onTc (τ := Cert.KernelPost.τ) (Cert.KernelPost.main (F := Bits))) ⟨m, fun _ => 0, g⟩ (fun r => (∀ c : Dev Cert.KernelPost.nD,
      r.2.mem ((c.tc : Thread Cert.KernelPost.nD Cert.KernelPost.τ).loc Cert.KernelPost.main_arg0) = m ((c.tc : Thread Cert.KernelPost.nD Cert.KernelPost.τ).loc Cert.KernelPost.main_arg0)
      ∧ r.2.mem ((c.tc : Thread Cert.KernelPost.nD Cert.KernelPost.τ).loc Cert.KernelPost.main_arg1) = m ((c.tc : Thread Cert.KernelPost.nD Cert.KernelPost.τ).loc Cert.KernelPost.main_arg1)
      ∧ r.2.mem ((c.tc : Thread Cert.KernelPost.nD Cert.KernelPost.τ).loc Cert.KernelPost.main_arg2) = m ((c.tc : Thread Cert.KernelPost.nD Cert.KernelPost.τ).loc Cert.KernelPost.main_arg2)
      ∧ r.2.mem ((c.tc : Thread Cert.KernelPost.nD Cert.KernelPost.τ).loc Cert.KernelPost.main_arg3) = m ((c.tc : Thread Cert.KernelPost.nD Cert.KernelPost.τ).loc Cert.KernelPost.main_arg3))
      ∧ r.2.sem = fun _ => 0)

def quiescent_KernelPostIdeal [hKernelPostIdeal : Cert.KernelPostIdeal.Facts] : Prop :=
  ∀ (m : (ℓ : Loc Cert.KernelPostIdeal.nD Cert.KernelPostIdeal.τ Cert.KernelPostIdeal.sig) → Buf (Elt Ideal) ℓ) (g : Dev Cert.KernelPostIdeal.nD → PrngReg), Pre_KernelPostIdeal m →
    θ_run (Cert.KernelPostIdeal.defs (F := Ideal)) (onTc (τ := Cert.KernelPostIdeal.τ) (Cert.KernelPostIdeal.main (F := Ideal))) ⟨m, fun _ => 0, g⟩ (fun r => (∀ c : Dev Cert.KernelPostIdeal.nD,
      r.2.mem ((c.tc : Thread Cert.KernelPostIdeal.nD Cert.KernelPostIdeal.τ).loc Cert.KernelPostIdeal.main_arg0) = m ((c.tc : Thread Cert.KernelPostIdeal.nD Cert.KernelPostIdeal.τ).loc Cert.KernelPostIdeal.main_arg0)
      ∧ r.2.mem ((c.tc : Thread Cert.KernelPostIdeal.nD Cert.KernelPostIdeal.τ).loc Cert.KernelPostIdeal.main_arg1) = m ((c.tc : Thread Cert.KernelPostIdeal.nD Cert.KernelPostIdeal.τ).loc Cert.KernelPostIdeal.main_arg1)
      ∧ r.2.mem ((c.tc : Thread Cert.KernelPostIdeal.nD Cert.KernelPostIdeal.τ).loc Cert.KernelPostIdeal.main_arg2) = m ((c.tc : Thread Cert.KernelPostIdeal.nD Cert.KernelPostIdeal.τ).loc Cert.KernelPostIdeal.main_arg2)
      ∧ r.2.mem ((c.tc : Thread Cert.KernelPostIdeal.nD Cert.KernelPostIdeal.τ).loc Cert.KernelPostIdeal.main_arg3) = m ((c.tc : Thread Cert.KernelPostIdeal.nD Cert.KernelPostIdeal.τ).loc Cert.KernelPostIdeal.main_arg3))
      ∧ r.2.sem = fun _ => 0)

def quiescent_ReferencePostIdeal [hReferencePostIdeal : Cert.ReferencePostIdeal.Facts] : Prop :=
  ∀ (m : (ℓ : Loc Cert.ReferencePostIdeal.nD Cert.ReferencePostIdeal.τ Cert.ReferencePostIdeal.sig) → Buf (Elt Ideal) ℓ) (g : Dev Cert.ReferencePostIdeal.nD → PrngReg), Pre_ReferencePostIdeal m →
    θ_run (Cert.ReferencePostIdeal.defs (F := Ideal)) (onTc (τ := Cert.ReferencePostIdeal.τ) (Cert.ReferencePostIdeal.main (F := Ideal))) ⟨m, fun _ => 0, g⟩ (fun r => (∀ c : Dev Cert.ReferencePostIdeal.nD,
      r.2.mem ((c.tc : Thread Cert.ReferencePostIdeal.nD Cert.ReferencePostIdeal.τ).loc Cert.ReferencePostIdeal.main_arg0) = m ((c.tc : Thread Cert.ReferencePostIdeal.nD Cert.ReferencePostIdeal.τ).loc Cert.ReferencePostIdeal.main_arg0)
      ∧ r.2.mem ((c.tc : Thread Cert.ReferencePostIdeal.nD Cert.ReferencePostIdeal.τ).loc Cert.ReferencePostIdeal.main_arg1) = m ((c.tc : Thread Cert.ReferencePostIdeal.nD Cert.ReferencePostIdeal.τ).loc Cert.ReferencePostIdeal.main_arg1)
      ∧ r.2.mem ((c.tc : Thread Cert.ReferencePostIdeal.nD Cert.ReferencePostIdeal.τ).loc Cert.ReferencePostIdeal.main_arg2) = m ((c.tc : Thread Cert.ReferencePostIdeal.nD Cert.ReferencePostIdeal.τ).loc Cert.ReferencePostIdeal.main_arg2)
      ∧ r.2.mem ((c.tc : Thread Cert.ReferencePostIdeal.nD Cert.ReferencePostIdeal.τ).loc Cert.ReferencePostIdeal.main_arg3) = m ((c.tc : Thread Cert.ReferencePostIdeal.nD Cert.ReferencePostIdeal.τ).loc Cert.ReferencePostIdeal.main_arg3))
      ∧ r.2.sem = fun _ => 0)

def quiescent_KernelFfn [hKernelFfn : Cert.KernelFfn.Facts] : Prop :=
  ∀ (m : (ℓ : Loc Cert.KernelFfn.nD Cert.KernelFfn.τ Cert.KernelFfn.sig) → Buf (Elt Bits) ℓ) (g : Dev Cert.KernelFfn.nD → PrngReg), Pre_KernelFfn m →
    θ_run (Cert.KernelFfn.defs (F := Bits)) (onTc (τ := Cert.KernelFfn.τ) (Cert.KernelFfn.main (F := Bits))) ⟨m, fun _ => 0, g⟩ (fun r => (∀ c : Dev Cert.KernelFfn.nD,
      r.2.mem ((c.tc : Thread Cert.KernelFfn.nD Cert.KernelFfn.τ).loc Cert.KernelFfn.main_arg0) = m ((c.tc : Thread Cert.KernelFfn.nD Cert.KernelFfn.τ).loc Cert.KernelFfn.main_arg0)
      ∧ r.2.mem ((c.tc : Thread Cert.KernelFfn.nD Cert.KernelFfn.τ).loc Cert.KernelFfn.main_arg1) = m ((c.tc : Thread Cert.KernelFfn.nD Cert.KernelFfn.τ).loc Cert.KernelFfn.main_arg1)
      ∧ r.2.mem ((c.tc : Thread Cert.KernelFfn.nD Cert.KernelFfn.τ).loc Cert.KernelFfn.main_arg2) = m ((c.tc : Thread Cert.KernelFfn.nD Cert.KernelFfn.τ).loc Cert.KernelFfn.main_arg2)
      ∧ r.2.mem ((c.tc : Thread Cert.KernelFfn.nD Cert.KernelFfn.τ).loc Cert.KernelFfn.main_arg3) = m ((c.tc : Thread Cert.KernelFfn.nD Cert.KernelFfn.τ).loc Cert.KernelFfn.main_arg3)
      ∧ r.2.mem ((c.tc : Thread Cert.KernelFfn.nD Cert.KernelFfn.τ).loc Cert.KernelFfn.main_arg4) = m ((c.tc : Thread Cert.KernelFfn.nD Cert.KernelFfn.τ).loc Cert.KernelFfn.main_arg4)
      ∧ r.2.mem ((c.tc : Thread Cert.KernelFfn.nD Cert.KernelFfn.τ).loc Cert.KernelFfn.main_arg5) = m ((c.tc : Thread Cert.KernelFfn.nD Cert.KernelFfn.τ).loc Cert.KernelFfn.main_arg5))
      ∧ r.2.sem = fun _ => 0)

def quiescent_KernelFfnIdeal [hKernelFfnIdeal : Cert.KernelFfnIdeal.Facts] : Prop :=
  ∀ (m : (ℓ : Loc Cert.KernelFfnIdeal.nD Cert.KernelFfnIdeal.τ Cert.KernelFfnIdeal.sig) → Buf (Elt Ideal) ℓ) (g : Dev Cert.KernelFfnIdeal.nD → PrngReg), Pre_KernelFfnIdeal m →
    θ_run (Cert.KernelFfnIdeal.defs (F := Ideal)) (onTc (τ := Cert.KernelFfnIdeal.τ) (Cert.KernelFfnIdeal.main (F := Ideal))) ⟨m, fun _ => 0, g⟩ (fun r => (∀ c : Dev Cert.KernelFfnIdeal.nD,
      r.2.mem ((c.tc : Thread Cert.KernelFfnIdeal.nD Cert.KernelFfnIdeal.τ).loc Cert.KernelFfnIdeal.main_arg0) = m ((c.tc : Thread Cert.KernelFfnIdeal.nD Cert.KernelFfnIdeal.τ).loc Cert.KernelFfnIdeal.main_arg0)
      ∧ r.2.mem ((c.tc : Thread Cert.KernelFfnIdeal.nD Cert.KernelFfnIdeal.τ).loc Cert.KernelFfnIdeal.main_arg1) = m ((c.tc : Thread Cert.KernelFfnIdeal.nD Cert.KernelFfnIdeal.τ).loc Cert.KernelFfnIdeal.main_arg1)
      ∧ r.2.mem ((c.tc : Thread Cert.KernelFfnIdeal.nD Cert.KernelFfnIdeal.τ).loc Cert.KernelFfnIdeal.main_arg2) = m ((c.tc : Thread Cert.KernelFfnIdeal.nD Cert.KernelFfnIdeal.τ).loc Cert.KernelFfnIdeal.main_arg2)
      ∧ r.2.mem ((c.tc : Thread Cert.KernelFfnIdeal.nD Cert.KernelFfnIdeal.τ).loc Cert.KernelFfnIdeal.main_arg3) = m ((c.tc : Thread Cert.KernelFfnIdeal.nD Cert.KernelFfnIdeal.τ).loc Cert.KernelFfnIdeal.main_arg3)
      ∧ r.2.mem ((c.tc : Thread Cert.KernelFfnIdeal.nD Cert.KernelFfnIdeal.τ).loc Cert.KernelFfnIdeal.main_arg4) = m ((c.tc : Thread Cert.KernelFfnIdeal.nD Cert.KernelFfnIdeal.τ).loc Cert.KernelFfnIdeal.main_arg4)
      ∧ r.2.mem ((c.tc : Thread Cert.KernelFfnIdeal.nD Cert.KernelFfnIdeal.τ).loc Cert.KernelFfnIdeal.main_arg5) = m ((c.tc : Thread Cert.KernelFfnIdeal.nD Cert.KernelFfnIdeal.τ).loc Cert.KernelFfnIdeal.main_arg5))
      ∧ r.2.sem = fun _ => 0)

def quiescent_KernelFfnIdeal_pre_ffn_finite [hKernelFfnIdeal : Cert.KernelFfnIdeal.Facts] [hPre_ffn_finite : Cert.Pre_ffn_finite.Facts] : Prop :=
  ∀ (m : (ℓ : Loc Cert.KernelFfnIdeal.nD Cert.KernelFfnIdeal.τ Cert.KernelFfnIdeal.sig) → Buf (Elt Ideal) ℓ) (g : Dev Cert.KernelFfnIdeal.nD → PrngReg), Pre_KernelFfnIdeal_ffn_finite m →
    θ_run (Cert.KernelFfnIdeal.defs (F := Ideal)) (onTc (τ := Cert.KernelFfnIdeal.τ) (Cert.KernelFfnIdeal.main (F := Ideal))) ⟨m, fun _ => 0, g⟩ (fun r => (∀ c : Dev Cert.KernelFfnIdeal.nD,
      r.2.mem ((c.tc : Thread Cert.KernelFfnIdeal.nD Cert.KernelFfnIdeal.τ).loc Cert.KernelFfnIdeal.main_arg0) = m ((c.tc : Thread Cert.KernelFfnIdeal.nD Cert.KernelFfnIdeal.τ).loc Cert.KernelFfnIdeal.main_arg0)
      ∧ r.2.mem ((c.tc : Thread Cert.KernelFfnIdeal.nD Cert.KernelFfnIdeal.τ).loc Cert.KernelFfnIdeal.main_arg1) = m ((c.tc : Thread Cert.KernelFfnIdeal.nD Cert.KernelFfnIdeal.τ).loc Cert.KernelFfnIdeal.main_arg1)
      ∧ r.2.mem ((c.tc : Thread Cert.KernelFfnIdeal.nD Cert.KernelFfnIdeal.τ).loc Cert.KernelFfnIdeal.main_arg2) = m ((c.tc : Thread Cert.KernelFfnIdeal.nD Cert.KernelFfnIdeal.τ).loc Cert.KernelFfnIdeal.main_arg2)
      ∧ r.2.mem ((c.tc : Thread Cert.KernelFfnIdeal.nD Cert.KernelFfnIdeal.τ).loc Cert.KernelFfnIdeal.main_arg3) = m ((c.tc : Thread Cert.KernelFfnIdeal.nD Cert.KernelFfnIdeal.τ).loc Cert.KernelFfnIdeal.main_arg3)
      ∧ r.2.mem ((c.tc : Thread Cert.KernelFfnIdeal.nD Cert.KernelFfnIdeal.τ).loc Cert.KernelFfnIdeal.main_arg4) = m ((c.tc : Thread Cert.KernelFfnIdeal.nD Cert.KernelFfnIdeal.τ).loc Cert.KernelFfnIdeal.main_arg4)
      ∧ r.2.mem ((c.tc : Thread Cert.KernelFfnIdeal.nD Cert.KernelFfnIdeal.τ).loc Cert.KernelFfnIdeal.main_arg5) = m ((c.tc : Thread Cert.KernelFfnIdeal.nD Cert.KernelFfnIdeal.τ).loc Cert.KernelFfnIdeal.main_arg5))
      ∧ r.2.sem = fun _ => 0)

def quiescent_ReferenceFfnIdeal [hReferenceFfnIdeal : Cert.ReferenceFfnIdeal.Facts] : Prop :=
  ∀ (m : (ℓ : Loc Cert.ReferenceFfnIdeal.nD Cert.ReferenceFfnIdeal.τ Cert.ReferenceFfnIdeal.sig) → Buf (Elt Ideal) ℓ) (g : Dev Cert.ReferenceFfnIdeal.nD → PrngReg), Pre_ReferenceFfnIdeal m →
    θ_run (Cert.ReferenceFfnIdeal.defs (F := Ideal)) (onTc (τ := Cert.ReferenceFfnIdeal.τ) (Cert.ReferenceFfnIdeal.main (F := Ideal))) ⟨m, fun _ => 0, g⟩ (fun r => (∀ c : Dev Cert.ReferenceFfnIdeal.nD,
      r.2.mem ((c.tc : Thread Cert.ReferenceFfnIdeal.nD Cert.ReferenceFfnIdeal.τ).loc Cert.ReferenceFfnIdeal.main_arg0) = m ((c.tc : Thread Cert.ReferenceFfnIdeal.nD Cert.ReferenceFfnIdeal.τ).loc Cert.ReferenceFfnIdeal.main_arg0)
      ∧ r.2.mem ((c.tc : Thread Cert.ReferenceFfnIdeal.nD Cert.ReferenceFfnIdeal.τ).loc Cert.ReferenceFfnIdeal.main_arg1) = m ((c.tc : Thread Cert.ReferenceFfnIdeal.nD Cert.ReferenceFfnIdeal.τ).loc Cert.ReferenceFfnIdeal.main_arg1)
      ∧ r.2.mem ((c.tc : Thread Cert.ReferenceFfnIdeal.nD Cert.ReferenceFfnIdeal.τ).loc Cert.ReferenceFfnIdeal.main_arg2) = m ((c.tc : Thread Cert.ReferenceFfnIdeal.nD Cert.ReferenceFfnIdeal.τ).loc Cert.ReferenceFfnIdeal.main_arg2)
      ∧ r.2.mem ((c.tc : Thread Cert.ReferenceFfnIdeal.nD Cert.ReferenceFfnIdeal.τ).loc Cert.ReferenceFfnIdeal.main_arg3) = m ((c.tc : Thread Cert.ReferenceFfnIdeal.nD Cert.ReferenceFfnIdeal.τ).loc Cert.ReferenceFfnIdeal.main_arg3)
      ∧ r.2.mem ((c.tc : Thread Cert.ReferenceFfnIdeal.nD Cert.ReferenceFfnIdeal.τ).loc Cert.ReferenceFfnIdeal.main_arg4) = m ((c.tc : Thread Cert.ReferenceFfnIdeal.nD Cert.ReferenceFfnIdeal.τ).loc Cert.ReferenceFfnIdeal.main_arg4)
      ∧ r.2.mem ((c.tc : Thread Cert.ReferenceFfnIdeal.nD Cert.ReferenceFfnIdeal.τ).loc Cert.ReferenceFfnIdeal.main_arg5) = m ((c.tc : Thread Cert.ReferenceFfnIdeal.nD Cert.ReferenceFfnIdeal.τ).loc Cert.ReferenceFfnIdeal.main_arg5))
      ∧ r.2.sem = fun _ => 0)

def quiescent_ReferenceFfnIdeal_pre_ffn_finite [hReferenceFfnIdeal : Cert.ReferenceFfnIdeal.Facts] [hPre_ffn_finite : Cert.Pre_ffn_finite.Facts] : Prop :=
  ∀ (m : (ℓ : Loc Cert.ReferenceFfnIdeal.nD Cert.ReferenceFfnIdeal.τ Cert.ReferenceFfnIdeal.sig) → Buf (Elt Ideal) ℓ) (g : Dev Cert.ReferenceFfnIdeal.nD → PrngReg), Pre_ReferenceFfnIdeal_ffn_finite m →
    θ_run (Cert.ReferenceFfnIdeal.defs (F := Ideal)) (onTc (τ := Cert.ReferenceFfnIdeal.τ) (Cert.ReferenceFfnIdeal.main (F := Ideal))) ⟨m, fun _ => 0, g⟩ (fun r => (∀ c : Dev Cert.ReferenceFfnIdeal.nD,
      r.2.mem ((c.tc : Thread Cert.ReferenceFfnIdeal.nD Cert.ReferenceFfnIdeal.τ).loc Cert.ReferenceFfnIdeal.main_arg0) = m ((c.tc : Thread Cert.ReferenceFfnIdeal.nD Cert.ReferenceFfnIdeal.τ).loc Cert.ReferenceFfnIdeal.main_arg0)
      ∧ r.2.mem ((c.tc : Thread Cert.ReferenceFfnIdeal.nD Cert.ReferenceFfnIdeal.τ).loc Cert.ReferenceFfnIdeal.main_arg1) = m ((c.tc : Thread Cert.ReferenceFfnIdeal.nD Cert.ReferenceFfnIdeal.τ).loc Cert.ReferenceFfnIdeal.main_arg1)
      ∧ r.2.mem ((c.tc : Thread Cert.ReferenceFfnIdeal.nD Cert.ReferenceFfnIdeal.τ).loc Cert.ReferenceFfnIdeal.main_arg2) = m ((c.tc : Thread Cert.ReferenceFfnIdeal.nD Cert.ReferenceFfnIdeal.τ).loc Cert.ReferenceFfnIdeal.main_arg2)
      ∧ r.2.mem ((c.tc : Thread Cert.ReferenceFfnIdeal.nD Cert.ReferenceFfnIdeal.τ).loc Cert.ReferenceFfnIdeal.main_arg3) = m ((c.tc : Thread Cert.ReferenceFfnIdeal.nD Cert.ReferenceFfnIdeal.τ).loc Cert.ReferenceFfnIdeal.main_arg3)
      ∧ r.2.mem ((c.tc : Thread Cert.ReferenceFfnIdeal.nD Cert.ReferenceFfnIdeal.τ).loc Cert.ReferenceFfnIdeal.main_arg4) = m ((c.tc : Thread Cert.ReferenceFfnIdeal.nD Cert.ReferenceFfnIdeal.τ).loc Cert.ReferenceFfnIdeal.main_arg4)
      ∧ r.2.mem ((c.tc : Thread Cert.ReferenceFfnIdeal.nD Cert.ReferenceFfnIdeal.τ).loc Cert.ReferenceFfnIdeal.main_arg5) = m ((c.tc : Thread Cert.ReferenceFfnIdeal.nD Cert.ReferenceFfnIdeal.τ).loc Cert.ReferenceFfnIdeal.main_arg5))
      ∧ r.2.sem = fun _ => 0)

def quiescent_KernelConvFwd [hKernelConvFwd : Cert.KernelConvFwd.Facts] : Prop :=
  ∀ (m : (ℓ : Loc Cert.KernelConvFwd.nD Cert.KernelConvFwd.τ Cert.KernelConvFwd.sig) → Buf (Elt Bits) ℓ) (g : Dev Cert.KernelConvFwd.nD → PrngReg), Pre_KernelConvFwd m →
    θ_run (Cert.KernelConvFwd.defs (F := Bits)) (onTc (τ := Cert.KernelConvFwd.τ) (Cert.KernelConvFwd.main (F := Bits))) ⟨m, fun _ => 0, g⟩ (fun r => (∀ c : Dev Cert.KernelConvFwd.nD,
      r.2.mem ((c.tc : Thread Cert.KernelConvFwd.nD Cert.KernelConvFwd.τ).loc Cert.KernelConvFwd.main_arg0) = m ((c.tc : Thread Cert.KernelConvFwd.nD Cert.KernelConvFwd.τ).loc Cert.KernelConvFwd.main_arg0)
      ∧ r.2.mem ((c.tc : Thread Cert.KernelConvFwd.nD Cert.KernelConvFwd.τ).loc Cert.KernelConvFwd.main_arg1) = m ((c.tc : Thread Cert.KernelConvFwd.nD Cert.KernelConvFwd.τ).loc Cert.KernelConvFwd.main_arg1))
      ∧ r.2.sem = fun _ => 0)

def quiescent_KernelConvFwdIdeal [hKernelConvFwdIdeal : Cert.KernelConvFwdIdeal.Facts] : Prop :=
  ∀ (m : (ℓ : Loc Cert.KernelConvFwdIdeal.nD Cert.KernelConvFwdIdeal.τ Cert.KernelConvFwdIdeal.sig) → Buf (Elt Ideal) ℓ) (g : Dev Cert.KernelConvFwdIdeal.nD → PrngReg), Pre_KernelConvFwdIdeal m →
    θ_run (Cert.KernelConvFwdIdeal.defs (F := Ideal)) (onTc (τ := Cert.KernelConvFwdIdeal.τ) (Cert.KernelConvFwdIdeal.main (F := Ideal))) ⟨m, fun _ => 0, g⟩ (fun r => (∀ c : Dev Cert.KernelConvFwdIdeal.nD,
      r.2.mem ((c.tc : Thread Cert.KernelConvFwdIdeal.nD Cert.KernelConvFwdIdeal.τ).loc Cert.KernelConvFwdIdeal.main_arg0) = m ((c.tc : Thread Cert.KernelConvFwdIdeal.nD Cert.KernelConvFwdIdeal.τ).loc Cert.KernelConvFwdIdeal.main_arg0)
      ∧ r.2.mem ((c.tc : Thread Cert.KernelConvFwdIdeal.nD Cert.KernelConvFwdIdeal.τ).loc Cert.KernelConvFwdIdeal.main_arg1) = m ((c.tc : Thread Cert.KernelConvFwdIdeal.nD Cert.KernelConvFwdIdeal.τ).loc Cert.KernelConvFwdIdeal.main_arg1))
      ∧ r.2.sem = fun _ => 0)

def quiescent_ReferenceConvFwdIdeal [hReferenceConvFwdIdeal : Cert.ReferenceConvFwdIdeal.Facts] : Prop :=
  ∀ (m : (ℓ : Loc Cert.ReferenceConvFwdIdeal.nD Cert.ReferenceConvFwdIdeal.τ Cert.ReferenceConvFwdIdeal.sig) → Buf (Elt Ideal) ℓ) (g : Dev Cert.ReferenceConvFwdIdeal.nD → PrngReg), Pre_ReferenceConvFwdIdeal m →
    θ_run (Cert.ReferenceConvFwdIdeal.defs (F := Ideal)) (onTc (τ := Cert.ReferenceConvFwdIdeal.τ) (Cert.ReferenceConvFwdIdeal.main (F := Ideal))) ⟨m, fun _ => 0, g⟩ (fun r => (∀ c : Dev Cert.ReferenceConvFwdIdeal.nD,
      r.2.mem ((c.tc : Thread Cert.ReferenceConvFwdIdeal.nD Cert.ReferenceConvFwdIdeal.τ).loc Cert.ReferenceConvFwdIdeal.main_arg0) = m ((c.tc : Thread Cert.ReferenceConvFwdIdeal.nD Cert.ReferenceConvFwdIdeal.τ).loc Cert.ReferenceConvFwdIdeal.main_arg0)
      ∧ r.2.mem ((c.tc : Thread Cert.ReferenceConvFwdIdeal.nD Cert.ReferenceConvFwdIdeal.τ).loc Cert.ReferenceConvFwdIdeal.main_arg1) = m ((c.tc : Thread Cert.ReferenceConvFwdIdeal.nD Cert.ReferenceConvFwdIdeal.τ).loc Cert.ReferenceConvFwdIdeal.main_arg1))
      ∧ r.2.sem = fun _ => 0)

def quiescent_KernelPostFwd [hKernelPostFwd : Cert.KernelPostFwd.Facts] : Prop :=
  ∀ (m : (ℓ : Loc Cert.KernelPostFwd.nD Cert.KernelPostFwd.τ Cert.KernelPostFwd.sig) → Buf (Elt Bits) ℓ) (g : Dev Cert.KernelPostFwd.nD → PrngReg), Pre_KernelPostFwd m →
    θ_run (Cert.KernelPostFwd.defs (F := Bits)) (onTc (τ := Cert.KernelPostFwd.τ) (Cert.KernelPostFwd.main (F := Bits))) ⟨m, fun _ => 0, g⟩ (fun r => (∀ c : Dev Cert.KernelPostFwd.nD,
      r.2.mem ((c.tc : Thread Cert.KernelPostFwd.nD Cert.KernelPostFwd.τ).loc Cert.KernelPostFwd.main_arg0) = m ((c.tc : Thread Cert.KernelPostFwd.nD Cert.KernelPostFwd.τ).loc Cert.KernelPostFwd.main_arg0)
      ∧ r.2.mem ((c.tc : Thread Cert.KernelPostFwd.nD Cert.KernelPostFwd.τ).loc Cert.KernelPostFwd.main_arg1) = m ((c.tc : Thread Cert.KernelPostFwd.nD Cert.KernelPostFwd.τ).loc Cert.KernelPostFwd.main_arg1)
      ∧ r.2.mem ((c.tc : Thread Cert.KernelPostFwd.nD Cert.KernelPostFwd.τ).loc Cert.KernelPostFwd.main_arg2) = m ((c.tc : Thread Cert.KernelPostFwd.nD Cert.KernelPostFwd.τ).loc Cert.KernelPostFwd.main_arg2))
      ∧ r.2.sem = fun _ => 0)

def quiescent_KernelPostFwdIdeal [hKernelPostFwdIdeal : Cert.KernelPostFwdIdeal.Facts] : Prop :=
  ∀ (m : (ℓ : Loc Cert.KernelPostFwdIdeal.nD Cert.KernelPostFwdIdeal.τ Cert.KernelPostFwdIdeal.sig) → Buf (Elt Ideal) ℓ) (g : Dev Cert.KernelPostFwdIdeal.nD → PrngReg), Pre_KernelPostFwdIdeal m →
    θ_run (Cert.KernelPostFwdIdeal.defs (F := Ideal)) (onTc (τ := Cert.KernelPostFwdIdeal.τ) (Cert.KernelPostFwdIdeal.main (F := Ideal))) ⟨m, fun _ => 0, g⟩ (fun r => (∀ c : Dev Cert.KernelPostFwdIdeal.nD,
      r.2.mem ((c.tc : Thread Cert.KernelPostFwdIdeal.nD Cert.KernelPostFwdIdeal.τ).loc Cert.KernelPostFwdIdeal.main_arg0) = m ((c.tc : Thread Cert.KernelPostFwdIdeal.nD Cert.KernelPostFwdIdeal.τ).loc Cert.KernelPostFwdIdeal.main_arg0)
      ∧ r.2.mem ((c.tc : Thread Cert.KernelPostFwdIdeal.nD Cert.KernelPostFwdIdeal.τ).loc Cert.KernelPostFwdIdeal.main_arg1) = m ((c.tc : Thread Cert.KernelPostFwdIdeal.nD Cert.KernelPostFwdIdeal.τ).loc Cert.KernelPostFwdIdeal.main_arg1)
      ∧ r.2.mem ((c.tc : Thread Cert.KernelPostFwdIdeal.nD Cert.KernelPostFwdIdeal.τ).loc Cert.KernelPostFwdIdeal.main_arg2) = m ((c.tc : Thread Cert.KernelPostFwdIdeal.nD Cert.KernelPostFwdIdeal.τ).loc Cert.KernelPostFwdIdeal.main_arg2))
      ∧ r.2.sem = fun _ => 0)

def quiescent_ReferencePostFwdIdeal [hReferencePostFwdIdeal : Cert.ReferencePostFwdIdeal.Facts] : Prop :=
  ∀ (m : (ℓ : Loc Cert.ReferencePostFwdIdeal.nD Cert.ReferencePostFwdIdeal.τ Cert.ReferencePostFwdIdeal.sig) → Buf (Elt Ideal) ℓ) (g : Dev Cert.ReferencePostFwdIdeal.nD → PrngReg), Pre_ReferencePostFwdIdeal m →
    θ_run (Cert.ReferencePostFwdIdeal.defs (F := Ideal)) (onTc (τ := Cert.ReferencePostFwdIdeal.τ) (Cert.ReferencePostFwdIdeal.main (F := Ideal))) ⟨m, fun _ => 0, g⟩ (fun r => (∀ c : Dev Cert.ReferencePostFwdIdeal.nD,
      r.2.mem ((c.tc : Thread Cert.ReferencePostFwdIdeal.nD Cert.ReferencePostFwdIdeal.τ).loc Cert.ReferencePostFwdIdeal.main_arg0) = m ((c.tc : Thread Cert.ReferencePostFwdIdeal.nD Cert.ReferencePostFwdIdeal.τ).loc Cert.ReferencePostFwdIdeal.main_arg0)
      ∧ r.2.mem ((c.tc : Thread Cert.ReferencePostFwdIdeal.nD Cert.ReferencePostFwdIdeal.τ).loc Cert.ReferencePostFwdIdeal.main_arg1) = m ((c.tc : Thread Cert.ReferencePostFwdIdeal.nD Cert.ReferencePostFwdIdeal.τ).loc Cert.ReferencePostFwdIdeal.main_arg1)
      ∧ r.2.mem ((c.tc : Thread Cert.ReferencePostFwdIdeal.nD Cert.ReferencePostFwdIdeal.τ).loc Cert.ReferencePostFwdIdeal.main_arg2) = m ((c.tc : Thread Cert.ReferencePostFwdIdeal.nD Cert.ReferencePostFwdIdeal.τ).loc Cert.ReferencePostFwdIdeal.main_arg2))
      ∧ r.2.sem = fun _ => 0)

def quiescent_KernelPoolFwd [hKernelPoolFwd : Cert.KernelPoolFwd.Facts] : Prop :=
  ∀ (m : (ℓ : Loc Cert.KernelPoolFwd.nD Cert.KernelPoolFwd.τ Cert.KernelPoolFwd.sig) → Buf (Elt Bits) ℓ) (g : Dev Cert.KernelPoolFwd.nD → PrngReg), Pre_KernelPoolFwd m →
    θ_run (Cert.KernelPoolFwd.defs (F := Bits)) (onTc (τ := Cert.KernelPoolFwd.τ) (Cert.KernelPoolFwd.main (F := Bits))) ⟨m, fun _ => 0, g⟩ (fun r => (∀ c : Dev Cert.KernelPoolFwd.nD,
      r.2.mem ((c.tc : Thread Cert.KernelPoolFwd.nD Cert.KernelPoolFwd.τ).loc Cert.KernelPoolFwd.main_arg0) = m ((c.tc : Thread Cert.KernelPoolFwd.nD Cert.KernelPoolFwd.τ).loc Cert.KernelPoolFwd.main_arg0)
      ∧ r.2.mem ((c.tc : Thread Cert.KernelPoolFwd.nD Cert.KernelPoolFwd.τ).loc Cert.KernelPoolFwd.main_arg1) = m ((c.tc : Thread Cert.KernelPoolFwd.nD Cert.KernelPoolFwd.τ).loc Cert.KernelPoolFwd.main_arg1)
      ∧ r.2.mem ((c.tc : Thread Cert.KernelPoolFwd.nD Cert.KernelPoolFwd.τ).loc Cert.KernelPoolFwd.main_arg2) = m ((c.tc : Thread Cert.KernelPoolFwd.nD Cert.KernelPoolFwd.τ).loc Cert.KernelPoolFwd.main_arg2))
      ∧ r.2.sem = fun _ => 0)

def quiescent_KernelPoolFwdIdeal [hKernelPoolFwdIdeal : Cert.KernelPoolFwdIdeal.Facts] : Prop :=
  ∀ (m : (ℓ : Loc Cert.KernelPoolFwdIdeal.nD Cert.KernelPoolFwdIdeal.τ Cert.KernelPoolFwdIdeal.sig) → Buf (Elt Ideal) ℓ) (g : Dev Cert.KernelPoolFwdIdeal.nD → PrngReg), Pre_KernelPoolFwdIdeal m →
    θ_run (Cert.KernelPoolFwdIdeal.defs (F := Ideal)) (onTc (τ := Cert.KernelPoolFwdIdeal.τ) (Cert.KernelPoolFwdIdeal.main (F := Ideal))) ⟨m, fun _ => 0, g⟩ (fun r => (∀ c : Dev Cert.KernelPoolFwdIdeal.nD,
      r.2.mem ((c.tc : Thread Cert.KernelPoolFwdIdeal.nD Cert.KernelPoolFwdIdeal.τ).loc Cert.KernelPoolFwdIdeal.main_arg0) = m ((c.tc : Thread Cert.KernelPoolFwdIdeal.nD Cert.KernelPoolFwdIdeal.τ).loc Cert.KernelPoolFwdIdeal.main_arg0)
      ∧ r.2.mem ((c.tc : Thread Cert.KernelPoolFwdIdeal.nD Cert.KernelPoolFwdIdeal.τ).loc Cert.KernelPoolFwdIdeal.main_arg1) = m ((c.tc : Thread Cert.KernelPoolFwdIdeal.nD Cert.KernelPoolFwdIdeal.τ).loc Cert.KernelPoolFwdIdeal.main_arg1)
      ∧ r.2.mem ((c.tc : Thread Cert.KernelPoolFwdIdeal.nD Cert.KernelPoolFwdIdeal.τ).loc Cert.KernelPoolFwdIdeal.main_arg2) = m ((c.tc : Thread Cert.KernelPoolFwdIdeal.nD Cert.KernelPoolFwdIdeal.τ).loc Cert.KernelPoolFwdIdeal.main_arg2))
      ∧ r.2.sem = fun _ => 0)

def quiescent_KernelPoolFwdIdeal_pre_pooled_finite [hKernelPoolFwdIdeal : Cert.KernelPoolFwdIdeal.Facts] [hPre_pooled_finite : Cert.Pre_pooled_finite.Facts] : Prop :=
  ∀ (m : (ℓ : Loc Cert.KernelPoolFwdIdeal.nD Cert.KernelPoolFwdIdeal.τ Cert.KernelPoolFwdIdeal.sig) → Buf (Elt Ideal) ℓ) (g : Dev Cert.KernelPoolFwdIdeal.nD → PrngReg), Pre_KernelPoolFwdIdeal_pooled_finite m →
    θ_run (Cert.KernelPoolFwdIdeal.defs (F := Ideal)) (onTc (τ := Cert.KernelPoolFwdIdeal.τ) (Cert.KernelPoolFwdIdeal.main (F := Ideal))) ⟨m, fun _ => 0, g⟩ (fun r => (∀ c : Dev Cert.KernelPoolFwdIdeal.nD,
      r.2.mem ((c.tc : Thread Cert.KernelPoolFwdIdeal.nD Cert.KernelPoolFwdIdeal.τ).loc Cert.KernelPoolFwdIdeal.main_arg0) = m ((c.tc : Thread Cert.KernelPoolFwdIdeal.nD Cert.KernelPoolFwdIdeal.τ).loc Cert.KernelPoolFwdIdeal.main_arg0)
      ∧ r.2.mem ((c.tc : Thread Cert.KernelPoolFwdIdeal.nD Cert.KernelPoolFwdIdeal.τ).loc Cert.KernelPoolFwdIdeal.main_arg1) = m ((c.tc : Thread Cert.KernelPoolFwdIdeal.nD Cert.KernelPoolFwdIdeal.τ).loc Cert.KernelPoolFwdIdeal.main_arg1)
      ∧ r.2.mem ((c.tc : Thread Cert.KernelPoolFwdIdeal.nD Cert.KernelPoolFwdIdeal.τ).loc Cert.KernelPoolFwdIdeal.main_arg2) = m ((c.tc : Thread Cert.KernelPoolFwdIdeal.nD Cert.KernelPoolFwdIdeal.τ).loc Cert.KernelPoolFwdIdeal.main_arg2))
      ∧ r.2.sem = fun _ => 0)

def quiescent_ReferencePoolFwdIdeal [hReferencePoolFwdIdeal : Cert.ReferencePoolFwdIdeal.Facts] : Prop :=
  ∀ (m : (ℓ : Loc Cert.ReferencePoolFwdIdeal.nD Cert.ReferencePoolFwdIdeal.τ Cert.ReferencePoolFwdIdeal.sig) → Buf (Elt Ideal) ℓ) (g : Dev Cert.ReferencePoolFwdIdeal.nD → PrngReg), Pre_ReferencePoolFwdIdeal m →
    θ_run (Cert.ReferencePoolFwdIdeal.defs (F := Ideal)) (onTc (τ := Cert.ReferencePoolFwdIdeal.τ) (Cert.ReferencePoolFwdIdeal.main (F := Ideal))) ⟨m, fun _ => 0, g⟩ (fun r => (∀ c : Dev Cert.ReferencePoolFwdIdeal.nD,
      r.2.mem ((c.tc : Thread Cert.ReferencePoolFwdIdeal.nD Cert.ReferencePoolFwdIdeal.τ).loc Cert.ReferencePoolFwdIdeal.main_arg0) = m ((c.tc : Thread Cert.ReferencePoolFwdIdeal.nD Cert.ReferencePoolFwdIdeal.τ).loc Cert.ReferencePoolFwdIdeal.main_arg0)
      ∧ r.2.mem ((c.tc : Thread Cert.ReferencePoolFwdIdeal.nD Cert.ReferencePoolFwdIdeal.τ).loc Cert.ReferencePoolFwdIdeal.main_arg1) = m ((c.tc : Thread Cert.ReferencePoolFwdIdeal.nD Cert.ReferencePoolFwdIdeal.τ).loc Cert.ReferencePoolFwdIdeal.main_arg1)
      ∧ r.2.mem ((c.tc : Thread Cert.ReferencePoolFwdIdeal.nD Cert.ReferencePoolFwdIdeal.τ).loc Cert.ReferencePoolFwdIdeal.main_arg2) = m ((c.tc : Thread Cert.ReferencePoolFwdIdeal.nD Cert.ReferencePoolFwdIdeal.τ).loc Cert.ReferencePoolFwdIdeal.main_arg2))
      ∧ r.2.sem = fun _ => 0)

def quiescent_ReferencePoolFwdIdeal_pre_pooled_finite [hReferencePoolFwdIdeal : Cert.ReferencePoolFwdIdeal.Facts] [hPre_pooled_finite : Cert.Pre_pooled_finite.Facts] : Prop :=
  ∀ (m : (ℓ : Loc Cert.ReferencePoolFwdIdeal.nD Cert.ReferencePoolFwdIdeal.τ Cert.ReferencePoolFwdIdeal.sig) → Buf (Elt Ideal) ℓ) (g : Dev Cert.ReferencePoolFwdIdeal.nD → PrngReg), Pre_ReferencePoolFwdIdeal_pooled_finite m →
    θ_run (Cert.ReferencePoolFwdIdeal.defs (F := Ideal)) (onTc (τ := Cert.ReferencePoolFwdIdeal.τ) (Cert.ReferencePoolFwdIdeal.main (F := Ideal))) ⟨m, fun _ => 0, g⟩ (fun r => (∀ c : Dev Cert.ReferencePoolFwdIdeal.nD,
      r.2.mem ((c.tc : Thread Cert.ReferencePoolFwdIdeal.nD Cert.ReferencePoolFwdIdeal.τ).loc Cert.ReferencePoolFwdIdeal.main_arg0) = m ((c.tc : Thread Cert.ReferencePoolFwdIdeal.nD Cert.ReferencePoolFwdIdeal.τ).loc Cert.ReferencePoolFwdIdeal.main_arg0)
      ∧ r.2.mem ((c.tc : Thread Cert.ReferencePoolFwdIdeal.nD Cert.ReferencePoolFwdIdeal.τ).loc Cert.ReferencePoolFwdIdeal.main_arg1) = m ((c.tc : Thread Cert.ReferencePoolFwdIdeal.nD Cert.ReferencePoolFwdIdeal.τ).loc Cert.ReferencePoolFwdIdeal.main_arg1)
      ∧ r.2.mem ((c.tc : Thread Cert.ReferencePoolFwdIdeal.nD Cert.ReferencePoolFwdIdeal.τ).loc Cert.ReferencePoolFwdIdeal.main_arg2) = m ((c.tc : Thread Cert.ReferencePoolFwdIdeal.nD Cert.ReferencePoolFwdIdeal.τ).loc Cert.ReferencePoolFwdIdeal.main_arg2))
      ∧ r.2.sem = fun _ => 0)

def quiescent_KernelFfnFwd [hKernelFfnFwd : Cert.KernelFfnFwd.Facts] : Prop :=
  ∀ (m : (ℓ : Loc Cert.KernelFfnFwd.nD Cert.KernelFfnFwd.τ Cert.KernelFfnFwd.sig) → Buf (Elt Bits) ℓ) (g : Dev Cert.KernelFfnFwd.nD → PrngReg), Pre_KernelFfnFwd m →
    θ_run (Cert.KernelFfnFwd.defs (F := Bits)) (onTc (τ := Cert.KernelFfnFwd.τ) (Cert.KernelFfnFwd.main (F := Bits))) ⟨m, fun _ => 0, g⟩ (fun r => (∀ c : Dev Cert.KernelFfnFwd.nD,
      r.2.mem ((c.tc : Thread Cert.KernelFfnFwd.nD Cert.KernelFfnFwd.τ).loc Cert.KernelFfnFwd.main_arg0) = m ((c.tc : Thread Cert.KernelFfnFwd.nD Cert.KernelFfnFwd.τ).loc Cert.KernelFfnFwd.main_arg0)
      ∧ r.2.mem ((c.tc : Thread Cert.KernelFfnFwd.nD Cert.KernelFfnFwd.τ).loc Cert.KernelFfnFwd.main_arg1) = m ((c.tc : Thread Cert.KernelFfnFwd.nD Cert.KernelFfnFwd.τ).loc Cert.KernelFfnFwd.main_arg1)
      ∧ r.2.mem ((c.tc : Thread Cert.KernelFfnFwd.nD Cert.KernelFfnFwd.τ).loc Cert.KernelFfnFwd.main_arg2) = m ((c.tc : Thread Cert.KernelFfnFwd.nD Cert.KernelFfnFwd.τ).loc Cert.KernelFfnFwd.main_arg2)
      ∧ r.2.mem ((c.tc : Thread Cert.KernelFfnFwd.nD Cert.KernelFfnFwd.τ).loc Cert.KernelFfnFwd.main_arg3) = m ((c.tc : Thread Cert.KernelFfnFwd.nD Cert.KernelFfnFwd.τ).loc Cert.KernelFfnFwd.main_arg3)
      ∧ r.2.mem ((c.tc : Thread Cert.KernelFfnFwd.nD Cert.KernelFfnFwd.τ).loc Cert.KernelFfnFwd.main_arg4) = m ((c.tc : Thread Cert.KernelFfnFwd.nD Cert.KernelFfnFwd.τ).loc Cert.KernelFfnFwd.main_arg4))
      ∧ r.2.sem = fun _ => 0)

def quiescent_KernelFfnFwdIdeal [hKernelFfnFwdIdeal : Cert.KernelFfnFwdIdeal.Facts] : Prop :=
  ∀ (m : (ℓ : Loc Cert.KernelFfnFwdIdeal.nD Cert.KernelFfnFwdIdeal.τ Cert.KernelFfnFwdIdeal.sig) → Buf (Elt Ideal) ℓ) (g : Dev Cert.KernelFfnFwdIdeal.nD → PrngReg), Pre_KernelFfnFwdIdeal m →
    θ_run (Cert.KernelFfnFwdIdeal.defs (F := Ideal)) (onTc (τ := Cert.KernelFfnFwdIdeal.τ) (Cert.KernelFfnFwdIdeal.main (F := Ideal))) ⟨m, fun _ => 0, g⟩ (fun r => (∀ c : Dev Cert.KernelFfnFwdIdeal.nD,
      r.2.mem ((c.tc : Thread Cert.KernelFfnFwdIdeal.nD Cert.KernelFfnFwdIdeal.τ).loc Cert.KernelFfnFwdIdeal.main_arg0) = m ((c.tc : Thread Cert.KernelFfnFwdIdeal.nD Cert.KernelFfnFwdIdeal.τ).loc Cert.KernelFfnFwdIdeal.main_arg0)
      ∧ r.2.mem ((c.tc : Thread Cert.KernelFfnFwdIdeal.nD Cert.KernelFfnFwdIdeal.τ).loc Cert.KernelFfnFwdIdeal.main_arg1) = m ((c.tc : Thread Cert.KernelFfnFwdIdeal.nD Cert.KernelFfnFwdIdeal.τ).loc Cert.KernelFfnFwdIdeal.main_arg1)
      ∧ r.2.mem ((c.tc : Thread Cert.KernelFfnFwdIdeal.nD Cert.KernelFfnFwdIdeal.τ).loc Cert.KernelFfnFwdIdeal.main_arg2) = m ((c.tc : Thread Cert.KernelFfnFwdIdeal.nD Cert.KernelFfnFwdIdeal.τ).loc Cert.KernelFfnFwdIdeal.main_arg2)
      ∧ r.2.mem ((c.tc : Thread Cert.KernelFfnFwdIdeal.nD Cert.KernelFfnFwdIdeal.τ).loc Cert.KernelFfnFwdIdeal.main_arg3) = m ((c.tc : Thread Cert.KernelFfnFwdIdeal.nD Cert.KernelFfnFwdIdeal.τ).loc Cert.KernelFfnFwdIdeal.main_arg3)
      ∧ r.2.mem ((c.tc : Thread Cert.KernelFfnFwdIdeal.nD Cert.KernelFfnFwdIdeal.τ).loc Cert.KernelFfnFwdIdeal.main_arg4) = m ((c.tc : Thread Cert.KernelFfnFwdIdeal.nD Cert.KernelFfnFwdIdeal.τ).loc Cert.KernelFfnFwdIdeal.main_arg4))
      ∧ r.2.sem = fun _ => 0)

def quiescent_ReferenceFfnFwdIdeal [hReferenceFfnFwdIdeal : Cert.ReferenceFfnFwdIdeal.Facts] : Prop :=
  ∀ (m : (ℓ : Loc Cert.ReferenceFfnFwdIdeal.nD Cert.ReferenceFfnFwdIdeal.τ Cert.ReferenceFfnFwdIdeal.sig) → Buf (Elt Ideal) ℓ) (g : Dev Cert.ReferenceFfnFwdIdeal.nD → PrngReg), Pre_ReferenceFfnFwdIdeal m →
    θ_run (Cert.ReferenceFfnFwdIdeal.defs (F := Ideal)) (onTc (τ := Cert.ReferenceFfnFwdIdeal.τ) (Cert.ReferenceFfnFwdIdeal.main (F := Ideal))) ⟨m, fun _ => 0, g⟩ (fun r => (∀ c : Dev Cert.ReferenceFfnFwdIdeal.nD,
      r.2.mem ((c.tc : Thread Cert.ReferenceFfnFwdIdeal.nD Cert.ReferenceFfnFwdIdeal.τ).loc Cert.ReferenceFfnFwdIdeal.main_arg0) = m ((c.tc : Thread Cert.ReferenceFfnFwdIdeal.nD Cert.ReferenceFfnFwdIdeal.τ).loc Cert.ReferenceFfnFwdIdeal.main_arg0)
      ∧ r.2.mem ((c.tc : Thread Cert.ReferenceFfnFwdIdeal.nD Cert.ReferenceFfnFwdIdeal.τ).loc Cert.ReferenceFfnFwdIdeal.main_arg1) = m ((c.tc : Thread Cert.ReferenceFfnFwdIdeal.nD Cert.ReferenceFfnFwdIdeal.τ).loc Cert.ReferenceFfnFwdIdeal.main_arg1)
      ∧ r.2.mem ((c.tc : Thread Cert.ReferenceFfnFwdIdeal.nD Cert.ReferenceFfnFwdIdeal.τ).loc Cert.ReferenceFfnFwdIdeal.main_arg2) = m ((c.tc : Thread Cert.ReferenceFfnFwdIdeal.nD Cert.ReferenceFfnFwdIdeal.τ).loc Cert.ReferenceFfnFwdIdeal.main_arg2)
      ∧ r.2.mem ((c.tc : Thread Cert.ReferenceFfnFwdIdeal.nD Cert.ReferenceFfnFwdIdeal.τ).loc Cert.ReferenceFfnFwdIdeal.main_arg3) = m ((c.tc : Thread Cert.ReferenceFfnFwdIdeal.nD Cert.ReferenceFfnFwdIdeal.τ).loc Cert.ReferenceFfnFwdIdeal.main_arg3)
      ∧ r.2.mem ((c.tc : Thread Cert.ReferenceFfnFwdIdeal.nD Cert.ReferenceFfnFwdIdeal.τ).loc Cert.ReferenceFfnFwdIdeal.main_arg4) = m ((c.tc : Thread Cert.ReferenceFfnFwdIdeal.nD Cert.ReferenceFfnFwdIdeal.τ).loc Cert.ReferenceFfnFwdIdeal.main_arg4))
      ∧ r.2.sem = fun _ => 0)

def quiescent_KernelLocal [hKernelLocal : Cert.KernelLocal.Facts] : Prop :=
  ∀ (m : (ℓ : Loc Cert.KernelLocal.nD Cert.KernelLocal.τ Cert.KernelLocal.sig) → Buf (Elt Bits) ℓ) (g : Dev Cert.KernelLocal.nD → PrngReg), Pre_KernelLocal m →
    θ_run (Cert.KernelLocal.defs (F := Bits)) (onTc (τ := Cert.KernelLocal.τ) (Cert.KernelLocal.main (F := Bits))) ⟨m, fun _ => 0, g⟩ (fun r => (∀ c : Dev Cert.KernelLocal.nD,
      r.2.mem ((c.tc : Thread Cert.KernelLocal.nD Cert.KernelLocal.τ).loc Cert.KernelLocal.main_arg0) = m ((c.tc : Thread Cert.KernelLocal.nD Cert.KernelLocal.τ).loc Cert.KernelLocal.main_arg0)
      ∧ r.2.mem ((c.tc : Thread Cert.KernelLocal.nD Cert.KernelLocal.τ).loc Cert.KernelLocal.main_arg1) = m ((c.tc : Thread Cert.KernelLocal.nD Cert.KernelLocal.τ).loc Cert.KernelLocal.main_arg1)
      ∧ r.2.mem ((c.tc : Thread Cert.KernelLocal.nD Cert.KernelLocal.τ).loc Cert.KernelLocal.main_arg2) = m ((c.tc : Thread Cert.KernelLocal.nD Cert.KernelLocal.τ).loc Cert.KernelLocal.main_arg2)
      ∧ r.2.mem ((c.tc : Thread Cert.KernelLocal.nD Cert.KernelLocal.τ).loc Cert.KernelLocal.main_arg3) = m ((c.tc : Thread Cert.KernelLocal.nD Cert.KernelLocal.τ).loc Cert.KernelLocal.main_arg3)
      ∧ r.2.mem ((c.tc : Thread Cert.KernelLocal.nD Cert.KernelLocal.τ).loc Cert.KernelLocal.main_arg4) = m ((c.tc : Thread Cert.KernelLocal.nD Cert.KernelLocal.τ).loc Cert.KernelLocal.main_arg4)
      ∧ r.2.mem ((c.tc : Thread Cert.KernelLocal.nD Cert.KernelLocal.τ).loc Cert.KernelLocal.main_arg5) = m ((c.tc : Thread Cert.KernelLocal.nD Cert.KernelLocal.τ).loc Cert.KernelLocal.main_arg5)
      ∧ r.2.mem ((c.tc : Thread Cert.KernelLocal.nD Cert.KernelLocal.τ).loc Cert.KernelLocal.main_arg6) = m ((c.tc : Thread Cert.KernelLocal.nD Cert.KernelLocal.τ).loc Cert.KernelLocal.main_arg6)
      ∧ r.2.mem ((c.tc : Thread Cert.KernelLocal.nD Cert.KernelLocal.τ).loc Cert.KernelLocal.main_arg7) = m ((c.tc : Thread Cert.KernelLocal.nD Cert.KernelLocal.τ).loc Cert.KernelLocal.main_arg7)
      ∧ r.2.mem ((c.tc : Thread Cert.KernelLocal.nD Cert.KernelLocal.τ).loc Cert.KernelLocal.main_arg8) = m ((c.tc : Thread Cert.KernelLocal.nD Cert.KernelLocal.τ).loc Cert.KernelLocal.main_arg8)
      ∧ r.2.mem ((c.tc : Thread Cert.KernelLocal.nD Cert.KernelLocal.τ).loc Cert.KernelLocal.main_arg9) = m ((c.tc : Thread Cert.KernelLocal.nD Cert.KernelLocal.τ).loc Cert.KernelLocal.main_arg9))
      ∧ r.2.sem = fun _ => 0)

def quiescent_KernelLocalIdeal [hKernelLocalIdeal : Cert.KernelLocalIdeal.Facts] : Prop :=
  ∀ (m : (ℓ : Loc Cert.KernelLocalIdeal.nD Cert.KernelLocalIdeal.τ Cert.KernelLocalIdeal.sig) → Buf (Elt Ideal) ℓ) (g : Dev Cert.KernelLocalIdeal.nD → PrngReg), Pre_KernelLocalIdeal m →
    θ_run (Cert.KernelLocalIdeal.defs (F := Ideal)) (onTc (τ := Cert.KernelLocalIdeal.τ) (Cert.KernelLocalIdeal.main (F := Ideal))) ⟨m, fun _ => 0, g⟩ (fun r => (∀ c : Dev Cert.KernelLocalIdeal.nD,
      r.2.mem ((c.tc : Thread Cert.KernelLocalIdeal.nD Cert.KernelLocalIdeal.τ).loc Cert.KernelLocalIdeal.main_arg0) = m ((c.tc : Thread Cert.KernelLocalIdeal.nD Cert.KernelLocalIdeal.τ).loc Cert.KernelLocalIdeal.main_arg0)
      ∧ r.2.mem ((c.tc : Thread Cert.KernelLocalIdeal.nD Cert.KernelLocalIdeal.τ).loc Cert.KernelLocalIdeal.main_arg1) = m ((c.tc : Thread Cert.KernelLocalIdeal.nD Cert.KernelLocalIdeal.τ).loc Cert.KernelLocalIdeal.main_arg1)
      ∧ r.2.mem ((c.tc : Thread Cert.KernelLocalIdeal.nD Cert.KernelLocalIdeal.τ).loc Cert.KernelLocalIdeal.main_arg2) = m ((c.tc : Thread Cert.KernelLocalIdeal.nD Cert.KernelLocalIdeal.τ).loc Cert.KernelLocalIdeal.main_arg2)
      ∧ r.2.mem ((c.tc : Thread Cert.KernelLocalIdeal.nD Cert.KernelLocalIdeal.τ).loc Cert.KernelLocalIdeal.main_arg3) = m ((c.tc : Thread Cert.KernelLocalIdeal.nD Cert.KernelLocalIdeal.τ).loc Cert.KernelLocalIdeal.main_arg3)
      ∧ r.2.mem ((c.tc : Thread Cert.KernelLocalIdeal.nD Cert.KernelLocalIdeal.τ).loc Cert.KernelLocalIdeal.main_arg4) = m ((c.tc : Thread Cert.KernelLocalIdeal.nD Cert.KernelLocalIdeal.τ).loc Cert.KernelLocalIdeal.main_arg4)
      ∧ r.2.mem ((c.tc : Thread Cert.KernelLocalIdeal.nD Cert.KernelLocalIdeal.τ).loc Cert.KernelLocalIdeal.main_arg5) = m ((c.tc : Thread Cert.KernelLocalIdeal.nD Cert.KernelLocalIdeal.τ).loc Cert.KernelLocalIdeal.main_arg5)
      ∧ r.2.mem ((c.tc : Thread Cert.KernelLocalIdeal.nD Cert.KernelLocalIdeal.τ).loc Cert.KernelLocalIdeal.main_arg6) = m ((c.tc : Thread Cert.KernelLocalIdeal.nD Cert.KernelLocalIdeal.τ).loc Cert.KernelLocalIdeal.main_arg6)
      ∧ r.2.mem ((c.tc : Thread Cert.KernelLocalIdeal.nD Cert.KernelLocalIdeal.τ).loc Cert.KernelLocalIdeal.main_arg7) = m ((c.tc : Thread Cert.KernelLocalIdeal.nD Cert.KernelLocalIdeal.τ).loc Cert.KernelLocalIdeal.main_arg7)
      ∧ r.2.mem ((c.tc : Thread Cert.KernelLocalIdeal.nD Cert.KernelLocalIdeal.τ).loc Cert.KernelLocalIdeal.main_arg8) = m ((c.tc : Thread Cert.KernelLocalIdeal.nD Cert.KernelLocalIdeal.τ).loc Cert.KernelLocalIdeal.main_arg8)
      ∧ r.2.mem ((c.tc : Thread Cert.KernelLocalIdeal.nD Cert.KernelLocalIdeal.τ).loc Cert.KernelLocalIdeal.main_arg9) = m ((c.tc : Thread Cert.KernelLocalIdeal.nD Cert.KernelLocalIdeal.τ).loc Cert.KernelLocalIdeal.main_arg9))
      ∧ r.2.sem = fun _ => 0)

def quiescent_KernelLocalFwd [hKernelLocalFwd : Cert.KernelLocalFwd.Facts] : Prop :=
  ∀ (m : (ℓ : Loc Cert.KernelLocalFwd.nD Cert.KernelLocalFwd.τ Cert.KernelLocalFwd.sig) → Buf (Elt Bits) ℓ) (g : Dev Cert.KernelLocalFwd.nD → PrngReg), Pre_KernelLocalFwd m →
    θ_run (Cert.KernelLocalFwd.defs (F := Bits)) (onTc (τ := Cert.KernelLocalFwd.τ) (Cert.KernelLocalFwd.main (F := Bits))) ⟨m, fun _ => 0, g⟩ (fun r => (∀ c : Dev Cert.KernelLocalFwd.nD,
      r.2.mem ((c.tc : Thread Cert.KernelLocalFwd.nD Cert.KernelLocalFwd.τ).loc Cert.KernelLocalFwd.main_arg0) = m ((c.tc : Thread Cert.KernelLocalFwd.nD Cert.KernelLocalFwd.τ).loc Cert.KernelLocalFwd.main_arg0)
      ∧ r.2.mem ((c.tc : Thread Cert.KernelLocalFwd.nD Cert.KernelLocalFwd.τ).loc Cert.KernelLocalFwd.main_arg1) = m ((c.tc : Thread Cert.KernelLocalFwd.nD Cert.KernelLocalFwd.τ).loc Cert.KernelLocalFwd.main_arg1)
      ∧ r.2.mem ((c.tc : Thread Cert.KernelLocalFwd.nD Cert.KernelLocalFwd.τ).loc Cert.KernelLocalFwd.main_arg2) = m ((c.tc : Thread Cert.KernelLocalFwd.nD Cert.KernelLocalFwd.τ).loc Cert.KernelLocalFwd.main_arg2)
      ∧ r.2.mem ((c.tc : Thread Cert.KernelLocalFwd.nD Cert.KernelLocalFwd.τ).loc Cert.KernelLocalFwd.main_arg3) = m ((c.tc : Thread Cert.KernelLocalFwd.nD Cert.KernelLocalFwd.τ).loc Cert.KernelLocalFwd.main_arg3))
      ∧ r.2.sem = fun _ => 0)

def quiescent_KernelLocalFwdIdeal [hKernelLocalFwdIdeal : Cert.KernelLocalFwdIdeal.Facts] : Prop :=
  ∀ (m : (ℓ : Loc Cert.KernelLocalFwdIdeal.nD Cert.KernelLocalFwdIdeal.τ Cert.KernelLocalFwdIdeal.sig) → Buf (Elt Ideal) ℓ) (g : Dev Cert.KernelLocalFwdIdeal.nD → PrngReg), Pre_KernelLocalFwdIdeal m →
    θ_run (Cert.KernelLocalFwdIdeal.defs (F := Ideal)) (onTc (τ := Cert.KernelLocalFwdIdeal.τ) (Cert.KernelLocalFwdIdeal.main (F := Ideal))) ⟨m, fun _ => 0, g⟩ (fun r => (∀ c : Dev Cert.KernelLocalFwdIdeal.nD,
      r.2.mem ((c.tc : Thread Cert.KernelLocalFwdIdeal.nD Cert.KernelLocalFwdIdeal.τ).loc Cert.KernelLocalFwdIdeal.main_arg0) = m ((c.tc : Thread Cert.KernelLocalFwdIdeal.nD Cert.KernelLocalFwdIdeal.τ).loc Cert.KernelLocalFwdIdeal.main_arg0)
      ∧ r.2.mem ((c.tc : Thread Cert.KernelLocalFwdIdeal.nD Cert.KernelLocalFwdIdeal.τ).loc Cert.KernelLocalFwdIdeal.main_arg1) = m ((c.tc : Thread Cert.KernelLocalFwdIdeal.nD Cert.KernelLocalFwdIdeal.τ).loc Cert.KernelLocalFwdIdeal.main_arg1)
      ∧ r.2.mem ((c.tc : Thread Cert.KernelLocalFwdIdeal.nD Cert.KernelLocalFwdIdeal.τ).loc Cert.KernelLocalFwdIdeal.main_arg2) = m ((c.tc : Thread Cert.KernelLocalFwdIdeal.nD Cert.KernelLocalFwdIdeal.τ).loc Cert.KernelLocalFwdIdeal.main_arg2)
      ∧ r.2.mem ((c.tc : Thread Cert.KernelLocalFwdIdeal.nD Cert.KernelLocalFwdIdeal.τ).loc Cert.KernelLocalFwdIdeal.main_arg3) = m ((c.tc : Thread Cert.KernelLocalFwdIdeal.nD Cert.KernelLocalFwdIdeal.τ).loc Cert.KernelLocalFwdIdeal.main_arg3))
      ∧ r.2.sem = fun _ => 0)

def quiescent_KernelInProj [hKernelInProj : Cert.KernelInProj.Facts] : Prop :=
  ∀ (m : (ℓ : Loc Cert.KernelInProj.nD Cert.KernelInProj.τ Cert.KernelInProj.sig) → Buf (Elt Bits) ℓ) (g : Dev Cert.KernelInProj.nD → PrngReg), Pre_KernelInProj m →
    θ_run (Cert.KernelInProj.defs (F := Bits)) (onTc (τ := Cert.KernelInProj.τ) (Cert.KernelInProj.main (F := Bits))) ⟨m, fun _ => 0, g⟩ (fun r => (∀ c : Dev Cert.KernelInProj.nD,
      r.2.mem ((c.tc : Thread Cert.KernelInProj.nD Cert.KernelInProj.τ).loc Cert.KernelInProj.main_arg0) = m ((c.tc : Thread Cert.KernelInProj.nD Cert.KernelInProj.τ).loc Cert.KernelInProj.main_arg0)
      ∧ r.2.mem ((c.tc : Thread Cert.KernelInProj.nD Cert.KernelInProj.τ).loc Cert.KernelInProj.main_arg1) = m ((c.tc : Thread Cert.KernelInProj.nD Cert.KernelInProj.τ).loc Cert.KernelInProj.main_arg1)
      ∧ r.2.mem ((c.tc : Thread Cert.KernelInProj.nD Cert.KernelInProj.τ).loc Cert.KernelInProj.main_arg2) = m ((c.tc : Thread Cert.KernelInProj.nD Cert.KernelInProj.τ).loc Cert.KernelInProj.main_arg2)
      ∧ r.2.mem ((c.tc : Thread Cert.KernelInProj.nD Cert.KernelInProj.τ).loc Cert.KernelInProj.main_arg3) = m ((c.tc : Thread Cert.KernelInProj.nD Cert.KernelInProj.τ).loc Cert.KernelInProj.main_arg3)
      ∧ r.2.mem ((c.tc : Thread Cert.KernelInProj.nD Cert.KernelInProj.τ).loc Cert.KernelInProj.main_arg4) = m ((c.tc : Thread Cert.KernelInProj.nD Cert.KernelInProj.τ).loc Cert.KernelInProj.main_arg4)
      ∧ r.2.mem ((c.tc : Thread Cert.KernelInProj.nD Cert.KernelInProj.τ).loc Cert.KernelInProj.main_arg5) = m ((c.tc : Thread Cert.KernelInProj.nD Cert.KernelInProj.τ).loc Cert.KernelInProj.main_arg5)
      ∧ r.2.mem ((c.tc : Thread Cert.KernelInProj.nD Cert.KernelInProj.τ).loc Cert.KernelInProj.main_arg6) = m ((c.tc : Thread Cert.KernelInProj.nD Cert.KernelInProj.τ).loc Cert.KernelInProj.main_arg6)
      ∧ r.2.mem ((c.tc : Thread Cert.KernelInProj.nD Cert.KernelInProj.τ).loc Cert.KernelInProj.main_arg7) = m ((c.tc : Thread Cert.KernelInProj.nD Cert.KernelInProj.τ).loc Cert.KernelInProj.main_arg7)
      ∧ r.2.mem ((c.tc : Thread Cert.KernelInProj.nD Cert.KernelInProj.τ).loc Cert.KernelInProj.main_arg8) = m ((c.tc : Thread Cert.KernelInProj.nD Cert.KernelInProj.τ).loc Cert.KernelInProj.main_arg8)
      ∧ r.2.mem ((c.tc : Thread Cert.KernelInProj.nD Cert.KernelInProj.τ).loc Cert.KernelInProj.main_arg9) = m ((c.tc : Thread Cert.KernelInProj.nD Cert.KernelInProj.τ).loc Cert.KernelInProj.main_arg9)
      ∧ r.2.mem ((c.tc : Thread Cert.KernelInProj.nD Cert.KernelInProj.τ).loc Cert.KernelInProj.main_arg10) = m ((c.tc : Thread Cert.KernelInProj.nD Cert.KernelInProj.τ).loc Cert.KernelInProj.main_arg10)
      ∧ r.2.mem ((c.tc : Thread Cert.KernelInProj.nD Cert.KernelInProj.τ).loc Cert.KernelInProj.main_arg11) = m ((c.tc : Thread Cert.KernelInProj.nD Cert.KernelInProj.τ).loc Cert.KernelInProj.main_arg11))
      ∧ r.2.sem = fun _ => 0)

def quiescent_KernelInProjIdeal [hKernelInProjIdeal : Cert.KernelInProjIdeal.Facts] : Prop :=
  ∀ (m : (ℓ : Loc Cert.KernelInProjIdeal.nD Cert.KernelInProjIdeal.τ Cert.KernelInProjIdeal.sig) → Buf (Elt Ideal) ℓ) (g : Dev Cert.KernelInProjIdeal.nD → PrngReg), Pre_KernelInProjIdeal m →
    θ_run (Cert.KernelInProjIdeal.defs (F := Ideal)) (onTc (τ := Cert.KernelInProjIdeal.τ) (Cert.KernelInProjIdeal.main (F := Ideal))) ⟨m, fun _ => 0, g⟩ (fun r => (∀ c : Dev Cert.KernelInProjIdeal.nD,
      r.2.mem ((c.tc : Thread Cert.KernelInProjIdeal.nD Cert.KernelInProjIdeal.τ).loc Cert.KernelInProjIdeal.main_arg0) = m ((c.tc : Thread Cert.KernelInProjIdeal.nD Cert.KernelInProjIdeal.τ).loc Cert.KernelInProjIdeal.main_arg0)
      ∧ r.2.mem ((c.tc : Thread Cert.KernelInProjIdeal.nD Cert.KernelInProjIdeal.τ).loc Cert.KernelInProjIdeal.main_arg1) = m ((c.tc : Thread Cert.KernelInProjIdeal.nD Cert.KernelInProjIdeal.τ).loc Cert.KernelInProjIdeal.main_arg1)
      ∧ r.2.mem ((c.tc : Thread Cert.KernelInProjIdeal.nD Cert.KernelInProjIdeal.τ).loc Cert.KernelInProjIdeal.main_arg2) = m ((c.tc : Thread Cert.KernelInProjIdeal.nD Cert.KernelInProjIdeal.τ).loc Cert.KernelInProjIdeal.main_arg2)
      ∧ r.2.mem ((c.tc : Thread Cert.KernelInProjIdeal.nD Cert.KernelInProjIdeal.τ).loc Cert.KernelInProjIdeal.main_arg3) = m ((c.tc : Thread Cert.KernelInProjIdeal.nD Cert.KernelInProjIdeal.τ).loc Cert.KernelInProjIdeal.main_arg3)
      ∧ r.2.mem ((c.tc : Thread Cert.KernelInProjIdeal.nD Cert.KernelInProjIdeal.τ).loc Cert.KernelInProjIdeal.main_arg4) = m ((c.tc : Thread Cert.KernelInProjIdeal.nD Cert.KernelInProjIdeal.τ).loc Cert.KernelInProjIdeal.main_arg4)
      ∧ r.2.mem ((c.tc : Thread Cert.KernelInProjIdeal.nD Cert.KernelInProjIdeal.τ).loc Cert.KernelInProjIdeal.main_arg5) = m ((c.tc : Thread Cert.KernelInProjIdeal.nD Cert.KernelInProjIdeal.τ).loc Cert.KernelInProjIdeal.main_arg5)
      ∧ r.2.mem ((c.tc : Thread Cert.KernelInProjIdeal.nD Cert.KernelInProjIdeal.τ).loc Cert.KernelInProjIdeal.main_arg6) = m ((c.tc : Thread Cert.KernelInProjIdeal.nD Cert.KernelInProjIdeal.τ).loc Cert.KernelInProjIdeal.main_arg6)
      ∧ r.2.mem ((c.tc : Thread Cert.KernelInProjIdeal.nD Cert.KernelInProjIdeal.τ).loc Cert.KernelInProjIdeal.main_arg7) = m ((c.tc : Thread Cert.KernelInProjIdeal.nD Cert.KernelInProjIdeal.τ).loc Cert.KernelInProjIdeal.main_arg7)
      ∧ r.2.mem ((c.tc : Thread Cert.KernelInProjIdeal.nD Cert.KernelInProjIdeal.τ).loc Cert.KernelInProjIdeal.main_arg8) = m ((c.tc : Thread Cert.KernelInProjIdeal.nD Cert.KernelInProjIdeal.τ).loc Cert.KernelInProjIdeal.main_arg8)
      ∧ r.2.mem ((c.tc : Thread Cert.KernelInProjIdeal.nD Cert.KernelInProjIdeal.τ).loc Cert.KernelInProjIdeal.main_arg9) = m ((c.tc : Thread Cert.KernelInProjIdeal.nD Cert.KernelInProjIdeal.τ).loc Cert.KernelInProjIdeal.main_arg9)
      ∧ r.2.mem ((c.tc : Thread Cert.KernelInProjIdeal.nD Cert.KernelInProjIdeal.τ).loc Cert.KernelInProjIdeal.main_arg10) = m ((c.tc : Thread Cert.KernelInProjIdeal.nD Cert.KernelInProjIdeal.τ).loc Cert.KernelInProjIdeal.main_arg10)
      ∧ r.2.mem ((c.tc : Thread Cert.KernelInProjIdeal.nD Cert.KernelInProjIdeal.τ).loc Cert.KernelInProjIdeal.main_arg11) = m ((c.tc : Thread Cert.KernelInProjIdeal.nD Cert.KernelInProjIdeal.τ).loc Cert.KernelInProjIdeal.main_arg11))
      ∧ r.2.sem = fun _ => 0)

def quiescent_KernelMergeFwd [hKernelMergeFwd : Cert.KernelMergeFwd.Facts] : Prop :=
  ∀ (m : (ℓ : Loc Cert.KernelMergeFwd.nD Cert.KernelMergeFwd.τ Cert.KernelMergeFwd.sig) → Buf (Elt Bits) ℓ) (g : Dev Cert.KernelMergeFwd.nD → PrngReg), Pre_KernelMergeFwd m →
    θ_run (Cert.KernelMergeFwd.defs (F := Bits)) (onTc (τ := Cert.KernelMergeFwd.τ) (Cert.KernelMergeFwd.main (F := Bits))) ⟨m, fun _ => 0, g⟩ (fun r => (∀ c : Dev Cert.KernelMergeFwd.nD,
      r.2.mem ((c.tc : Thread Cert.KernelMergeFwd.nD Cert.KernelMergeFwd.τ).loc Cert.KernelMergeFwd.main_arg0) = m ((c.tc : Thread Cert.KernelMergeFwd.nD Cert.KernelMergeFwd.τ).loc Cert.KernelMergeFwd.main_arg0)
      ∧ r.2.mem ((c.tc : Thread Cert.KernelMergeFwd.nD Cert.KernelMergeFwd.τ).loc Cert.KernelMergeFwd.main_arg1) = m ((c.tc : Thread Cert.KernelMergeFwd.nD Cert.KernelMergeFwd.τ).loc Cert.KernelMergeFwd.main_arg1)
      ∧ r.2.mem ((c.tc : Thread Cert.KernelMergeFwd.nD Cert.KernelMergeFwd.τ).loc Cert.KernelMergeFwd.main_arg2) = m ((c.tc : Thread Cert.KernelMergeFwd.nD Cert.KernelMergeFwd.τ).loc Cert.KernelMergeFwd.main_arg2)
      ∧ r.2.mem ((c.tc : Thread Cert.KernelMergeFwd.nD Cert.KernelMergeFwd.τ).loc Cert.KernelMergeFwd.main_arg3) = m ((c.tc : Thread Cert.KernelMergeFwd.nD Cert.KernelMergeFwd.τ).loc Cert.KernelMergeFwd.main_arg3)
      ∧ r.2.mem ((c.tc : Thread Cert.KernelMergeFwd.nD Cert.KernelMergeFwd.τ).loc Cert.KernelMergeFwd.main_arg4) = m ((c.tc : Thread Cert.KernelMergeFwd.nD Cert.KernelMergeFwd.τ).loc Cert.KernelMergeFwd.main_arg4)
      ∧ r.2.mem ((c.tc : Thread Cert.KernelMergeFwd.nD Cert.KernelMergeFwd.τ).loc Cert.KernelMergeFwd.main_arg5) = m ((c.tc : Thread Cert.KernelMergeFwd.nD Cert.KernelMergeFwd.τ).loc Cert.KernelMergeFwd.main_arg5))
      ∧ r.2.sem = fun _ => 0)

def quiescent_KernelMergeFwdIdeal [hKernelMergeFwdIdeal : Cert.KernelMergeFwdIdeal.Facts] : Prop :=
  ∀ (m : (ℓ : Loc Cert.KernelMergeFwdIdeal.nD Cert.KernelMergeFwdIdeal.τ Cert.KernelMergeFwdIdeal.sig) → Buf (Elt Ideal) ℓ) (g : Dev Cert.KernelMergeFwdIdeal.nD → PrngReg), Pre_KernelMergeFwdIdeal m →
    θ_run (Cert.KernelMergeFwdIdeal.defs (F := Ideal)) (onTc (τ := Cert.KernelMergeFwdIdeal.τ) (Cert.KernelMergeFwdIdeal.main (F := Ideal))) ⟨m, fun _ => 0, g⟩ (fun r => (∀ c : Dev Cert.KernelMergeFwdIdeal.nD,
      r.2.mem ((c.tc : Thread Cert.KernelMergeFwdIdeal.nD Cert.KernelMergeFwdIdeal.τ).loc Cert.KernelMergeFwdIdeal.main_arg0) = m ((c.tc : Thread Cert.KernelMergeFwdIdeal.nD Cert.KernelMergeFwdIdeal.τ).loc Cert.KernelMergeFwdIdeal.main_arg0)
      ∧ r.2.mem ((c.tc : Thread Cert.KernelMergeFwdIdeal.nD Cert.KernelMergeFwdIdeal.τ).loc Cert.KernelMergeFwdIdeal.main_arg1) = m ((c.tc : Thread Cert.KernelMergeFwdIdeal.nD Cert.KernelMergeFwdIdeal.τ).loc Cert.KernelMergeFwdIdeal.main_arg1)
      ∧ r.2.mem ((c.tc : Thread Cert.KernelMergeFwdIdeal.nD Cert.KernelMergeFwdIdeal.τ).loc Cert.KernelMergeFwdIdeal.main_arg2) = m ((c.tc : Thread Cert.KernelMergeFwdIdeal.nD Cert.KernelMergeFwdIdeal.τ).loc Cert.KernelMergeFwdIdeal.main_arg2)
      ∧ r.2.mem ((c.tc : Thread Cert.KernelMergeFwdIdeal.nD Cert.KernelMergeFwdIdeal.τ).loc Cert.KernelMergeFwdIdeal.main_arg3) = m ((c.tc : Thread Cert.KernelMergeFwdIdeal.nD Cert.KernelMergeFwdIdeal.τ).loc Cert.KernelMergeFwdIdeal.main_arg3)
      ∧ r.2.mem ((c.tc : Thread Cert.KernelMergeFwdIdeal.nD Cert.KernelMergeFwdIdeal.τ).loc Cert.KernelMergeFwdIdeal.main_arg4) = m ((c.tc : Thread Cert.KernelMergeFwdIdeal.nD Cert.KernelMergeFwdIdeal.τ).loc Cert.KernelMergeFwdIdeal.main_arg4)
      ∧ r.2.mem ((c.tc : Thread Cert.KernelMergeFwdIdeal.nD Cert.KernelMergeFwdIdeal.τ).loc Cert.KernelMergeFwdIdeal.main_arg5) = m ((c.tc : Thread Cert.KernelMergeFwdIdeal.nD Cert.KernelMergeFwdIdeal.τ).loc Cert.KernelMergeFwdIdeal.main_arg5))
      ∧ r.2.sem = fun _ => 0)

def quiescent_KernelRec [hKernelRec : Cert.KernelRec.Facts] : Prop :=
  ∀ (m : (ℓ : Loc Cert.KernelRec.nD Cert.KernelRec.τ Cert.KernelRec.sig) → Buf (Elt Bits) ℓ) (g : Dev Cert.KernelRec.nD → PrngReg), Pre_KernelRec m →
    θ_run (Cert.KernelRec.defs (F := Bits)) (onTc (τ := Cert.KernelRec.τ) (Cert.KernelRec.main (F := Bits))) ⟨m, fun _ => 0, g⟩ (fun r => (∀ c : Dev Cert.KernelRec.nD,
      r.2.mem ((c.tc : Thread Cert.KernelRec.nD Cert.KernelRec.τ).loc Cert.KernelRec.main_arg0) = m ((c.tc : Thread Cert.KernelRec.nD Cert.KernelRec.τ).loc Cert.KernelRec.main_arg0)
      ∧ r.2.mem ((c.tc : Thread Cert.KernelRec.nD Cert.KernelRec.τ).loc Cert.KernelRec.main_arg1) = m ((c.tc : Thread Cert.KernelRec.nD Cert.KernelRec.τ).loc Cert.KernelRec.main_arg1)
      ∧ r.2.mem ((c.tc : Thread Cert.KernelRec.nD Cert.KernelRec.τ).loc Cert.KernelRec.main_arg2) = m ((c.tc : Thread Cert.KernelRec.nD Cert.KernelRec.τ).loc Cert.KernelRec.main_arg2)
      ∧ r.2.mem ((c.tc : Thread Cert.KernelRec.nD Cert.KernelRec.τ).loc Cert.KernelRec.main_arg3) = m ((c.tc : Thread Cert.KernelRec.nD Cert.KernelRec.τ).loc Cert.KernelRec.main_arg3)
      ∧ r.2.mem ((c.tc : Thread Cert.KernelRec.nD Cert.KernelRec.τ).loc Cert.KernelRec.main_arg4) = m ((c.tc : Thread Cert.KernelRec.nD Cert.KernelRec.τ).loc Cert.KernelRec.main_arg4)
      ∧ r.2.mem ((c.tc : Thread Cert.KernelRec.nD Cert.KernelRec.τ).loc Cert.KernelRec.main_arg5) = m ((c.tc : Thread Cert.KernelRec.nD Cert.KernelRec.τ).loc Cert.KernelRec.main_arg5)
      ∧ r.2.mem ((c.tc : Thread Cert.KernelRec.nD Cert.KernelRec.τ).loc Cert.KernelRec.main_arg6) = m ((c.tc : Thread Cert.KernelRec.nD Cert.KernelRec.τ).loc Cert.KernelRec.main_arg6)
      ∧ r.2.mem ((c.tc : Thread Cert.KernelRec.nD Cert.KernelRec.τ).loc Cert.KernelRec.main_arg7) = m ((c.tc : Thread Cert.KernelRec.nD Cert.KernelRec.τ).loc Cert.KernelRec.main_arg7))
      ∧ r.2.sem = fun _ => 0)

def quiescent_KernelRecIdeal [hKernelRecIdeal : Cert.KernelRecIdeal.Facts] : Prop :=
  ∀ (m : (ℓ : Loc Cert.KernelRecIdeal.nD Cert.KernelRecIdeal.τ Cert.KernelRecIdeal.sig) → Buf (Elt Ideal) ℓ) (g : Dev Cert.KernelRecIdeal.nD → PrngReg), Pre_KernelRecIdeal m →
    θ_run (Cert.KernelRecIdeal.defs (F := Ideal)) (onTc (τ := Cert.KernelRecIdeal.τ) (Cert.KernelRecIdeal.main (F := Ideal))) ⟨m, fun _ => 0, g⟩ (fun r => (∀ c : Dev Cert.KernelRecIdeal.nD,
      r.2.mem ((c.tc : Thread Cert.KernelRecIdeal.nD Cert.KernelRecIdeal.τ).loc Cert.KernelRecIdeal.main_arg0) = m ((c.tc : Thread Cert.KernelRecIdeal.nD Cert.KernelRecIdeal.τ).loc Cert.KernelRecIdeal.main_arg0)
      ∧ r.2.mem ((c.tc : Thread Cert.KernelRecIdeal.nD Cert.KernelRecIdeal.τ).loc Cert.KernelRecIdeal.main_arg1) = m ((c.tc : Thread Cert.KernelRecIdeal.nD Cert.KernelRecIdeal.τ).loc Cert.KernelRecIdeal.main_arg1)
      ∧ r.2.mem ((c.tc : Thread Cert.KernelRecIdeal.nD Cert.KernelRecIdeal.τ).loc Cert.KernelRecIdeal.main_arg2) = m ((c.tc : Thread Cert.KernelRecIdeal.nD Cert.KernelRecIdeal.τ).loc Cert.KernelRecIdeal.main_arg2)
      ∧ r.2.mem ((c.tc : Thread Cert.KernelRecIdeal.nD Cert.KernelRecIdeal.τ).loc Cert.KernelRecIdeal.main_arg3) = m ((c.tc : Thread Cert.KernelRecIdeal.nD Cert.KernelRecIdeal.τ).loc Cert.KernelRecIdeal.main_arg3)
      ∧ r.2.mem ((c.tc : Thread Cert.KernelRecIdeal.nD Cert.KernelRecIdeal.τ).loc Cert.KernelRecIdeal.main_arg4) = m ((c.tc : Thread Cert.KernelRecIdeal.nD Cert.KernelRecIdeal.τ).loc Cert.KernelRecIdeal.main_arg4)
      ∧ r.2.mem ((c.tc : Thread Cert.KernelRecIdeal.nD Cert.KernelRecIdeal.τ).loc Cert.KernelRecIdeal.main_arg5) = m ((c.tc : Thread Cert.KernelRecIdeal.nD Cert.KernelRecIdeal.τ).loc Cert.KernelRecIdeal.main_arg5)
      ∧ r.2.mem ((c.tc : Thread Cert.KernelRecIdeal.nD Cert.KernelRecIdeal.τ).loc Cert.KernelRecIdeal.main_arg6) = m ((c.tc : Thread Cert.KernelRecIdeal.nD Cert.KernelRecIdeal.τ).loc Cert.KernelRecIdeal.main_arg6)
      ∧ r.2.mem ((c.tc : Thread Cert.KernelRecIdeal.nD Cert.KernelRecIdeal.τ).loc Cert.KernelRecIdeal.main_arg7) = m ((c.tc : Thread Cert.KernelRecIdeal.nD Cert.KernelRecIdeal.τ).loc Cert.KernelRecIdeal.main_arg7))
      ∧ r.2.sem = fun _ => 0)

def quiescent_KernelRecFwd [hKernelRecFwd : Cert.KernelRecFwd.Facts] : Prop :=
  ∀ (m : (ℓ : Loc Cert.KernelRecFwd.nD Cert.KernelRecFwd.τ Cert.KernelRecFwd.sig) → Buf (Elt Bits) ℓ) (g : Dev Cert.KernelRecFwd.nD → PrngReg), Pre_KernelRecFwd m →
    θ_run (Cert.KernelRecFwd.defs (F := Bits)) (onTc (τ := Cert.KernelRecFwd.τ) (Cert.KernelRecFwd.main (F := Bits))) ⟨m, fun _ => 0, g⟩ (fun r => (∀ c : Dev Cert.KernelRecFwd.nD,
      r.2.mem ((c.tc : Thread Cert.KernelRecFwd.nD Cert.KernelRecFwd.τ).loc Cert.KernelRecFwd.main_arg0) = m ((c.tc : Thread Cert.KernelRecFwd.nD Cert.KernelRecFwd.τ).loc Cert.KernelRecFwd.main_arg0)
      ∧ r.2.mem ((c.tc : Thread Cert.KernelRecFwd.nD Cert.KernelRecFwd.τ).loc Cert.KernelRecFwd.main_arg1) = m ((c.tc : Thread Cert.KernelRecFwd.nD Cert.KernelRecFwd.τ).loc Cert.KernelRecFwd.main_arg1)
      ∧ r.2.mem ((c.tc : Thread Cert.KernelRecFwd.nD Cert.KernelRecFwd.τ).loc Cert.KernelRecFwd.main_arg2) = m ((c.tc : Thread Cert.KernelRecFwd.nD Cert.KernelRecFwd.τ).loc Cert.KernelRecFwd.main_arg2)
      ∧ r.2.mem ((c.tc : Thread Cert.KernelRecFwd.nD Cert.KernelRecFwd.τ).loc Cert.KernelRecFwd.main_arg3) = m ((c.tc : Thread Cert.KernelRecFwd.nD Cert.KernelRecFwd.τ).loc Cert.KernelRecFwd.main_arg3)
      ∧ r.2.mem ((c.tc : Thread Cert.KernelRecFwd.nD Cert.KernelRecFwd.τ).loc Cert.KernelRecFwd.main_arg4) = m ((c.tc : Thread Cert.KernelRecFwd.nD Cert.KernelRecFwd.τ).loc Cert.KernelRecFwd.main_arg4)
      ∧ r.2.mem ((c.tc : Thread Cert.KernelRecFwd.nD Cert.KernelRecFwd.τ).loc Cert.KernelRecFwd.main_arg5) = m ((c.tc : Thread Cert.KernelRecFwd.nD Cert.KernelRecFwd.τ).loc Cert.KernelRecFwd.main_arg5))
      ∧ r.2.sem = fun _ => 0)

def quiescent_KernelRecFwdIdeal [hKernelRecFwdIdeal : Cert.KernelRecFwdIdeal.Facts] : Prop :=
  ∀ (m : (ℓ : Loc Cert.KernelRecFwdIdeal.nD Cert.KernelRecFwdIdeal.τ Cert.KernelRecFwdIdeal.sig) → Buf (Elt Ideal) ℓ) (g : Dev Cert.KernelRecFwdIdeal.nD → PrngReg), Pre_KernelRecFwdIdeal m →
    θ_run (Cert.KernelRecFwdIdeal.defs (F := Ideal)) (onTc (τ := Cert.KernelRecFwdIdeal.τ) (Cert.KernelRecFwdIdeal.main (F := Ideal))) ⟨m, fun _ => 0, g⟩ (fun r => (∀ c : Dev Cert.KernelRecFwdIdeal.nD,
      r.2.mem ((c.tc : Thread Cert.KernelRecFwdIdeal.nD Cert.KernelRecFwdIdeal.τ).loc Cert.KernelRecFwdIdeal.main_arg0) = m ((c.tc : Thread Cert.KernelRecFwdIdeal.nD Cert.KernelRecFwdIdeal.τ).loc Cert.KernelRecFwdIdeal.main_arg0)
      ∧ r.2.mem ((c.tc : Thread Cert.KernelRecFwdIdeal.nD Cert.KernelRecFwdIdeal.τ).loc Cert.KernelRecFwdIdeal.main_arg1) = m ((c.tc : Thread Cert.KernelRecFwdIdeal.nD Cert.KernelRecFwdIdeal.τ).loc Cert.KernelRecFwdIdeal.main_arg1)
      ∧ r.2.mem ((c.tc : Thread Cert.KernelRecFwdIdeal.nD Cert.KernelRecFwdIdeal.τ).loc Cert.KernelRecFwdIdeal.main_arg2) = m ((c.tc : Thread Cert.KernelRecFwdIdeal.nD Cert.KernelRecFwdIdeal.τ).loc Cert.KernelRecFwdIdeal.main_arg2)
      ∧ r.2.mem ((c.tc : Thread Cert.KernelRecFwdIdeal.nD Cert.KernelRecFwdIdeal.τ).loc Cert.KernelRecFwdIdeal.main_arg3) = m ((c.tc : Thread Cert.KernelRecFwdIdeal.nD Cert.KernelRecFwdIdeal.τ).loc Cert.KernelRecFwdIdeal.main_arg3)
      ∧ r.2.mem ((c.tc : Thread Cert.KernelRecFwdIdeal.nD Cert.KernelRecFwdIdeal.τ).loc Cert.KernelRecFwdIdeal.main_arg4) = m ((c.tc : Thread Cert.KernelRecFwdIdeal.nD Cert.KernelRecFwdIdeal.τ).loc Cert.KernelRecFwdIdeal.main_arg4)
      ∧ r.2.mem ((c.tc : Thread Cert.KernelRecFwdIdeal.nD Cert.KernelRecFwdIdeal.τ).loc Cert.KernelRecFwdIdeal.main_arg5) = m ((c.tc : Thread Cert.KernelRecFwdIdeal.nD Cert.KernelRecFwdIdeal.τ).loc Cert.KernelRecFwdIdeal.main_arg5))
      ∧ r.2.sem = fun _ => 0)

def preserves_KernelNorm_KernelNormIdeal : Prop :=
  True

def algebraic_KernelNormIdeal_ReferenceNormIdeal_pre_norm_finite [hKernelNormIdeal : Cert.KernelNormIdeal.Facts] [hReferenceNormIdeal : Cert.ReferenceNormIdeal.Facts] [hPre_norm_finite : Cert.Pre_norm_finite.Facts] : Prop :=
  ∀ (m : (ℓ : Loc Cert.KernelNormIdeal.nD Cert.KernelNormIdeal.τ Cert.KernelNormIdeal.sig) → Buf (Elt Ideal) ℓ) (g : Dev Cert.KernelNormIdeal.nD → PrngReg)
    (m' : (ℓ : Loc Cert.ReferenceNormIdeal.nD Cert.ReferenceNormIdeal.τ Cert.ReferenceNormIdeal.sig) → Buf (Elt Ideal) ℓ) (g' : Dev Cert.ReferenceNormIdeal.nD → PrngReg), Pre_KernelNormIdeal_norm_finite m →
    (∀ c : Dev Cert.KernelNormIdeal.nD,
      m' ((c.tc : Thread Cert.ReferenceNormIdeal.nD Cert.ReferenceNormIdeal.τ).loc Cert.ReferenceNormIdeal.main_arg0) = m ((c.tc : Thread Cert.KernelNormIdeal.nD Cert.KernelNormIdeal.τ).loc Cert.KernelNormIdeal.main_arg0)
      ∧ m' ((c.tc : Thread Cert.ReferenceNormIdeal.nD Cert.ReferenceNormIdeal.τ).loc Cert.ReferenceNormIdeal.main_arg1) = m ((c.tc : Thread Cert.KernelNormIdeal.nD Cert.KernelNormIdeal.τ).loc Cert.KernelNormIdeal.main_arg1)
      ∧ m' ((c.tc : Thread Cert.ReferenceNormIdeal.nD Cert.ReferenceNormIdeal.τ).loc Cert.ReferenceNormIdeal.main_arg2) = m ((c.tc : Thread Cert.KernelNormIdeal.nD Cert.KernelNormIdeal.τ).loc Cert.KernelNormIdeal.main_arg2)
      ∧ m' ((c.tc : Thread Cert.ReferenceNormIdeal.nD Cert.ReferenceNormIdeal.τ).loc Cert.ReferenceNormIdeal.main_arg3) = m ((c.tc : Thread Cert.KernelNormIdeal.nD Cert.KernelNormIdeal.τ).loc Cert.KernelNormIdeal.main_arg3)) →
    ∃ (v0 : (c : Dev Cert.KernelNormIdeal.nD) → Buf (Elt Ideal) ((c.tc : Thread Cert.KernelNormIdeal.nD Cert.KernelNormIdeal.τ).loc Cert.KernelNormIdeal.main_v1_0)) (v1 : (c : Dev Cert.KernelNormIdeal.nD) → Buf (Elt Ideal) ((c.tc : Thread Cert.KernelNormIdeal.nD Cert.KernelNormIdeal.τ).loc Cert.KernelNormIdeal.main_v1_1)),
      θ_run (Cert.KernelNormIdeal.defs (F := Ideal)) (onTc (τ := Cert.KernelNormIdeal.τ) (Cert.KernelNormIdeal.main (F := Ideal))) ⟨m, fun _ => 0, g⟩ (fun r => ∀ c : Dev Cert.KernelNormIdeal.nD,
          r.2.mem ((c.tc : Thread Cert.KernelNormIdeal.nD Cert.KernelNormIdeal.τ).loc Cert.KernelNormIdeal.main_v1_0) = v0 c
          ∧ r.2.mem ((c.tc : Thread Cert.KernelNormIdeal.nD Cert.KernelNormIdeal.τ).loc Cert.KernelNormIdeal.main_v1_1) = v1 c
          ∧ r.2.mem ((c.tc : Thread Cert.KernelNormIdeal.nD Cert.KernelNormIdeal.τ).loc Cert.KernelNormIdeal.main_arg0) = m ((c.tc : Thread Cert.KernelNormIdeal.nD Cert.KernelNormIdeal.τ).loc Cert.KernelNormIdeal.main_arg0)
          ∧ r.2.mem ((c.tc : Thread Cert.KernelNormIdeal.nD Cert.KernelNormIdeal.τ).loc Cert.KernelNormIdeal.main_arg1) = m ((c.tc : Thread Cert.KernelNormIdeal.nD Cert.KernelNormIdeal.τ).loc Cert.KernelNormIdeal.main_arg1)
          ∧ r.2.mem ((c.tc : Thread Cert.KernelNormIdeal.nD Cert.KernelNormIdeal.τ).loc Cert.KernelNormIdeal.main_arg2) = m ((c.tc : Thread Cert.KernelNormIdeal.nD Cert.KernelNormIdeal.τ).loc Cert.KernelNormIdeal.main_arg2)
          ∧ r.2.mem ((c.tc : Thread Cert.KernelNormIdeal.nD Cert.KernelNormIdeal.τ).loc Cert.KernelNormIdeal.main_arg3) = m ((c.tc : Thread Cert.KernelNormIdeal.nD Cert.KernelNormIdeal.τ).loc Cert.KernelNormIdeal.main_arg3))
      ∧ θ_run (Cert.ReferenceNormIdeal.defs (F := Ideal)) (onTc (τ := Cert.ReferenceNormIdeal.τ) (Cert.ReferenceNormIdeal.main (F := Ideal))) ⟨m', fun _ => 0, g'⟩ (fun r => ∀ c : Dev Cert.ReferenceNormIdeal.nD,
          r.2.mem ((c.tc : Thread Cert.ReferenceNormIdeal.nD Cert.ReferenceNormIdeal.τ).loc Cert.ReferenceNormIdeal.main_v38) = v0 c
          ∧ r.2.mem ((c.tc : Thread Cert.ReferenceNormIdeal.nD Cert.ReferenceNormIdeal.τ).loc Cert.ReferenceNormIdeal.main_v39) = v1 c
          ∧ r.2.mem ((c.tc : Thread Cert.ReferenceNormIdeal.nD Cert.ReferenceNormIdeal.τ).loc Cert.ReferenceNormIdeal.main_arg0) = m' ((c.tc : Thread Cert.ReferenceNormIdeal.nD Cert.ReferenceNormIdeal.τ).loc Cert.ReferenceNormIdeal.main_arg0)
          ∧ r.2.mem ((c.tc : Thread Cert.ReferenceNormIdeal.nD Cert.ReferenceNormIdeal.τ).loc Cert.ReferenceNormIdeal.main_arg1) = m' ((c.tc : Thread Cert.ReferenceNormIdeal.nD Cert.ReferenceNormIdeal.τ).loc Cert.ReferenceNormIdeal.main_arg1)
          ∧ r.2.mem ((c.tc : Thread Cert.ReferenceNormIdeal.nD Cert.ReferenceNormIdeal.τ).loc Cert.ReferenceNormIdeal.main_arg2) = m' ((c.tc : Thread Cert.ReferenceNormIdeal.nD Cert.ReferenceNormIdeal.τ).loc Cert.ReferenceNormIdeal.main_arg2)
          ∧ r.2.mem ((c.tc : Thread Cert.ReferenceNormIdeal.nD Cert.ReferenceNormIdeal.τ).loc Cert.ReferenceNormIdeal.main_arg3) = m' ((c.tc : Thread Cert.ReferenceNormIdeal.nD Cert.ReferenceNormIdeal.τ).loc Cert.ReferenceNormIdeal.main_arg3))

def preserves_KernelConv_KernelConvIdeal : Prop :=
  True

def algebraic_KernelConvIdeal_ReferenceConvIdeal [hKernelConvIdeal : Cert.KernelConvIdeal.Facts] [hReferenceConvIdeal : Cert.ReferenceConvIdeal.Facts] : Prop :=
  ∀ (m : (ℓ : Loc Cert.KernelConvIdeal.nD Cert.KernelConvIdeal.τ Cert.KernelConvIdeal.sig) → Buf (Elt Ideal) ℓ) (g : Dev Cert.KernelConvIdeal.nD → PrngReg)
    (m' : (ℓ : Loc Cert.ReferenceConvIdeal.nD Cert.ReferenceConvIdeal.τ Cert.ReferenceConvIdeal.sig) → Buf (Elt Ideal) ℓ) (g' : Dev Cert.ReferenceConvIdeal.nD → PrngReg), Pre_KernelConvIdeal m →
    (∀ c : Dev Cert.KernelConvIdeal.nD,
      m' ((c.tc : Thread Cert.ReferenceConvIdeal.nD Cert.ReferenceConvIdeal.τ).loc Cert.ReferenceConvIdeal.main_arg0) = m ((c.tc : Thread Cert.KernelConvIdeal.nD Cert.KernelConvIdeal.τ).loc Cert.KernelConvIdeal.main_arg0)
      ∧ m' ((c.tc : Thread Cert.ReferenceConvIdeal.nD Cert.ReferenceConvIdeal.τ).loc Cert.ReferenceConvIdeal.main_arg1) = m ((c.tc : Thread Cert.KernelConvIdeal.nD Cert.KernelConvIdeal.τ).loc Cert.KernelConvIdeal.main_arg1)
      ∧ m' ((c.tc : Thread Cert.ReferenceConvIdeal.nD Cert.ReferenceConvIdeal.τ).loc Cert.ReferenceConvIdeal.main_arg2) = m ((c.tc : Thread Cert.KernelConvIdeal.nD Cert.KernelConvIdeal.τ).loc Cert.KernelConvIdeal.main_arg2)) →
    ∃ (v0 : (c : Dev Cert.KernelConvIdeal.nD) → Buf (Elt Ideal) ((c.tc : Thread Cert.KernelConvIdeal.nD Cert.KernelConvIdeal.τ).loc Cert.KernelConvIdeal.main_v1_0)) (v1 : (c : Dev Cert.KernelConvIdeal.nD) → Buf (Elt Ideal) ((c.tc : Thread Cert.KernelConvIdeal.nD Cert.KernelConvIdeal.τ).loc Cert.KernelConvIdeal.main_v2)),
      θ_run (Cert.KernelConvIdeal.defs (F := Ideal)) (onTc (τ := Cert.KernelConvIdeal.τ) (Cert.KernelConvIdeal.main (F := Ideal))) ⟨m, fun _ => 0, g⟩ (fun r => ∀ c : Dev Cert.KernelConvIdeal.nD,
          r.2.mem ((c.tc : Thread Cert.KernelConvIdeal.nD Cert.KernelConvIdeal.τ).loc Cert.KernelConvIdeal.main_v1_0) = v0 c
          ∧ r.2.mem ((c.tc : Thread Cert.KernelConvIdeal.nD Cert.KernelConvIdeal.τ).loc Cert.KernelConvIdeal.main_v2) = v1 c
          ∧ r.2.mem ((c.tc : Thread Cert.KernelConvIdeal.nD Cert.KernelConvIdeal.τ).loc Cert.KernelConvIdeal.main_arg0) = m ((c.tc : Thread Cert.KernelConvIdeal.nD Cert.KernelConvIdeal.τ).loc Cert.KernelConvIdeal.main_arg0)
          ∧ r.2.mem ((c.tc : Thread Cert.KernelConvIdeal.nD Cert.KernelConvIdeal.τ).loc Cert.KernelConvIdeal.main_arg1) = m ((c.tc : Thread Cert.KernelConvIdeal.nD Cert.KernelConvIdeal.τ).loc Cert.KernelConvIdeal.main_arg1)
          ∧ r.2.mem ((c.tc : Thread Cert.KernelConvIdeal.nD Cert.KernelConvIdeal.τ).loc Cert.KernelConvIdeal.main_arg2) = m ((c.tc : Thread Cert.KernelConvIdeal.nD Cert.KernelConvIdeal.τ).loc Cert.KernelConvIdeal.main_arg2))
      ∧ θ_run (Cert.ReferenceConvIdeal.defs (F := Ideal)) (onTc (τ := Cert.ReferenceConvIdeal.τ) (Cert.ReferenceConvIdeal.main (F := Ideal))) ⟨m', fun _ => 0, g'⟩ (fun r => ∀ c : Dev Cert.ReferenceConvIdeal.nD,
          r.2.mem ((c.tc : Thread Cert.ReferenceConvIdeal.nD Cert.ReferenceConvIdeal.τ).loc Cert.ReferenceConvIdeal.main_v77) = v0 c
          ∧ r.2.mem ((c.tc : Thread Cert.ReferenceConvIdeal.nD Cert.ReferenceConvIdeal.τ).loc Cert.ReferenceConvIdeal.main_v75) = v1 c
          ∧ r.2.mem ((c.tc : Thread Cert.ReferenceConvIdeal.nD Cert.ReferenceConvIdeal.τ).loc Cert.ReferenceConvIdeal.main_arg0) = m' ((c.tc : Thread Cert.ReferenceConvIdeal.nD Cert.ReferenceConvIdeal.τ).loc Cert.ReferenceConvIdeal.main_arg0)
          ∧ r.2.mem ((c.tc : Thread Cert.ReferenceConvIdeal.nD Cert.ReferenceConvIdeal.τ).loc Cert.ReferenceConvIdeal.main_arg1) = m' ((c.tc : Thread Cert.ReferenceConvIdeal.nD Cert.ReferenceConvIdeal.τ).loc Cert.ReferenceConvIdeal.main_arg1)
          ∧ r.2.mem ((c.tc : Thread Cert.ReferenceConvIdeal.nD Cert.ReferenceConvIdeal.τ).loc Cert.ReferenceConvIdeal.main_arg2) = m' ((c.tc : Thread Cert.ReferenceConvIdeal.nD Cert.ReferenceConvIdeal.τ).loc Cert.ReferenceConvIdeal.main_arg2))

def preserves_KernelFinal_KernelFinalIdeal : Prop :=
  True

def algebraic_KernelFinalIdeal_ReferenceFinalIdeal_pre_final_finite [hKernelFinalIdeal : Cert.KernelFinalIdeal.Facts] [hReferenceFinalIdeal : Cert.ReferenceFinalIdeal.Facts] [hPre_final_finite : Cert.Pre_final_finite.Facts] : Prop :=
  ∀ (m : (ℓ : Loc Cert.KernelFinalIdeal.nD Cert.KernelFinalIdeal.τ Cert.KernelFinalIdeal.sig) → Buf (Elt Ideal) ℓ) (g : Dev Cert.KernelFinalIdeal.nD → PrngReg)
    (m' : (ℓ : Loc Cert.ReferenceFinalIdeal.nD Cert.ReferenceFinalIdeal.τ Cert.ReferenceFinalIdeal.sig) → Buf (Elt Ideal) ℓ) (g' : Dev Cert.ReferenceFinalIdeal.nD → PrngReg), Pre_KernelFinalIdeal_final_finite m →
    (∀ c : Dev Cert.KernelFinalIdeal.nD,
      m' ((c.tc : Thread Cert.ReferenceFinalIdeal.nD Cert.ReferenceFinalIdeal.τ).loc Cert.ReferenceFinalIdeal.main_arg0) = m ((c.tc : Thread Cert.KernelFinalIdeal.nD Cert.KernelFinalIdeal.τ).loc Cert.KernelFinalIdeal.main_arg0)
      ∧ m' ((c.tc : Thread Cert.ReferenceFinalIdeal.nD Cert.ReferenceFinalIdeal.τ).loc Cert.ReferenceFinalIdeal.main_arg1) = m ((c.tc : Thread Cert.KernelFinalIdeal.nD Cert.KernelFinalIdeal.τ).loc Cert.KernelFinalIdeal.main_arg1)
      ∧ m' ((c.tc : Thread Cert.ReferenceFinalIdeal.nD Cert.ReferenceFinalIdeal.τ).loc Cert.ReferenceFinalIdeal.main_arg2) = m ((c.tc : Thread Cert.KernelFinalIdeal.nD Cert.KernelFinalIdeal.τ).loc Cert.KernelFinalIdeal.main_arg2)) →
    ∃ (v0 : (c : Dev Cert.KernelFinalIdeal.nD) → Buf (Elt Ideal) ((c.tc : Thread Cert.KernelFinalIdeal.nD Cert.KernelFinalIdeal.τ).loc Cert.KernelFinalIdeal.main_v3)) (v1 : (c : Dev Cert.KernelFinalIdeal.nD) → Buf (Elt Ideal) ((c.tc : Thread Cert.KernelFinalIdeal.nD Cert.KernelFinalIdeal.τ).loc Cert.KernelFinalIdeal.main_v1_0)) (v2 : (c : Dev Cert.KernelFinalIdeal.nD) → Buf (Elt Ideal) ((c.tc : Thread Cert.KernelFinalIdeal.nD Cert.KernelFinalIdeal.τ).loc Cert.KernelFinalIdeal.main_v1_1)),
      θ_run (Cert.KernelFinalIdeal.defs (F := Ideal)) (onTc (τ := Cert.KernelFinalIdeal.τ) (Cert.KernelFinalIdeal.main (F := Ideal))) ⟨m, fun _ => 0, g⟩ (fun r => ∀ c : Dev Cert.KernelFinalIdeal.nD,
          r.2.mem ((c.tc : Thread Cert.KernelFinalIdeal.nD Cert.KernelFinalIdeal.τ).loc Cert.KernelFinalIdeal.main_v3) = v0 c
          ∧ r.2.mem ((c.tc : Thread Cert.KernelFinalIdeal.nD Cert.KernelFinalIdeal.τ).loc Cert.KernelFinalIdeal.main_v1_0) = v1 c
          ∧ r.2.mem ((c.tc : Thread Cert.KernelFinalIdeal.nD Cert.KernelFinalIdeal.τ).loc Cert.KernelFinalIdeal.main_v1_1) = v2 c
          ∧ r.2.mem ((c.tc : Thread Cert.KernelFinalIdeal.nD Cert.KernelFinalIdeal.τ).loc Cert.KernelFinalIdeal.main_arg0) = m ((c.tc : Thread Cert.KernelFinalIdeal.nD Cert.KernelFinalIdeal.τ).loc Cert.KernelFinalIdeal.main_arg0)
          ∧ r.2.mem ((c.tc : Thread Cert.KernelFinalIdeal.nD Cert.KernelFinalIdeal.τ).loc Cert.KernelFinalIdeal.main_arg1) = m ((c.tc : Thread Cert.KernelFinalIdeal.nD Cert.KernelFinalIdeal.τ).loc Cert.KernelFinalIdeal.main_arg1)
          ∧ r.2.mem ((c.tc : Thread Cert.KernelFinalIdeal.nD Cert.KernelFinalIdeal.τ).loc Cert.KernelFinalIdeal.main_arg2) = m ((c.tc : Thread Cert.KernelFinalIdeal.nD Cert.KernelFinalIdeal.τ).loc Cert.KernelFinalIdeal.main_arg2))
      ∧ θ_run (Cert.ReferenceFinalIdeal.defs (F := Ideal)) (onTc (τ := Cert.ReferenceFinalIdeal.τ) (Cert.ReferenceFinalIdeal.main (F := Ideal))) ⟨m', fun _ => 0, g'⟩ (fun r => ∀ c : Dev Cert.ReferenceFinalIdeal.nD,
          r.2.mem ((c.tc : Thread Cert.ReferenceFinalIdeal.nD Cert.ReferenceFinalIdeal.τ).loc Cert.ReferenceFinalIdeal.main_v24) = v0 c
          ∧ r.2.mem ((c.tc : Thread Cert.ReferenceFinalIdeal.nD Cert.ReferenceFinalIdeal.τ).loc Cert.ReferenceFinalIdeal.main_v50) = v1 c
          ∧ r.2.mem ((c.tc : Thread Cert.ReferenceFinalIdeal.nD Cert.ReferenceFinalIdeal.τ).loc Cert.ReferenceFinalIdeal.main_v51) = v2 c
          ∧ r.2.mem ((c.tc : Thread Cert.ReferenceFinalIdeal.nD Cert.ReferenceFinalIdeal.τ).loc Cert.ReferenceFinalIdeal.main_arg0) = m' ((c.tc : Thread Cert.ReferenceFinalIdeal.nD Cert.ReferenceFinalIdeal.τ).loc Cert.ReferenceFinalIdeal.main_arg0)
          ∧ r.2.mem ((c.tc : Thread Cert.ReferenceFinalIdeal.nD Cert.ReferenceFinalIdeal.τ).loc Cert.ReferenceFinalIdeal.main_arg1) = m' ((c.tc : Thread Cert.ReferenceFinalIdeal.nD Cert.ReferenceFinalIdeal.τ).loc Cert.ReferenceFinalIdeal.main_arg1)
          ∧ r.2.mem ((c.tc : Thread Cert.ReferenceFinalIdeal.nD Cert.ReferenceFinalIdeal.τ).loc Cert.ReferenceFinalIdeal.main_arg2) = m' ((c.tc : Thread Cert.ReferenceFinalIdeal.nD Cert.ReferenceFinalIdeal.τ).loc Cert.ReferenceFinalIdeal.main_arg2))

def preserves_KernelOutProj_KernelOutProjIdeal : Prop :=
  True

def algebraic_KernelOutProjIdeal_ReferenceOutProjIdeal_pre_outproj_finite [hKernelOutProjIdeal : Cert.KernelOutProjIdeal.Facts] [hReferenceOutProjIdeal : Cert.ReferenceOutProjIdeal.Facts] [hPre_outproj_finite : Cert.Pre_outproj_finite.Facts] : Prop :=
  ∀ (m : (ℓ : Loc Cert.KernelOutProjIdeal.nD Cert.KernelOutProjIdeal.τ Cert.KernelOutProjIdeal.sig) → Buf (Elt Ideal) ℓ) (g : Dev Cert.KernelOutProjIdeal.nD → PrngReg)
    (m' : (ℓ : Loc Cert.ReferenceOutProjIdeal.nD Cert.ReferenceOutProjIdeal.τ Cert.ReferenceOutProjIdeal.sig) → Buf (Elt Ideal) ℓ) (g' : Dev Cert.ReferenceOutProjIdeal.nD → PrngReg), Pre_KernelOutProjIdeal_outproj_finite m →
    (∀ c : Dev Cert.KernelOutProjIdeal.nD,
      m' ((c.tc : Thread Cert.ReferenceOutProjIdeal.nD Cert.ReferenceOutProjIdeal.τ).loc Cert.ReferenceOutProjIdeal.main_arg0) = m ((c.tc : Thread Cert.KernelOutProjIdeal.nD Cert.KernelOutProjIdeal.τ).loc Cert.KernelOutProjIdeal.main_arg0)
      ∧ m' ((c.tc : Thread Cert.ReferenceOutProjIdeal.nD Cert.ReferenceOutProjIdeal.τ).loc Cert.ReferenceOutProjIdeal.main_arg1) = m ((c.tc : Thread Cert.KernelOutProjIdeal.nD Cert.KernelOutProjIdeal.τ).loc Cert.KernelOutProjIdeal.main_arg1)
      ∧ m' ((c.tc : Thread Cert.ReferenceOutProjIdeal.nD Cert.ReferenceOutProjIdeal.τ).loc Cert.ReferenceOutProjIdeal.main_arg2) = m ((c.tc : Thread Cert.KernelOutProjIdeal.nD Cert.KernelOutProjIdeal.τ).loc Cert.KernelOutProjIdeal.main_arg2)
      ∧ m' ((c.tc : Thread Cert.ReferenceOutProjIdeal.nD Cert.ReferenceOutProjIdeal.τ).loc Cert.ReferenceOutProjIdeal.main_arg3) = m ((c.tc : Thread Cert.KernelOutProjIdeal.nD Cert.KernelOutProjIdeal.τ).loc Cert.KernelOutProjIdeal.main_arg3)
      ∧ m' ((c.tc : Thread Cert.ReferenceOutProjIdeal.nD Cert.ReferenceOutProjIdeal.τ).loc Cert.ReferenceOutProjIdeal.main_arg4) = m ((c.tc : Thread Cert.KernelOutProjIdeal.nD Cert.KernelOutProjIdeal.τ).loc Cert.KernelOutProjIdeal.main_arg4)
      ∧ m' ((c.tc : Thread Cert.ReferenceOutProjIdeal.nD Cert.ReferenceOutProjIdeal.τ).loc Cert.ReferenceOutProjIdeal.main_arg5) = m ((c.tc : Thread Cert.KernelOutProjIdeal.nD Cert.KernelOutProjIdeal.τ).loc Cert.KernelOutProjIdeal.main_arg5)
      ∧ m' ((c.tc : Thread Cert.ReferenceOutProjIdeal.nD Cert.ReferenceOutProjIdeal.τ).loc Cert.ReferenceOutProjIdeal.main_arg6) = m ((c.tc : Thread Cert.KernelOutProjIdeal.nD Cert.KernelOutProjIdeal.τ).loc Cert.KernelOutProjIdeal.main_arg6)
      ∧ m' ((c.tc : Thread Cert.ReferenceOutProjIdeal.nD Cert.ReferenceOutProjIdeal.τ).loc Cert.ReferenceOutProjIdeal.main_arg7) = m ((c.tc : Thread Cert.KernelOutProjIdeal.nD Cert.KernelOutProjIdeal.τ).loc Cert.KernelOutProjIdeal.main_arg7)) →
    ∃ (v0 : (c : Dev Cert.KernelOutProjIdeal.nD) → Buf (Elt Ideal) ((c.tc : Thread Cert.KernelOutProjIdeal.nD Cert.KernelOutProjIdeal.τ).loc Cert.KernelOutProjIdeal.main_v4_0)) (v1 : (c : Dev Cert.KernelOutProjIdeal.nD) → Buf (Elt Ideal) ((c.tc : Thread Cert.KernelOutProjIdeal.nD Cert.KernelOutProjIdeal.τ).loc Cert.KernelOutProjIdeal.main_v4_1)) (v2 : (c : Dev Cert.KernelOutProjIdeal.nD) → Buf (Elt Ideal) ((c.tc : Thread Cert.KernelOutProjIdeal.nD Cert.KernelOutProjIdeal.τ).loc Cert.KernelOutProjIdeal.main_v4_2)) (v3 : (c : Dev Cert.KernelOutProjIdeal.nD) → Buf (Elt Ideal) ((c.tc : Thread Cert.KernelOutProjIdeal.nD Cert.KernelOutProjIdeal.τ).loc Cert.KernelOutProjIdeal.main_v4_3)) (v4 : (c : Dev Cert.KernelOutProjIdeal.nD) → Buf (Elt Ideal) ((c.tc : Thread Cert.KernelOutProjIdeal.nD Cert.KernelOutProjIdeal.τ).loc Cert.KernelOutProjIdeal.main_v4_4)) (v5 : (c : Dev Cert.KernelOutProjIdeal.nD) → Buf (Elt Ideal) ((c.tc : Thread Cert.KernelOutProjIdeal.nD Cert.KernelOutProjIdeal.τ).loc Cert.KernelOutProjIdeal.main_v4_5)),
      θ_run (Cert.KernelOutProjIdeal.defs (F := Ideal)) (onTc (τ := Cert.KernelOutProjIdeal.τ) (Cert.KernelOutProjIdeal.main (F := Ideal))) ⟨m, fun _ => 0, g⟩ (fun r => ∀ c : Dev Cert.KernelOutProjIdeal.nD,
          r.2.mem ((c.tc : Thread Cert.KernelOutProjIdeal.nD Cert.KernelOutProjIdeal.τ).loc Cert.KernelOutProjIdeal.main_v4_0) = v0 c
          ∧ r.2.mem ((c.tc : Thread Cert.KernelOutProjIdeal.nD Cert.KernelOutProjIdeal.τ).loc Cert.KernelOutProjIdeal.main_v4_1) = v1 c
          ∧ r.2.mem ((c.tc : Thread Cert.KernelOutProjIdeal.nD Cert.KernelOutProjIdeal.τ).loc Cert.KernelOutProjIdeal.main_v4_2) = v2 c
          ∧ r.2.mem ((c.tc : Thread Cert.KernelOutProjIdeal.nD Cert.KernelOutProjIdeal.τ).loc Cert.KernelOutProjIdeal.main_v4_3) = v3 c
          ∧ r.2.mem ((c.tc : Thread Cert.KernelOutProjIdeal.nD Cert.KernelOutProjIdeal.τ).loc Cert.KernelOutProjIdeal.main_v4_4) = v4 c
          ∧ r.2.mem ((c.tc : Thread Cert.KernelOutProjIdeal.nD Cert.KernelOutProjIdeal.τ).loc Cert.KernelOutProjIdeal.main_v4_5) = v5 c
          ∧ r.2.mem ((c.tc : Thread Cert.KernelOutProjIdeal.nD Cert.KernelOutProjIdeal.τ).loc Cert.KernelOutProjIdeal.main_arg0) = m ((c.tc : Thread Cert.KernelOutProjIdeal.nD Cert.KernelOutProjIdeal.τ).loc Cert.KernelOutProjIdeal.main_arg0)
          ∧ r.2.mem ((c.tc : Thread Cert.KernelOutProjIdeal.nD Cert.KernelOutProjIdeal.τ).loc Cert.KernelOutProjIdeal.main_arg1) = m ((c.tc : Thread Cert.KernelOutProjIdeal.nD Cert.KernelOutProjIdeal.τ).loc Cert.KernelOutProjIdeal.main_arg1)
          ∧ r.2.mem ((c.tc : Thread Cert.KernelOutProjIdeal.nD Cert.KernelOutProjIdeal.τ).loc Cert.KernelOutProjIdeal.main_arg2) = m ((c.tc : Thread Cert.KernelOutProjIdeal.nD Cert.KernelOutProjIdeal.τ).loc Cert.KernelOutProjIdeal.main_arg2)
          ∧ r.2.mem ((c.tc : Thread Cert.KernelOutProjIdeal.nD Cert.KernelOutProjIdeal.τ).loc Cert.KernelOutProjIdeal.main_arg3) = m ((c.tc : Thread Cert.KernelOutProjIdeal.nD Cert.KernelOutProjIdeal.τ).loc Cert.KernelOutProjIdeal.main_arg3)
          ∧ r.2.mem ((c.tc : Thread Cert.KernelOutProjIdeal.nD Cert.KernelOutProjIdeal.τ).loc Cert.KernelOutProjIdeal.main_arg4) = m ((c.tc : Thread Cert.KernelOutProjIdeal.nD Cert.KernelOutProjIdeal.τ).loc Cert.KernelOutProjIdeal.main_arg4)
          ∧ r.2.mem ((c.tc : Thread Cert.KernelOutProjIdeal.nD Cert.KernelOutProjIdeal.τ).loc Cert.KernelOutProjIdeal.main_arg5) = m ((c.tc : Thread Cert.KernelOutProjIdeal.nD Cert.KernelOutProjIdeal.τ).loc Cert.KernelOutProjIdeal.main_arg5)
          ∧ r.2.mem ((c.tc : Thread Cert.KernelOutProjIdeal.nD Cert.KernelOutProjIdeal.τ).loc Cert.KernelOutProjIdeal.main_arg6) = m ((c.tc : Thread Cert.KernelOutProjIdeal.nD Cert.KernelOutProjIdeal.τ).loc Cert.KernelOutProjIdeal.main_arg6)
          ∧ r.2.mem ((c.tc : Thread Cert.KernelOutProjIdeal.nD Cert.KernelOutProjIdeal.τ).loc Cert.KernelOutProjIdeal.main_arg7) = m ((c.tc : Thread Cert.KernelOutProjIdeal.nD Cert.KernelOutProjIdeal.τ).loc Cert.KernelOutProjIdeal.main_arg7))
      ∧ θ_run (Cert.ReferenceOutProjIdeal.defs (F := Ideal)) (onTc (τ := Cert.ReferenceOutProjIdeal.τ) (Cert.ReferenceOutProjIdeal.main (F := Ideal))) ⟨m', fun _ => 0, g'⟩ (fun r => ∀ c : Dev Cert.ReferenceOutProjIdeal.nD,
          r.2.mem ((c.tc : Thread Cert.ReferenceOutProjIdeal.nD Cert.ReferenceOutProjIdeal.τ).loc Cert.ReferenceOutProjIdeal.main_v38) = v0 c
          ∧ r.2.mem ((c.tc : Thread Cert.ReferenceOutProjIdeal.nD Cert.ReferenceOutProjIdeal.τ).loc Cert.ReferenceOutProjIdeal.main_v47) = v1 c
          ∧ r.2.mem ((c.tc : Thread Cert.ReferenceOutProjIdeal.nD Cert.ReferenceOutProjIdeal.τ).loc Cert.ReferenceOutProjIdeal.main_v44) = v2 c
          ∧ r.2.mem ((c.tc : Thread Cert.ReferenceOutProjIdeal.nD Cert.ReferenceOutProjIdeal.τ).loc Cert.ReferenceOutProjIdeal.main_v45) = v3 c
          ∧ r.2.mem ((c.tc : Thread Cert.ReferenceOutProjIdeal.nD Cert.ReferenceOutProjIdeal.τ).loc Cert.ReferenceOutProjIdeal.main_v46) = v4 c
          ∧ r.2.mem ((c.tc : Thread Cert.ReferenceOutProjIdeal.nD Cert.ReferenceOutProjIdeal.τ).loc Cert.ReferenceOutProjIdeal.main_v42) = v5 c
          ∧ r.2.mem ((c.tc : Thread Cert.ReferenceOutProjIdeal.nD Cert.ReferenceOutProjIdeal.τ).loc Cert.ReferenceOutProjIdeal.main_arg0) = m' ((c.tc : Thread Cert.ReferenceOutProjIdeal.nD Cert.ReferenceOutProjIdeal.τ).loc Cert.ReferenceOutProjIdeal.main_arg0)
          ∧ r.2.mem ((c.tc : Thread Cert.ReferenceOutProjIdeal.nD Cert.ReferenceOutProjIdeal.τ).loc Cert.ReferenceOutProjIdeal.main_arg1) = m' ((c.tc : Thread Cert.ReferenceOutProjIdeal.nD Cert.ReferenceOutProjIdeal.τ).loc Cert.ReferenceOutProjIdeal.main_arg1)
          ∧ r.2.mem ((c.tc : Thread Cert.ReferenceOutProjIdeal.nD Cert.ReferenceOutProjIdeal.τ).loc Cert.ReferenceOutProjIdeal.main_arg2) = m' ((c.tc : Thread Cert.ReferenceOutProjIdeal.nD Cert.ReferenceOutProjIdeal.τ).loc Cert.ReferenceOutProjIdeal.main_arg2)
          ∧ r.2.mem ((c.tc : Thread Cert.ReferenceOutProjIdeal.nD Cert.ReferenceOutProjIdeal.τ).loc Cert.ReferenceOutProjIdeal.main_arg3) = m' ((c.tc : Thread Cert.ReferenceOutProjIdeal.nD Cert.ReferenceOutProjIdeal.τ).loc Cert.ReferenceOutProjIdeal.main_arg3)
          ∧ r.2.mem ((c.tc : Thread Cert.ReferenceOutProjIdeal.nD Cert.ReferenceOutProjIdeal.τ).loc Cert.ReferenceOutProjIdeal.main_arg4) = m' ((c.tc : Thread Cert.ReferenceOutProjIdeal.nD Cert.ReferenceOutProjIdeal.τ).loc Cert.ReferenceOutProjIdeal.main_arg4)
          ∧ r.2.mem ((c.tc : Thread Cert.ReferenceOutProjIdeal.nD Cert.ReferenceOutProjIdeal.τ).loc Cert.ReferenceOutProjIdeal.main_arg5) = m' ((c.tc : Thread Cert.ReferenceOutProjIdeal.nD Cert.ReferenceOutProjIdeal.τ).loc Cert.ReferenceOutProjIdeal.main_arg5)
          ∧ r.2.mem ((c.tc : Thread Cert.ReferenceOutProjIdeal.nD Cert.ReferenceOutProjIdeal.τ).loc Cert.ReferenceOutProjIdeal.main_arg6) = m' ((c.tc : Thread Cert.ReferenceOutProjIdeal.nD Cert.ReferenceOutProjIdeal.τ).loc Cert.ReferenceOutProjIdeal.main_arg6)
          ∧ r.2.mem ((c.tc : Thread Cert.ReferenceOutProjIdeal.nD Cert.ReferenceOutProjIdeal.τ).loc Cert.ReferenceOutProjIdeal.main_arg7) = m' ((c.tc : Thread Cert.ReferenceOutProjIdeal.nD Cert.ReferenceOutProjIdeal.τ).loc Cert.ReferenceOutProjIdeal.main_arg7))

def preserves_KernelAttn_KernelAttnIdeal : Prop :=
  IdealRules.named_const.Statement Cert.KernelAttnIdeal.κ "mask" .f32 0xF149F2CA#32 ⊥

def algebraic_KernelAttnIdeal_ReferenceAttnIdeal_pre_attn_finite [hKernelAttnIdeal : Cert.KernelAttnIdeal.Facts] [hReferenceAttnIdeal : Cert.ReferenceAttnIdeal.Facts] [hPre_attn_finite : Cert.Pre_attn_finite.Facts] : Prop :=
  ∀ (m : (ℓ : Loc Cert.KernelAttnIdeal.nD Cert.KernelAttnIdeal.τ Cert.KernelAttnIdeal.sig) → Buf (Elt Ideal) ℓ) (g : Dev Cert.KernelAttnIdeal.nD → PrngReg)
    (m' : (ℓ : Loc Cert.ReferenceAttnIdeal.nD Cert.ReferenceAttnIdeal.τ Cert.ReferenceAttnIdeal.sig) → Buf (Elt Ideal) ℓ) (g' : Dev Cert.ReferenceAttnIdeal.nD → PrngReg), Pre_KernelAttnIdeal_attn_finite m →
    (∀ c : Dev Cert.KernelAttnIdeal.nD,
      m' ((c.tc : Thread Cert.ReferenceAttnIdeal.nD Cert.ReferenceAttnIdeal.τ).loc Cert.ReferenceAttnIdeal.main_arg0) = m ((c.tc : Thread Cert.KernelAttnIdeal.nD Cert.KernelAttnIdeal.τ).loc Cert.KernelAttnIdeal.main_arg0)
      ∧ m' ((c.tc : Thread Cert.ReferenceAttnIdeal.nD Cert.ReferenceAttnIdeal.τ).loc Cert.ReferenceAttnIdeal.main_arg1) = m ((c.tc : Thread Cert.KernelAttnIdeal.nD Cert.KernelAttnIdeal.τ).loc Cert.KernelAttnIdeal.main_arg1)
      ∧ m' ((c.tc : Thread Cert.ReferenceAttnIdeal.nD Cert.ReferenceAttnIdeal.τ).loc Cert.ReferenceAttnIdeal.main_arg2) = m ((c.tc : Thread Cert.KernelAttnIdeal.nD Cert.KernelAttnIdeal.τ).loc Cert.KernelAttnIdeal.main_arg2)) →
    ∃ (v0 : (c : Dev Cert.KernelAttnIdeal.nD) → Buf (Elt Ideal) ((c.tc : Thread Cert.KernelAttnIdeal.nD Cert.KernelAttnIdeal.τ).loc Cert.KernelAttnIdeal.main_v1)) (v1 : (c : Dev Cert.KernelAttnIdeal.nD) → Buf (Elt Ideal) ((c.tc : Thread Cert.KernelAttnIdeal.nD Cert.KernelAttnIdeal.τ).loc Cert.KernelAttnIdeal.main_v0_0)) (v2 : (c : Dev Cert.KernelAttnIdeal.nD) → Buf (Elt Ideal) ((c.tc : Thread Cert.KernelAttnIdeal.nD Cert.KernelAttnIdeal.τ).loc Cert.KernelAttnIdeal.main_v0_1)),
      θ_run (Cert.KernelAttnIdeal.defs (F := Ideal)) (onTc (τ := Cert.KernelAttnIdeal.τ) (Cert.KernelAttnIdeal.main (F := Ideal))) ⟨m, fun _ => 0, g⟩ (fun r => ∀ c : Dev Cert.KernelAttnIdeal.nD,
          r.2.mem ((c.tc : Thread Cert.KernelAttnIdeal.nD Cert.KernelAttnIdeal.τ).loc Cert.KernelAttnIdeal.main_v1) = v0 c
          ∧ r.2.mem ((c.tc : Thread Cert.KernelAttnIdeal.nD Cert.KernelAttnIdeal.τ).loc Cert.KernelAttnIdeal.main_v0_0) = v1 c
          ∧ r.2.mem ((c.tc : Thread Cert.KernelAttnIdeal.nD Cert.KernelAttnIdeal.τ).loc Cert.KernelAttnIdeal.main_v0_1) = v2 c
          ∧ r.2.mem ((c.tc : Thread Cert.KernelAttnIdeal.nD Cert.KernelAttnIdeal.τ).loc Cert.KernelAttnIdeal.main_arg0) = m ((c.tc : Thread Cert.KernelAttnIdeal.nD Cert.KernelAttnIdeal.τ).loc Cert.KernelAttnIdeal.main_arg0)
          ∧ r.2.mem ((c.tc : Thread Cert.KernelAttnIdeal.nD Cert.KernelAttnIdeal.τ).loc Cert.KernelAttnIdeal.main_arg1) = m ((c.tc : Thread Cert.KernelAttnIdeal.nD Cert.KernelAttnIdeal.τ).loc Cert.KernelAttnIdeal.main_arg1)
          ∧ r.2.mem ((c.tc : Thread Cert.KernelAttnIdeal.nD Cert.KernelAttnIdeal.τ).loc Cert.KernelAttnIdeal.main_arg2) = m ((c.tc : Thread Cert.KernelAttnIdeal.nD Cert.KernelAttnIdeal.τ).loc Cert.KernelAttnIdeal.main_arg2))
      ∧ θ_run (Cert.ReferenceAttnIdeal.defs (F := Ideal)) (onTc (τ := Cert.ReferenceAttnIdeal.τ) (Cert.ReferenceAttnIdeal.main (F := Ideal))) ⟨m', fun _ => 0, g'⟩ (fun r => ∀ c : Dev Cert.ReferenceAttnIdeal.nD,
          r.2.mem ((c.tc : Thread Cert.ReferenceAttnIdeal.nD Cert.ReferenceAttnIdeal.τ).loc Cert.ReferenceAttnIdeal.main_v135) = v0 c
          ∧ r.2.mem ((c.tc : Thread Cert.ReferenceAttnIdeal.nD Cert.ReferenceAttnIdeal.τ).loc Cert.ReferenceAttnIdeal.main_v73) = v1 c
          ∧ r.2.mem ((c.tc : Thread Cert.ReferenceAttnIdeal.nD Cert.ReferenceAttnIdeal.τ).loc Cert.ReferenceAttnIdeal.main_v137) = v2 c
          ∧ r.2.mem ((c.tc : Thread Cert.ReferenceAttnIdeal.nD Cert.ReferenceAttnIdeal.τ).loc Cert.ReferenceAttnIdeal.main_arg0) = m' ((c.tc : Thread Cert.ReferenceAttnIdeal.nD Cert.ReferenceAttnIdeal.τ).loc Cert.ReferenceAttnIdeal.main_arg0)
          ∧ r.2.mem ((c.tc : Thread Cert.ReferenceAttnIdeal.nD Cert.ReferenceAttnIdeal.τ).loc Cert.ReferenceAttnIdeal.main_arg1) = m' ((c.tc : Thread Cert.ReferenceAttnIdeal.nD Cert.ReferenceAttnIdeal.τ).loc Cert.ReferenceAttnIdeal.main_arg1)
          ∧ r.2.mem ((c.tc : Thread Cert.ReferenceAttnIdeal.nD Cert.ReferenceAttnIdeal.τ).loc Cert.ReferenceAttnIdeal.main_arg2) = m' ((c.tc : Thread Cert.ReferenceAttnIdeal.nD Cert.ReferenceAttnIdeal.τ).loc Cert.ReferenceAttnIdeal.main_arg2))

def preserves_KernelPool_KernelPoolIdeal : Prop :=
  True

def algebraic_KernelPoolIdeal_ReferencePoolIdeal_pre_pool_finite [hKernelPoolIdeal : Cert.KernelPoolIdeal.Facts] [hReferencePoolIdeal : Cert.ReferencePoolIdeal.Facts] [hPre_pool_finite : Cert.Pre_pool_finite.Facts] : Prop :=
  ∀ (m : (ℓ : Loc Cert.KernelPoolIdeal.nD Cert.KernelPoolIdeal.τ Cert.KernelPoolIdeal.sig) → Buf (Elt Ideal) ℓ) (g : Dev Cert.KernelPoolIdeal.nD → PrngReg)
    (m' : (ℓ : Loc Cert.ReferencePoolIdeal.nD Cert.ReferencePoolIdeal.τ Cert.ReferencePoolIdeal.sig) → Buf (Elt Ideal) ℓ) (g' : Dev Cert.ReferencePoolIdeal.nD → PrngReg), Pre_KernelPoolIdeal_pool_finite m →
    (∀ c : Dev Cert.KernelPoolIdeal.nD,
      m' ((c.tc : Thread Cert.ReferencePoolIdeal.nD Cert.ReferencePoolIdeal.τ).loc Cert.ReferencePoolIdeal.main_arg0) = m ((c.tc : Thread Cert.KernelPoolIdeal.nD Cert.KernelPoolIdeal.τ).loc Cert.KernelPoolIdeal.main_arg0)
      ∧ m' ((c.tc : Thread Cert.ReferencePoolIdeal.nD Cert.ReferencePoolIdeal.τ).loc Cert.ReferencePoolIdeal.main_arg1) = m ((c.tc : Thread Cert.KernelPoolIdeal.nD Cert.KernelPoolIdeal.τ).loc Cert.KernelPoolIdeal.main_arg1)
      ∧ m' ((c.tc : Thread Cert.ReferencePoolIdeal.nD Cert.ReferencePoolIdeal.τ).loc Cert.ReferencePoolIdeal.main_arg2) = m ((c.tc : Thread Cert.KernelPoolIdeal.nD Cert.KernelPoolIdeal.τ).loc Cert.KernelPoolIdeal.main_arg2)
      ∧ m' ((c.tc : Thread Cert.ReferencePoolIdeal.nD Cert.ReferencePoolIdeal.τ).loc Cert.ReferencePoolIdeal.main_arg3) = m ((c.tc : Thread Cert.KernelPoolIdeal.nD Cert.KernelPoolIdeal.τ).loc Cert.KernelPoolIdeal.main_arg3)) →
    ∃ (v0 : (c : Dev Cert.KernelPoolIdeal.nD) → Buf (Elt Ideal) ((c.tc : Thread Cert.KernelPoolIdeal.nD Cert.KernelPoolIdeal.τ).loc Cert.KernelPoolIdeal.main_v15_0)) (v1 : (c : Dev Cert.KernelPoolIdeal.nD) → Buf (Elt Ideal) ((c.tc : Thread Cert.KernelPoolIdeal.nD Cert.KernelPoolIdeal.τ).loc Cert.KernelPoolIdeal.main_v24)) (v2 : (c : Dev Cert.KernelPoolIdeal.nD) → Buf (Elt Ideal) ((c.tc : Thread Cert.KernelPoolIdeal.nD Cert.KernelPoolIdeal.τ).loc Cert.KernelPoolIdeal.main_v15_2)),
      θ_run (Cert.KernelPoolIdeal.defs (F := Ideal)) (onTc (τ := Cert.KernelPoolIdeal.τ) (Cert.KernelPoolIdeal.main (F := Ideal))) ⟨m, fun _ => 0, g⟩ (fun r => ∀ c : Dev Cert.KernelPoolIdeal.nD,
          r.2.mem ((c.tc : Thread Cert.KernelPoolIdeal.nD Cert.KernelPoolIdeal.τ).loc Cert.KernelPoolIdeal.main_v15_0) = v0 c
          ∧ r.2.mem ((c.tc : Thread Cert.KernelPoolIdeal.nD Cert.KernelPoolIdeal.τ).loc Cert.KernelPoolIdeal.main_v24) = v1 c
          ∧ r.2.mem ((c.tc : Thread Cert.KernelPoolIdeal.nD Cert.KernelPoolIdeal.τ).loc Cert.KernelPoolIdeal.main_v15_2) = v2 c
          ∧ r.2.mem ((c.tc : Thread Cert.KernelPoolIdeal.nD Cert.KernelPoolIdeal.τ).loc Cert.KernelPoolIdeal.main_arg0) = m ((c.tc : Thread Cert.KernelPoolIdeal.nD Cert.KernelPoolIdeal.τ).loc Cert.KernelPoolIdeal.main_arg0)
          ∧ r.2.mem ((c.tc : Thread Cert.KernelPoolIdeal.nD Cert.KernelPoolIdeal.τ).loc Cert.KernelPoolIdeal.main_arg1) = m ((c.tc : Thread Cert.KernelPoolIdeal.nD Cert.KernelPoolIdeal.τ).loc Cert.KernelPoolIdeal.main_arg1)
          ∧ r.2.mem ((c.tc : Thread Cert.KernelPoolIdeal.nD Cert.KernelPoolIdeal.τ).loc Cert.KernelPoolIdeal.main_arg2) = m ((c.tc : Thread Cert.KernelPoolIdeal.nD Cert.KernelPoolIdeal.τ).loc Cert.KernelPoolIdeal.main_arg2)
          ∧ r.2.mem ((c.tc : Thread Cert.KernelPoolIdeal.nD Cert.KernelPoolIdeal.τ).loc Cert.KernelPoolIdeal.main_arg3) = m ((c.tc : Thread Cert.KernelPoolIdeal.nD Cert.KernelPoolIdeal.τ).loc Cert.KernelPoolIdeal.main_arg3))
      ∧ θ_run (Cert.ReferencePoolIdeal.defs (F := Ideal)) (onTc (τ := Cert.ReferencePoolIdeal.τ) (Cert.ReferencePoolIdeal.main (F := Ideal))) ⟨m', fun _ => 0, g'⟩ (fun r => ∀ c : Dev Cert.ReferencePoolIdeal.nD,
          r.2.mem ((c.tc : Thread Cert.ReferencePoolIdeal.nD Cert.ReferencePoolIdeal.τ).loc Cert.ReferencePoolIdeal.main_v137) = v0 c
          ∧ r.2.mem ((c.tc : Thread Cert.ReferencePoolIdeal.nD Cert.ReferencePoolIdeal.τ).loc Cert.ReferencePoolIdeal.main_v86) = v1 c
          ∧ r.2.mem ((c.tc : Thread Cert.ReferencePoolIdeal.nD Cert.ReferencePoolIdeal.τ).loc Cert.ReferencePoolIdeal.main_v138) = v2 c
          ∧ r.2.mem ((c.tc : Thread Cert.ReferencePoolIdeal.nD Cert.ReferencePoolIdeal.τ).loc Cert.ReferencePoolIdeal.main_arg0) = m' ((c.tc : Thread Cert.ReferencePoolIdeal.nD Cert.ReferencePoolIdeal.τ).loc Cert.ReferencePoolIdeal.main_arg0)
          ∧ r.2.mem ((c.tc : Thread Cert.ReferencePoolIdeal.nD Cert.ReferencePoolIdeal.τ).loc Cert.ReferencePoolIdeal.main_arg1) = m' ((c.tc : Thread Cert.ReferencePoolIdeal.nD Cert.ReferencePoolIdeal.τ).loc Cert.ReferencePoolIdeal.main_arg1)
          ∧ r.2.mem ((c.tc : Thread Cert.ReferencePoolIdeal.nD Cert.ReferencePoolIdeal.τ).loc Cert.ReferencePoolIdeal.main_arg2) = m' ((c.tc : Thread Cert.ReferencePoolIdeal.nD Cert.ReferencePoolIdeal.τ).loc Cert.ReferencePoolIdeal.main_arg2)
          ∧ r.2.mem ((c.tc : Thread Cert.ReferencePoolIdeal.nD Cert.ReferencePoolIdeal.τ).loc Cert.ReferencePoolIdeal.main_arg3) = m' ((c.tc : Thread Cert.ReferencePoolIdeal.nD Cert.ReferencePoolIdeal.τ).loc Cert.ReferencePoolIdeal.main_arg3))

def preserves_KernelPost_KernelPostIdeal : Prop :=
  True

def algebraic_KernelPostIdeal_ReferencePostIdeal [hKernelPostIdeal : Cert.KernelPostIdeal.Facts] [hReferencePostIdeal : Cert.ReferencePostIdeal.Facts] : Prop :=
  ∀ (m : (ℓ : Loc Cert.KernelPostIdeal.nD Cert.KernelPostIdeal.τ Cert.KernelPostIdeal.sig) → Buf (Elt Ideal) ℓ) (g : Dev Cert.KernelPostIdeal.nD → PrngReg)
    (m' : (ℓ : Loc Cert.ReferencePostIdeal.nD Cert.ReferencePostIdeal.τ Cert.ReferencePostIdeal.sig) → Buf (Elt Ideal) ℓ) (g' : Dev Cert.ReferencePostIdeal.nD → PrngReg), Pre_KernelPostIdeal m →
    (∀ c : Dev Cert.KernelPostIdeal.nD,
      m' ((c.tc : Thread Cert.ReferencePostIdeal.nD Cert.ReferencePostIdeal.τ).loc Cert.ReferencePostIdeal.main_arg0) = m ((c.tc : Thread Cert.KernelPostIdeal.nD Cert.KernelPostIdeal.τ).loc Cert.KernelPostIdeal.main_arg0)
      ∧ m' ((c.tc : Thread Cert.ReferencePostIdeal.nD Cert.ReferencePostIdeal.τ).loc Cert.ReferencePostIdeal.main_arg1) = m ((c.tc : Thread Cert.KernelPostIdeal.nD Cert.KernelPostIdeal.τ).loc Cert.KernelPostIdeal.main_arg1)
      ∧ m' ((c.tc : Thread Cert.ReferencePostIdeal.nD Cert.ReferencePostIdeal.τ).loc Cert.ReferencePostIdeal.main_arg2) = m ((c.tc : Thread Cert.KernelPostIdeal.nD Cert.KernelPostIdeal.τ).loc Cert.KernelPostIdeal.main_arg2)
      ∧ m' ((c.tc : Thread Cert.ReferencePostIdeal.nD Cert.ReferencePostIdeal.τ).loc Cert.ReferencePostIdeal.main_arg3) = m ((c.tc : Thread Cert.KernelPostIdeal.nD Cert.KernelPostIdeal.τ).loc Cert.KernelPostIdeal.main_arg3)) →
    ∃ (v0 : (c : Dev Cert.KernelPostIdeal.nD) → Buf (Elt Ideal) ((c.tc : Thread Cert.KernelPostIdeal.nD Cert.KernelPostIdeal.τ).loc Cert.KernelPostIdeal.main_v1_0)) (v1 : (c : Dev Cert.KernelPostIdeal.nD) → Buf (Elt Ideal) ((c.tc : Thread Cert.KernelPostIdeal.nD Cert.KernelPostIdeal.τ).loc Cert.KernelPostIdeal.main_v1_1)) (v2 : (c : Dev Cert.KernelPostIdeal.nD) → Buf (Elt Ideal) ((c.tc : Thread Cert.KernelPostIdeal.nD Cert.KernelPostIdeal.τ).loc Cert.KernelPostIdeal.main_v1_2)),
      θ_run (Cert.KernelPostIdeal.defs (F := Ideal)) (onTc (τ := Cert.KernelPostIdeal.τ) (Cert.KernelPostIdeal.main (F := Ideal))) ⟨m, fun _ => 0, g⟩ (fun r => ∀ c : Dev Cert.KernelPostIdeal.nD,
          r.2.mem ((c.tc : Thread Cert.KernelPostIdeal.nD Cert.KernelPostIdeal.τ).loc Cert.KernelPostIdeal.main_v1_0) = v0 c
          ∧ r.2.mem ((c.tc : Thread Cert.KernelPostIdeal.nD Cert.KernelPostIdeal.τ).loc Cert.KernelPostIdeal.main_v1_1) = v1 c
          ∧ r.2.mem ((c.tc : Thread Cert.KernelPostIdeal.nD Cert.KernelPostIdeal.τ).loc Cert.KernelPostIdeal.main_v1_2) = v2 c
          ∧ r.2.mem ((c.tc : Thread Cert.KernelPostIdeal.nD Cert.KernelPostIdeal.τ).loc Cert.KernelPostIdeal.main_arg0) = m ((c.tc : Thread Cert.KernelPostIdeal.nD Cert.KernelPostIdeal.τ).loc Cert.KernelPostIdeal.main_arg0)
          ∧ r.2.mem ((c.tc : Thread Cert.KernelPostIdeal.nD Cert.KernelPostIdeal.τ).loc Cert.KernelPostIdeal.main_arg1) = m ((c.tc : Thread Cert.KernelPostIdeal.nD Cert.KernelPostIdeal.τ).loc Cert.KernelPostIdeal.main_arg1)
          ∧ r.2.mem ((c.tc : Thread Cert.KernelPostIdeal.nD Cert.KernelPostIdeal.τ).loc Cert.KernelPostIdeal.main_arg2) = m ((c.tc : Thread Cert.KernelPostIdeal.nD Cert.KernelPostIdeal.τ).loc Cert.KernelPostIdeal.main_arg2)
          ∧ r.2.mem ((c.tc : Thread Cert.KernelPostIdeal.nD Cert.KernelPostIdeal.τ).loc Cert.KernelPostIdeal.main_arg3) = m ((c.tc : Thread Cert.KernelPostIdeal.nD Cert.KernelPostIdeal.τ).loc Cert.KernelPostIdeal.main_arg3))
      ∧ θ_run (Cert.ReferencePostIdeal.defs (F := Ideal)) (onTc (τ := Cert.ReferencePostIdeal.τ) (Cert.ReferencePostIdeal.main (F := Ideal))) ⟨m', fun _ => 0, g'⟩ (fun r => ∀ c : Dev Cert.ReferencePostIdeal.nD,
          r.2.mem ((c.tc : Thread Cert.ReferencePostIdeal.nD Cert.ReferencePostIdeal.τ).loc Cert.ReferencePostIdeal.main_v46) = v0 c
          ∧ r.2.mem ((c.tc : Thread Cert.ReferencePostIdeal.nD Cert.ReferencePostIdeal.τ).loc Cert.ReferencePostIdeal.main_v25) = v1 c
          ∧ r.2.mem ((c.tc : Thread Cert.ReferencePostIdeal.nD Cert.ReferencePostIdeal.τ).loc Cert.ReferencePostIdeal.main_v47) = v2 c
          ∧ r.2.mem ((c.tc : Thread Cert.ReferencePostIdeal.nD Cert.ReferencePostIdeal.τ).loc Cert.ReferencePostIdeal.main_arg0) = m' ((c.tc : Thread Cert.ReferencePostIdeal.nD Cert.ReferencePostIdeal.τ).loc Cert.ReferencePostIdeal.main_arg0)
          ∧ r.2.mem ((c.tc : Thread Cert.ReferencePostIdeal.nD Cert.ReferencePostIdeal.τ).loc Cert.ReferencePostIdeal.main_arg1) = m' ((c.tc : Thread Cert.ReferencePostIdeal.nD Cert.ReferencePostIdeal.τ).loc Cert.ReferencePostIdeal.main_arg1)
          ∧ r.2.mem ((c.tc : Thread Cert.ReferencePostIdeal.nD Cert.ReferencePostIdeal.τ).loc Cert.ReferencePostIdeal.main_arg2) = m' ((c.tc : Thread Cert.ReferencePostIdeal.nD Cert.ReferencePostIdeal.τ).loc Cert.ReferencePostIdeal.main_arg2)
          ∧ r.2.mem ((c.tc : Thread Cert.ReferencePostIdeal.nD Cert.ReferencePostIdeal.τ).loc Cert.ReferencePostIdeal.main_arg3) = m' ((c.tc : Thread Cert.ReferencePostIdeal.nD Cert.ReferencePostIdeal.τ).loc Cert.ReferencePostIdeal.main_arg3))

def preserves_KernelFfn_KernelFfnIdeal : Prop :=
  True

def algebraic_KernelFfnIdeal_ReferenceFfnIdeal_pre_ffn_finite [hKernelFfnIdeal : Cert.KernelFfnIdeal.Facts] [hReferenceFfnIdeal : Cert.ReferenceFfnIdeal.Facts] [hPre_ffn_finite : Cert.Pre_ffn_finite.Facts] : Prop :=
  ∀ (m : (ℓ : Loc Cert.KernelFfnIdeal.nD Cert.KernelFfnIdeal.τ Cert.KernelFfnIdeal.sig) → Buf (Elt Ideal) ℓ) (g : Dev Cert.KernelFfnIdeal.nD → PrngReg)
    (m' : (ℓ : Loc Cert.ReferenceFfnIdeal.nD Cert.ReferenceFfnIdeal.τ Cert.ReferenceFfnIdeal.sig) → Buf (Elt Ideal) ℓ) (g' : Dev Cert.ReferenceFfnIdeal.nD → PrngReg), Pre_KernelFfnIdeal_ffn_finite m →
    (∀ c : Dev Cert.KernelFfnIdeal.nD,
      m' ((c.tc : Thread Cert.ReferenceFfnIdeal.nD Cert.ReferenceFfnIdeal.τ).loc Cert.ReferenceFfnIdeal.main_arg0) = m ((c.tc : Thread Cert.KernelFfnIdeal.nD Cert.KernelFfnIdeal.τ).loc Cert.KernelFfnIdeal.main_arg0)
      ∧ m' ((c.tc : Thread Cert.ReferenceFfnIdeal.nD Cert.ReferenceFfnIdeal.τ).loc Cert.ReferenceFfnIdeal.main_arg1) = m ((c.tc : Thread Cert.KernelFfnIdeal.nD Cert.KernelFfnIdeal.τ).loc Cert.KernelFfnIdeal.main_arg1)
      ∧ m' ((c.tc : Thread Cert.ReferenceFfnIdeal.nD Cert.ReferenceFfnIdeal.τ).loc Cert.ReferenceFfnIdeal.main_arg2) = m ((c.tc : Thread Cert.KernelFfnIdeal.nD Cert.KernelFfnIdeal.τ).loc Cert.KernelFfnIdeal.main_arg2)
      ∧ m' ((c.tc : Thread Cert.ReferenceFfnIdeal.nD Cert.ReferenceFfnIdeal.τ).loc Cert.ReferenceFfnIdeal.main_arg3) = m ((c.tc : Thread Cert.KernelFfnIdeal.nD Cert.KernelFfnIdeal.τ).loc Cert.KernelFfnIdeal.main_arg3)
      ∧ m' ((c.tc : Thread Cert.ReferenceFfnIdeal.nD Cert.ReferenceFfnIdeal.τ).loc Cert.ReferenceFfnIdeal.main_arg4) = m ((c.tc : Thread Cert.KernelFfnIdeal.nD Cert.KernelFfnIdeal.τ).loc Cert.KernelFfnIdeal.main_arg4)
      ∧ m' ((c.tc : Thread Cert.ReferenceFfnIdeal.nD Cert.ReferenceFfnIdeal.τ).loc Cert.ReferenceFfnIdeal.main_arg5) = m ((c.tc : Thread Cert.KernelFfnIdeal.nD Cert.KernelFfnIdeal.τ).loc Cert.KernelFfnIdeal.main_arg5)) →
    ∃ (v0 : (c : Dev Cert.KernelFfnIdeal.nD) → Buf (Elt Ideal) ((c.tc : Thread Cert.KernelFfnIdeal.nD Cert.KernelFfnIdeal.τ).loc Cert.KernelFfnIdeal.main_v8_0)) (v1 : (c : Dev Cert.KernelFfnIdeal.nD) → Buf (Elt Ideal) ((c.tc : Thread Cert.KernelFfnIdeal.nD Cert.KernelFfnIdeal.τ).loc Cert.KernelFfnIdeal.main_v8_1)) (v2 : (c : Dev Cert.KernelFfnIdeal.nD) → Buf (Elt Ideal) ((c.tc : Thread Cert.KernelFfnIdeal.nD Cert.KernelFfnIdeal.τ).loc Cert.KernelFfnIdeal.main_v8_2)) (v3 : (c : Dev Cert.KernelFfnIdeal.nD) → Buf (Elt Ideal) ((c.tc : Thread Cert.KernelFfnIdeal.nD Cert.KernelFfnIdeal.τ).loc Cert.KernelFfnIdeal.main_v10)),
      θ_run (Cert.KernelFfnIdeal.defs (F := Ideal)) (onTc (τ := Cert.KernelFfnIdeal.τ) (Cert.KernelFfnIdeal.main (F := Ideal))) ⟨m, fun _ => 0, g⟩ (fun r => ∀ c : Dev Cert.KernelFfnIdeal.nD,
          r.2.mem ((c.tc : Thread Cert.KernelFfnIdeal.nD Cert.KernelFfnIdeal.τ).loc Cert.KernelFfnIdeal.main_v8_0) = v0 c
          ∧ r.2.mem ((c.tc : Thread Cert.KernelFfnIdeal.nD Cert.KernelFfnIdeal.τ).loc Cert.KernelFfnIdeal.main_v8_1) = v1 c
          ∧ r.2.mem ((c.tc : Thread Cert.KernelFfnIdeal.nD Cert.KernelFfnIdeal.τ).loc Cert.KernelFfnIdeal.main_v8_2) = v2 c
          ∧ r.2.mem ((c.tc : Thread Cert.KernelFfnIdeal.nD Cert.KernelFfnIdeal.τ).loc Cert.KernelFfnIdeal.main_v10) = v3 c
          ∧ r.2.mem ((c.tc : Thread Cert.KernelFfnIdeal.nD Cert.KernelFfnIdeal.τ).loc Cert.KernelFfnIdeal.main_arg0) = m ((c.tc : Thread Cert.KernelFfnIdeal.nD Cert.KernelFfnIdeal.τ).loc Cert.KernelFfnIdeal.main_arg0)
          ∧ r.2.mem ((c.tc : Thread Cert.KernelFfnIdeal.nD Cert.KernelFfnIdeal.τ).loc Cert.KernelFfnIdeal.main_arg1) = m ((c.tc : Thread Cert.KernelFfnIdeal.nD Cert.KernelFfnIdeal.τ).loc Cert.KernelFfnIdeal.main_arg1)
          ∧ r.2.mem ((c.tc : Thread Cert.KernelFfnIdeal.nD Cert.KernelFfnIdeal.τ).loc Cert.KernelFfnIdeal.main_arg2) = m ((c.tc : Thread Cert.KernelFfnIdeal.nD Cert.KernelFfnIdeal.τ).loc Cert.KernelFfnIdeal.main_arg2)
          ∧ r.2.mem ((c.tc : Thread Cert.KernelFfnIdeal.nD Cert.KernelFfnIdeal.τ).loc Cert.KernelFfnIdeal.main_arg3) = m ((c.tc : Thread Cert.KernelFfnIdeal.nD Cert.KernelFfnIdeal.τ).loc Cert.KernelFfnIdeal.main_arg3)
          ∧ r.2.mem ((c.tc : Thread Cert.KernelFfnIdeal.nD Cert.KernelFfnIdeal.τ).loc Cert.KernelFfnIdeal.main_arg4) = m ((c.tc : Thread Cert.KernelFfnIdeal.nD Cert.KernelFfnIdeal.τ).loc Cert.KernelFfnIdeal.main_arg4)
          ∧ r.2.mem ((c.tc : Thread Cert.KernelFfnIdeal.nD Cert.KernelFfnIdeal.τ).loc Cert.KernelFfnIdeal.main_arg5) = m ((c.tc : Thread Cert.KernelFfnIdeal.nD Cert.KernelFfnIdeal.τ).loc Cert.KernelFfnIdeal.main_arg5))
      ∧ θ_run (Cert.ReferenceFfnIdeal.defs (F := Ideal)) (onTc (τ := Cert.ReferenceFfnIdeal.τ) (Cert.ReferenceFfnIdeal.main (F := Ideal))) ⟨m', fun _ => 0, g'⟩ (fun r => ∀ c : Dev Cert.ReferenceFfnIdeal.nD,
          r.2.mem ((c.tc : Thread Cert.ReferenceFfnIdeal.nD Cert.ReferenceFfnIdeal.τ).loc Cert.ReferenceFfnIdeal.main_v37) = v0 c
          ∧ r.2.mem ((c.tc : Thread Cert.ReferenceFfnIdeal.nD Cert.ReferenceFfnIdeal.τ).loc Cert.ReferenceFfnIdeal.main_v40) = v1 c
          ∧ r.2.mem ((c.tc : Thread Cert.ReferenceFfnIdeal.nD Cert.ReferenceFfnIdeal.τ).loc Cert.ReferenceFfnIdeal.main_v42) = v2 c
          ∧ r.2.mem ((c.tc : Thread Cert.ReferenceFfnIdeal.nD Cert.ReferenceFfnIdeal.τ).loc Cert.ReferenceFfnIdeal.main_v34) = v3 c
          ∧ r.2.mem ((c.tc : Thread Cert.ReferenceFfnIdeal.nD Cert.ReferenceFfnIdeal.τ).loc Cert.ReferenceFfnIdeal.main_arg0) = m' ((c.tc : Thread Cert.ReferenceFfnIdeal.nD Cert.ReferenceFfnIdeal.τ).loc Cert.ReferenceFfnIdeal.main_arg0)
          ∧ r.2.mem ((c.tc : Thread Cert.ReferenceFfnIdeal.nD Cert.ReferenceFfnIdeal.τ).loc Cert.ReferenceFfnIdeal.main_arg1) = m' ((c.tc : Thread Cert.ReferenceFfnIdeal.nD Cert.ReferenceFfnIdeal.τ).loc Cert.ReferenceFfnIdeal.main_arg1)
          ∧ r.2.mem ((c.tc : Thread Cert.ReferenceFfnIdeal.nD Cert.ReferenceFfnIdeal.τ).loc Cert.ReferenceFfnIdeal.main_arg2) = m' ((c.tc : Thread Cert.ReferenceFfnIdeal.nD Cert.ReferenceFfnIdeal.τ).loc Cert.ReferenceFfnIdeal.main_arg2)
          ∧ r.2.mem ((c.tc : Thread Cert.ReferenceFfnIdeal.nD Cert.ReferenceFfnIdeal.τ).loc Cert.ReferenceFfnIdeal.main_arg3) = m' ((c.tc : Thread Cert.ReferenceFfnIdeal.nD Cert.ReferenceFfnIdeal.τ).loc Cert.ReferenceFfnIdeal.main_arg3)
          ∧ r.2.mem ((c.tc : Thread Cert.ReferenceFfnIdeal.nD Cert.ReferenceFfnIdeal.τ).loc Cert.ReferenceFfnIdeal.main_arg4) = m' ((c.tc : Thread Cert.ReferenceFfnIdeal.nD Cert.ReferenceFfnIdeal.τ).loc Cert.ReferenceFfnIdeal.main_arg4)
          ∧ r.2.mem ((c.tc : Thread Cert.ReferenceFfnIdeal.nD Cert.ReferenceFfnIdeal.τ).loc Cert.ReferenceFfnIdeal.main_arg5) = m' ((c.tc : Thread Cert.ReferenceFfnIdeal.nD Cert.ReferenceFfnIdeal.τ).loc Cert.ReferenceFfnIdeal.main_arg5))

def preserves_KernelConvFwd_KernelConvFwdIdeal : Prop :=
  True

def algebraic_KernelConvFwdIdeal_ReferenceConvFwdIdeal [hKernelConvFwdIdeal : Cert.KernelConvFwdIdeal.Facts] [hReferenceConvFwdIdeal : Cert.ReferenceConvFwdIdeal.Facts] : Prop :=
  ∀ (m : (ℓ : Loc Cert.KernelConvFwdIdeal.nD Cert.KernelConvFwdIdeal.τ Cert.KernelConvFwdIdeal.sig) → Buf (Elt Ideal) ℓ) (g : Dev Cert.KernelConvFwdIdeal.nD → PrngReg)
    (m' : (ℓ : Loc Cert.ReferenceConvFwdIdeal.nD Cert.ReferenceConvFwdIdeal.τ Cert.ReferenceConvFwdIdeal.sig) → Buf (Elt Ideal) ℓ) (g' : Dev Cert.ReferenceConvFwdIdeal.nD → PrngReg), Pre_KernelConvFwdIdeal m →
    (∀ c : Dev Cert.KernelConvFwdIdeal.nD,
      m' ((c.tc : Thread Cert.ReferenceConvFwdIdeal.nD Cert.ReferenceConvFwdIdeal.τ).loc Cert.ReferenceConvFwdIdeal.main_arg0) = m ((c.tc : Thread Cert.KernelConvFwdIdeal.nD Cert.KernelConvFwdIdeal.τ).loc Cert.KernelConvFwdIdeal.main_arg0)
      ∧ m' ((c.tc : Thread Cert.ReferenceConvFwdIdeal.nD Cert.ReferenceConvFwdIdeal.τ).loc Cert.ReferenceConvFwdIdeal.main_arg1) = m ((c.tc : Thread Cert.KernelConvFwdIdeal.nD Cert.KernelConvFwdIdeal.τ).loc Cert.KernelConvFwdIdeal.main_arg1)) →
    ∃ (v0 : (c : Dev Cert.KernelConvFwdIdeal.nD) → Buf (Elt Ideal) ((c.tc : Thread Cert.KernelConvFwdIdeal.nD Cert.KernelConvFwdIdeal.τ).loc Cert.KernelConvFwdIdeal.main_v1)),
      θ_run (Cert.KernelConvFwdIdeal.defs (F := Ideal)) (onTc (τ := Cert.KernelConvFwdIdeal.τ) (Cert.KernelConvFwdIdeal.main (F := Ideal))) ⟨m, fun _ => 0, g⟩ (fun r => ∀ c : Dev Cert.KernelConvFwdIdeal.nD,
          r.2.mem ((c.tc : Thread Cert.KernelConvFwdIdeal.nD Cert.KernelConvFwdIdeal.τ).loc Cert.KernelConvFwdIdeal.main_v1) = v0 c
          ∧ r.2.mem ((c.tc : Thread Cert.KernelConvFwdIdeal.nD Cert.KernelConvFwdIdeal.τ).loc Cert.KernelConvFwdIdeal.main_arg0) = m ((c.tc : Thread Cert.KernelConvFwdIdeal.nD Cert.KernelConvFwdIdeal.τ).loc Cert.KernelConvFwdIdeal.main_arg0)
          ∧ r.2.mem ((c.tc : Thread Cert.KernelConvFwdIdeal.nD Cert.KernelConvFwdIdeal.τ).loc Cert.KernelConvFwdIdeal.main_arg1) = m ((c.tc : Thread Cert.KernelConvFwdIdeal.nD Cert.KernelConvFwdIdeal.τ).loc Cert.KernelConvFwdIdeal.main_arg1))
      ∧ θ_run (Cert.ReferenceConvFwdIdeal.defs (F := Ideal)) (onTc (τ := Cert.ReferenceConvFwdIdeal.τ) (Cert.ReferenceConvFwdIdeal.main (F := Ideal))) ⟨m', fun _ => 0, g'⟩ (fun r => ∀ c : Dev Cert.ReferenceConvFwdIdeal.nD,
          r.2.mem ((c.tc : Thread Cert.ReferenceConvFwdIdeal.nD Cert.ReferenceConvFwdIdeal.τ).loc Cert.ReferenceConvFwdIdeal.main_v30) = v0 c
          ∧ r.2.mem ((c.tc : Thread Cert.ReferenceConvFwdIdeal.nD Cert.ReferenceConvFwdIdeal.τ).loc Cert.ReferenceConvFwdIdeal.main_arg0) = m' ((c.tc : Thread Cert.ReferenceConvFwdIdeal.nD Cert.ReferenceConvFwdIdeal.τ).loc Cert.ReferenceConvFwdIdeal.main_arg0)
          ∧ r.2.mem ((c.tc : Thread Cert.ReferenceConvFwdIdeal.nD Cert.ReferenceConvFwdIdeal.τ).loc Cert.ReferenceConvFwdIdeal.main_arg1) = m' ((c.tc : Thread Cert.ReferenceConvFwdIdeal.nD Cert.ReferenceConvFwdIdeal.τ).loc Cert.ReferenceConvFwdIdeal.main_arg1))

def preserves_KernelPostFwd_KernelPostFwdIdeal : Prop :=
  True

def algebraic_KernelPostFwdIdeal_ReferencePostFwdIdeal [hKernelPostFwdIdeal : Cert.KernelPostFwdIdeal.Facts] [hReferencePostFwdIdeal : Cert.ReferencePostFwdIdeal.Facts] : Prop :=
  ∀ (m : (ℓ : Loc Cert.KernelPostFwdIdeal.nD Cert.KernelPostFwdIdeal.τ Cert.KernelPostFwdIdeal.sig) → Buf (Elt Ideal) ℓ) (g : Dev Cert.KernelPostFwdIdeal.nD → PrngReg)
    (m' : (ℓ : Loc Cert.ReferencePostFwdIdeal.nD Cert.ReferencePostFwdIdeal.τ Cert.ReferencePostFwdIdeal.sig) → Buf (Elt Ideal) ℓ) (g' : Dev Cert.ReferencePostFwdIdeal.nD → PrngReg), Pre_KernelPostFwdIdeal m →
    (∀ c : Dev Cert.KernelPostFwdIdeal.nD,
      m' ((c.tc : Thread Cert.ReferencePostFwdIdeal.nD Cert.ReferencePostFwdIdeal.τ).loc Cert.ReferencePostFwdIdeal.main_arg0) = m ((c.tc : Thread Cert.KernelPostFwdIdeal.nD Cert.KernelPostFwdIdeal.τ).loc Cert.KernelPostFwdIdeal.main_arg0)
      ∧ m' ((c.tc : Thread Cert.ReferencePostFwdIdeal.nD Cert.ReferencePostFwdIdeal.τ).loc Cert.ReferencePostFwdIdeal.main_arg1) = m ((c.tc : Thread Cert.KernelPostFwdIdeal.nD Cert.KernelPostFwdIdeal.τ).loc Cert.KernelPostFwdIdeal.main_arg1)
      ∧ m' ((c.tc : Thread Cert.ReferencePostFwdIdeal.nD Cert.ReferencePostFwdIdeal.τ).loc Cert.ReferencePostFwdIdeal.main_arg2) = m ((c.tc : Thread Cert.KernelPostFwdIdeal.nD Cert.KernelPostFwdIdeal.τ).loc Cert.KernelPostFwdIdeal.main_arg2)) →
    ∃ (v0 : (c : Dev Cert.KernelPostFwdIdeal.nD) → Buf (Elt Ideal) ((c.tc : Thread Cert.KernelPostFwdIdeal.nD Cert.KernelPostFwdIdeal.τ).loc Cert.KernelPostFwdIdeal.main_v1)),
      θ_run (Cert.KernelPostFwdIdeal.defs (F := Ideal)) (onTc (τ := Cert.KernelPostFwdIdeal.τ) (Cert.KernelPostFwdIdeal.main (F := Ideal))) ⟨m, fun _ => 0, g⟩ (fun r => ∀ c : Dev Cert.KernelPostFwdIdeal.nD,
          r.2.mem ((c.tc : Thread Cert.KernelPostFwdIdeal.nD Cert.KernelPostFwdIdeal.τ).loc Cert.KernelPostFwdIdeal.main_v1) = v0 c
          ∧ r.2.mem ((c.tc : Thread Cert.KernelPostFwdIdeal.nD Cert.KernelPostFwdIdeal.τ).loc Cert.KernelPostFwdIdeal.main_arg0) = m ((c.tc : Thread Cert.KernelPostFwdIdeal.nD Cert.KernelPostFwdIdeal.τ).loc Cert.KernelPostFwdIdeal.main_arg0)
          ∧ r.2.mem ((c.tc : Thread Cert.KernelPostFwdIdeal.nD Cert.KernelPostFwdIdeal.τ).loc Cert.KernelPostFwdIdeal.main_arg1) = m ((c.tc : Thread Cert.KernelPostFwdIdeal.nD Cert.KernelPostFwdIdeal.τ).loc Cert.KernelPostFwdIdeal.main_arg1)
          ∧ r.2.mem ((c.tc : Thread Cert.KernelPostFwdIdeal.nD Cert.KernelPostFwdIdeal.τ).loc Cert.KernelPostFwdIdeal.main_arg2) = m ((c.tc : Thread Cert.KernelPostFwdIdeal.nD Cert.KernelPostFwdIdeal.τ).loc Cert.KernelPostFwdIdeal.main_arg2))
      ∧ θ_run (Cert.ReferencePostFwdIdeal.defs (F := Ideal)) (onTc (τ := Cert.ReferencePostFwdIdeal.τ) (Cert.ReferencePostFwdIdeal.main (F := Ideal))) ⟨m', fun _ => 0, g'⟩ (fun r => ∀ c : Dev Cert.ReferencePostFwdIdeal.nD,
          r.2.mem ((c.tc : Thread Cert.ReferencePostFwdIdeal.nD Cert.ReferencePostFwdIdeal.τ).loc Cert.ReferencePostFwdIdeal.main_v17) = v0 c
          ∧ r.2.mem ((c.tc : Thread Cert.ReferencePostFwdIdeal.nD Cert.ReferencePostFwdIdeal.τ).loc Cert.ReferencePostFwdIdeal.main_arg0) = m' ((c.tc : Thread Cert.ReferencePostFwdIdeal.nD Cert.ReferencePostFwdIdeal.τ).loc Cert.ReferencePostFwdIdeal.main_arg0)
          ∧ r.2.mem ((c.tc : Thread Cert.ReferencePostFwdIdeal.nD Cert.ReferencePostFwdIdeal.τ).loc Cert.ReferencePostFwdIdeal.main_arg1) = m' ((c.tc : Thread Cert.ReferencePostFwdIdeal.nD Cert.ReferencePostFwdIdeal.τ).loc Cert.ReferencePostFwdIdeal.main_arg1)
          ∧ r.2.mem ((c.tc : Thread Cert.ReferencePostFwdIdeal.nD Cert.ReferencePostFwdIdeal.τ).loc Cert.ReferencePostFwdIdeal.main_arg2) = m' ((c.tc : Thread Cert.ReferencePostFwdIdeal.nD Cert.ReferencePostFwdIdeal.τ).loc Cert.ReferencePostFwdIdeal.main_arg2))

def preserves_KernelPoolFwd_KernelPoolFwdIdeal : Prop :=
  True

def algebraic_KernelPoolFwdIdeal_ReferencePoolFwdIdeal_pre_pooled_finite [hKernelPoolFwdIdeal : Cert.KernelPoolFwdIdeal.Facts] [hReferencePoolFwdIdeal : Cert.ReferencePoolFwdIdeal.Facts] [hPre_pooled_finite : Cert.Pre_pooled_finite.Facts] : Prop :=
  ∀ (m : (ℓ : Loc Cert.KernelPoolFwdIdeal.nD Cert.KernelPoolFwdIdeal.τ Cert.KernelPoolFwdIdeal.sig) → Buf (Elt Ideal) ℓ) (g : Dev Cert.KernelPoolFwdIdeal.nD → PrngReg)
    (m' : (ℓ : Loc Cert.ReferencePoolFwdIdeal.nD Cert.ReferencePoolFwdIdeal.τ Cert.ReferencePoolFwdIdeal.sig) → Buf (Elt Ideal) ℓ) (g' : Dev Cert.ReferencePoolFwdIdeal.nD → PrngReg), Pre_KernelPoolFwdIdeal_pooled_finite m →
    (∀ c : Dev Cert.KernelPoolFwdIdeal.nD,
      m' ((c.tc : Thread Cert.ReferencePoolFwdIdeal.nD Cert.ReferencePoolFwdIdeal.τ).loc Cert.ReferencePoolFwdIdeal.main_arg0) = m ((c.tc : Thread Cert.KernelPoolFwdIdeal.nD Cert.KernelPoolFwdIdeal.τ).loc Cert.KernelPoolFwdIdeal.main_arg0)
      ∧ m' ((c.tc : Thread Cert.ReferencePoolFwdIdeal.nD Cert.ReferencePoolFwdIdeal.τ).loc Cert.ReferencePoolFwdIdeal.main_arg1) = m ((c.tc : Thread Cert.KernelPoolFwdIdeal.nD Cert.KernelPoolFwdIdeal.τ).loc Cert.KernelPoolFwdIdeal.main_arg1)
      ∧ m' ((c.tc : Thread Cert.ReferencePoolFwdIdeal.nD Cert.ReferencePoolFwdIdeal.τ).loc Cert.ReferencePoolFwdIdeal.main_arg2) = m ((c.tc : Thread Cert.KernelPoolFwdIdeal.nD Cert.KernelPoolFwdIdeal.τ).loc Cert.KernelPoolFwdIdeal.main_arg2)) →
    ∃ (v0 : (c : Dev Cert.KernelPoolFwdIdeal.nD) → Buf (Elt Ideal) ((c.tc : Thread Cert.KernelPoolFwdIdeal.nD Cert.KernelPoolFwdIdeal.τ).loc Cert.KernelPoolFwdIdeal.main_v15)),
      θ_run (Cert.KernelPoolFwdIdeal.defs (F := Ideal)) (onTc (τ := Cert.KernelPoolFwdIdeal.τ) (Cert.KernelPoolFwdIdeal.main (F := Ideal))) ⟨m, fun _ => 0, g⟩ (fun r => ∀ c : Dev Cert.KernelPoolFwdIdeal.nD,
          r.2.mem ((c.tc : Thread Cert.KernelPoolFwdIdeal.nD Cert.KernelPoolFwdIdeal.τ).loc Cert.KernelPoolFwdIdeal.main_v15) = v0 c
          ∧ r.2.mem ((c.tc : Thread Cert.KernelPoolFwdIdeal.nD Cert.KernelPoolFwdIdeal.τ).loc Cert.KernelPoolFwdIdeal.main_arg0) = m ((c.tc : Thread Cert.KernelPoolFwdIdeal.nD Cert.KernelPoolFwdIdeal.τ).loc Cert.KernelPoolFwdIdeal.main_arg0)
          ∧ r.2.mem ((c.tc : Thread Cert.KernelPoolFwdIdeal.nD Cert.KernelPoolFwdIdeal.τ).loc Cert.KernelPoolFwdIdeal.main_arg1) = m ((c.tc : Thread Cert.KernelPoolFwdIdeal.nD Cert.KernelPoolFwdIdeal.τ).loc Cert.KernelPoolFwdIdeal.main_arg1)
          ∧ r.2.mem ((c.tc : Thread Cert.KernelPoolFwdIdeal.nD Cert.KernelPoolFwdIdeal.τ).loc Cert.KernelPoolFwdIdeal.main_arg2) = m ((c.tc : Thread Cert.KernelPoolFwdIdeal.nD Cert.KernelPoolFwdIdeal.τ).loc Cert.KernelPoolFwdIdeal.main_arg2))
      ∧ θ_run (Cert.ReferencePoolFwdIdeal.defs (F := Ideal)) (onTc (τ := Cert.ReferencePoolFwdIdeal.τ) (Cert.ReferencePoolFwdIdeal.main (F := Ideal))) ⟨m', fun _ => 0, g'⟩ (fun r => ∀ c : Dev Cert.ReferencePoolFwdIdeal.nD,
          r.2.mem ((c.tc : Thread Cert.ReferencePoolFwdIdeal.nD Cert.ReferencePoolFwdIdeal.τ).loc Cert.ReferencePoolFwdIdeal.main_v70) = v0 c
          ∧ r.2.mem ((c.tc : Thread Cert.ReferencePoolFwdIdeal.nD Cert.ReferencePoolFwdIdeal.τ).loc Cert.ReferencePoolFwdIdeal.main_arg0) = m' ((c.tc : Thread Cert.ReferencePoolFwdIdeal.nD Cert.ReferencePoolFwdIdeal.τ).loc Cert.ReferencePoolFwdIdeal.main_arg0)
          ∧ r.2.mem ((c.tc : Thread Cert.ReferencePoolFwdIdeal.nD Cert.ReferencePoolFwdIdeal.τ).loc Cert.ReferencePoolFwdIdeal.main_arg1) = m' ((c.tc : Thread Cert.ReferencePoolFwdIdeal.nD Cert.ReferencePoolFwdIdeal.τ).loc Cert.ReferencePoolFwdIdeal.main_arg1)
          ∧ r.2.mem ((c.tc : Thread Cert.ReferencePoolFwdIdeal.nD Cert.ReferencePoolFwdIdeal.τ).loc Cert.ReferencePoolFwdIdeal.main_arg2) = m' ((c.tc : Thread Cert.ReferencePoolFwdIdeal.nD Cert.ReferencePoolFwdIdeal.τ).loc Cert.ReferencePoolFwdIdeal.main_arg2))

def preserves_KernelFfnFwd_KernelFfnFwdIdeal : Prop :=
  True

def algebraic_KernelFfnFwdIdeal_ReferenceFfnFwdIdeal [hKernelFfnFwdIdeal : Cert.KernelFfnFwdIdeal.Facts] [hReferenceFfnFwdIdeal : Cert.ReferenceFfnFwdIdeal.Facts] : Prop :=
  ∀ (m : (ℓ : Loc Cert.KernelFfnFwdIdeal.nD Cert.KernelFfnFwdIdeal.τ Cert.KernelFfnFwdIdeal.sig) → Buf (Elt Ideal) ℓ) (g : Dev Cert.KernelFfnFwdIdeal.nD → PrngReg)
    (m' : (ℓ : Loc Cert.ReferenceFfnFwdIdeal.nD Cert.ReferenceFfnFwdIdeal.τ Cert.ReferenceFfnFwdIdeal.sig) → Buf (Elt Ideal) ℓ) (g' : Dev Cert.ReferenceFfnFwdIdeal.nD → PrngReg), Pre_KernelFfnFwdIdeal m →
    (∀ c : Dev Cert.KernelFfnFwdIdeal.nD,
      m' ((c.tc : Thread Cert.ReferenceFfnFwdIdeal.nD Cert.ReferenceFfnFwdIdeal.τ).loc Cert.ReferenceFfnFwdIdeal.main_arg0) = m ((c.tc : Thread Cert.KernelFfnFwdIdeal.nD Cert.KernelFfnFwdIdeal.τ).loc Cert.KernelFfnFwdIdeal.main_arg0)
      ∧ m' ((c.tc : Thread Cert.ReferenceFfnFwdIdeal.nD Cert.ReferenceFfnFwdIdeal.τ).loc Cert.ReferenceFfnFwdIdeal.main_arg1) = m ((c.tc : Thread Cert.KernelFfnFwdIdeal.nD Cert.KernelFfnFwdIdeal.τ).loc Cert.KernelFfnFwdIdeal.main_arg1)
      ∧ m' ((c.tc : Thread Cert.ReferenceFfnFwdIdeal.nD Cert.ReferenceFfnFwdIdeal.τ).loc Cert.ReferenceFfnFwdIdeal.main_arg2) = m ((c.tc : Thread Cert.KernelFfnFwdIdeal.nD Cert.KernelFfnFwdIdeal.τ).loc Cert.KernelFfnFwdIdeal.main_arg2)
      ∧ m' ((c.tc : Thread Cert.ReferenceFfnFwdIdeal.nD Cert.ReferenceFfnFwdIdeal.τ).loc Cert.ReferenceFfnFwdIdeal.main_arg3) = m ((c.tc : Thread Cert.KernelFfnFwdIdeal.nD Cert.KernelFfnFwdIdeal.τ).loc Cert.KernelFfnFwdIdeal.main_arg3)
      ∧ m' ((c.tc : Thread Cert.ReferenceFfnFwdIdeal.nD Cert.ReferenceFfnFwdIdeal.τ).loc Cert.ReferenceFfnFwdIdeal.main_arg4) = m ((c.tc : Thread Cert.KernelFfnFwdIdeal.nD Cert.KernelFfnFwdIdeal.τ).loc Cert.KernelFfnFwdIdeal.main_arg4)) →
    ∃ (v0 : (c : Dev Cert.KernelFfnFwdIdeal.nD) → Buf (Elt Ideal) ((c.tc : Thread Cert.KernelFfnFwdIdeal.nD Cert.KernelFfnFwdIdeal.τ).loc Cert.KernelFfnFwdIdeal.main_v8)),
      θ_run (Cert.KernelFfnFwdIdeal.defs (F := Ideal)) (onTc (τ := Cert.KernelFfnFwdIdeal.τ) (Cert.KernelFfnFwdIdeal.main (F := Ideal))) ⟨m, fun _ => 0, g⟩ (fun r => ∀ c : Dev Cert.KernelFfnFwdIdeal.nD,
          r.2.mem ((c.tc : Thread Cert.KernelFfnFwdIdeal.nD Cert.KernelFfnFwdIdeal.τ).loc Cert.KernelFfnFwdIdeal.main_v8) = v0 c
          ∧ r.2.mem ((c.tc : Thread Cert.KernelFfnFwdIdeal.nD Cert.KernelFfnFwdIdeal.τ).loc Cert.KernelFfnFwdIdeal.main_arg0) = m ((c.tc : Thread Cert.KernelFfnFwdIdeal.nD Cert.KernelFfnFwdIdeal.τ).loc Cert.KernelFfnFwdIdeal.main_arg0)
          ∧ r.2.mem ((c.tc : Thread Cert.KernelFfnFwdIdeal.nD Cert.KernelFfnFwdIdeal.τ).loc Cert.KernelFfnFwdIdeal.main_arg1) = m ((c.tc : Thread Cert.KernelFfnFwdIdeal.nD Cert.KernelFfnFwdIdeal.τ).loc Cert.KernelFfnFwdIdeal.main_arg1)
          ∧ r.2.mem ((c.tc : Thread Cert.KernelFfnFwdIdeal.nD Cert.KernelFfnFwdIdeal.τ).loc Cert.KernelFfnFwdIdeal.main_arg2) = m ((c.tc : Thread Cert.KernelFfnFwdIdeal.nD Cert.KernelFfnFwdIdeal.τ).loc Cert.KernelFfnFwdIdeal.main_arg2)
          ∧ r.2.mem ((c.tc : Thread Cert.KernelFfnFwdIdeal.nD Cert.KernelFfnFwdIdeal.τ).loc Cert.KernelFfnFwdIdeal.main_arg3) = m ((c.tc : Thread Cert.KernelFfnFwdIdeal.nD Cert.KernelFfnFwdIdeal.τ).loc Cert.KernelFfnFwdIdeal.main_arg3)
          ∧ r.2.mem ((c.tc : Thread Cert.KernelFfnFwdIdeal.nD Cert.KernelFfnFwdIdeal.τ).loc Cert.KernelFfnFwdIdeal.main_arg4) = m ((c.tc : Thread Cert.KernelFfnFwdIdeal.nD Cert.KernelFfnFwdIdeal.τ).loc Cert.KernelFfnFwdIdeal.main_arg4))
      ∧ θ_run (Cert.ReferenceFfnFwdIdeal.defs (F := Ideal)) (onTc (τ := Cert.ReferenceFfnFwdIdeal.τ) (Cert.ReferenceFfnFwdIdeal.main (F := Ideal))) ⟨m', fun _ => 0, g'⟩ (fun r => ∀ c : Dev Cert.ReferenceFfnFwdIdeal.nD,
          r.2.mem ((c.tc : Thread Cert.ReferenceFfnFwdIdeal.nD Cert.ReferenceFfnFwdIdeal.τ).loc Cert.ReferenceFfnFwdIdeal.main_v20) = v0 c
          ∧ r.2.mem ((c.tc : Thread Cert.ReferenceFfnFwdIdeal.nD Cert.ReferenceFfnFwdIdeal.τ).loc Cert.ReferenceFfnFwdIdeal.main_arg0) = m' ((c.tc : Thread Cert.ReferenceFfnFwdIdeal.nD Cert.ReferenceFfnFwdIdeal.τ).loc Cert.ReferenceFfnFwdIdeal.main_arg0)
          ∧ r.2.mem ((c.tc : Thread Cert.ReferenceFfnFwdIdeal.nD Cert.ReferenceFfnFwdIdeal.τ).loc Cert.ReferenceFfnFwdIdeal.main_arg1) = m' ((c.tc : Thread Cert.ReferenceFfnFwdIdeal.nD Cert.ReferenceFfnFwdIdeal.τ).loc Cert.ReferenceFfnFwdIdeal.main_arg1)
          ∧ r.2.mem ((c.tc : Thread Cert.ReferenceFfnFwdIdeal.nD Cert.ReferenceFfnFwdIdeal.τ).loc Cert.ReferenceFfnFwdIdeal.main_arg2) = m' ((c.tc : Thread Cert.ReferenceFfnFwdIdeal.nD Cert.ReferenceFfnFwdIdeal.τ).loc Cert.ReferenceFfnFwdIdeal.main_arg2)
          ∧ r.2.mem ((c.tc : Thread Cert.ReferenceFfnFwdIdeal.nD Cert.ReferenceFfnFwdIdeal.τ).loc Cert.ReferenceFfnFwdIdeal.main_arg3) = m' ((c.tc : Thread Cert.ReferenceFfnFwdIdeal.nD Cert.ReferenceFfnFwdIdeal.τ).loc Cert.ReferenceFfnFwdIdeal.main_arg3)
          ∧ r.2.mem ((c.tc : Thread Cert.ReferenceFfnFwdIdeal.nD Cert.ReferenceFfnFwdIdeal.τ).loc Cert.ReferenceFfnFwdIdeal.main_arg4) = m' ((c.tc : Thread Cert.ReferenceFfnFwdIdeal.nD Cert.ReferenceFfnFwdIdeal.τ).loc Cert.ReferenceFfnFwdIdeal.main_arg4))

def preserves_KernelLocal_KernelLocalIdeal : Prop :=
  True

def preserves_KernelLocalFwd_KernelLocalFwdIdeal : Prop :=
  True

def preserves_KernelInProj_KernelInProjIdeal : Prop :=
  True

def preserves_KernelMergeFwd_KernelMergeFwdIdeal : Prop :=
  True

def preserves_KernelRec_KernelRecIdeal : Prop :=
  True

def preserves_KernelRecFwd_KernelRecFwdIdeal : Prop :=
  True

def Claim : Prop :=
  ∃ (hKernelNorm : Cert.KernelNorm.Facts) (hKernelNormIdeal : Cert.KernelNormIdeal.Facts) (hReferenceNormIdeal : Cert.ReferenceNormIdeal.Facts) (hKernelConv : Cert.KernelConv.Facts) (hKernelConvIdeal : Cert.KernelConvIdeal.Facts) (hReferenceConvIdeal : Cert.ReferenceConvIdeal.Facts) (hKernelFinal : Cert.KernelFinal.Facts) (hKernelFinalIdeal : Cert.KernelFinalIdeal.Facts) (hReferenceFinalIdeal : Cert.ReferenceFinalIdeal.Facts) (hKernelOutProj : Cert.KernelOutProj.Facts) (hKernelOutProjIdeal : Cert.KernelOutProjIdeal.Facts) (hReferenceOutProjIdeal : Cert.ReferenceOutProjIdeal.Facts) (hKernelAttn : Cert.KernelAttn.Facts) (hKernelAttnIdeal : Cert.KernelAttnIdeal.Facts) (hReferenceAttnIdeal : Cert.ReferenceAttnIdeal.Facts) (hKernelPool : Cert.KernelPool.Facts) (hKernelPoolIdeal : Cert.KernelPoolIdeal.Facts) (hReferencePoolIdeal : Cert.ReferencePoolIdeal.Facts) (hKernelPost : Cert.KernelPost.Facts) (hKernelPostIdeal : Cert.KernelPostIdeal.Facts) (hReferencePostIdeal : Cert.ReferencePostIdeal.Facts) (hKernelFfn : Cert.KernelFfn.Facts) (hKernelFfnIdeal : Cert.KernelFfnIdeal.Facts) (hReferenceFfnIdeal : Cert.ReferenceFfnIdeal.Facts) (hKernelConvFwd : Cert.KernelConvFwd.Facts) (hKernelConvFwdIdeal : Cert.KernelConvFwdIdeal.Facts) (hReferenceConvFwdIdeal : Cert.ReferenceConvFwdIdeal.Facts) (hKernelPostFwd : Cert.KernelPostFwd.Facts) (hKernelPostFwdIdeal : Cert.KernelPostFwdIdeal.Facts) (hReferencePostFwdIdeal : Cert.ReferencePostFwdIdeal.Facts) (hKernelPoolFwd : Cert.KernelPoolFwd.Facts) (hKernelPoolFwdIdeal : Cert.KernelPoolFwdIdeal.Facts) (hReferencePoolFwdIdeal : Cert.ReferencePoolFwdIdeal.Facts) (hKernelFfnFwd : Cert.KernelFfnFwd.Facts) (hKernelFfnFwdIdeal : Cert.KernelFfnFwdIdeal.Facts) (hReferenceFfnFwdIdeal : Cert.ReferenceFfnFwdIdeal.Facts) (hKernelLocal : Cert.KernelLocal.Facts) (hKernelLocalIdeal : Cert.KernelLocalIdeal.Facts) (hKernelLocalFwd : Cert.KernelLocalFwd.Facts) (hKernelLocalFwdIdeal : Cert.KernelLocalFwdIdeal.Facts) (hKernelInProj : Cert.KernelInProj.Facts) (hKernelInProjIdeal : Cert.KernelInProjIdeal.Facts) (hKernelMergeFwd : Cert.KernelMergeFwd.Facts) (hKernelMergeFwdIdeal : Cert.KernelMergeFwdIdeal.Facts) (hKernelRec : Cert.KernelRec.Facts) (hKernelRecIdeal : Cert.KernelRecIdeal.Facts) (hKernelRecFwd : Cert.KernelRecFwd.Facts) (hKernelRecFwdIdeal : Cert.KernelRecFwdIdeal.Facts) (hPre_norm_finite : Cert.Pre_norm_finite.Facts) (hPre_final_finite : Cert.Pre_final_finite.Facts) (hPre_outproj_finite : Cert.Pre_outproj_finite.Facts) (hPre_attn_finite : Cert.Pre_attn_finite.Facts) (hPre_pool_finite : Cert.Pre_pool_finite.Facts) (hPre_ffn_finite : Cert.Pre_ffn_finite.Facts) (hPre_pooled_finite : Cert.Pre_pooled_finite.Facts),
    quiescent_KernelNorm (hKernelNorm := hKernelNorm)
    ∧ quiescent_KernelNormIdeal (hKernelNormIdeal := hKernelNormIdeal)
    ∧ quiescent_KernelNormIdeal_pre_norm_finite (hKernelNormIdeal := hKernelNormIdeal) (hPre_norm_finite := hPre_norm_finite)
    ∧ quiescent_ReferenceNormIdeal (hReferenceNormIdeal := hReferenceNormIdeal)
    ∧ quiescent_ReferenceNormIdeal_pre_norm_finite (hReferenceNormIdeal := hReferenceNormIdeal) (hPre_norm_finite := hPre_norm_finite)
    ∧ quiescent_KernelConv (hKernelConv := hKernelConv)
    ∧ quiescent_KernelConvIdeal (hKernelConvIdeal := hKernelConvIdeal)
    ∧ quiescent_ReferenceConvIdeal (hReferenceConvIdeal := hReferenceConvIdeal)
    ∧ quiescent_KernelFinal (hKernelFinal := hKernelFinal)
    ∧ quiescent_KernelFinalIdeal (hKernelFinalIdeal := hKernelFinalIdeal)
    ∧ quiescent_KernelFinalIdeal_pre_final_finite (hKernelFinalIdeal := hKernelFinalIdeal) (hPre_final_finite := hPre_final_finite)
    ∧ quiescent_ReferenceFinalIdeal (hReferenceFinalIdeal := hReferenceFinalIdeal)
    ∧ quiescent_ReferenceFinalIdeal_pre_final_finite (hReferenceFinalIdeal := hReferenceFinalIdeal) (hPre_final_finite := hPre_final_finite)
    ∧ quiescent_KernelOutProj (hKernelOutProj := hKernelOutProj)
    ∧ quiescent_KernelOutProjIdeal (hKernelOutProjIdeal := hKernelOutProjIdeal)
    ∧ quiescent_KernelOutProjIdeal_pre_outproj_finite (hKernelOutProjIdeal := hKernelOutProjIdeal) (hPre_outproj_finite := hPre_outproj_finite)
    ∧ quiescent_ReferenceOutProjIdeal (hReferenceOutProjIdeal := hReferenceOutProjIdeal)
    ∧ quiescent_ReferenceOutProjIdeal_pre_outproj_finite (hReferenceOutProjIdeal := hReferenceOutProjIdeal) (hPre_outproj_finite := hPre_outproj_finite)
    ∧ quiescent_KernelAttn (hKernelAttn := hKernelAttn)
    ∧ quiescent_KernelAttnIdeal (hKernelAttnIdeal := hKernelAttnIdeal)
    ∧ quiescent_KernelAttnIdeal_pre_attn_finite (hKernelAttnIdeal := hKernelAttnIdeal) (hPre_attn_finite := hPre_attn_finite)
    ∧ quiescent_ReferenceAttnIdeal (hReferenceAttnIdeal := hReferenceAttnIdeal)
    ∧ quiescent_ReferenceAttnIdeal_pre_attn_finite (hReferenceAttnIdeal := hReferenceAttnIdeal) (hPre_attn_finite := hPre_attn_finite)
    ∧ quiescent_KernelPool (hKernelPool := hKernelPool)
    ∧ quiescent_KernelPoolIdeal (hKernelPoolIdeal := hKernelPoolIdeal)
    ∧ quiescent_KernelPoolIdeal_pre_pool_finite (hKernelPoolIdeal := hKernelPoolIdeal) (hPre_pool_finite := hPre_pool_finite)
    ∧ quiescent_ReferencePoolIdeal (hReferencePoolIdeal := hReferencePoolIdeal)
    ∧ quiescent_ReferencePoolIdeal_pre_pool_finite (hReferencePoolIdeal := hReferencePoolIdeal) (hPre_pool_finite := hPre_pool_finite)
    ∧ quiescent_KernelPost (hKernelPost := hKernelPost)
    ∧ quiescent_KernelPostIdeal (hKernelPostIdeal := hKernelPostIdeal)
    ∧ quiescent_ReferencePostIdeal (hReferencePostIdeal := hReferencePostIdeal)
    ∧ quiescent_KernelFfn (hKernelFfn := hKernelFfn)
    ∧ quiescent_KernelFfnIdeal (hKernelFfnIdeal := hKernelFfnIdeal)
    ∧ quiescent_KernelFfnIdeal_pre_ffn_finite (hKernelFfnIdeal := hKernelFfnIdeal) (hPre_ffn_finite := hPre_ffn_finite)
    ∧ quiescent_ReferenceFfnIdeal (hReferenceFfnIdeal := hReferenceFfnIdeal)
    ∧ quiescent_ReferenceFfnIdeal_pre_ffn_finite (hReferenceFfnIdeal := hReferenceFfnIdeal) (hPre_ffn_finite := hPre_ffn_finite)
    ∧ quiescent_KernelConvFwd (hKernelConvFwd := hKernelConvFwd)
    ∧ quiescent_KernelConvFwdIdeal (hKernelConvFwdIdeal := hKernelConvFwdIdeal)
    ∧ quiescent_ReferenceConvFwdIdeal (hReferenceConvFwdIdeal := hReferenceConvFwdIdeal)
    ∧ quiescent_KernelPostFwd (hKernelPostFwd := hKernelPostFwd)
    ∧ quiescent_KernelPostFwdIdeal (hKernelPostFwdIdeal := hKernelPostFwdIdeal)
    ∧ quiescent_ReferencePostFwdIdeal (hReferencePostFwdIdeal := hReferencePostFwdIdeal)
    ∧ quiescent_KernelPoolFwd (hKernelPoolFwd := hKernelPoolFwd)
    ∧ quiescent_KernelPoolFwdIdeal (hKernelPoolFwdIdeal := hKernelPoolFwdIdeal)
    ∧ quiescent_KernelPoolFwdIdeal_pre_pooled_finite (hKernelPoolFwdIdeal := hKernelPoolFwdIdeal) (hPre_pooled_finite := hPre_pooled_finite)
    ∧ quiescent_ReferencePoolFwdIdeal (hReferencePoolFwdIdeal := hReferencePoolFwdIdeal)
    ∧ quiescent_ReferencePoolFwdIdeal_pre_pooled_finite (hReferencePoolFwdIdeal := hReferencePoolFwdIdeal) (hPre_pooled_finite := hPre_pooled_finite)
    ∧ quiescent_KernelFfnFwd (hKernelFfnFwd := hKernelFfnFwd)
    ∧ quiescent_KernelFfnFwdIdeal (hKernelFfnFwdIdeal := hKernelFfnFwdIdeal)
    ∧ quiescent_ReferenceFfnFwdIdeal (hReferenceFfnFwdIdeal := hReferenceFfnFwdIdeal)
    ∧ quiescent_KernelLocal (hKernelLocal := hKernelLocal)
    ∧ quiescent_KernelLocalIdeal (hKernelLocalIdeal := hKernelLocalIdeal)
    ∧ quiescent_KernelLocalFwd (hKernelLocalFwd := hKernelLocalFwd)
    ∧ quiescent_KernelLocalFwdIdeal (hKernelLocalFwdIdeal := hKernelLocalFwdIdeal)
    ∧ quiescent_KernelInProj (hKernelInProj := hKernelInProj)
    ∧ quiescent_KernelInProjIdeal (hKernelInProjIdeal := hKernelInProjIdeal)
    ∧ quiescent_KernelMergeFwd (hKernelMergeFwd := hKernelMergeFwd)
    ∧ quiescent_KernelMergeFwdIdeal (hKernelMergeFwdIdeal := hKernelMergeFwdIdeal)
    ∧ quiescent_KernelRec (hKernelRec := hKernelRec)
    ∧ quiescent_KernelRecIdeal (hKernelRecIdeal := hKernelRecIdeal)
    ∧ quiescent_KernelRecFwd (hKernelRecFwd := hKernelRecFwd)
    ∧ quiescent_KernelRecFwdIdeal (hKernelRecFwdIdeal := hKernelRecFwdIdeal)
    ∧ preserves_KernelNorm_KernelNormIdeal
    ∧ algebraic_KernelNormIdeal_ReferenceNormIdeal_pre_norm_finite (hKernelNormIdeal := hKernelNormIdeal) (hReferenceNormIdeal := hReferenceNormIdeal) (hPre_norm_finite := hPre_norm_finite)
    ∧ preserves_KernelConv_KernelConvIdeal
    ∧ algebraic_KernelConvIdeal_ReferenceConvIdeal (hKernelConvIdeal := hKernelConvIdeal) (hReferenceConvIdeal := hReferenceConvIdeal)
    ∧ preserves_KernelFinal_KernelFinalIdeal
    ∧ algebraic_KernelFinalIdeal_ReferenceFinalIdeal_pre_final_finite (hKernelFinalIdeal := hKernelFinalIdeal) (hReferenceFinalIdeal := hReferenceFinalIdeal) (hPre_final_finite := hPre_final_finite)
    ∧ preserves_KernelOutProj_KernelOutProjIdeal
    ∧ algebraic_KernelOutProjIdeal_ReferenceOutProjIdeal_pre_outproj_finite (hKernelOutProjIdeal := hKernelOutProjIdeal) (hReferenceOutProjIdeal := hReferenceOutProjIdeal) (hPre_outproj_finite := hPre_outproj_finite)
    ∧ preserves_KernelAttn_KernelAttnIdeal
    ∧ algebraic_KernelAttnIdeal_ReferenceAttnIdeal_pre_attn_finite (hKernelAttnIdeal := hKernelAttnIdeal) (hReferenceAttnIdeal := hReferenceAttnIdeal) (hPre_attn_finite := hPre_attn_finite)
    ∧ preserves_KernelPool_KernelPoolIdeal
    ∧ algebraic_KernelPoolIdeal_ReferencePoolIdeal_pre_pool_finite (hKernelPoolIdeal := hKernelPoolIdeal) (hReferencePoolIdeal := hReferencePoolIdeal) (hPre_pool_finite := hPre_pool_finite)
    ∧ preserves_KernelPost_KernelPostIdeal
    ∧ algebraic_KernelPostIdeal_ReferencePostIdeal (hKernelPostIdeal := hKernelPostIdeal) (hReferencePostIdeal := hReferencePostIdeal)
    ∧ preserves_KernelFfn_KernelFfnIdeal
    ∧ algebraic_KernelFfnIdeal_ReferenceFfnIdeal_pre_ffn_finite (hKernelFfnIdeal := hKernelFfnIdeal) (hReferenceFfnIdeal := hReferenceFfnIdeal) (hPre_ffn_finite := hPre_ffn_finite)
    ∧ preserves_KernelConvFwd_KernelConvFwdIdeal
    ∧ algebraic_KernelConvFwdIdeal_ReferenceConvFwdIdeal (hKernelConvFwdIdeal := hKernelConvFwdIdeal) (hReferenceConvFwdIdeal := hReferenceConvFwdIdeal)
    ∧ preserves_KernelPostFwd_KernelPostFwdIdeal
    ∧ algebraic_KernelPostFwdIdeal_ReferencePostFwdIdeal (hKernelPostFwdIdeal := hKernelPostFwdIdeal) (hReferencePostFwdIdeal := hReferencePostFwdIdeal)
    ∧ preserves_KernelPoolFwd_KernelPoolFwdIdeal
    ∧ algebraic_KernelPoolFwdIdeal_ReferencePoolFwdIdeal_pre_pooled_finite (hKernelPoolFwdIdeal := hKernelPoolFwdIdeal) (hReferencePoolFwdIdeal := hReferencePoolFwdIdeal) (hPre_pooled_finite := hPre_pooled_finite)
    ∧ preserves_KernelFfnFwd_KernelFfnFwdIdeal
    ∧ algebraic_KernelFfnFwdIdeal_ReferenceFfnFwdIdeal (hKernelFfnFwdIdeal := hKernelFfnFwdIdeal) (hReferenceFfnFwdIdeal := hReferenceFfnFwdIdeal)
    ∧ preserves_KernelLocal_KernelLocalIdeal
    ∧ preserves_KernelLocalFwd_KernelLocalFwdIdeal
    ∧ preserves_KernelInProj_KernelInProjIdeal
    ∧ preserves_KernelMergeFwd_KernelMergeFwdIdeal
    ∧ preserves_KernelRec_KernelRecIdeal
    ∧ preserves_KernelRecFwd_KernelRecFwdIdeal
-- ==== Pre_attn_finite.lean ====
abbrev S4096x768 : Shape := ⟨2, ![4096, 768]⟩
abbrev S4096x256 : Shape := ⟨2, ![4096, 256]⟩
abbrev S_ : Shape := ⟨0, ![]⟩

class Facts : Prop where
  bcast_S_S4096x768 : S_.BroadcastsInDim S4096x768 (![] : Fin 0 → Fin S4096x768.rank)
  bcast_S_S4096x256 : S_.BroadcastsInDim S4096x256 (![] : Fin 0 → Fin S4096x256.rank)

variable [Facts]

def fn {F : FTy → Type} [FloatOps F] (main_arg0 : FVec F S4096x768 .f32) (main_arg1 : FVec F S4096x256 .f32) (main_arg2 : FVec F S4096x256 .f32) : IVec S4096x768 1 × IVec S4096x256 1 × IVec S4096x256 1 :=
  let main_v0 : FVec F S4096x768 .f32 := Host.absf main_arg0
  let main_cst : FVec F S_ .f32 := constant S_ .f32 0x7F800000#32
  let main_v1 : FVec F S4096x768 .f32 := broadcastInDim S4096x768 ![] bcast_S_S4096x768 main_cst
  let main_v2 : IVec S4096x768 1 := cmpf .olt main_v0 main_v1
  let main_v3 : FVec F S4096x256 .f32 := Host.absf main_arg1
  let main_cst_0 : FVec F S_ .f32 := constant S_ .f32 0x7F800000#32
  let main_v4 : FVec F S4096x256 .f32 := broadcastInDim S4096x256 ![] bcast_S_S4096x256 main_cst_0
  let main_v5 : IVec S4096x256 1 := cmpf .olt main_v3 main_v4
  let main_v6 : FVec F S4096x256 .f32 := Host.absf main_arg2
  let main_cst_1 : FVec F S_ .f32 := constant S_ .f32 0x7F800000#32
  let main_v7 : FVec F S4096x256 .f32 := broadcastInDim S4096x256 ![] bcast_S_S4096x256 main_cst_1
  let main_v8 : IVec S4096x256 1 := cmpf .olt main_v6 main_v7
  (main_v2, main_v5, main_v8)
-- ==== Pre_ffn_finite.lean ====
abbrev S4096x1024 : Shape := ⟨2, ![4096, 1024]⟩
abbrev S1024 : Shape := ⟨1, ![1024]⟩
abbrev S1024x2816 : Shape := ⟨2, ![1024, 2816]⟩
abbrev S2816x1024 : Shape := ⟨2, ![2816, 1024]⟩
abbrev S_ : Shape := ⟨0, ![]⟩

class Facts : Prop where
  bcast_S_S4096x1024 : S_.BroadcastsInDim S4096x1024 (![] : Fin 0 → Fin S4096x1024.rank)
  bcast_S_S1024 : S_.BroadcastsInDim S1024 (![] : Fin 0 → Fin S1024.rank)
  bcast_S_S1024x2816 : S_.BroadcastsInDim S1024x2816 (![] : Fin 0 → Fin S1024x2816.rank)
  bcast_S_S2816x1024 : S_.BroadcastsInDim S2816x1024 (![] : Fin 0 → Fin S2816x1024.rank)

variable [Facts]

def fn {F : FTy → Type} [FloatOps F] (main_arg0 : FVec F S4096x1024 .f32) (main_arg1 : FVec F S1024 .f32) (main_arg2 : FVec F S1024x2816 .f32) (main_arg3 : FVec F S1024x2816 .f32) (main_arg4 : FVec F S2816x1024 .f32) (main_arg5 : FVec F S4096x1024 .f32) : IVec S4096x1024 1 × IVec S1024 1 × IVec S1024x2816 1 × IVec S1024x2816 1 × IVec S2816x1024 1 × IVec S4096x1024 1 :=
  let main_v0 : FVec F S4096x1024 .f32 := Host.absf main_arg0
  let main_cst : FVec F S_ .f32 := constant S_ .f32 0x7F800000#32
  let main_v1 : FVec F S4096x1024 .f32 := broadcastInDim S4096x1024 ![] bcast_S_S4096x1024 main_cst
  let main_v2 : IVec S4096x1024 1 := cmpf .olt main_v0 main_v1
  let main_v3 : FVec F S1024 .f32 := Host.absf main_arg1
  let main_cst_0 : FVec F S_ .f32 := constant S_ .f32 0x7F800000#32
  let main_v4 : FVec F S1024 .f32 := broadcastInDim S1024 ![] bcast_S_S1024 main_cst_0
  let main_v5 : IVec S1024 1 := cmpf .olt main_v3 main_v4
  let main_v6 : FVec F S1024x2816 .f32 := Host.absf main_arg2
  let main_cst_1 : FVec F S_ .f32 := constant S_ .f32 0x7F800000#32
  let main_v7 : FVec F S1024x2816 .f32 := broadcastInDim S1024x2816 ![] bcast_S_S1024x2816 main_cst_1
  let main_v8 : IVec S1024x2816 1 := cmpf .olt main_v6 main_v7
  let main_v9 : FVec F S1024x2816 .f32 := Host.absf main_arg3
  let main_cst_2 : FVec F S_ .f32 := constant S_ .f32 0x7F800000#32
  let main_v10 : FVec F S1024x2816 .f32 := broadcastInDim S1024x2816 ![] bcast_S_S1024x2816 main_cst_2
  let main_v11 : IVec S1024x2816 1 := cmpf .olt main_v9 main_v10
  let main_v12 : FVec F S2816x1024 .f32 := Host.absf main_arg4
  let main_cst_3 : FVec F S_ .f32 := constant S_ .f32 0x7F800000#32
  let main_v13 : FVec F S2816x1024 .f32 := broadcastInDim S2816x1024 ![] bcast_S_S2816x1024 main_cst_3
  let main_v14 : IVec S2816x1024 1 := cmpf .olt main_v12 main_v13
  let main_v15 : FVec F S4096x1024 .f32 := Host.absf main_arg5
  let main_cst_4 : FVec F S_ .f32 := constant S_ .f32 0x7F800000#32
  let main_v16 : FVec F S4096x1024 .f32 := broadcastInDim S4096x1024 ![] bcast_S_S4096x1024 main_cst_4
  let main_v17 : IVec S4096x1024 1 := cmpf .olt main_v15 main_v16
  (main_v2, main_v5, main_v8, main_v11, main_v14, main_v17)
-- ==== Pre_final_finite.lean ====
abbrev S4096x1024 : Shape := ⟨2, ![4096, 1024]⟩
abbrev S1024 : Shape := ⟨1, ![1024]⟩
abbrev S_ : Shape := ⟨0, ![]⟩

class Facts : Prop where
  bcast_S_S4096x1024 : S_.BroadcastsInDim S4096x1024 (![] : Fin 0 → Fin S4096x1024.rank)
  bcast_S_S1024 : S_.BroadcastsInDim S1024 (![] : Fin 0 → Fin S1024.rank)

variable [Facts]

def fn {F : FTy → Type} [FloatOps F] (main_arg0 : FVec F S4096x1024 .f32) (main_arg1 : FVec F S1024 .f32) (main_arg2 : FVec F S4096x1024 .f32) : IVec S4096x1024 1 × IVec S1024 1 × IVec S4096x1024 1 :=
  let main_v0 : FVec F S4096x1024 .f32 := Host.absf main_arg0
  let main_cst : FVec F S_ .f32 := constant S_ .f32 0x7F800000#32
  let main_v1 : FVec F S4096x1024 .f32 := broadcastInDim S4096x1024 ![] bcast_S_S4096x1024 main_cst
  let main_v2 : IVec S4096x1024 1 := cmpf .olt main_v0 main_v1
  let main_v3 : FVec F S1024 .f32 := Host.absf main_arg1
  let main_cst_0 : FVec F S_ .f32 := constant S_ .f32 0x7F800000#32
  let main_v4 : FVec F S1024 .f32 := broadcastInDim S1024 ![] bcast_S_S1024 main_cst_0
  let main_v5 : IVec S1024 1 := cmpf .olt main_v3 main_v4
  let main_v6 : FVec F S4096x1024 .f32 := Host.absf main_arg2
  let main_cst_1 : FVec F S_ .f32 := constant S_ .f32 0x7F800000#32
  let main_v7 : FVec F S4096x1024 .f32 := broadcastInDim S4096x1024 ![] bcast_S_S4096x1024 main_cst_1
  let main_v8 : IVec S4096x1024 1 := cmpf .olt main_v6 main_v7
  (main_v2, main_v5, main_v8)
-- ==== Pre_norm_finite.lean ====
abbrev S4096x1024 : Shape := ⟨2, ![4096, 1024]⟩
abbrev S1024 : Shape := ⟨1, ![1024]⟩
abbrev S4x4096x1024 : Shape := ⟨3, ![4, 4096, 1024]⟩
abbrev S_ : Shape := ⟨0, ![]⟩

class Facts : Prop where
  bcast_S_S4096x1024 : S_.BroadcastsInDim S4096x1024 (![] : Fin 0 → Fin S4096x1024.rank)
  bcast_S_S1024 : S_.BroadcastsInDim S1024 (![] : Fin 0 → Fin S1024.rank)
  bitsLt_bf16_f32 : FTy.bits .bf16 < FTy.bits .f32
  bcast_S_S4x4096x1024 : S_.BroadcastsInDim S4x4096x1024 (![] : Fin 0 → Fin S4x4096x1024.rank)

variable [Facts]

def fn {F : FTy → Type} [FloatOps F] (main_arg0 : FVec F S4096x1024 .f32) (main_arg1 : FVec F S1024 .f32) (main_arg2 : FVec F S4096x1024 .f32) (main_arg3 : FVec F S4x4096x1024 .bf16) : IVec S4096x1024 1 × IVec S1024 1 × IVec S4x4096x1024 1 :=
  let main_v0 : FVec F S4096x1024 .f32 := Host.absf main_arg0
  let main_cst : FVec F S_ .f32 := constant S_ .f32 0x7F800000#32
  let main_v1 : FVec F S4096x1024 .f32 := broadcastInDim S4096x1024 ![] bcast_S_S4096x1024 main_cst
  let main_v2 : IVec S4096x1024 1 := cmpf .olt main_v0 main_v1
  let main_v3 : FVec F S1024 .f32 := Host.absf main_arg1
  let main_cst_0 : FVec F S_ .f32 := constant S_ .f32 0x7F800000#32
  let main_v4 : FVec F S1024 .f32 := broadcastInDim S1024 ![] bcast_S_S1024 main_cst_0
  let main_v5 : IVec S1024 1 := cmpf .olt main_v3 main_v4
  let main_v6 : FVec F S4x4096x1024 .f32 := (extf .f32 · bitsLt_bf16_f32) main_arg3
  let main_v7 : FVec F S4x4096x1024 .f32 := Host.absf main_v6
  let main_cst_1 : FVec F S_ .f32 := constant S_ .f32 0x7F800000#32
  let main_v8 : FVec F S4x4096x1024 .f32 := broadcastInDim S4x4096x1024 ![] bcast_S_S4x4096x1024 main_cst_1
  let main_v9 : IVec S4x4096x1024 1 := cmpf .olt main_v7 main_v8
  (main_v2, main_v5, main_v9)
-- ==== Pre_outproj_finite.lean ====
abbrev S4096x1024 : Shape := ⟨2, ![4096, 1024]⟩
abbrev S1024 : Shape := ⟨1, ![1024]⟩
abbrev S4x4096x1024 : Shape := ⟨3, ![4, 4096, 1024]⟩
abbrev S4096x256 : Shape := ⟨2, ![4096, 256]⟩
abbrev S4096x512 : Shape := ⟨2, ![4096, 512]⟩
abbrev S1024x1024 : Shape := ⟨2, ![1024, 1024]⟩
abbrev S_ : Shape := ⟨0, ![]⟩

class Facts : Prop where
  bcast_S_S4096x1024 : S_.BroadcastsInDim S4096x1024 (![] : Fin 0 → Fin S4096x1024.rank)
  bcast_S_S1024 : S_.BroadcastsInDim S1024 (![] : Fin 0 → Fin S1024.rank)
  bitsLt_bf16_f32 : FTy.bits .bf16 < FTy.bits .f32
  bcast_S_S4x4096x1024 : S_.BroadcastsInDim S4x4096x1024 (![] : Fin 0 → Fin S4x4096x1024.rank)

variable [Facts]

def fn {F : FTy → Type} [FloatOps F] (main_arg0 : FVec F S4096x1024 .f32) (main_arg1 : FVec F S1024 .f32) (main_arg2 : FVec F S4096x1024 .f32) (main_arg3 : FVec F S4x4096x1024 .bf16) (main_arg4 : FVec F S4096x256 .f32) (main_arg5 : FVec F S4096x256 .f32) (main_arg6 : FVec F S4096x512 .f32) (main_arg7 : FVec F S1024x1024 .f32) : IVec S4096x1024 1 × IVec S1024 1 × IVec S4x4096x1024 1 :=
  let main_v0 : FVec F S4096x1024 .f32 := Host.absf main_arg0
  let main_cst : FVec F S_ .f32 := constant S_ .f32 0x7F800000#32
  let main_v1 : FVec F S4096x1024 .f32 := broadcastInDim S4096x1024 ![] bcast_S_S4096x1024 main_cst
  let main_v2 : IVec S4096x1024 1 := cmpf .olt main_v0 main_v1
  let main_v3 : FVec F S1024 .f32 := Host.absf main_arg1
  let main_cst_0 : FVec F S_ .f32 := constant S_ .f32 0x7F800000#32
  let main_v4 : FVec F S1024 .f32 := broadcastInDim S1024 ![] bcast_S_S1024 main_cst_0
  let main_v5 : IVec S1024 1 := cmpf .olt main_v3 main_v4
  let main_v6 : FVec F S4x4096x1024 .f32 := (extf .f32 · bitsLt_bf16_f32) main_arg3
  let main_v7 : FVec F S4x4096x1024 .f32 := Host.absf main_v6
  let main_cst_1 : FVec F S_ .f32 := constant S_ .f32 0x7F800000#32
  let main_v8 : FVec F S4x4096x1024 .f32 := broadcastInDim S4x4096x1024 ![] bcast_S_S4x4096x1024 main_cst_1
  let main_v9 : IVec S4x4096x1024 1 := cmpf .olt main_v7 main_v8
  (main_v2, main_v5, main_v9)
-- ==== Pre_pool_finite.lean ====
abbrev S4096x256 : Shape := ⟨2, ![4096, 256]⟩
abbrev S4x64x64 : Shape := ⟨3, ![4, 64, 64]⟩
abbrev S256 : Shape := ⟨1, ![256]⟩
abbrev S_ : Shape := ⟨0, ![]⟩

class Facts : Prop where
  bcast_S_S4096x256 : S_.BroadcastsInDim S4096x256 (![] : Fin 0 → Fin S4096x256.rank)
  bcast_S_S4x64x64 : S_.BroadcastsInDim S4x64x64 (![] : Fin 0 → Fin S4x64x64.rank)
  bcast_S_S256 : S_.BroadcastsInDim S256 (![] : Fin 0 → Fin S256.rank)

variable [Facts]

def fn {F : FTy → Type} [FloatOps F] (main_arg0 : FVec F S4096x256 .f32) (main_arg1 : FVec F S4x64x64 .f32) (main_arg2 : FVec F S256 .f32) (main_arg3 : FVec F S4096x256 .f32) : IVec S4096x256 1 × IVec S4x64x64 1 × IVec S256 1 × IVec S4096x256 1 :=
  let main_v0 : FVec F S4096x256 .f32 := Host.absf main_arg0
  let main_cst : FVec F S_ .f32 := constant S_ .f32 0x7F800000#32
  let main_v1 : FVec F S4096x256 .f32 := broadcastInDim S4096x256 ![] bcast_S_S4096x256 main_cst
  let main_v2 : IVec S4096x256 1 := cmpf .olt main_v0 main_v1
  let main_v3 : FVec F S4x64x64 .f32 := Host.absf main_arg1
  let main_cst_0 : FVec F S_ .f32 := constant S_ .f32 0x7F800000#32
  let main_v4 : FVec F S4x64x64 .f32 := broadcastInDim S4x64x64 ![] bcast_S_S4x64x64 main_cst_0
  let main_v5 : IVec S4x64x64 1 := cmpf .olt main_v3 main_v4
  let main_v6 : FVec F S256 .f32 := Host.absf main_arg2
  let main_cst_1 : FVec F S_ .f32 := constant S_ .f32 0x7F800000#32
  let main_v7 : FVec F S256 .f32 := broadcastInDim S256 ![] bcast_S_S256 main_cst_1
  let main_v8 : IVec S256 1 := cmpf .olt main_v6 main_v7
  let main_v9 : FVec F S4096x256 .f32 := Host.absf main_arg3
  let main_cst_2 : FVec F S_ .f32 := constant S_ .f32 0x7F800000#32
  let main_v10 : FVec F S4096x256 .f32 := broadcastInDim S4096x256 ![] bcast_S_S4096x256 main_cst_2
  let main_v11 : IVec S4096x256 1 := cmpf .olt main_v9 main_v10
  (main_v2, main_v5, main_v8, main_v11)
-- ==== Pre_pooled_finite.lean ====
abbrev S4096x256 : Shape := ⟨2, ![4096, 256]⟩
abbrev S4x64x64 : Shape := ⟨3, ![4, 64, 64]⟩
abbrev S256 : Shape := ⟨1, ![256]⟩
abbrev S_ : Shape := ⟨0, ![]⟩

class Facts : Prop where
  bcast_S_S4096x256 : S_.BroadcastsInDim S4096x256 (![] : Fin 0 → Fin S4096x256.rank)

variable [Facts]

def fn {F : FTy → Type} [FloatOps F] (main_arg0 : FVec F S4096x256 .f32) (main_arg1 : FVec F S4x64x64 .f32) (main_arg2 : FVec F S256 .f32) : IVec S4096x256 1 :=
  let main_v0 : FVec F S4096x256 .f32 := Host.absf main_arg0
  let main_cst : FVec F S_ .f32 := constant S_ .f32 0x7F800000#32
  let main_v1 : FVec F S4096x256 .f32 := broadcastInDim S4096x256 ![] bcast_S_S4096x256 main_cst
  let main_v2 : IVec S4096x256 1 := cmpf .olt main_v0 main_v1
  main_v2
-- ==== KernelNorm.lean ====
abbrev S4096x1024 : Shape := ⟨2, ![4096, 1024]⟩
abbrev S1024 : Shape := ⟨1, ![1024]⟩
abbrev S4x4096x1024 : Shape := ⟨3, ![4, 4096, 1024]⟩
abbrev S1x1024 : Shape := ⟨2, ![1, 1024]⟩
abbrev S512x1024 : Shape := ⟨2, ![512, 1024]⟩
abbrev S4x512x1024 : Shape := ⟨3, ![4, 512, 1024]⟩
abbrev S1x512x1024 : Shape := ⟨3, ![1, 512, 1024]⟩
abbrev S512 : Shape := ⟨1, ![512]⟩
abbrev S512x1 : Shape := ⟨2, ![512, 1]⟩

abbrev nBuf : Space → Nat
  | .hbm => 7
  | .vmem => 10
  | .smem => 0
  | _ => 0

abbrev bufTy : (tb : Table) → Fin (tcTables nBuf tb) → BufTy
  | .hbm, ⟨0, _⟩ => ⟨S4096x1024, .f32⟩
  | .hbm, ⟨1, _⟩ => ⟨S1024, .f32⟩
  | .hbm, ⟨2, _⟩ => ⟨S4096x1024, .f32⟩
  | .hbm, ⟨3, _⟩ => ⟨S4x4096x1024, .bf16⟩
  | .hbm, ⟨4, _⟩ => ⟨S1x1024, .f32⟩
  | .hbm, ⟨5, _⟩ => ⟨S4096x1024, .f32⟩
  | .hbm, ⟨6, _⟩ => ⟨S1x1024, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S512x1024, .f32⟩
  | .local _ .vmem, ⟨4, _⟩ => ⟨S512x1024, .f32⟩
  | .local _ .vmem, ⟨5, _⟩ => ⟨S4x512x1024, .bf16⟩
  | .local _ .vmem, ⟨6, _⟩ => ⟨S4x512x1024, .bf16⟩
  | .local _ .vmem, ⟨7, _⟩ => ⟨S512x1024, .f32⟩
  | .local _ .vmem, ⟨8, _⟩ => ⟨S512x1024, .f32⟩
  | .local _ .vmem, ⟨9, _⟩ => ⟨S1x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1_0 : Ref sig .tc := ⟨.hbm, 5, rfl⟩
abbrev main_v1_1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S4x512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]
-- ==== ReferenceNormIdeal.lean ====
abbrev S4096x1024 : Shape := ⟨2, ![4096, 1024]⟩
abbrev S1024 : Shape := ⟨1, ![1024]⟩
abbrev S4x4096x1024 : Shape := ⟨3, ![4, 4096, 1024]⟩
abbrev S_ : Shape := ⟨0, ![]⟩
abbrev S4096 : Shape := ⟨1, ![4096]⟩
abbrev S4096x1 : Shape := ⟨2, ![4096, 1]⟩
abbrev S1x1024 : Shape := ⟨2, ![1, 1024]⟩

abbrev nBuf : Space → Nat
  | .hbm => 54
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024, .f32⟩
  | .hbm, ⟨2, _⟩ => ⟨S4096x1024, .f32⟩
  | .hbm, ⟨3, _⟩ => ⟨S4x4096x1024, .bf16⟩
  | .hbm, ⟨4, _⟩ => ⟨S4x4096x1024, .f32⟩
  | .hbm, ⟨5, _⟩ => ⟨S_, .f32⟩
  | .hbm, ⟨6, _⟩ => ⟨S4096x1024, .f32⟩
  | .hbm, ⟨7, _⟩ => ⟨S4096x1024, .f32⟩
  | .hbm, ⟨8, _⟩ => ⟨S_, .f32⟩
  | .hbm, ⟨9, _⟩ => ⟨S4096, .f32⟩
  | .hbm, ⟨10, _⟩ => ⟨S4096x1, .f32⟩
  | .hbm, ⟨11, _⟩ => ⟨S_, .f32⟩
  | .hbm, ⟨12, _⟩ => ⟨S4096x1, .f32⟩
  | .hbm, ⟨13, _⟩ => ⟨S4096x1, .f32⟩
  | .hbm, ⟨14, _⟩ => ⟨S_, .f32⟩
  | .hbm, ⟨15, _⟩ => ⟨S4096x1, .f32⟩
  | .hbm, ⟨16, _⟩ => ⟨S4096x1, .f32⟩
  | .hbm, ⟨17, _⟩ => ⟨S4096x1, .f32⟩
  | .hbm, ⟨18, _⟩ => ⟨S4096x1, .f32⟩
  | .hbm, ⟨19, _⟩ => ⟨S_, .f32⟩
  | .hbm, ⟨20, _⟩ => ⟨S4096x1, .f32⟩
  | .hbm, ⟨21, _⟩ => ⟨S4096x1, .f32⟩
  | .hbm, ⟨22, _⟩ => ⟨S4096x1024, .f32⟩
  | .hbm, ⟨23, _⟩ => ⟨S4096x1024, .f32⟩
  | .hbm, ⟨24, _⟩ => ⟨S1x1024, .f32⟩
  | .hbm, ⟨25, _⟩ => ⟨S4096x1024, .f32⟩
  | .hbm, ⟨26, _⟩ => ⟨S4096x1024, .f32⟩
  | .hbm, ⟨27, _⟩ => ⟨S4096x1024, .f32⟩
  | .hbm, ⟨28, _⟩ => ⟨S_, .f32⟩
  | .hbm, ⟨29, _⟩ => ⟨S1024, .f32⟩
  | .hbm, ⟨30, _⟩ => ⟨S1x1024, .f32⟩
  | .hbm, ⟨31, _⟩ => ⟨S4096x1024, .f32⟩
  | .hbm, ⟨32, _⟩ => ⟨S4096x1024, .f32⟩
  | .hbm, ⟨33, _⟩ => ⟨S_, .f32⟩
  | .hbm, ⟨34, _⟩ => ⟨S1024, .f32⟩
  | .hbm, ⟨35, _⟩ => ⟨S4096x1024, .f32⟩
  | .hbm, ⟨36, _⟩ => ⟨S_, .f32⟩
  | .hbm, ⟨37, _⟩ => ⟨S4096, .f32⟩
  | .hbm, ⟨38, _⟩ => ⟨S4096x1, .f32⟩
  | .hbm, ⟨39, _⟩ => ⟨S4096x1024, .f32⟩
  | .hbm, ⟨40, _⟩ => ⟨S4096x1024, .f32⟩
  | .hbm, ⟨41, _⟩ => ⟨S4096x1, .f32⟩
  | .hbm, ⟨42, _⟩ => ⟨S_, .f32⟩
  | .hbm, ⟨43, _⟩ => ⟨S4096x1, .f32⟩
  | .hbm, ⟨44, _⟩ => ⟨S4096x1, .f32⟩
  | .hbm, ⟨45, _⟩ => ⟨S_, .f32⟩
  | .hbm, ⟨46, _⟩ => ⟨S4096, .f32⟩
  | .hbm, ⟨47, _⟩ => ⟨S4096x1024, .f32⟩
  | .hbm, ⟨48, _⟩ => ⟨S4096x1024, .f32⟩
  | .hbm, ⟨49, _⟩ => ⟨S4096x1024, .f32⟩
  | .hbm, ⟨50, _⟩ => ⟨S4096x1024, .f32⟩
  | .hbm, ⟨51, _⟩ => ⟨S4096x1024, .f32⟩
  | .hbm, ⟨52, _⟩ => ⟨S4096x1024, .f32⟩
  | .hbm, ⟨53, _⟩ => ⟨S1x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_cst_2 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_cst_4 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_cst_5 : Ref sig .tc := ⟨.hbm, 33, rfl⟩
abbrev main_v23 : Ref sig .tc := ⟨.hbm, 34, rfl⟩
abbrev main_v24 : Ref sig .tc := ⟨.hbm, 35, rfl⟩
abbrev main_cst_6 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_cst_7 : Ref sig .tc := ⟨.hbm, 42, rfl⟩
abbrev main_v30 : Ref sig .tc := ⟨.hbm, 43, rfl⟩
abbrev main_v31 : Ref sig .tc := ⟨.hbm, 44, rfl⟩
abbrev main_cst_8 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩

abbrev nD : Nat := 1
abbrev τ : Topo := Topo.v7x

variable {F : FTy → Type} [FloatOps F]
-- ==== KernelConv.lean ====
abbrev S4096x1536 : Shape := ⟨2, ![4096, 1536]⟩
abbrev S4x1536 : Shape := ⟨2, ![4, 1536]⟩
abbrev S_ : Shape := ⟨0, ![]⟩
abbrev S8x1536 : Shape := ⟨2, ![8, 1536]⟩
abbrev S256x1536 : Shape := ⟨2, ![256, 1536]⟩
abbrev S264x1536 : Shape := ⟨2, ![264, 1536]⟩
abbrev S1x1536 : Shape := ⟨2, ![1, 1536]⟩
abbrev S1536 : Shape := ⟨1, ![1536]⟩

abbrev nBuf : Space → Nat
  | .hbm => 9
  | .vmem => 12
  | .smem => 0
  | _ => 0

abbrev bufTy : (tb : Table) → Fin (tcTables nBuf tb) → BufTy
  | .hbm, ⟨0, _⟩ => ⟨S4096x1536, .f32⟩
  | .hbm, ⟨1, _⟩ => ⟨S4x1536, .f32⟩
  | .hbm, ⟨2, _⟩ => ⟨S4096x1536, .f32⟩
  | .hbm, ⟨3, _⟩ => ⟨S_, .i32⟩
  | .hbm, ⟨4, _⟩ => ⟨S_, .f32⟩
  | .hbm, ⟨5, _⟩ => ⟨S8x1536, .f32⟩
  | .hbm, ⟨6, _⟩ => ⟨S4096x1536, .f32⟩
  | .hbm, ⟨7, _⟩ => ⟨S8x1536, .f32⟩
  | .hbm, ⟨8, _⟩ => ⟨S4x1536, .f32⟩
  | .local _ .vmem, ⟨0, _⟩ => ⟨S256x1536, .f32⟩
  | .local _ .vmem, ⟨1, _⟩ => ⟨S256x1536, .f32⟩
  | .local _ .vmem, ⟨2, _⟩ => ⟨S8x1536, .f32⟩
  | .local _ .vmem, ⟨3, _⟩ => ⟨S8x1536, .f32⟩
  | .local _ .vmem, ⟨4, _⟩ => ⟨S8x1536, .f32⟩
  | .local _ .vmem, ⟨5, _⟩ => ⟨S256x1536, .f32⟩
  | .local _ .vmem, ⟨6, _⟩ => ⟨S256x1536, .f32⟩
  | .local _ .vmem, ⟨7, _⟩ => ⟨S8x1536, .f32⟩
  | .local _ .vmem, ⟨8, _⟩ => ⟨S8x1536, .f32⟩
  | .local _ .vmem, ⟨9, _⟩ => ⟨S256x1536, .f32⟩
  | .local _ .vmem, ⟨10, _⟩ => ⟨S256x1536, .f32⟩
  | .local _ .vmem, ⟨11, _⟩ => ⟨S8x1536, .f32⟩
  | _, _ => ⟨S4096x1536, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_call0_v0 : Ref sig .tc := ⟨.hbm, 4, rfl⟩
abbrev main_v0 : Ref sig .tc := ⟨.hbm, 5, rfl⟩
abbrev main_v1_0 : Ref sig .tc := ⟨.hbm, 6, rfl⟩
abbrev main_v1_1 : Ref sig .tc := ⟨.hbm, 7, rfl⟩
abbrev main_v2 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c32_i32 : BitVec 32 := 32#32
  let v0 : BitVec 32 := Scalar.muli arg0 c32_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![v2.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c1_i32 : BitVec 32 := 1#32
  let v0 : BitVec 32 := Scalar.addi arg0 c1_i32
  let c32_i32 : BitVec 32 := 32#32
  let v1 : BitVec 32 := Scalar.muli v0 c32_i32
  let c511_i32 : BitVec 32 := 511#32
  let v2 : BitVec 32 := Scalar.minsi v1 c511_i32
  let c0_i32 : BitVec 32 := 0#32
  let c0_i32_0 : BitVec 32 := 0#32
  ![v2.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x1536 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8x1536 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S8x1536 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S256x1536 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S8x1536 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1536 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S8x1536 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== ReferenceConvIdeal.lean ====
abbrev S4096x1536 : Shape := ⟨2, ![4096, 1536]⟩
abbrev S4x1536 : Shape := ⟨2, ![4, 1536]⟩
abbrev S_ : Shape := ⟨0, ![]⟩
abbrev S3x1536 : Shape := ⟨2, ![3, 1536]⟩
abbrev S4099x1536 : Shape := ⟨2, ![4099, 1536]⟩
abbrev S1x1536 : Shape := ⟨2, ![1, 1536]⟩
abbrev S1536 : Shape := ⟨1, ![1536]⟩

abbrev nBuf : Space → Nat
  | .hbm => 100
  | .vmem => 0
  | .smem => 0
  | _ => 0

abbrev bufTy : (tb : Table) → Fin (tcTables nBuf tb) → BufTy
  | .hbm, ⟨0, _⟩ => ⟨S4096x1536, .f32⟩
  | .hbm, ⟨1, _⟩ => ⟨S4x1536, .f32⟩
  | .hbm, ⟨2, _⟩ => ⟨S4096x1536, .f32⟩
  | .hbm, ⟨3, _⟩ => ⟨S_, .f32⟩
  | .hbm, ⟨4, _⟩ => ⟨S3x1536, .f32⟩
  | .hbm, ⟨5, _⟩ => ⟨S4099x1536, .f32⟩
  | .hbm, ⟨6, _⟩ => ⟨S_, .f32⟩
  | .hbm, ⟨7, _⟩ => ⟨S3x1536, .f32⟩
  | .hbm, ⟨8, _⟩ => ⟨S1x1536, .f32⟩
  | .hbm, ⟨9, _⟩ => ⟨S1536, .f32⟩
  | .hbm, ⟨10, _⟩ => ⟨S4096x1536, .f32⟩
  | .hbm, ⟨11, _⟩ => ⟨S1x1536, .f32⟩
  | .hbm, ⟨12, _⟩ => ⟨S4096x1536, .f32⟩
  | .hbm, ⟨13, _⟩ => ⟨S4096x1536, .f32⟩
  | .hbm, ⟨14, _⟩ => ⟨S_, .f32⟩
  | .hbm, ⟨15, _⟩ => ⟨S4096x1536, .f32⟩
  | .hbm, ⟨16, _⟩ => ⟨S4096x1536, .f32⟩
  | .hbm, ⟨17, _⟩ => ⟨S1x1536, .f32⟩
  | .hbm, ⟨18, _⟩ => ⟨S1536, .f32⟩
  | .hbm, ⟨19, _⟩ => ⟨S4096x1536, .f32⟩
  | .hbm, ⟨20, _⟩ => ⟨S1x1536, .f32⟩
  | .hbm, ⟨21, _⟩ => ⟨S4096x1536, .f32⟩
  | .hbm, ⟨22, _⟩ => ⟨S4096x1536, .f32⟩
  | .hbm, ⟨23, _⟩ => ⟨S4096x1536, .f32⟩
  | .hbm, ⟨24, _⟩ => ⟨S1x1536, .f32⟩
  | .hbm, ⟨25, _⟩ => ⟨S1536, .f32⟩
  | .hbm, ⟨26, _⟩ => ⟨S4096x1536, .f32⟩
  | .hbm, ⟨27, _⟩ => ⟨S1x1536, .f32⟩
  | .hbm, ⟨28, _⟩ => ⟨S4096x1536, .f32⟩
  | .hbm, ⟨29, _⟩ => ⟨S4096x1536, .f32⟩
  | .hbm, ⟨30, _⟩ => ⟨S4096x1536, .f32⟩
  | .hbm, ⟨31, _⟩ => ⟨S1x1536, .f32⟩
  | .hbm, ⟨32, _⟩ => ⟨S1536, .f32⟩
  | .hbm, ⟨33, _⟩ => ⟨S4096x1536, .f32⟩
  | .hbm, ⟨34, _⟩ => ⟨S1x1536, .f32⟩
  | .hbm, ⟨35, _⟩ => ⟨S4096x1536, .f32⟩
  | .hbm, ⟨36, _⟩ => ⟨S4096x1536, .f32⟩
  | .hbm, ⟨37, _⟩ => ⟨S4096x1536, .f32⟩
  | .hbm, ⟨38, _⟩ => ⟨S4096x1536, .f32⟩
  | .hbm, ⟨39, _⟩ => ⟨S4096x1536, .f32⟩
  | .hbm, ⟨40, _⟩ => ⟨S4096x1536, .f32⟩
  | .hbm, ⟨41, _⟩ => ⟨S4096x1536, .f32⟩
  | .hbm, ⟨42, _⟩ => ⟨S4096x1536, .f32⟩
  | .hbm, ⟨43, _⟩ => ⟨S_, .f32⟩
  | .hbm, ⟨44, _⟩ => ⟨S1536, .f32⟩
  | .hbm, ⟨45, _⟩ => ⟨S1x1536, .f32⟩
  | .hbm, ⟨46, _⟩ => ⟨S_, .f32⟩
  | .hbm, ⟨47, _⟩ => ⟨S1536, .f32⟩
  | .hbm, ⟨48, _⟩ => ⟨S_, .f32⟩
  | .hbm, ⟨49, _⟩ => ⟨S4099x1536, .f32⟩
  | .hbm, ⟨50, _⟩ => ⟨S1x1536, .f32⟩
  | .hbm, ⟨51, _⟩ => ⟨S_, .f32⟩
  | .hbm, ⟨52, _⟩ => ⟨S4x1536, .f32⟩
  | .hbm, ⟨53, _⟩ => ⟨S4096x1536, .f32⟩
  | .hbm, ⟨54, _⟩ => ⟨S4096x1536, .f32⟩
  | .hbm, ⟨55, _⟩ => ⟨S4096x1536, .f32⟩
  | .hbm, ⟨56, _⟩ => ⟨S_, .f32⟩
  | .hbm, ⟨57, _⟩ => ⟨S1536, .f32⟩
  | .hbm, ⟨58, _⟩ => ⟨S1x1536, .f32⟩
  | .hbm, ⟨59, _⟩ => ⟨S_, .f32⟩
  | .hbm, ⟨60, _⟩ => ⟨S1536, .f32⟩
  | .hbm, ⟨61, _⟩ => ⟨S_, .f32⟩
  | .hbm, ⟨62, _⟩ => ⟨S4099x1536, .f32⟩
  | .hbm, ⟨63, _⟩ => ⟨S4099x1536, .f32⟩
  | .hbm, ⟨64, _⟩ => ⟨S1x1536, .f32⟩
  | .hbm, ⟨65, _⟩ => ⟨S_, .f32⟩
  | .hbm, ⟨66, _⟩ => ⟨S4x1536, .f32⟩
  | .hbm, ⟨67, _⟩ => ⟨S4x1536, .f32⟩
  | .hbm, ⟨68, _⟩ => ⟨S4096x1536, .f32⟩
  | .hbm, ⟨69, _⟩ => ⟨S4096x1536, .f32⟩
  | .hbm, ⟨70, _⟩ => ⟨S4096x1536, .f32⟩
  | .hbm, ⟨71, _⟩ => ⟨S_, .f32⟩
  | .hbm, ⟨72, _⟩ => ⟨S1536, .f32⟩
  | .hbm, ⟨73, _⟩ => ⟨S1x1536, .f32⟩
  | .hbm, ⟨74, _⟩ => ⟨S_, .f32⟩
  | .hbm, ⟨75, _⟩ => ⟨S1536, .f32⟩
  | .hbm, ⟨76, _⟩ => ⟨S_, .f32⟩
  | .hbm, ⟨77, _⟩ => ⟨S4099x1536, .f32⟩
  | .hbm, ⟨78, _⟩ => ⟨S4099x1536, .f32⟩
  | .hbm, ⟨79, _⟩ => ⟨S1x1536, .f32⟩
  | .hbm, ⟨80, _⟩ => ⟨S_, .f32⟩
  | .hbm, ⟨81, _⟩ => ⟨S4x1536, .f32⟩
  | .hbm, ⟨82, _⟩ => ⟨S4x1536, .f32⟩
  | .hbm, ⟨83, _⟩ => ⟨S4096x1536, .f32⟩
  | .hbm, ⟨84, _⟩ => ⟨S4096x1536, .f32⟩
  | .hbm, ⟨85, _⟩ => ⟨S4096x1536, .f32⟩
  | .hbm, ⟨86, _⟩ => ⟨S_, .f32⟩
  | .hbm, ⟨87, _⟩ => ⟨S1536, .f32⟩
  | .hbm, ⟨88, _⟩ => ⟨S1x1536, .f32⟩
  | .hbm, ⟨89, _⟩ => ⟨S_, .f32⟩
  | .hbm, ⟨90, _⟩ => ⟨S1536, .f32⟩
  | .hbm, ⟨91, _⟩ => ⟨S_, .f32⟩
  | .hbm, ⟨92, _⟩ => ⟨S4099x1536, .f32⟩
  | .hbm, ⟨93, _⟩ => ⟨S4099x1536, .f32⟩
  | .hbm, ⟨94, _⟩ => ⟨S1x1536, .f32⟩
  | .hbm, ⟨95, _⟩ => ⟨S_, .f32⟩
  | .hbm, ⟨96, _⟩ => ⟨S4x1536, .f32⟩
  | .hbm, ⟨97, _⟩ => ⟨S4x1536, .f32⟩
  | .hbm, ⟨98, _⟩ => ⟨S3x1536, .f32⟩
  | .hbm, ⟨99, _⟩ => ⟨S4096x1536, .f32⟩
  | _, _ => ⟨S4096x1536, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_cst_0 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_cst_1 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_v30 : Ref sig .tc := ⟨.hbm, 36, rfl⟩
abbrev main_v31 : Ref sig .tc := ⟨.hbm, 37, rfl⟩
abbrev main_v32 : Ref sig .tc := ⟨.hbm, 38, rfl⟩
abbrev main_v33 : Ref sig .tc := ⟨.hbm, 39, rfl⟩
abbrev main_v34 : Ref sig .tc := ⟨.hbm, 40, rfl⟩
abbrev main_v35 : Ref sig .tc := ⟨.hbm, 41, rfl⟩
abbrev main_v36 : Ref sig .tc := ⟨.hbm, 42, rfl⟩
abbrev main_cst_2 : Ref sig .tc := ⟨.hbm, 43, rfl⟩
abbrev main_v37 : Ref sig .tc := ⟨.hbm, 44, rfl⟩
abbrev main_v38 : Ref sig .tc := ⟨.hbm, 45, rfl⟩
abbrev main_cst_3 : Ref sig .tc := ⟨.hbm, 46, rfl⟩
abbrev main_v39 : Ref sig .tc := ⟨.hbm, 47, rfl⟩
abbrev main_cst_4 : Ref sig .tc := ⟨.hbm, 48, rfl⟩
abbrev main_v40 : Ref sig .tc := ⟨.hbm, 49, rfl⟩
abbrev main_v41 : Ref sig .tc := ⟨.hbm, 50, rfl⟩
abbrev main_cst_5 : Ref sig .tc := ⟨.hbm, 51, rfl⟩
abbrev main_v42 : Ref sig .tc := ⟨.hbm, 52, rfl⟩
abbrev main_v43 : Ref sig .tc := ⟨.hbm, 53, rfl⟩
abbrev main_v44 : Ref sig .tc := ⟨.hbm, 54, rfl⟩
abbrev main_v45 : Ref sig .tc := ⟨.hbm, 55, rfl⟩
abbrev main_cst_6 : Ref sig .tc := ⟨.hbm, 56, rfl⟩
abbrev main_v46 : Ref sig .tc := ⟨.hbm, 57, rfl⟩
abbrev main_v47 : Ref sig .tc := ⟨.hbm, 58, rfl⟩
abbrev main_cst_7 : Ref sig .tc := ⟨.hbm, 59, rfl⟩
abbrev main_v48 : Ref sig .tc := ⟨.hbm, 60, rfl⟩
abbrev main_cst_8 : Ref sig .tc := ⟨.hbm, 61, rfl⟩
abbrev main_v49 : Ref sig .tc := ⟨.hbm, 62, rfl⟩
abbrev main_v50 : Ref sig .tc := ⟨.hbm, 63, rfl⟩
abbrev main_v51 : Ref sig .tc := ⟨.hbm, 64, rfl⟩
abbrev main_cst_9 : Ref sig .tc := ⟨.hbm, 65, rfl⟩
abbrev main_v52 : Ref sig .tc := ⟨.hbm, 66, rfl⟩
abbrev main_v53 : Ref sig .tc := ⟨.hbm, 67, rfl⟩
abbrev main_v54 : Ref sig .tc := ⟨.hbm, 68, rfl⟩
abbrev main_v55 : Ref sig .tc := ⟨.hbm, 69, rfl⟩
abbrev main_v56 : Ref sig .tc := ⟨.hbm, 70, rfl⟩
abbrev main_cst_10 : Ref sig .tc := ⟨.hbm, 71, rfl⟩
abbrev main_v57 : Ref sig .tc := ⟨.hbm, 72, rfl⟩
abbrev main_v58 : Ref sig .tc := ⟨.hbm, 73, rfl⟩
abbrev main_cst_11 : Ref sig .tc := ⟨.hbm, 74, rfl⟩
abbrev main_v59 : Ref sig .tc := ⟨.hbm, 75, rfl⟩
abbrev main_cst_12 : Ref sig .tc := ⟨.hbm, 76, rfl⟩
abbrev main_v60 : Ref sig .tc := ⟨.hbm, 77, rfl⟩
abbrev main_v61 : Ref sig .tc := ⟨.hbm, 78, rfl⟩
abbrev main_v62 : Ref sig .tc := ⟨.hbm, 79, rfl⟩
abbrev main_cst_13 : Ref sig .tc := ⟨.hbm, 80, rfl⟩
abbrev main_v63 : Ref sig .tc := ⟨.hbm, 81, rfl⟩
abbrev main_v64 : Ref sig .tc := ⟨.hbm, 82, rfl⟩
abbrev main_v65 : Ref sig .tc := ⟨.hbm, 83, rfl⟩
abbrev main_v66 : Ref sig .tc := ⟨.hbm, 84, rfl⟩
abbrev main_v67 : Ref sig .tc := ⟨.hbm, 85, rfl⟩
abbrev main_cst_14 : Ref sig .tc := ⟨.hbm, 86, rfl⟩
abbrev main_v68 : Ref sig .tc := ⟨.hbm, 87, rfl⟩
abbrev main_v69 : Ref sig .tc := ⟨.hbm, 88, rfl⟩
abbrev main_cst_15 : Ref sig .tc := ⟨.hbm, 89, rfl⟩
abbrev main_v70 : Ref sig .tc := ⟨.hbm, 90, rfl⟩
abbrev main_cst_16 : Ref sig .tc := ⟨.hbm, 91, rfl⟩
abbrev main_v71 : Ref sig .tc := ⟨.hbm, 92, rfl⟩
abbrev main_v72 : Ref sig .tc := ⟨.hbm, 93, rfl⟩
abbrev main_v73 : Ref sig .tc := ⟨.hbm, 94, rfl⟩
abbrev main_cst_17 : Ref sig .tc := ⟨.hbm, 95, rfl⟩
abbrev main_v74 : Ref sig .tc := ⟨.hbm, 96, rfl⟩
abbrev main_v75 : Ref sig .tc := ⟨.hbm, 97, rfl⟩
abbrev main_v76 : Ref sig .tc := ⟨.hbm, 98, rfl⟩
abbrev main_v77 : Ref sig .tc := ⟨.hbm, 99, rfl⟩

abbrev nD : Nat := 1
abbrev τ : Topo := Topo.v7x

variable {F : FTy → Type} [FloatOps F]
-- ==== KernelFinal.lean ====
abbrev S4096x1024 : Shape := ⟨2, ![4096, 1024]⟩
abbrev S1024 : Shape := ⟨1, ![1024]⟩
abbrev S1x1024 : Shape := ⟨2, ![1, 1024]⟩
abbrev S1x128 : Shape := ⟨2, ![1, 128]⟩
abbrev S512x1024 : Shape := ⟨2, ![512, 1024]⟩
abbrev S512 : Shape := ⟨1, ![512]⟩
abbrev S512x1 : Shape := ⟨2, ![512, 1]⟩
abbrev S1 : Shape := ⟨1, ![1]⟩
abbrev S1x1 : Shape := ⟨2, ![1, 1]⟩
abbrev S_ : Shape := ⟨0, ![]⟩

abbrev nBuf : Space → Nat
  | .hbm => 9
  | .vmem => 9
  | .smem => 0
  | _ => 0

abbrev bufTy : (tb : Table) → Fin (tcTables nBuf tb) → BufTy
  | .hbm, ⟨0, _⟩ => ⟨S4096x1024, .f32⟩
  | .hbm, ⟨1, _⟩ => ⟨S1024, .f32⟩
  | .hbm, ⟨2, _⟩ => ⟨S4096x1024, .f32⟩
  | .hbm, ⟨3, _⟩ => ⟨S1x1024, .f32⟩
  | .hbm, ⟨4, _⟩ => ⟨S4096x1024, .f32⟩
  | .hbm, ⟨5, _⟩ => ⟨S1x1024, .f32⟩
  | .hbm, ⟨6, _⟩ => ⟨S1x128, .f32⟩
  | .hbm, ⟨7, _⟩ => ⟨S1x1, .f32⟩
  | .hbm, ⟨8, _⟩ => ⟨S_, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S1x1024, .f32⟩
  | .local _ .vmem, ⟨8, _⟩ => ⟨S1x128, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1_0 : Ref sig .tc := ⟨.hbm, 4, rfl⟩
abbrev main_v1_1 : Ref sig .tc := ⟨.hbm, 5, rfl⟩
abbrev main_v1_2 : Ref sig .tc := ⟨.hbm, 6, rfl⟩
abbrev main_v2 : Ref sig .tc := ⟨.hbm, 7, rfl⟩
abbrev main_v3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]
-- ==== ReferenceFinalIdeal.lean ====
abbrev S4096x1024 : Shape := ⟨2, ![4096, 1024]⟩
abbrev S1024 : Shape := ⟨1, ![1024]⟩
abbrev S_ : Shape := ⟨0, ![]⟩
abbrev S4096 : Shape := ⟨1, ![4096]⟩
abbrev S4096x1 : Shape := ⟨2, ![4096, 1]⟩
abbrev S1x1024 : Shape := ⟨2, ![1, 1024]⟩

abbrev nBuf : Space → Nat
  | .hbm => 72
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024, .f32⟩
  | .hbm, ⟨2, _⟩ => ⟨S4096x1024, .f32⟩
  | .hbm, ⟨3, _⟩ => ⟨S4096x1024, .f32⟩
  | .hbm, ⟨4, _⟩ => ⟨S_, .f32⟩
  | .hbm, ⟨5, _⟩ => ⟨S4096, .f32⟩
  | .hbm, ⟨6, _⟩ => ⟨S4096x1, .f32⟩
  | .hbm, ⟨7, _⟩ => ⟨S_, .f32⟩
  | .hbm, ⟨8, _⟩ => ⟨S4096x1, .f32⟩
  | .hbm, ⟨9, _⟩ => ⟨S4096x1, .f32⟩
  | .hbm, ⟨10, _⟩ => ⟨S_, .f32⟩
  | .hbm, ⟨11, _⟩ => ⟨S4096x1, .f32⟩
  | .hbm, ⟨12, _⟩ => ⟨S4096x1, .f32⟩
  | .hbm, ⟨13, _⟩ => ⟨S4096x1, .f32⟩
  | .hbm, ⟨14, _⟩ => ⟨S4096x1, .f32⟩
  | .hbm, ⟨15, _⟩ => ⟨S_, .f32⟩
  | .hbm, ⟨16, _⟩ => ⟨S4096x1, .f32⟩
  | .hbm, ⟨17, _⟩ => ⟨S4096x1, .f32⟩
  | .hbm, ⟨18, _⟩ => ⟨S4096x1024, .f32⟩
  | .hbm, ⟨19, _⟩ => ⟨S4096x1024, .f32⟩
  | .hbm, ⟨20, _⟩ => ⟨S1x1024, .f32⟩
  | .hbm, ⟨21, _⟩ => ⟨S4096x1024, .f32⟩
  | .hbm, ⟨22, _⟩ => ⟨S4096x1024, .f32⟩
  | .hbm, ⟨23, _⟩ => ⟨S4096x1024, .f32⟩
  | .hbm, ⟨24, _⟩ => ⟨S4096x1024, .f32⟩
  | .hbm, ⟨25, _⟩ => ⟨S_, .f32⟩
  | .hbm, ⟨26, _⟩ => ⟨S4096x1024, .f32⟩
  | .hbm, ⟨27, _⟩ => ⟨S4096x1024, .f32⟩
  | .hbm, ⟨28, _⟩ => ⟨S_, .f32⟩
  | .hbm, ⟨29, _⟩ => ⟨S4096, .f32⟩
  | .hbm, ⟨30, _⟩ => ⟨S_, .f32⟩
  | .hbm, ⟨31, _⟩ => ⟨S4096, .f32⟩
  | .hbm, ⟨32, _⟩ => ⟨S4096, .f32⟩
  | .hbm, ⟨33, _⟩ => ⟨S_, .f32⟩
  | .hbm, ⟨34, _⟩ => ⟨S_, .f32⟩
  | .hbm, ⟨35, _⟩ => ⟨S_, .f32⟩
  | .hbm, ⟨36, _⟩ => ⟨S_, .f32⟩
  | .hbm, ⟨37, _⟩ => ⟨S_, .f32⟩
  | .hbm, ⟨38, _⟩ => ⟨S_, .f32⟩
  | .hbm, ⟨39, _⟩ => ⟨S_, .f32⟩
  | .hbm, ⟨40, _⟩ => ⟨S4096, .f32⟩
  | .hbm, ⟨41, _⟩ => ⟨S_, .f32⟩
  | .hbm, ⟨42, _⟩ => ⟨S4096, .f32⟩
  | .hbm, ⟨43, _⟩ => ⟨S4096, .f32⟩
  | .hbm, ⟨44, _⟩ => ⟨S4096x1024, .f32⟩
  | .hbm, ⟨45, _⟩ => ⟨S4096x1024, .f32⟩
  | .hbm, ⟨46, _⟩ => ⟨S4096x1024, .f32⟩
  | .hbm, ⟨47, _⟩ => ⟨S_, .f32⟩
  | .hbm, ⟨48, _⟩ => ⟨S1024, .f32⟩
  | .hbm, ⟨49, _⟩ => ⟨S1x1024, .f32⟩
  | .hbm, ⟨50, _⟩ => ⟨S4096x1024, .f32⟩
  | .hbm, ⟨51, _⟩ => ⟨S4096x1024, .f32⟩
  | .hbm, ⟨52, _⟩ => ⟨S_, .f32⟩
  | .hbm, ⟨53, _⟩ => ⟨S1024, .f32⟩
  | .hbm, ⟨54, _⟩ => ⟨S4096x1024, .f32⟩
  | .hbm, ⟨55, _⟩ => ⟨S_, .f32⟩
  | .hbm, ⟨56, _⟩ => ⟨S4096, .f32⟩
  | .hbm, ⟨57, _⟩ => ⟨S4096x1, .f32⟩
  | .hbm, ⟨58, _⟩ => ⟨S4096x1024, .f32⟩
  | .hbm, ⟨59, _⟩ => ⟨S4096x1024, .f32⟩
  | .hbm, ⟨60, _⟩ => ⟨S4096x1, .f32⟩
  | .hbm, ⟨61, _⟩ => ⟨S_, .f32⟩
  | .hbm, ⟨62, _⟩ => ⟨S4096x1, .f32⟩
  | .hbm, ⟨63, _⟩ => ⟨S4096x1, .f32⟩
  | .hbm, ⟨64, _⟩ => ⟨S_, .f32⟩
  | .hbm, ⟨65, _⟩ => ⟨S4096, .f32⟩
  | .hbm, ⟨66, _⟩ => ⟨S4096x1024, .f32⟩
  | .hbm, ⟨67, _⟩ => ⟨S4096x1024, .f32⟩
  | .hbm, ⟨68, _⟩ => ⟨S4096x1024, .f32⟩
  | .hbm, ⟨69, _⟩ => ⟨S4096x1024, .f32⟩
  | .hbm, ⟨70, _⟩ => ⟨S4096x1024, .f32⟩
  | .hbm, ⟨71, _⟩ => ⟨S1x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst_2 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_cst_3 : Ref sig .tc := ⟨.hbm, 25, rfl⟩
abbrev main_v18 : Ref sig .tc := ⟨.hbm, 26, rfl⟩
abbrev main_v19 : Ref sig .tc := ⟨.hbm, 27, rfl⟩
abbrev main_cst_4 : Ref sig .tc := ⟨.hbm, 28, rfl⟩
abbrev main_v20 : Ref sig .tc := ⟨.hbm, 29, rfl⟩
abbrev main_cst_5 : Ref sig .tc := ⟨.hbm, 30, rfl⟩
abbrev main_v21 : Ref sig .tc := ⟨.hbm, 31, rfl⟩
abbrev main_v22 : Ref sig .tc := ⟨.hbm, 32, rfl⟩
abbrev main_cst_6 : Ref sig .tc := ⟨.hbm, 33, rfl⟩
abbrev main_v23 : Ref sig .tc := ⟨.hbm, 34, rfl⟩
abbrev main_cst_7 : Ref sig .tc := ⟨.hbm, 35, rfl⟩
abbrev main_v24 : Ref sig .tc := ⟨.hbm, 36, rfl⟩
abbrev main_cst_8 : Ref sig .tc := ⟨.hbm, 37, rfl⟩
abbrev main_cst_9 : Ref sig .tc := ⟨.hbm, 38, rfl⟩
abbrev main_v25 : Ref sig .tc := ⟨.hbm, 39, rfl⟩
abbrev main_v26 : Ref sig .tc := ⟨.hbm, 40, rfl⟩
abbrev main_cst_10 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_cst_11 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_cst_12 : Ref sig .tc := ⟨.hbm, 52, rfl⟩
abbrev main_v36 : Ref sig .tc := ⟨.hbm, 53, rfl⟩
abbrev main_v37 : Ref sig .tc := ⟨.hbm, 54, rfl⟩
abbrev main_cst_13 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_cst_14 : Ref sig .tc := ⟨.hbm, 61, rfl⟩
abbrev main_v43 : Ref sig .tc := ⟨.hbm, 62, rfl⟩
abbrev main_v44 : Ref sig .tc := ⟨.hbm, 63, rfl⟩
abbrev main_cst_15 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩

abbrev nD : Nat := 1
abbrev τ : Topo := Topo.v7x

variable {F : FTy → Type} [FloatOps F]
-- ==== KernelOutProj.lean ====
abbrev S4096x1024 : Shape := ⟨2, ![4096, 1024]⟩
abbrev S1024 : Shape := ⟨1, ![1024]⟩
abbrev S4x4096x1024 : Shape := ⟨3, ![4, 4096, 1024]⟩
abbrev S4096x256 : Shape := ⟨2, ![4096, 256]⟩
abbrev S4096x512 : Shape := ⟨2, ![4096, 512]⟩
abbrev S1024x1024 : Shape := ⟨2, ![1024, 1024]⟩
abbrev S4x256x1024 : Shape := ⟨3, ![4, 256, 1024]⟩
abbrev S_ : Shape := ⟨0, ![]⟩
abbrev S4x704x1024 : Shape := ⟨3, ![4, 704, 1024]⟩
abbrev S1x1024 : Shape := ⟨2, ![1, 1024]⟩
abbrev S512x1024 : Shape := ⟨2, ![512, 1024]⟩
abbrev S4x512x1024 : Shape := ⟨3, ![4, 512, 1024]⟩
abbrev S512x256 : Shape := ⟨2, ![512, 256]⟩
abbrev S512x512 : Shape := ⟨2, ![512, 512]⟩
abbrev S1x512x1024 : Shape := ⟨3, ![1, 512, 1024]⟩
abbrev S512 : Shape := ⟨1, ![512]⟩
abbrev S512x1 : Shape := ⟨2, ![512, 1]⟩

abbrev nBuf : Space → Nat
  | .hbm => 20
  | .vmem => 24
  | .smem => 0
  | _ => 0

abbrev bufTy : (tb : Table) → Fin (tcTables nBuf tb) → BufTy
  | .hbm, ⟨0, _⟩ => ⟨S4096x1024, .f32⟩
  | .hbm, ⟨1, _⟩ => ⟨S1024, .f32⟩
  | .hbm, ⟨2, _⟩ => ⟨S4096x1024, .f32⟩
  | .hbm, ⟨3, _⟩ => ⟨S4x4096x1024, .bf16⟩
  | .hbm, ⟨4, _⟩ => ⟨S4096x256, .f32⟩
  | .hbm, ⟨5, _⟩ => ⟨S4096x256, .f32⟩
  | .hbm, ⟨6, _⟩ => ⟨S4096x512, .f32⟩
  | .hbm, ⟨7, _⟩ => ⟨S1024x1024, .f32⟩
  | .hbm, ⟨8, _⟩ => ⟨S4x256x1024, .f32⟩
  | .hbm, ⟨9, _⟩ => ⟨S_, .i32⟩
  | .hbm, ⟨10, _⟩ => ⟨S_, .f32⟩
  | .hbm, ⟨11, _⟩ => ⟨S4x704x1024, .f32⟩
  | .hbm, ⟨12, _⟩ => ⟨S4x704x1024, .bf16⟩
  | .hbm, ⟨13, _⟩ => ⟨S1x1024, .f32⟩
  | .hbm, ⟨14, _⟩ => ⟨S4096x1024, .f32⟩
  | .hbm, ⟨15, _⟩ => ⟨S1x1024, .f32⟩
  | .hbm, ⟨16, _⟩ => ⟨S4096x256, .f32⟩
  | .hbm, ⟨17, _⟩ => ⟨S4096x256, .f32⟩
  | .hbm, ⟨18, _⟩ => ⟨S4096x512, .f32⟩
  | .hbm, ⟨19, _⟩ => ⟨S1024x1024, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S512x1024, .f32⟩
  | .local _ .vmem, ⟨4, _⟩ => ⟨S512x1024, .f32⟩
  | .local _ .vmem, ⟨5, _⟩ => ⟨S4x512x1024, .bf16⟩
  | .local _ .vmem, ⟨6, _⟩ => ⟨S4x512x1024, .bf16⟩
  | .local _ .vmem, ⟨7, _⟩ => ⟨S512x256, .f32⟩
  | .local _ .vmem, ⟨8, _⟩ => ⟨S512x256, .f32⟩
  | .local _ .vmem, ⟨9, _⟩ => ⟨S512x256, .f32⟩
  | .local _ .vmem, ⟨10, _⟩ => ⟨S512x256, .f32⟩
  | .local _ .vmem, ⟨11, _⟩ => ⟨S512x512, .f32⟩
  | .local _ .vmem, ⟨12, _⟩ => ⟨S512x512, .f32⟩
  | .local _ .vmem, ⟨13, _⟩ => ⟨S4x704x1024, .bf16⟩
  | .local _ .vmem, ⟨14, _⟩ => ⟨S512x1024, .f32⟩
  | .local _ .vmem, ⟨15, _⟩ => ⟨S512x1024, .f32⟩
  | .local _ .vmem, ⟨16, _⟩ => ⟨S1x1024, .f32⟩
  | .local _ .vmem, ⟨17, _⟩ => ⟨S512x256, .f32⟩
  | .local _ .vmem, ⟨18, _⟩ => ⟨S512x256, .f32⟩
  | .local _ .vmem, ⟨19, _⟩ => ⟨S512x256, .f32⟩
  | .local _ .vmem, ⟨20, _⟩ => ⟨S512x256, .f32⟩
  | .local _ .vmem, ⟨21, _⟩ => ⟨S512x512, .f32⟩
  | .local _ .vmem, ⟨22, _⟩ => ⟨S512x512, .f32⟩
  | .local _ .vmem, ⟨23, _⟩ => ⟨S1024x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_c : Ref sig .tc := ⟨.hbm, 9, rfl⟩
abbrev main_call0_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4_0 : Ref sig .tc := ⟨.hbm, 14, rfl⟩
abbrev main_v4_1 : Ref sig .tc := ⟨.hbm, 15, rfl⟩
abbrev main_v4_2 : Ref sig .tc := ⟨.hbm, 16, rfl⟩
abbrev main_v4_3 : Ref sig .tc := ⟨.hbm, 17, rfl⟩
abbrev main_v4_4 : Ref sig .tc := ⟨.hbm, 18, rfl⟩
abbrev main_v4_5 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg10_0 : Ref sig .tc := ⟨.vmem, 17, rfl⟩
abbrev cc0_stg10_1 : Ref sig .tc := ⟨.vmem, 18, rfl⟩
abbrev cc0_stg11_0 : Ref sig .tc := ⟨.vmem, 19, rfl⟩
abbrev cc0_stg11_1 : Ref sig .tc := ⟨.vmem, 20, rfl⟩
abbrev cc0_stg12_0 : Ref sig .tc := ⟨.vmem, 21, rfl⟩
abbrev cc0_stg12_1 : Ref sig .tc := ⟨.vmem, 22, rfl⟩
abbrev cc0_stg13_0 : Ref sig .tc := ⟨.vmem, 23, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem8_0 : DmaSem sig := 14
abbrev cc0_sem8_1 : DmaSem sig := 15
abbrev cc0_sem9_0 : DmaSem sig := 16
abbrev cc0_sem10_0 : DmaSem sig := 17
abbrev cc0_sem10_1 : DmaSem sig := 18
abbrev cc0_sem11_0 : DmaSem sig := 19
abbrev cc0_sem11_1 : DmaSem sig := 20
abbrev cc0_sem12_0 : DmaSem sig := 21
abbrev cc0_sem12_1 : DmaSem sig := 22
abbrev cc0_sem13_0 : DmaSem sig := 23

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S4x512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S4x704x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S512x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S512x256 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S512x256 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S512x512 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 1 → Memref sig .tc .vmem S1024x1024 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]
-- ==== ReferenceOutProjIdeal.lean ====
abbrev S4096x1024 : Shape := ⟨2, ![4096, 1024]⟩
abbrev S1024 : Shape := ⟨1, ![1024]⟩
abbrev S4x4096x1024 : Shape := ⟨3, ![4, 4096, 1024]⟩
abbrev S4096x256 : Shape := ⟨2, ![4096, 256]⟩
abbrev S4096x512 : Shape := ⟨2, ![4096, 512]⟩
abbrev S1024x1024 : Shape := ⟨2, ![1024, 1024]⟩
abbrev S_ : Shape := ⟨0, ![]⟩
abbrev S4096 : Shape := ⟨1, ![4096]⟩
abbrev S4096x1 : Shape := ⟨2, ![4096, 1]⟩
abbrev S1x1024 : Shape := ⟨2, ![1, 1024]⟩

abbrev nBuf : Space → Nat
  | .hbm => 66
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024, .f32⟩
  | .hbm, ⟨2, _⟩ => ⟨S4096x1024, .f32⟩
  | .hbm, ⟨3, _⟩ => ⟨S4x4096x1024, .bf16⟩
  | .hbm, ⟨4, _⟩ => ⟨S4096x256, .f32⟩
  | .hbm, ⟨5, _⟩ => ⟨S4096x256, .f32⟩
  | .hbm, ⟨6, _⟩ => ⟨S4096x512, .f32⟩
  | .hbm, ⟨7, _⟩ => ⟨S1024x1024, .f32⟩
  | .hbm, ⟨8, _⟩ => ⟨S4x4096x1024, .f32⟩
  | .hbm, ⟨9, _⟩ => ⟨S_, .f32⟩
  | .hbm, ⟨10, _⟩ => ⟨S4096x1024, .f32⟩
  | .hbm, ⟨11, _⟩ => ⟨S4096x1024, .f32⟩
  | .hbm, ⟨12, _⟩ => ⟨S_, .f32⟩
  | .hbm, ⟨13, _⟩ => ⟨S4096, .f32⟩
  | .hbm, ⟨14, _⟩ => ⟨S4096x1, .f32⟩
  | .hbm, ⟨15, _⟩ => ⟨S_, .f32⟩
  | .hbm, ⟨16, _⟩ => ⟨S4096x1, .f32⟩
  | .hbm, ⟨17, _⟩ => ⟨S4096x1, .f32⟩
  | .hbm, ⟨18, _⟩ => ⟨S_, .f32⟩
  | .hbm, ⟨19, _⟩ => ⟨S4096x1, .f32⟩
  | .hbm, ⟨20, _⟩ => ⟨S4096x1, .f32⟩
  | .hbm, ⟨21, _⟩ => ⟨S4096x1, .f32⟩
  | .hbm, ⟨22, _⟩ => ⟨S4096x1, .f32⟩
  | .hbm, ⟨23, _⟩ => ⟨S_, .f32⟩
  | .hbm, ⟨24, _⟩ => ⟨S4096x1, .f32⟩
  | .hbm, ⟨25, _⟩ => ⟨S4096x1, .f32⟩
  | .hbm, ⟨26, _⟩ => ⟨S4096x1024, .f32⟩
  | .hbm, ⟨27, _⟩ => ⟨S4096x1024, .f32⟩
  | .hbm, ⟨28, _⟩ => ⟨S1x1024, .f32⟩
  | .hbm, ⟨29, _⟩ => ⟨S4096x1024, .f32⟩
  | .hbm, ⟨30, _⟩ => ⟨S4096x1024, .f32⟩
  | .hbm, ⟨31, _⟩ => ⟨S4096x1024, .f32⟩
  | .hbm, ⟨32, _⟩ => ⟨S_, .f32⟩
  | .hbm, ⟨33, _⟩ => ⟨S1024, .f32⟩
  | .hbm, ⟨34, _⟩ => ⟨S1x1024, .f32⟩
  | .hbm, ⟨35, _⟩ => ⟨S4096x1024, .f32⟩
  | .hbm, ⟨36, _⟩ => ⟨S4096x1024, .f32⟩
  | .hbm, ⟨37, _⟩ => ⟨S_, .f32⟩
  | .hbm, ⟨38, _⟩ => ⟨S1024, .f32⟩
  | .hbm, ⟨39, _⟩ => ⟨S4096x1024, .f32⟩
  | .hbm, ⟨40, _⟩ => ⟨S_, .f32⟩
  | .hbm, ⟨41, _⟩ => ⟨S4096, .f32⟩
  | .hbm, ⟨42, _⟩ => ⟨S4096x1, .f32⟩
  | .hbm, ⟨43, _⟩ => ⟨S4096x1024, .f32⟩
  | .hbm, ⟨44, _⟩ => ⟨S4096x1024, .f32⟩
  | .hbm, ⟨45, _⟩ => ⟨S4096x1, .f32⟩
  | .hbm, ⟨46, _⟩ => ⟨S_, .f32⟩
  | .hbm, ⟨47, _⟩ => ⟨S4096x1, .f32⟩
  | .hbm, ⟨48, _⟩ => ⟨S4096x1, .f32⟩
  | .hbm, ⟨49, _⟩ => ⟨S_, .f32⟩
  | .hbm, ⟨50, _⟩ => ⟨S4096, .f32⟩
  | .hbm, ⟨51, _⟩ => ⟨S4096x1024, .f32⟩
  | .hbm, ⟨52, _⟩ => ⟨S4096x1024, .f32⟩
  | .hbm, ⟨53, _⟩ => ⟨S4096x1024, .f32⟩
  | .hbm, ⟨54, _⟩ => ⟨S4096x1024, .f32⟩
  | .hbm, ⟨55, _⟩ => ⟨S4096x1024, .f32⟩
  | .hbm, ⟨56, _⟩ => ⟨S4096x1024, .f32⟩
  | .hbm, ⟨57, _⟩ => ⟨S4096x1024, .f32⟩
  | .hbm, ⟨58, _⟩ => ⟨S4096x1024, .f32⟩
  | .hbm, ⟨59, _⟩ => ⟨S1024x1024, .f32⟩
  | .hbm, ⟨60, _⟩ => ⟨S1024x1024, .f32⟩
  | .hbm, ⟨61, _⟩ => ⟨S4096x1024, .f32⟩
  | .hbm, ⟨62, _⟩ => ⟨S4096x256, .f32⟩
  | .hbm, ⟨63, _⟩ => ⟨S4096x256, .f32⟩
  | .hbm, ⟨64, _⟩ => ⟨S4096x512, .f32⟩
  | .hbm, ⟨65, _⟩ => ⟨S1x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_cst : Ref sig .tc := ⟨.hbm, 9, rfl⟩
abbrev main_v1 : Ref sig .tc := ⟨.hbm, 10, rfl⟩
abbrev main_v2 : Ref sig .tc := ⟨.hbm, 11, rfl⟩
abbrev main_cst_0 : Ref sig .tc := ⟨.hbm, 12, rfl⟩
abbrev main_v3 : Ref sig .tc := ⟨.hbm, 13, rfl⟩
abbrev main_v4 : Ref sig .tc := ⟨.hbm, 14, rfl⟩
abbrev main_cst_1 : Ref sig .tc := ⟨.hbm, 15, rfl⟩
abbrev main_v5 : Ref sig .tc := ⟨.hbm, 16, rfl⟩
abbrev main_v6 : Ref sig .tc := ⟨.hbm, 17, rfl⟩
abbrev main_cst_2 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_cst_3 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_cst_4 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_cst_5 : Ref sig .tc := ⟨.hbm, 37, rfl⟩
abbrev main_v23 : Ref sig .tc := ⟨.hbm, 38, rfl⟩
abbrev main_v24 : Ref sig .tc := ⟨.hbm, 39, rfl⟩
abbrev main_cst_6 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_cst_7 : Ref sig .tc := ⟨.hbm, 46, rfl⟩
abbrev main_v30 : Ref sig .tc := ⟨.hbm, 47, rfl⟩
abbrev main_v31 : Ref sig .tc := ⟨.hbm, 48, rfl⟩
abbrev main_cst_8 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩

abbrev nD : Nat := 1
abbrev τ : Topo := Topo.v7x

variable {F : FTy → Type} [FloatOps F]
-- ==== KernelAttn.lean ====
abbrev S4096x768 : Shape := ⟨2, ![4096, 768]⟩
abbrev S4096x256 : Shape := ⟨2, ![4096, 256]⟩
abbrev S128x256 : Shape := ⟨2, ![128, 256]⟩
abbrev S256x256 : Shape := ⟨2, ![256, 256]⟩
abbrev S512x256 : Shape := ⟨2, ![512, 256]⟩
abbrev S1x256 : Shape := ⟨2, ![1, 256]⟩
abbrev S512 : Shape := ⟨1, ![512]⟩
abbrev S512x1 : Shape := ⟨2, ![512, 1]⟩
abbrev S128x1 : Shape := ⟨2, ![128, 1]⟩
abbrev S128x768 : Shape := ⟨2, ![128, 768]⟩
abbrev S128 : Shape := ⟨1, ![128]⟩

abbrev nBuf : Space → Nat
  | .hbm => 6
  | .vmem => 36
  | .smem => 0
  | _ => 0

abbrev bufTy : (tb : Table) → Fin (tcTables nBuf tb) → BufTy
  | .hbm, ⟨0, _⟩ => ⟨S4096x768, .f32⟩
  | .hbm, ⟨1, _⟩ => ⟨S4096x256, .f32⟩
  | .hbm, ⟨2, _⟩ => ⟨S4096x256, .f32⟩
  | .hbm, ⟨3, _⟩ => ⟨S4096x256, .f32⟩
  | .hbm, ⟨4, _⟩ => ⟨S4096x256, .f32⟩
  | .hbm, ⟨5, _⟩ => ⟨S4096x768, .f32⟩
  | .local _ .vmem, ⟨0, _⟩ => ⟨S128x256, .f32⟩
  | .local _ .vmem, ⟨1, _⟩ => ⟨S128x256, .f32⟩
  | .local _ .vmem, ⟨2, _⟩ => ⟨S128x256, .f32⟩
  | .local _ .vmem, ⟨3, _⟩ => ⟨S128x256, .f32⟩
  | .local _ .vmem, ⟨4, _⟩ => ⟨S128x256, .f32⟩
  | .local _ .vmem, ⟨5, _⟩ => ⟨S128x256, .f32⟩
  | .local _ .vmem, ⟨6, _⟩ => ⟨S128x256, .f32⟩
  | .local _ .vmem, ⟨7, _⟩ => ⟨S128x256, .f32⟩
  | .local _ .vmem, ⟨8, _⟩ => ⟨S128x256, .f32⟩
  | .local _ .vmem, ⟨9, _⟩ => ⟨S128x256, .f32⟩
  | .local _ .vmem, ⟨10, _⟩ => ⟨S128x256, .f32⟩
  | .local _ .vmem, ⟨11, _⟩ => ⟨S128x256, .f32⟩
  | .local _ .vmem, ⟨12, _⟩ => ⟨S128x256, .f32⟩
  | .local _ .vmem, ⟨13, _⟩ => ⟨S128x256, .f32⟩
  | .local _ .vmem, ⟨14, _⟩ => ⟨S128x256, .f32⟩
  | .local _ .vmem, ⟨15, _⟩ => ⟨S128x256, .f32⟩
  | .local _ .vmem, ⟨16, _⟩ => ⟨S128x256, .f32⟩
  | .local _ .vmem, ⟨17, _⟩ => ⟨S128x256, .f32⟩
  | .local _ .vmem, ⟨18, _⟩ => ⟨S128x256, .f32⟩
  | .local _ .vmem, ⟨19, _⟩ => ⟨S128x256, .f32⟩
  | .local _ .vmem, ⟨20, _⟩ => ⟨S128x256, .f32⟩
  | .local _ .vmem, ⟨21, _⟩ => ⟨S128x256, .f32⟩
  | .local _ .vmem, ⟨22, _⟩ => ⟨S128x256, .f32⟩
  | .local _ .vmem, ⟨23, _⟩ => ⟨S128x256, .f32⟩
  | .local _ .vmem, ⟨24, _⟩ => ⟨S128x256, .f32⟩
  | .local _ .vmem, ⟨25, _⟩ => ⟨S128x256, .f32⟩
  | .local _ .vmem, ⟨26, _⟩ => ⟨S128x256, .f32⟩
  | .local _ .vmem, ⟨27, _⟩ => ⟨S128x256, .f32⟩
  | .local _ .vmem, ⟨28, _⟩ => ⟨S128x256, .f32⟩
  | .local _ .vmem, ⟨29, _⟩ => ⟨S128x256, .f32⟩
  | .local _ .vmem, ⟨30, _⟩ => ⟨S128x256, .f32⟩
  | .local _ .vmem, ⟨31, _⟩ => ⟨S128x256, .f32⟩
  | .local _ .vmem, ⟨32, _⟩ => ⟨S128x768, .f32⟩
  | .local _ .vmem, ⟨33, _⟩ => ⟨S128x768, .f32⟩
  | .local _ .vmem, ⟨34, _⟩ => ⟨S128x256, .f32⟩
  | .local _ .vmem, ⟨35, _⟩ => ⟨S128x256, .f32⟩
  | _, _ => ⟨S4096x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | _, _ => false

abbrev semScoped : Fin 0 → Bool
  | ⟨_, h⟩ => absurd h (Nat.not_lt_zero _)

abbrev dmaSemScoped : Fin 34 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | _ => false

abbrev sig : RefSig :=
  ofTc nBuf bufTy 0 34 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev main_v1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc1_stg0_0 : Ref sig .tc := ⟨.vmem, 14, rfl⟩
abbrev cc1_stg0_1 : Ref sig .tc := ⟨.vmem, 15, rfl⟩
abbrev cc1_stg1_0 : Ref sig .tc := ⟨.vmem, 16, rfl⟩
abbrev cc1_stg1_1 : Ref sig .tc := ⟨.vmem, 17, rfl⟩
abbrev cc1_stg2_0 : Ref sig .tc := ⟨.vmem, 18, rfl⟩
abbrev cc1_stg2_1 : Ref sig .tc := ⟨.vmem, 19, rfl⟩
abbrev cc1_stg3_0 : Ref sig .tc := ⟨.vmem, 20, rfl⟩
abbrev cc1_stg3_1 : Ref sig .tc := ⟨.vmem, 21, rfl⟩
abbrev cc1_stg4_0 : Ref sig .tc := ⟨.vmem, 22, rfl⟩
abbrev cc1_stg4_1 : Ref sig .tc := ⟨.vmem, 23, rfl⟩
abbrev cc1_stg5_0 : Ref sig .tc := ⟨.vmem, 24, rfl⟩
abbrev cc1_stg5_1 : Ref sig .tc := ⟨.vmem, 25, rfl⟩
abbrev cc1_stg6_0 : Ref sig .tc := ⟨.vmem, 26, rfl⟩
abbrev cc1_stg6_1 : Ref sig .tc := ⟨.vmem, 27, rfl⟩
abbrev cc1_stg7_0 : Ref sig .tc := ⟨.vmem, 28, rfl⟩
abbrev cc1_stg7_1 : Ref sig .tc := ⟨.vmem, 29, rfl⟩
abbrev cc1_stg8_0 : Ref sig .tc := ⟨.vmem, 30, rfl⟩
abbrev cc1_stg8_1 : Ref sig .tc := ⟨.vmem, 31, rfl⟩
abbrev cc1_stg9_0 : Ref sig .tc := ⟨.vmem, 32, rfl⟩
abbrev cc1_stg9_1 : Ref sig .tc := ⟨.vmem, 33, rfl⟩
abbrev cc1_scratch0 : Ref sig .tc := ⟨.vmem, 34, rfl⟩
abbrev cc1_scratch1 : Ref sig .tc := ⟨.vmem, 35, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc1_sem0_0 : DmaSem sig := 14
abbrev cc1_sem0_1 : DmaSem sig := 15
abbrev cc1_sem1_0 : DmaSem sig := 16
abbrev cc1_sem1_1 : DmaSem sig := 17
abbrev cc1_sem2_0 : DmaSem sig := 18
abbrev cc1_sem2_1 : DmaSem sig := 19
abbrev cc1_sem3_0 : DmaSem sig := 20
abbrev cc1_sem3_1 : DmaSem sig := 21
abbrev cc1_sem4_0 : DmaSem sig := 22
abbrev cc1_sem4_1 : DmaSem sig := 23
abbrev cc1_sem5_0 : DmaSem sig := 24
abbrev cc1_sem5_1 : DmaSem sig := 25
abbrev cc1_sem6_0 : DmaSem sig := 26
abbrev cc1_sem6_1 : DmaSem sig := 27
abbrev cc1_sem7_0 : DmaSem sig := 28
abbrev cc1_sem7_1 : DmaSem sig := 29
abbrev cc1_sem8_0 : DmaSem sig := 30
abbrev cc1_sem8_1 : DmaSem sig := 31
abbrev cc1_sem9_0 : DmaSem sig := 32
abbrev cc1_sem9_1 : DmaSem sig := 33

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c1_i32 : BitVec 32 := 1#32
  let v0 : BitVec 32 := Scalar.muli c1_i32 arg0
  let c1_i32_0 : BitVec 32 := 1#32
  let v1 : BitVec 32 := Scalar.subi v0 c1_i32_0
  let c0_i32 : BitVec 32 := 0#32
  let v2 : BitVec 32 := Scalar.maxsi v1 c0_i32
  let c1_i32_1 : BitVec 32 := 1#32
  let c0_i32_2 : BitVec 32 := 0#32
  ![v2.toNat, c1_i32_1.toNat]

def cc0_transform_2 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_3 (i : grid0.Coords) : Fin 2 → Nat :=
  let arg0 : BitVec 32 := BitVec.ofNat 32 (i 0).val
  let c1_i32 : BitVec 32 := 1#32
  let v0 : BitVec 32 := Scalar.muli c1_i32 arg0
  let c1_i32_0 : BitVec 32 := 1#32
  let v1 : BitVec 32 := Scalar.subi v0 c1_i32_0
  let c0_i32 : BitVec 32 := 0#32
  let v2 : BitVec 32 := Scalar.maxsi v1 c0_i32
  let c2_i32 : BitVec 32 := 2#32
  let c0_i32_1 : BitVec 32 := 0#32
  ![v2.toNat, c2_i32.toNat]

def cc0_transform_4 (i : grid0.Coords) : Fin 2 → Nat :=
  let arg0 : BitVec 32 := BitVec.ofNat 32 (i 0).val
  let c2_i32 : BitVec 32 := 2#32
  let c0_i32 : BitVec 32 := 0#32
  ![arg0.toNat, c2_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S128x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S128x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev grid1 : Pipeline.Grid := ⟨1, ![32], ![false]⟩

def cc1_transform_0 (i : grid1.Coords) : Fin 2 → Nat :=
  let arg0 : BitVec 32 := BitVec.ofNat 32 (i 0).val
  let c31_i32 : BitVec 32 := 31#32
  let v0 : BitVec 32 := Scalar.subi c31_i32 arg0
  let c0_i32 : BitVec 32 := 0#32
  let c0_i32_0 : BitVec 32 := 0#32
  ![v0.toNat, c0_i32.toNat]

def cc1_transform_1 (i : grid1.Coords) : Fin 2 → Nat :=
  let arg0 : BitVec 32 := BitVec.ofNat 32 (i 0).val
  let c31_i32 : BitVec 32 := 31#32
  let v0 : BitVec 32 := Scalar.subi c31_i32 arg0
  let c1_i32 : BitVec 32 := 1#32
  let v1 : BitVec 32 := Scalar.muli c1_i32 v0
  let c1_i32_0 : BitVec 32 := 1#32
  let v2 : BitVec 32 := Scalar.subi v1 c1_i32_0
  let c0_i32 : BitVec 32 := 0#32
  let v3 : BitVec 32 := Scalar.maxsi v2 c0_i32
  let c1_i32_1 : BitVec 32 := 1#32
  let c0_i32_2 : BitVec 32 := 0#32
  ![v3.toNat, c1_i32_1.toNat]

def cc1_transform_2 (i : grid1.Coords) : Fin 2 → Nat :=
  let arg0 : BitVec 32 := BitVec.ofNat 32 (i 0).val
  let c31_i32 : BitVec 32 := 31#32
  let v0 : BitVec 32 := Scalar.subi c31_i32 arg0
  let c1_i32 : BitVec 32 := 1#32
  let c0_i32 : BitVec 32 := 0#32
  ![v0.toNat, c1_i32.toNat]

def cc1_transform_3 (i : grid1.Coords) : Fin 2 → Nat :=
  let arg0 : BitVec 32 := BitVec.ofNat 32 (i 0).val
  let c31_i32 : BitVec 32 := 31#32
  let v0 : BitVec 32 := Scalar.subi c31_i32 arg0
  let c1_i32 : BitVec 32 := 1#32
  let v1 : BitVec 32 := Scalar.muli c1_i32 v0
  let c1_i32_0 : BitVec 32 := 1#32
  let v2 : BitVec 32 := Scalar.subi v1 c1_i32_0
  let c0_i32 : BitVec 32 := 0#32
  let v3 : BitVec 32 := Scalar.maxsi v2 c0_i32
  let c2_i32 : BitVec 32 := 2#32
  let c0_i32_1 : BitVec 32 := 0#32
  ![v3.toNat, c2_i32.toNat]

def cc1_transform_4 (i : grid1.Coords) : Fin 2 → Nat :=
  let arg0 : BitVec 32 := BitVec.ofNat 32 (i 0).val
  let c31_i32 : BitVec 32 := 31#32
  let v0 : BitVec 32 := Scalar.subi c31_i32 arg0
  let c2_i32 : BitVec 32 := 2#32
  let c0_i32 : BitVec 32 := 0#32
  ![v0.toNat, c2_i32.toNat]

def cc1_transform_5 (i : grid1.Coords) : Fin 2 → Nat :=
  let arg0 : BitVec 32 := BitVec.ofNat 32 (i 0).val
  let c31_i32 : BitVec 32 := 31#32
  let v0 : BitVec 32 := Scalar.subi c31_i32 arg0
  let c0_i32 : BitVec 32 := 0#32
  let c0_i32_0 : BitVec 32 := 0#32
  ![v0.toNat, c0_i32.toNat]

def cc1_transform_6 (i : grid1.Coords) : Fin 2 → Nat :=
  let arg0 : BitVec 32 := BitVec.ofNat 32 (i 0).val
  let c31_i32 : BitVec 32 := 31#32
  let v0 : BitVec 32 := Scalar.subi c31_i32 arg0
  let c0_i32 : BitVec 32 := 0#32
  let c0_i32_0 : BitVec 32 := 0#32
  ![v0.toNat, c0_i32.toNat]

def cc1_transform_7 (i : grid1.Coords) : Fin 2 → Nat :=
  let arg0 : BitVec 32 := BitVec.ofNat 32 (i 0).val
  let c31_i32 : BitVec 32 := 31#32
  let v0 : BitVec 32 := Scalar.subi c31_i32 arg0
  let c0_i32 : BitVec 32 := 0#32
  let c0_i32_0 : BitVec 32 := 0#32
  ![v0.toNat, c0_i32.toNat]

def cc1_transform_8 (i : grid1.Coords) : Fin 2 → Nat :=
  let arg0 : BitVec 32 := BitVec.ofNat 32 (i 0).val
  let c31_i32 : BitVec 32 := 31#32
  let v0 : BitVec 32 := Scalar.subi c31_i32 arg0
  let c0_i32 : BitVec 32 := 0#32
  let c0_i32_0 : BitVec 32 := 0#32
  ![v0.toNat, c0_i32.toNat]

def cc1_transform_9 (i : grid1.Coords) : Fin 2 → Nat :=
  let arg0 : BitVec 32 := BitVec.ofNat 32 (i 0).val
  let c31_i32 : BitVec 32 := 31#32
  let v0 : BitVec 32 := Scalar.subi c31_i32 arg0
  let c0_i32 : BitVec 32 := 0#32
  let c0_i32_0 : BitVec 32 := 0#32
  ![v0.toNat, c0_i32.toNat]

abbrev stage1_0 : Fin 2 → Memref sig .tc .vmem S128x256 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S128x256 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S128x256 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S128x256 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 2 → Memref sig .tc .vmem S128x256 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev stage1_5 : Fin 2 → Memref sig .tc .vmem S128x256 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev stage1_6 : Fin 2 → Memref sig .tc .vmem S128x256 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev stage1_7 : Fin 2 → Memref sig .tc .vmem S128x256 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]

abbrev stage1_8 : Fin 2 → Memref sig .tc .vmem S128x256 .f32 := fun | 0 => Memref.whole cc1_stg8_0 | 1 => Memref.whole cc1_stg8_1 | ⟨_ + 2, h⟩ => absurd h (Nat.not_lt.2 (Nat.le_add_left _ _))
abbrev sem1_8 : Fin 2 → DmaSem sig := fun | 0 => cc1_sem8_0 | 1 => cc1_sem8_1 | ⟨_ + 2, h⟩ => absurd h (Nat.not_lt.2 (Nat.le_add_left _ _))
abbrev reads1_8 : Fin grid1.rank → Bool := ![true]

abbrev stage1_9 : Fin 2 → Memref sig .tc .vmem S128x768 .f32 := fun | 0 => Memref.whole cc1_stg9_0 | 1 => Memref.whole cc1_stg9_1 | ⟨_ + 2, h⟩ => absurd h (Nat.not_lt.2 (Nat.le_add_left _ _))
abbrev sem1_9 : Fin 2 → DmaSem sig := fun | 0 => cc1_sem9_0 | 1 => cc1_sem9_1 | ⟨_ + 2, h⟩ => absurd h (Nat.not_lt.2 (Nat.le_add_left _ _))
abbrev reads1_9 : Fin grid1.rank → Bool := ![true]
-- ==== KernelAttnIdeal.lean ====
variable {F : FTy → Type} [FloatOps F] [Named F]
def κ : String → Option EReal := fun
  | "mask" => some ⊥
  | _ => none
-- ==== ReferenceAttnIdeal.lean ====
abbrev S4096x768 : Shape := ⟨2, ![4096, 768]⟩
abbrev S4096x256 : Shape := ⟨2, ![4096, 256]⟩
abbrev S32x128x4x64 : Shape := ⟨4, ![32, 128, 4, 64]⟩
abbrev S_ : Shape := ⟨0, ![]⟩
abbrev S1x128x4x64 : Shape := ⟨4, ![1, 128, 4, 64]⟩
abbrev S31x128x4x64 : Shape := ⟨4, ![31, 128, 4, 64]⟩
abbrev S32x256x4x64 : Shape := ⟨4, ![32, 256, 4, 64]⟩
abbrev S32x4x128x256 : Shape := ⟨4, ![32, 4, 128, 256]⟩
abbrev S128 : Shape := ⟨1, ![128]⟩
abbrev S128x1 : Shape := ⟨2, ![128, 1]⟩
abbrev S256 : Shape := ⟨1, ![256]⟩
abbrev S1x256 : Shape := ⟨2, ![1, 256]⟩
abbrev S128x256 : Shape := ⟨2, ![128, 256]⟩
abbrev S32 : Shape := ⟨1, ![32]⟩
abbrev S32x1x1 : Shape := ⟨3, ![32, 1, 1]⟩
abbrev S1x1x256 : Shape := ⟨3, ![1, 1, 256]⟩
abbrev S32x1x256 : Shape := ⟨3, ![32, 1, 256]⟩
abbrev S1x128x256 : Shape := ⟨3, ![1, 128, 256]⟩
abbrev S32x128x256 : Shape := ⟨3, ![32, 128, 256]⟩
abbrev S32x1x128x256 : Shape := ⟨4, ![32, 1, 128, 256]⟩
abbrev S32x4x128 : Shape := ⟨3, ![32, 4, 128]⟩
abbrev S32x4x128x1 : Shape := ⟨4, ![32, 4, 128, 1]⟩
abbrev S32x4x64x128 : Shape := ⟨4, ![32, 4, 64, 128]⟩
abbrev S32x128x4 : Shape := ⟨3, ![32, 128, 4]⟩
abbrev S4096x4 : Shape := ⟨2, ![4096, 4]⟩
abbrev S4096x4x64 : Shape := ⟨3, ![4096, 4, 64]⟩
abbrev S32x4x64x256 : Shape := ⟨4, ![32, 4, 64, 256]⟩
abbrev S32x4x256x64 : Shape := ⟨4, ![32, 4, 256, 64]⟩
abbrev S32x4x128x64 : Shape := ⟨4, ![32, 4, 128, 64]⟩

abbrev nBuf : Space → Nat
  | .hbm => 175
  | .vmem => 0
  | .smem => 0
  | _ => 0

abbrev hbmTy0_0 (i : Nat) : BufTy := match i % 128 with
  | 0 => ⟨S4096x768, .f32⟩
  | 1 => ⟨S4096x256, .f32⟩
  | 2 => ⟨S4096x256, .f32⟩
  | 3 => ⟨S4096x256, .f32⟩
  | 4 => ⟨S4096x256, .f32⟩
  | 5 => ⟨S4096x256, .f32⟩
  | 6 => ⟨S32x128x4x64, .f32⟩
  | 7 => ⟨S32x128x4x64, .f32⟩
  | 8 => ⟨S_, .f32⟩
  | 9 => ⟨S1x128x4x64, .f32⟩
  | 10 => ⟨S31x128x4x64, .f32⟩
  | 11 => ⟨S32x128x4x64, .f32⟩
  | 12 => ⟨S_, .f32⟩
  | 13 => ⟨S1x128x4x64, .f32⟩
  | 14 => ⟨S32x256x4x64, .f32⟩
  | 15 => ⟨S32x128x4x64, .f32⟩
  | 16 => ⟨S_, .f32⟩
  | 17 => ⟨S1x128x4x64, .f32⟩
  | 18 => ⟨S31x128x4x64, .f32⟩
  | 19 => ⟨S32x128x4x64, .f32⟩
  | 20 => ⟨S_, .f32⟩
  | 21 => ⟨S1x128x4x64, .f32⟩
  | 22 => ⟨S32x256x4x64, .f32⟩
  | 23 => ⟨S32x4x128x256, .f32⟩
  | 24 => ⟨S_, .f32⟩
  | 25 => ⟨S32x4x128x256, .f32⟩
  | 26 => ⟨S32x4x128x256, .f32⟩
  | 27 => ⟨S128, .i32⟩
  | 28 => ⟨S128x1, .i32⟩
  | 29 => ⟨S256, .i32⟩
  | 30 => ⟨S1x256, .i32⟩
  | 31 => ⟨S_, .i32⟩
  | 32 => ⟨S128x1, .i32⟩
  | 33 => ⟨S128x1, .i32⟩
  | 34 => ⟨S128x256, .i32⟩
  | 35 => ⟨S128x256, .i32⟩
  | 36 => ⟨S128x256, .i32⟩
  | 37 => ⟨S32, .i32⟩
  | 38 => ⟨S32x1x1, .i32⟩
  | 39 => ⟨S_, .i32⟩
  | 40 => ⟨S128x256, .i32⟩
  | 41 => ⟨S128x256, .i1⟩
  | 42 => ⟨S_, .i32⟩
  | 43 => ⟨S128x256, .i32⟩
  | 44 => ⟨S128x256, .i1⟩
  | 45 => ⟨S128x256, .i1⟩
  | 46 => ⟨S_, .i32⟩
  | 47 => ⟨S32x1x1, .i32⟩
  | 48 => ⟨S32x1x1, .i32⟩
  | 49 => ⟨S_, .i32⟩
  | 50 => ⟨S32x1x1, .i32⟩
  | 51 => ⟨S32x1x1, .i32⟩
  | 52 => ⟨S1x1x256, .i32⟩
  | 53 => ⟨S32x1x256, .i32⟩
  | 54 => ⟨S32x1x256, .i32⟩
  | 55 => ⟨S32x1x256, .i32⟩
  | 56 => ⟨S_, .i32⟩
  | 57 => ⟨S32x1x256, .i32⟩
  | 58 => ⟨S32x1x256, .i1⟩
  | 59 => ⟨S1x128x256, .i1⟩
  | 60 => ⟨S32x128x256, .i1⟩
  | 61 => ⟨S32x128x256, .i1⟩
  | 62 => ⟨S32x128x256, .i1⟩
  | 63 => ⟨S32x1x128x256, .i1⟩
  | 64 => ⟨S_, .f32⟩
  | 65 => ⟨S_, .f32⟩
  | 66 => ⟨S32x4x128x256, .i1⟩
  | 67 => ⟨S32x4x128x256, .f32⟩
  | 68 => ⟨S32x4x128x256, .f32⟩
  | 69 => ⟨S_, .f32⟩
  | 70 => ⟨S32x4x128x256, .f32⟩
  | 71 => ⟨S_, .f32⟩
  | 72 => ⟨S32x4x128, .f32⟩
  | 73 => ⟨S32x4x128x1, .f32⟩
  | 74 => ⟨S32x4x128x256, .f32⟩
  | 75 => ⟨S32x4x128x256, .i1⟩
  | 76 => ⟨S32x4x128x256, .f32⟩
  | 77 => ⟨S_, .f32⟩
  | 78 => ⟨S32x4x128, .f32⟩
  | 79 => ⟨S32x4x128x1, .f32⟩
  | 80 => ⟨S32x4x128x256, .f32⟩
  | 81 => ⟨S32x4x128x256, .f32⟩
  | 82 => ⟨S32x4x128x256, .f32⟩
  | 83 => ⟨S_, .f32⟩
  | 84 => ⟨S32x4x128, .f32⟩
  | 85 => ⟨S32x4x128x1, .f32⟩
  | 86 => ⟨S32x4x128x256, .f32⟩
  | 87 => ⟨S32x4x128x256, .f32⟩
  | 88 => ⟨S32x4x128x1, .f32⟩
  | 89 => ⟨S_, .f32⟩
  | 90 => ⟨S32x4x128x1, .f32⟩
  | 91 => ⟨S32x4x128x1, .f32⟩
  | 92 => ⟨S32x4x64x128, .f32⟩
  | 93 => ⟨S32x128x4x64, .f32⟩
  | 94 => ⟨S32x4x128x1, .f32⟩
  | 95 => ⟨S32x4x128x1, .f32⟩
  | 96 => ⟨S32x4x128, .f32⟩
  | 97 => ⟨S4096x256, .f32⟩
  | 98 => ⟨S32x128x4, .f32⟩
  | 99 => ⟨S4096x4, .f32⟩
  | 100 => ⟨S4096x4x64, .f32⟩
  | 101 => ⟨S_, .f32⟩
  | 102 => ⟨S4096x4, .f32⟩
  | 103 => ⟨S32x128x4, .f32⟩
  | 104 => ⟨S32x4x128, .f32⟩
  | 105 => ⟨S32x128x4x64, .f32⟩
  | 106 => ⟨S32x4x128x1, .f32⟩
  | 107 => ⟨S32x4x128x1, .f32⟩
  | 108 => ⟨S32x4x64x128, .f32⟩
  | 109 => ⟨S32x4x128x256, .f32⟩
  | 110 => ⟨S32x4x64x256, .f32⟩
  | 111 => ⟨S32x256x4x64, .f32⟩
  | 112 => ⟨S32x4x128x256, .f32⟩
  | 113 => ⟨S32x4x128x256, .f32⟩
  | 114 => ⟨S32x4x128x256, .f32⟩
  | 115 => ⟨S_, .f32⟩
  | 116 => ⟨S32x4x128, .f32⟩
  | 117 => ⟨S32x4x128x1, .f32⟩
  | 118 => ⟨S32x4x128x1, .f32⟩
  | 119 => ⟨S32x4x128x1, .f32⟩
  | 120 => ⟨S32x4x128x256, .f32⟩
  | 121 => ⟨S32x4x128x256, .f32⟩
  | 122 => ⟨S_, .f32⟩
  | 123 => ⟨S32x4x128, .f32⟩
  | 124 => ⟨S32x4x128x256, .f32⟩
  | 125 => ⟨S32x4x128x256, .f32⟩
  | 126 => ⟨S32x4x128x256, .f32⟩
  | 127 => ⟨S32x4x128x256, .f32⟩
  | _ => ⟨S4096x768, .f32⟩

abbrev hbmTy0_1 (i : Nat) : BufTy := match i % 128 with
  | 0 => ⟨S_, .f32⟩
  | 1 => ⟨S32x4x128, .f32⟩
  | 2 => ⟨S32x4x128x1, .f32⟩
  | 3 => ⟨S32x4x128x1, .f32⟩
  | 4 => ⟨S_, .f32⟩
  | 5 => ⟨S32x4x128, .f32⟩
  | 6 => ⟨S32x4x128, .f32⟩
  | 7 => ⟨S32x4x128x256, .f32⟩
  | 8 => ⟨S32x4x128x256, .f32⟩
  | 9 => ⟨S32x4x128x256, .f32⟩
  | 10 => ⟨S_, .f32⟩
  | 11 => ⟨S32x4x128x256, .f32⟩
  | 12 => ⟨S32x4x128x256, .f32⟩
  | 13 => ⟨S_, .f32⟩
  | 14 => ⟨S32x4x128x256, .f32⟩
  | 15 => ⟨S32x4x128x256, .f32⟩
  | 16 => ⟨S32x4x256x64, .f32⟩
  | 17 => ⟨S32x256x4x64, .f32⟩
  | 18 => ⟨S32x4x128x64, .f32⟩
  | 19 => ⟨S32x128x4x64, .f32⟩
  | 20 => ⟨S32x128x4x64, .f32⟩
  | 21 => ⟨S32x128x4x64, .f32⟩
  | 22 => ⟨S1x128x4x64, .f32⟩
  | 23 => ⟨S31x128x4x64, .f32⟩
  | 24 => ⟨S_, .f32⟩
  | 25 => ⟨S32x128x4x64, .f32⟩
  | 26 => ⟨S32x128x4x64, .f32⟩
  | 27 => ⟨S4096x256, .f32⟩
  | 28 => ⟨S32x128x4x64, .f32⟩
  | 29 => ⟨S32x128x4x64, .f32⟩
  | 30 => ⟨S1x128x4x64, .f32⟩
  | 31 => ⟨S31x128x4x64, .f32⟩
  | 32 => ⟨S_, .f32⟩
  | 33 => ⟨S32x128x4x64, .f32⟩
  | 34 => ⟨S32x128x4x64, .f32⟩
  | 35 => ⟨S4096x256, .f32⟩
  | 36 => ⟨S4096x256, .f32⟩
  | 37 => ⟨S_, .f32⟩
  | 38 => ⟨S4096x768, .f32⟩
  | 39 => ⟨S_, .f32⟩
  | 40 => ⟨S4096x768, .f32⟩
  | 41 => ⟨S4096x768, .f32⟩
  | 42 => ⟨S_, .f32⟩
  | 43 => ⟨S4096x768, .f32⟩
  | 44 => ⟨S4096x768, .f32⟩
  | 45 => ⟨S4096x4x64, .f32⟩
  | 46 => ⟨S4096x256, .f32⟩
  | _ => ⟨S4096x768, .f32⟩

abbrev hbmTy (i : Nat) : BufTy := match i / 128 with
  | 0 => hbmTy0_0 i
  | 1 => hbmTy0_1 i
  | _ => ⟨S4096x768, .f32⟩

abbrev bufTy : (tb : Table) → Fin (tcTables nBuf tb) → BufTy
  | .hbm, ⟨i, _⟩ => hbmTy i
  | _, _ => ⟨S4096x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_cst : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_cst_0 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_cst_1 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_cst_2 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_cst_3 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_c : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_c_4 : Ref sig .tc := ⟨.hbm, 39, rfl⟩
abbrev main_v30 : Ref sig .tc := ⟨.hbm, 40, rfl⟩
abbrev main_v31 : Ref sig .tc := ⟨.hbm, 41, rfl⟩
abbrev main_c_5 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_c_6 : Ref sig .tc := ⟨.hbm, 46, rfl⟩
abbrev main_v35 : Ref sig .tc := ⟨.hbm, 47, rfl⟩
abbrev main_v36 : Ref sig .tc := ⟨.hbm, 48, rfl⟩
abbrev main_c_7 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_c_8 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩
abbrev main_cst_9 : Ref sig .tc := ⟨.hbm, 64, rfl⟩
abbrev main_call0_v0 : Ref sig .tc := ⟨.hbm, 65, rfl⟩
abbrev main_v50_1 : Ref sig .tc := ⟨.hbm, 66, rfl⟩
abbrev main_call0_v2 : Ref sig .tc := ⟨.hbm, 67, rfl⟩
abbrev main_v50_0 : Ref sig .tc := ⟨.hbm, 68, rfl⟩
abbrev main_call0_cst : Ref sig .tc := ⟨.hbm, 69, rfl⟩
abbrev main_v50_2 : Ref sig .tc := ⟨.hbm, 70, rfl⟩
abbrev main_cst_10 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_cst_11 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_v60 : Ref sig .tc := ⟨.hbm, 82, rfl⟩
abbrev main_cst_12 : Ref sig .tc := ⟨.hbm, 83, rfl⟩
abbrev main_v61 : Ref sig .tc := ⟨.hbm, 84, rfl⟩
abbrev main_v62 : Ref sig .tc := ⟨.hbm, 85, rfl⟩
abbrev main_v63 : Ref sig .tc := ⟨.hbm, 86, rfl⟩
abbrev main_v64 : Ref sig .tc := ⟨.hbm, 87, rfl⟩
abbrev main_v65 : Ref sig .tc := ⟨.hbm, 88, rfl⟩
abbrev main_cst_13 : Ref sig .tc := ⟨.hbm, 89, rfl⟩
abbrev main_v66 : Ref sig .tc := ⟨.hbm, 90, rfl⟩
abbrev main_v67 : Ref sig .tc := ⟨.hbm, 91, rfl⟩
abbrev main_v68 : Ref sig .tc := ⟨.hbm, 92, rfl⟩
abbrev main_v69 : Ref sig .tc := ⟨.hbm, 93, rfl⟩
abbrev main_v70 : Ref sig .tc := ⟨.hbm, 94, rfl⟩
abbrev main_v71 : Ref sig .tc := ⟨.hbm, 95, rfl⟩
abbrev main_v72 : Ref sig .tc := ⟨.hbm, 96, rfl⟩
abbrev main_v73 : Ref sig .tc := ⟨.hbm, 97, rfl⟩
abbrev main_v74 : Ref sig .tc := ⟨.hbm, 98, rfl⟩
abbrev main_v75 : Ref sig .tc := ⟨.hbm, 99, rfl⟩
abbrev main_v76 : Ref sig .tc := ⟨.hbm, 100, rfl⟩
abbrev main_cst_14 : Ref sig .tc := ⟨.hbm, 101, rfl⟩
abbrev main_v77 : Ref sig .tc := ⟨.hbm, 102, rfl⟩
abbrev main_v78 : Ref sig .tc := ⟨.hbm, 103, rfl⟩
abbrev main_v79 : Ref sig .tc := ⟨.hbm, 104, rfl⟩
abbrev main_v80 : Ref sig .tc := ⟨.hbm, 105, rfl⟩
abbrev main_v81 : Ref sig .tc := ⟨.hbm, 106, rfl⟩
abbrev main_v82 : Ref sig .tc := ⟨.hbm, 107, rfl⟩
abbrev main_v83 : Ref sig .tc := ⟨.hbm, 108, rfl⟩
abbrev main_v84 : Ref sig .tc := ⟨.hbm, 109, rfl⟩
abbrev main_v85 : Ref sig .tc := ⟨.hbm, 110, rfl⟩
abbrev main_v86 : Ref sig .tc := ⟨.hbm, 111, rfl⟩
abbrev main_v87 : Ref sig .tc := ⟨.hbm, 112, rfl⟩
abbrev main_v88 : Ref sig .tc := ⟨.hbm, 113, rfl⟩
abbrev main_v89 : Ref sig .tc := ⟨.hbm, 114, rfl⟩
abbrev main_cst_15 : Ref sig .tc := ⟨.hbm, 115, rfl⟩
abbrev main_v90 : Ref sig .tc := ⟨.hbm, 116, rfl⟩
abbrev main_v91 : Ref sig .tc := ⟨.hbm, 117, rfl⟩
abbrev main_v92 : Ref sig .tc := ⟨.hbm, 118, rfl⟩
abbrev main_v93 : Ref sig .tc := ⟨.hbm, 119, rfl⟩
abbrev main_v94 : Ref sig .tc := ⟨.hbm, 120, rfl⟩
abbrev main_v95 : Ref sig .tc := ⟨.hbm, 121, rfl⟩
abbrev main_cst_16 : Ref sig .tc := ⟨.hbm, 122, rfl⟩
abbrev main_v96 : Ref sig .tc := ⟨.hbm, 123, rfl⟩
abbrev main_v97 : Ref sig .tc := ⟨.hbm, 124, rfl⟩
abbrev main_v98 : Ref sig .tc := ⟨.hbm, 125, rfl⟩
abbrev main_v99 : Ref sig .tc := ⟨.hbm, 126, rfl⟩
abbrev main_v100 : Ref sig .tc := ⟨.hbm, 127, rfl⟩
abbrev main_cst_17 : Ref sig .tc := ⟨.hbm, 128, rfl⟩
abbrev main_v101 : Ref sig .tc := ⟨.hbm, 129, rfl⟩
abbrev main_v102 : Ref sig .tc := ⟨.hbm, 130, rfl⟩
abbrev main_v103 : Ref sig .tc := ⟨.hbm, 131, rfl⟩
abbrev main_cst_18 : Ref sig .tc := ⟨.hbm, 132, rfl⟩
abbrev main_v104 : Ref sig .tc := ⟨.hbm, 133, rfl⟩
abbrev main_v105 : Ref sig .tc := ⟨.hbm, 134, rfl⟩
abbrev main_v106 : Ref sig .tc := ⟨.hbm, 135, rfl⟩
abbrev main_v107 : Ref sig .tc := ⟨.hbm, 136, rfl⟩
abbrev main_v108 : Ref sig .tc := ⟨.hbm, 137, rfl⟩
abbrev main_call1_cst : Ref sig .tc := ⟨.hbm, 138, rfl⟩
abbrev main_call1_v0 : Ref sig .tc := ⟨.hbm, 139, rfl⟩
abbrev main_v109 : Ref sig .tc := ⟨.hbm, 140, rfl⟩
abbrev main_cst_19 : Ref sig .tc := ⟨.hbm, 141, rfl⟩
abbrev main_v110 : Ref sig .tc := ⟨.hbm, 142, rfl⟩
abbrev main_v111 : Ref sig .tc := ⟨.hbm, 143, rfl⟩
abbrev main_v112 : Ref sig .tc := ⟨.hbm, 144, rfl⟩
abbrev main_v113 : Ref sig .tc := ⟨.hbm, 145, rfl⟩
abbrev main_v114 : Ref sig .tc := ⟨.hbm, 146, rfl⟩
abbrev main_v115 : Ref sig .tc := ⟨.hbm, 147, rfl⟩
abbrev main_v116 : Ref sig .tc := ⟨.hbm, 148, rfl⟩
abbrev main_v117 : Ref sig .tc := ⟨.hbm, 149, rfl⟩
abbrev main_v118 : Ref sig .tc := ⟨.hbm, 150, rfl⟩
abbrev main_v119 : Ref sig .tc := ⟨.hbm, 151, rfl⟩
abbrev main_cst_20 : Ref sig .tc := ⟨.hbm, 152, rfl⟩
abbrev main_v120 : Ref sig .tc := ⟨.hbm, 153, rfl⟩
abbrev main_v121 : Ref sig .tc := ⟨.hbm, 154, rfl⟩
abbrev main_v122 : Ref sig .tc := ⟨.hbm, 155, rfl⟩
abbrev main_v123 : Ref sig .tc := ⟨.hbm, 156, rfl⟩
abbrev main_v124 : Ref sig .tc := ⟨.hbm, 157, rfl⟩
abbrev main_v125 : Ref sig .tc := ⟨.hbm, 158, rfl⟩
abbrev main_v126 : Ref sig .tc := ⟨.hbm, 159, rfl⟩
abbrev main_cst_21 : Ref sig .tc := ⟨.hbm, 160, rfl⟩
abbrev main_v127 : Ref sig .tc := ⟨.hbm, 161, rfl⟩
abbrev main_v128 : Ref sig .tc := ⟨.hbm, 162, rfl⟩
abbrev main_v129 : Ref sig .tc := ⟨.hbm, 163, rfl⟩
abbrev main_v130 : Ref sig .tc := ⟨.hbm, 164, rfl⟩
abbrev main_cst_22 : Ref sig .tc := ⟨.hbm, 165, rfl⟩
abbrev main_v131 : Ref sig .tc := ⟨.hbm, 166, rfl⟩
abbrev main_cst_23 : Ref sig .tc := ⟨.hbm, 167, rfl⟩
abbrev main_v132 : Ref sig .tc := ⟨.hbm, 168, rfl⟩
abbrev main_v133 : Ref sig .tc := ⟨.hbm, 169, rfl⟩
abbrev main_cst_24 : Ref sig .tc := ⟨.hbm, 170, rfl⟩
abbrev main_v134 : Ref sig .tc := ⟨.hbm, 171, rfl⟩
abbrev main_v135 : Ref sig .tc := ⟨.hbm, 172, rfl⟩
abbrev main_v136 : Ref sig .tc := ⟨.hbm, 173, rfl⟩
abbrev main_v137 : Ref sig .tc := ⟨.hbm, 174, rfl⟩

abbrev nD : Nat := 1
abbrev τ : Topo := Topo.v7x

variable {F : FTy → Type} [FloatOps F]
-- ==== KernelPool.lean ====
abbrev S4096x256 : Shape := ⟨2, ![4096, 256]⟩
abbrev S4x64x64 : Shape := ⟨3, ![4, 64, 64]⟩
abbrev S256 : Shape := ⟨1, ![256]⟩
abbrev S1x64x64 : Shape := ⟨3, ![1, 64, 64]⟩
abbrev S64x64 : Shape := ⟨2, ![64, 64]⟩
abbrev S_ : Shape := ⟨0, ![]⟩
abbrev S64x256 : Shape := ⟨2, ![64, 256]⟩
abbrev S256x256 : Shape := ⟨2, ![256, 256]⟩
abbrev S1x256 : Shape := ⟨2, ![1, 256]⟩
abbrev S512x256 : Shape := ⟨2, ![512, 256]⟩
abbrev S16x256 : Shape := ⟨2, ![16, 256]⟩
abbrev S528x256 : Shape := ⟨2, ![528, 256]⟩

abbrev nBuf : Space → Nat
  | .hbm => 39
  | .vmem => 14
  | .smem => 0
  | _ => 0

abbrev bufTy : (tb : Table) → Fin (tcTables nBuf tb) → BufTy
  | .hbm, ⟨0, _⟩ => ⟨S4096x256, .f32⟩
  | .hbm, ⟨1, _⟩ => ⟨S4x64x64, .f32⟩
  | .hbm, ⟨2, _⟩ => ⟨S256, .f32⟩
  | .hbm, ⟨3, _⟩ => ⟨S4096x256, .f32⟩
  | .hbm, ⟨4, _⟩ => ⟨S1x64x64, .f32⟩
  | .hbm, ⟨5, _⟩ => ⟨S64x64, .f32⟩
  | .hbm, ⟨6, _⟩ => ⟨S_, .i32⟩
  | .hbm, ⟨7, _⟩ => ⟨S_, .f32⟩
  | .hbm, ⟨8, _⟩ => ⟨S64x256, .f32⟩
  | .hbm, ⟨9, _⟩ => ⟨S1x64x64, .f32⟩
  | .hbm, ⟨10, _⟩ => ⟨S64x64, .f32⟩
  | .hbm, ⟨11, _⟩ => ⟨S_, .i32⟩
  | .hbm, ⟨12, _⟩ => ⟨S_, .f32⟩
  | .hbm, ⟨13, _⟩ => ⟨S64x256, .f32⟩
  | .hbm, ⟨14, _⟩ => ⟨S1x64x64, .f32⟩
  | .hbm, ⟨15, _⟩ => ⟨S64x64, .f32⟩
  | .hbm, ⟨16, _⟩ => ⟨S_, .i32⟩
  | .hbm, ⟨17, _⟩ => ⟨S_, .f32⟩
  | .hbm, ⟨18, _⟩ => ⟨S64x256, .f32⟩
  | .hbm, ⟨19, _⟩ => ⟨S1x64x64, .f32⟩
  | .hbm, ⟨20, _⟩ => ⟨S64x64, .f32⟩
  | .hbm, ⟨21, _⟩ => ⟨S_, .i32⟩
  | .hbm, ⟨22, _⟩ => ⟨S_, .f32⟩
  | .hbm, ⟨23, _⟩ => ⟨S64x256, .f32⟩
  | .hbm, ⟨24, _⟩ => ⟨S256x256, .f32⟩
  | .hbm, ⟨25, _⟩ => ⟨S256x256, .bf16⟩
  | .hbm, ⟨26, _⟩ => ⟨S1x256, .f32⟩
  | .hbm, ⟨27, _⟩ => ⟨S4096x256, .f32⟩
  | .hbm, ⟨28, _⟩ => ⟨S256x256, .f32⟩
  | .hbm, ⟨29, _⟩ => ⟨S1x256, .f32⟩
  | .hbm, ⟨30, _⟩ => ⟨S64x64, .f32⟩
  | .hbm, ⟨31, _⟩ => ⟨S64x64, .f32⟩
  | .hbm, ⟨32, _⟩ => ⟨S64x64, .f32⟩
  | .hbm, ⟨33, _⟩ => ⟨S64x64, .f32⟩
  | .hbm, ⟨34, _⟩ => ⟨S1x64x64, .f32⟩
  | .hbm, ⟨35, _⟩ => ⟨S1x64x64, .f32⟩
  | .hbm, ⟨36, _⟩ => ⟨S1x64x64, .f32⟩
  | .hbm, ⟨37, _⟩ => ⟨S1x64x64, .f32⟩
  | .hbm, ⟨38, _⟩ => ⟨S4x64x64, .f32⟩
  | .local _ .vmem, ⟨0, _⟩ => ⟨S512x256, .f32⟩
  | .local _ .vmem, ⟨1, _⟩ => ⟨S512x256, .f32⟩
  | .local _ .vmem, ⟨2, _⟩ => ⟨S16x256, .f32⟩
  | .local _ .vmem, ⟨3, _⟩ => ⟨S16x256, .f32⟩
  | .local _ .vmem, ⟨4, _⟩ => ⟨S256x256, .bf16⟩
  | .local _ .vmem, ⟨5, _⟩ => ⟨S1x256, .f32⟩
  | .local _ .vmem, ⟨6, _⟩ => ⟨S512x256, .f32⟩
  | .local _ .vmem, ⟨7, _⟩ => ⟨S512x256, .f32⟩
  | .local _ .vmem, ⟨8, _⟩ => ⟨S16x256, .f32⟩
  | .local _ .vmem, ⟨9, _⟩ => ⟨S16x256, .f32⟩
  | .local _ .vmem, ⟨10, _⟩ => ⟨S512x256, .f32⟩
  | .local _ .vmem, ⟨11, _⟩ => ⟨S512x256, .f32⟩
  | .local _ .vmem, ⟨12, _⟩ => ⟨S256x256, .f32⟩
  | .local _ .vmem, ⟨13, _⟩ => ⟨S1x256, .f32⟩
  | _, _ => ⟨S4096x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_c : Ref sig .tc := ⟨.hbm, 6, rfl⟩
abbrev main_call0_v0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_c_0 : Ref sig .tc := ⟨.hbm, 11, rfl⟩
abbrev main_call1_v0 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_c_1 : Ref sig .tc := ⟨.hbm, 16, rfl⟩
abbrev main_call2_v0 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_c_2 : Ref sig .tc := ⟨.hbm, 21, rfl⟩
abbrev main_call3_v0 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15_0 : Ref sig .tc := ⟨.hbm, 27, rfl⟩
abbrev main_v15_1 : Ref sig .tc := ⟨.hbm, 28, rfl⟩
abbrev main_v15_2 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg8_0 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem8_0 : DmaSem sig := 13

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c32_i32 : BitVec 32 := 32#32
  let v0 : BitVec 32 := Scalar.muli arg0 c32_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![v2.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c1_i32 : BitVec 32 := 1#32
  let v0 : BitVec 32 := Scalar.addi arg0 c1_i32
  let c32_i32 : BitVec 32 := 32#32
  let v1 : BitVec 32 := Scalar.muli v0 c32_i32
  let c255_i32 : BitVec 32 := 255#32
  let v2 : BitVec 32 := Scalar.minsi v1 c255_i32
  let c0_i32 : BitVec 32 := 0#32
  let c0_i32_0 : BitVec 32 := 0#32
  ![v2.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S16x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S256x256 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S16x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S256x256 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x256 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]
-- ==== ReferencePoolIdeal.lean ====
abbrev S4096x256 : Shape := ⟨2, ![4096, 256]⟩
abbrev S4x64x64 : Shape := ⟨3, ![4, 64, 64]⟩
abbrev S256 : Shape := ⟨1, ![256]⟩
abbrev S4096x4x64 : Shape := ⟨3, ![4096, 4, 64]⟩
abbrev S_ : Shape := ⟨0, ![]⟩
abbrev S4096 : Shape := ⟨1, ![4096]⟩
abbrev S4096x1x64 : Shape := ⟨3, ![4096, 1, 64]⟩
abbrev S4096x64 : Shape := ⟨2, ![4096, 64]⟩
abbrev S2x64 : Shape := ⟨2, ![2, 64]⟩
abbrev S4094x64 : Shape := ⟨2, ![4094, 64]⟩
abbrev S4096x1 : Shape := ⟨2, ![4096, 1]⟩
abbrev S4x64 : Shape := ⟨2, ![4, 64]⟩
abbrev S4092x64 : Shape := ⟨2, ![4092, 64]⟩
abbrev S8x64 : Shape := ⟨2, ![8, 64]⟩
abbrev S4088x64 : Shape := ⟨2, ![4088, 64]⟩
abbrev S16x64 : Shape := ⟨2, ![16, 64]⟩
abbrev S4080x64 : Shape := ⟨2, ![4080, 64]⟩
abbrev S4x64x4096 : Shape := ⟨3, ![4, 64, 4096]⟩
abbrev S1x256 : Shape := ⟨2, ![1, 256]⟩
abbrev S4x4096x64 : Shape := ⟨3, ![4, 4096, 64]⟩

abbrev nBuf : Space → Nat
  | .hbm => 173
  | .vmem => 0
  | .smem => 0
  | _ => 0

abbrev hbmTy0_0 (i : Nat) : BufTy := match i % 128 with
  | 0 => ⟨S4096x256, .f32⟩
  | 1 => ⟨S4x64x64, .f32⟩
  | 2 => ⟨S256, .f32⟩
  | 3 => ⟨S4096x256, .f32⟩
  | 4 => ⟨S4096x4x64, .f32⟩
  | 5 => ⟨S_, .f32⟩
  | 6 => ⟨S_, .f32⟩
  | 7 => ⟨S4096x4x64, .f32⟩
  | 8 => ⟨S4096, .i32⟩
  | 9 => ⟨S4096x1x64, .f32⟩
  | 10 => ⟨S4096x64, .f32⟩
  | 11 => ⟨S_, .f32⟩
  | 12 => ⟨S2x64, .f32⟩
  | 13 => ⟨S4094x64, .f32⟩
  | 14 => ⟨S4096x64, .f32⟩
  | 15 => ⟨S_, .f32⟩
  | 16 => ⟨S2x64, .f32⟩
  | 17 => ⟨S_, .i32⟩
  | 18 => ⟨S4096, .i32⟩
  | 19 => ⟨S4096, .i32⟩
  | 20 => ⟨S_, .i32⟩
  | 21 => ⟨S4096, .i32⟩
  | 22 => ⟨S4096, .i32⟩
  | 23 => ⟨S4096, .f32⟩
  | 24 => ⟨S4096x1, .f32⟩
  | 25 => ⟨S4096x64, .f32⟩
  | 26 => ⟨S4096x64, .f32⟩
  | 27 => ⟨S4096x64, .f32⟩
  | 28 => ⟨S4096x1x64, .f32⟩
  | 29 => ⟨S4096x64, .f32⟩
  | 30 => ⟨S_, .f32⟩
  | 31 => ⟨S4x64, .f32⟩
  | 32 => ⟨S4092x64, .f32⟩
  | 33 => ⟨S4096x64, .f32⟩
  | 34 => ⟨S_, .f32⟩
  | 35 => ⟨S4x64, .f32⟩
  | 36 => ⟨S_, .i32⟩
  | 37 => ⟨S4096, .i32⟩
  | 38 => ⟨S4096, .i32⟩
  | 39 => ⟨S_, .i32⟩
  | 40 => ⟨S4096, .i32⟩
  | 41 => ⟨S4096, .i32⟩
  | 42 => ⟨S4096, .f32⟩
  | 43 => ⟨S4096x1, .f32⟩
  | 44 => ⟨S4096x64, .f32⟩
  | 45 => ⟨S4096x64, .f32⟩
  | 46 => ⟨S4096x64, .f32⟩
  | 47 => ⟨S4096x1x64, .f32⟩
  | 48 => ⟨S4096x64, .f32⟩
  | 49 => ⟨S_, .f32⟩
  | 50 => ⟨S8x64, .f32⟩
  | 51 => ⟨S4088x64, .f32⟩
  | 52 => ⟨S4096x64, .f32⟩
  | 53 => ⟨S_, .f32⟩
  | 54 => ⟨S8x64, .f32⟩
  | 55 => ⟨S_, .i32⟩
  | 56 => ⟨S4096, .i32⟩
  | 57 => ⟨S4096, .i32⟩
  | 58 => ⟨S_, .i32⟩
  | 59 => ⟨S4096, .i32⟩
  | 60 => ⟨S4096, .i32⟩
  | 61 => ⟨S4096, .f32⟩
  | 62 => ⟨S4096x1, .f32⟩
  | 63 => ⟨S4096x64, .f32⟩
  | 64 => ⟨S4096x64, .f32⟩
  | 65 => ⟨S4096x64, .f32⟩
  | 66 => ⟨S4096x1x64, .f32⟩
  | 67 => ⟨S4096x64, .f32⟩
  | 68 => ⟨S_, .f32⟩
  | 69 => ⟨S16x64, .f32⟩
  | 70 => ⟨S4080x64, .f32⟩
  | 71 => ⟨S4096x64, .f32⟩
  | 72 => ⟨S_, .f32⟩
  | 73 => ⟨S16x64, .f32⟩
  | 74 => ⟨S_, .i32⟩
  | 75 => ⟨S4096, .i32⟩
  | 76 => ⟨S4096, .i32⟩
  | 77 => ⟨S_, .i32⟩
  | 78 => ⟨S4096, .i32⟩
  | 79 => ⟨S4096, .i32⟩
  | 80 => ⟨S4096, .f32⟩
  | 81 => ⟨S4096x1, .f32⟩
  | 82 => ⟨S4096x64, .f32⟩
  | 83 => ⟨S4096x64, .f32⟩
  | 84 => ⟨S4096x64, .f32⟩
  | 85 => ⟨S4096x1x64, .f32⟩
  | 86 => ⟨S4096x1x64, .f32⟩
  | 87 => ⟨S4096x1x64, .f32⟩
  | 88 => ⟨S4096x1x64, .f32⟩
  | 89 => ⟨S4096x4x64, .f32⟩
  | 90 => ⟨S4096x4x64, .f32⟩
  | 91 => ⟨S4x64x4096, .f32⟩
  | 92 => ⟨S4096x4x64, .f32⟩
  | 93 => ⟨S4096x256, .f32⟩
  | 94 => ⟨S1x256, .f32⟩
  | 95 => ⟨S4096x256, .f32⟩
  | 96 => ⟨S4096x256, .f32⟩
  | 97 => ⟨S4096x256, .f32⟩
  | 98 => ⟨S_, .f32⟩
  | 99 => ⟨S256, .f32⟩
  | 100 => ⟨S1x256, .f32⟩
  | 101 => ⟨S4096x256, .f32⟩
  | 102 => ⟨S4096x256, .f32⟩
  | 103 => ⟨S_, .f32⟩
  | 104 => ⟨S256, .f32⟩
  | 105 => ⟨S4096x4x64, .f32⟩
  | 106 => ⟨S4x64x4096, .f32⟩
  | 107 => ⟨S4x4096x64, .f32⟩
  | 108 => ⟨S4096x4x64, .f32⟩
  | 109 => ⟨S4x64x64, .f32⟩
  | 110 => ⟨S4x64x64, .f32⟩
  | 111 => ⟨S4096x4x64, .f32⟩
  | 112 => ⟨S4096x1x64, .f32⟩
  | 113 => ⟨S4096x64, .f32⟩
  | 114 => ⟨S4096x1x64, .f32⟩
  | 115 => ⟨S4096x64, .f32⟩
  | 116 => ⟨S4096x1x64, .f32⟩
  | 117 => ⟨S4096x64, .f32⟩
  | 118 => ⟨S4096x1x64, .f32⟩
  | 119 => ⟨S4096x64, .f32⟩
  | 120 => ⟨S4096x64, .f32⟩
  | 121 => ⟨S4096x64, .f32⟩
  | 122 => ⟨S4096x64, .f32⟩
  | 123 => ⟨S16x64, .f32⟩
  | 124 => ⟨S4080x64, .f32⟩
  | 125 => ⟨S_, .f32⟩
  | 126 => ⟨S4096x64, .f32⟩
  | 127 => ⟨S4096x64, .f32⟩
  | _ => ⟨S4096x256, .f32⟩

abbrev hbmTy0_1 (i : Nat) : BufTy := match i % 128 with
  | 0 => ⟨S4096x1x64, .f32⟩
  | 1 => ⟨S_, .f32⟩
  | 2 => ⟨S4096x4x64, .f32⟩
  | 3 => ⟨S4096x64, .f32⟩
  | 4 => ⟨S4096x64, .f32⟩
  | 5 => ⟨S4096x64, .f32⟩
  | 6 => ⟨S8x64, .f32⟩
  | 7 => ⟨S4088x64, .f32⟩
  | 8 => ⟨S_, .f32⟩
  | 9 => ⟨S4096x64, .f32⟩
  | 10 => ⟨S4096x64, .f32⟩
  | 11 => ⟨S4096x1x64, .f32⟩
  | 12 => ⟨S_, .f32⟩
  | 13 => ⟨S4096x4x64, .f32⟩
  | 14 => ⟨S4096x4x64, .f32⟩
  | 15 => ⟨S4096x64, .f32⟩
  | 16 => ⟨S4096x64, .f32⟩
  | 17 => ⟨S4096x64, .f32⟩
  | 18 => ⟨S4x64, .f32⟩
  | 19 => ⟨S4092x64, .f32⟩
  | 20 => ⟨S_, .f32⟩
  | 21 => ⟨S4096x64, .f32⟩
  | 22 => ⟨S4096x64, .f32⟩
  | 23 => ⟨S4096x1x64, .f32⟩
  | 24 => ⟨S_, .f32⟩
  | 25 => ⟨S4096x4x64, .f32⟩
  | 26 => ⟨S4096x4x64, .f32⟩
  | 27 => ⟨S4096x64, .f32⟩
  | 28 => ⟨S4096x64, .f32⟩
  | 29 => ⟨S4096x64, .f32⟩
  | 30 => ⟨S2x64, .f32⟩
  | 31 => ⟨S4094x64, .f32⟩
  | 32 => ⟨S_, .f32⟩
  | 33 => ⟨S4096x64, .f32⟩
  | 34 => ⟨S4096x64, .f32⟩
  | 35 => ⟨S4096x1x64, .f32⟩
  | 36 => ⟨S_, .f32⟩
  | 37 => ⟨S4096x4x64, .f32⟩
  | 38 => ⟨S4096x4x64, .f32⟩
  | 39 => ⟨S_, .f32⟩
  | 40 => ⟨S_, .f32⟩
  | 41 => ⟨S4096x4x64, .f32⟩
  | 42 => ⟨S4096x4x64, .f32⟩
  | 43 => ⟨S4096x256, .f32⟩
  | 44 => ⟨S1x256, .f32⟩
  | _ => ⟨S4096x256, .f32⟩

abbrev hbmTy (i : Nat) : BufTy := match i / 128 with
  | 0 => hbmTy0_0 i
  | 1 => hbmTy0_1 i
  | _ => ⟨S4096x256, .f32⟩

abbrev bufTy : (tb : Table) → Fin (tcTables nBuf tb) → BufTy
  | .hbm, ⟨i, _⟩ => hbmTy i
  | _, _ => ⟨S4096x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_call0_call0_cst : Ref sig .tc := ⟨.hbm, 5, rfl⟩
abbrev main_call0_call0_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_c : Ref sig .tc := ⟨.hbm, 17, rfl⟩
abbrev main_v9 : Ref sig .tc := ⟨.hbm, 18, rfl⟩
abbrev main_v10 : Ref sig .tc := ⟨.hbm, 19, rfl⟩
abbrev main_c_1 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_cst_2 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_cst_3 : Ref sig .tc := ⟨.hbm, 34, rfl⟩
abbrev main_v23 : Ref sig .tc := ⟨.hbm, 35, rfl⟩
abbrev main_c_4 : Ref sig .tc := ⟨.hbm, 36, rfl⟩
abbrev main_v24 : Ref sig .tc := ⟨.hbm, 37, rfl⟩
abbrev main_v25 : Ref sig .tc := ⟨.hbm, 38, rfl⟩
abbrev main_c_5 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_cst_6 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_cst_7 : Ref sig .tc := ⟨.hbm, 53, rfl⟩
abbrev main_v38 : Ref sig .tc := ⟨.hbm, 54, rfl⟩
abbrev main_c_8 : Ref sig .tc := ⟨.hbm, 55, rfl⟩
abbrev main_v39 : Ref sig .tc := ⟨.hbm, 56, rfl⟩
abbrev main_v40 : Ref sig .tc := ⟨.hbm, 57, rfl⟩
abbrev main_c_9 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_cst_10 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_cst_11 : Ref sig .tc := ⟨.hbm, 72, rfl⟩
abbrev main_v53 : Ref sig .tc := ⟨.hbm, 73, rfl⟩
abbrev main_c_12 : Ref sig .tc := ⟨.hbm, 74, rfl⟩
abbrev main_v54 : Ref sig .tc := ⟨.hbm, 75, rfl⟩
abbrev main_v55 : Ref sig .tc := ⟨.hbm, 76, rfl⟩
abbrev main_c_13 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_v60 : Ref sig .tc := ⟨.hbm, 82, rfl⟩
abbrev main_v61 : Ref sig .tc := ⟨.hbm, 83, rfl⟩
abbrev main_v62 : Ref sig .tc := ⟨.hbm, 84, rfl⟩
abbrev main_v63 : Ref sig .tc := ⟨.hbm, 85, rfl⟩
abbrev main_v64 : Ref sig .tc := ⟨.hbm, 86, rfl⟩
abbrev main_v65 : Ref sig .tc := ⟨.hbm, 87, rfl⟩
abbrev main_v66 : Ref sig .tc := ⟨.hbm, 88, rfl⟩
abbrev main_v67 : Ref sig .tc := ⟨.hbm, 89, rfl⟩
abbrev main_v68 : Ref sig .tc := ⟨.hbm, 90, rfl⟩
abbrev main_v69 : Ref sig .tc := ⟨.hbm, 91, rfl⟩
abbrev main_v70 : Ref sig .tc := ⟨.hbm, 92, rfl⟩
abbrev main_v71 : Ref sig .tc := ⟨.hbm, 93, rfl⟩
abbrev main_v72 : Ref sig .tc := ⟨.hbm, 94, rfl⟩
abbrev main_v73 : Ref sig .tc := ⟨.hbm, 95, rfl⟩
abbrev main_v74 : Ref sig .tc := ⟨.hbm, 96, rfl⟩
abbrev main_v75 : Ref sig .tc := ⟨.hbm, 97, rfl⟩
abbrev main_cst_14 : Ref sig .tc := ⟨.hbm, 98, rfl⟩
abbrev main_v76 : Ref sig .tc := ⟨.hbm, 99, rfl⟩
abbrev main_v77 : Ref sig .tc := ⟨.hbm, 100, rfl⟩
abbrev main_v78 : Ref sig .tc := ⟨.hbm, 101, rfl⟩
abbrev main_v79 : Ref sig .tc := ⟨.hbm, 102, rfl⟩
abbrev main_cst_15 : Ref sig .tc := ⟨.hbm, 103, rfl⟩
abbrev main_v80 : Ref sig .tc := ⟨.hbm, 104, rfl⟩
abbrev main_v81 : Ref sig .tc := ⟨.hbm, 105, rfl⟩
abbrev main_v82 : Ref sig .tc := ⟨.hbm, 106, rfl⟩
abbrev main_v83 : Ref sig .tc := ⟨.hbm, 107, rfl⟩
abbrev main_v84 : Ref sig .tc := ⟨.hbm, 108, rfl⟩
abbrev main_v85 : Ref sig .tc := ⟨.hbm, 109, rfl⟩
abbrev main_v86 : Ref sig .tc := ⟨.hbm, 110, rfl⟩
abbrev main_v87 : Ref sig .tc := ⟨.hbm, 111, rfl⟩
abbrev main_v88 : Ref sig .tc := ⟨.hbm, 112, rfl⟩
abbrev main_v89 : Ref sig .tc := ⟨.hbm, 113, rfl⟩
abbrev main_v90 : Ref sig .tc := ⟨.hbm, 114, rfl⟩
abbrev main_v91 : Ref sig .tc := ⟨.hbm, 115, rfl⟩
abbrev main_v92 : Ref sig .tc := ⟨.hbm, 116, rfl⟩
abbrev main_v93 : Ref sig .tc := ⟨.hbm, 117, rfl⟩
abbrev main_v94 : Ref sig .tc := ⟨.hbm, 118, rfl⟩
abbrev main_v95 : Ref sig .tc := ⟨.hbm, 119, rfl⟩
abbrev main_v96 : Ref sig .tc := ⟨.hbm, 120, rfl⟩
abbrev main_v97 : Ref sig .tc := ⟨.hbm, 121, rfl⟩
abbrev main_v98 : Ref sig .tc := ⟨.hbm, 122, rfl⟩
abbrev main_v99 : Ref sig .tc := ⟨.hbm, 123, rfl⟩
abbrev main_v100 : Ref sig .tc := ⟨.hbm, 124, rfl⟩
abbrev main_cst_16 : Ref sig .tc := ⟨.hbm, 125, rfl⟩
abbrev main_v101 : Ref sig .tc := ⟨.hbm, 126, rfl⟩
abbrev main_v102 : Ref sig .tc := ⟨.hbm, 127, rfl⟩
abbrev main_v103 : Ref sig .tc := ⟨.hbm, 128, rfl⟩
abbrev main_cst_17 : Ref sig .tc := ⟨.hbm, 129, rfl⟩
abbrev main_v104 : Ref sig .tc := ⟨.hbm, 130, rfl⟩
abbrev main_v105 : Ref sig .tc := ⟨.hbm, 131, rfl⟩
abbrev main_v106 : Ref sig .tc := ⟨.hbm, 132, rfl⟩
abbrev main_v107 : Ref sig .tc := ⟨.hbm, 133, rfl⟩
abbrev main_v108 : Ref sig .tc := ⟨.hbm, 134, rfl⟩
abbrev main_v109 : Ref sig .tc := ⟨.hbm, 135, rfl⟩
abbrev main_cst_18 : Ref sig .tc := ⟨.hbm, 136, rfl⟩
abbrev main_v110 : Ref sig .tc := ⟨.hbm, 137, rfl⟩
abbrev main_v111 : Ref sig .tc := ⟨.hbm, 138, rfl⟩
abbrev main_v112 : Ref sig .tc := ⟨.hbm, 139, rfl⟩
abbrev main_cst_19 : Ref sig .tc := ⟨.hbm, 140, rfl⟩
abbrev main_v113 : Ref sig .tc := ⟨.hbm, 141, rfl⟩
abbrev main_v114 : Ref sig .tc := ⟨.hbm, 142, rfl⟩
abbrev main_v115 : Ref sig .tc := ⟨.hbm, 143, rfl⟩
abbrev main_v116 : Ref sig .tc := ⟨.hbm, 144, rfl⟩
abbrev main_v117 : Ref sig .tc := ⟨.hbm, 145, rfl⟩
abbrev main_v118 : Ref sig .tc := ⟨.hbm, 146, rfl⟩
abbrev main_v119 : Ref sig .tc := ⟨.hbm, 147, rfl⟩
abbrev main_cst_20 : Ref sig .tc := ⟨.hbm, 148, rfl⟩
abbrev main_v120 : Ref sig .tc := ⟨.hbm, 149, rfl⟩
abbrev main_v121 : Ref sig .tc := ⟨.hbm, 150, rfl⟩
abbrev main_v122 : Ref sig .tc := ⟨.hbm, 151, rfl⟩
abbrev main_cst_21 : Ref sig .tc := ⟨.hbm, 152, rfl⟩
abbrev main_v123 : Ref sig .tc := ⟨.hbm, 153, rfl⟩
abbrev main_v124 : Ref sig .tc := ⟨.hbm, 154, rfl⟩
abbrev main_v125 : Ref sig .tc := ⟨.hbm, 155, rfl⟩
abbrev main_v126 : Ref sig .tc := ⟨.hbm, 156, rfl⟩
abbrev main_v127 : Ref sig .tc := ⟨.hbm, 157, rfl⟩
abbrev main_v128 : Ref sig .tc := ⟨.hbm, 158, rfl⟩
abbrev main_v129 : Ref sig .tc := ⟨.hbm, 159, rfl⟩
abbrev main_cst_22 : Ref sig .tc := ⟨.hbm, 160, rfl⟩
abbrev main_v130 : Ref sig .tc := ⟨.hbm, 161, rfl⟩
abbrev main_v131 : Ref sig .tc := ⟨.hbm, 162, rfl⟩
abbrev main_v132 : Ref sig .tc := ⟨.hbm, 163, rfl⟩
abbrev main_cst_23 : Ref sig .tc := ⟨.hbm, 164, rfl⟩
abbrev main_v133 : Ref sig .tc := ⟨.hbm, 165, rfl⟩
abbrev main_v134 : Ref sig .tc := ⟨.hbm, 166, rfl⟩
abbrev main_call1_call0_cst : Ref sig .tc := ⟨.hbm, 167, rfl⟩
abbrev main_call1_call0_v0 : Ref sig .tc := ⟨.hbm, 168, rfl⟩
abbrev main_v135 : Ref sig .tc := ⟨.hbm, 169, rfl⟩
abbrev main_v136 : Ref sig .tc := ⟨.hbm, 170, rfl⟩
abbrev main_v137 : Ref sig .tc := ⟨.hbm, 171, rfl⟩
abbrev main_v138 : Ref sig .tc := ⟨.hbm, 172, rfl⟩

abbrev nD : Nat := 1
abbrev τ : Topo := Topo.v7x

variable {F : FTy → Type} [FloatOps F]
-- ==== KernelPost.lean ====
abbrev S4096x512 : Shape := ⟨2, ![4096, 512]⟩
abbrev S128 : Shape := ⟨1, ![128]⟩
abbrev S1x128 : Shape := ⟨2, ![1, 128]⟩
abbrev S512x512 : Shape := ⟨2, ![512, 512]⟩
abbrev S512x128 : Shape := ⟨2, ![512, 128]⟩
abbrev S512 : Shape := ⟨1, ![512]⟩
abbrev S512x1 : Shape := ⟨2, ![512, 1]⟩
abbrev S512x384 : Shape := ⟨2, ![512, 384]⟩
abbrev S512x256 : Shape := ⟨2, ![512, 256]⟩

abbrev nBuf : Space → Nat
  | .hbm => 8
  | .vmem => 12
  | .smem => 0
  | _ => 0

abbrev bufTy : (tb : Table) → Fin (tcTables nBuf tb) → BufTy
  | .hbm, ⟨0, _⟩ => ⟨S4096x512, .f32⟩
  | .hbm, ⟨1, _⟩ => ⟨S4096x512, .f32⟩
  | .hbm, ⟨2, _⟩ => ⟨S128, .f32⟩
  | .hbm, ⟨3, _⟩ => ⟨S4096x512, .f32⟩
  | .hbm, ⟨4, _⟩ => ⟨S1x128, .f32⟩
  | .hbm, ⟨5, _⟩ => ⟨S4096x512, .f32⟩
  | .hbm, ⟨6, _⟩ => ⟨S4096x512, .f32⟩
  | .hbm, ⟨7, _⟩ => ⟨S1x128, .f32⟩
  | .local _ .vmem, ⟨0, _⟩ => ⟨S512x512, .f32⟩
  | .local _ .vmem, ⟨1, _⟩ => ⟨S512x512, .f32⟩
  | .local _ .vmem, ⟨2, _⟩ => ⟨S512x512, .f32⟩
  | .local _ .vmem, ⟨3, _⟩ => ⟨S512x512, .f32⟩
  | .local _ .vmem, ⟨4, _⟩ => ⟨S1x128, .f32⟩
  | .local _ .vmem, ⟨5, _⟩ => ⟨S512x512, .f32⟩
  | .local _ .vmem, ⟨6, _⟩ => ⟨S512x512, .f32⟩
  | .local _ .vmem, ⟨7, _⟩ => ⟨S512x512, .f32⟩
  | .local _ .vmem, ⟨8, _⟩ => ⟨S512x512, .f32⟩
  | .local _ .vmem, ⟨9, _⟩ => ⟨S512x512, .f32⟩
  | .local _ .vmem, ⟨10, _⟩ => ⟨S512x512, .f32⟩
  | .local _ .vmem, ⟨11, _⟩ => ⟨S1x128, .f32⟩
  | _, _ => ⟨S4096x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1_0 : Ref sig .tc := ⟨.hbm, 5, rfl⟩
abbrev main_v1_1 : Ref sig .tc := ⟨.hbm, 6, rfl⟩
abbrev main_v1_2 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== ReferencePostIdeal.lean ====
abbrev S4096x512 : Shape := ⟨2, ![4096, 512]⟩
abbrev S128 : Shape := ⟨1, ![128]⟩
abbrev S4096x4x128 : Shape := ⟨3, ![4096, 4, 128]⟩
abbrev S_ : Shape := ⟨0, ![]⟩
abbrev S4096x4 : Shape := ⟨2, ![4096, 4]⟩
abbrev S4096x4x1 : Shape := ⟨3, ![4096, 4, 1]⟩
abbrev S1x1x128 : Shape := ⟨3, ![1, 1, 128]⟩
abbrev S1x128 : Shape := ⟨2, ![1, 128]⟩

abbrev nBuf : Space → Nat
  | .hbm => 76
  | .vmem => 0
  | .smem => 0
  | _ => 0

abbrev bufTy : (tb : Table) → Fin (tcTables nBuf tb) → BufTy
  | .hbm, ⟨0, _⟩ => ⟨S4096x512, .f32⟩
  | .hbm, ⟨1, _⟩ => ⟨S4096x512, .f32⟩
  | .hbm, ⟨2, _⟩ => ⟨S128, .f32⟩
  | .hbm, ⟨3, _⟩ => ⟨S4096x512, .f32⟩
  | .hbm, ⟨4, _⟩ => ⟨S4096x4x128, .f32⟩
  | .hbm, ⟨5, _⟩ => ⟨S4096x4x128, .f32⟩
  | .hbm, ⟨6, _⟩ => ⟨S_, .f32⟩
  | .hbm, ⟨7, _⟩ => ⟨S4096x4, .f32⟩
  | .hbm, ⟨8, _⟩ => ⟨S4096x4x1, .f32⟩
  | .hbm, ⟨9, _⟩ => ⟨S_, .f32⟩
  | .hbm, ⟨10, _⟩ => ⟨S4096x4x1, .f32⟩
  | .hbm, ⟨11, _⟩ => ⟨S4096x4x1, .f32⟩
  | .hbm, ⟨12, _⟩ => ⟨S_, .f32⟩
  | .hbm, ⟨13, _⟩ => ⟨S4096x4x1, .f32⟩
  | .hbm, ⟨14, _⟩ => ⟨S4096x4x1, .f32⟩
  | .hbm, ⟨15, _⟩ => ⟨S4096x4x1, .f32⟩
  | .hbm, ⟨16, _⟩ => ⟨S4096x4x1, .f32⟩
  | .hbm, ⟨17, _⟩ => ⟨S_, .f32⟩
  | .hbm, ⟨18, _⟩ => ⟨S4096x4x1, .f32⟩
  | .hbm, ⟨19, _⟩ => ⟨S4096x4x1, .f32⟩
  | .hbm, ⟨20, _⟩ => ⟨S4096x4x128, .f32⟩
  | .hbm, ⟨21, _⟩ => ⟨S4096x4x128, .f32⟩
  | .hbm, ⟨22, _⟩ => ⟨S1x1x128, .f32⟩
  | .hbm, ⟨23, _⟩ => ⟨S4096x4x128, .f32⟩
  | .hbm, ⟨24, _⟩ => ⟨S4096x4x128, .f32⟩
  | .hbm, ⟨25, _⟩ => ⟨S4096x4x128, .f32⟩
  | .hbm, ⟨26, _⟩ => ⟨S4096x4x128, .f32⟩
  | .hbm, ⟨27, _⟩ => ⟨S4096x4x128, .f32⟩
  | .hbm, ⟨28, _⟩ => ⟨S_, .f32⟩
  | .hbm, ⟨29, _⟩ => ⟨S4096x4x128, .f32⟩
  | .hbm, ⟨30, _⟩ => ⟨S4096x4x128, .f32⟩
  | .hbm, ⟨31, _⟩ => ⟨S_, .f32⟩
  | .hbm, ⟨32, _⟩ => ⟨S4096x4x128, .f32⟩
  | .hbm, ⟨33, _⟩ => ⟨S4096x4x128, .f32⟩
  | .hbm, ⟨34, _⟩ => ⟨S_, .f32⟩
  | .hbm, ⟨35, _⟩ => ⟨S4096x4x128, .f32⟩
  | .hbm, ⟨36, _⟩ => ⟨S4096x4x128, .f32⟩
  | .hbm, ⟨37, _⟩ => ⟨S4096x4x128, .f32⟩
  | .hbm, ⟨38, _⟩ => ⟨S4096x4x128, .f32⟩
  | .hbm, ⟨39, _⟩ => ⟨S4096x4x128, .f32⟩
  | .hbm, ⟨40, _⟩ => ⟨S4096x512, .f32⟩
  | .hbm, ⟨41, _⟩ => ⟨S4096x4x128, .f32⟩
  | .hbm, ⟨42, _⟩ => ⟨S4096x4x128, .f32⟩
  | .hbm, ⟨43, _⟩ => ⟨S4096x4x128, .f32⟩
  | .hbm, ⟨44, _⟩ => ⟨S4096x4x128, .f32⟩
  | .hbm, ⟨45, _⟩ => ⟨S4096x4x128, .f32⟩
  | .hbm, ⟨46, _⟩ => ⟨S4096x4x128, .f32⟩
  | .hbm, ⟨47, _⟩ => ⟨S4096x4x128, .f32⟩
  | .hbm, ⟨48, _⟩ => ⟨S4096x512, .f32⟩
  | .hbm, ⟨49, _⟩ => ⟨S4096x4x128, .f32⟩
  | .hbm, ⟨50, _⟩ => ⟨S_, .f32⟩
  | .hbm, ⟨51, _⟩ => ⟨S128, .f32⟩
  | .hbm, ⟨52, _⟩ => ⟨S1x1x128, .f32⟩
  | .hbm, ⟨53, _⟩ => ⟨S4096x4x128, .f32⟩
  | .hbm, ⟨54, _⟩ => ⟨S4096x4x128, .f32⟩
  | .hbm, ⟨55, _⟩ => ⟨S_, .f32⟩
  | .hbm, ⟨56, _⟩ => ⟨S128, .f32⟩
  | .hbm, ⟨57, _⟩ => ⟨S4096x4x128, .f32⟩
  | .hbm, ⟨58, _⟩ => ⟨S_, .f32⟩
  | .hbm, ⟨59, _⟩ => ⟨S4096x4, .f32⟩
  | .hbm, ⟨60, _⟩ => ⟨S4096x4x1, .f32⟩
  | .hbm, ⟨61, _⟩ => ⟨S4096x4x128, .f32⟩
  | .hbm, ⟨62, _⟩ => ⟨S4096x4x128, .f32⟩
  | .hbm, ⟨63, _⟩ => ⟨S4096x4x1, .f32⟩
  | .hbm, ⟨64, _⟩ => ⟨S_, .f32⟩
  | .hbm, ⟨65, _⟩ => ⟨S4096x4x1, .f32⟩
  | .hbm, ⟨66, _⟩ => ⟨S4096x4x1, .f32⟩
  | .hbm, ⟨67, _⟩ => ⟨S_, .f32⟩
  | .hbm, ⟨68, _⟩ => ⟨S4096x4, .f32⟩
  | .hbm, ⟨69, _⟩ => ⟨S4096x4x128, .f32⟩
  | .hbm, ⟨70, _⟩ => ⟨S4096x4x128, .f32⟩
  | .hbm, ⟨71, _⟩ => ⟨S4096x4x128, .f32⟩
  | .hbm, ⟨72, _⟩ => ⟨S4096x4x128, .f32⟩
  | .hbm, ⟨73, _⟩ => ⟨S4096x4x128, .f32⟩
  | .hbm, ⟨74, _⟩ => ⟨S4096x512, .f32⟩
  | .hbm, ⟨75, _⟩ => ⟨S1x128, .f32⟩
  | _, _ => ⟨S4096x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_v5 : Ref sig .tc := ⟨.hbm, 11, rfl⟩
abbrev main_cst_1 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_cst_2 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_call0_v0 : Ref sig .tc := ⟨.hbm, 26, rfl⟩
abbrev main_call0_v1 : Ref sig .tc := ⟨.hbm, 27, rfl⟩
abbrev main_call0_cst : Ref sig .tc := ⟨.hbm, 28, rfl⟩
abbrev main_call0_v2 : Ref sig .tc := ⟨.hbm, 29, rfl⟩
abbrev main_call0_v3 : Ref sig .tc := ⟨.hbm, 30, rfl⟩
abbrev main_call0_cst_0 : Ref sig .tc := ⟨.hbm, 31, rfl⟩
abbrev main_call0_v4 : Ref sig .tc := ⟨.hbm, 32, rfl⟩
abbrev main_v18_2 : Ref sig .tc := ⟨.hbm, 33, rfl⟩
abbrev main_call0_cst_1 : Ref sig .tc := ⟨.hbm, 34, rfl⟩
abbrev main_call0_v6 : Ref sig .tc := ⟨.hbm, 35, rfl⟩
abbrev main_call0_v7 : Ref sig .tc := ⟨.hbm, 36, rfl⟩
abbrev main_v18_1 : Ref sig .tc := ⟨.hbm, 37, rfl⟩
abbrev main_v18_0 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_call1_v0 : Ref sig .tc := ⟨.hbm, 44, rfl⟩
abbrev main_call1_v1 : Ref sig .tc := ⟨.hbm, 45, rfl⟩
abbrev main_call1_v2 : Ref sig .tc := ⟨.hbm, 46, rfl⟩
abbrev main_v24 : Ref sig .tc := ⟨.hbm, 47, rfl⟩
abbrev main_v25 : Ref sig .tc := ⟨.hbm, 48, rfl⟩
abbrev main_v26 : Ref sig .tc := ⟨.hbm, 49, rfl⟩
abbrev main_cst_3 : Ref sig .tc := ⟨.hbm, 50, rfl⟩
abbrev main_v27 : Ref sig .tc := ⟨.hbm, 51, rfl⟩
abbrev main_v28 : Ref sig .tc := ⟨.hbm, 52, rfl⟩
abbrev main_v29 : Ref sig .tc := ⟨.hbm, 53, rfl⟩
abbrev main_v30 : Ref sig .tc := ⟨.hbm, 54, rfl⟩
abbrev main_cst_4 : Ref sig .tc := ⟨.hbm, 55, rfl⟩
abbrev main_v31 : Ref sig .tc := ⟨.hbm, 56, rfl⟩
abbrev main_v32 : Ref sig .tc := ⟨.hbm, 57, rfl⟩
abbrev main_cst_5 : Ref sig .tc := ⟨.hbm, 58, rfl⟩
abbrev main_v33 : Ref sig .tc := ⟨.hbm, 59, rfl⟩
abbrev main_v34 : Ref sig .tc := ⟨.hbm, 60, rfl⟩
abbrev main_v35 : Ref sig .tc := ⟨.hbm, 61, rfl⟩
abbrev main_v36 : Ref sig .tc := ⟨.hbm, 62, rfl⟩
abbrev main_v37 : Ref sig .tc := ⟨.hbm, 63, rfl⟩
abbrev main_cst_6 : Ref sig .tc := ⟨.hbm, 64, rfl⟩
abbrev main_v38 : Ref sig .tc := ⟨.hbm, 65, rfl⟩
abbrev main_v39 : Ref sig .tc := ⟨.hbm, 66, rfl⟩
abbrev main_cst_7 : Ref sig .tc := ⟨.hbm, 67, rfl⟩
abbrev main_v40 : Ref sig .tc := ⟨.hbm, 68, rfl⟩
abbrev main_v41 : Ref sig .tc := ⟨.hbm, 69, rfl⟩
abbrev main_v42 : Ref sig .tc := ⟨.hbm, 70, rfl⟩
abbrev main_v43 : Ref sig .tc := ⟨.hbm, 71, rfl⟩
abbrev main_v44 : Ref sig .tc := ⟨.hbm, 72, rfl⟩
abbrev main_v45 : Ref sig .tc := ⟨.hbm, 73, rfl⟩
abbrev main_v46 : Ref sig .tc := ⟨.hbm, 74, rfl⟩
abbrev main_v47 : Ref sig .tc := ⟨.hbm, 75, rfl⟩

abbrev nD : Nat := 1
abbrev τ : Topo := Topo.v7x

variable {F : FTy → Type} [FloatOps F]
-- ==== KernelFfn.lean ====
abbrev S4096x1024 : Shape := ⟨2, ![4096, 1024]⟩
abbrev S1024 : Shape := ⟨1, ![1024]⟩
abbrev S1024x2816 : Shape := ⟨2, ![1024, 2816]⟩
abbrev S2816x1024 : Shape := ⟨2, ![2816, 1024]⟩
abbrev S1x1024 : Shape := ⟨2, ![1, 1024]⟩
abbrev S4x704x1024 : Shape := ⟨3, ![4, 704, 1024]⟩
abbrev S4x2112x1024 : Shape := ⟨3, ![4, 2112, 1024]⟩
abbrev S4x4096x1024 : Shape := ⟨3, ![4, 4096, 1024]⟩
abbrev S512x1024 : Shape := ⟨2, ![512, 1024]⟩
abbrev S1x704x1024 : Shape := ⟨3, ![1, 704, 1024]⟩
abbrev S1x512x1024 : Shape := ⟨3, ![1, 512, 1024]⟩
abbrev S704x1024 : Shape := ⟨2, ![704, 1024]⟩
abbrev S512 : Shape := ⟨1, ![512]⟩
abbrev S512x1 : Shape := ⟨2, ![512, 1]⟩
abbrev S512x704 : Shape := ⟨2, ![512, 704]⟩
abbrev S_ : Shape := ⟨0, ![]⟩

abbrev nBuf : Space → Nat
  | .hbm => 21
  | .vmem => 22
  | .smem => 0
  | _ => 0

abbrev bufTy : (tb : Table) → Fin (tcTables nBuf tb) → BufTy
  | .hbm, ⟨0, _⟩ => ⟨S4096x1024, .f32⟩
  | .hbm, ⟨1, _⟩ => ⟨S1024, .f32⟩
  | .hbm, ⟨2, _⟩ => ⟨S1024x2816, .f32⟩
  | .hbm, ⟨3, _⟩ => ⟨S1024x2816, .f32⟩
  | .hbm, ⟨4, _⟩ => ⟨S2816x1024, .f32⟩
  | .hbm, ⟨5, _⟩ => ⟨S4096x1024, .f32⟩
  | .hbm, ⟨6, _⟩ => ⟨S1x1024, .f32⟩
  | .hbm, ⟨7, _⟩ => ⟨S2816x1024, .f32⟩
  | .hbm, ⟨8, _⟩ => ⟨S4x704x1024, .f32⟩
  | .hbm, ⟨9, _⟩ => ⟨S2816x1024, .f32⟩
  | .hbm, ⟨10, _⟩ => ⟨S4x704x1024, .f32⟩
  | .hbm, ⟨11, _⟩ => ⟨S4x704x1024, .f32⟩
  | .hbm, ⟨12, _⟩ => ⟨S4x2112x1024, .f32⟩
  | .hbm, ⟨13, _⟩ => ⟨S4x2112x1024, .bf16⟩
  | .hbm, ⟨14, _⟩ => ⟨S4x704x1024, .bf16⟩
  | .hbm, ⟨15, _⟩ => ⟨S4x704x1024, .bf16⟩
  | .hbm, ⟨16, _⟩ => ⟨S4x704x1024, .bf16⟩
  | .hbm, ⟨17, _⟩ => ⟨S4x4096x1024, .bf16⟩
  | .hbm, ⟨18, _⟩ => ⟨S4x4096x1024, .f32⟩
  | .hbm, ⟨19, _⟩ => ⟨S_, .f32⟩
  | .hbm, ⟨20, _⟩ => ⟨S4096x1024, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1x704x1024, .bf16⟩
  | .local _ .vmem, ⟨4, _⟩ => ⟨S1x704x1024, .bf16⟩
  | .local _ .vmem, ⟨5, _⟩ => ⟨S1x704x1024, .bf16⟩
  | .local _ .vmem, ⟨6, _⟩ => ⟨S1x704x1024, .bf16⟩
  | .local _ .vmem, ⟨7, _⟩ => ⟨S1x704x1024, .bf16⟩
  | .local _ .vmem, ⟨8, _⟩ => ⟨S1x704x1024, .bf16⟩
  | .local _ .vmem, ⟨9, _⟩ => ⟨S512x1024, .f32⟩
  | .local _ .vmem, ⟨10, _⟩ => ⟨S512x1024, .f32⟩
  | .local _ .vmem, ⟨11, _⟩ => ⟨S1x704x1024, .bf16⟩
  | .local _ .vmem, ⟨12, _⟩ => ⟨S1x704x1024, .bf16⟩
  | .local _ .vmem, ⟨13, _⟩ => ⟨S1x704x1024, .bf16⟩
  | .local _ .vmem, ⟨14, _⟩ => ⟨S1x704x1024, .bf16⟩
  | .local _ .vmem, ⟨15, _⟩ => ⟨S1x704x1024, .bf16⟩
  | .local _ .vmem, ⟨16, _⟩ => ⟨S1x704x1024, .bf16⟩
  | .local _ .vmem, ⟨17, _⟩ => ⟨S1x512x1024, .bf16⟩
  | .local _ .vmem, ⟨18, _⟩ => ⟨S1x512x1024, .bf16⟩
  | .local _ .vmem, ⟨19, _⟩ => ⟨S704x1024, .f32⟩
  | .local _ .vmem, ⟨20, _⟩ => ⟨S704x1024, .f32⟩
  | .local _ .vmem, ⟨21, _⟩ => ⟨S704x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8_0 : Ref sig .tc := ⟨.hbm, 14, rfl⟩
abbrev main_v8_1 : Ref sig .tc := ⟨.hbm, 15, rfl⟩
abbrev main_v8_2 : Ref sig .tc := ⟨.hbm, 16, rfl⟩
abbrev main_v8_3 : Ref sig .tc := ⟨.hbm, 17, rfl⟩
abbrev main_v9 : Ref sig .tc := ⟨.hbm, 18, rfl⟩
abbrev main_cst : Ref sig .tc := ⟨.hbm, 19, rfl⟩
abbrev main_v10 : Ref sig .tc := ⟨.hbm, 20, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_stg9_0 : Ref sig .tc := ⟨.vmem, 17, rfl⟩
abbrev cc0_stg9_1 : Ref sig .tc := ⟨.vmem, 18, rfl⟩
abbrev cc0_scratch0 : Ref sig .tc := ⟨.vmem, 19, rfl⟩
abbrev cc0_scratch1 : Ref sig .tc := ⟨.vmem, 20, rfl⟩
abbrev cc0_scratch2 : Ref sig .tc := ⟨.vmem, 21, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16
abbrev cc0_sem9_0 : DmaSem sig := 17
abbrev cc0_sem9_1 : DmaSem sig := 18

abbrev nD : Nat := 1
abbrev τ : Topo := Topo.v7x

variable {F : FTy → Type} [FloatOps F]

abbrev grid0 : Pipeline.Grid := ⟨2, ![4, 8], ![false, false]⟩

def k0_cond2 (i : grid0.Coords) : BitVec 1 :=
  let arg1 : BitVec 32 := BitVec.ofNat 32 (i 1).val
  let c7_i32 : BitVec 32 := 7#32
  let v76 : BitVec 1 := Scalar.cmpi .eq arg1 c7_i32
  let v77 : BitVec 32 := Scalar.extui v76
  let c0_i32_49 : BitVec 32 := 0#32
  let v78 : BitVec 1 := Scalar.cmpi .ne v77 c0_i32_49
  v78

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  ![arg0.toNat, c1_i32.toNat, c0_i32.toNat]

def cc0_transform_4 (i : grid0.Coords) : Fin 3 → Nat :=
  let arg0 : BitVec 32 := BitVec.ofNat 32 (i 0).val
  let arg1 : BitVec 32 := BitVec.ofNat 32 (i 1).val
  let c2_i32 : BitVec 32 := 2#32
  let c0_i32 : BitVec 32 := 0#32
  let c0_i32_0 : BitVec 32 := 0#32
  ![arg0.toNat, c2_i32.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x704x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x704x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x704x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S1x704x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S1x704x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 2 → Memref sig .tc .vmem S1x704x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]

abbrev stage0_9 : Fin 2 → Memref sig .tc .vmem S1x512x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]
-- ==== ReferenceFfnIdeal.lean ====
abbrev S4096x1024 : Shape := ⟨2, ![4096, 1024]⟩
abbrev S1024 : Shape := ⟨1, ![1024]⟩
abbrev S1024x2816 : Shape := ⟨2, ![1024, 2816]⟩
abbrev S2816x1024 : Shape := ⟨2, ![2816, 1024]⟩
abbrev S_ : Shape := ⟨0, ![]⟩
abbrev S4096 : Shape := ⟨1, ![4096]⟩
abbrev S4096x1 : Shape := ⟨2, ![4096, 1]⟩
abbrev S1x1024 : Shape := ⟨2, ![1, 1024]⟩
abbrev S4096x2816 : Shape := ⟨2, ![4096, 2816]⟩
abbrev S4x704x1024 : Shape := ⟨3, ![4, 704, 1024]⟩

abbrev nBuf : Space → Nat
  | .hbm => 69
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024, .f32⟩
  | .hbm, ⟨2, _⟩ => ⟨S1024x2816, .f32⟩
  | .hbm, ⟨3, _⟩ => ⟨S1024x2816, .f32⟩
  | .hbm, ⟨4, _⟩ => ⟨S2816x1024, .f32⟩
  | .hbm, ⟨5, _⟩ => ⟨S4096x1024, .f32⟩
  | .hbm, ⟨6, _⟩ => ⟨S4096x1024, .f32⟩
  | .hbm, ⟨7, _⟩ => ⟨S_, .f32⟩
  | .hbm, ⟨8, _⟩ => ⟨S4096, .f32⟩
  | .hbm, ⟨9, _⟩ => ⟨S4096x1, .f32⟩
  | .hbm, ⟨10, _⟩ => ⟨S_, .f32⟩
  | .hbm, ⟨11, _⟩ => ⟨S4096x1, .f32⟩
  | .hbm, ⟨12, _⟩ => ⟨S4096x1, .f32⟩
  | .hbm, ⟨13, _⟩ => ⟨S_, .f32⟩
  | .hbm, ⟨14, _⟩ => ⟨S4096x1, .f32⟩
  | .hbm, ⟨15, _⟩ => ⟨S4096x1, .f32⟩
  | .hbm, ⟨16, _⟩ => ⟨S4096x1, .f32⟩
  | .hbm, ⟨17, _⟩ => ⟨S4096x1024, .f32⟩
  | .hbm, ⟨18, _⟩ => ⟨S4096x1024, .f32⟩
  | .hbm, ⟨19, _⟩ => ⟨S1x1024, .f32⟩
  | .hbm, ⟨20, _⟩ => ⟨S4096x1024, .f32⟩
  | .hbm, ⟨21, _⟩ => ⟨S4096x1024, .f32⟩
  | .hbm, ⟨22, _⟩ => ⟨S4096x2816, .f32⟩
  | .hbm, ⟨23, _⟩ => ⟨S4096x2816, .f32⟩
  | .hbm, ⟨24, _⟩ => ⟨S4096x2816, .f32⟩
  | .hbm, ⟨25, _⟩ => ⟨S_, .f32⟩
  | .hbm, ⟨26, _⟩ => ⟨S4096x2816, .f32⟩
  | .hbm, ⟨27, _⟩ => ⟨S4096x2816, .f32⟩
  | .hbm, ⟨28, _⟩ => ⟨S_, .f32⟩
  | .hbm, ⟨29, _⟩ => ⟨S4096x2816, .f32⟩
  | .hbm, ⟨30, _⟩ => ⟨S4096x2816, .f32⟩
  | .hbm, ⟨31, _⟩ => ⟨S_, .f32⟩
  | .hbm, ⟨32, _⟩ => ⟨S4096x2816, .f32⟩
  | .hbm, ⟨33, _⟩ => ⟨S4096x2816, .f32⟩
  | .hbm, ⟨34, _⟩ => ⟨S4096x2816, .f32⟩
  | .hbm, ⟨35, _⟩ => ⟨S4096x2816, .f32⟩
  | .hbm, ⟨36, _⟩ => ⟨S4096x2816, .f32⟩
  | .hbm, ⟨37, _⟩ => ⟨S4096x2816, .f32⟩
  | .hbm, ⟨38, _⟩ => ⟨S4096x1024, .f32⟩
  | .hbm, ⟨39, _⟩ => ⟨S_, .f32⟩
  | .hbm, ⟨40, _⟩ => ⟨S4096x1024, .f32⟩
  | .hbm, ⟨41, _⟩ => ⟨S4096x1024, .f32⟩
  | .hbm, ⟨42, _⟩ => ⟨S_, .f32⟩
  | .hbm, ⟨43, _⟩ => ⟨S4096x1024, .f32⟩
  | .hbm, ⟨44, _⟩ => ⟨S4096x1024, .f32⟩
  | .hbm, ⟨45, _⟩ => ⟨S1024x2816, .f32⟩
  | .hbm, ⟨46, _⟩ => ⟨S2816x1024, .f32⟩
  | .hbm, ⟨47, _⟩ => ⟨S4096x2816, .f32⟩
  | .hbm, ⟨48, _⟩ => ⟨S4096x2816, .f32⟩
  | .hbm, ⟨49, _⟩ => ⟨S4096x2816, .f32⟩
  | .hbm, ⟨50, _⟩ => ⟨S2816x1024, .f32⟩
  | .hbm, ⟨51, _⟩ => ⟨S1024x2816, .f32⟩
  | .hbm, ⟨52, _⟩ => ⟨S4096x1024, .f32⟩
  | .hbm, ⟨53, _⟩ => ⟨S4096x2816, .f32⟩
  | .hbm, ⟨54, _⟩ => ⟨S4096x2816, .f32⟩
  | .hbm, ⟨55, _⟩ => ⟨S4096x2816, .f32⟩
  | .hbm, ⟨56, _⟩ => ⟨S4096x2816, .f32⟩
  | .hbm, ⟨57, _⟩ => ⟨S2816x1024, .f32⟩
  | .hbm, ⟨58, _⟩ => ⟨S1024x2816, .f32⟩
  | .hbm, ⟨59, _⟩ => ⟨S4096x1024, .f32⟩
  | .hbm, ⟨60, _⟩ => ⟨S4096x1024, .f32⟩
  | .hbm, ⟨61, _⟩ => ⟨S2816x1024, .f32⟩
  | .hbm, ⟨62, _⟩ => ⟨S4x704x1024, .f32⟩
  | .hbm, ⟨63, _⟩ => ⟨S4x704x1024, .bf16⟩
  | .hbm, ⟨64, _⟩ => ⟨S2816x1024, .f32⟩
  | .hbm, ⟨65, _⟩ => ⟨S4x704x1024, .f32⟩
  | .hbm, ⟨66, _⟩ => ⟨S4x704x1024, .bf16⟩
  | .hbm, ⟨67, _⟩ => ⟨S4x704x1024, .f32⟩
  | .hbm, ⟨68, _⟩ => ⟨S4x704x1024, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_cst_1 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_call0_v0 : Ref sig .tc := ⟨.hbm, 23, rfl⟩
abbrev main_call0_v1 : Ref sig .tc := ⟨.hbm, 24, rfl⟩
abbrev main_call0_cst : Ref sig .tc := ⟨.hbm, 25, rfl⟩
abbrev main_call0_v2 : Ref sig .tc := ⟨.hbm, 26, rfl⟩
abbrev main_call0_v3 : Ref sig .tc := ⟨.hbm, 27, rfl⟩
abbrev main_call0_cst_0 : Ref sig .tc := ⟨.hbm, 28, rfl⟩
abbrev main_call0_v4 : Ref sig .tc := ⟨.hbm, 29, rfl⟩
abbrev main_v14_2 : Ref sig .tc := ⟨.hbm, 30, rfl⟩
abbrev main_call0_cst_1 : Ref sig .tc := ⟨.hbm, 31, rfl⟩
abbrev main_call0_v6 : Ref sig .tc := ⟨.hbm, 32, rfl⟩
abbrev main_call0_v7 : Ref sig .tc := ⟨.hbm, 33, rfl⟩
abbrev main_v14_1 : Ref sig .tc := ⟨.hbm, 34, rfl⟩
abbrev main_v14_0 : Ref sig .tc := ⟨.hbm, 35, rfl⟩
abbrev main_v15 : Ref sig .tc := ⟨.hbm, 36, rfl⟩
abbrev main_v16 : Ref sig .tc := ⟨.hbm, 37, rfl⟩
abbrev main_v17 : Ref sig .tc := ⟨.hbm, 38, rfl⟩
abbrev main_cst_2 : Ref sig .tc := ⟨.hbm, 39, rfl⟩
abbrev main_v18 : Ref sig .tc := ⟨.hbm, 40, rfl⟩
abbrev main_v19 : Ref sig .tc := ⟨.hbm, 41, rfl⟩
abbrev main_cst_3 : Ref sig .tc := ⟨.hbm, 42, rfl⟩
abbrev main_v20 : Ref sig .tc := ⟨.hbm, 43, rfl⟩
abbrev main_v21 : Ref sig .tc := ⟨.hbm, 44, rfl⟩
abbrev main_v22 : Ref sig .tc := ⟨.hbm, 45, rfl⟩
abbrev main_v23 : Ref sig .tc := ⟨.hbm, 46, rfl⟩
abbrev main_v24 : Ref sig .tc := ⟨.hbm, 47, rfl⟩
abbrev main_v25 : Ref sig .tc := ⟨.hbm, 48, rfl⟩
abbrev main_v26 : Ref sig .tc := ⟨.hbm, 49, rfl⟩
abbrev main_v27 : Ref sig .tc := ⟨.hbm, 50, rfl⟩
abbrev main_v28 : Ref sig .tc := ⟨.hbm, 51, rfl⟩
abbrev main_v29 : Ref sig .tc := ⟨.hbm, 52, rfl⟩
abbrev main_call1_v0 : Ref sig .tc := ⟨.hbm, 53, rfl⟩
abbrev main_call1_v1 : Ref sig .tc := ⟨.hbm, 54, rfl⟩
abbrev main_call1_v2 : Ref sig .tc := ⟨.hbm, 55, rfl⟩
abbrev main_v30 : Ref sig .tc := ⟨.hbm, 56, rfl⟩
abbrev main_v31 : Ref sig .tc := ⟨.hbm, 57, rfl⟩
abbrev main_v32 : Ref sig .tc := ⟨.hbm, 58, rfl⟩
abbrev main_v33 : Ref sig .tc := ⟨.hbm, 59, rfl⟩
abbrev main_v34 : Ref sig .tc := ⟨.hbm, 60, rfl⟩
abbrev main_v35 : Ref sig .tc := ⟨.hbm, 61, rfl⟩
abbrev main_v36 : Ref sig .tc := ⟨.hbm, 62, rfl⟩
abbrev main_v37 : Ref sig .tc := ⟨.hbm, 63, rfl⟩
abbrev main_v38 : Ref sig .tc := ⟨.hbm, 64, rfl⟩
abbrev main_v39 : Ref sig .tc := ⟨.hbm, 65, rfl⟩
abbrev main_v40 : Ref sig .tc := ⟨.hbm, 66, rfl⟩
abbrev main_v41 : Ref sig .tc := ⟨.hbm, 67, rfl⟩
abbrev main_v42 : Ref sig .tc := ⟨.hbm, 68, rfl⟩

abbrev nD : Nat := 1
abbrev τ : Topo := Topo.v7x

variable {F : FTy → Type} [FloatOps F]
-- ==== KernelConvFwd.lean ====
abbrev S4096x1536 : Shape := ⟨2, ![4096, 1536]⟩
abbrev S4x1536 : Shape := ⟨2, ![4, 1536]⟩
abbrev S_ : Shape := ⟨0, ![]⟩
abbrev S8x1536 : Shape := ⟨2, ![8, 1536]⟩
abbrev S256x1536 : Shape := ⟨2, ![256, 1536]⟩
abbrev S264x1536 : Shape := ⟨2, ![264, 1536]⟩
abbrev S1x1536 : Shape := ⟨2, ![1, 1536]⟩

abbrev nBuf : Space → Nat
  | .hbm => 6
  | .vmem => 7
  | .smem => 0
  | _ => 0

abbrev bufTy : (tb : Table) → Fin (tcTables nBuf tb) → BufTy
  | .hbm, ⟨0, _⟩ => ⟨S4096x1536, .f32⟩
  | .hbm, ⟨1, _⟩ => ⟨S4x1536, .f32⟩
  | .hbm, ⟨2, _⟩ => ⟨S_, .i32⟩
  | .hbm, ⟨3, _⟩ => ⟨S_, .f32⟩
  | .hbm, ⟨4, _⟩ => ⟨S8x1536, .f32⟩
  | .hbm, ⟨5, _⟩ => ⟨S4096x1536, .f32⟩
  | .local _ .vmem, ⟨0, _⟩ => ⟨S256x1536, .f32⟩
  | .local _ .vmem, ⟨1, _⟩ => ⟨S256x1536, .f32⟩
  | .local _ .vmem, ⟨2, _⟩ => ⟨S8x1536, .f32⟩
  | .local _ .vmem, ⟨3, _⟩ => ⟨S8x1536, .f32⟩
  | .local _ .vmem, ⟨4, _⟩ => ⟨S8x1536, .f32⟩
  | .local _ .vmem, ⟨5, _⟩ => ⟨S256x1536, .f32⟩
  | .local _ .vmem, ⟨6, _⟩ => ⟨S256x1536, .f32⟩
  | _, _ => ⟨S4096x1536, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c : Ref sig .tc := ⟨.hbm, 2, rfl⟩
abbrev main_call0_v0 : Ref sig .tc := ⟨.hbm, 3, rfl⟩
abbrev main_v0 : Ref sig .tc := ⟨.hbm, 4, rfl⟩
abbrev main_v1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c32_i32 : BitVec 32 := 32#32
  let v0 : BitVec 32 := Scalar.muli arg0 c32_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![v2.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1536 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8x1536 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S8x1536 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S256x1536 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== ReferenceConvFwdIdeal.lean ====
abbrev S4096x1536 : Shape := ⟨2, ![4096, 1536]⟩
abbrev S4x1536 : Shape := ⟨2, ![4, 1536]⟩
abbrev S_ : Shape := ⟨0, ![]⟩
abbrev S3x1536 : Shape := ⟨2, ![3, 1536]⟩
abbrev S4099x1536 : Shape := ⟨2, ![4099, 1536]⟩
abbrev S1x1536 : Shape := ⟨2, ![1, 1536]⟩
abbrev S1536 : Shape := ⟨1, ![1536]⟩

abbrev nBuf : Space → Nat
  | .hbm => 35
  | .vmem => 0
  | .smem => 0
  | _ => 0

abbrev bufTy : (tb : Table) → Fin (tcTables nBuf tb) → BufTy
  | .hbm, ⟨0, _⟩ => ⟨S4096x1536, .f32⟩
  | .hbm, ⟨1, _⟩ => ⟨S4x1536, .f32⟩
  | .hbm, ⟨2, _⟩ => ⟨S_, .f32⟩
  | .hbm, ⟨3, _⟩ => ⟨S3x1536, .f32⟩
  | .hbm, ⟨4, _⟩ => ⟨S4099x1536, .f32⟩
  | .hbm, ⟨5, _⟩ => ⟨S1x1536, .f32⟩
  | .hbm, ⟨6, _⟩ => ⟨S1536, .f32⟩
  | .hbm, ⟨7, _⟩ => ⟨S4096x1536, .f32⟩
  | .hbm, ⟨8, _⟩ => ⟨S1x1536, .f32⟩
  | .hbm, ⟨9, _⟩ => ⟨S4096x1536, .f32⟩
  | .hbm, ⟨10, _⟩ => ⟨S4096x1536, .f32⟩
  | .hbm, ⟨11, _⟩ => ⟨S_, .f32⟩
  | .hbm, ⟨12, _⟩ => ⟨S4096x1536, .f32⟩
  | .hbm, ⟨13, _⟩ => ⟨S4096x1536, .f32⟩
  | .hbm, ⟨14, _⟩ => ⟨S1x1536, .f32⟩
  | .hbm, ⟨15, _⟩ => ⟨S1536, .f32⟩
  | .hbm, ⟨16, _⟩ => ⟨S4096x1536, .f32⟩
  | .hbm, ⟨17, _⟩ => ⟨S1x1536, .f32⟩
  | .hbm, ⟨18, _⟩ => ⟨S4096x1536, .f32⟩
  | .hbm, ⟨19, _⟩ => ⟨S4096x1536, .f32⟩
  | .hbm, ⟨20, _⟩ => ⟨S4096x1536, .f32⟩
  | .hbm, ⟨21, _⟩ => ⟨S1x1536, .f32⟩
  | .hbm, ⟨22, _⟩ => ⟨S1536, .f32⟩
  | .hbm, ⟨23, _⟩ => ⟨S4096x1536, .f32⟩
  | .hbm, ⟨24, _⟩ => ⟨S1x1536, .f32⟩
  | .hbm, ⟨25, _⟩ => ⟨S4096x1536, .f32⟩
  | .hbm, ⟨26, _⟩ => ⟨S4096x1536, .f32⟩
  | .hbm, ⟨27, _⟩ => ⟨S4096x1536, .f32⟩
  | .hbm, ⟨28, _⟩ => ⟨S1x1536, .f32⟩
  | .hbm, ⟨29, _⟩ => ⟨S1536, .f32⟩
  | .hbm, ⟨30, _⟩ => ⟨S4096x1536, .f32⟩
  | .hbm, ⟨31, _⟩ => ⟨S1x1536, .f32⟩
  | .hbm, ⟨32, _⟩ => ⟨S4096x1536, .f32⟩
  | .hbm, ⟨33, _⟩ => ⟨S4096x1536, .f32⟩
  | .hbm, ⟨34, _⟩ => ⟨S4096x1536, .f32⟩
  | _, _ => ⟨S4096x1536, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_cst_0 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev main_v23 : Ref sig .tc := ⟨.hbm, 27, rfl⟩
abbrev main_v24 : Ref sig .tc := ⟨.hbm, 28, rfl⟩
abbrev main_v25 : Ref sig .tc := ⟨.hbm, 29, rfl⟩
abbrev main_v26 : Ref sig .tc := ⟨.hbm, 30, rfl⟩
abbrev main_v27 : Ref sig .tc := ⟨.hbm, 31, rfl⟩
abbrev main_v28 : Ref sig .tc := ⟨.hbm, 32, rfl⟩
abbrev main_v29 : Ref sig .tc := ⟨.hbm, 33, rfl⟩
abbrev main_v30 : Ref sig .tc := ⟨.hbm, 34, rfl⟩

abbrev nD : Nat := 1
abbrev τ : Topo := Topo.v7x

variable {F : FTy → Type} [FloatOps F]
-- ==== KernelPostFwd.lean ====
abbrev S4096x512 : Shape := ⟨2, ![4096, 512]⟩
abbrev S128 : Shape := ⟨1, ![128]⟩
abbrev S1x128 : Shape := ⟨2, ![1, 128]⟩
abbrev S512x512 : Shape := ⟨2, ![512, 512]⟩
abbrev S512x128 : Shape := ⟨2, ![512, 128]⟩
abbrev S512 : Shape := ⟨1, ![512]⟩
abbrev S512x1 : Shape := ⟨2, ![512, 1]⟩

abbrev nBuf : Space → Nat
  | .hbm => 5
  | .vmem => 7
  | .smem => 0
  | _ => 0

abbrev bufTy : (tb : Table) → Fin (tcTables nBuf tb) → BufTy
  | .hbm, ⟨0, _⟩ => ⟨S4096x512, .f32⟩
  | .hbm, ⟨1, _⟩ => ⟨S4096x512, .f32⟩
  | .hbm, ⟨2, _⟩ => ⟨S128, .f32⟩
  | .hbm, ⟨3, _⟩ => ⟨S1x128, .f32⟩
  | .hbm, ⟨4, _⟩ => ⟨S4096x512, .f32⟩
  | .local _ .vmem, ⟨0, _⟩ => ⟨S512x512, .f32⟩
  | .local _ .vmem, ⟨1, _⟩ => ⟨S512x512, .f32⟩
  | .local _ .vmem, ⟨2, _⟩ => ⟨S512x512, .f32⟩
  | .local _ .vmem, ⟨3, _⟩ => ⟨S512x512, .f32⟩
  | .local _ .vmem, ⟨4, _⟩ => ⟨S1x128, .f32⟩
  | .local _ .vmem, ⟨5, _⟩ => ⟨S512x512, .f32⟩
  | .local _ .vmem, ⟨6, _⟩ => ⟨S512x512, .f32⟩
  | _, _ => ⟨S4096x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== ReferencePostFwdIdeal.lean ====
abbrev S4096x512 : Shape := ⟨2, ![4096, 512]⟩
abbrev S128 : Shape := ⟨1, ![128]⟩
abbrev S4096x4x128 : Shape := ⟨3, ![4096, 4, 128]⟩
abbrev S_ : Shape := ⟨0, ![]⟩
abbrev S4096x4 : Shape := ⟨2, ![4096, 4]⟩
abbrev S4096x4x1 : Shape := ⟨3, ![4096, 4, 1]⟩
abbrev S1x1x128 : Shape := ⟨3, ![1, 1, 128]⟩

abbrev nBuf : Space → Nat
  | .hbm => 32
  | .vmem => 0
  | .smem => 0
  | _ => 0

abbrev bufTy : (tb : Table) → Fin (tcTables nBuf tb) → BufTy
  | .hbm, ⟨0, _⟩ => ⟨S4096x512, .f32⟩
  | .hbm, ⟨1, _⟩ => ⟨S4096x512, .f32⟩
  | .hbm, ⟨2, _⟩ => ⟨S128, .f32⟩
  | .hbm, ⟨3, _⟩ => ⟨S4096x4x128, .f32⟩
  | .hbm, ⟨4, _⟩ => ⟨S4096x4x128, .f32⟩
  | .hbm, ⟨5, _⟩ => ⟨S_, .f32⟩
  | .hbm, ⟨6, _⟩ => ⟨S4096x4, .f32⟩
  | .hbm, ⟨7, _⟩ => ⟨S4096x4x1, .f32⟩
  | .hbm, ⟨8, _⟩ => ⟨S_, .f32⟩
  | .hbm, ⟨9, _⟩ => ⟨S4096x4x1, .f32⟩
  | .hbm, ⟨10, _⟩ => ⟨S4096x4x1, .f32⟩
  | .hbm, ⟨11, _⟩ => ⟨S_, .f32⟩
  | .hbm, ⟨12, _⟩ => ⟨S4096x4x1, .f32⟩
  | .hbm, ⟨13, _⟩ => ⟨S4096x4x1, .f32⟩
  | .hbm, ⟨14, _⟩ => ⟨S4096x4x1, .f32⟩
  | .hbm, ⟨15, _⟩ => ⟨S4096x4x128, .f32⟩
  | .hbm, ⟨16, _⟩ => ⟨S4096x4x128, .f32⟩
  | .hbm, ⟨17, _⟩ => ⟨S1x1x128, .f32⟩
  | .hbm, ⟨18, _⟩ => ⟨S4096x4x128, .f32⟩
  | .hbm, ⟨19, _⟩ => ⟨S4096x4x128, .f32⟩
  | .hbm, ⟨20, _⟩ => ⟨S4096x4x128, .f32⟩
  | .hbm, ⟨21, _⟩ => ⟨S4096x4x128, .f32⟩
  | .hbm, ⟨22, _⟩ => ⟨S4096x4x128, .f32⟩
  | .hbm, ⟨23, _⟩ => ⟨S_, .f32⟩
  | .hbm, ⟨24, _⟩ => ⟨S4096x4x128, .f32⟩
  | .hbm, ⟨25, _⟩ => ⟨S4096x4x128, .f32⟩
  | .hbm, ⟨26, _⟩ => ⟨S_, .f32⟩
  | .hbm, ⟨27, _⟩ => ⟨S4096x4x128, .f32⟩
  | .hbm, ⟨28, _⟩ => ⟨S4096x4x128, .f32⟩
  | .hbm, ⟨29, _⟩ => ⟨S4096x4x128, .f32⟩
  | .hbm, ⟨30, _⟩ => ⟨S4096x4x128, .f32⟩
  | .hbm, ⟨31, _⟩ => ⟨S4096x512, .f32⟩
  | _, _ => ⟨S4096x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_cst_1 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_call0_v0 : Ref sig .tc := ⟨.hbm, 21, rfl⟩
abbrev main_call0_v1 : Ref sig .tc := ⟨.hbm, 22, rfl⟩
abbrev main_call0_cst : Ref sig .tc := ⟨.hbm, 23, rfl⟩
abbrev main_call0_v2 : Ref sig .tc := ⟨.hbm, 24, rfl⟩
abbrev main_call0_v3 : Ref sig .tc := ⟨.hbm, 25, rfl⟩
abbrev main_call0_cst_0 : Ref sig .tc := ⟨.hbm, 26, rfl⟩
abbrev main_call0_v4 : Ref sig .tc := ⟨.hbm, 27, rfl⟩
abbrev main_call0_v5 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩

abbrev nD : Nat := 1
abbrev τ : Topo := Topo.v7x

variable {F : FTy → Type} [FloatOps F]
-- ==== KernelPoolFwd.lean ====
abbrev S4096x256 : Shape := ⟨2, ![4096, 256]⟩
abbrev S4x64x64 : Shape := ⟨3, ![4, 64, 64]⟩
abbrev S256 : Shape := ⟨1, ![256]⟩
abbrev S1x64x64 : Shape := ⟨3, ![1, 64, 64]⟩
abbrev S64x64 : Shape := ⟨2, ![64, 64]⟩
abbrev S_ : Shape := ⟨0, ![]⟩
abbrev S64x256 : Shape := ⟨2, ![64, 256]⟩
abbrev S256x256 : Shape := ⟨2, ![256, 256]⟩
abbrev S1x256 : Shape := ⟨2, ![1, 256]⟩
abbrev S512x256 : Shape := ⟨2, ![512, 256]⟩
abbrev S16x256 : Shape := ⟨2, ![16, 256]⟩
abbrev S528x256 : Shape := ⟨2, ![528, 256]⟩

abbrev nBuf : Space → Nat
  | .hbm => 27
  | .vmem => 8
  | .smem => 0
  | _ => 0

abbrev bufTy : (tb : Table) → Fin (tcTables nBuf tb) → BufTy
  | .hbm, ⟨0, _⟩ => ⟨S4096x256, .f32⟩
  | .hbm, ⟨1, _⟩ => ⟨S4x64x64, .f32⟩
  | .hbm, ⟨2, _⟩ => ⟨S256, .f32⟩
  | .hbm, ⟨3, _⟩ => ⟨S1x64x64, .f32⟩
  | .hbm, ⟨4, _⟩ => ⟨S64x64, .f32⟩
  | .hbm, ⟨5, _⟩ => ⟨S_, .i32⟩
  | .hbm, ⟨6, _⟩ => ⟨S_, .f32⟩
  | .hbm, ⟨7, _⟩ => ⟨S64x256, .f32⟩
  | .hbm, ⟨8, _⟩ => ⟨S1x64x64, .f32⟩
  | .hbm, ⟨9, _⟩ => ⟨S64x64, .f32⟩
  | .hbm, ⟨10, _⟩ => ⟨S_, .i32⟩
  | .hbm, ⟨11, _⟩ => ⟨S_, .f32⟩
  | .hbm, ⟨12, _⟩ => ⟨S64x256, .f32⟩
  | .hbm, ⟨13, _⟩ => ⟨S1x64x64, .f32⟩
  | .hbm, ⟨14, _⟩ => ⟨S64x64, .f32⟩
  | .hbm, ⟨15, _⟩ => ⟨S_, .i32⟩
  | .hbm, ⟨16, _⟩ => ⟨S_, .f32⟩
  | .hbm, ⟨17, _⟩ => ⟨S64x256, .f32⟩
  | .hbm, ⟨18, _⟩ => ⟨S1x64x64, .f32⟩
  | .hbm, ⟨19, _⟩ => ⟨S64x64, .f32⟩
  | .hbm, ⟨20, _⟩ => ⟨S_, .i32⟩
  | .hbm, ⟨21, _⟩ => ⟨S_, .f32⟩
  | .hbm, ⟨22, _⟩ => ⟨S64x256, .f32⟩
  | .hbm, ⟨23, _⟩ => ⟨S256x256, .f32⟩
  | .hbm, ⟨24, _⟩ => ⟨S256x256, .bf16⟩
  | .hbm, ⟨25, _⟩ => ⟨S1x256, .f32⟩
  | .hbm, ⟨26, _⟩ => ⟨S4096x256, .f32⟩
  | .local _ .vmem, ⟨0, _⟩ => ⟨S512x256, .f32⟩
  | .local _ .vmem, ⟨1, _⟩ => ⟨S512x256, .f32⟩
  | .local _ .vmem, ⟨2, _⟩ => ⟨S16x256, .f32⟩
  | .local _ .vmem, ⟨3, _⟩ => ⟨S16x256, .f32⟩
  | .local _ .vmem, ⟨4, _⟩ => ⟨S256x256, .bf16⟩
  | .local _ .vmem, ⟨5, _⟩ => ⟨S1x256, .f32⟩
  | .local _ .vmem, ⟨6, _⟩ => ⟨S512x256, .f32⟩
  | .local _ .vmem, ⟨7, _⟩ => ⟨S512x256, .f32⟩
  | _, _ => ⟨S4096x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_c : Ref sig .tc := ⟨.hbm, 5, rfl⟩
abbrev main_call0_v0 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_c_0 : Ref sig .tc := ⟨.hbm, 10, rfl⟩
abbrev main_call1_v0 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_c_1 : Ref sig .tc := ⟨.hbm, 15, rfl⟩
abbrev main_call2_v0 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_c_2 : Ref sig .tc := ⟨.hbm, 20, rfl⟩
abbrev main_call3_v0 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c32_i32 : BitVec 32 := 32#32
  let v0 : BitVec 32 := Scalar.muli arg0 c32_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![v2.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S16x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S256x256 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== ReferencePoolFwdIdeal.lean ====
abbrev S4096x256 : Shape := ⟨2, ![4096, 256]⟩
abbrev S4x64x64 : Shape := ⟨3, ![4, 64, 64]⟩
abbrev S256 : Shape := ⟨1, ![256]⟩
abbrev S4096x4x64 : Shape := ⟨3, ![4096, 4, 64]⟩
abbrev S_ : Shape := ⟨0, ![]⟩
abbrev S4096 : Shape := ⟨1, ![4096]⟩
abbrev S4096x1x64 : Shape := ⟨3, ![4096, 1, 64]⟩
abbrev S4096x64 : Shape := ⟨2, ![4096, 64]⟩
abbrev S2x64 : Shape := ⟨2, ![2, 64]⟩
abbrev S4094x64 : Shape := ⟨2, ![4094, 64]⟩
abbrev S4096x1 : Shape := ⟨2, ![4096, 1]⟩
abbrev S4x64 : Shape := ⟨2, ![4, 64]⟩
abbrev S4092x64 : Shape := ⟨2, ![4092, 64]⟩
abbrev S8x64 : Shape := ⟨2, ![8, 64]⟩
abbrev S4088x64 : Shape := ⟨2, ![4088, 64]⟩
abbrev S16x64 : Shape := ⟨2, ![16, 64]⟩
abbrev S4080x64 : Shape := ⟨2, ![4080, 64]⟩
abbrev S4x64x4096 : Shape := ⟨3, ![4, 64, 4096]⟩
abbrev S1x256 : Shape := ⟨2, ![1, 256]⟩

abbrev nBuf : Space → Nat
  | .hbm => 88
  | .vmem => 0
  | .smem => 0
  | _ => 0

abbrev bufTy : (tb : Table) → Fin (tcTables nBuf tb) → BufTy
  | .hbm, ⟨0, _⟩ => ⟨S4096x256, .f32⟩
  | .hbm, ⟨1, _⟩ => ⟨S4x64x64, .f32⟩
  | .hbm, ⟨2, _⟩ => ⟨S256, .f32⟩
  | .hbm, ⟨3, _⟩ => ⟨S4096x4x64, .f32⟩
  | .hbm, ⟨4, _⟩ => ⟨S_, .f32⟩
  | .hbm, ⟨5, _⟩ => ⟨S_, .f32⟩
  | .hbm, ⟨6, _⟩ => ⟨S4096x4x64, .f32⟩
  | .hbm, ⟨7, _⟩ => ⟨S4096, .i32⟩
  | .hbm, ⟨8, _⟩ => ⟨S4096x1x64, .f32⟩
  | .hbm, ⟨9, _⟩ => ⟨S4096x64, .f32⟩
  | .hbm, ⟨10, _⟩ => ⟨S_, .f32⟩
  | .hbm, ⟨11, _⟩ => ⟨S2x64, .f32⟩
  | .hbm, ⟨12, _⟩ => ⟨S4094x64, .f32⟩
  | .hbm, ⟨13, _⟩ => ⟨S4096x64, .f32⟩
  | .hbm, ⟨14, _⟩ => ⟨S_, .i32⟩
  | .hbm, ⟨15, _⟩ => ⟨S4096, .i32⟩
  | .hbm, ⟨16, _⟩ => ⟨S4096, .i32⟩
  | .hbm, ⟨17, _⟩ => ⟨S_, .i32⟩
  | .hbm, ⟨18, _⟩ => ⟨S4096, .i32⟩
  | .hbm, ⟨19, _⟩ => ⟨S4096, .i32⟩
  | .hbm, ⟨20, _⟩ => ⟨S4096, .f32⟩
  | .hbm, ⟨21, _⟩ => ⟨S4096x1, .f32⟩
  | .hbm, ⟨22, _⟩ => ⟨S4096x64, .f32⟩
  | .hbm, ⟨23, _⟩ => ⟨S4096x64, .f32⟩
  | .hbm, ⟨24, _⟩ => ⟨S4096x64, .f32⟩
  | .hbm, ⟨25, _⟩ => ⟨S4096x1x64, .f32⟩
  | .hbm, ⟨26, _⟩ => ⟨S4096x64, .f32⟩
  | .hbm, ⟨27, _⟩ => ⟨S_, .f32⟩
  | .hbm, ⟨28, _⟩ => ⟨S4x64, .f32⟩
  | .hbm, ⟨29, _⟩ => ⟨S4092x64, .f32⟩
  | .hbm, ⟨30, _⟩ => ⟨S4096x64, .f32⟩
  | .hbm, ⟨31, _⟩ => ⟨S_, .i32⟩
  | .hbm, ⟨32, _⟩ => ⟨S4096, .i32⟩
  | .hbm, ⟨33, _⟩ => ⟨S4096, .i32⟩
  | .hbm, ⟨34, _⟩ => ⟨S_, .i32⟩
  | .hbm, ⟨35, _⟩ => ⟨S4096, .i32⟩
  | .hbm, ⟨36, _⟩ => ⟨S4096, .i32⟩
  | .hbm, ⟨37, _⟩ => ⟨S4096, .f32⟩
  | .hbm, ⟨38, _⟩ => ⟨S4096x1, .f32⟩
  | .hbm, ⟨39, _⟩ => ⟨S4096x64, .f32⟩
  | .hbm, ⟨40, _⟩ => ⟨S4096x64, .f32⟩
  | .hbm, ⟨41, _⟩ => ⟨S4096x64, .f32⟩
  | .hbm, ⟨42, _⟩ => ⟨S4096x1x64, .f32⟩
  | .hbm, ⟨43, _⟩ => ⟨S4096x64, .f32⟩
  | .hbm, ⟨44, _⟩ => ⟨S_, .f32⟩
  | .hbm, ⟨45, _⟩ => ⟨S8x64, .f32⟩
  | .hbm, ⟨46, _⟩ => ⟨S4088x64, .f32⟩
  | .hbm, ⟨47, _⟩ => ⟨S4096x64, .f32⟩
  | .hbm, ⟨48, _⟩ => ⟨S_, .i32⟩
  | .hbm, ⟨49, _⟩ => ⟨S4096, .i32⟩
  | .hbm, ⟨50, _⟩ => ⟨S4096, .i32⟩
  | .hbm, ⟨51, _⟩ => ⟨S_, .i32⟩
  | .hbm, ⟨52, _⟩ => ⟨S4096, .i32⟩
  | .hbm, ⟨53, _⟩ => ⟨S4096, .i32⟩
  | .hbm, ⟨54, _⟩ => ⟨S4096, .f32⟩
  | .hbm, ⟨55, _⟩ => ⟨S4096x1, .f32⟩
  | .hbm, ⟨56, _⟩ => ⟨S4096x64, .f32⟩
  | .hbm, ⟨57, _⟩ => ⟨S4096x64, .f32⟩
  | .hbm, ⟨58, _⟩ => ⟨S4096x64, .f32⟩
  | .hbm, ⟨59, _⟩ => ⟨S4096x1x64, .f32⟩
  | .hbm, ⟨60, _⟩ => ⟨S4096x64, .f32⟩
  | .hbm, ⟨61, _⟩ => ⟨S_, .f32⟩
  | .hbm, ⟨62, _⟩ => ⟨S16x64, .f32⟩
  | .hbm, ⟨63, _⟩ => ⟨S4080x64, .f32⟩
  | .hbm, ⟨64, _⟩ => ⟨S4096x64, .f32⟩
  | .hbm, ⟨65, _⟩ => ⟨S_, .i32⟩
  | .hbm, ⟨66, _⟩ => ⟨S4096, .i32⟩
  | .hbm, ⟨67, _⟩ => ⟨S4096, .i32⟩
  | .hbm, ⟨68, _⟩ => ⟨S_, .i32⟩
  | .hbm, ⟨69, _⟩ => ⟨S4096, .i32⟩
  | .hbm, ⟨70, _⟩ => ⟨S4096, .i32⟩
  | .hbm, ⟨71, _⟩ => ⟨S4096, .f32⟩
  | .hbm, ⟨72, _⟩ => ⟨S4096x1, .f32⟩
  | .hbm, ⟨73, _⟩ => ⟨S4096x64, .f32⟩
  | .hbm, ⟨74, _⟩ => ⟨S4096x64, .f32⟩
  | .hbm, ⟨75, _⟩ => ⟨S4096x64, .f32⟩
  | .hbm, ⟨76, _⟩ => ⟨S4096x1x64, .f32⟩
  | .hbm, ⟨77, _⟩ => ⟨S4096x1x64, .f32⟩
  | .hbm, ⟨78, _⟩ => ⟨S4096x1x64, .f32⟩
  | .hbm, ⟨79, _⟩ => ⟨S4096x1x64, .f32⟩
  | .hbm, ⟨80, _⟩ => ⟨S4096x4x64, .f32⟩
  | .hbm, ⟨81, _⟩ => ⟨S4096x4x64, .f32⟩
  | .hbm, ⟨82, _⟩ => ⟨S4x64x4096, .f32⟩
  | .hbm, ⟨83, _⟩ => ⟨S4096x4x64, .f32⟩
  | .hbm, ⟨84, _⟩ => ⟨S4096x256, .f32⟩
  | .hbm, ⟨85, _⟩ => ⟨S1x256, .f32⟩
  | .hbm, ⟨86, _⟩ => ⟨S4096x256, .f32⟩
  | .hbm, ⟨87, _⟩ => ⟨S4096x256, .f32⟩
  | _, _ => ⟨S4096x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_call0_call0_cst : Ref sig .tc := ⟨.hbm, 4, rfl⟩
abbrev main_call0_call0_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_cst : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_c : Ref sig .tc := ⟨.hbm, 14, rfl⟩
abbrev main_v8 : Ref sig .tc := ⟨.hbm, 15, rfl⟩
abbrev main_v9 : Ref sig .tc := ⟨.hbm, 16, rfl⟩
abbrev main_c_0 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_cst_1 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_c_2 : Ref sig .tc := ⟨.hbm, 31, rfl⟩
abbrev main_v22 : Ref sig .tc := ⟨.hbm, 32, rfl⟩
abbrev main_v23 : Ref sig .tc := ⟨.hbm, 33, rfl⟩
abbrev main_c_3 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_cst_4 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_c_5 : Ref sig .tc := ⟨.hbm, 48, rfl⟩
abbrev main_v36 : Ref sig .tc := ⟨.hbm, 49, rfl⟩
abbrev main_v37 : Ref sig .tc := ⟨.hbm, 50, rfl⟩
abbrev main_c_6 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_cst_7 : Ref sig .tc := ⟨.hbm, 61, rfl⟩
abbrev main_v47 : Ref sig .tc := ⟨.hbm, 62, rfl⟩
abbrev main_v48 : Ref sig .tc := ⟨.hbm, 63, rfl⟩
abbrev main_v49 : Ref sig .tc := ⟨.hbm, 64, rfl⟩
abbrev main_c_8 : Ref sig .tc := ⟨.hbm, 65, rfl⟩
abbrev main_v50 : Ref sig .tc := ⟨.hbm, 66, rfl⟩
abbrev main_v51 : Ref sig .tc := ⟨.hbm, 67, rfl⟩
abbrev main_c_9 : Ref sig .tc := ⟨.hbm, 68, rfl⟩
abbrev main_v52 : Ref sig .tc := ⟨.hbm, 69, rfl⟩
abbrev main_v53 : Ref sig .tc := ⟨.hbm, 70, rfl⟩
abbrev main_v54 : Ref sig .tc := ⟨.hbm, 71, rfl⟩
abbrev main_v55 : Ref sig .tc := ⟨.hbm, 72, rfl⟩
abbrev main_v56 : Ref sig .tc := ⟨.hbm, 73, rfl⟩
abbrev main_v57 : Ref sig .tc := ⟨.hbm, 74, rfl⟩
abbrev main_v58 : Ref sig .tc := ⟨.hbm, 75, rfl⟩
abbrev main_v59 : Ref sig .tc := ⟨.hbm, 76, rfl⟩
abbrev main_v60 : Ref sig .tc := ⟨.hbm, 77, rfl⟩
abbrev main_v61 : Ref sig .tc := ⟨.hbm, 78, rfl⟩
abbrev main_v62 : Ref sig .tc := ⟨.hbm, 79, rfl⟩
abbrev main_v63 : Ref sig .tc := ⟨.hbm, 80, rfl⟩
abbrev main_v64 : Ref sig .tc := ⟨.hbm, 81, rfl⟩
abbrev main_v65 : Ref sig .tc := ⟨.hbm, 82, rfl⟩
abbrev main_v66 : Ref sig .tc := ⟨.hbm, 83, rfl⟩
abbrev main_v67 : Ref sig .tc := ⟨.hbm, 84, rfl⟩
abbrev main_v68 : Ref sig .tc := ⟨.hbm, 85, rfl⟩
abbrev main_v69 : Ref sig .tc := ⟨.hbm, 86, rfl⟩
abbrev main_v70 : Ref sig .tc := ⟨.hbm, 87, rfl⟩

abbrev nD : Nat := 1
abbrev τ : Topo := Topo.v7x

variable {F : FTy → Type} [FloatOps F]
-- ==== KernelFfnFwd.lean ====
abbrev S4096x1024 : Shape := ⟨2, ![4096, 1024]⟩
abbrev S1024 : Shape := ⟨1, ![1024]⟩
abbrev S1024x2816 : Shape := ⟨2, ![1024, 2816]⟩
abbrev S2816x1024 : Shape := ⟨2, ![2816, 1024]⟩
abbrev S1x1024 : Shape := ⟨2, ![1, 1024]⟩
abbrev S4x704x1024 : Shape := ⟨3, ![4, 704, 1024]⟩
abbrev S4x2112x1024 : Shape := ⟨3, ![4, 2112, 1024]⟩
abbrev S512x1024 : Shape := ⟨2, ![512, 1024]⟩
abbrev S1x704x1024 : Shape := ⟨3, ![1, 704, 1024]⟩
abbrev S512 : Shape := ⟨1, ![512]⟩
abbrev S512x1 : Shape := ⟨2, ![512, 1]⟩
abbrev S704x1024 : Shape := ⟨2, ![704, 1024]⟩
abbrev S512x704 : Shape := ⟨2, ![512, 704]⟩

abbrev nBuf : Space → Nat
  | .hbm => 14
  | .vmem => 13
  | .smem => 0
  | _ => 0

abbrev bufTy : (tb : Table) → Fin (tcTables nBuf tb) → BufTy
  | .hbm, ⟨0, _⟩ => ⟨S4096x1024, .f32⟩
  | .hbm, ⟨1, _⟩ => ⟨S1024, .f32⟩
  | .hbm, ⟨2, _⟩ => ⟨S1024x2816, .f32⟩
  | .hbm, ⟨3, _⟩ => ⟨S1024x2816, .f32⟩
  | .hbm, ⟨4, _⟩ => ⟨S2816x1024, .f32⟩
  | .hbm, ⟨5, _⟩ => ⟨S1x1024, .f32⟩
  | .hbm, ⟨6, _⟩ => ⟨S2816x1024, .f32⟩
  | .hbm, ⟨7, _⟩ => ⟨S4x704x1024, .f32⟩
  | .hbm, ⟨8, _⟩ => ⟨S2816x1024, .f32⟩
  | .hbm, ⟨9, _⟩ => ⟨S4x704x1024, .f32⟩
  | .hbm, ⟨10, _⟩ => ⟨S4x704x1024, .f32⟩
  | .hbm, ⟨11, _⟩ => ⟨S4x2112x1024, .f32⟩
  | .hbm, ⟨12, _⟩ => ⟨S4x2112x1024, .bf16⟩
  | .hbm, ⟨13, _⟩ => ⟨S4096x1024, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1x704x1024, .bf16⟩
  | .local _ .vmem, ⟨4, _⟩ => ⟨S1x704x1024, .bf16⟩
  | .local _ .vmem, ⟨5, _⟩ => ⟨S1x704x1024, .bf16⟩
  | .local _ .vmem, ⟨6, _⟩ => ⟨S1x704x1024, .bf16⟩
  | .local _ .vmem, ⟨7, _⟩ => ⟨S1x704x1024, .bf16⟩
  | .local _ .vmem, ⟨8, _⟩ => ⟨S1x704x1024, .bf16⟩
  | .local _ .vmem, ⟨9, _⟩ => ⟨S512x1024, .f32⟩
  | .local _ .vmem, ⟨10, _⟩ => ⟨S512x1024, .f32⟩
  | .local _ .vmem, ⟨11, _⟩ => ⟨S512x1024, .bf16⟩
  | .local _ .vmem, ⟨12, _⟩ => ⟨S512x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_scratch0 : Ref sig .tc := ⟨.vmem, 11, rfl⟩
abbrev cc0_scratch1 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨2, ![8, 4], ![false, false]⟩

def k0_cond2 (i : grid0.Coords) : BitVec 1 :=
  let arg1 : BitVec 32 := BitVec.ofNat 32 (i 1).val
  let c3_i32 : BitVec 32 := 3#32
  let v22 : BitVec 1 := Scalar.cmpi .eq arg1 c3_i32
  let v23 : BitVec 32 := Scalar.extui v22
  let c0_i32_17 : BitVec 32 := 0#32
  let v24 : BitVec 1 := Scalar.cmpi .ne v23 c0_i32_17
  v24

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  ![arg1.toNat, c1_i32.toNat, c0_i32.toNat]

def cc0_transform_4 (i : grid0.Coords) : Fin 3 → Nat :=
  let arg0 : BitVec 32 := BitVec.ofNat 32 (i 0).val
  let arg1 : BitVec 32 := BitVec.ofNat 32 (i 1).val
  let c2_i32 : BitVec 32 := 2#32
  let c0_i32 : BitVec 32 := 0#32
  let c0_i32_0 : BitVec 32 := 0#32
  ![arg1.toNat, c2_i32.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x704x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1x704x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1x704x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]
-- ==== ReferenceFfnFwdIdeal.lean ====
abbrev S4096x1024 : Shape := ⟨2, ![4096, 1024]⟩
abbrev S1024 : Shape := ⟨1, ![1024]⟩
abbrev S1024x2816 : Shape := ⟨2, ![1024, 2816]⟩
abbrev S2816x1024 : Shape := ⟨2, ![2816, 1024]⟩
abbrev S_ : Shape := ⟨0, ![]⟩
abbrev S4096 : Shape := ⟨1, ![4096]⟩
abbrev S4096x1 : Shape := ⟨2, ![4096, 1]⟩
abbrev S1x1024 : Shape := ⟨2, ![1, 1024]⟩
abbrev S4096x2816 : Shape := ⟨2, ![4096, 2816]⟩

abbrev nBuf : Space → Nat
  | .hbm => 38
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024, .f32⟩
  | .hbm, ⟨2, _⟩ => ⟨S1024x2816, .f32⟩
  | .hbm, ⟨3, _⟩ => ⟨S1024x2816, .f32⟩
  | .hbm, ⟨4, _⟩ => ⟨S2816x1024, .f32⟩
  | .hbm, ⟨5, _⟩ => ⟨S4096x1024, .f32⟩
  | .hbm, ⟨6, _⟩ => ⟨S_, .f32⟩
  | .hbm, ⟨7, _⟩ => ⟨S4096, .f32⟩
  | .hbm, ⟨8, _⟩ => ⟨S4096x1, .f32⟩
  | .hbm, ⟨9, _⟩ => ⟨S_, .f32⟩
  | .hbm, ⟨10, _⟩ => ⟨S4096x1, .f32⟩
  | .hbm, ⟨11, _⟩ => ⟨S4096x1, .f32⟩
  | .hbm, ⟨12, _⟩ => ⟨S_, .f32⟩
  | .hbm, ⟨13, _⟩ => ⟨S4096x1, .f32⟩
  | .hbm, ⟨14, _⟩ => ⟨S4096x1, .f32⟩
  | .hbm, ⟨15, _⟩ => ⟨S4096x1, .f32⟩
  | .hbm, ⟨16, _⟩ => ⟨S4096x1024, .f32⟩
  | .hbm, ⟨17, _⟩ => ⟨S4096x1024, .f32⟩
  | .hbm, ⟨18, _⟩ => ⟨S1x1024, .f32⟩
  | .hbm, ⟨19, _⟩ => ⟨S4096x1024, .f32⟩
  | .hbm, ⟨20, _⟩ => ⟨S4096x1024, .f32⟩
  | .hbm, ⟨21, _⟩ => ⟨S4096x2816, .f32⟩
  | .hbm, ⟨22, _⟩ => ⟨S4096x2816, .f32⟩
  | .hbm, ⟨23, _⟩ => ⟨S4096x2816, .f32⟩
  | .hbm, ⟨24, _⟩ => ⟨S_, .f32⟩
  | .hbm, ⟨25, _⟩ => ⟨S4096x2816, .f32⟩
  | .hbm, ⟨26, _⟩ => ⟨S4096x2816, .f32⟩
  | .hbm, ⟨27, _⟩ => ⟨S_, .f32⟩
  | .hbm, ⟨28, _⟩ => ⟨S4096x2816, .f32⟩
  | .hbm, ⟨29, _⟩ => ⟨S4096x2816, .f32⟩
  | .hbm, ⟨30, _⟩ => ⟨S4096x2816, .f32⟩
  | .hbm, ⟨31, _⟩ => ⟨S4096x2816, .f32⟩
  | .hbm, ⟨32, _⟩ => ⟨S4096x2816, .f32⟩
  | .hbm, ⟨33, _⟩ => ⟨S4096x1024, .f32⟩
  | .hbm, ⟨34, _⟩ => ⟨S_, .f32⟩
  | .hbm, ⟨35, _⟩ => ⟨S4096x1024, .f32⟩
  | .hbm, ⟨36, _⟩ => ⟨S4096x1024, .f32⟩
  | .hbm, ⟨37, _⟩ => ⟨S4096x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_call0_v0 : Ref sig .tc := ⟨.hbm, 22, rfl⟩
abbrev main_call0_v1 : Ref sig .tc := ⟨.hbm, 23, rfl⟩
abbrev main_call0_cst : Ref sig .tc := ⟨.hbm, 24, rfl⟩
abbrev main_call0_v2 : Ref sig .tc := ⟨.hbm, 25, rfl⟩
abbrev main_call0_v3 : Ref sig .tc := ⟨.hbm, 26, rfl⟩
abbrev main_call0_cst_0 : Ref sig .tc := ⟨.hbm, 27, rfl⟩
abbrev main_call0_v4 : Ref sig .tc := ⟨.hbm, 28, rfl⟩
abbrev main_call0_v5 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_cst_2 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩

abbrev nD : Nat := 1
abbrev τ : Topo := Topo.v7x

variable {F : FTy → Type} [FloatOps F]
-- ==== KernelLocal.lean ====
abbrev S4096x1536 : Shape := ⟨2, ![4096, 1536]⟩
abbrev S4096x8 : Shape := ⟨2, ![4096, 8]⟩
abbrev S4 : Shape := ⟨1, ![4]⟩
abbrev S4096x512 : Shape := ⟨2, ![4096, 512]⟩
abbrev S4x4096x64 : Shape := ⟨3, ![4, 4096, 64]⟩
abbrev S4096x128 : Shape := ⟨2, ![4096, 128]⟩
abbrev S1x4 : Shape := ⟨2, ![1, 4]⟩
abbrev S2x4 : Shape := ⟨2, ![2, 4]⟩
abbrev S_ : Shape := ⟨0, ![]⟩
abbrev S8x128 : Shape := ⟨2, ![8, 128]⟩
abbrev S512x1536 : Shape := ⟨2, ![512, 1536]⟩
abbrev S512x128 : Shape := ⟨2, ![512, 128]⟩
abbrev S512x512 : Shape := ⟨2, ![512, 512]⟩
abbrev S4x512x64 : Shape := ⟨3, ![4, 512, 64]⟩
abbrev S1x128 : Shape := ⟨2, ![1, 128]⟩
abbrev S1x64x64 : Shape := ⟨3, ![1, 64, 64]⟩
abbrev S512 : Shape := ⟨1, ![512]⟩
abbrev S512x1 : Shape := ⟨2, ![512, 1]⟩
abbrev S8x64x128 : Shape := ⟨3, ![8, 64, 128]⟩
abbrev S8x64x1 : Shape := ⟨3, ![8, 64, 1]⟩
abbrev S8x64x64 : Shape := ⟨3, ![8, 64, 64]⟩
abbrev S8x64 : Shape := ⟨2, ![8, 64]⟩
abbrev S8x1x64 : Shape := ⟨3, ![8, 1, 64]⟩
abbrev S8x1 : Shape := ⟨2, ![8, 1]⟩
abbrev S8x1x1 : Shape := ⟨3, ![8, 1, 1]⟩
abbrev S1x512x64 : Shape := ⟨3, ![1, 512, 64]⟩
abbrev S512x64 : Shape := ⟨2, ![512, 64]⟩
abbrev S8 : Shape := ⟨1, ![8]⟩
abbrev S8x128x64 : Shape := ⟨3, ![8, 128, 64]⟩
abbrev S512x1408 : Shape := ⟨2, ![512, 1408]⟩
abbrev S512x896 : Shape := ⟨2, ![512, 896]⟩
abbrev S512x1024 : Shape := ⟨2, ![512, 1024]⟩
abbrev S512x384 : Shape := ⟨2, ![512, 384]⟩
abbrev S512x1280 : Shape := ⟨2, ![512, 1280]⟩
abbrev S512x768 : Shape := ⟨2, ![512, 768]⟩
abbrev S512x640 : Shape := ⟨2, ![512, 640]⟩
abbrev S512x256 : Shape := ⟨2, ![512, 256]⟩
abbrev S512x1152 : Shape := ⟨2, ![512, 1152]⟩
abbrev S128 : Shape := ⟨1, ![128]⟩

abbrev nBuf : Space → Nat
  | .hbm => 27
  | .vmem => 22
  | .smem => 0
  | _ => 0

abbrev bufTy : (tb : Table) → Fin (tcTables nBuf tb) → BufTy
  | .hbm, ⟨0, _⟩ => ⟨S4096x1536, .f32⟩
  | .hbm, ⟨1, _⟩ => ⟨S4096x8, .f32⟩
  | .hbm, ⟨2, _⟩ => ⟨S4, .f32⟩
  | .hbm, ⟨3, _⟩ => ⟨S4, .f32⟩
  | .hbm, ⟨4, _⟩ => ⟨S4096x512, .f32⟩
  | .hbm, ⟨5, _⟩ => ⟨S4096x512, .f32⟩
  | .hbm, ⟨6, _⟩ => ⟨S4096x512, .f32⟩
  | .hbm, ⟨7, _⟩ => ⟨S4096x512, .f32⟩
  | .hbm, ⟨8, _⟩ => ⟨S4x4096x64, .f32⟩
  | .hbm, ⟨9, _⟩ => ⟨S4096x128, .f32⟩
  | .hbm, ⟨10, _⟩ => ⟨S1x4, .f32⟩
  | .hbm, ⟨11, _⟩ => ⟨S1x4, .f32⟩
  | .hbm, ⟨12, _⟩ => ⟨S2x4, .f32⟩
  | .hbm, ⟨13, _⟩ => ⟨S_, .i32⟩
  | .hbm, ⟨14, _⟩ => ⟨S_, .f32⟩
  | .hbm, ⟨15, _⟩ => ⟨S8x128, .f32⟩
  | .hbm, ⟨16, _⟩ => ⟨S_, .i32⟩
  | .hbm, ⟨17, _⟩ => ⟨S_, .f32⟩
  | .hbm, ⟨18, _⟩ => ⟨S4096x128, .f32⟩
  | .hbm, ⟨19, _⟩ => ⟨S4096x1536, .f32⟩
  | .hbm, ⟨20, _⟩ => ⟨S4096x128, .f32⟩
  | .hbm, ⟨21, _⟩ => ⟨S8x128, .f32⟩
  | .hbm, ⟨22, _⟩ => ⟨S4096x8, .f32⟩
  | .hbm, ⟨23, _⟩ => ⟨S1x4, .f32⟩
  | .hbm, ⟨24, _⟩ => ⟨S4, .f32⟩
  | .hbm, ⟨25, _⟩ => ⟨S1x4, .f32⟩
  | .hbm, ⟨26, _⟩ => ⟨S4, .f32⟩
  | .local _ .vmem, ⟨0, _⟩ => ⟨S512x1536, .f32⟩
  | .local _ .vmem, ⟨1, _⟩ => ⟨S512x1536, .f32⟩
  | .local _ .vmem, ⟨2, _⟩ => ⟨S512x128, .f32⟩
  | .local _ .vmem, ⟨3, _⟩ => ⟨S512x128, .f32⟩
  | .local _ .vmem, ⟨4, _⟩ => ⟨S8x128, .f32⟩
  | .local _ .vmem, ⟨5, _⟩ => ⟨S512x512, .f32⟩
  | .local _ .vmem, ⟨6, _⟩ => ⟨S512x512, .f32⟩
  | .local _ .vmem, ⟨7, _⟩ => ⟨S512x512, .f32⟩
  | .local _ .vmem, ⟨8, _⟩ => ⟨S512x512, .f32⟩
  | .local _ .vmem, ⟨9, _⟩ => ⟨S512x512, .f32⟩
  | .local _ .vmem, ⟨10, _⟩ => ⟨S512x512, .f32⟩
  | .local _ .vmem, ⟨11, _⟩ => ⟨S512x512, .f32⟩
  | .local _ .vmem, ⟨12, _⟩ => ⟨S512x512, .f32⟩
  | .local _ .vmem, ⟨13, _⟩ => ⟨S4x512x64, .f32⟩
  | .local _ .vmem, ⟨14, _⟩ => ⟨S4x512x64, .f32⟩
  | .local _ .vmem, ⟨15, _⟩ => ⟨S512x128, .f32⟩
  | .local _ .vmem, ⟨16, _⟩ => ⟨S512x128, .f32⟩
  | .local _ .vmem, ⟨17, _⟩ => ⟨S512x1536, .f32⟩
  | .local _ .vmem, ⟨18, _⟩ => ⟨S512x1536, .f32⟩
  | .local _ .vmem, ⟨19, _⟩ => ⟨S512x128, .f32⟩
  | .local _ .vmem, ⟨20, _⟩ => ⟨S512x128, .f32⟩
  | .local _ .vmem, ⟨21, _⟩ => ⟨S8x128, .f32⟩
  | _, _ => ⟨S4096x1536, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_c : Ref sig .tc := ⟨.hbm, 13, rfl⟩
abbrev main_call0_v0 : Ref sig .tc := ⟨.hbm, 14, rfl⟩
abbrev main_v3 : Ref sig .tc := ⟨.hbm, 15, rfl⟩
abbrev main_c_0 : Ref sig .tc := ⟨.hbm, 16, rfl⟩
abbrev main_call1_v0 : Ref sig .tc := ⟨.hbm, 17, rfl⟩
abbrev main_v4 : Ref sig .tc := ⟨.hbm, 18, rfl⟩
abbrev main_v5_0 : Ref sig .tc := ⟨.hbm, 19, rfl⟩
abbrev main_v5_1 : Ref sig .tc := ⟨.hbm, 20, rfl⟩
abbrev main_v5_2 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_stg9_0 : Ref sig .tc := ⟨.vmem, 17, rfl⟩
abbrev cc0_stg9_1 : Ref sig .tc := ⟨.vmem, 18, rfl⟩
abbrev cc0_stg10_0 : Ref sig .tc := ⟨.vmem, 19, rfl⟩
abbrev cc0_stg10_1 : Ref sig .tc := ⟨.vmem, 20, rfl⟩
abbrev cc0_stg11_0 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16
abbrev cc0_sem9_0 : DmaSem sig := 17
abbrev cc0_sem9_1 : DmaSem sig := 18
abbrev cc0_sem10_0 : DmaSem sig := 19
abbrev cc0_sem10_1 : DmaSem sig := 20
abbrev cc0_sem11_0 : DmaSem sig := 21

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1536 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S8x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S4x512x64 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x1536 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x128 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 1 → Memref sig .tc .vmem S8x128 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]
-- ==== KernelLocalFwd.lean ====
abbrev S4096x1536 : Shape := ⟨2, ![4096, 1536]⟩
abbrev S4096x8 : Shape := ⟨2, ![4096, 8]⟩
abbrev S4 : Shape := ⟨1, ![4]⟩
abbrev S1x4 : Shape := ⟨2, ![1, 4]⟩
abbrev S2x4 : Shape := ⟨2, ![2, 4]⟩
abbrev S_ : Shape := ⟨0, ![]⟩
abbrev S8x128 : Shape := ⟨2, ![8, 128]⟩
abbrev S4096x128 : Shape := ⟨2, ![4096, 128]⟩
abbrev S4096x512 : Shape := ⟨2, ![4096, 512]⟩
abbrev S4x4096x64 : Shape := ⟨3, ![4, 4096, 64]⟩
abbrev S512x1536 : Shape := ⟨2, ![512, 1536]⟩
abbrev S512x128 : Shape := ⟨2, ![512, 128]⟩
abbrev S512x512 : Shape := ⟨2, ![512, 512]⟩
abbrev S4x512x64 : Shape := ⟨3, ![4, 512, 64]⟩
abbrev S1x128 : Shape := ⟨2, ![1, 128]⟩
abbrev S1x64x64 : Shape := ⟨3, ![1, 64, 64]⟩
abbrev S512 : Shape := ⟨1, ![512]⟩
abbrev S512x1 : Shape := ⟨2, ![512, 1]⟩
abbrev S8x64x128 : Shape := ⟨3, ![8, 64, 128]⟩
abbrev S8x64x1 : Shape := ⟨3, ![8, 64, 1]⟩
abbrev S8x64x64 : Shape := ⟨3, ![8, 64, 64]⟩
abbrev S8x64 : Shape := ⟨2, ![8, 64]⟩
abbrev S8x1x64 : Shape := ⟨3, ![8, 1, 64]⟩
abbrev S8x1 : Shape := ⟨2, ![8, 1]⟩
abbrev S8x1x1 : Shape := ⟨3, ![8, 1, 1]⟩
abbrev S512x64 : Shape := ⟨2, ![512, 64]⟩
abbrev S1x512x64 : Shape := ⟨3, ![1, 512, 64]⟩

abbrev nBuf : Space → Nat
  | .hbm => 19
  | .vmem => 17
  | .smem => 0
  | _ => 0

abbrev bufTy : (tb : Table) → Fin (tcTables nBuf tb) → BufTy
  | .hbm, ⟨0, _⟩ => ⟨S4096x1536, .f32⟩
  | .hbm, ⟨1, _⟩ => ⟨S4096x8, .f32⟩
  | .hbm, ⟨2, _⟩ => ⟨S4, .f32⟩
  | .hbm, ⟨3, _⟩ => ⟨S4, .f32⟩
  | .hbm, ⟨4, _⟩ => ⟨S1x4, .f32⟩
  | .hbm, ⟨5, _⟩ => ⟨S1x4, .f32⟩
  | .hbm, ⟨6, _⟩ => ⟨S2x4, .f32⟩
  | .hbm, ⟨7, _⟩ => ⟨S_, .i32⟩
  | .hbm, ⟨8, _⟩ => ⟨S_, .f32⟩
  | .hbm, ⟨9, _⟩ => ⟨S8x128, .f32⟩
  | .hbm, ⟨10, _⟩ => ⟨S_, .i32⟩
  | .hbm, ⟨11, _⟩ => ⟨S_, .f32⟩
  | .hbm, ⟨12, _⟩ => ⟨S4096x128, .f32⟩
  | .hbm, ⟨13, _⟩ => ⟨S4096x512, .f32⟩
  | .hbm, ⟨14, _⟩ => ⟨S4096x512, .f32⟩
  | .hbm, ⟨15, _⟩ => ⟨S4096x512, .f32⟩
  | .hbm, ⟨16, _⟩ => ⟨S4096x512, .f32⟩
  | .hbm, ⟨17, _⟩ => ⟨S4x4096x64, .f32⟩
  | .hbm, ⟨18, _⟩ => ⟨S4096x128, .f32⟩
  | .local _ .vmem, ⟨0, _⟩ => ⟨S512x1536, .f32⟩
  | .local _ .vmem, ⟨1, _⟩ => ⟨S512x1536, .f32⟩
  | .local _ .vmem, ⟨2, _⟩ => ⟨S512x128, .f32⟩
  | .local _ .vmem, ⟨3, _⟩ => ⟨S512x128, .f32⟩
  | .local _ .vmem, ⟨4, _⟩ => ⟨S8x128, .f32⟩
  | .local _ .vmem, ⟨5, _⟩ => ⟨S512x512, .f32⟩
  | .local _ .vmem, ⟨6, _⟩ => ⟨S512x512, .f32⟩
  | .local _ .vmem, ⟨7, _⟩ => ⟨S512x512, .f32⟩
  | .local _ .vmem, ⟨8, _⟩ => ⟨S512x512, .f32⟩
  | .local _ .vmem, ⟨9, _⟩ => ⟨S512x512, .f32⟩
  | .local _ .vmem, ⟨10, _⟩ => ⟨S512x512, .f32⟩
  | .local _ .vmem, ⟨11, _⟩ => ⟨S512x512, .f32⟩
  | .local _ .vmem, ⟨12, _⟩ => ⟨S512x512, .f32⟩
  | .local _ .vmem, ⟨13, _⟩ => ⟨S4x512x64, .f32⟩
  | .local _ .vmem, ⟨14, _⟩ => ⟨S4x512x64, .f32⟩
  | .local _ .vmem, ⟨15, _⟩ => ⟨S512x128, .f32⟩
  | .local _ .vmem, ⟨16, _⟩ => ⟨S512x128, .f32⟩
  | _, _ => ⟨S4096x1536, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_c : Ref sig .tc := ⟨.hbm, 7, rfl⟩
abbrev main_call0_v0 : Ref sig .tc := ⟨.hbm, 8, rfl⟩
abbrev main_v3 : Ref sig .tc := ⟨.hbm, 9, rfl⟩
abbrev main_c_0 : Ref sig .tc := ⟨.hbm, 10, rfl⟩
abbrev main_call1_v0 : Ref sig .tc := ⟨.hbm, 11, rfl⟩
abbrev main_v4 : Ref sig .tc := ⟨.hbm, 12, rfl⟩
abbrev main_v5_0 : Ref sig .tc := ⟨.hbm, 13, rfl⟩
abbrev main_v5_1 : Ref sig .tc := ⟨.hbm, 14, rfl⟩
abbrev main_v5_2 : Ref sig .tc := ⟨.hbm, 15, rfl⟩
abbrev main_v5_3 : Ref sig .tc := ⟨.hbm, 16, rfl⟩
abbrev main_v5_4 : Ref sig .tc := ⟨.hbm, 17, rfl⟩
abbrev main_v5_5 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1536 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S8x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S4x512x64 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== KernelInProj.lean ====
abbrev S4096x1024 : Shape := ⟨2, ![4096, 1024]⟩
abbrev S1024 : Shape := ⟨1, ![1024]⟩
abbrev S1024x3080 : Shape := ⟨2, ![1024, 3080]⟩
abbrev S4096 : Shape := ⟨1, ![4096]⟩
abbrev S4096x768 : Shape := ⟨2, ![4096, 768]⟩
abbrev S4096x256 : Shape := ⟨2, ![4096, 256]⟩
abbrev S4096x1536 : Shape := ⟨2, ![4096, 1536]⟩
abbrev S4096x512 : Shape := ⟨2, ![4096, 512]⟩
abbrev S4096x8 : Shape := ⟨2, ![4096, 8]⟩
abbrev S32 : Shape := ⟨1, ![32]⟩
abbrev S_ : Shape := ⟨0, ![]⟩
abbrev S1x32 : Shape := ⟨2, ![1, 32]⟩
abbrev S8x32 : Shape := ⟨2, ![8, 32]⟩
abbrev S256 : Shape := ⟨1, ![256]⟩
abbrev S1x256 : Shape := ⟨2, ![1, 256]⟩
abbrev S1024x3200 : Shape := ⟨2, ![1024, 3200]⟩
abbrev S4096x128 : Shape := ⟨2, ![4096, 128]⟩
abbrev S1x1024 : Shape := ⟨2, ![1, 1024]⟩
abbrev S4096x1 : Shape := ⟨2, ![4096, 1]⟩
abbrev S1024x4x768 : Shape := ⟨3, ![1024, 4, 768]⟩
abbrev S4x1024x768 : Shape := ⟨3, ![4, 1024, 768]⟩
abbrev S256x16x768 : Shape := ⟨3, ![256, 16, 768]⟩
abbrev S16x256x768 : Shape := ⟨3, ![16, 256, 768]⟩
abbrev S256x1024 : Shape := ⟨2, ![256, 1024]⟩
abbrev S256x1 : Shape := ⟨2, ![256, 1]⟩
abbrev S256x768 : Shape := ⟨2, ![256, 768]⟩
abbrev S4x64x768 : Shape := ⟨3, ![4, 64, 768]⟩
abbrev S16x16x768 : Shape := ⟨3, ![16, 16, 768]⟩
abbrev S256x256 : Shape := ⟨2, ![256, 256]⟩
abbrev S256x1536 : Shape := ⟨2, ![256, 1536]⟩
abbrev S256x512 : Shape := ⟨2, ![256, 512]⟩
abbrev S256x128 : Shape := ⟨2, ![256, 128]⟩
abbrev S6x256x128 : Shape := ⟨3, ![6, 256, 128]⟩
abbrev S1x64x768 : Shape := ⟨3, ![1, 64, 768]⟩
abbrev S64x768 : Shape := ⟨2, ![64, 768]⟩
abbrev S64x128 : Shape := ⟨2, ![64, 128]⟩
abbrev S1x256x128 : Shape := ⟨3, ![1, 256, 128]⟩
abbrev S1x16x768 : Shape := ⟨3, ![1, 16, 768]⟩
abbrev S16x768 : Shape := ⟨2, ![16, 768]⟩
abbrev S16x128 : Shape := ⟨2, ![16, 128]⟩
abbrev S256x3200 : Shape := ⟨2, ![256, 3200]⟩

abbrev nBuf : Space → Nat
  | .hbm => 46
  | .vmem => 28
  | .smem => 0
  | _ => 0

abbrev bufTy : (tb : Table) → Fin (tcTables nBuf tb) → BufTy
  | .hbm, ⟨0, _⟩ => ⟨S4096x1024, .f32⟩
  | .hbm, ⟨1, _⟩ => ⟨S1024, .f32⟩
  | .hbm, ⟨2, _⟩ => ⟨S1024x3080, .f32⟩
  | .hbm, ⟨3, _⟩ => ⟨S4096, .i32⟩
  | .hbm, ⟨4, _⟩ => ⟨S4096x1024, .f32⟩
  | .hbm, ⟨5, _⟩ => ⟨S4096x768, .f32⟩
  | .hbm, ⟨6, _⟩ => ⟨S4096x768, .f32⟩
  | .hbm, ⟨7, _⟩ => ⟨S4096x768, .f32⟩
  | .hbm, ⟨8, _⟩ => ⟨S4096x256, .f32⟩
  | .hbm, ⟨9, _⟩ => ⟨S4096x1536, .f32⟩
  | .hbm, ⟨10, _⟩ => ⟨S4096x512, .f32⟩
  | .hbm, ⟨11, _⟩ => ⟨S4096x8, .f32⟩
  | .hbm, ⟨12, _⟩ => ⟨S32, .f32⟩
  | .hbm, ⟨13, _⟩ => ⟨S_, .f32⟩
  | .hbm, ⟨14, _⟩ => ⟨S32, .f32⟩
  | .hbm, ⟨15, _⟩ => ⟨S32, .f32⟩
  | .hbm, ⟨16, _⟩ => ⟨S_, .f32⟩
  | .hbm, ⟨17, _⟩ => ⟨S32, .f32⟩
  | .hbm, ⟨18, _⟩ => ⟨S32, .f32⟩
  | .hbm, ⟨19, _⟩ => ⟨S32, .f32⟩
  | .hbm, ⟨20, _⟩ => ⟨S_, .f32⟩
  | .hbm, ⟨21, _⟩ => ⟨S32, .f32⟩
  | .hbm, ⟨22, _⟩ => ⟨S32, .f32⟩
  | .hbm, ⟨23, _⟩ => ⟨S_, .f32⟩
  | .hbm, ⟨24, _⟩ => ⟨S32, .f32⟩
  | .hbm, ⟨25, _⟩ => ⟨S32, .f32⟩
  | .hbm, ⟨26, _⟩ => ⟨S1x32, .f32⟩
  | .hbm, ⟨27, _⟩ => ⟨S8x32, .f32⟩
  | .hbm, ⟨28, _⟩ => ⟨S256, .f32⟩
  | .hbm, ⟨29, _⟩ => ⟨S1x256, .f32⟩
  | .hbm, ⟨30, _⟩ => ⟨S_, .i32⟩
  | .hbm, ⟨31, _⟩ => ⟨S_, .f32⟩
  | .hbm, ⟨32, _⟩ => ⟨S1024x3200, .f32⟩
  | .hbm, ⟨33, _⟩ => ⟨S1024x3200, .bf16⟩
  | .hbm, ⟨34, _⟩ => ⟨S_, .i32⟩
  | .hbm, ⟨35, _⟩ => ⟨S_, .f32⟩
  | .hbm, ⟨36, _⟩ => ⟨S4096x128, .f32⟩
  | .hbm, ⟨37, _⟩ => ⟨S1x1024, .f32⟩
  | .hbm, ⟨38, _⟩ => ⟨S4096x1, .i32⟩
  | .hbm, ⟨39, _⟩ => ⟨S1024x4x768, .f32⟩
  | .hbm, ⟨40, _⟩ => ⟨S4x1024x768, .f32⟩
  | .hbm, ⟨41, _⟩ => ⟨S256x16x768, .f32⟩
  | .hbm, ⟨42, _⟩ => ⟨S16x256x768, .f32⟩
  | .hbm, ⟨43, _⟩ => ⟨S4096x1024, .f32⟩
  | .hbm, ⟨44, _⟩ => ⟨S1x1024, .f32⟩
  | .hbm, ⟨45, _⟩ => ⟨S1024x3200, .f32⟩
  | .local _ .vmem, ⟨0, _⟩ => ⟨S256x1024, .f32⟩
  | .local _ .vmem, ⟨1, _⟩ => ⟨S256x1024, .f32⟩
  | .local _ .vmem, ⟨2, _⟩ => ⟨S1x1024, .f32⟩
  | .local _ .vmem, ⟨3, _⟩ => ⟨S256x1, .i32⟩
  | .local _ .vmem, ⟨4, _⟩ => ⟨S256x1, .i32⟩
  | .local _ .vmem, ⟨5, _⟩ => ⟨S1x256, .f32⟩
  | .local _ .vmem, ⟨6, _⟩ => ⟨S256x1024, .f32⟩
  | .local _ .vmem, ⟨7, _⟩ => ⟨S256x1024, .f32⟩
  | .local _ .vmem, ⟨8, _⟩ => ⟨S256x768, .f32⟩
  | .local _ .vmem, ⟨9, _⟩ => ⟨S256x768, .f32⟩
  | .local _ .vmem, ⟨10, _⟩ => ⟨S4x64x768, .f32⟩
  | .local _ .vmem, ⟨11, _⟩ => ⟨S4x64x768, .f32⟩
  | .local _ .vmem, ⟨12, _⟩ => ⟨S16x16x768, .f32⟩
  | .local _ .vmem, ⟨13, _⟩ => ⟨S16x16x768, .f32⟩
  | .local _ .vmem, ⟨14, _⟩ => ⟨S256x256, .f32⟩
  | .local _ .vmem, ⟨15, _⟩ => ⟨S256x256, .f32⟩
  | .local _ .vmem, ⟨16, _⟩ => ⟨S256x1536, .f32⟩
  | .local _ .vmem, ⟨17, _⟩ => ⟨S256x1536, .f32⟩
  | .local _ .vmem, ⟨18, _⟩ => ⟨S256x512, .f32⟩
  | .local _ .vmem, ⟨19, _⟩ => ⟨S256x512, .f32⟩
  | .local _ .vmem, ⟨20, _⟩ => ⟨S256x128, .f32⟩
  | .local _ .vmem, ⟨21, _⟩ => ⟨S256x128, .f32⟩
  | .local _ .vmem, ⟨22, _⟩ => ⟨S256x1024, .f32⟩
  | .local _ .vmem, ⟨23, _⟩ => ⟨S256x1024, .f32⟩
  | .local _ .vmem, ⟨24, _⟩ => ⟨S1x1024, .f32⟩
  | .local _ .vmem, ⟨25, _⟩ => ⟨S1024x3200, .bf16⟩
  | .local _ .vmem, ⟨26, _⟩ => ⟨S1024x3200, .f32⟩
  | .local _ .vmem, ⟨27, _⟩ => ⟨S6x256x128, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 27 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | _ => false

abbrev sig : RefSig :=
  ofTc nBuf bufTy 0 27 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_cst : Ref sig .tc := ⟨.hbm, 13, rfl⟩
abbrev main_v1 : Ref sig .tc := ⟨.hbm, 14, rfl⟩
abbrev main_v2 : Ref sig .tc := ⟨.hbm, 15, rfl⟩
abbrev main_cst_0 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_cst_1 : Ref sig .tc := ⟨.hbm, 20, rfl⟩
abbrev main_v6 : Ref sig .tc := ⟨.hbm, 21, rfl⟩
abbrev main_v7 : Ref sig .tc := ⟨.hbm, 22, rfl⟩
abbrev main_cst_2 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_c : Ref sig .tc := ⟨.hbm, 30, rfl⟩
abbrev main_call0_v0 : Ref sig .tc := ⟨.hbm, 31, rfl⟩
abbrev main_v14 : Ref sig .tc := ⟨.hbm, 32, rfl⟩
abbrev main_v15 : Ref sig .tc := ⟨.hbm, 33, rfl⟩
abbrev main_c_3 : Ref sig .tc := ⟨.hbm, 34, rfl⟩
abbrev main_call1_v0 : Ref sig .tc := ⟨.hbm, 35, rfl⟩
abbrev main_v16 : Ref sig .tc := ⟨.hbm, 36, rfl⟩
abbrev main_v17 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_v23_0 : Ref sig .tc := ⟨.hbm, 43, rfl⟩
abbrev main_v23_1 : Ref sig .tc := ⟨.hbm, 44, rfl⟩
abbrev main_v23_2 : Ref sig .tc := ⟨.hbm, 45, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_stg10_0 : Ref sig .tc := ⟨.vmem, 18, rfl⟩
abbrev cc0_stg10_1 : Ref sig .tc := ⟨.vmem, 19, rfl⟩
abbrev cc0_stg11_0 : Ref sig .tc := ⟨.vmem, 20, rfl⟩
abbrev cc0_stg11_1 : Ref sig .tc := ⟨.vmem, 21, rfl⟩
abbrev cc0_stg12_0 : Ref sig .tc := ⟨.vmem, 22, rfl⟩
abbrev cc0_stg12_1 : Ref sig .tc := ⟨.vmem, 23, rfl⟩
abbrev cc0_stg13_0 : Ref sig .tc := ⟨.vmem, 24, rfl⟩
abbrev cc0_scratch0 : Ref sig .tc := ⟨.vmem, 25, rfl⟩
abbrev cc0_scratch1 : Ref sig .tc := ⟨.vmem, 26, rfl⟩
abbrev cc0_scratch2 : Ref sig .tc := ⟨.vmem, 27, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16
abbrev cc0_sem9_1 : DmaSem sig := 17
abbrev cc0_sem10_0 : DmaSem sig := 18
abbrev cc0_sem10_1 : DmaSem sig := 19
abbrev cc0_sem11_0 : DmaSem sig := 20
abbrev cc0_sem11_1 : DmaSem sig := 21
abbrev cc0_sem12_0 : DmaSem sig := 22
abbrev cc0_sem12_1 : DmaSem sig := 23
abbrev cc0_sem13_0 : DmaSem sig := 24

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x1 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x768 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S4x64x768 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S16x16x768 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x256 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S256x1536 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S256x512 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S256x128 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S256x1024 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 1 → Memref sig .tc .vmem S1x1024 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]
-- ==== KernelMergeFwd.lean ====
abbrev S4096x256 : Shape := ⟨2, ![4096, 256]⟩
abbrev S4x1024x256 : Shape := ⟨3, ![4, 1024, 256]⟩
abbrev S16x256x256 : Shape := ⟨3, ![16, 256, 256]⟩
abbrev S512x256 : Shape := ⟨2, ![512, 256]⟩
abbrev S4x128x256 : Shape := ⟨3, ![4, 128, 256]⟩
abbrev S16x32x256 : Shape := ⟨3, ![16, 32, 256]⟩
abbrev S2x512x128 : Shape := ⟨3, ![2, 512, 128]⟩
abbrev S1x128x256 : Shape := ⟨3, ![1, 128, 256]⟩
abbrev S128x256 : Shape := ⟨2, ![128, 256]⟩
abbrev S128x128 : Shape := ⟨2, ![128, 128]⟩
abbrev S1x512x128 : Shape := ⟨3, ![1, 512, 128]⟩
abbrev S512x128 : Shape := ⟨2, ![512, 128]⟩
abbrev S1x32x256 : Shape := ⟨3, ![1, 32, 256]⟩
abbrev S32x256 : Shape := ⟨2, ![32, 256]⟩
abbrev S32x128 : Shape := ⟨2, ![32, 128]⟩

abbrev nBuf : Space → Nat
  | .hbm => 7
  | .vmem => 15
  | .smem => 0
  | _ => 0

abbrev bufTy : (tb : Table) → Fin (tcTables nBuf tb) → BufTy
  | .hbm, ⟨0, _⟩ => ⟨S4096x256, .f32⟩
  | .hbm, ⟨1, _⟩ => ⟨S4096x256, .f32⟩
  | .hbm, ⟨2, _⟩ => ⟨S4x1024x256, .f32⟩
  | .hbm, ⟨3, _⟩ => ⟨S4x1024x256, .f32⟩
  | .hbm, ⟨4, _⟩ => ⟨S16x256x256, .f32⟩
  | .hbm, ⟨5, _⟩ => ⟨S16x256x256, .f32⟩
  | .hbm, ⟨6, _⟩ => ⟨S4096x256, .f32⟩
  | .local _ .vmem, ⟨0, _⟩ => ⟨S512x256, .f32⟩
  | .local _ .vmem, ⟨1, _⟩ => ⟨S512x256, .f32⟩
  | .local _ .vmem, ⟨2, _⟩ => ⟨S512x256, .f32⟩
  | .local _ .vmem, ⟨3, _⟩ => ⟨S512x256, .f32⟩
  | .local _ .vmem, ⟨4, _⟩ => ⟨S4x128x256, .f32⟩
  | .local _ .vmem, ⟨5, _⟩ => ⟨S4x128x256, .f32⟩
  | .local _ .vmem, ⟨6, _⟩ => ⟨S4x128x256, .f32⟩
  | .local _ .vmem, ⟨7, _⟩ => ⟨S4x128x256, .f32⟩
  | .local _ .vmem, ⟨8, _⟩ => ⟨S16x32x256, .f32⟩
  | .local _ .vmem, ⟨9, _⟩ => ⟨S16x32x256, .f32⟩
  | .local _ .vmem, ⟨10, _⟩ => ⟨S16x32x256, .f32⟩
  | .local _ .vmem, ⟨11, _⟩ => ⟨S16x32x256, .f32⟩
  | .local _ .vmem, ⟨12, _⟩ => ⟨S512x256, .f32⟩
  | .local _ .vmem, ⟨13, _⟩ => ⟨S512x256, .f32⟩
  | .local _ .vmem, ⟨14, _⟩ => ⟨S2x512x128, .f32⟩
  | _, _ => ⟨S4096x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_scratch0 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S4x128x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S4x128x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S16x32x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S16x32x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== KernelRec.lean ====
abbrev S4096x512 : Shape := ⟨2, ![4096, 512]⟩
abbrev S4x4096x64 : Shape := ⟨3, ![4, 4096, 64]⟩
abbrev S4096x128 : Shape := ⟨2, ![4096, 128]⟩
abbrev S64x4x128x128 : Shape := ⟨4, ![64, 4, 128, 128]⟩
abbrev S512x512 : Shape := ⟨2, ![512, 512]⟩
abbrev S4x512x64 : Shape := ⟨3, ![4, 512, 64]⟩
abbrev S512x128 : Shape := ⟨2, ![512, 128]⟩
abbrev S8x4x128x128 : Shape := ⟨4, ![8, 4, 128, 128]⟩
abbrev S4x128x128 : Shape := ⟨3, ![4, 128, 128]⟩
abbrev S1x4x128x128 : Shape := ⟨4, ![1, 4, 128, 128]⟩
abbrev S64x512 : Shape := ⟨2, ![64, 512]⟩
abbrev S4x64x64 : Shape := ⟨3, ![4, 64, 64]⟩
abbrev S64x128 : Shape := ⟨2, ![64, 128]⟩
abbrev S1x128x128 : Shape := ⟨3, ![1, 128, 128]⟩
abbrev S128x128 : Shape := ⟨2, ![128, 128]⟩
abbrev S64 : Shape := ⟨1, ![64]⟩
abbrev S64x1 : Shape := ⟨2, ![64, 1]⟩
abbrev S1 : Shape := ⟨1, ![1]⟩
abbrev S1x1 : Shape := ⟨2, ![1, 1]⟩
abbrev S1x64x64 : Shape := ⟨3, ![1, 64, 64]⟩
abbrev S64x64 : Shape := ⟨2, ![64, 64]⟩
abbrev S64x384 : Shape := ⟨2, ![64, 384]⟩
abbrev S1x1x1 : Shape := ⟨3, ![1, 1, 1]⟩
abbrev S3x64x64 : Shape := ⟨3, ![3, 64, 64]⟩
abbrev S3x128x128 : Shape := ⟨3, ![3, 128, 128]⟩
abbrev S64x256 : Shape := ⟨2, ![64, 256]⟩
abbrev S2x64x64 : Shape := ⟨3, ![2, 64, 64]⟩
abbrev S2x128x128 : Shape := ⟨3, ![2, 128, 128]⟩

abbrev nBuf : Space → Nat
  | .hbm => 14
  | .vmem => 29
  | .smem => 0
  | _ => 0

abbrev bufTy : (tb : Table) → Fin (tcTables nBuf tb) → BufTy
  | .hbm, ⟨0, _⟩ => ⟨S4096x512, .f32⟩
  | .hbm, ⟨1, _⟩ => ⟨S4096x512, .f32⟩
  | .hbm, ⟨2, _⟩ => ⟨S4096x512, .f32⟩
  | .hbm, ⟨3, _⟩ => ⟨S4096x512, .f32⟩
  | .hbm, ⟨4, _⟩ => ⟨S4x4096x64, .f32⟩
  | .hbm, ⟨5, _⟩ => ⟨S4096x128, .f32⟩
  | .hbm, ⟨6, _⟩ => ⟨S64x4x128x128, .f32⟩
  | .hbm, ⟨7, _⟩ => ⟨S4096x512, .f32⟩
  | .hbm, ⟨8, _⟩ => ⟨S4096x512, .f32⟩
  | .hbm, ⟨9, _⟩ => ⟨S4096x512, .f32⟩
  | .hbm, ⟨10, _⟩ => ⟨S4096x512, .f32⟩
  | .hbm, ⟨11, _⟩ => ⟨S4096x512, .f32⟩
  | .hbm, ⟨12, _⟩ => ⟨S4x4096x64, .f32⟩
  | .hbm, ⟨13, _⟩ => ⟨S4096x128, .f32⟩
  | .local _ .vmem, ⟨0, _⟩ => ⟨S512x512, .f32⟩
  | .local _ .vmem, ⟨1, _⟩ => ⟨S512x512, .f32⟩
  | .local _ .vmem, ⟨2, _⟩ => ⟨S512x512, .f32⟩
  | .local _ .vmem, ⟨3, _⟩ => ⟨S512x512, .f32⟩
  | .local _ .vmem, ⟨4, _⟩ => ⟨S512x512, .f32⟩
  | .local _ .vmem, ⟨5, _⟩ => ⟨S512x512, .f32⟩
  | .local _ .vmem, ⟨6, _⟩ => ⟨S512x512, .f32⟩
  | .local _ .vmem, ⟨7, _⟩ => ⟨S512x512, .f32⟩
  | .local _ .vmem, ⟨8, _⟩ => ⟨S4x512x64, .f32⟩
  | .local _ .vmem, ⟨9, _⟩ => ⟨S4x512x64, .f32⟩
  | .local _ .vmem, ⟨10, _⟩ => ⟨S512x128, .f32⟩
  | .local _ .vmem, ⟨11, _⟩ => ⟨S512x128, .f32⟩
  | .local _ .vmem, ⟨12, _⟩ => ⟨S8x4x128x128, .f32⟩
  | .local _ .vmem, ⟨13, _⟩ => ⟨S8x4x128x128, .f32⟩
  | .local _ .vmem, ⟨14, _⟩ => ⟨S512x512, .f32⟩
  | .local _ .vmem, ⟨15, _⟩ => ⟨S512x512, .f32⟩
  | .local _ .vmem, ⟨16, _⟩ => ⟨S512x512, .f32⟩
  | .local _ .vmem, ⟨17, _⟩ => ⟨S512x512, .f32⟩
  | .local _ .vmem, ⟨18, _⟩ => ⟨S512x512, .f32⟩
  | .local _ .vmem, ⟨19, _⟩ => ⟨S512x512, .f32⟩
  | .local _ .vmem, ⟨20, _⟩ => ⟨S512x512, .f32⟩
  | .local _ .vmem, ⟨21, _⟩ => ⟨S512x512, .f32⟩
  | .local _ .vmem, ⟨22, _⟩ => ⟨S512x512, .f32⟩
  | .local _ .vmem, ⟨23, _⟩ => ⟨S512x512, .f32⟩
  | .local _ .vmem, ⟨24, _⟩ => ⟨S4x512x64, .f32⟩
  | .local _ .vmem, ⟨25, _⟩ => ⟨S4x512x64, .f32⟩
  | .local _ .vmem, ⟨26, _⟩ => ⟨S512x128, .f32⟩
  | .local _ .vmem, ⟨27, _⟩ => ⟨S512x128, .f32⟩
  | .local _ .vmem, ⟨28, _⟩ => ⟨S4x128x128, .f32⟩
  | _, _ => ⟨S4096x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0_0 : Ref sig .tc := ⟨.hbm, 8, rfl⟩
abbrev main_v0_1 : Ref sig .tc := ⟨.hbm, 9, rfl⟩
abbrev main_v0_2 : Ref sig .tc := ⟨.hbm, 10, rfl⟩
abbrev main_v0_3 : Ref sig .tc := ⟨.hbm, 11, rfl⟩
abbrev main_v0_4 : Ref sig .tc := ⟨.hbm, 12, rfl⟩
abbrev main_v0_5 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_stg12_0 : Ref sig .tc := ⟨.vmem, 24, rfl⟩
abbrev cc0_stg12_1 : Ref sig .tc := ⟨.vmem, 25, rfl⟩
abbrev cc0_stg13_0 : Ref sig .tc := ⟨.vmem, 26, rfl⟩
abbrev cc0_stg13_1 : Ref sig .tc := ⟨.vmem, 27, rfl⟩
abbrev cc0_scratch0 : Ref sig .tc := ⟨.vmem, 28, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23
abbrev cc0_sem12_0 : DmaSem sig := 24
abbrev cc0_sem12_1 : DmaSem sig := 25
abbrev cc0_sem13_0 : DmaSem sig := 26
abbrev cc0_sem13_1 : DmaSem sig := 27

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c7_i32 : BitVec 32 := 7#32
  let v0 : BitVec 32 := Scalar.subi c7_i32 arg0
  let c0_i32 : BitVec 32 := 0#32
  let c0_i32_0 : BitVec 32 := 0#32
  ![v0.toNat, c0_i32.toNat]

def cc0_transform_1 (i : grid0.Coords) : Fin 2 → Nat :=
  let arg0 : BitVec 32 := BitVec.ofNat 32 (i 0).val
  let c7_i32 : BitVec 32 := 7#32
  let v0 : BitVec 32 := Scalar.subi c7_i32 arg0
  let c0_i32 : BitVec 32 := 0#32
  let c0_i32_0 : BitVec 32 := 0#32
  ![v0.toNat, c0_i32.toNat]

def cc0_transform_2 (i : grid0.Coords) : Fin 2 → Nat :=
  let arg0 : BitVec 32 := BitVec.ofNat 32 (i 0).val
  let c7_i32 : BitVec 32 := 7#32
  let v0 : BitVec 32 := Scalar.subi c7_i32 arg0
  let c0_i32 : BitVec 32 := 0#32
  let c0_i32_0 : BitVec 32 := 0#32
  ![v0.toNat, c0_i32.toNat]

def cc0_transform_3 (i : grid0.Coords) : Fin 2 → Nat :=
  let arg0 : BitVec 32 := BitVec.ofNat 32 (i 0).val
  let c7_i32 : BitVec 32 := 7#32
  let v0 : BitVec 32 := Scalar.subi c7_i32 arg0
  let c0_i32 : BitVec 32 := 0#32
  let c0_i32_0 : BitVec 32 := 0#32
  ![v0.toNat, c0_i32.toNat]

def cc0_transform_4 (i : grid0.Coords) : Fin 3 → Nat :=
  let arg0 : BitVec 32 := BitVec.ofNat 32 (i 0).val
  let c7_i32 : BitVec 32 := 7#32
  let v0 : BitVec 32 := Scalar.subi c7_i32 arg0
  let c0_i32 : BitVec 32 := 0#32
  let c0_i32_0 : BitVec 32 := 0#32
  let c0_i32_1 : BitVec 32 := 0#32
  ![c0_i32.toNat, v0.toNat, c0_i32_0.toNat]

def cc0_transform_5 (i : grid0.Coords) : Fin 2 → Nat :=
  let arg0 : BitVec 32 := BitVec.ofNat 32 (i 0).val
  let c7_i32 : BitVec 32 := 7#32
  let v0 : BitVec 32 := Scalar.subi c7_i32 arg0
  let c0_i32 : BitVec 32 := 0#32
  let c0_i32_0 : BitVec 32 := 0#32
  ![v0.toNat, c0_i32.toNat]

def cc0_transform_6 (i : grid0.Coords) : Fin 4 → Nat :=
  let arg0 : BitVec 32 := BitVec.ofNat 32 (i 0).val
  let c7_i32 : BitVec 32 := 7#32
  let v0 : BitVec 32 := Scalar.subi c7_i32 arg0
  let c0_i32 : BitVec 32 := 0#32
  let c0_i32_0 : BitVec 32 := 0#32
  let c0_i32_1 : BitVec 32 := 0#32
  let c0_i32_2 : BitVec 32 := 0#32
  ![v0.toNat, c0_i32.toNat, c0_i32_0.toNat, c0_i32_1.toNat]

def cc0_transform_7 (i : grid0.Coords) : Fin 2 → Nat :=
  let arg0 : BitVec 32 := BitVec.ofNat 32 (i 0).val
  let c7_i32 : BitVec 32 := 7#32
  let v0 : BitVec 32 := Scalar.subi c7_i32 arg0
  let c0_i32 : BitVec 32 := 0#32
  let c0_i32_0 : BitVec 32 := 0#32
  ![v0.toNat, c0_i32.toNat]

def cc0_transform_8 (i : grid0.Coords) : Fin 2 → Nat :=
  let arg0 : BitVec 32 := BitVec.ofNat 32 (i 0).val
  let c7_i32 : BitVec 32 := 7#32
  let v0 : BitVec 32 := Scalar.subi c7_i32 arg0
  let c0_i32 : BitVec 32 := 0#32
  let c0_i32_0 : BitVec 32 := 0#32
  ![v0.toNat, c0_i32.toNat]

def cc0_transform_9 (i : grid0.Coords) : Fin 2 → Nat :=
  let arg0 : BitVec 32 := BitVec.ofNat 32 (i 0).val
  let c7_i32 : BitVec 32 := 7#32
  let v0 : BitVec 32 := Scalar.subi c7_i32 arg0
  let c0_i32 : BitVec 32 := 0#32
  let c0_i32_0 : BitVec 32 := 0#32
  ![v0.toNat, c0_i32.toNat]

def cc0_transform_10 (i : grid0.Coords) : Fin 2 → Nat :=
  let arg0 : BitVec 32 := BitVec.ofNat 32 (i 0).val
  let c7_i32 : BitVec 32 := 7#32
  let v0 : BitVec 32 := Scalar.subi c7_i32 arg0
  let c0_i32 : BitVec 32 := 0#32
  let c0_i32_0 : BitVec 32 := 0#32
  ![v0.toNat, c0_i32.toNat]

def cc0_transform_11 (i : grid0.Coords) : Fin 2 → Nat :=
  let arg0 : BitVec 32 := BitVec.ofNat 32 (i 0).val
  let c7_i32 : BitVec 32 := 7#32
  let v0 : BitVec 32 := Scalar.subi c7_i32 arg0
  let c0_i32 : BitVec 32 := 0#32
  let c0_i32_0 : BitVec 32 := 0#32
  ![v0.toNat, c0_i32.toNat]

def cc0_transform_12 (i : grid0.Coords) : Fin 3 → Nat :=
  let arg0 : BitVec 32 := BitVec.ofNat 32 (i 0).val
  let c7_i32 : BitVec 32 := 7#32
  let v0 : BitVec 32 := Scalar.subi c7_i32 arg0
  let c0_i32 : BitVec 32 := 0#32
  let c0_i32_0 : BitVec 32 := 0#32
  let c0_i32_1 : BitVec 32 := 0#32
  ![c0_i32.toNat, v0.toNat, c0_i32_0.toNat]

def cc0_transform_13 (i : grid0.Coords) : Fin 2 → Nat :=
  let arg0 : BitVec 32 := BitVec.ofNat 32 (i 0).val
  let c7_i32 : BitVec 32 := 7#32
  let v0 : BitVec 32 := Scalar.subi c7_i32 arg0
  let c0_i32 : BitVec 32 := 0#32
  let c0_i32_0 : BitVec 32 := 0#32
  ![v0.toNat, c0_i32.toNat]

abbrev stage0_0 : Fin 2 → Memref sig .tc .vmem S512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S4x512x64 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S8x4x128x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x512 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x512 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S512x512 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S4x512x64 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S512x128 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]
-- ==== KernelRecFwd.lean ====
abbrev S4096x512 : Shape := ⟨2, ![4096, 512]⟩
abbrev S4x4096x64 : Shape := ⟨3, ![4, 4096, 64]⟩
abbrev S4096x128 : Shape := ⟨2, ![4096, 128]⟩
abbrev S64x4x128x128 : Shape := ⟨4, ![64, 4, 128, 128]⟩
abbrev S512x512 : Shape := ⟨2, ![512, 512]⟩
abbrev S4x512x64 : Shape := ⟨3, ![4, 512, 64]⟩
abbrev S512x128 : Shape := ⟨2, ![512, 128]⟩
abbrev S8x4x128x128 : Shape := ⟨4, ![8, 4, 128, 128]⟩
abbrev S4x128x128 : Shape := ⟨3, ![4, 128, 128]⟩
abbrev S1x4x128x128 : Shape := ⟨4, ![1, 4, 128, 128]⟩
abbrev S64x512 : Shape := ⟨2, ![64, 512]⟩
abbrev S4x64x64 : Shape := ⟨3, ![4, 64, 64]⟩
abbrev S64x128 : Shape := ⟨2, ![64, 128]⟩
abbrev S1x128x128 : Shape := ⟨3, ![1, 128, 128]⟩
abbrev S128x128 : Shape := ⟨2, ![128, 128]⟩
abbrev S64 : Shape := ⟨1, ![64]⟩
abbrev S64x1 : Shape := ⟨2, ![64, 1]⟩
abbrev S1 : Shape := ⟨1, ![1]⟩
abbrev S1x1 : Shape := ⟨2, ![1, 1]⟩
abbrev S1x64x64 : Shape := ⟨3, ![1, 64, 64]⟩
abbrev S64x64 : Shape := ⟨2, ![64, 64]⟩

abbrev nBuf : Space → Nat
  | .hbm => 8
  | .vmem => 17
  | .smem => 0
  | _ => 0

abbrev bufTy : (tb : Table) → Fin (tcTables nBuf tb) → BufTy
  | .hbm, ⟨0, _⟩ => ⟨S4096x512, .f32⟩
  | .hbm, ⟨1, _⟩ => ⟨S4096x512, .f32⟩
  | .hbm, ⟨2, _⟩ => ⟨S4096x512, .f32⟩
  | .hbm, ⟨3, _⟩ => ⟨S4096x512, .f32⟩
  | .hbm, ⟨4, _⟩ => ⟨S4x4096x64, .f32⟩
  | .hbm, ⟨5, _⟩ => ⟨S4096x128, .f32⟩
  | .hbm, ⟨6, _⟩ => ⟨S4096x512, .f32⟩
  | .hbm, ⟨7, _⟩ => ⟨S64x4x128x128, .f32⟩
  | .local _ .vmem, ⟨0, _⟩ => ⟨S512x512, .f32⟩
  | .local _ .vmem, ⟨1, _⟩ => ⟨S512x512, .f32⟩
  | .local _ .vmem, ⟨2, _⟩ => ⟨S512x512, .f32⟩
  | .local _ .vmem, ⟨3, _⟩ => ⟨S512x512, .f32⟩
  | .local _ .vmem, ⟨4, _⟩ => ⟨S512x512, .f32⟩
  | .local _ .vmem, ⟨5, _⟩ => ⟨S512x512, .f32⟩
  | .local _ .vmem, ⟨6, _⟩ => ⟨S512x512, .f32⟩
  | .local _ .vmem, ⟨7, _⟩ => ⟨S512x512, .f32⟩
  | .local _ .vmem, ⟨8, _⟩ => ⟨S4x512x64, .f32⟩
  | .local _ .vmem, ⟨9, _⟩ => ⟨S4x512x64, .f32⟩
  | .local _ .vmem, ⟨10, _⟩ => ⟨S512x128, .f32⟩
  | .local _ .vmem, ⟨11, _⟩ => ⟨S512x128, .f32⟩
  | .local _ .vmem, ⟨12, _⟩ => ⟨S512x512, .f32⟩
  | .local _ .vmem, ⟨13, _⟩ => ⟨S512x512, .f32⟩
  | .local _ .vmem, ⟨14, _⟩ => ⟨S8x4x128x128, .f32⟩
  | .local _ .vmem, ⟨15, _⟩ => ⟨S8x4x128x128, .f32⟩
  | .local _ .vmem, ⟨16, _⟩ => ⟨S4x128x128, .f32⟩
  | _, _ => ⟨S4096x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0_0 : Ref sig .tc := ⟨.hbm, 6, rfl⟩
abbrev main_v0_1 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_scratch0 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage0_0 : Fin 2 → Memref sig .tc .vmem S512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S4x512x64 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S8x4x128x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Proof.Reals.lean ====
/- Finite extended reals: reading a finite value as a real number, sums of them, the float constants the programs spell,
   and what a printed test `|x| < ∞` says. -/
module

public import Idealize.ShloMosaic.Lib.Pointwise
public import Idealize.ShloMosaic.Lib.IdealHost

@[expose] public section

noncomputable section

namespace Cert.Reals

open Idealize.ShloMosaic
open scoped BigOperators

/-- The value is a real number, neither infinity. -/
def IsReal (x : EReal) : Prop := ∃ r : ℝ, x = (r : EReal)

/-- A family of finite values is the coercion of a family of reals. -/
theorem lift {ι : Type} {f : ι → EReal} (h : ∀ i, IsReal (f i)) : ∃ r : ι → ℝ, f = fun i => (r i : EReal) :=
  ⟨fun i => (h i).choose, funext fun i => (h i).choose_spec⟩

/-- A finite sum of coerced reals is the coerced sum. -/
theorem coe_sum {ι : Type} (s : Finset ι) (f : ι → ℝ) : ∑ i ∈ s, (f i : EReal) = ((∑ i ∈ s, f i : ℝ) : EReal) := by
  classical
  induction s using Finset.induction_on with
  | empty => simp
  | insert a s ha ih => rw [Finset.sum_insert ha, Finset.sum_insert ha, ih, EReal.coe_add]

theorem IsReal.add {x y : EReal} (hx : IsReal x) (hy : IsReal y) : IsReal (x + y) := by
  obtain ⟨a, rfl⟩ := hx; obtain ⟨b, rfl⟩ := hy; exact ⟨a + b, by rw [EReal.coe_add]⟩

theorem IsReal.mul {x y : EReal} (hx : IsReal x) (hy : IsReal y) : IsReal (x * y) := by
  obtain ⟨a, rfl⟩ := hx; obtain ⟨b, rfl⟩ := hy; exact ⟨a * b, by rw [EReal.coe_mul]⟩

theorem IsReal.sum {ι : Type} {s : Finset ι} {f : ι → EReal} (h : ∀ i, IsReal (f i)) : IsReal (∑ i ∈ s, f i) := by
  obtain ⟨r, rfl⟩ := lift h; exact ⟨_, coe_sum s r⟩

/-- An index of a rank-2 array is a pair of coordinates. -/
theorem ex2 {p q : ℕ} (y : (⟨2, ![p, q]⟩ : Shape).Idx) : ∃ (a : Fin p) (b : Fin q), y = ix2 a b := ⟨_, _, eq_ix2 y⟩

/-- An index of a rank-3 array is a triple of coordinates. -/
theorem ex3 {p q r : ℕ} (y : (⟨3, ![p, q, r]⟩ : Shape).Idx) : ∃ (a : Fin p) (b : Fin q) (c : Fin r), y = ix3 a b c :=
  ⟨_, _, _, eq_ix3 y⟩

/-- The float `+∞`. -/
theorem ofBits_inf : Ideal.ofBits .f32 0x7F800000#32 = ⊤ := by simp [Ideal.ofBits, Ideal.ieee]

/-- The float 1024. -/
theorem ofBits_1024 : Ideal.ofBits .f32 0x44800000#32 = ((1024 : ℝ) : EReal) := by
  simp [Ideal.ofBits, Ideal.ieee, -EReal.coe_mul]; norm_num

/-- The float −1/2. -/
theorem ofBits_neg_half : Ideal.ofBits .f32 0xBF000000#32 = ((-(1 / 2) : ℝ) : EReal) := by
  simp [Ideal.ofBits, Ideal.ieee, -EReal.coe_mul]; norm_num

/-- The norm's ε is a positive real. -/
theorem ofBits_eps : ∃ e : ℝ, 0 < e ∧ Ideal.ofBits .f32 0x358637BD#32 = (e : EReal) := by
  refine ⟨_, ?_, by simp [Ideal.ofBits, Ideal.ieee, -EReal.coe_mul]; rfl⟩
  norm_num

/-- What the printed test `|x| < ∞` says of an ideal value. -/
theorem isReal_of_test {x : EReal} (h : BitVec.ofBool (decide (FloatOps.absf (F := Ideal) (φ := .f32) x < Ideal.ofBits .f32 0x7F800000#32)) = 1#1) :
    IsReal x := by
  have h' : FloatOps.absf (F := Ideal) (φ := .f32) x < Ideal.ofBits .f32 0x7F800000#32 := by
    by_contra hn
    rw [decide_eq_false hn] at h
    exact absurd h (by decide)
  rw [ofBits_inf] at h'
  induction x with
  | bot => exact absurd h' (by simp [FloatOps.absf])
  | top => exact absurd h' (by simp [FloatOps.absf])
  | coe r => exact ⟨r, rfl⟩

end Cert.Reals

end
-- ==== Proof.NormGrad.lean ====
/- The gradient of the root-mean-square norm, one row of 1024 lanes: the form that projects the scaled cotangent off the
   normalised row is the form that differentiates the mean square, for finite rows. -/
module

public import proofs.«01_k».proof.Proof.Reals

@[expose] public section

noncomputable section

namespace Cert.NormGrad

open Idealize.ShloMosaic Cert.Reals
open scoped BigOperators

/-- The mean square of a row plus ε. -/
def ms (x : Fin 1024 → EReal) : EReal :=
  Ideal.div (∑ k, x k * x k) (Ideal.ofBits .f32 0x44800000#32) + Ideal.ofBits .f32 0x358637BD#32

/-- The row's scale `(mean x² + ε)^(-1/2)`. -/
def rn (x : Fin 1024 → EReal) : EReal := Ideal.rsqrt (ms x)

/-- The gradient at lane `d` by projection: `r (g w − x r · mean((g w) (x r)))`. -/
def byProjection (x w g : Fin 1024 → EReal) (d : Fin 1024) : EReal :=
  rn x * (g d * w d - x d * rn x * Ideal.div (∑ k, g k * w k * (x k * rn x)) (Ideal.ofBits .f32 0x44800000#32))

/-- What flows back into each of the two factors of the square `x · x` at one lane. -/
def squareGrad (x w g : Fin 1024 → EReal) : EReal :=
  Ideal.div ((∑ k, x k * (g k * w k)) * (Ideal.ofBits .f32 0xBF000000#32 * Ideal.div (rn x) (ms x))) (Ideal.ofBits .f32 0x44800000#32)

/-- The gradient at lane `d` by the chain rule through the mean square. -/
def byChain (x w g : Fin 1024 → EReal) (d : Fin 1024) : EReal :=
  g d * w d * rn x + x d * squareGrad x w g + squareGrad x w g * x d

/-- The mean square plus ε of a finite row is a positive real. -/
theorem ms_coe (x : Fin 1024 → ℝ) : ∃ v : ℝ, 0 < v ∧ ms (fun k => (x k : EReal)) = (v : EReal) := by
  obtain ⟨e, he, hE⟩ := ofBits_eps
  refine ⟨(∑ k, x k * x k) * (1 / 1024) + e, ?_, ?_⟩
  · have : 0 ≤ ∑ k, x k * x k := Finset.sum_nonneg fun k _ => mul_self_nonneg _
    positivity
  · simp only [ms, hE, ofBits_1024, ← EReal.coe_mul, coe_sum, Ideal.div_coe (by norm_num : (1024 : ℝ) ≠ 0), ← EReal.coe_add]

/-- The scale of a finite row is a real `s` with `s² · (mean square + ε) = 1`. -/
theorem rn_coe (x : Fin 1024 → ℝ) : ∃ v s : ℝ, 0 < v ∧ s * s * v = 1 ∧ ms (fun k => (x k : EReal)) = (v : EReal)
    ∧ rn (fun k => (x k : EReal)) = (s : EReal) := by
  obtain ⟨v, hv, hm⟩ := ms_coe x
  refine ⟨v, (Real.sqrt v)⁻¹, hv, ?_, hm, ?_⟩
  · have := Real.mul_self_sqrt hv.le
    have h0 : Real.sqrt v ≠ 0 := (Real.sqrt_pos.mpr hv).ne'
    field_simp
    nlinarith
  · rw [rn, hm, Ideal.rsqrt_coe, if_neg hv.le.not_gt, if_neg hv.ne']

/-- The scale of a finite row is finite. -/
theorem isReal_rn {x : Fin 1024 → EReal} (hx : ∀ k, IsReal (x k)) : IsReal (rn x) := by
  obtain ⟨x, rfl⟩ := lift hx
  obtain ⟨v, s, -, -, -, h⟩ := rn_coe x
  exact ⟨s, h⟩

/-- The two forms of the gradient agree on finite rows. -/
theorem byProjection_eq_byChain {x w g : Fin 1024 → EReal} (hx : ∀ k, IsReal (x k)) (hw : ∀ k, IsReal (w k))
    (hg : ∀ k, IsReal (g k)) (d : Fin 1024) : byProjection x w g d = byChain x w g d := by
  obtain ⟨x, rfl⟩ := lift hx
  obtain ⟨w, rfl⟩ := lift hw
  obtain ⟨g, rfl⟩ := lift hg
  obtain ⟨v, s, hv, hs, hm, hr⟩ := rn_coe x
  have hsum : ∑ k, g k * w k * (x k * s) = s * ∑ k, x k * (g k * w k) := by
    rw [Finset.mul_sum]; exact Finset.sum_congr rfl fun k _ => by ring
  simp only [byProjection, byChain, squareGrad, hr, hm, ofBits_1024, ofBits_neg_half, Ideal.div_coe hv.ne',
    Ideal.div_coe (by norm_num : (1024 : ℝ) ≠ 0), ← EReal.coe_mul, coe_sum, ← EReal.coe_add, ← EReal.coe_sub, hsum]
  congr 1
  generalize ∑ k, x k * (g k * w k) = Q
  have hv' : 1 / v = s * s := by field_simp; linarith
  rw [hv']
  ring

end Cert.NormGrad

end
-- ==== Proof.Norm.Value.lean ====
/- `norm_bwd`: what the kernel's two result arrays hold. Grid point `t` handles rows `512 t … 512 t + 511`: it writes its
   rows of the input gradient, and adds its rows' part to the one weight-gradient row. -/
module

public import proofs.«01_k».proof.Proof.Gen.KernelNormIdeal.Value
public import proofs.«01_k».proof.Proof.NormGrad
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.KernelNormIdeal.Value

open Cert.KernelNormIdeal Cert.KernelNormIdeal.Gen Cert.NormGrad Cert.Reals

/-- The input gradient: the residual's gradient plus the norm's, the cotangent being the sum of its four parts. -/
def dx (x : FVec Ideal S4096x1024 .f32) (w : FVec Ideal S1024 .f32) (d : FVec Ideal S4096x1024 .f32)
    (g : FVec Ideal S4x4096x1024 .bf16) : FVec Ideal S4096x1024 .f32 := fun j =>
  d j + byProjection (fun k => x (ix2 (j 0) k)) (fun k => w (ix1 k)) (fun k => ∑ p : Fin 4, g (ix3 p (j 0) k)) (j 1)

/-- The weight gradient: over all rows, the cotangent times the normalised row. -/
def dnw (x : FVec Ideal S4096x1024 .f32) (g : FVec Ideal S4x4096x1024 .bf16) : FVec Ideal S1x1024 .f32 := fun j =>
  ∑ i : Fin 4096, (∑ p : Fin 4, g (ix3 p i (j 1))) * (x (ix2 i (j 1)) * rn fun k => x (ix2 i k))

variable (m : (ℓ : Loc nD τ sig) → Buf (Elt Ideal) ℓ)

theorem idx : ∀ t : Fin cfg0.N, win0_0.index t = ![t.val, 0] ∧ win0_1.index t = ![0, 0] ∧ win0_2.index t = ![t.val, 0]
    ∧ win0_3.index t = ![0, t.val, 0] ∧ win0_4.index t = ![t.val, 0] ∧ t.val < 8 :=
  (by decide +kernel : ∀ t : Fin grid0.N, _)

/-- Row `a` of point `t`'s block is row `512 t + a` of the array. -/
def row (t : Fin cfg0.N) (a : Fin 512) : Fin 4096 := ⟨t.val * 512 + a.val, by have := (idx t).2.2.2.2.2; omega⟩

theorem blk0 (c : Dev nD) (t : Fin cfg0.N) (a : Fin 512) (b : Fin 1024) :
    (iblk m c 0 t : FVec Ideal S512x1024 .f32) (ix2 a b) = (m ((c : Thread nD τ).loc main_arg0) : FVec Ideal S4096x1024 .f32) (ix2 (row t a) b) := by
  blk_simp [iblk, V, row, idx t]
  blk_ext [idx t]

theorem blk1 (c : Dev nD) (t : Fin cfg0.N) (b : Fin 1024) :
    (iblk m c 1 t : FVec Ideal S1x1024 .f32) (ix2 0 b) = (m ((c : Thread nD τ).loc main_arg1) : FVec Ideal S1024 .f32) (ix1 b) := by
  blk_simp [iblk, idx t]
  entry_read
  pointwise
  blk_ext [idx t]

theorem blk2 (c : Dev nD) (t : Fin cfg0.N) (a : Fin 512) (b : Fin 1024) :
    (iblk m c 2 t : FVec Ideal S512x1024 .f32) (ix2 a b) = (m ((c : Thread nD τ).loc main_arg2) : FVec Ideal S4096x1024 .f32) (ix2 (row t a) b) := by
  blk_simp [iblk, V, row, idx t]
  blk_ext [idx t]

theorem blk3 (c : Dev nD) (t : Fin cfg0.N) (p : Fin 4) (a : Fin 512) (b : Fin 1024) :
    (iblk m c 3 t : FVec Ideal S4x512x1024 .bf16) (ix3 p a b) = (m ((c : Thread nD τ).loc main_arg3) : FVec Ideal S4x4096x1024 .bf16) (ix3 p (row t a) b) := by
  blk_simp [iblk, V, row, idx t]
  blk_ext [idx t]

/-- What the body stores in the input-gradient block, of its four input blocks. -/
def dxBlk (x : FVec Ideal S512x1024 .f32) (w : FVec Ideal S1x1024 .f32) (d : FVec Ideal S512x1024 .f32)
    (g : FVec Ideal S4x512x1024 .bf16) : FVec Ideal S512x1024 .f32 := fun y =>
  d y + byProjection (fun k => x (ix2 (y 0) k)) (fun k => w (ix2 0 k)) (fun k => ∑ p : Fin 4, g (ix3 p (y 0) k)) (y 1)

/-- A point's part of the weight gradient, of its input blocks. -/
def dnwBlk (x : FVec Ideal S512x1024 .f32) (g : FVec Ideal S4x512x1024 .bf16) : FVec Ideal S1x1024 .f32 := fun y =>
  ∑ a : Fin 512, (∑ p : Fin 4, g (ix3 p a (y 1))) * (x (ix2 a (y 1)) * rn fun k => x (ix2 a k))

theorem out4_A (c : Dev nD) (t : Fin cfg0.N) (h0 : t.val % 8 = 0) :
    (outsAt0 m c t.val t.isLt).1 = dxBlk (iblk m c 0 t) (iblk m c 1 t) (iblk m c 2 t) (iblk m c 3 t) := by
  rw [outsAt0_A m c t h0]
  funext y
  obtain ⟨p, q, rfl⟩ := ex2 y
  frame_out
  pointwise [k0_pay1, k0_pay3, k0_pay4, k0_pay5, k0_pay6, k0_pay7, k0_pay8, k0_pay9, k0_pay10]
  simp only [dxBlk, byProjection, rn, ms, Fin.sum_univ_four, ix2_0, ix2_1]

theorem out4_B (c : Dev nD) (t : Fin cfg0.N) (h0 : ¬t.val % 8 = 0) :
    (outsAt0 m c t.val t.isLt).1 = dxBlk (iblk m c 0 t) (iblk m c 1 t) (iblk m c 2 t) (iblk m c 3 t) := by
  rw [outsAt0_B m c t h0]
  funext y
  obtain ⟨p, q, rfl⟩ := ex2 y
  frame_out
  pointwise [k0_pay1, k0_pay3, k0_pay4, k0_pay5, k0_pay6, k0_pay7, k0_pay8, k0_pay9, k0_pay10]
  simp only [dxBlk, byProjection, rn, ms, Fin.sum_univ_four, ix2_0, ix2_1]

/-- The input-gradient array after the run. -/
theorem final4 (c : Dev nD) : (dats m 0 c).arrAt 4 cfg0.N = dx (m ((c : Thread nD τ).loc main_arg0))
    (m ((c : Thread nD τ).loc main_arg1)) (m ((c : Thread nD τ).loc main_arg2)) (m ((c : Thread nD τ).loc main_arg3)) := by
  refine (dats m 0 c).arrAt_eq_of_covers 4 _ (by decide +kernel) fun t _ y => ?_
  obtain ⟨p, q, rfl⟩ : ∃ (p : Fin 512) (q : Fin 1024), y = ix2 p q := ex2 y
  have he : (((cfg0.win 4).blk t).view.emb (ix2 p q)) = (ix2 (row t p) q : S4096x1024.Idx) := by
    blk_simp [row, idx t]; blk_ext [idx t]
  rw [he]
  blk_simp
  rw [after0_4]
  have h : (outsAt0 m c t.val t.isLt).1 = dxBlk (iblk m c 0 t) (iblk m c 1 t) (iblk m c 2 t) (iblk m c 3 t) := by
    by_cases h : t.val % 8 = 0
    · exact out4_A m c t h
    · exact out4_B m c t h
  rw [h]
  show dxBlk _ _ _ _ (ix2 p q) = dx _ _ _ _ (ix2 (row t p) q)
  simp only [dxBlk, dx, ix2_0, ix2_1, blk0, blk1, blk2, blk3]

/-- The weight-gradient row after the run. -/
theorem final5 (c : Dev nD) : (dats m 0 c).arrAt 5 cfg0.N = dnw (m ((c : Thread nD τ).loc main_arg0))
    (m ((c : Thread nD τ).loc main_arg3)) := by
  refine (dats m 0 c).arrAt_eq_of_after_last 5 t0_7 (by decide +kernel) _ fun j => ?_
  obtain ⟨p, q, rfl⟩ : ∃ (p : Fin 1) (q : Fin 1024), j = ix2 p q := ex2 j
  blk_simp
  rw [after0_5, Pipeline.eq_sum_fin_of_reset_step_apply_last (fun n h => (outsAt0 m c n h).2) 8 (fun _ => 0)
    (fun t => dnwBlk (iblk m c 0 t) (iblk m c 3 t))
    (fun t h j => by
      rw [outsAt0_A m c t h]; frame_out
      pointwise [k0_pay2, k0_pay3, k0_pay4, k0_pay5, k0_pay6, k0_pay7]
      simp only [dnwBlk, rn, ms, Fin.sum_univ_four])
    (fun t h j => by
      rw [outsAt0_B m c t h]; frame_out
      pointwise [k0_pay2, k0_pay3, k0_pay4, k0_pay5, k0_pay6, k0_pay7]
      simp only [dnwBlk, rn, ms, Fin.sum_univ_four])
    (le_of_eq N_0) t0_7 rfl (ix2 p q), zero_add]
  simp only [dnwBlk, dnw, ix2_1, blk0, blk3]
  refine Fin.sum_mul_add_congr fun s k hl => ?_
  have : (⟨s.val * 512 + k.val, hl⟩ : Fin 4096) = row s k := rfl
  rw [this]

end Cert.KernelNormIdeal.Value

end
-- ==== Proof.Norm.Pair.lean ====
/- `norm_bwd`: the reference's two results read at an index, and the claims of this call. -/
module

public import proofs.«01_k».proof.Defs
public import proofs.«01_k».proof.Proof.Norm.Value
public import proofs.«01_k».proof.Proof.Gen.KernelNorm.Frame
public import proofs.«01_k».proof.Proof.Gen.ReferenceNormIdeal.Run
public import proofs.«01_k».proof.Proof.Gen.Pre_norm_finite
public import Idealize.ShloMosaic.Lib.Quiescent

@[expose] public section

set_option maxRecDepth 16384

noncomputable section

open Idealize.ShloMosaic Idealize.ShloMosaic.TcCoe Idealize.SL.Sem

namespace Cert.ReferenceNormIdeal.Pair

open Cert.ReferenceNormIdeal Cert.ReferenceNormIdeal.Gen Cert.ReferenceNormIdeal.Value Cert.NormGrad Cert.Reals

variable (m : (ℓ : Loc nD τ sig) → Buf (Elt Ideal) ℓ)

/-- The reference's input gradient at an index: the residual's gradient plus the chain rule's gradient of the norm. -/
theorem dx_at (c : Dev nD) (x : FVec Ideal S4096x1024 .f32) (w : FVec Ideal S1024 .f32) (d : FVec Ideal S4096x1024 .f32)
    (g : FVec Ideal S4x4096x1024 .bf16) (hx : m (c.tc.loc main_arg0) = x) (hw : m (c.tc.loc main_arg1) = w)
    (hd : m (c.tc.loc main_arg2) = d) (hg : m (c.tc.loc main_arg3) = g) (i : Fin 4096) (k : Fin 1024) :
    (res_out0 m c : FVec Ideal S4096x1024 .f32) (ix2 i k)
    = d (ix2 i k) + byChain (fun k => x (ix2 i k)) (fun k => w (ix1 k)) (fun k => ∑ p : Fin 4, g (ix3 p i k)) k := by
  unfold res_out0 res_main_v38
  rw [hx, hw, hd, hg]
  pointwise
  simp only [byChain, squareGrad, rn, ms, Fin.sum_univ_one, Finset.univ_unique, Finset.sum_singleton, add_assoc]

end Cert.ReferenceNormIdeal.Pair

namespace Cert.Proof.Norm

open Cert.Reals Cert.NormGrad

theorem frame_p : Cert.quiescent_KernelNorm := fun m ρ _ => Cert.KernelNorm.Gen.frame m ρ
theorem frame_pi : Cert.quiescent_KernelNormIdeal := fun m ρ _ => Cert.KernelNormIdeal.Gen.frame m ρ
theorem frame_pi_pre : Cert.quiescent_KernelNormIdeal_pre_norm_finite := fun m ρ _ => Cert.KernelNormIdeal.Gen.frame m ρ
theorem frame_ri : Cert.quiescent_ReferenceNormIdeal := fun m ρ _ =>
  (θ_run Cert.ReferenceNormIdeal.defs _ _).mono (fun r h => ⟨fun c => (h c).2.2,
      Idealize.ShloMosaic.sem_eq_zero_of_no_sems (by decide) r.2⟩)
    (Cert.ReferenceNormIdeal.Value.run (F := Ideal) m ρ)
theorem frame_ri_pre : Cert.quiescent_ReferenceNormIdeal_pre_norm_finite := fun m ρ _ => frame_ri m ρ trivial

/-- The two programs' results agree, over arguments whose norm operands are finite. -/
theorem algebraic : Cert.algebraic_KernelNormIdeal_ReferenceNormIdeal_pre_norm_finite := by
  intro m ρ m' ρ' hp hagree
  refine ⟨_, _, Cert.KernelNormIdeal.Value.run_blocks (F := Ideal) m ρ, ?_⟩
  refine (θ_run Cert.ReferenceNormIdeal.defs _ _).mono (fun _ h c => ⟨(h c).1.trans ?_, (h c).2.1.trans ?_, (h c).2.2⟩)
    (Cert.ReferenceNormIdeal.Value.run (F := Ideal) m' ρ')
  · obtain ⟨h0, h1, h2, h3⟩ := hagree c
    obtain ⟨p0, p1, p3⟩ := hp c
    rw [Cert.KernelNormIdeal.Value.final4]
    funext j
    obtain ⟨i, k, rfl⟩ : ∃ (i : Fin 4096) (k : Fin 1024), j = ix2 i k := ex2 j
    refine (Cert.ReferenceNormIdeal.Pair.dx_at m' c _ _ _ _ h0 h1 h2 h3 i k).trans ?_
    refine congrArg (fun z : EReal => (_ : EReal) + z) (byProjection_eq_byChain (fun k => ?_) (fun k => ?_) (fun k => IsReal.sum fun p => ?_) k).symm
    · exact isReal_of_test (by have := congrFun p0 (ix2 i k); pointwise [Cert.Pre_norm_finite.fn] at this; exact this)
    · exact isReal_of_test (by have := congrFun p1 (ix1 k); pointwise [Cert.Pre_norm_finite.fn] at this; exact this)
    · exact isReal_of_test (by have := congrFun p3 (ix3 p i k); pointwise [Cert.Pre_norm_finite.fn] at this; exact this)
  · obtain ⟨h0, h1, h2, h3⟩ := hagree c
    rw [Cert.KernelNormIdeal.Value.final5, h0, h3]
    generalize (m (c.tc.loc Cert.KernelNormIdeal.main_arg0) : FVec Ideal Cert.KernelNormIdeal.S4096x1024 .f32) = x
    generalize (m (c.tc.loc Cert.KernelNormIdeal.main_arg3) : FVec Ideal Cert.KernelNormIdeal.S4x4096x1024 .bf16) = g
    funext j
    obtain ⟨i, k, rfl⟩ : ∃ (i : Fin 1) (k : Fin 1024), j = ix2 i k := ex2 j
    pointwise
    simp only [Cert.KernelNormIdeal.Value.dnw, rn, ms, ix2_1, Finset.univ_unique, Finset.sum_singleton]
    exact Finset.sum_congr rfl fun r _ => mul_comm _ _

end Cert.Proof.Norm

end
-- ==== Proof.RowStores.lean ====
/- Rows of a two-axis block written one at a time: what a list of such stores leaves at an index, newest store first. -/
module

public import Idealize.ShloMosaic.Lib.Pipeline.ValueKit
public import Idealize.ShloMosaic.Lib.WritesUnit
public import Idealize.ShloMosaic.Lib.Pointwise

@[expose] public section

noncomputable section

open Idealize.ShloMosaic

namespace Cert.RowStores

variable {Val : EltTy → Type} [∀ e, Nonempty (Val e)] {e : EltTy} {r n : ℕ}

/-- Index `(0, q)` of a one-row rectangle at row `j` is index `(j, q)` of the block. -/
theorem emb_row (j : ℕ) (inb : ∀ a : Fin 2, (![j, 0] : Fin 2 → ℕ) a + (![1, n] : Fin 2 → ℕ) a ≤ (![r, n] : Fin 2 → ℕ) a)
    (p : Fin r) (q : Fin n) (hp : p.val = j) :
    (Rect.unit (s := ⟨2, ![r, n]⟩) ![j, 0] ![1, n] inb).emb (ix2 0 q) = ix2 p q := by
  funext a
  apply Fin.ext
  match a with
  | 0 => show j + 1 * 0 = p.val; omega
  | 1 => show 0 + 1 * q.val = q.val; omega

/-- Row `p` is not in a one-row rectangle at another row. -/
theorem not_mem_row (j : ℕ) (inb : ∀ a : Fin 2, (![j, 0] : Fin 2 → ℕ) a + (![1, n] : Fin 2 → ℕ) a ≤ (![r, n] : Fin 2 → ℕ) a)
    (p : Fin r) (q : Fin n) (hp : p.val ≠ j) :
    (ix2 p q : (⟨2, ![r, n]⟩ : Shape).Idx) ∉ (Rect.unit (s := ⟨2, ![r, n]⟩) ![j, 0] ![1, n] inb).set := by
  rw [Rect.mem_set_unit]
  intro h
  have := h 0
  have h1 : j ≤ p.val ∧ p.val < j + 1 := this
  omega

/-- The newest store is of the row read. -/
theorem canon_hit (j : ℕ) (inb : ∀ a : Fin 2, (![j, 0] : Fin 2 → ℕ) a + (![1, n] : Fin 2 → ℕ) a ≤ (![r, n] : Fin 2 → ℕ) a)
    (w : (Rect.unit (s := ⟨2, ![r, n]⟩) ![j, 0] ![1, n] inb).shape.Idx → Val e) (L : List (View.Piece Val ⟨2, ![r, n]⟩ e))
    (p : Fin r) (q : Fin n) (hp : p.val = j) :
    View.canon (Val := Val) (⟨Rect.unit (s := ⟨2, ![r, n]⟩) ![j, 0] ![1, n] inb, w⟩ :: L) (ix2 p q) = w (ix2 0 q) := by
  rw [← emb_row j inb p q hp]
  exact View.canon_cons_emb _ w L _

/-- The newest store is of another row. -/
theorem canon_miss (j : ℕ) (inb : ∀ a : Fin 2, (![j, 0] : Fin 2 → ℕ) a + (![1, n] : Fin 2 → ℕ) a ≤ (![r, n] : Fin 2 → ℕ) a)
    (w : (Rect.unit (s := ⟨2, ![r, n]⟩) ![j, 0] ![1, n] inb).shape.Idx → Val e) (L : List (View.Piece Val ⟨2, ![r, n]⟩ e))
    (p : Fin r) (q : Fin n) (hp : p.val ≠ j) :
    View.canon (Val := Val) (⟨Rect.unit (s := ⟨2, ![r, n]⟩) ![j, 0] ![1, n] inb, w⟩ :: L) (ix2 p q) = View.canon L (ix2 p q) :=
  View.canon_cons_of_not_mem _ _ (not_mem_row j inb p q hp)

variable {sig : RefSig} {κ : Kind} {sp : Space}

/-- A load of one row of what a list of stores leaves. -/
theorem readCov_row (v : View sig κ sp ⟨2, ![r, n]⟩ e) (L : List (View.Piece Val ⟨2, ![r, n]⟩ e)) (j : ℕ)
    (inb : ∀ a : Fin 2, (![j, 0] : Fin 2 → ℕ) a + (![1, n] : Fin 2 → ℕ) a ≤ (![r, n] : Fin 2 → ℕ) a)
    (p : Fin r) (q : Fin n) (hp : p.val = j) :
    v.readCov L (Rect.unit (s := ⟨2, ![r, n]⟩) ![j, 0] ![1, n] inb).toLoadRect (ix2 0 q) = View.canon L (ix2 p q) := by
  rw [View.readCov_eq_canon', ← emb_row j inb p q hp]
  rfl

/-- The same over known prior contents: the newest store is of the row read. -/
theorem read_hit (v : View sig κ sp ⟨2, ![r, n]⟩ e) (f : v.ty.Contents Val) (j : ℕ)
    (inb : ∀ a : Fin 2, (![j, 0] : Fin 2 → ℕ) a + (![1, n] : Fin 2 → ℕ) a ≤ (![r, n] : Fin 2 → ℕ) a)
    (w : (Rect.unit (s := ⟨2, ![r, n]⟩) ![j, 0] ![1, n] inb).shape.Idx → Val e) (L : List (View.Piece Val ⟨2, ![r, n]⟩ e))
    (p : Fin r) (q : Fin n) (hp : p.val = j) :
    v.read Val (v.writes Val f (⟨Rect.unit (s := ⟨2, ![r, n]⟩) ![j, 0] ![1, n] inb, w⟩ :: L)) (ix2 p q) = w (ix2 0 q) := by
  rw [← emb_row j inb p q hp]
  exact View.read_writes_cons_emb v f _ w L _

/-- The same over known prior contents: the newest store is of another row. -/
theorem read_miss (v : View sig κ sp ⟨2, ![r, n]⟩ e) (f : v.ty.Contents Val) (j : ℕ)
    (inb : ∀ a : Fin 2, (![j, 0] : Fin 2 → ℕ) a + (![1, n] : Fin 2 → ℕ) a ≤ (![r, n] : Fin 2 → ℕ) a)
    (w : (Rect.unit (s := ⟨2, ![r, n]⟩) ![j, 0] ![1, n] inb).shape.Idx → Val e) (L : List (View.Piece Val ⟨2, ![r, n]⟩ e))
    (p : Fin r) (q : Fin n) (hp : p.val ≠ j) :
    v.read Val (v.writes Val f (⟨Rect.unit (s := ⟨2, ![r, n]⟩) ![j, 0] ![1, n] inb, w⟩ :: L)) (ix2 p q)
      = v.read Val (v.writes Val f L) (ix2 p q) :=
  View.read_writes_cons_miss v f ⟨_, w⟩ L _ (not_mem_row j inb p q hp)

/-- A row loaded from known contents. -/
theorem ld_row (x : (⟨2, ![r, n]⟩ : Shape).Idx → Val e) (j : ℕ)
    (inb : ∀ a : Fin 2, (![j, 0] : Fin 2 → ℕ) a + (![1, n] : Fin 2 → ℕ) a ≤ (![r, n] : Fin 2 → ℕ) a)
    (p : Fin r) (q : Fin n) (hp : p.val = j) :
    View.ld x (Rect.unit (s := ⟨2, ![r, n]⟩) ![j, 0] ![1, n] inb) (ix2 0 q) = x (ix2 p q) := by
  rw [← emb_row j inb p q hp]
  rfl

end Cert.RowStores

end
-- ==== Proof.Conv.Value.lean ====
/- `conv_bwd`: what the kernel's two result arrays hold. Grid point `t` handles rows `256 t … 256 t + 255`, with the first
   rows of the next point's cotangent and the last rows of the previous point's input beside its own. -/
module

public import proofs.«01_k».proof.Proof.Gen.KernelConvIdeal.Frame
public import proofs.«01_k».proof.Proof.Reals
public import proofs.«01_k».proof.Proof.RowStores
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.KernelConvIdeal.Value

open Cert.KernelConvIdeal Cert.KernelConvIdeal.Gen Cert.Reals Cert.RowStores

/-- The cotangent `s` rows later, zero past the end. -/
def later (d : FVec Ideal S4096x1536 .f32) (s : ℕ) (i : Fin 4096) (q : Fin 1536) : EReal :=
  if h : i.val + s < 4096 then d (ix2 ⟨i.val + s, h⟩ q) else 0

/-- The input `s` rows earlier, zero before the start. -/
def earlier (u : FVec Ideal S4096x1536 .f32) (s : ℕ) (i : Fin 4096) (q : Fin 1536) : EReal :=
  if h : s ≤ i.val then u (ix2 ⟨i.val - s, by omega⟩ q) else 0

/-- The gradient of the convolved input: tap `k` of the filter meets the cotangent `3 - k` rows later. -/
def du (w : FVec Ideal S4x1536 .f32) (d : FVec Ideal S4096x1536 .f32) : FVec Ideal S4096x1536 .f32 := fun j =>
  w (ix2 3 (j 1)) * d (ix2 (j 0) (j 1)) + w (ix2 2 (j 1)) * later d 1 (j 0) (j 1)
    + w (ix2 1 (j 1)) * later d 2 (j 0) (j 1) + w (ix2 0 (j 1)) * later d 3 (j 0) (j 1)

/-- One row's part of the filter's gradient. -/
def dwTerm (u d : FVec Ideal S4096x1536 .f32) (s : ℕ) (q : Fin 1536) (i : Fin 4096) : EReal := d (ix2 i q) * earlier u s i q

/-- The gradient of the filter: over all rows, the cotangent times the input `3 - k` rows earlier. -/
def dw (u d : FVec Ideal S4096x1536 .f32) : FVec Ideal S4x1536 .f32 := fun j =>
  ∑ i : Fin 4096, dwTerm u d (3 - (j 0).val) (j 1) i

variable (m : (ℓ : Loc nD τ sig) → Buf (Elt Ideal) ℓ)

theorem idx : ∀ t : Fin cfg0.N, win0_0.index t = ![t.val, 0] ∧ win0_1.index t = ![t.val * 32 - 1, 0] ∧ win0_2.index t = ![0, 0]
    ∧ win0_3.index t = ![t.val, 0] ∧ win0_4.index t = ![min (t.val * 32 + 32) 511, 0] ∧ win0_5.index t = ![t.val, 0] ∧ t.val < 16 :=
  (by decide +kernel : ∀ t : Fin grid0.N, _)

/-- The masks of the two halos: one inside the array, zero at its ends. -/
theorem mask : ∀ t : Fin cfg0.N,
    (Scalar.extui (Scalar.cmpi CmpIPredicate.slt (BitVec.ofNat 32 (grid0.coords t 0).val) 15#32) : BitVec 32).toInt = (if t.val = 15 then 0 else 1)
    ∧ (Scalar.extui (Scalar.cmpi CmpIPredicate.sgt (BitVec.ofNat 32 (grid0.coords t 0).val) 0#32) : BitVec 32).toInt = (if t.val = 0 then 0 else 1) :=
  (by decide +kernel : ∀ t : Fin grid0.N, _)

/-- Row `a` of point `t`'s block is row `256 t + a` of the array. -/
def row (t : Fin cfg0.N) (a : Fin 256) : Fin 4096 := ⟨t.val * 256 + a.val, by have := (idx t).2.2.2.2.2.2; omega⟩

theorem blk0 (c : Dev nD) (t : Fin cfg0.N) (a : Fin 256) (b : Fin 1536) :
    (iblk m c 0 t : FVec Ideal S256x1536 .f32) (ix2 a b) = (m ((c : Thread nD τ).loc main_arg0) : FVec Ideal S4096x1536 .f32) (ix2 (row t a) b) := by
  blk_simp [iblk, V, row, idx t]
  blk_ext [idx t]

theorem blk1 (c : Dev nD) (t : Fin cfg0.N) (a : Fin 8) (b : Fin 1536) :
    (iblk m c 1 t : FVec Ideal S8x1536 .f32) (ix2 a b) = (m ((c : Thread nD τ).loc main_arg0) : FVec Ideal S4096x1536 .f32)
      (ix2 ⟨(t.val * 32 - 1) * 8 + a.val, by have := (idx t).2.2.2.2.2.2; omega⟩ b) := by
  blk_simp [iblk, V, idx t]
  blk_ext [idx t]

theorem blk2 (c : Dev nD) (t : Fin cfg0.N) (a : Fin 8) (k : Fin 4) (b : Fin 1536) (h : a.val = k.val) :
    (iblk m c 2 t : FVec Ideal S8x1536 .f32) (ix2 a b) = (m ((c : Thread nD τ).loc main_arg1) : FVec Ideal S4x1536 .f32) (ix2 k b) := by
  have hV : V m c main_v0 = pad S8x1536 ![0, 0] ![4, 0] ![0, 0] (m ((c : Thread nD τ).loc main_arg1) : FVec Ideal S4x1536 .f32)
      (sitofp .f32 (constantI S_ 32 0#32) : FVec Ideal S_ .f32) pads_S4x1536_S8x1536_040_000 h_S_ := by
    show StableHlo.after (hostOps0 ++ (hostOps0_1 ++ [])) _ _ = _
    simp only [List.cons_append, List.nil_append]
    entry_read
    rfl
  blk_simp [iblk, idx t]
  show V m c main_v0 _ = _
  rw [hV]
  have he : (((View.whole main_v0).slice (win0_2.rect t)).emb (ix2 a b)) = (ix2 a b : S8x1536.Idx) := by blk_ext [idx t]
  rw [he]
  pointwise
  rw [dif_pos fun y => match y with
    | ⟨0, _⟩ => ⟨Nat.zero_le _, by show (a.val - 0) % (0 + 1) = 0; omega, by show (a.val - 0) / (0 + 1) < 4; omega⟩
    | ⟨1, _⟩ => ⟨Nat.zero_le _, by show (b.val - 0) % (0 + 1) = 0; omega, by show (b.val - 0) / (0 + 1) < 1536; omega⟩]
  congr 2; apply Fin.ext; exact h

theorem blk3 (c : Dev nD) (t : Fin cfg0.N) (a : Fin 256) (b : Fin 1536) :
    (iblk m c 3 t : FVec Ideal S256x1536 .f32) (ix2 a b) = (m ((c : Thread nD τ).loc main_arg2) : FVec Ideal S4096x1536 .f32) (ix2 (row t a) b) := by
  blk_simp [iblk, V, row, idx t]
  blk_ext [idx t]

theorem blk4 (c : Dev nD) (t : Fin cfg0.N) (a : Fin 8) (b : Fin 1536) :
    (iblk m c 4 t : FVec Ideal S8x1536 .f32) (ix2 a b) = (m ((c : Thread nD τ).loc main_arg2) : FVec Ideal S4096x1536 .f32)
      (ix2 ⟨min (t.val * 32 + 32) 511 * 8 + a.val, by omega⟩ b) := by
  blk_simp [iblk, V, idx t]
  blk_ext [idx t]

/-- `later` inside one point's block: own rows, else the next point's first rows. -/
def laterBlk (d : FVec Ideal S256x1536 .f32) (n : FVec Ideal S8x1536 .f32) (g : ℤ) (s : ℕ) (a : Fin 256) (q : Fin 1536) : EReal :=
  if h : (a.val + 264 - (264 - s)) % 264 < 256 then d (ix2 ⟨(a.val + 264 - (264 - s)) % 264, h⟩ q)
  else n (ix2 ⟨(a.val + 264 - (264 - s)) % 264 - 256, by omega⟩ q) * ((g : ℝ) : EReal)

/-- `earlier` inside one point's block: own rows, else the previous point's last rows. -/
def earlierBlk (u : FVec Ideal S256x1536 .f32) (n : FVec Ideal S8x1536 .f32) (g : ℤ) (s : ℕ) (a : Fin 256) (q : Fin 1536) : EReal :=
  if h : (8 + a.val + 264 - s) % 264 < 8 then n (ix2 ⟨(8 + a.val + 264 - s) % 264, h⟩ q) * ((g : ℝ) : EReal)
  else u (ix2 ⟨(8 + a.val + 264 - s) % 264 - 8, by omega⟩ q)

theorem laterBlk_eq (c : Dev nD) (t : Fin cfg0.N) (s : ℕ) (hs : s < 4) (a : Fin 256) (q : Fin 1536) :
    laterBlk (iblk m c 3 t) (iblk m c 4 t) (if t.val = 15 then 0 else 1) s a q = later (m ((c : Thread nD τ).loc main_arg2)) s (row t a) q := by
  have ht := (idx t).2.2.2.2.2.2
  have hr : (row t a).val = t.val * 256 + a.val := rfl
  simp only [laterBlk, later, blk3, blk4]
  by_cases h : a.val + s < 256
  · rw [dif_pos (by omega), dif_pos (by omega)]
    congr 2; apply Fin.ext; simp only [row]; omega
  · rw [dif_neg (by omega)]
    by_cases h15 : t.val = 15
    · rw [if_pos h15, dif_neg (by omega)]; simp
    · rw [if_neg h15, dif_pos (by omega)]
      simp only [Int.cast_one, EReal.coe_one, mul_one]
      congr 2; apply Fin.ext; simp only [row]; omega

theorem earlierBlk_eq (c : Dev nD) (t : Fin cfg0.N) (s : ℕ) (hs : s < 4) (a : Fin 256) (q : Fin 1536) :
    earlierBlk (iblk m c 0 t) (iblk m c 1 t) (if t.val = 0 then 0 else 1) s a q = earlier (m ((c : Thread nD τ).loc main_arg0)) s (row t a) q := by
  have ht := (idx t).2.2.2.2.2.2
  have hr : (row t a).val = t.val * 256 + a.val := rfl
  simp only [earlierBlk, earlier, blk0, blk1]
  by_cases h : s ≤ a.val
  · rw [dif_neg (by omega), dif_pos (by omega)]
    congr 2; apply Fin.ext; simp only [row]; omega
  · rw [dif_pos (by omega)]
    by_cases h15 : t.val = 0
    · rw [if_pos h15, dif_neg (by omega)]; simp
    · rw [if_neg h15, dif_pos (by omega)]
      simp only [Int.cast_one, EReal.coe_one, mul_one]
      congr 2; apply Fin.ext; simp only [row]; omega

/-- What the body stores in the input-gradient block, of its input blocks. -/
def duBlk (w : FVec Ideal S8x1536 .f32) (d : FVec Ideal S256x1536 .f32) (n : FVec Ideal S8x1536 .f32) (g : ℤ) : FVec Ideal S256x1536 .f32 := fun y =>
  w (ix2 3 (y 1)) * d (ix2 (y 0) (y 1)) + w (ix2 2 (y 1)) * laterBlk d n g 1 (y 0) (y 1)
    + w (ix2 1 (y 1)) * laterBlk d n g 2 (y 0) (y 1) + w (ix2 0 (y 1)) * laterBlk d n g 3 (y 0) (y 1)

theorem out5 (c : Dev nD) (t : Fin cfg0.N) (p : Fin 256) (q : Fin 1536) :
    (outsAt0 m c t.val t.isLt).1 (ix2 p q) = duBlk (iblk m c 2 t) (iblk m c 3 t) (iblk m c 4 t) (if t.val = 15 then 0 else 1) (ix2 p q) := by
  by_cases h : t.val % 16 = 0
  · rw [outsAt0_A m c t h]
    frame_out
    pointwise [k0_pay4]
    rw [(mask t).1]
    rfl
  · rw [outsAt0_B m c t h]
    frame_out
    pointwise [k0_pay4]
    rw [(mask t).1]
    rfl

/-- The input-gradient array after the run. -/
theorem final5 (c : Dev nD) : (dats m 0 c).arrAt 5 cfg0.N = du (m ((c : Thread nD τ).loc main_arg1)) (m ((c : Thread nD τ).loc main_arg2)) := by
  refine (dats m 0 c).arrAt_eq_of_covers 5 _ (by decide +kernel) fun t _ y => ?_
  obtain ⟨p, q, rfl⟩ : ∃ (p : Fin 256) (q : Fin 1536), y = ix2 p q := ex2 y
  have he : (((cfg0.win 5).blk t).view.emb (ix2 p q)) = (ix2 (row t p) q : S4096x1536.Idx) := by
    blk_simp [row, idx t]; blk_ext [idx t]
  rw [he]
  blk_simp
  rw [after0_5]
  refine (out5 m c t p q).trans ?_
  unfold duBlk
  simp only [ix2_0, ix2_1]
  rw [laterBlk_eq m c t 1 (by decide), laterBlk_eq m c t 2 (by decide), laterBlk_eq m c t 3 (by decide), blk3,
    blk2 m c t 3 3 q rfl, blk2 m c t 2 2 q rfl, blk2 m c t 1 1 q rfl, blk2 m c t 0 0 q rfl]
  rfl

/-- A point's part of the filter gradient, of its input blocks: nothing in rows 4 to 7. -/
def partBlk (d u : FVec Ideal S256x1536 .f32) (n : FVec Ideal S8x1536 .f32) (g : ℤ) : FVec Ideal S8x1536 .f32 := fun y =>
  if (y 0).val < 4 then ∑ a : Fin 256, d (ix2 a (y 1)) * earlierBlk u n g (3 - (y 0).val) a (y 1) else 0

theorem partBlk_at (d u : FVec Ideal S256x1536 .f32) (n : FVec Ideal S8x1536 .f32) (g : ℤ) (k : Fin 8) (q : Fin 1536) (h : k.val < 4) :
    partBlk d u n g (ix2 k q) = ∑ a : Fin 256, d (ix2 a q) * earlierBlk u n g (3 - k.val) a q := if_pos h

theorem earlierBlk_zero (u : FVec Ideal S256x1536 .f32) (n : FVec Ideal S8x1536 .f32) (g : ℤ) (a : Fin 256) (q : Fin 1536) :
    earlierBlk u n g 0 a q = u (ix2 a q) := by
  unfold earlierBlk
  rw [dif_neg (by omega)]
  congr 2; apply Fin.ext; simp only; omega

/-- That part at point `t`. -/
def part (c : Dev nD) (t : Fin cfg0.N) : FVec Ideal S8x1536 .f32 :=
  partBlk (iblk m c 3 t) (iblk m c 0 t) (iblk m c 1 t) (if t.val = 0 then 0 else 1)

theorem pay_at (c : Dev nD) (t : Fin cfg0.N) (v : Vec Ideal S1x1536 .f32) (q : Fin 1536) :
    k0_pay6 (BitVec.ofNat 32 (grid0.coords t 0).val) (iblk m c 3 t) (iblk m c 1 t) (iblk m c 0 t) v (ix2 0 q) = v (ix2 0 q) + part m c t (ix2 0 q)
    ∧ k0_pay7 (BitVec.ofNat 32 (grid0.coords t 0).val) (iblk m c 3 t) (iblk m c 1 t) (iblk m c 0 t) v (ix2 0 q) = v (ix2 0 q) + part m c t (ix2 1 q)
    ∧ k0_pay1 (k0_pay8 (BitVec.ofNat 32 (grid0.coords t 0).val) (iblk m c 3 t) (iblk m c 1 t) (iblk m c 0 t) v) (ix2 0 q) = v (ix2 0 q) + part m c t (ix2 2 q)
    ∧ k0_pay2 (iblk m c 3 t) (k0_pay5 (BitVec.ofNat 32 (grid0.coords t 0).val) (iblk m c 1 t) (iblk m c 0 t)) v (ix2 0 q) = v (ix2 0 q) + part m c t (ix2 3 q) := by
  refine ⟨?_, ?_, ?_, ?_⟩
  · pointwise [k0_pay5, k0_pay6]
    rw [(mask t).2]
    rfl
  · pointwise [k0_pay5, k0_pay7]
    rw [(mask t).2]
    rfl
  · pointwise [k0_pay1, k0_pay5, k0_pay8]
    rw [(mask t).2]
    rfl
  · pointwise [k0_pay2, k0_pay5]
    unfold part
    rw [partBlk_at _ _ _ _ 3 q (by decide)]
    rw [show 3 - (3 : Fin 8).val = 0 from rfl]
    simp only [earlierBlk_zero]

theorem out6_A (c : Dev nD) (t : Fin cfg0.N) (h : t.val % 16 = 0) (k : Fin 8) (q : Fin 1536) :
    (outsAt0 m c t.val t.isLt).2 (ix2 k q) = 0 + part m c t (ix2 k q) := by
  rw [outsAt0_A m c t h]
  frame_out
  have hz : ∀ k : Fin 8, View.canon [(⟨Rect.unit ![0, 0] ![8, 1536] inb_S8x1536_S8x1536_0_0, (k0_pay3 (F := Ideal))⟩ : View.Piece (Elt Ideal) S8x1536 .f32)] (ix2 k q) = 0 := by
    intro k
    rw [View.canon_cons_unit_lit' _ _ _ (by decide)]
    pointwise [k0_pay3]
  fin_cases k <;> simp (disch := decide) only [canon_hit, canon_miss]
  · rw [(pay_at m c t _ q).1, readCov_row _ _ 0 _ 0 q rfl, hz]; rfl
  · rw [(pay_at m c t _ q).2.1, readCov_row _ _ 1 _ 1 q rfl]; simp (disch := decide) only [canon_miss, hz]; rfl
  · rw [(pay_at m c t _ q).2.2.1, readCov_row _ _ 2 _ 2 q rfl]; simp (disch := decide) only [canon_miss, hz]; rfl
  · rw [(pay_at m c t _ q).2.2.2, readCov_row _ _ 3 _ 3 q rfl]; simp (disch := decide) only [canon_miss, hz]; rfl
  all_goals rw [hz]; exact (add_zero (0 : EReal)).symm

theorem out6_B (c : Dev nD) (t : Fin cfg0.N) (h : ¬t.val % 16 = 0) (k : Fin 8) (q : Fin 1536) :
    (outsAt0 m c t.val t.isLt).2 (ix2 k q)
      = (outsAt0 m c (t.val - 1) (Nat.lt_of_le_of_lt (Nat.sub_le _ _) t.isLt)).2 (ix2 k q) + part m c t (ix2 k q) := by
  rw [outsAt0_B m c t h]
  frame_out
  fin_cases k <;> simp (disch := decide) only [read_hit, read_miss]
  · rw [(pay_at m c t _ q).1, ld_row _ 0 _ 0 q rfl]; rfl
  · rw [(pay_at m c t _ q).2.1, ld_row _ 1 _ 1 q rfl]; rfl
  · rw [(pay_at m c t _ q).2.2.1, ld_row _ 2 _ 2 q rfl]; rfl
  · rw [(pay_at m c t _ q).2.2.2, ld_row _ 3 _ 3 q rfl]; rfl
  all_goals rw [View.writes_nil, Memref.IsWhole.read_unread]; exact (add_zero (_ : EReal)).symm

/-- The filter-gradient array after the run: its first four rows; four rows of zeros follow. -/
theorem final6 (c : Dev nD) (k : Fin 8) (k' : Fin 4) (hk : k.val = k'.val) (q : Fin 1536) :
    ((dats m 0 c).arrAt 6 cfg0.N : FVec Ideal S8x1536 .f32) (ix2 k q)
      = dw (m ((c : Thread nD τ).loc main_arg0)) (m ((c : Thread nD τ).loc main_arg2)) (ix2 k' q) := by
  have hA : (dats m 0 c).arrAt 6 cfg0.N = (∑ t : Fin cfg0.N, part m c t : FVec Ideal S8x1536 .f32) := by
    refine (dats m 0 c).arrAt_eq_of_after_last 6 t0_15 (by decide +kernel) _ fun j => ?_
    obtain ⟨p, q, rfl⟩ : ∃ (p : Fin 8) (q : Fin 1536), j = ix2 p q := ex2 j
    blk_simp
    rw [after0_6, Pipeline.eq_sum_fin_of_reset_step_apply_last (fun n h => (outsAt0 m c n h).2) 16 (fun _ => 0)
      (fun t => part m c t)
      (fun t h j => by
        obtain ⟨p, q, rfl⟩ : ∃ (p : Fin 8) (q : Fin 1536), j = ix2 p q := ex2 j
        exact out6_A m c t h p q)
      (fun t h j => by
        obtain ⟨p, q, rfl⟩ : ∃ (p : Fin 8) (q : Fin 1536), j = ix2 p q := ex2 j
        exact out6_B m c t h p q)
      (le_of_eq N_0) t0_15 rfl (ix2 p q), zero_add, Finset.sum_apply]
  rw [hA]
  rw [Finset.sum_apply]
  show _ = ∑ i : Fin 4096, dwTerm _ _ (3 - k'.val) q i
  have hp : ∀ t : Fin cfg0.N, part m c t (ix2 k q) = ∑ a : Fin 256, dwTerm (m ((c : Thread nD τ).loc main_arg0)) (m ((c : Thread nD τ).loc main_arg2)) (3 - k'.val) q (row t a) := by
    intro t
    unfold part dwTerm
    rw [partBlk_at _ _ _ _ k q (by omega)]
    refine Finset.sum_congr rfl fun a _ => ?_
    rw [earlierBlk_eq m c t _ (by omega), blk3, hk]
  simp only [hp]
  refine Fin.sum_mul_add_congr fun s k hl => ?_
  have : (⟨s.val * 256 + k.val, hl⟩ : Fin 4096) = row s k := rfl
  rw [this]

/-- The filter gradient the kernel returns: those four rows. -/
theorem tail (c : Dev nD) : Pipeline.afterTail₀ cfgs (dats m) 0 (V0 m) [hostOps1] c main_v2
    = dw (m ((c : Thread nD τ).loc main_arg0)) (m ((c : Thread nD τ).loc main_arg2)) := by
  have hW : Pipeline.withArrays (cfgs 0).spec c (V0 m c) (fun w => (dats m 0 c).arrAt w (cfgs 0).N) (Proc.devRef .tc main_v1_1)
      = (dats m 0 c).arrAt 6 cfg0.N := (dats m 0 c).withArrays_arrAt launch₀0.sharedIn (V0 m c) (A_eq m c) 6
  unfold Pipeline.afterTail₀
  show StableHlo.after hostOps1 _ _ = _
  after_results_simp
  rw [hW]
  funext j
  obtain ⟨p, q, rfl⟩ : ∃ (p : Fin 4) (q : Fin 1536), j = ix2 p q := ex2 j
  pointwise
  exact final6 m c _ p rfl q

end Cert.KernelConvIdeal.Value

end
-- ==== Proof.Conv.Pair.lean ====
/- The convolution's gradients: the kernel's results and the reference's are the same sums. -/
module

public import proofs.«01_k».proof.Defs
public import proofs.«01_k».proof.Proof.Conv.Value
public import proofs.«01_k».proof.Proof.Gen.KernelConv.Frame
public import proofs.«01_k».proof.Proof.Gen.ReferenceConvIdeal.Run
public import Idealize.ShloMosaic.Lib.Quiescent

@[expose] public section

set_option maxRecDepth 16384

noncomputable section

open Idealize.ShloMosaic Idealize.ShloMosaic.TcCoe Idealize.SL.Sem
open Idealize.ShloMosaic.Pipeline (Dat)

namespace Cert.KernelConvIdeal.Value

open Cert.KernelConvIdeal Cert.KernelConvIdeal.Gen

/-- The kernel's run: both results, and the arguments unchanged. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v1_0) = du (m ((c.tc : Thread nD τ).loc main_arg1)) (m ((c.tc : Thread nD τ).loc main_arg2))
      ∧ r.2.mem ((c.tc : Thread nD τ).loc main_v2) = dw (m ((c.tc : Thread nD τ).loc main_arg0)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun r h c => ⟨((h.1 c).1 5).trans (final5 m c),
      ((h.1 c).2 main_v2 (Pipeline.mem_restRefs_of main_v2 (by decide) (by decide))).trans (tail m c), h.2 c⟩)
    (θ_run_and (run_main m ρ) (unchanged m ρ))

end Cert.KernelConvIdeal.Value

namespace Cert.Proof.Conv

open Cert.Reals Cert.KernelConvIdeal.Value

theorem frame_p : Cert.quiescent_KernelConv := fun m ρ _ => Cert.KernelConv.Gen.frame m ρ
theorem frame_pi : Cert.quiescent_KernelConvIdeal := fun m ρ _ => Cert.KernelConvIdeal.Gen.frame m ρ
theorem frame_ri : Cert.quiescent_ReferenceConvIdeal := fun m ρ _ =>
  (θ_run Cert.ReferenceConvIdeal.defs _ _).mono (fun r h => ⟨fun c => (h c).2.2,
      Idealize.ShloMosaic.sem_eq_zero_of_no_sems (by decide) r.2⟩)
    (Cert.ReferenceConvIdeal.Value.run (F := Ideal) m ρ)

/-- A padded product is the product with a later row. -/
theorem mul_later (s : ℕ) (a : EReal) (d : FVec Ideal Cert.KernelConvIdeal.S4096x1536 .f32) (i : Fin 4096) (q : Fin 1536)
    (P : Prop) [Decidable P] (r : P → Fin 4096) (hP : P ↔ i.val + s < 4096) (hr : ∀ h, (r h).val = i.val + s) :
    (if h : P then a * d (ix2 (r h) q) else 0) = a * later d s i q := by
  simp only [later]
  by_cases h : P
  · rw [dif_pos h, dif_pos (hP.mp h)]; congr 3; exact Fin.ext (hr h)
  · rw [dif_neg h, dif_neg (fun k => h (hP.mpr k)), mul_zero]

/-- One tap of the filter's gradient, as the shifted copy gives it. -/
theorem tap (s : ℕ) (hs : s ≤ 3) (u d : FVec Ideal Cert.KernelConvIdeal.S4096x1536 .f32) (k : Fin 1536)
    (p : ∀ x : Fin 4096, ¬3 - s + x.val < 3 → 3 - s + x.val - 3 < 4096) :
    (∑ x : Fin 4096, d (ix2 x k) * if h : 3 - s + x.val < 3 then (0 : EReal) else u (ix2 ⟨3 - s + x.val - 3, p x h⟩ k)) = ∑ i, dwTerm u d s k i := by
  refine Finset.sum_congr rfl fun x _ => ?_
  simp only [dwTerm, earlier]
  by_cases h : s ≤ x.val
  · rw [dif_neg (by omega), dif_pos h]; congr 3; apply Fin.ext; show 3 - s + x.val - 3 = x.val - s; omega
  · rw [dif_pos (by omega), dif_neg h]

theorem algebraic : Cert.algebraic_KernelConvIdeal_ReferenceConvIdeal := by
  intro m ρ m' ρ' hp hagree
  refine ⟨_, _, Cert.KernelConvIdeal.Value.run m ρ, ?_⟩
  refine (θ_run Cert.ReferenceConvIdeal.defs _ _).mono (fun _ h c => ⟨(h c).1.trans ?_, (h c).2.1.trans ?_, (h c).2.2⟩)
    (Cert.ReferenceConvIdeal.Value.run (F := Ideal) m' ρ')
  · obtain ⟨h0, h1, h2⟩ := hagree c
    rw [h1, h2]
    generalize (m (c.tc.loc Cert.KernelConvIdeal.main_arg1) : FVec Ideal Cert.KernelConvIdeal.S4x1536 .f32) = w
    generalize (m (c.tc.loc Cert.KernelConvIdeal.main_arg2) : FVec Ideal Cert.KernelConvIdeal.S4096x1536 .f32) = d
    funext j
    obtain ⟨i, q, rfl⟩ : ∃ (i : Fin 4096) (q : Fin 1536), j = ix2 i q := ex2 j
    pointwise
    refine congrArg₂ _ (congrArg₂ _ (congrArg₂ _ rfl ?_) ?_) ?_
    · exact mul_later 1 _ d i q _ _ (by omega) (fun h => by show 3 + i.val - 2 = _; omega)
    · exact mul_later 2 _ d i q _ _ (by omega) (fun h => by show 3 + i.val - 1 = _; omega)
    · exact mul_later 3 _ d i q _ _ (by omega) (fun h => by show 3 + i.val = _; omega)
  · obtain ⟨h0, h1, h2⟩ := hagree c
    rw [h0, h2]
    generalize (m (c.tc.loc Cert.KernelConvIdeal.main_arg0) : FVec Ideal Cert.KernelConvIdeal.S4096x1536 .f32) = u
    generalize (m (c.tc.loc Cert.KernelConvIdeal.main_arg2) : FVec Ideal Cert.KernelConvIdeal.S4096x1536 .f32) = d
    funext j
    obtain ⟨i, k, rfl⟩ : ∃ (i : Fin 4) (k : Fin 1536), j = ix2 i k := ex2 j
    pointwise
    simp only [Finset.univ_unique, Finset.sum_singleton, tap 1 (by decide), tap 2 (by decide), mul_zero, zero_add, Finset.sum_const_zero]
    fin_cases i
    · simp only [Fin.mk_zero, dw]
      simp
      refine Eq.trans ?_ (Fin.sum_univ_add (a := 3) (b := 4093) (dwTerm u d 3 k)).symm
      rw [Finset.sum_eq_zero (s := Finset.univ (α := Fin 3)) fun x _ => ?_, zero_add]
      · refine Finset.sum_congr rfl fun x _ => ?_
        simp only [dwTerm, earlier]
        rw [dif_pos (by simp)]
        congr 3; apply Fin.ext; show x.val = 3 + x.val - 3; omega
      · simp only [dwTerm, earlier]
        rw [dif_neg (by simp), mul_zero]
    · simp [dw]
    · simp [dw]
    · simp [dw, dwTerm, earlier]

end Cert.Proof.Conv

end
-- ==== Proof.Final.Value.lean ====
/- `final_loss`: what the kernel's three result arrays hold. Grid point `t` handles rows `512 t … 512 t + 511`; the weight
   gradient and the loss accumulate over the points. -/
module

public import proofs.«01_k».proof.Proof.Gen.KernelFinalIdeal.Frame
public import proofs.«01_k».proof.Proof.NormGrad
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.KernelFinalIdeal.Value

open Cert.KernelFinalIdeal Cert.KernelFinalIdeal.Gen Cert.NormGrad Cert.Reals

/-- One row's prediction error: the normalised row times the weight, less the target. -/
def err (x w t : Fin 1024 → EReal) (k : Fin 1024) : EReal := x k * rn x * w k - t k

/-- The gradient of one row's loss: the error over the row length. -/
def g (x w t : Fin 1024 → EReal) (k : Fin 1024) : EReal := err x w t k * Ideal.ofBits .f32 0x3A800000#32

/-- One row's mean squared error. -/
def mse (x w t : Fin 1024 → EReal) : EReal := Ideal.div (∑ k, err x w t k * err x w t k) (Ideal.ofBits .f32 0x44800000#32)

/-- The input gradient. -/
def dx (x : FVec Ideal S4096x1024 .f32) (w : FVec Ideal S1024 .f32) (t : FVec Ideal S4096x1024 .f32) : FVec Ideal S4096x1024 .f32 := fun j =>
  byProjection (fun k => x (ix2 (j 0) k)) (fun k => w (ix1 k)) (g (fun k => x (ix2 (j 0) k)) (fun k => w (ix1 k)) (fun k => t (ix2 (j 0) k))) (j 1)

/-- The weight gradient: over all rows, the error's gradient times the normalised row. -/
def dnw (x : FVec Ideal S4096x1024 .f32) (w : FVec Ideal S1024 .f32) (t : FVec Ideal S4096x1024 .f32) : FVec Ideal S1x1024 .f32 := fun j =>
  ∑ i : Fin 4096, g (fun k => x (ix2 i k)) (fun k => w (ix1 k)) (fun k => t (ix2 i k)) (j 1) * (x (ix2 i (j 1)) * rn fun k => x (ix2 i k))

/-- One point's part of the loss: half the sum of its rows' mean squared errors. -/
def part (x : FVec Ideal S4096x1024 .f32) (w : FVec Ideal S1024 .f32) (t : FVec Ideal S4096x1024 .f32) (s : Fin 8) : EReal :=
  Ideal.ofBits .f32 0x3F000000#32 * ∑ a : Fin 512, mse (fun k => x (ix2 ⟨s.val * 512 + a.val, by omega⟩ k)) (fun k => w (ix1 k)) (fun k => t (ix2 ⟨s.val * 512 + a.val, by omega⟩ k))

/-- The whole loss, in every lane of a row. -/
def lossRow (x : FVec Ideal S4096x1024 .f32) (w : FVec Ideal S1024 .f32) (t : FVec Ideal S4096x1024 .f32) : FVec Ideal S1x128 .f32 := fun _ =>
  ∑ s : Fin 8, part x w t s

variable (m : (ℓ : Loc nD τ sig) → Buf (Elt Ideal) ℓ)

theorem idx : ∀ t : Fin cfg0.N, win0_0.index t = ![t.val, 0] ∧ win0_1.index t = ![0, 0] ∧ win0_2.index t = ![t.val, 0]
    ∧ win0_3.index t = ![t.val, 0] ∧ t.val < 8 :=
  (by decide +kernel : ∀ t : Fin grid0.N, _)

/-- Row `a` of point `t`'s block is row `512 t + a` of the array. -/
def row (t : Fin cfg0.N) (a : Fin 512) : Fin 4096 := ⟨t.val * 512 + a.val, by have := (idx t).2.2.2.2; omega⟩

theorem blk0 (c : Dev nD) (t : Fin cfg0.N) (a : Fin 512) (b : Fin 1024) :
    (iblk m c 0 t : FVec Ideal S512x1024 .f32) (ix2 a b) = (m ((c : Thread nD τ).loc main_arg0) : FVec Ideal S4096x1024 .f32) (ix2 (row t a) b) := by
  blk_simp [iblk, V, row, idx t]
  blk_ext [idx t]

theorem blk1 (c : Dev nD) (t : Fin cfg0.N) (b : Fin 1024) :
    (iblk m c 1 t : FVec Ideal S1x1024 .f32) (ix2 0 b) = (m ((c : Thread nD τ).loc main_arg1) : FVec Ideal S1024 .f32) (ix1 b) := by
  blk_simp [iblk, idx t]
  show StableHlo.after (hostOps0 ++ []) _ _ _ = _
  rw [List.append_nil]
  entry_read
  pointwise
  blk_ext [idx t]

theorem blk2 (c : Dev nD) (t : Fin cfg0.N) (a : Fin 512) (b : Fin 1024) :
    (iblk m c 2 t : FVec Ideal S512x1024 .f32) (ix2 a b) = (m ((c : Thread nD τ).loc main_arg2) : FVec Ideal S4096x1024 .f32) (ix2 (row t a) b) := by
  blk_simp [iblk, V, row, idx t]
  blk_ext [idx t]

/-- What the body stores in the input-gradient block, of its input blocks. -/
def dxBlk (x : FVec Ideal S512x1024 .f32) (w : FVec Ideal S1x1024 .f32) (t : FVec Ideal S512x1024 .f32) : FVec Ideal S512x1024 .f32 := fun y =>
  byProjection (fun k => x (ix2 (y 0) k)) (fun k => w (ix2 0 k)) (g (fun k => x (ix2 (y 0) k)) (fun k => w (ix2 0 k)) (fun k => t (ix2 (y 0) k))) (y 1)

/-- A point's part of the weight gradient. -/
def dnwBlk (x : FVec Ideal S512x1024 .f32) (w : FVec Ideal S1x1024 .f32) (t : FVec Ideal S512x1024 .f32) : FVec Ideal S1x1024 .f32 := fun y =>
  ∑ a : Fin 512, g (fun k => x (ix2 a k)) (fun k => w (ix2 0 k)) (fun k => t (ix2 a k)) (y 1) * (x (ix2 a (y 1)) * rn fun k => x (ix2 a k))

/-- A point's part of the loss, in every lane. -/
def lossBlk (x : FVec Ideal S512x1024 .f32) (w : FVec Ideal S1x1024 .f32) (t : FVec Ideal S512x1024 .f32) : FVec Ideal S1x128 .f32 := fun _ =>
  Ideal.ofBits .f32 0x3F000000#32 * ∑ a : Fin 512, mse (fun k => x (ix2 a k)) (fun k => w (ix2 0 k)) (fun k => t (ix2 a k))

theorem out3_A (c : Dev nD) (t : Fin cfg0.N) (h0 : t.val % 8 = 0) :
    (outsAt0 m c t.val t.isLt).1 = dxBlk (iblk m c 0 t) (iblk m c 1 t) (iblk m c 2 t) := by
  rw [outsAt0_A m c t h0]
  funext y
  obtain ⟨p, q, rfl⟩ := ex2 y
  frame_out
  pointwise [k0_pay1, k0_pay6, k0_pay7, k0_pay8, k0_pay9, k0_pay10, k0_pay11, k0_pay12, k0_pay13]
  simp only [dxBlk, byProjection, g, err, rn, ms, ix2_0, ix2_1]

theorem out3_B (c : Dev nD) (t : Fin cfg0.N) (h0 : ¬t.val % 8 = 0) :
    (outsAt0 m c t.val t.isLt).1 = dxBlk (iblk m c 0 t) (iblk m c 1 t) (iblk m c 2 t) := by
  rw [outsAt0_B m c t h0]
  funext y
  obtain ⟨p, q, rfl⟩ := ex2 y
  frame_out
  pointwise [k0_pay1, k0_pay6, k0_pay7, k0_pay8, k0_pay9, k0_pay10, k0_pay11, k0_pay12, k0_pay13]
  simp only [dxBlk, byProjection, g, err, rn, ms, ix2_0, ix2_1]

/-- The input-gradient array after the run. -/
theorem final3 (c : Dev nD) : (dats m 0 c).arrAt 3 cfg0.N = dx (m ((c : Thread nD τ).loc main_arg0))
    (m ((c : Thread nD τ).loc main_arg1)) (m ((c : Thread nD τ).loc main_arg2)) := by
  refine (dats m 0 c).arrAt_eq_of_covers 3 _ (by decide +kernel) fun t _ y => ?_
  obtain ⟨p, q, rfl⟩ : ∃ (p : Fin 512) (q : Fin 1024), y = ix2 p q := ex2 y
  have he : (((cfg0.win 3).blk t).view.emb (ix2 p q)) = (ix2 (row t p) q : S4096x1024.Idx) := by
    blk_simp [row, idx t]; blk_ext [idx t]
  rw [he]
  blk_simp
  rw [after0_3]
  have h : (outsAt0 m c t.val t.isLt).1 = dxBlk (iblk m c 0 t) (iblk m c 1 t) (iblk m c 2 t) := by
    by_cases h : t.val % 8 = 0
    · exact out3_A m c t h
    · exact out3_B m c t h
  rw [h]
  show dxBlk _ _ _ (ix2 p q) = dx _ _ _ (ix2 (row t p) q)
  simp only [dxBlk, dx, ix2_0, ix2_1, blk0, blk1, blk2]

/-- The weight-gradient row after the run. -/
theorem final4 (c : Dev nD) : (dats m 0 c).arrAt 4 cfg0.N = dnw (m ((c : Thread nD τ).loc main_arg0))
    (m ((c : Thread nD τ).loc main_arg1)) (m ((c : Thread nD τ).loc main_arg2)) := by
  refine (dats m 0 c).arrAt_eq_of_after_last 4 t0_7 (by decide +kernel) _ fun j => ?_
  obtain ⟨p, q, rfl⟩ : ∃ (p : Fin 1) (q : Fin 1024), j = ix2 p q := ex2 j
  blk_simp
  rw [after0_4, Pipeline.eq_sum_fin_of_reset_step_apply_last (fun n h => (outsAt0 m c n h).2.1) 8 (fun _ => 0)
    (fun t => dnwBlk (iblk m c 0 t) (iblk m c 1 t) (iblk m c 2 t))
    (fun t h j => by
      rw [outsAt0_A m c t h]; frame_out
      pointwise [k0_pay2, k0_pay4, k0_pay6, k0_pay7, k0_pay8, k0_pay9, k0_pay10, k0_pay11]
      simp only [dnwBlk, g, err, rn, ms])
    (fun t h j => by
      rw [outsAt0_B m c t h]; frame_out
      pointwise [k0_pay2, k0_pay4, k0_pay6, k0_pay7, k0_pay8, k0_pay9, k0_pay10, k0_pay11]
      simp only [dnwBlk, g, err, rn, ms])
    (le_of_eq N_0) t0_7 rfl (ix2 p q), zero_add]
  simp only [dnwBlk, dnw, ix2_1, blk0, blk1, blk2]
  refine Fin.sum_mul_add_congr fun s k hl => ?_
  have : (⟨s.val * 512 + k.val, hl⟩ : Fin 4096) = row s k := rfl
  rw [this]

/-- The loss row after the run: in every lane the sum of the points' parts. -/
theorem final5 (c : Dev nD) : (dats m 0 c).arrAt 5 cfg0.N
    = lossRow (m ((c : Thread nD τ).loc main_arg0)) (m ((c : Thread nD τ).loc main_arg1)) (m ((c : Thread nD τ).loc main_arg2)) := by
  refine (dats m 0 c).arrAt_eq_of_after_last 5 t0_7 (by decide +kernel) _ fun j => ?_
  obtain ⟨p, q, rfl⟩ : ∃ (p : Fin 1) (q : Fin 128), j = ix2 p q := ex2 j
  blk_simp
  rw [after0_5, Pipeline.eq_sum_fin_of_reset_step_apply_last (fun n h => (outsAt0 m c n h).2.2) 8 (fun _ => 0)
    (fun t => lossBlk (iblk m c 0 t) (iblk m c 1 t) (iblk m c 2 t))
    (fun t h j => by
      rw [outsAt0_A m c t h]; frame_out
      pointwise [k0_pay3, k0_pay5, k0_pay6, k0_pay7, k0_pay8, k0_pay9, k0_pay10, k0_pay11]
      simp only [lossBlk, mse, err, rn, ms])
    (fun t h j => by
      rw [outsAt0_B m c t h]; frame_out
      pointwise [k0_pay3, k0_pay5, k0_pay6, k0_pay7, k0_pay8, k0_pay9, k0_pay10, k0_pay11]
      simp only [lossBlk, mse, err, rn, ms])
    (le_of_eq N_0) t0_7 rfl (ix2 p q), zero_add]
  simp only [lossBlk, lossRow, blk0, blk1, blk2]
  rfl

/-- The loss, a number. -/
def loss (x : FVec Ideal S4096x1024 .f32) (w : FVec Ideal S1024 .f32) (t : FVec Ideal S4096x1024 .f32) : FVec Ideal S_ .f32 := fun _ =>
  ∑ s : Fin 8, part x w t s

/-- The loss the host slices out of that row. -/
theorem tail (c : Dev nD) : Pipeline.afterTail₀ cfgs (dats m) 0 (V0 m) [hostOps1] c main_v3
    = loss (m ((c : Thread nD τ).loc main_arg0)) (m ((c : Thread nD τ).loc main_arg1)) (m ((c : Thread nD τ).loc main_arg2)) := by
  have hW : Pipeline.withArrays (cfgs 0).spec c (V0 m c) (fun w => (dats m 0 c).arrAt w (cfgs 0).N) (Proc.devRef .tc main_v1_2)
      = (dats m 0 c).arrAt 5 cfg0.N := Pipeline.withArrays_arr (cfgs 0).spec winFacts0.arr_inj c (V0 m c) (fun w => (dats m 0 c).arrAt w (cfgs 0).N) 5
  unfold Pipeline.afterTail₀
  show StableHlo.after hostOps1 _ _ = _
  after_results_simp
  rw [hW, final5]
  funext j
  pointwise
  rfl

end Cert.KernelFinalIdeal.Value

end
-- ==== Proof.Final.Pair.lean ====
/- The loss and its gradients: the kernel's results are the reference's, over finite arguments. -/
module

public import proofs.«01_k».proof.Defs
public import proofs.«01_k».proof.Proof.Final.Value
public import proofs.«01_k».proof.Proof.Gen.KernelFinal.Frame
public import proofs.«01_k».proof.Proof.Gen.ReferenceFinalIdeal.Run
public import proofs.«01_k».proof.Proof.Gen.Pre_final_finite
public import Idealize.ShloMosaic.Lib.Quiescent

@[expose] public section

set_option maxRecDepth 16384

noncomputable section

open Idealize.ShloMosaic Idealize.ShloMosaic.TcCoe Idealize.SL.Sem
open Idealize.ShloMosaic.Pipeline (Dat)

namespace Cert.KernelFinalIdeal.Value

open Cert.KernelFinalIdeal Cert.KernelFinalIdeal.Gen

/-- The kernel's run: the three results, and the arguments unchanged. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v3) = loss (m ((c.tc : Thread nD τ).loc main_arg0)) (m ((c.tc : Thread nD τ).loc main_arg1)) (m ((c.tc : Thread nD τ).loc main_arg2))
      ∧ r.2.mem ((c.tc : Thread nD τ).loc main_v1_0) = dx (m ((c.tc : Thread nD τ).loc main_arg0)) (m ((c.tc : Thread nD τ).loc main_arg1)) (m ((c.tc : Thread nD τ).loc main_arg2))
      ∧ r.2.mem ((c.tc : Thread nD τ).loc main_v1_1) = dnw (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun r h c => ⟨((h.1 c).2 main_v3 (Pipeline.mem_restRefs_of main_v3 (by decide) (by decide))).trans (tail m c),
      ((h.1 c).1 3).trans (final3 m c), ((h.1 c).1 4).trans (final4 m c), h.2 c⟩)
    (θ_run_and (run_main m ρ) (unchanged m ρ))

end Cert.KernelFinalIdeal.Value

namespace Cert.Proof.Final

open Cert.Reals Cert.NormGrad Cert.KernelFinalIdeal.Value

/-- The float 1/2. -/
theorem ofBits_half : Ideal.ofBits .f32 0x3F000000#32 = ((1 / 2 : ℝ) : EReal) := by
  simp [Ideal.ofBits, Ideal.ieee, -EReal.coe_mul]; norm_num

/-- The float 1/1024. -/
theorem ofBits_1024th : Ideal.ofBits .f32 0x3A800000#32 = ((1 / 1024 : ℝ) : EReal) := by
  simp [Ideal.ofBits, Ideal.ieee, -EReal.coe_mul]; norm_num

/-- The float 2. -/
theorem ofBits_2 : Ideal.ofBits .f32 0x40000000#32 = ((2 : ℝ) : EReal) := by
  simp [Ideal.ofBits, Ideal.ieee, -EReal.coe_mul]; norm_num

theorem isReal_err {x w t : Fin 1024 → EReal} (hx : ∀ k, IsReal (x k)) (hw : ∀ k, IsReal (w k)) (ht : ∀ k, IsReal (t k)) (k : Fin 1024) :
    IsReal (err x w t k) := by
  obtain ⟨a, ha⟩ := ((hx k).mul (isReal_rn hx)).mul (hw k)
  obtain ⟨b, hb⟩ := ht k
  exact ⟨a - b, by rw [err, ha, hb, EReal.coe_sub]⟩

theorem isReal_mse {x w t : Fin 1024 → EReal} (hx : ∀ k, IsReal (x k)) (hw : ∀ k, IsReal (w k)) (ht : ∀ k, IsReal (t k)) : IsReal (mse x w t) := by
  obtain ⟨e, he⟩ := IsReal.sum (s := Finset.univ) fun k => (isReal_err hx hw ht k).mul (isReal_err hx hw ht k)
  exact ⟨e * (1 / 1024), by rw [mse, he, ofBits_1024, Ideal.div_coe (by norm_num), EReal.coe_mul]⟩

/-- The cotangent of the mean square, as the chain rule spells it. -/
def chainG (x w t : Fin 1024 → EReal) (k : Fin 1024) : EReal :=
  Ideal.div (Ideal.ofBits .f32 0x3F000000#32) (Ideal.ofBits .f32 0x44800000#32)
    * (Ideal.ofBits .f32 0x40000000#32 * err x w t k)

theorem g_eq {x w t : Fin 1024 → EReal} (hx : ∀ k, IsReal (x k)) (hw : ∀ k, IsReal (w k)) (ht : ∀ k, IsReal (t k)) (k : Fin 1024) :
    g x w t k = chainG x w t k := by
  obtain ⟨e, he⟩ := isReal_err hx hw ht k
  rw [g, chainG, he, ofBits_half, ofBits_2, ofBits_1024, ofBits_1024th]
  simp only [← EReal.coe_mul, Ideal.div_coe (by norm_num : (1024 : ℝ) ≠ 0)]
  congr 1; ring

/-- Half the sum over all rows is the sum over the points of half each point's sum. -/
theorem half_sum (f : Fin 4096 → ℝ) : Ideal.ofBits .f32 0x3F000000#32 * ∑ i, (f i : EReal)
    = ∑ s : Fin 8, Ideal.ofBits .f32 0x3F000000#32 * ∑ a : Fin 512, (f ⟨s.val * 512 + a.val, by omega⟩ : EReal) := by
  simp only [ofBits_half, coe_sum, ← EReal.coe_mul]
  rw [← Finset.mul_sum]
  congr 2
  exact (Fin.sum_mul_add_congr fun s k hl => rfl).symm

theorem frame_p : Cert.quiescent_KernelFinal := fun m ρ _ => Cert.KernelFinal.Gen.frame m ρ
theorem frame_pi : Cert.quiescent_KernelFinalIdeal := fun m ρ _ => Cert.KernelFinalIdeal.Gen.frame m ρ
theorem frame_pi_pre : Cert.quiescent_KernelFinalIdeal_pre_final_finite := fun m ρ _ => Cert.KernelFinalIdeal.Gen.frame m ρ
theorem frame_ri : Cert.quiescent_ReferenceFinalIdeal := fun m ρ _ =>
  (θ_run Cert.ReferenceFinalIdeal.defs _ _).mono (fun r h => ⟨fun c => (h c).2.2.2,
      Idealize.ShloMosaic.sem_eq_zero_of_no_sems (by decide) r.2⟩)
    (Cert.ReferenceFinalIdeal.Value.run (F := Ideal) m ρ)
theorem frame_ri_pre : Cert.quiescent_ReferenceFinalIdeal_pre_final_finite := fun m ρ _ => frame_ri m ρ trivial

/-- The two programs' results agree, over finite arguments. -/
theorem algebraic : Cert.algebraic_KernelFinalIdeal_ReferenceFinalIdeal_pre_final_finite := by
  intro m ρ m' ρ' hp hagree
  refine ⟨_, _, _, Cert.KernelFinalIdeal.Value.run m ρ, ?_⟩
  have key : ∀ c : Dev Cert.KernelFinalIdeal.nD,
      (∀ i k, IsReal ((m (c.tc.loc Cert.KernelFinalIdeal.main_arg0) : FVec Ideal Cert.KernelFinalIdeal.S4096x1024 .f32) (ix2 i k)))
      ∧ (∀ k, IsReal ((m (c.tc.loc Cert.KernelFinalIdeal.main_arg1) : FVec Ideal Cert.KernelFinalIdeal.S1024 .f32) (ix1 k)))
      ∧ (∀ i k, IsReal ((m (c.tc.loc Cert.KernelFinalIdeal.main_arg2) : FVec Ideal Cert.KernelFinalIdeal.S4096x1024 .f32) (ix2 i k))) := by
    intro c
    obtain ⟨p0, p1, p2⟩ := hp c
    refine ⟨fun i k => ?_, fun k => ?_, fun i k => ?_⟩
    · exact isReal_of_test (by have := congrFun p0 (ix2 i k); pointwise [Cert.Pre_final_finite.fn] at this; exact this)
    · exact isReal_of_test (by have := congrFun p1 (ix1 k); pointwise [Cert.Pre_final_finite.fn] at this; exact this)
    · exact isReal_of_test (by have := congrFun p2 (ix2 i k); pointwise [Cert.Pre_final_finite.fn] at this; exact this)
  refine (θ_run Cert.ReferenceFinalIdeal.defs _ _).mono (fun _ h c => ⟨(h c).1.trans ?_, (h c).2.1.trans ?_, (h c).2.2.1.trans ?_, (h c).2.2.2⟩)
    (Cert.ReferenceFinalIdeal.Value.run (F := Ideal) m' ρ')
  all_goals
    clear h
    obtain ⟨h0, h1, h2⟩ := hagree c
    obtain ⟨k0, k1, k2⟩ := key c
  · rw [h0, h1, h2]
    revert k0 k1 k2
    generalize (m (c.tc.loc Cert.KernelFinalIdeal.main_arg0) : FVec Ideal Cert.KernelFinalIdeal.S4096x1024 .f32) = x
    generalize (m (c.tc.loc Cert.KernelFinalIdeal.main_arg1) : FVec Ideal Cert.KernelFinalIdeal.S1024 .f32) = w
    generalize (m (c.tc.loc Cert.KernelFinalIdeal.main_arg2) : FVec Ideal Cert.KernelFinalIdeal.S4096x1024 .f32) = t
    intro k0 k1 k2
    funext j
    pointwise
    obtain ⟨r, hr⟩ := lift fun i : Fin 4096 => isReal_mse (fun k => k0 i k) k1 (fun k => k2 i k)
    have hr' := fun i => congrFun hr i
    simp only [mse, err, rn, ms] at hr'
    simp only [hr', half_sum, loss, part, mse, err, rn, ms]
  · unfold Cert.ReferenceFinalIdeal.Value.res_main_v50
    rw [h0, h1, h2]
    revert k0 k1 k2
    generalize (m (c.tc.loc Cert.KernelFinalIdeal.main_arg0) : FVec Ideal Cert.KernelFinalIdeal.S4096x1024 .f32) = x
    generalize (m (c.tc.loc Cert.KernelFinalIdeal.main_arg1) : FVec Ideal Cert.KernelFinalIdeal.S1024 .f32) = w
    generalize (m (c.tc.loc Cert.KernelFinalIdeal.main_arg2) : FVec Ideal Cert.KernelFinalIdeal.S4096x1024 .f32) = t
    intro k0 k1 k2
    funext j
    obtain ⟨i, k, rfl⟩ : ∃ (i : Fin 4096) (k : Fin 1024), j = ix2 i k := ex2 j
    pointwise
    have hg : g (fun k => x (ix2 i k)) (fun k => w (ix1 k)) (fun k => t (ix2 i k)) = chainG (fun k => x (ix2 i k)) (fun k => w (ix1 k)) (fun k => t (ix2 i k)) :=
      funext fun k => g_eq (fun k => k0 i k) k1 (fun k => k2 i k) k
    simp only [dx, ix2_0, ix2_1]
    rw [byProjection_eq_byChain (fun k => k0 i k) k1 (fun k => ?_) k, hg]
    · simp only [byChain, squareGrad, chainG, err, rn, ms, Finset.univ_unique, Finset.sum_singleton]
    · obtain ⟨e, he⟩ := isReal_err (fun k => k0 i k) k1 (fun k => k2 i k) k
      exact ⟨_, by rw [g, he, ofBits_1024th, ← EReal.coe_mul]⟩
  · rw [h0, h1, h2]
    revert k0 k1 k2
    generalize (m (c.tc.loc Cert.KernelFinalIdeal.main_arg0) : FVec Ideal Cert.KernelFinalIdeal.S4096x1024 .f32) = x
    generalize (m (c.tc.loc Cert.KernelFinalIdeal.main_arg1) : FVec Ideal Cert.KernelFinalIdeal.S1024 .f32) = w
    generalize (m (c.tc.loc Cert.KernelFinalIdeal.main_arg2) : FVec Ideal Cert.KernelFinalIdeal.S4096x1024 .f32) = t
    intro k0 k1 k2
    funext j
    obtain ⟨i, k, rfl⟩ : ∃ (i : Fin 1) (k : Fin 1024), j = ix2 i k := ex2 j
    pointwise
    simp only [dnw, ix2_1, g_eq (fun k => k0 _ k) k1 (fun k => k2 _ k), Finset.univ_unique, Finset.sum_singleton, chainG, err, rn, ms]
    exact Finset.sum_congr rfl fun r _ => mul_comm _ _

end Cert.Proof.Final

end
-- ==== Proof.OutProj.Value.lean ====
/- `outproj_bwd`: what the kernel's six result arrays hold. Grid point `t` handles rows `512 t … 512 t + 511`: it writes its
   rows of the gradients of the residual stream and of the three mixed parts, and adds its rows' part to the gradients of
   the norm weight and of the output projection. -/
module

public import proofs.«01_k».proof.Proof.Gen.KernelOutProjIdeal.Value
public import proofs.«01_k».proof.Proof.NormGrad
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.KernelOutProjIdeal.Value

open Cert.KernelOutProjIdeal Cert.KernelOutProjIdeal.Gen Cert.NormGrad Cert.Reals

/-- The gradient of the residual stream: the residual's plus the norm's, the cotangent being the sum of its four parts. -/
def dx (x : FVec Ideal S4096x1024 .f32) (w : FVec Ideal S1024 .f32) (d : FVec Ideal S4096x1024 .f32)
    (g : FVec Ideal S4x4096x1024 .bf16) : FVec Ideal S4096x1024 .f32 := fun j =>
  d j + byProjection (fun k => x (ix2 (j 0) k)) (fun k => w (ix1 k)) (fun k => ∑ p : Fin 4, g (ix3 p (j 0) k)) (j 1)

/-- The gradient of the norm weight: over all rows, the cotangent times the normalised row. -/
def dnw (x : FVec Ideal S4096x1024 .f32) (g : FVec Ideal S4x4096x1024 .bf16) : FVec Ideal S1x1024 .f32 := fun j =>
  ∑ i : Fin 4096, (∑ p : Fin 4, g (ix3 p i (j 1))) * (x (ix2 i (j 1)) * rn fun k => x (ix2 i k))

/-- Row `i`, column `c` of the three parts side by side. -/
def cat {n : ℕ} (a : FVec Ideal ⟨2, ![n, 256]⟩ .f32) (b : FVec Ideal ⟨2, ![n, 256]⟩ .f32) (d : FVec Ideal ⟨2, ![n, 512]⟩ .f32)
    (i : Fin n) (c : Fin 1024) : EReal :=
  if h : c.val < 256 then a (ix2 i ⟨c.val, h⟩) else if h' : c.val < 512 then b (ix2 i ⟨c.val - 256, by omega⟩)
  else d (ix2 i ⟨c.val - 512, by omega⟩)

/-- The same, written by taking the parts' widths off one after the other. -/
theorem nested_eq_cat {n : ℕ} (a : FVec Ideal ⟨2, ![n, 256]⟩ .f32) (b : FVec Ideal ⟨2, ![n, 256]⟩ .f32)
    (d : FVec Ideal ⟨2, ![n, 512]⟩ .f32) (i : Fin n) (c : Fin 1024) :
    (if h : c.val < 256 then a (ix2 i ⟨c.val, h⟩) else if h' : c.val - 256 < 256 then b (ix2 i ⟨c.val - 256, h'⟩)
      else d (ix2 i ⟨c.val - 256 - 256, by omega⟩) : EReal) = cat a b d i c := by
  simp only [cat, Nat.sub_sub, Nat.reduceAdd]
  by_cases h1 : c.val < 256
  · rw [dif_pos h1, dif_pos h1]
  · rw [dif_neg h1, dif_neg h1]
    by_cases h2 : c.val < 512
    · rw [dif_pos (by omega), dif_pos h2]
    · rw [dif_neg (by omega), dif_neg h2]

/-- A part's gradient at row `i`: the stream's gradient row against row `c` of the projection. -/
def back (e : FVec Ideal S4096x1024 .f32) (w : FVec Ideal S1024x1024 .f32) (i : Fin 4096) (c : Fin 1024) : EReal :=
  ∑ k : Fin 1024, e (ix2 i k) * w (ix2 c k)

/-- The gradient of the part that starts at column `off`. -/
def part (n off : ℕ) (h : off + n ≤ 1024) (e : FVec Ideal S4096x1024 .f32) (w : FVec Ideal S1024x1024 .f32) :
    FVec Ideal ⟨2, ![4096, n]⟩ .f32 := fun j => back e w (j 0) ⟨off + (j 1).val, by have : (j 1).val < n := (j 1).isLt; omega⟩

/-- The gradient of the projection: the parts side by side against the stream's gradient, over all rows. -/
def dw (e : FVec Ideal S4096x1024 .f32) (a : FVec Ideal S4096x256 .f32) (b : FVec Ideal S4096x256 .f32)
    (d : FVec Ideal S4096x512 .f32) : FVec Ideal S1024x1024 .f32 := fun j =>
  ∑ i : Fin 4096, cat a b d i (j 0) * e (ix2 i (j 1))

variable (m : (ℓ : Loc nD τ sig) → Buf (Elt Ideal) ℓ)

theorem idx : ∀ t : Fin cfg0.N, win0_0.index t = ![t.val, 0] ∧ win0_1.index t = ![0, 0] ∧ win0_2.index t = ![t.val, 0]
    ∧ win0_3.index t = ![0, t.val, 0] ∧ win0_4.index t = ![t.val, 0] ∧ win0_5.index t = ![t.val, 0]
    ∧ win0_6.index t = ![t.val, 0] ∧ win0_7.index t = ![0, 0, 0] ∧ win0_8.index t = ![t.val, 0]
    ∧ win0_10.index t = ![t.val, 0] ∧ win0_11.index t = ![t.val, 0] ∧ win0_12.index t = ![t.val, 0] ∧ t.val < 8 :=
  (by decide +kernel : ∀ t : Fin grid0.N, _)

/-- Row `a` of point `t`'s block is row `512 t + a` of the array. -/
def row (t : Fin cfg0.N) (a : Fin 512) : Fin 4096 :=
  ⟨t.val * 512 + a.val, by have := (idx t).2.2.2.2.2.2.2.2.2.2.2.2; omega⟩

theorem blk0 (c : Dev nD) (t : Fin cfg0.N) (a : Fin 512) (b : Fin 1024) :
    (iblk m c 0 t : FVec Ideal S512x1024 .f32) (ix2 a b) = (m ((c : Thread nD τ).loc main_arg0) : FVec Ideal S4096x1024 .f32) (ix2 (row t a) b) := by
  blk_simp [iblk, V, row, idx t]
  blk_ext [idx t]

theorem blk1 (c : Dev nD) (t : Fin cfg0.N) (b : Fin 1024) :
    (iblk m c 1 t : FVec Ideal S1x1024 .f32) (ix2 0 b) = (m ((c : Thread nD τ).loc main_arg1) : FVec Ideal S1024 .f32) (ix1 b) := by
  have hV : V m c main_v3 = shapeCast S1x1024 (m ((c : Thread nD τ).loc main_arg1) : FVec Ideal S1024 .f32) shapeCasts_S1024_S1x1024 := by
    show StableHlo.after (hostOps0 ++ (hostOps0_1 ++ (hostOps0_2 ++ []))) _ _ = _
    simp only [List.cons_append, List.nil_append]
    entry_read
    rfl
  blk_simp [iblk, idx t]
  show V m c main_v3 _ = _
  rw [hV]
  have he : (((View.whole main_v3).slice (win0_1.rect t)).emb (ix2 0 b)) = (ix2 0 b : S1x1024.Idx) := by blk_ext [idx t]
  rw [he]
  pointwise

theorem blk2 (c : Dev nD) (t : Fin cfg0.N) (a : Fin 512) (b : Fin 1024) :
    (iblk m c 2 t : FVec Ideal S512x1024 .f32) (ix2 a b) = (m ((c : Thread nD τ).loc main_arg2) : FVec Ideal S4096x1024 .f32) (ix2 (row t a) b) := by
  blk_simp [iblk, V, row, idx t]
  blk_ext [idx t]

theorem blk3 (c : Dev nD) (t : Fin cfg0.N) (p : Fin 4) (a : Fin 512) (b : Fin 1024) :
    (iblk m c 3 t : FVec Ideal S4x512x1024 .bf16) (ix3 p a b) = (m ((c : Thread nD τ).loc main_arg3) : FVec Ideal S4x4096x1024 .bf16) (ix3 p (row t a) b) := by
  blk_simp [iblk, V, row, idx t]
  blk_ext [idx t]

theorem blk4 (c : Dev nD) (t : Fin cfg0.N) (a : Fin 512) (b : Fin 256) :
    (iblk m c 4 t : FVec Ideal S512x256 .f32) (ix2 a b) = (m ((c : Thread nD τ).loc main_arg4) : FVec Ideal S4096x256 .f32) (ix2 (row t a) b) := by
  blk_simp [iblk, V, row, idx t]
  blk_ext [idx t]

theorem blk5 (c : Dev nD) (t : Fin cfg0.N) (a : Fin 512) (b : Fin 256) :
    (iblk m c 5 t : FVec Ideal S512x256 .f32) (ix2 a b) = (m ((c : Thread nD τ).loc main_arg5) : FVec Ideal S4096x256 .f32) (ix2 (row t a) b) := by
  blk_simp [iblk, V, row, idx t]
  blk_ext [idx t]

theorem blk6 (c : Dev nD) (t : Fin cfg0.N) (a : Fin 512) (b : Fin 512) :
    (iblk m c 6 t : FVec Ideal S512x512 .f32) (ix2 a b) = (m ((c : Thread nD τ).loc main_arg6) : FVec Ideal S4096x512 .f32) (ix2 (row t a) b) := by
  blk_simp [iblk, V, row, idx t]
  blk_ext [idx t]

/-- Chunk `p`, row `a` of the padded projection is row `256 p + a` of the projection, for the rows the kernel reads. -/
theorem blk7 (c : Dev nD) (t : Fin cfg0.N) (p : Fin 4) (a : Fin 704) (ha : a.val < 256) (b : Fin 1024) :
    (iblk m c 7 t : FVec Ideal S4x704x1024 .bf16) (ix3 p a b)
    = (m ((c : Thread nD τ).loc main_arg7) : FVec Ideal S1024x1024 .f32) (ix2 ⟨p.val * 256 + a.val, by omega⟩ b) := by
  have hV : V m c main_v2 = truncf .bf16 (pad S4x704x1024 ![0, 0, 0] ![0, 448, 0] ![0, 0, 0]
      (shapeCast S4x256x1024 (m ((c : Thread nD τ).loc main_arg7) : FVec Ideal S1024x1024 .f32) shapeCasts_S1024x1024_S4x256x1024)
      (sitofp .f32 (constantI S_ 32 0#32) : FVec Ideal S_ .f32) pads_S4x256x1024_S4x704x1024_000_04480_000 h_S_) bitsLt_bf16_f32 := by
    show StableHlo.after (hostOps0 ++ (hostOps0_1 ++ (hostOps0_2 ++ []))) _ _ = _
    simp only [List.cons_append, List.nil_append]
    entry_read
    rfl
  blk_simp [iblk, idx t]
  show V m c main_v2 _ = _
  rw [hV]
  have he : (((View.whole main_v2).slice (win0_7.rect t)).emb (ix3 p a b)) = (ix3 p a b : S4x704x1024.Idx) := by blk_ext [idx t]
  rw [he]
  pointwise
  rw [dif_pos (by show a.val < 256; exact ha)]

/-- What the body stores in the stream-gradient block, of its input blocks. -/
def dxBlk (x : FVec Ideal S512x1024 .f32) (w : FVec Ideal S1x1024 .f32) (d : FVec Ideal S512x1024 .f32)
    (g : FVec Ideal S4x512x1024 .bf16) : FVec Ideal S512x1024 .f32 := fun y =>
  d y + byProjection (fun k => x (ix2 (y 0) k)) (fun k => w (ix2 0 k)) (fun k => ∑ p : Fin 4, g (ix3 p (y 0) k)) (y 1)

/-- A point's part of the norm weight's gradient, of its input blocks. -/
def dnwBlk (x : FVec Ideal S512x1024 .f32) (g : FVec Ideal S4x512x1024 .bf16) : FVec Ideal S1x1024 .f32 := fun y =>
  ∑ a : Fin 512, (∑ p : Fin 4, g (ix3 p a (y 1))) * (x (ix2 a (y 1)) * rn fun k => x (ix2 a k))

theorem out8 (c : Dev nD) (t : Fin cfg0.N) :
    (outsAt0 m c t.val t.isLt).1 = dxBlk (iblk m c 0 t) (iblk m c 1 t) (iblk m c 2 t) (iblk m c 3 t) := by
  funext y
  obtain ⟨p, q, rfl⟩ := ex2 y
  by_cases h0 : t.val % 8 = 0 <;>
    [rw [outsAt0_A m c t h0]; rw [outsAt0_B m c t h0]] <;> frame_out <;>
    pointwise [k0_pay7, k0_pay8, k0_pay9, k0_pay11, k0_pay12, k0_pay13] <;>
    simp only [dxBlk, byProjection, rn, ms, Fin.sum_univ_four, ix2_0, ix2_1]

/-- The stream's gradient block, cast, as the body hands it to its products. -/
def stream (x : FVec Ideal S512x1024 .f32) (w : FVec Ideal S1x1024 .f32) (d : FVec Ideal S512x1024 .f32)
    (g : FVec Ideal S4x512x1024 .bf16) : FVec Ideal S512x1024 .bf16 := fun y => dxBlk x w d g y

theorem stream_eq (x : FVec Ideal S512x1024 .f32) (w : FVec Ideal S1x1024 .f32) (d : FVec Ideal S512x1024 .f32)
    (g : FVec Ideal S4x512x1024 .bf16) (g0 g1 g2 g3 : FVec Ideal S1x512x1024 .bf16)
    (h : ∀ a b, g0 (ix3 0 a b) = g (ix3 0 a b) ∧ g1 (ix3 0 a b) = g (ix3 1 a b) ∧ g2 (ix3 0 a b) = g (ix3 2 a b)
      ∧ g3 (ix3 0 a b) = g (ix3 3 a b)) :
    k0_pay15 (k0_pay8 x) (k0_pay9 x) (k0_pay11 g0 g1 g2 g3 w) d = stream x w d g := by
  funext y
  obtain ⟨p, q, rfl⟩ := ex2 y
  pointwise [k0_pay7, k0_pay8, k0_pay9, k0_pay11, k0_pay12, k0_pay15]
  simp only [stream, dxBlk, byProjection, rn, ms, Fin.sum_univ_four, ix2_0, ix2_1, h]

/-- Row `p` of a stream-gradient block against row `c` of the projection, read from its padded chunks. -/
def backBlk (e : FVec Ideal S512x1024 .bf16) (w : FVec Ideal S4x704x1024 .bf16) (p : Fin 512) (c : Fin 1024) : EReal :=
  ∑ k : Fin 1024, e (ix2 p k) * w (ix3 ⟨c.val / 256, by omega⟩ ⟨c.val % 256, by omega⟩ k)

theorem out10 (c : Dev nD) (t : Fin cfg0.N) (p : Fin 512) (q : Fin 256) :
    (outsAt0 m c t.val t.isLt).2.2.1 (ix2 p q)
    = backBlk (stream (iblk m c 0 t) (iblk m c 1 t) (iblk m c 2 t) (iblk m c 3 t)) (iblk m c 7 t) p ⟨q.val, by omega⟩ := by
  by_cases h0 : t.val % 8 = 0 <;> [rw [outsAt0_A m c t h0]; rw [outsAt0_B m c t h0]] <;> frame_out <;>
    (rw [stream_eq _ _ _ (iblk m c 3 t)]
     · pointwise [k0_pay1, k0_pay2]; rfl
     · intro a b; pointwise)

theorem out11 (c : Dev nD) (t : Fin cfg0.N) (p : Fin 512) (q : Fin 256) :
    (outsAt0 m c t.val t.isLt).2.2.2.1 (ix2 p q)
    = backBlk (stream (iblk m c 0 t) (iblk m c 1 t) (iblk m c 2 t) (iblk m c 3 t)) (iblk m c 7 t) p ⟨256 + q.val, by omega⟩ := by
  by_cases h0 : t.val % 8 = 0 <;> [rw [outsAt0_A m c t h0]; rw [outsAt0_B m c t h0]] <;> frame_out <;>
    (rw [stream_eq _ _ _ (iblk m c 3 t)]
     · pointwise [k0_pay1, k0_pay3]; simp only [backBlk, Nat.add_mod_left, Nat.mod_eq_of_lt q.isLt]
     · intro a b; pointwise)

theorem out12 (c : Dev nD) (t : Fin cfg0.N) (p : Fin 512) (q : Fin 512) :
    (outsAt0 m c t.val t.isLt).2.2.2.2.1 (ix2 p q)
    = backBlk (stream (iblk m c 0 t) (iblk m c 1 t) (iblk m c 2 t) (iblk m c 3 t)) (iblk m c 7 t) p ⟨512 + q.val, by omega⟩ := by
  by_cases h0 : t.val % 8 = 0 <;> [rw [outsAt0_A m c t h0]; rw [outsAt0_B m c t h0]] <;> frame_out <;>
    (rw [stream_eq _ _ _ (iblk m c 3 t)]
     · pointwise [k0_pay1, k0_pay4]; rfl
     · intro a b; pointwise)

/-- The projection gradient after a point: what it held plus the point's rows of the parts against the stream's gradient. -/
theorem pay16_eq (a : FVec Ideal S512x1 .f32) (b d e : FVec Ideal S512x1024 .f32) (y1 : FVec Ideal S512x256 .f32)
    (y2 : FVec Ideal S512x256 .f32) (y3 : FVec Ideal S512x512 .f32) (v : FVec Ideal S1024x1024 .f32) (p q : Fin 1024)
    (n : FVec Ideal S512x1024 .bf16) (h : k0_pay15 a b d e = n) :
    k0_pay16 a b d e y1 y2 y3 v (ix2 p q) = v (ix2 p q) + ∑ k : Fin 512, cat y1 y2 y3 k p * n (ix2 k q) := by
  pointwise [k0_pay16]
  rw [h]
  exact congrArg₂ _ rfl (Finset.sum_congr rfl fun k _ => congrArg (· * _) (nested_eq_cat ..))

/-- A part of the projection gradient, of one point's blocks. -/
def dwBlk (e : FVec Ideal S512x1024 .bf16) (a : FVec Ideal S512x256 .f32) (b : FVec Ideal S512x256 .f32)
    (d : FVec Ideal S512x512 .f32) : FVec Ideal S1024x1024 .f32 := fun y =>
  ∑ k : Fin 512, cat a b d k (y 0) * e (ix2 k (y 1))

variable {m}

/-- The stream's gradient block is its rows of the stream's gradient. -/
theorem dxBlk_row (c : Dev nD) (t : Fin cfg0.N) (p : Fin 512) (q : Fin 1024) :
    dxBlk (iblk m c 0 t) (iblk m c 1 t) (iblk m c 2 t) (iblk m c 3 t) (ix2 p q)
    = dx (m ((c : Thread nD τ).loc main_arg0)) (m ((c : Thread nD τ).loc main_arg1)) (m ((c : Thread nD τ).loc main_arg2))
      (m ((c : Thread nD τ).loc main_arg3)) (ix2 (row t p) q) := by
  simp only [dxBlk, dx, ix2_0, ix2_1, blk0, blk1, blk2, blk3]

/-- The three parts of a block side by side are the parts' rows side by side. -/
theorem cat_row (c : Dev nD) (t : Fin cfg0.N) (k : Fin 512) (q : Fin 1024) :
    cat (iblk m c 4 t : FVec Ideal S512x256 .f32) (iblk m c 5 t : FVec Ideal S512x256 .f32) (iblk m c 6 t : FVec Ideal S512x512 .f32) k q
    = cat (m ((c : Thread nD τ).loc main_arg4) : FVec Ideal S4096x256 .f32) (m ((c : Thread nD τ).loc main_arg5) : FVec Ideal S4096x256 .f32)
      (m ((c : Thread nD τ).loc main_arg6) : FVec Ideal S4096x512 .f32) (row t k) q := by
  simp only [cat, blk4, blk5, blk6]

/-- A part's gradient at a row of a block is its gradient at the row of the array. -/
theorem backBlk_row (c : Dev nD) (t : Fin cfg0.N) (p : Fin 512) (q : Fin 1024) :
    backBlk (stream (iblk m c 0 t) (iblk m c 1 t) (iblk m c 2 t) (iblk m c 3 t)) (iblk m c 7 t) p q
    = back (dx (m ((c : Thread nD τ).loc main_arg0)) (m ((c : Thread nD τ).loc main_arg1)) (m ((c : Thread nD τ).loc main_arg2))
      (m ((c : Thread nD τ).loc main_arg3))) (m ((c : Thread nD τ).loc main_arg7)) (row t p) q := by
  simp only [backBlk, back, stream, dxBlk_row]
  refine Finset.sum_congr rfl fun k _ => congrArg₂ (fun y z : EReal => y * z) rfl ?_
  refine (blk7 m c t _ _ (Nat.mod_lt _ (by omega)) k).trans ?_
  congr 2
  exact Fin.ext (Nat.div_add_mod' q.val 256)

variable (m)

/-- The stream-gradient array after the run. -/
theorem final8 (c : Dev nD) : (dats m 0 c).arrAt 8 cfg0.N = dx (m ((c : Thread nD τ).loc main_arg0))
    (m ((c : Thread nD τ).loc main_arg1)) (m ((c : Thread nD τ).loc main_arg2)) (m ((c : Thread nD τ).loc main_arg3)) := by
  refine (dats m 0 c).arrAt_eq_of_covers 8 _ (by decide +kernel) fun t _ y => ?_
  obtain ⟨p, q, rfl⟩ : ∃ (p : Fin 512) (q : Fin 1024), y = ix2 p q := ex2 y
  have he : (((cfg0.win 8).blk t).view.emb (ix2 p q)) = (ix2 (row t p) q : S4096x1024.Idx) := by
    blk_simp [row, idx t]; blk_ext [idx t]
  rw [he]
  blk_simp
  rw [after0_8, out8]
  exact dxBlk_row c t p q

/-- The norm weight's gradient after the run. -/
theorem final9 (c : Dev nD) : (dats m 0 c).arrAt 9 cfg0.N = dnw (m ((c : Thread nD τ).loc main_arg0))
    (m ((c : Thread nD τ).loc main_arg3)) := by
  refine (dats m 0 c).arrAt_eq_of_after_last 9 t0_7 (by decide +kernel) _ fun j => ?_
  obtain ⟨p, q, rfl⟩ : ∃ (p : Fin 1) (q : Fin 1024), j = ix2 p q := ex2 j
  blk_simp
  rw [after0_9, Pipeline.eq_sum_fin_of_reset_step_apply_last (fun n h => (outsAt0 m c n h).2.1) 8 (fun _ => 0)
    (fun t => dnwBlk (iblk m c 0 t) (iblk m c 3 t))
    (fun t h j => by
      rw [outsAt0_A m c t h]; frame_out
      pointwise [k0_pay6, k0_pay7, k0_pay8, k0_pay9, k0_pay10, k0_pay14]
      simp only [dnwBlk, rn, ms, Fin.sum_univ_four])
    (fun t h j => by
      rw [outsAt0_B m c t h]; frame_out
      pointwise [k0_pay6, k0_pay7, k0_pay8, k0_pay9, k0_pay10, k0_pay14]
      simp only [dnwBlk, rn, ms, Fin.sum_univ_four])
    (le_of_eq N_0) t0_7 rfl (ix2 p q), zero_add]
  simp only [dnwBlk, dnw, ix2_1, blk0, blk3]
  refine Fin.sum_mul_add_congr fun s k hl => ?_
  have : (⟨s.val * 512 + k.val, hl⟩ : Fin 4096) = row s k := rfl
  rw [this]

/-- The attention part's gradient after the run. -/
theorem final10 (c : Dev nD) : (dats m 0 c).arrAt 10 cfg0.N = part 256 0 (by omega) (dx (m ((c : Thread nD τ).loc main_arg0))
    (m ((c : Thread nD τ).loc main_arg1)) (m ((c : Thread nD τ).loc main_arg2)) (m ((c : Thread nD τ).loc main_arg3)))
    (m ((c : Thread nD τ).loc main_arg7)) := by
  refine (dats m 0 c).arrAt_eq_of_covers 10 _ (by decide +kernel) fun t _ y => ?_
  obtain ⟨p, q, rfl⟩ : ∃ (p : Fin 512) (q : Fin 256), y = ix2 p q := ex2 y
  have he : (((cfg0.win 10).blk t).view.emb (ix2 p q)) = (ix2 (row t p) q : S4096x256.Idx) := by
    blk_simp [row, idx t]; blk_ext [idx t]
  rw [he]
  blk_simp
  rw [after0_10, out10, backBlk_row]
  show back _ _ (row t p) _ = back _ _ (row t p) _
  congr 1
  exact Fin.ext (Nat.zero_add _).symm

/-- The pool part's gradient after the run. -/
theorem final11 (c : Dev nD) : (dats m 0 c).arrAt 11 cfg0.N = part 256 256 (by omega) (dx (m ((c : Thread nD τ).loc main_arg0))
    (m ((c : Thread nD τ).loc main_arg1)) (m ((c : Thread nD τ).loc main_arg2)) (m ((c : Thread nD τ).loc main_arg3)))
    (m ((c : Thread nD τ).loc main_arg7)) := by
  refine (dats m 0 c).arrAt_eq_of_covers 11 _ (by decide +kernel) fun t _ y => ?_
  obtain ⟨p, q, rfl⟩ : ∃ (p : Fin 512) (q : Fin 256), y = ix2 p q := ex2 y
  have he : (((cfg0.win 11).blk t).view.emb (ix2 p q)) = (ix2 (row t p) q : S4096x256.Idx) := by
    blk_simp [row, idx t]; blk_ext [idx t]
  rw [he]
  blk_simp
  rw [after0_11, out11, backBlk_row]
  rfl

/-- The recurrence part's gradient after the run. -/
theorem final12 (c : Dev nD) : (dats m 0 c).arrAt 12 cfg0.N = part 512 512 (by omega) (dx (m ((c : Thread nD τ).loc main_arg0))
    (m ((c : Thread nD τ).loc main_arg1)) (m ((c : Thread nD τ).loc main_arg2)) (m ((c : Thread nD τ).loc main_arg3)))
    (m ((c : Thread nD τ).loc main_arg7)) := by
  refine (dats m 0 c).arrAt_eq_of_covers 12 _ (by decide +kernel) fun t _ y => ?_
  obtain ⟨p, q, rfl⟩ : ∃ (p : Fin 512) (q : Fin 512), y = ix2 p q := ex2 y
  have he : (((cfg0.win 12).blk t).view.emb (ix2 p q)) = (ix2 (row t p) q : S4096x512.Idx) := by
    blk_simp [row, idx t]; blk_ext [idx t]
  rw [he]
  blk_simp
  rw [after0_12, out12, backBlk_row]
  rfl

/-- The output projection's gradient after the run: the parts side by side against the stream's gradient, over all rows. -/
theorem final13 (c : Dev nD) : (dats m 0 c).arrAt 13 cfg0.N = dw (dx (m ((c : Thread nD τ).loc main_arg0))
    (m ((c : Thread nD τ).loc main_arg1)) (m ((c : Thread nD τ).loc main_arg2)) (m ((c : Thread nD τ).loc main_arg3)))
    (m ((c : Thread nD τ).loc main_arg4)) (m ((c : Thread nD τ).loc main_arg5)) (m ((c : Thread nD τ).loc main_arg6)) := by
  refine (dats m 0 c).arrAt_eq_of_after_last 13 t0_7 (by decide +kernel) _ fun j => ?_
  obtain ⟨p, q, rfl⟩ : ∃ (p : Fin 1024) (q : Fin 1024), j = ix2 p q := ex2 j
  blk_simp
  rw [after0_13, Pipeline.eq_sum_fin_of_reset_step_apply_last (fun n h => (outsAt0 m c n h).2.2.2.2.2) 8 (fun _ => 0)
    (fun t => dwBlk (stream (iblk m c 0 t) (iblk m c 1 t) (iblk m c 2 t) (iblk m c 3 t)) (iblk m c 4 t) (iblk m c 5 t) (iblk m c 6 t))
    (fun t h j => by
      obtain ⟨p, q, rfl⟩ : ∃ (p : Fin 1024) (q : Fin 1024), j = ix2 p q := ex2 j
      rw [outsAt0_A m c t h]; frame_out
      refine (pay16_eq _ _ _ _ _ _ _ _ p q _ (stream_eq _ _ _ (iblk m c 3 t) _ _ _ _ fun a b => by pointwise)).trans ?_
      pointwise [k0_pay5]; rfl)
    (fun t h j => by
      obtain ⟨p, q, rfl⟩ : ∃ (p : Fin 1024) (q : Fin 1024), j = ix2 p q := ex2 j
      rw [outsAt0_B m c t h]; frame_out
      exact pay16_eq _ _ _ _ _ _ _ _ p q _ (stream_eq _ _ _ (iblk m c 3 t) _ _ _ _ fun a b => by pointwise))
    (le_of_eq N_0) t0_7 rfl (ix2 p q), zero_add]
  simp only [dwBlk, dw, stream, ix2_0, ix2_1, dxBlk_row, cat_row]
  refine Fin.sum_mul_add_congr fun s k hl => ?_
  have : (⟨s.val * 512 + k.val, hl⟩ : Fin 4096) = row s k := rfl
  rw [this]

end Cert.KernelOutProjIdeal.Value

end
-- ==== Proof.OutProj.Pair.lean ====
/- `outproj_bwd`: the kernel's six results are the reference's, over arguments whose norm operands are finite. -/
module

public import proofs.«01_k».proof.Defs
public import proofs.«01_k».proof.Proof.OutProj.Value
public import proofs.«01_k».proof.Proof.Gen.KernelOutProj.Frame
public import proofs.«01_k».proof.Proof.Gen.ReferenceOutProjIdeal.Run
public import proofs.«01_k».proof.Proof.Gen.Pre_outproj_finite
public import Idealize.ShloMosaic.Lib.Quiescent

@[expose] public section

set_option maxRecDepth 16384

noncomputable section

open Idealize.ShloMosaic Idealize.ShloMosaic.TcCoe Idealize.SL.Sem

namespace Cert.ReferenceOutProjIdeal.Pair

open Cert.ReferenceOutProjIdeal Cert.ReferenceOutProjIdeal.Gen Cert.ReferenceOutProjIdeal.Value Cert.NormGrad Cert.Reals

variable (m : (ℓ : Loc nD τ sig) → Buf (Elt Ideal) ℓ)

/-- The reference's stream gradient at an index: the residual's gradient plus the chain rule's gradient of the norm. -/
theorem dx_at (c : Dev nD) (x : FVec Ideal S4096x1024 .f32) (w : FVec Ideal S1024 .f32) (d : FVec Ideal S4096x1024 .f32)
    (g : FVec Ideal S4x4096x1024 .bf16) (hx : m (c.tc.loc main_arg0) = x) (hw : m (c.tc.loc main_arg1) = w)
    (hd : m (c.tc.loc main_arg2) = d) (hg : m (c.tc.loc main_arg3) = g) (i : Fin 4096) (k : Fin 1024) :
    (res_main_v38 m c : FVec Ideal S4096x1024 .f32) (ix2 i k)
    = d (ix2 i k) + byChain (fun k => x (ix2 i k)) (fun k => w (ix1 k)) (fun k => ∑ p : Fin 4, g (ix3 p i k)) k := by
  unfold res_main_v38
  rw [hx, hw, hd, hg]
  pointwise
  simp only [byChain, squareGrad, rn, ms, Fin.sum_univ_one, Finset.univ_unique, Finset.sum_singleton, add_assoc]

/-- The three parts' gradients are columns of one product with the projection, and the projection's gradient is a
    transposed product, of the stream gradient. -/
theorem parts (c : Dev nD) :
    res_main_v44 m c = extractStridedSlice S4096x256 ![0, 0] (Host.dotGeneral (F := Ideal) (φ₁ := .f32) (φ₂ := .f32) dot_S4096x1024_S1024x1024_S4096x1024_1_1_0_0_n_n none
        (res_main_v38 m c : FVec Ideal S4096x1024 .f32) (m (c.tc.loc main_arg7) : FVec Ideal S1024x1024 .f32)) slices_S4096x1024_S4096x256_0_0
    ∧ res_main_v45 m c = extractStridedSlice S4096x256 ![0, 256] (Host.dotGeneral (F := Ideal) (φ₁ := .f32) (φ₂ := .f32) dot_S4096x1024_S1024x1024_S4096x1024_1_1_0_0_n_n none
        (res_main_v38 m c : FVec Ideal S4096x1024 .f32) (m (c.tc.loc main_arg7) : FVec Ideal S1024x1024 .f32)) slices_S4096x1024_S4096x256_0_256
    ∧ res_main_v46 m c = extractStridedSlice S4096x512 ![0, 512] (Host.dotGeneral (F := Ideal) (φ₁ := .f32) (φ₂ := .f32) dot_S4096x1024_S1024x1024_S4096x1024_1_1_0_0_n_n none
        (res_main_v38 m c : FVec Ideal S4096x1024 .f32) (m (c.tc.loc main_arg7) : FVec Ideal S1024x1024 .f32)) slices_S4096x1024_S4096x512_0_512
    ∧ res_main_v42 m c = transpose S1024x1024 [1, 0] (Host.dotGeneral (F := Ideal) (φ₁ := .f32) (φ₂ := .f32) dot_S4096x1024_S4096x1024_S1024x1024_0_0_1_1_n_n none
        (res_main_v38 m c : FVec Ideal S4096x1024 .f32) (concatenate S4096x1024 1
          [⟨S4096x256, (m (c.tc.loc main_arg4) : FVec Ideal S4096x256 .f32)⟩, ⟨S4096x256, (m (c.tc.loc main_arg5) : FVec Ideal S4096x256 .f32)⟩,
            ⟨S4096x512, (m (c.tc.loc main_arg6) : FVec Ideal S4096x512 .f32)⟩] concatenates_S4096x256_S4096x256_S4096x512_S4096x1024_d1 : FVec Ideal S4096x1024 .f32))
        transposes_S1024x1024_S1024x1024_1_0 :=
  ⟨rfl, rfl, rfl, rfl⟩

end Cert.ReferenceOutProjIdeal.Pair

namespace Cert.Proof.OutProj

open Cert.Reals Cert.NormGrad

theorem frame_p : Cert.quiescent_KernelOutProj := fun m ρ _ => Cert.KernelOutProj.Gen.frame m ρ
theorem frame_pi : Cert.quiescent_KernelOutProjIdeal := fun m ρ _ => Cert.KernelOutProjIdeal.Gen.frame m ρ
theorem frame_pi_pre : Cert.quiescent_KernelOutProjIdeal_pre_outproj_finite := fun m ρ _ => Cert.KernelOutProjIdeal.Gen.frame m ρ
theorem frame_ri : Cert.quiescent_ReferenceOutProjIdeal := fun m ρ _ =>
  (θ_run Cert.ReferenceOutProjIdeal.defs _ _).mono (fun r h => ⟨fun c => (h c).2.2.2.2.2.2,
      Idealize.ShloMosaic.sem_eq_zero_of_no_sems (by decide) r.2⟩)
    (Cert.ReferenceOutProjIdeal.Value.run (F := Ideal) m ρ)
theorem frame_ri_pre : Cert.quiescent_ReferenceOutProjIdeal_pre_outproj_finite := fun m ρ _ => frame_ri m ρ trivial

/-- The two programs' results agree, over arguments whose norm operands are finite. -/
theorem algebraic : Cert.algebraic_KernelOutProjIdeal_ReferenceOutProjIdeal_pre_outproj_finite := by
  intro m ρ m' ρ' hp hagree
  refine ⟨_, _, _, _, _, _, Cert.KernelOutProjIdeal.Value.run_blocks (F := Ideal) m ρ, ?_⟩
  have hdx : ∀ c : Dev Cert.KernelOutProjIdeal.nD, Cert.KernelOutProjIdeal.Value.dx (m (c.tc.loc Cert.KernelOutProjIdeal.main_arg0))
      (m (c.tc.loc Cert.KernelOutProjIdeal.main_arg1)) (m (c.tc.loc Cert.KernelOutProjIdeal.main_arg2))
      (m (c.tc.loc Cert.KernelOutProjIdeal.main_arg3)) = Cert.ReferenceOutProjIdeal.Value.res_main_v38 (F := Ideal) m' c := by
    intro c
    obtain ⟨h0, h1, h2, h3, -⟩ := hagree c
    obtain ⟨p0, p1, p3⟩ := hp c
    funext j
    obtain ⟨i, k, rfl⟩ : ∃ (i : Fin 4096) (k : Fin 1024), j = ix2 i k := ex2 j
    refine Eq.trans ?_ (Cert.ReferenceOutProjIdeal.Pair.dx_at m' c _ _ _ _ h0 h1 h2 h3 i k).symm
    refine congrArg (fun z : EReal => (_ : EReal) + z) (byProjection_eq_byChain (fun k => ?_) (fun k => ?_) (fun k => IsReal.sum fun p => ?_) k)
    · exact isReal_of_test (by have := congrFun p0 (ix2 i k); pointwise [Cert.Pre_outproj_finite.fn] at this; exact this)
    · exact isReal_of_test (by have := congrFun p1 (ix1 k); pointwise [Cert.Pre_outproj_finite.fn] at this; exact this)
    · exact isReal_of_test (by have := congrFun p3 (ix3 p i k); pointwise [Cert.Pre_outproj_finite.fn] at this; exact this)
  refine (θ_run Cert.ReferenceOutProjIdeal.defs _ _).mono (fun _ h c => ⟨(h c).1.trans ?_, (h c).2.1.trans ?_, (h c).2.2.1.trans ?_,
      (h c).2.2.2.1.trans ?_, (h c).2.2.2.2.1.trans ?_, (h c).2.2.2.2.2.1.trans ?_, (h c).2.2.2.2.2.2⟩)
    (Cert.ReferenceOutProjIdeal.Value.run (F := Ideal) m' ρ')
  · rw [Cert.KernelOutProjIdeal.Value.final8, hdx]
  · obtain ⟨h0, h1, h2, h3, -⟩ := hagree c
    rw [Cert.KernelOutProjIdeal.Value.final9, h0, h3]
    generalize (m (c.tc.loc Cert.KernelOutProjIdeal.main_arg0) : FVec Ideal Cert.KernelOutProjIdeal.S4096x1024 .f32) = x
    generalize (m (c.tc.loc Cert.KernelOutProjIdeal.main_arg3) : FVec Ideal Cert.KernelOutProjIdeal.S4x4096x1024 .bf16) = g
    funext j
    obtain ⟨i, k, rfl⟩ : ∃ (i : Fin 1) (k : Fin 1024), j = ix2 i k := ex2 j
    pointwise
    simp only [Cert.KernelOutProjIdeal.Value.dnw, rn, ms, ix2_1, Finset.univ_unique, Finset.sum_singleton]
    exact Finset.sum_congr rfl fun r _ => mul_comm _ _
  all_goals
    obtain ⟨-, -, -, -, h4, h5, h6, h7⟩ := hagree c
    obtain ⟨e1, e2, e3, e4⟩ := Cert.ReferenceOutProjIdeal.Pair.parts m' c
  · rw [Cert.KernelOutProjIdeal.Value.final10, e1, ← hdx, h7]
    generalize Cert.KernelOutProjIdeal.Value.dx _ _ _ _ = e
    generalize (m (c.tc.loc Cert.KernelOutProjIdeal.main_arg7) : FVec Ideal Cert.KernelOutProjIdeal.S1024x1024 .f32) = w
    funext j
    obtain ⟨i, k, rfl⟩ : ∃ (i : Fin 4096) (k : Fin 256), j = ix2 i k := ex2 j
    pointwise
    simp only [Cert.KernelOutProjIdeal.Value.part, Cert.KernelOutProjIdeal.Value.back, ix2_0, ix2_1, Nat.zero_add]
  · rw [Cert.KernelOutProjIdeal.Value.final11, e2, ← hdx, h7]
    generalize Cert.KernelOutProjIdeal.Value.dx _ _ _ _ = e
    generalize (m (c.tc.loc Cert.KernelOutProjIdeal.main_arg7) : FVec Ideal Cert.KernelOutProjIdeal.S1024x1024 .f32) = w
    funext j
    obtain ⟨i, k, rfl⟩ : ∃ (i : Fin 4096) (k : Fin 256), j = ix2 i k := ex2 j
    pointwise
    simp only [Cert.KernelOutProjIdeal.Value.part, Cert.KernelOutProjIdeal.Value.back, ix2_0, ix2_1]
  · rw [Cert.KernelOutProjIdeal.Value.final12, e3, ← hdx, h7]
    generalize Cert.KernelOutProjIdeal.Value.dx _ _ _ _ = e
    generalize (m (c.tc.loc Cert.KernelOutProjIdeal.main_arg7) : FVec Ideal Cert.KernelOutProjIdeal.S1024x1024 .f32) = w
    funext j
    obtain ⟨i, k, rfl⟩ : ∃ (i : Fin 4096) (k : Fin 512), j = ix2 i k := ex2 j
    pointwise
    simp only [Cert.KernelOutProjIdeal.Value.part, Cert.KernelOutProjIdeal.Value.back, ix2_0, ix2_1]
  · rw [Cert.KernelOutProjIdeal.Value.final13, e4, ← hdx, h4, h5, h6]
    generalize Cert.KernelOutProjIdeal.Value.dx _ _ _ _ = e
    generalize (m (c.tc.loc Cert.KernelOutProjIdeal.main_arg4) : FVec Ideal Cert.KernelOutProjIdeal.S4096x256 .f32) = x
    generalize (m (c.tc.loc Cert.KernelOutProjIdeal.main_arg5) : FVec Ideal Cert.KernelOutProjIdeal.S4096x256 .f32) = y
    generalize (m (c.tc.loc Cert.KernelOutProjIdeal.main_arg6) : FVec Ideal Cert.KernelOutProjIdeal.S4096x512 .f32) = z
    funext j
    obtain ⟨i, k, rfl⟩ : ∃ (i : Fin 1024) (k : Fin 1024), j = ix2 i k := ex2 j
    pointwise
    exact Finset.sum_congr rfl fun r _ => (mul_comm _ _).trans
      (congrArg (· * _) (Cert.KernelOutProjIdeal.Value.nested_eq_cat ..))

end Cert.Proof.OutProj

end
-- ==== Proof.Attn.Body.lean ====
/- What the bodies of the two attention launches leave in their blocks: the forward one (output and row log-sum of a tile
   of 128 query rows), and the backward one (the gradients of the tile's queries, keys and values, and the two carried
   blocks of key and value gradients for the tile before it). -/
module

public import proofs.«01_k».proof.Proof.Gen.KernelAttnIdeal.Launch
public import proofs.«01_k».proof.Proof.Gen.KernelAttnIdeal.Skeleton
public import proofs.«01_k».proof.Proof.Gen.KernelAttnIdeal.Points
public import Idealize.ShloMosaic.Lib.Pipeline.FrameBody
public import Idealize.ShloMosaic.Lib.Pipeline.ReadBack
public import Idealize.ShloMosaic.Lib.Pipeline.RegionsLoop
public import Idealize.ShloMosaic.Lib.Pipeline.FrameSuffix
public import Idealize.ShloMosaic.Lib.Ring
public import Idealize.ShloMosaic.Lib.Tactic
public import Idealize.ShloMosaic.Lib.WordCmp

@[expose] public section

set_option maxRecDepth 16384

noncomputable section

namespace Cert.Attn

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelAttnIdeal Cert.KernelAttnIdeal.Gen

variable {F : FTy → Type} [FloatOps F] [Named F]

local notation "𝕄" => MT nD τ sig Unit (Elt F) ℕ (UR sig nD τ) ℕ

/-- A tile of 128 rows of 256 lanes, in full. -/
abbrev tile : Rect S128x256 := Rect.unit (s := S128x256) ![0, 0] S128x256.size inb_S128x256_S128x256_0_0
/-- The three column blocks of the gradient of queries, keys and values side by side. -/
abbrev colQ : Rect S128x768 := Rect.unit (s := S128x768) ![0, 0] S128x256.size inb_S128x768_S128x256_0_0
abbrev colK : Rect S128x768 := Rect.unit (s := S128x768) ![0, 256] S128x256.size inb_S128x768_S128x256_0_256
abbrev colV : Rect S128x768 := Rect.unit (s := S128x768) ![0, 512] S128x256.size inb_S128x768_S128x256_0_512

/-- A tile's number within its sequence of 32 tiles. -/
def place (n : BitVec 32) : BitVec 32 :=
  Scalar.select (Scalar.andi (Scalar.xori (Scalar.cmpi .slt (Scalar.remsi n (Scalar.select (Scalar.cmpi .eq 32#32 0#32) 1#32 32#32)) 0#32)
      (Scalar.cmpi .slt (Scalar.select (Scalar.cmpi .eq 32#32 0#32) 1#32 32#32) 0#32))
      (Scalar.cmpi .ne (Scalar.remsi n (Scalar.select (Scalar.cmpi .eq 32#32 0#32) 1#32 32#32)) 0#32))
    (Scalar.addi (Scalar.remsi n (Scalar.select (Scalar.cmpi .eq 32#32 0#32) 1#32 32#32)) (Scalar.select (Scalar.cmpi .eq 32#32 0#32) 1#32 32#32))
    (Scalar.remsi n (Scalar.select (Scalar.cmpi .eq 32#32 0#32) 1#32 32#32))
/-- Whether a tile is the first of its sequence, -/
def opens (n : BitVec 32) : BitVec 1 := Scalar.cmpi .eq (place n) 0#32
/-- and whether it is the last. -/
def closes (n : BitVec 32) : BitVec 1 := Scalar.cmpi .eq (place n) 31#32

/-- A store of a whole tile fills it. -/
theorem whole (p : Vec F S128x256 .f32) (L : List (View.Piece (Elt F) S128x256 .f32)) (y : S128x256.Idx) :
    ∃ pc ∈ (⟨tile, p⟩ :: L : List (View.Piece (Elt F) S128x256 .f32)), y ∈ pc.1.set :=
  let ⟨pc, h, hy⟩ := View.cover_of_tiled [⟨tile, p⟩] S128x256.size (by rfl) y
  ⟨pc, List.mem_cons.2 (Or.inl (List.mem_singleton.1 h)), hy⟩

/-! ## The forward launch -/

section Forward

/-- The tile point `i` of the forward launch works on. -/
def ahead (i : grid0.Coords) : BitVec 32 := BitVec.ofNat 32 (i 0).val

variable (n : BitVec 32) (q kp kc vp vc : Vec F S128x256 .f32)

/-- The output of a tile: queries `q`, the keys and values of the tile before (`kp`, `vp`) and its own (`kc`, `vc`). -/
def attended : Vec F S128x256 .f32 :=
  k0_pay1 k0_pay10 (k0_pay12 k0_pay9 k0_pay11) (k0_pay13 k0_pay9) (k0_pay14 k0_pay9)
    (k0_pay19 q (k0_pay3 kp kc) (k0_pay4 vp vc) (k0_pay8 (opens n) k0_pay5 k0_pay6 k0_pay7) k0_pay9 k0_pay10 k0_pay11)
    (Scalar.ofBits .f32 0x00000000#32)

/-- The row log-sums of a tile, each head's on that head's lanes. -/
def logSum : Vec F S128x256 .f32 :=
  k0_pay2 k0_pay10 (k0_pay12 k0_pay9 k0_pay11) (k0_pay13 k0_pay9) (k0_pay14 k0_pay9)
    (k0_pay20 q (k0_pay3 kp kc) (k0_pay8 (opens n) k0_pay5 k0_pay6 k0_pay7) k0_pay9 k0_pay10 k0_pay11)

variable (c : Dev nD) (a1 : Memref sig .tc .vmem S128x256 .f32) (h1 : a1.IsWhole) (a2 : Memref sig .tc .vmem S128x256 .f32)
  (h2 : a2.IsWhole) (a3 : Memref sig .tc .vmem S128x256 .f32) (h3 : a3.IsWhole) (a4 : Memref sig .tc .vmem S128x256 .f32)
  (h4 : a4.IsWhole) (a5 : Memref sig .tc .vmem S128x256 .f32) (h5 : a5.IsWhole) (a6 : Memref sig .tc .vmem S128x256 .f32)
  (h6 : a6.IsWhole) (a7 : Memref sig .tc .vmem S128x256 .f32) (h7 : a7.IsWhole)

/-- The five blocks both launches read of queries, keys and values, each held whole. -/
def rows : sProp 𝕄 :=
  iprop(owns (c : Thread nD τ) a1 fullShare q ∗ owns (c : Thread nD τ) a2 fullShare kp ∗ owns (c : Thread nD τ) a3 fullShare kc
    ∗ owns (c : Thread nD τ) a4 fullShare vp ∗ owns (c : Thread nD τ) a5 fullShare vc)

set_option maxHeartbeats 1000000 in
/-- The forward body: its two results are the tile's output and its row log-sums. -/
theorem forward_body (E : Set ℕ) (i : grid0.Coords) (K : PUnit → sProp 𝕄) :
    iprop(rows q kp kc vp vc c a1 a2 a3 a4 a5 ∗ (∃ d, owns (c : Thread nD τ) a6 fullShare d) ∗ (∃ d, owns (c : Thread nD τ) a7 fullShare d)
        ∗ (iprop(rows q kp kc vp vc c a1 a2 a3 a4 a5
            ∗ owns (c : Thread nD τ) a6 fullShare (View.canon [⟨tile, attended (ahead i) (View.ld q tile) (View.ld kp tile) (View.ld kc tile) (View.ld vp tile) (View.ld vc tile)⟩])
            ∗ owns (c : Thread nD τ) a7 fullShare (View.canon [⟨tile, logSum (ahead i) (View.ld q tile) (View.ld kp tile) (View.ld kc tile)⟩])) -∗ K ⟨⟩))
      ⊢ wp frame (wpE (defs₀ (F := F)) Variants.none c none) E (cc0_attn_fwd i a1 h1 a2 h2 a3 h3 a4 h4 a5 h5 a6 h6 a7 h7) K := by
  simp only [cc0_attn_fwd_eq_skeleton]; unfold cc0_attn_fwd_skel
  simp only [k0_part1_eq_skeleton, k0_part2_eq_skeleton, k0_part3_eq_skeleton]
  unfold rows owns
  iintro ⟨⟨⟨%f1, %e1, H1⟩, ⟨%f2, %e2, H2⟩, ⟨%f3, %e3, H3⟩, ⟨%f4, %e4, H4⟩, ⟨%f5, %e5, H5⟩⟩, ⟨%d6, %f6, -, H6⟩, ⟨%d7, %f7, -, H7⟩, Hk⟩
  subst e1 e2 e3 e4 e5
  sl_exec
  sl_step
  iapply Hk
  isplitl [H1 H2 H3 H4 H5]
  · isplitl [H1]; · iexists f1; isplitr; · ipureintro; rfl
                    iexact H1
    isplitl [H2]; · iexists f2; isplitr; · ipureintro; rfl
                    iexact H2
    isplitl [H3]; · iexists f3; isplitr; · ipureintro; rfl
                    iexact H3
    isplitl [H4]; · iexists f4; isplitr; · ipureintro; rfl
                    iexact H4
    iexists f5; isplitr; · ipureintro; rfl
    iexact H5
  isplitl [H6]
  · iexists _; isplitr
    swap; · iexact H6
    ipureintro
    exact (View.read_writes_eq_canon _ _ _ (whole _ _)).trans rfl
  iexists _; isplitr
  swap; · iexact H7
  ipureintro
  exact (View.read_writes_eq_canon _ _ _ (whole _ _)).trans rfl

end Forward

/-! ## The backward launch -/

section Backward

/-- The tile point `i` of the backward launch works on: it walks them from the last. -/
def behind (i : grid1.Coords) : BitVec 32 := Scalar.subi 31#32 (BitVec.ofNat 32 (i 0).val)

variable (n : BitVec 32) (q kp kc vp vc o l g gl : Vec F S128x256 .f32)

/-- The lane numbers, and the four heads' lanes as rows of ones and zeros. -/
def lane : IVec S1x256 32 := iota .tc S1x256 32 [1] iota_S1x256_d1_w32
def head0 : FVec F S1x256 .f32 := k1_pay13 lane
def head1 : FVec F S1x256 .f32 := k1_pay14 lane
def head2 : FVec F S1x256 .f32 := k1_pay15 lane
def head3 : FVec F S1x256 .f32 := k1_pay16 lane
/-- The scaled queries of the four heads stacked, -/
def queries : FVec F S512x256 .bf16 := k1_pay19 q head2 head3 (k1_pay17 q lane) (k1_pay18 lane)
/-- their masked scores, -/
def scores : FVec F S512x256 .f32 :=
  k1_pay20 q (k1_pay9 kp kc) (k1_pay11 (opens n)) head2 head3 (k1_pay17 q lane) (k1_pay18 lane)
/-- their weights, recomputed from the row log-sums `l`, -/
def weights : FVec F S512x256 .f32 :=
  k1_pay25 (scores n q kp kc) (k1_pay21 l head0) (k1_pay22 l head1) (k1_pay23 l head2) (k1_pay24 l head3)
/-- the gradients of the values, -/
def valueGrads : FVec F S256x256 .f32 :=
  k1_pay27 g head0 head1 head2 head3 (scores n q kp kc) (k1_pay21 l head0) (k1_pay22 l head1) (k1_pay23 l head2) (k1_pay24 l head3)
/-- the products of the output's gradient `g` with the values, -/
def products : FVec F S512x256 .f32 := k1_pay28 g (k1_pay10 vp vc) head0 head1 head2 head3
/-- and its row sums with the output `o`. -/
def offsets : FVec F S512x1 .f32 := k1_pay29 o g head0 head1 head2 head3

/-- The gradients of the tile before's keys and of its values, to be carried, -/
def carryK : Vec F S128x256 .f32 :=
  k1_pay5 (k1_pay35 gl head3 (queries q) (weights n q kp kc l) (products vp vc g) (offsets o g) (k1_pay30 gl head0) (k1_pay31 gl head1) (k1_pay32 gl head2))
def carryV : Vec F S128x256 .f32 := k1_pay6 (k1_pay37 (valueGrads n q kp kc l g))
/-- of the tile's own keys and values, what is carried into the tile apart, -/
def ownK : Vec F S128x256 .f32 :=
  k1_pay1 (k1_pay36 gl head3 (queries q) (weights n q kp kc l) (products vp vc g) (offsets o g) (k1_pay30 gl head0) (k1_pay31 gl head1) (k1_pay32 gl head2))
def ownV : Vec F S128x256 .f32 := k1_pay2 (k1_pay38 (valueGrads n q kp kc l g))
/-- of its queries, -/
def ownQ : Vec F S128x256 .f32 :=
  k1_pay39 gl (k1_pay9 kp kc) head0 head1 head2 head3 (weights n q kp kc l) (products vp vc g) (offsets o g) (k1_pay30 gl head0) (k1_pay31 gl head1) (k1_pay32 gl head2)
/-- and the three side by side, the carried blocks `k` and `v` of the tile after added in. -/
def gradients (k v : Vec F S128x256 .f32) : Vec F S128x768 .f32 :=
  View.canon [⟨colV, k1_pay4 (closes n) (ownV n q kp kc l g) v⟩, ⟨colK, k1_pay3 (closes n) (ownK n q kp kc vp vc o l g gl) k⟩,
    ⟨colV, ownV n q kp kc l g⟩, ⟨colK, ownK n q kp kc vp vc o l g gl⟩, ⟨colQ, ownQ n q kp kc vp vc o l g gl⟩]

variable (c : Dev nD) (a1 : Memref sig .tc .vmem S128x256 .f32) (h1 : a1.IsWhole) (a2 : Memref sig .tc .vmem S128x256 .f32)
  (h2 : a2.IsWhole) (a3 : Memref sig .tc .vmem S128x256 .f32) (h3 : a3.IsWhole) (a4 : Memref sig .tc .vmem S128x256 .f32)
  (h4 : a4.IsWhole) (a5 : Memref sig .tc .vmem S128x256 .f32) (h5 : a5.IsWhole) (a6 : Memref sig .tc .vmem S128x256 .f32)
  (h6 : a6.IsWhole) (a7 : Memref sig .tc .vmem S128x256 .f32) (h7 : a7.IsWhole) (a8 : Memref sig .tc .vmem S128x256 .f32)
  (h8 : a8.IsWhole) (a9 : Memref sig .tc .vmem S128x256 .f32) (h9 : a9.IsWhole) (a10 : Memref sig .tc .vmem S128x768 .f32)
  (h10 : a10.IsWhole) (a11 : Memref sig .tc .vmem S128x256 .f32) (h11 : a11.IsWhole) (a12 : Memref sig .tc .vmem S128x256 .f32)
  (h12 : a12.IsWhole)

/-- The four blocks the backward launch reads besides: the saved output and row log-sum, and their cotangents. -/
def saved : sProp 𝕄 :=
  iprop(owns (c : Thread nD τ) a6 fullShare o ∗ owns (c : Thread nD τ) a7 fullShare l ∗ owns (c : Thread nD τ) a8 fullShare g
    ∗ owns (c : Thread nD τ) a9 fullShare gl)

/-- The contents a point of the backward launch leaves, from its blocks and the carried blocks it meets. -/
def gradientsAt (i : grid1.Coords) (k v : Vec F S128x256 .f32) : Vec F S128x768 .f32 :=
  gradients (behind i) (View.ld q tile) (View.ld kp tile) (View.ld kc tile) (View.ld vp tile) (View.ld vc tile) (View.ld o tile) (View.ld l tile)
    (View.ld g tile) (View.ld gl tile) k v
def carryKAt (i : grid1.Coords) : Vec F S128x256 .f32 :=
  carryK (behind i) (View.ld q tile) (View.ld kp tile) (View.ld kc tile) (View.ld vp tile) (View.ld vc tile) (View.ld o tile) (View.ld l tile)
    (View.ld g tile) (View.ld gl tile)
def carryVAt (i : grid1.Coords) : Vec F S128x256 .f32 :=
  carryV (behind i) (View.ld q tile) (View.ld kp tile) (View.ld kc tile) (View.ld l tile) (View.ld g tile)

/-- Whether a point is the launch's first, as the body asks. -/
abbrev starts (i : grid1.Coords) : Prop :=
  (Scalar.cmpi .ne (Scalar.extui (Scalar.cmpi .eq (BitVec.ofNat 32 (i 0).val) 0#32)) 0#32) = 1#1

/-- Five stores of a tile fill the block of the three gradients. -/
theorem filled (p1 p2 p3 p4 p5 : Vec F S128x256 .f32) (y : S128x768.Idx) :
    ∃ pc ∈ ([⟨colV, p1⟩, ⟨colK, p2⟩, ⟨colV, p3⟩, ⟨colK, p4⟩, ⟨colQ, p5⟩] : List (View.Piece (Elt F) S128x768 .f32)), y ∈ pc.1.set :=
  View.cover_of_tiledL [⟨colV, p1⟩, ⟨colK, p2⟩, ⟨colV, p3⟩, ⟨colK, p4⟩, ⟨colQ, p5⟩] S128x256.size (by sl_kernel_rfl) y

/-- A tile stored over is the last store. -/
theorem canon_tile (p : Vec F S128x256 .f32) (L : List (View.Piece (Elt F) S128x256 .f32)) : View.canon (⟨tile, p⟩ :: L) = p := by
  funext y
  have h := View.canon_cons_emb tile p L y
  have e : tile.emb y = y := by
    funext a; fin_cases a <;> exact Fin.ext (by show 0 + 1 * _ = _; omega)
  rwa [e] at h

/-- The two blocks read back before the carried ones are added are those stored just before. -/
theorem reread (w : Memref sig .tc .vmem S128x768 .f32) (b : BitVec 1) (k v p3 p4 p5 : Vec F S128x256 .f32) :
    View.canon (Val := Elt F) (s := S128x768) (e := .f32)
      [⟨colV, k1_pay4 b (w.view.readCov [⟨colK, k1_pay3 b (w.view.readCov [⟨colV, p3⟩, ⟨colK, p4⟩, ⟨colQ, p5⟩] colK.toLoadRect) k⟩,
        ⟨colV, p3⟩, ⟨colK, p4⟩, ⟨colQ, p5⟩] colV.toLoadRect) v⟩,
       ⟨colK, k1_pay3 b (w.view.readCov [⟨colV, p3⟩, ⟨colK, p4⟩, ⟨colQ, p5⟩] colK.toLoadRect) k⟩, ⟨colV, p3⟩, ⟨colK, p4⟩, ⟨colQ, p5⟩]
      = View.canon [⟨colV, k1_pay4 b p3 v⟩, ⟨colK, k1_pay3 b p4 k⟩, ⟨colV, p3⟩, ⟨colK, p4⟩, ⟨colQ, p5⟩] := by
  simp (disch := decide) only [↓ View.readCov_skip, ↓ View.readCov_cons_toLoadRect]

set_option maxHeartbeats 4000000 in
/-- The backward body at a later point: it adds the carried blocks in, and carries its own on. -/
theorem backward_body (E : Set ℕ) (i : grid1.Coords) (hi : ¬ starts i) (k v : Vec F S128x256 .f32) (K : PUnit → sProp 𝕄) :
    iprop(rows q kp kc vp vc c a1 a2 a3 a4 a5 ∗ saved o l g gl c a6 a7 a8 a9 ∗ (∃ d, owns (c : Thread nD τ) a10 fullShare d)
        ∗ owns (c : Thread nD τ) a11 fullShare k ∗ owns (c : Thread nD τ) a12 fullShare v
        ∗ (iprop(rows q kp kc vp vc c a1 a2 a3 a4 a5 ∗ saved o l g gl c a6 a7 a8 a9
            ∗ owns (c : Thread nD τ) a10 fullShare (gradientsAt q kp kc vp vc o l g gl i (View.ld k tile) (View.ld v tile))
            ∗ owns (c : Thread nD τ) a11 fullShare (carryKAt q kp kc vp vc o l g gl i)
            ∗ owns (c : Thread nD τ) a12 fullShare (carryVAt q kp kc l g i)) -∗ K ⟨⟩))
      ⊢ wp frame (wpE (defs₀ (F := F)) Variants.none c none) E
          (cc1_attn_bwd i a1 h1 a2 h2 a3 h3 a4 h4 a5 h5 a6 h6 a7 h7 a8 h8 a9 h9 a10 h10 a11 h11 a12 h12) K := by
  simp only [cc1_attn_bwd_eq_skeleton]; unfold cc1_attn_bwd_skel
  simp only [k1_part1_eq_skeleton, k1_part2_eq_skeleton, k1_part3_eq_skeleton, k1_part4_eq_skeleton, k1_part5_eq_skeleton, k1_part6_eq_skeleton]
  unfold rows saved owns
  iintro ⟨⟨⟨%f1, %e1, H1⟩, ⟨%f2, %e2, H2⟩, ⟨%f3, %e3, H3⟩, ⟨%f4, %e4, H4⟩, ⟨%f5, %e5, H5⟩⟩,
    ⟨⟨%f6, %e6, H6⟩, ⟨%f7, %e7, H7⟩, ⟨%f8, %e8, H8⟩, ⟨%f9, %e9, H9⟩⟩, ⟨%d10, %f10, -, H10⟩, ⟨%f11, %e11, H11⟩, ⟨%f12, %e12, H12⟩, Hk⟩
  subst e1 e2 e3 e4 e5 e6 e7 e8 e9 e11 e12
  sl_exec (disch := first | sl_exact hi)
  sl_step
  iapply Hk
  isplitl [H1 H2 H3 H4 H5]
  · isplitl [H1]; · iexists f1; isplitr; · ipureintro; rfl
                    iexact H1
    isplitl [H2]; · iexists f2; isplitr; · ipureintro; rfl
                    iexact H2
    isplitl [H3]; · iexists f3; isplitr; · ipureintro; rfl
                    iexact H3
    isplitl [H4]; · iexists f4; isplitr; · ipureintro; rfl
                    iexact H4
    iexists f5; isplitr; · ipureintro; rfl
    iexact H5
  isplitl [H6 H7 H8 H9]
  · isplitl [H6]; · iexists f6; isplitr; · ipureintro; rfl
                    iexact H6
    isplitl [H7]; · iexists f7; isplitr; · ipureintro; rfl
                    iexact H7
    isplitl [H8]; · iexists f8; isplitr; · ipureintro; rfl
                    iexact H8
    iexists f9; isplitr; · ipureintro; rfl
    iexact H9
  isplitl [H10]
  · iexists _; isplitr
    swap; · iexact H10
    ipureintro
    exact (View.read_writes_eq_canon _ _ _ (filled _ _ _ _ _)).trans (reread a10 _ _ _ _ _ _)
  isplitl [H11]
  · iexists _; isplitr
    swap; · iexact H11
    ipureintro
    exact (View.read_writes_eq_canon _ _ _ (whole _ _)).trans (canon_tile _ _)
  iexists _; isplitr
  swap; · iexact H12
  ipureintro
  exact (View.read_writes_eq_canon _ _ _ (whole _ _)).trans (canon_tile _ _)

set_option maxHeartbeats 4000000 in
/-- The backward body at the first point: the carried blocks are cleared, and whatever they held is not read. -/
theorem backward_first (E : Set ℕ) (i : grid1.Coords) (hi : starts i) (K : PUnit → sProp 𝕄) :
    iprop(rows q kp kc vp vc c a1 a2 a3 a4 a5 ∗ saved o l g gl c a6 a7 a8 a9 ∗ (∃ d, owns (c : Thread nD τ) a10 fullShare d)
        ∗ (∃ d, owns (c : Thread nD τ) a11 fullShare d) ∗ (∃ d, owns (c : Thread nD τ) a12 fullShare d)
        ∗ (iprop(rows q kp kc vp vc c a1 a2 a3 a4 a5 ∗ saved o l g gl c a6 a7 a8 a9
            ∗ owns (c : Thread nD τ) a10 fullShare (gradientsAt q kp kc vp vc o l g gl i k1_pay7 k1_pay8)
            ∗ owns (c : Thread nD τ) a11 fullShare (carryKAt q kp kc vp vc o l g gl i)
            ∗ owns (c : Thread nD τ) a12 fullShare (carryVAt q kp kc l g i)) -∗ K ⟨⟩))
      ⊢ wp frame (wpE (defs₀ (F := F)) Variants.none c none) E
          (cc1_attn_bwd i a1 h1 a2 h2 a3 h3 a4 h4 a5 h5 a6 h6 a7 h7 a8 h8 a9 h9 a10 h10 a11 h11 a12 h12) K := by
  simp only [cc1_attn_bwd_eq_skeleton]; unfold cc1_attn_bwd_skel
  simp only [k1_part1_eq_skeleton, k1_part2_eq_skeleton, k1_part3_eq_skeleton, k1_part4_eq_skeleton, k1_part5_eq_skeleton, k1_part6_eq_skeleton]
  unfold rows saved owns
  iintro ⟨⟨⟨%f1, %e1, H1⟩, ⟨%f2, %e2, H2⟩, ⟨%f3, %e3, H3⟩, ⟨%f4, %e4, H4⟩, ⟨%f5, %e5, H5⟩⟩,
    ⟨⟨%f6, %e6, H6⟩, ⟨%f7, %e7, H7⟩, ⟨%f8, %e8, H8⟩, ⟨%f9, %e9, H9⟩⟩, ⟨%d10, %f10, -, H10⟩, ⟨%d11, %f11, -, H11⟩, ⟨%d12, %f12, -, H12⟩, Hk⟩
  subst e1 e2 e3 e4 e5 e6 e7 e8 e9
  sl_exec (disch := first | sl_exact hi)
  sl_step
  iapply Hk
  isplitl [H1 H2 H3 H4 H5]
  · isplitl [H1]; · iexists f1; isplitr; · ipureintro; rfl
                    iexact H1
    isplitl [H2]; · iexists f2; isplitr; · ipureintro; rfl
                    iexact H2
    isplitl [H3]; · iexists f3; isplitr; · ipureintro; rfl
                    iexact H3
    isplitl [H4]; · iexists f4; isplitr; · ipureintro; rfl
                    iexact H4
    iexists f5; isplitr; · ipureintro; rfl
    iexact H5
  isplitl [H6 H7 H8 H9]
  · isplitl [H6]; · iexists f6; isplitr; · ipureintro; rfl
                    iexact H6
    isplitl [H7]; · iexists f7; isplitr; · ipureintro; rfl
                    iexact H7
    isplitl [H8]; · iexists f8; isplitr; · ipureintro; rfl
                    iexact H8
    iexists f9; isplitr; · ipureintro; rfl
    iexact H9
  isplitl [H10]
  · iexists _; isplitr
    swap; · iexact H10
    ipureintro
    exact (View.read_writes_eq_canon _ _ _ (filled _ _ _ _ _)).trans ((reread a10 _ _ _ _ _ _).trans
      (congrArg₂ (gradients _ _ _ _ _ _ _ _ _ _) (View.readCov_cons_toLoadRect _ tile _ _) (View.readCov_cons_toLoadRect _ tile _ _)))
  isplitl [H11]
  · iexists _; isplitr
    swap; · iexact H11
    ipureintro
    exact (View.read_writes_eq_canon _ _ _ (whole _ _)).trans (canon_tile _ _)
  iexists _; isplitr
  swap; · iexact H12
  ipureintro
  exact (View.read_writes_eq_canon _ _ _ (whole _ _)).trans (canon_tile _ _)

end Backward

end Cert.Attn

end
-- ==== Proof.Attn.Data.lean ====
/- The two attention launches over their grids: what each point reads of its arrays and leaves in its blocks, and that the
   bodies (Attn/Body.lean) do so. -/
module

public import proofs.«01_k».proof.Proof.Attn.Body

@[expose] public section

set_option maxRecDepth 16384

noncomputable section

namespace Cert.Attn

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelAttnIdeal Cert.KernelAttnIdeal.Gen

variable {F : FTy → Type} [FloatOps F] [Named F]

local notation "𝕄" => MT nD τ sig Unit (Elt F) ℕ (UR sig nD τ) ℕ

/-- Reading a whole tile is reading it. -/
theorem ld_tile (x : Vec F S128x256 .f32) : View.ld x tile = x := by
  have e (y : S128x256.Idx) : tile.emb y = y := by
    funext a; fin_cases a <;> exact Fin.ext (by show 0 + 1 * _ = _; omega)
  funext y
  exact congrArg x (e y)

-- the buffers' contents when a launch is entered
variable (V : (c : Dev nD) → (b : Ref sig .tc) → Buf (Elt F) ((c : Thread nD τ).loc b))

/-! ## Forward -/

/-- Window `w`'s block at point `t` of the forward launch, and of the backward one. -/
def fblk (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))
def bblk (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- A tile's output, from its blocks, -/
def outputAt (c : Dev nD) (t : Fin cfg0.N) : Vec F S128x256 .f32 :=
  attended (ahead (grid0.coords t)) (fblk V c 0 t) (fblk V c 1 t) (fblk V c 2 t) (fblk V c 3 t) (fblk V c 4 t)
/-- and its row log-sums. -/
def logSumAt (c : Dev nD) (t : Fin cfg0.N) : Vec F S128x256 .f32 :=
  logSum (ahead (grid0.coords t)) (fblk V c 0 t) (fblk V c 1 t) (fblk V c 2 t)

/-- The forward launch's data: inputs stay, the two results are as above. -/
def fdat (c : Dev nD) : Dat τ (Elt F) Unit ℕ (UR sig nD τ) ℕ cfg0 c where
  A w := V c (Pipeline.arrRef spec0 w)
  after w t := match w with
    | ⟨0, _⟩ => fblk V c 0 t
    | ⟨1, _⟩ => fblk V c 1 t
    | ⟨2, _⟩ => fblk V c 2 t
    | ⟨3, _⟩ => fblk V c 3 t
    | ⟨4, _⟩ => fblk V c 4 t
    | ⟨5, _⟩ => outputAt V c t
    | ⟨6, _⟩ => logSumAt V c t
  Φ _ := Pipeline.ΦA spec0 c
  q w := Pipeline.shareOf spec0 w
  owed _ := 0

theorem fdat_A (c : Dev nD) (w : Fin cfg0.W) : (fdat V c).A w = V c (Pipeline.arrRef spec0 w) := by dsimp only [fdat]

/-- An input's block is in place at every point. -/
theorem fdat_before (c : Dev nD) (t : Fin cfg0.N) :
    (∀ d, (fdat V c).before 0 t d = fblk V c 0 t) ∧ (∀ d, (fdat V c).before 1 t d = fblk V c 1 t)
      ∧ (∀ d, (fdat V c).before 2 t d = fblk V c 2 t) ∧ (∀ d, (fdat V c).before 3 t d = fblk V c 3 t)
      ∧ (∀ d, (fdat V c).before 4 t d = fblk V c 4 t) := by
  refine ⟨?_, ?_, ?_, ?_, ?_⟩ <;> intro d <;>
    exact ((fdat V c).before_in_eq_fetched _ rfl (fun _ => rfl) (fun _ _ _ => rfl) (fun _ => rfl) t d).trans rfl

/-- The forward body is called with its blocks staged and leaves the data's contents. -/
theorem forward_point (c : Dev nD) (t : Fin cfg0.N) :
    iprop((fdat V c).Φ t.castSucc ∗ (fdat V c).owesAt () t.castSucc
      ∗ (∃ d, owns (c : Thread nD τ) (st0_0 t) fullShare ((fdat V c).before 0 t d))
      ∗ (∃ d, owns (c : Thread nD τ) (st0_1 t) fullShare ((fdat V c).before 1 t d))
      ∗ (∃ d, owns (c : Thread nD τ) (st0_2 t) fullShare ((fdat V c).before 2 t d))
      ∗ (∃ d, owns (c : Thread nD τ) (st0_3 t) fullShare ((fdat V c).before 3 t d))
      ∗ (∃ d, owns (c : Thread nD τ) (st0_4 t) fullShare ((fdat V c).before 4 t d))
      ∗ (∃ d, owns (c : Thread nD τ) (st0_5 t) fullShare ((fdat V c).before 5 t d))
      ∗ (∃ d, owns (c : Thread nD τ) (st0_6 t) fullShare ((fdat V c).before 6 t d)))
    ⊢ wp frame (wpE (defs₀ (F := F)) Variants.none c none) Set.univ (bodyAt0 t) (fun _ =>
      iprop((fdat V c).Φ t.succ ∗ (fdat V c).owesAt () t.succ
        ∗ owns (c : Thread nD τ) (st0_0 t) fullShare ((fdat V c).after 0 t)
        ∗ owns (c : Thread nD τ) (st0_1 t) fullShare ((fdat V c).after 1 t)
        ∗ owns (c : Thread nD τ) (st0_2 t) fullShare ((fdat V c).after 2 t)
        ∗ owns (c : Thread nD τ) (st0_3 t) fullShare ((fdat V c).after 3 t)
        ∗ owns (c : Thread nD τ) (st0_4 t) fullShare ((fdat V c).after 4 t)
        ∗ owns (c : Thread nD τ) (st0_5 t) fullShare ((fdat V c).after 5 t)
        ∗ owns (c : Thread nD τ) (st0_6 t) fullShare ((fdat V c).after 6 t))) := by
  obtain ⟨b0, b1, b2, b3, b4⟩ := fdat_before V c t
  simp only [b0, b1, b2, b3, b4]
  rw [show (fdat V c).Φ t.succ = (fdat V c).Φ t.castSucc from rfl,
    show (fdat V c).owesAt () t.succ = (fdat V c).owesAt () t.castSucc from rfl]
  dsimp only [fdat]
  have h := forward_body (fblk V c 0 t) (fblk V c 1 t) (fblk V c 2 t) (fblk V c 3 t) (fblk V c 4 t) c (st0_0 t) (hstage0_0 _) (st0_1 t) (hstage0_1 _)
    (st0_2 t) (hstage0_2 _) (st0_3 t) (hstage0_3 _) (st0_4 t) (hstage0_4 _) (st0_5 t) (hstage0_5 _) (st0_6 t) (hstage0_6 _) Set.univ (grid0.coords t)
  simp only [ld_tile, canon_tile] at h
  unfold rows at h
  iintro ⟨HΦ, Ho, ⟨%d0, H0⟩, ⟨%d1, H1⟩, ⟨%d2, H2⟩, ⟨%d3, H3⟩, ⟨%d4, H4⟩, ⟨%d5, H5⟩, ⟨%d6, H6⟩⟩
  iapply (h _)
  isplitl [H0 H1 H2 H3 H4]
  · isplitl [H0]; · iexact H0
    isplitl [H1]; · iexact H1
    isplitl [H2]; · iexact H2
    isplitl [H3]; · iexact H3
    iexact H4
  isplitl [H5]; · iexists _; iexact H5
  isplitl [H6]; · iexists _; iexact H6
  iintro ⟨⟨H0, H1, H2, H3, H4⟩, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The launch's body, at every point. -/
theorem forward_obligation (c : Dev nD) : BodyObligation (fdat (F := F) V c) (defs₀ (F := F)) Variants.none () Set.univ := fun t => by
  rw [bigSep_W0, bigSep_W0, show defs₀ (F := F) .tc cfg0.body (cfg0.bodyArgs t (cfg0.slots t)) = bodyAt0 t by unfold defs₀; rw [Defs.onTc_tc]]
  exact triple_restated (forward_point V c t) rfl .rfl fun _ => .rfl

/-! ## Backward -/

/-- What a point carries to the next, of its keys' and its values' gradients. -/
def keysAt (c : Dev nD) (t : Fin cfg1.N) : Vec F S128x256 .f32 :=
  carryK (behind (grid1.coords t)) (bblk V c 0 t) (bblk V c 1 t) (bblk V c 2 t) (bblk V c 3 t) (bblk V c 4 t) (bblk V c 5 t) (bblk V c 6 t)
    (bblk V c 7 t) (bblk V c 8 t)
def valuesAt (c : Dev nD) (t : Fin cfg1.N) : Vec F S128x256 .f32 :=
  carryV (behind (grid1.coords t)) (bblk V c 0 t) (bblk V c 1 t) (bblk V c 2 t) (bblk V c 6 t) (bblk V c 7 t)

/-- What a point meets carried: nothing at the first, then what the point before left. -/
def metK (c : Dev nD) (t : Fin cfg1.N) : Vec F S128x256 .f32 :=
  if t.val = 0 then k1_pay7 else keysAt V c ⟨t.val - 1, lt_of_le_of_lt (Nat.sub_le _ _) t.isLt⟩
def metV (c : Dev nD) (t : Fin cfg1.N) : Vec F S128x256 .f32 :=
  if t.val = 0 then k1_pay8 else valuesAt V c ⟨t.val - 1, lt_of_le_of_lt (Nat.sub_le _ _) t.isLt⟩

/-- The three gradients of a point's tile. -/
def gradsAt (c : Dev nD) (t : Fin cfg1.N) : Vec F S128x768 .f32 :=
  gradients (behind (grid1.coords t)) (bblk V c 0 t) (bblk V c 1 t) (bblk V c 2 t) (bblk V c 3 t) (bblk V c 4 t) (bblk V c 5 t) (bblk V c 6 t)
    (bblk V c 7 t) (bblk V c 8 t) (metK V c t) (metV V c t)

/-- A buffer held whole at some contents; those of the forward launch's staging, which the backward one leaves alone. -/
abbrev idle (c : Dev nD) (b : Ref sig .tc) : sProp 𝕄 := iprop(∃ f : Buf (Elt F) ((c : Thread nD τ).loc b), ((c : Thread nD τ).loc b) ↦{fullShare} f)
def others (c : Dev nD) : sProp 𝕄 :=
  iprop(idle c cc0_stg0_0 ∗ idle c cc0_stg0_1 ∗ idle c cc0_stg1_0 ∗ idle c cc0_stg1_1 ∗ idle c cc0_stg2_0 ∗ idle c cc0_stg2_1 ∗ idle c cc0_stg3_0
    ∗ idle c cc0_stg3_1 ∗ idle c cc0_stg4_0 ∗ idle c cc0_stg4_1 ∗ idle c cc0_stg5_0 ∗ idle c cc0_stg5_1 ∗ idle c cc0_stg6_0 ∗ idle c cc0_stg6_1)

/-- The two carried blocks. -/
abbrev carriedK : Memref sig .tc .vmem S128x256 .f32 := Memref.whole cc1_scratch0
abbrev carriedV : Memref sig .tc .vmem S128x256 .f32 := Memref.whole cc1_scratch1

/-- What is held beside the windows before point `n`: the carried blocks, at what the point before left from the second point on. -/
def beside (c : Dev nD) (n : ℕ) (hn : n ≤ cfg1.N) : sProp 𝕄 :=
  match n, hn with
  | 0, _ => iprop(others c ∗ (∃ d, owns (c : Thread nD τ) carriedK fullShare d) ∗ (∃ d, owns (c : Thread nD τ) carriedV fullShare d) ∗ (∃ r, prngReg c r))
  | n + 1, hn => iprop(others c ∗ owns (c : Thread nD τ) carriedK fullShare (keysAt V c ⟨n, hn⟩) ∗ owns (c : Thread nD τ) carriedV fullShare (valuesAt V c ⟨n, hn⟩)
      ∗ (∃ r, prngReg c r))

/-- The backward launch's data. -/
def bdat (c : Dev nD) : Dat τ (Elt F) Unit ℕ (UR sig nD τ) ℕ cfg1 c where
  A w := V c (Pipeline.arrRef spec1 w)
  after w t := match w with
    | ⟨0, _⟩ => bblk V c 0 t
    | ⟨1, _⟩ => bblk V c 1 t
    | ⟨2, _⟩ => bblk V c 2 t
    | ⟨3, _⟩ => bblk V c 3 t
    | ⟨4, _⟩ => bblk V c 4 t
    | ⟨5, _⟩ => bblk V c 5 t
    | ⟨6, _⟩ => bblk V c 6 t
    | ⟨7, _⟩ => bblk V c 7 t
    | ⟨8, _⟩ => bblk V c 8 t
    | ⟨9, _⟩ => gradsAt V c t
  Φ t := beside V c t.val (Nat.le_of_lt_succ t.isLt)
  q w := Pipeline.shareOf spec1 w
  owed _ := 0

theorem bdat_A (c : Dev nD) (w : Fin cfg1.W) : (bdat V c).A w = V c (Pipeline.arrRef spec1 w) := by dsimp only [bdat]

theorem bdat_before (c : Dev nD) (t : Fin cfg1.N) :
    (∀ d, (bdat V c).before 0 t d = bblk V c 0 t) ∧ (∀ d, (bdat V c).before 1 t d = bblk V c 1 t)
      ∧ (∀ d, (bdat V c).before 2 t d = bblk V c 2 t) ∧ (∀ d, (bdat V c).before 3 t d = bblk V c 3 t)
      ∧ (∀ d, (bdat V c).before 4 t d = bblk V c 4 t) ∧ (∀ d, (bdat V c).before 5 t d = bblk V c 5 t)
      ∧ (∀ d, (bdat V c).before 6 t d = bblk V c 6 t) ∧ (∀ d, (bdat V c).before 7 t d = bblk V c 7 t)
      ∧ (∀ d, (bdat V c).before 8 t d = bblk V c 8 t) := by
  refine ⟨?_, ?_, ?_, ?_, ?_, ?_, ?_, ?_, ?_⟩ <;> intro d <;>
    exact ((bdat V c).before_in_eq_fetched _ rfl (fun _ => rfl) (fun _ _ _ => rfl) (fun _ => rfl) t d).trans rfl

/-- The body's question is whether the point is the launch's first. -/
theorem starts_iff (t : Fin cfg1.N) : starts (grid1.coords t) ↔ t.val = 0 := by
  have ht : t.val < 32 := Nat.lt_of_lt_of_eq t.isLt N_1
  have e : (grid1.coords t 0).val = t.val / 1 % 32 := Pipeline.Grid.coords_val t 0 (by decide) rfl
  have h : starts (grid1.coords t) ↔ t.val % 32 = 0 := by
    simp only [starts, e]
    word_cmp
  rw [h, Nat.mod_eq_of_lt ht]

/-- The carried blocks after a point. -/
theorem bdat_succ (c : Dev nD) (t : Fin cfg1.N) : (bdat V c).Φ t.succ =
    iprop(others c ∗ owns (c : Thread nD τ) carriedK fullShare (keysAt V c t) ∗ owns (c : Thread nD τ) carriedV fullShare (valuesAt V c t)
      ∗ (∃ r, prngReg c r)) := rfl

/-- The carried blocks at a later point. -/
theorem bdat_later (c : Dev nD) (t : Fin cfg1.N) (h : t.val ≠ 0) : (bdat V c).Φ t.castSucc =
    iprop(others c ∗ owns (c : Thread nD τ) carriedK fullShare (metK V c t) ∗ owns (c : Thread nD τ) carriedV fullShare (metV V c t)
      ∗ (∃ r, prngReg c r)) := by
  obtain ⟨n, hn⟩ := t
  cases n with
  | zero => exact absurd rfl h
  | succ n => rfl

/-- The carried blocks at the first point. -/
theorem bdat_first (c : Dev nD) (t : Fin cfg1.N) (h : t.val = 0) : (bdat V c).Φ t.castSucc =
    iprop(others c ∗ (∃ d, owns (c : Thread nD τ) carriedK fullShare d) ∗ (∃ d, owns (c : Thread nD τ) carriedV fullShare d) ∗ (∃ r, prngReg c r)) := by
  obtain ⟨n, hn⟩ := t
  obtain rfl : n = 0 := h
  rfl

set_option maxHeartbeats 2000000 in
theorem backward_point (c : Dev nD) (t : Fin cfg1.N) :
    iprop((bdat V c).Φ t.castSucc ∗ (bdat V c).owesAt () t.castSucc
      ∗ (∃ d, owns (c : Thread nD τ) (st1_0 t) fullShare ((bdat V c).before 0 t d))
      ∗ (∃ d, owns (c : Thread nD τ) (st1_1 t) fullShare ((bdat V c).before 1 t d))
      ∗ (∃ d, owns (c : Thread nD τ) (st1_2 t) fullShare ((bdat V c).before 2 t d))
      ∗ (∃ d, owns (c : Thread nD τ) (st1_3 t) fullShare ((bdat V c).before 3 t d))
      ∗ (∃ d, owns (c : Thread nD τ) (st1_4 t) fullShare ((bdat V c).before 4 t d))
      ∗ (∃ d, owns (c : Thread nD τ) (st1_5 t) fullShare ((bdat V c).before 5 t d))
      ∗ (∃ d, owns (c : Thread nD τ) (st1_6 t) fullShare ((bdat V c).before 6 t d))
      ∗ (∃ d, owns (c : Thread nD τ) (st1_7 t) fullShare ((bdat V c).before 7 t d))
      ∗ (∃ d, owns (c : Thread nD τ) (st1_8 t) fullShare ((bdat V c).before 8 t d))
      ∗ (∃ d, owns (c : Thread nD τ) (st1_9 t) fullShare ((bdat V c).before 9 t d)))
    ⊢ wp frame (wpE (defs₀ (F := F)) Variants.none c none) Set.univ (bodyAt1 t) (fun _ =>
      iprop((bdat V c).Φ t.succ ∗ (bdat V c).owesAt () t.succ
        ∗ owns (c : Thread nD τ) (st1_0 t) fullShare ((bdat V c).after 0 t)
        ∗ owns (c : Thread nD τ) (st1_1 t) fullShare ((bdat V c).after 1 t)
        ∗ owns (c : Thread nD τ) (st1_2 t) fullShare ((bdat V c).after 2 t)
        ∗ owns (c : Thread nD τ) (st1_3 t) fullShare ((bdat V c).after 3 t)
        ∗ owns (c : Thread nD τ) (st1_4 t) fullShare ((bdat V c).after 4 t)
        ∗ owns (c : Thread nD τ) (st1_5 t) fullShare ((bdat V c).after 5 t)
        ∗ owns (c : Thread nD τ) (st1_6 t) fullShare ((bdat V c).after 6 t)
        ∗ owns (c : Thread nD τ) (st1_7 t) fullShare ((bdat V c).after 7 t)
        ∗ owns (c : Thread nD τ) (st1_8 t) fullShare ((bdat V c).after 8 t)
        ∗ owns (c : Thread nD τ) (st1_9 t) fullShare ((bdat V c).after 9 t))) := by
  obtain ⟨b0, b1, b2, b3, b4, b5, b6, b7, b8⟩ := bdat_before V c t
  simp only [b0, b1, b2, b3, b4, b5, b6, b7, b8]
  rw [bdat_succ, show (bdat V c).owesAt () t.succ = (bdat V c).owesAt () t.castSucc from rfl]
  by_cases hz : t.val = 0
  · rw [bdat_first V c t hz]
    dsimp only [bdat]
    have h := backward_first (bblk V c 0 t) (bblk V c 1 t) (bblk V c 2 t) (bblk V c 3 t) (bblk V c 4 t) (bblk V c 5 t) (bblk V c 6 t)
      (bblk V c 7 t) (bblk V c 8 t) c (st1_0 t) (hstage1_0 _) (st1_1 t) (hstage1_1 _) (st1_2 t) (hstage1_2 _) (st1_3 t) (hstage1_3 _) (st1_4 t) (hstage1_4 _)
      (st1_5 t) (hstage1_5 _) (st1_6 t) (hstage1_6 _) (st1_7 t) (hstage1_7 _) (st1_8 t) (hstage1_8 _) (st1_9 t) (hstage1_9 _)
      carriedK (Memref.isWhole_whole _) carriedV (Memref.isWhole_whole _) Set.univ (grid1.coords t) ((starts_iff t).mpr hz)
    unfold gradientsAt carryKAt carryVAt rows saved at h
    simp only [ld_tile] at h
    unfold gradsAt metK metV
    rw [if_pos hz, if_pos hz]
    iintro ⟨⟨Hi, HK, HV, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
    iapply (h _)
    isplitl [H0 H1 H2 H3 H4]
    · isplitl [H0]; · iexact H0
      isplitl [H1]; · iexact H1
      isplitl [H2]; · iexact H2
      isplitl [H3]; · iexact H3
      iexact H4
    isplitl [H5 H6 H7 H8]
    · isplitl [H5]; · iexact H5
      isplitl [H6]; · iexact H6
      isplitl [H7]; · iexact H7
      iexact H8
    isplitl [H9]; · iexists _; iexact H9
    isplitl [HK]; · iexact HK
    isplitl [HV]; · iexact HV
    iintro ⟨⟨H0, H1, H2, H3, H4⟩, ⟨H5, H6, H7, H8⟩, H9, HK, HV⟩
    isplitl [Hi HK HV Hg]
    · isplitl [Hi]; · iexact Hi
      isplitl [HK]; · iexact HK
      isplitl [HV]; · iexact HV
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    iexact H9
  · rw [bdat_later V c t hz]
    dsimp only [bdat]
    have h := backward_body (bblk V c 0 t) (bblk V c 1 t) (bblk V c 2 t) (bblk V c 3 t) (bblk V c 4 t) (bblk V c 5 t) (bblk V c 6 t)
      (bblk V c 7 t) (bblk V c 8 t) c (st1_0 t) (hstage1_0 _) (st1_1 t) (hstage1_1 _) (st1_2 t) (hstage1_2 _) (st1_3 t) (hstage1_3 _) (st1_4 t) (hstage1_4 _)
      (st1_5 t) (hstage1_5 _) (st1_6 t) (hstage1_6 _) (st1_7 t) (hstage1_7 _) (st1_8 t) (hstage1_8 _) (st1_9 t) (hstage1_9 _)
      carriedK (Memref.isWhole_whole _) carriedV (Memref.isWhole_whole _) Set.univ (grid1.coords t) (fun hs => hz ((starts_iff t).mp hs))
      (metK V c t) (metV V c t)
    unfold gradientsAt carryKAt carryVAt rows saved at h
    simp only [ld_tile] at h
    iintro ⟨⟨Hi, HK, HV, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
    iapply (h _)
    isplitl [H0 H1 H2 H3 H4]
    · isplitl [H0]; · iexact H0
      isplitl [H1]; · iexact H1
      isplitl [H2]; · iexact H2
      isplitl [H3]; · iexact H3
      iexact H4
    isplitl [H5 H6 H7 H8]
    · isplitl [H5]; · iexact H5
      isplitl [H6]; · iexact H6
      isplitl [H7]; · iexact H7
      iexact H8
    isplitl [H9]; · iexists _; iexact H9
    isplitl [HK]; · iexact HK
    isplitl [HV]; · iexact HV
    iintro ⟨⟨H0, H1, H2, H3, H4⟩, ⟨H5, H6, H7, H8⟩, H9, HK, HV⟩
    isplitl [Hi HK HV Hg]
    · isplitl [Hi]; · iexact Hi
      isplitl [HK]; · iexact HK
      isplitl [HV]; · iexact HV
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    iexact H9

theorem backward_obligation (c : Dev nD) : BodyObligation (bdat (F := F) V c) (defs₀ (F := F)) Variants.none () Set.univ := fun t => by
  rw [bigSep_W1, bigSep_W1, show defs₀ (F := F) .tc cfg1.body (cfg1.bodyArgs t (cfg1.slots t)) = bodyAt1 t by unfold defs₀; rw [Defs.onTc_tc]]
  exact triple_restated (backward_point V c t) rfl .rfl fun _ => .rfl

/-- The buffers beside the windows at entry and at the end. -/
theorem beside_in (c : Dev nD) : Pipeline.ΦA spec1 c ⊢ (bdat V c).Φ 0 := by
  rw [show (bdat V c).Φ 0 = iprop(others c ∗ (∃ d, owns (c : Thread nD τ) carriedK fullShare d) ∗ (∃ d, owns (c : Thread nD τ) carriedV fullShare d)
    ∗ (∃ r, prngReg c r)) from rfl]
  unfold Pipeline.ΦA others; rw [scopedRest1_eq]; simp only [carriedK, carriedV, owns_whole, idle]
  iintro ⟨⟨X0, X1, X2, X3, X4, X5, X6, X7, X8, X9, XA, XB, XC, XD, HK, HV⟩, Hg⟩
  isplitl [X0 X1 X2 X3 X4 X5 X6 X7 X8 X9 XA XB XC XD]
  · iframe
  isplitl [HK]; · iexact HK
  isplitl [HV]; · iexact HV
  iexact Hg

theorem beside_out (c : Dev nD) : (bdat V c).Φ (Fin.last cfg1.N) ⊢ Pipeline.ΦA spec1 c := by
  have hN : cfg1.N = 31 + 1 := N_1
  have e : (bdat V c).Φ (Fin.last cfg1.N) = (bdat V c).Φ (⟨31, by omega⟩ : Fin cfg1.N).succ := congrArg _ (Fin.ext hN)
  rw [e, bdat_succ]
  unfold Pipeline.ΦA others; rw [scopedRest1_eq]; simp only [carriedK, carriedV, owns_whole, idle]
  iintro ⟨⟨X0, X1, X2, X3, X4, X5, X6, X7, X8, X9, XA, XB, XC, XD⟩, HK, HV, Hg⟩
  ihave HK : (∃ f : Buf (Elt F) ((c : Thread nD τ).loc cc1_scratch0), ((c : Thread nD τ).loc cc1_scratch0) ↦{fullShare} f) $$ [HK]
  · iexists _; iexact HK
  ihave HV : (∃ f : Buf (Elt F) ((c : Thread nD τ).loc cc1_scratch1), ((c : Thread nD τ).loc cc1_scratch1) ↦{fullShare} f) $$ [HV]
  · iexists _; iexact HV
  iframe

end Cert.Attn

end
-- ==== Proof.Attn.Run.lean ====
/- The two attention launches one after the other: what the arrays hold at the end, from any memory. -/
module

public import proofs.«01_k».proof.Proof.Attn.Data
public import Idealize.ShloMosaic.Lib.Claim

@[expose] public section

set_option maxRecDepth 16384

noncomputable section

namespace Cert.Attn

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelAttnIdeal Cert.KernelAttnIdeal.Gen

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-- The buffers at the start, between the launches, and at the end. -/
abbrev start : Dev nD → Valuation τ sig (Elt F) := fun c b => (s₀ m ρ).mem ((c : Dev nD), b)
abbrev startRef : (c : Dev nD) → (b : Ref sig .tc) → Buf (Elt F) ((c : Thread nD τ).loc b) := fun c b => start m ρ c b
def between (c : Dev nD) : Valuation τ sig (Elt F) :=
  Pipeline.withArrays spec0 c (start m ρ c) fun w => (fdat (startRef m ρ) c).arrAt w cfg0.N
abbrev betweenRef : (c : Dev nD) → (b : Ref sig .tc) → Buf (Elt F) ((c : Thread nD τ).loc b) := fun c b => between m ρ c b
def final (c : Dev nD) : Valuation τ sig (Elt F) :=
  Pipeline.withArrays spec1 c (between m ρ c) fun w => (bdat (betweenRef m ρ) c).arrAt w cfg1.N
abbrev finalRef : (c : Dev nD) → (b : Ref sig .tc) → Buf (Elt F) ((c : Thread nD τ).loc b) := fun c b => final m ρ c b

theorem between_arr (c : Dev nD) (w : Fin cfg0.W) :
    between m ρ c (Proc.devRef .tc (Pipeline.arrRef spec0 w)) = (fdat (startRef m ρ) c).arrAt w cfg0.N := by
  unfold between; exact (fdat (startRef m ρ) c).withArrays_arrAt launch₀0.sharedIn _ (fdat_A (startRef m ρ) c) w
theorem between_other (c : Dev nD) (b : Ref sig .tc) (hb : ∀ w, Pipeline.arrRef spec0 w ≠ b) :
    between m ρ c (Proc.devRef .tc b) = start m ρ c (Proc.devRef .tc b) := by
  unfold between; exact Pipeline.withArrays_of_ne spec0 c _ _ b hb
theorem final_arr (c : Dev nD) (w : Fin cfg1.W) :
    final m ρ c (Proc.devRef .tc (Pipeline.arrRef spec1 w)) = (bdat (betweenRef m ρ) c).arrAt w cfg1.N := by
  unfold final; exact (bdat (betweenRef m ρ) c).withArrays_arrAt launch₀1.sharedIn _ (bdat_A (betweenRef m ρ) c) w
theorem final_other (c : Dev nD) (b : Ref sig .tc) (hb : ∀ w, Pipeline.arrRef spec1 w ≠ b) :
    final m ρ c (Proc.devRef .tc b) = between m ρ c (Proc.devRef .tc b) := by
  unfold final; exact Pipeline.withArrays_of_ne spec1 c _ _ b hb

/-- The arguments are read, not written. -/
theorem between_arg0 (c : Dev nD) : between m ρ c (Proc.devRef .tc main_arg0) = m ((c : Thread nD τ).loc main_arg0) :=
  (between_arr m ρ c 0).trans (((fdat (startRef m ρ) c).arrAt_in 0 rfl _).trans (fdat_A (startRef m ρ) c 0))
theorem between_arg1 (c : Dev nD) : between m ρ c (Proc.devRef .tc main_arg1) = m ((c : Thread nD τ).loc main_arg1) :=
  between_other m ρ c main_arg1 (by decide)
theorem between_arg2 (c : Dev nD) : between m ρ c (Proc.devRef .tc main_arg2) = m ((c : Thread nD τ).loc main_arg2) :=
  between_other m ρ c main_arg2 (by decide)
theorem final_arg0 (c : Dev nD) : final m ρ c (Proc.devRef .tc main_arg0) = m ((c : Thread nD τ).loc main_arg0) :=
  (final_arr m ρ c 0).trans ((((bdat (betweenRef m ρ) c).arrAt_in 0 rfl _).trans (bdat_A (betweenRef m ρ) c 0)).trans (between_arg0 m ρ c))
theorem final_arg1 (c : Dev nD) : final m ρ c (Proc.devRef .tc main_arg1) = m ((c : Thread nD τ).loc main_arg1) :=
  (final_arr m ρ c 7).trans ((((bdat (betweenRef m ρ) c).arrAt_in 7 rfl _).trans (bdat_A (betweenRef m ρ) c 7)).trans (between_arg1 m ρ c))
theorem final_arg2 (c : Dev nD) : final m ρ c (Proc.devRef .tc main_arg2) = m ((c : Thread nD τ).loc main_arg2) :=
  (final_arr m ρ c 8).trans ((((bdat (betweenRef m ρ) c).arrAt_in 8 rfl _).trans (bdat_A (betweenRef m ρ) c 8)).trans (between_arg2 m ρ c))

theorem final_out (c : Dev nD) : final m ρ c (Proc.devRef .tc main_v0_0) = (fdat (startRef m ρ) c).arrAt 5 cfg0.N :=
  (final_arr m ρ c 5).trans ((((bdat (betweenRef m ρ) c).arrAt_in 5 rfl _).trans (bdat_A (betweenRef m ρ) c 5)).trans (between_arr m ρ c 5))
theorem final_log (c : Dev nD) : final m ρ c (Proc.devRef .tc main_v0_1) = (fdat (startRef m ρ) c).arrAt 6 cfg0.N :=
  (final_arr m ρ c 6).trans ((((bdat (betweenRef m ρ) c).arrAt_in 6 rfl _).trans (bdat_A (betweenRef m ρ) c 6)).trans (between_arr m ρ c 6))

/-! ## The launches as segments of the run -/

abbrev adm : (p : Fin 2) → (pcfgs (F := F) p).Adm := fun p => (cfgs p).toPCfg_adm
def pdats : (p : Fin 2) → (c : Dev nD) → Dat τ (Elt F) Unit ℕ (UR sig nD τ) ℕ (Pipeline.pin (pcfgs (F := F)) adm p) c
  | ⟨0, _⟩ => fun c => fdat (startRef m ρ) c
  | ⟨1, _⟩ => fun c => bdat (betweenRef m ρ) c
abbrev noSem : GSem nD τ sig → Finset Unit := fun _ => ∅
abbrev level : GSem nD τ sig → Unit → ℕ := fun _ _ => 0
/-- What a device holds between segments: its buffers at `W`, its generator register, nothing owed. -/
abbrev holding (W : Dev nD → Valuation τ sig (Elt F)) (c : Dev nD) : sProp 𝕄 :=
  iprop(StableHlo.held (c : Thread nD τ) (Pipeline.ucRefs τ sig) (W c) ∗ (∃ r, prngReg c r) ∗ ∃ W, owes (c : Thread nD τ) (0 : CellTallies nD τ sig Unit) W)
abbrev ended (c : Dev nD) : sProp 𝕄 :=
  iprop(StableHlo.held (c : Thread nD τ) (Pipeline.ucRefs τ sig) (final m ρ c) ∗ ∃ r, prngReg c r)

-- the library's lemmas are stated at the pinned configuration, so unification has to unfold plain definitions in types
set_option backward.isDefEq.respectTransparency.types false in
/-- The forward launch. -/
def forwardSeg : Pipeline.RegionSeg (pcfgs (F := F)) adm (pdats m ρ) () defs₀ Variants.none noSem level 0 where
  win := launch₀0.win
  block_pos := launch₀0.block_pos
  stage_whole := launch₀0.stage_whole
  K := PEmpty
  osem k := k.elim
  ho := Pipeline.OwnSemFacts.none _
  hbody c := (forward_obligation (startRef m ρ) c).loose
  hwaits := Pipeline.hwaits_of_owed_zero _ _ _ _ noSem level 0 fun _ _ => rfl
  pre c := holding (start m ρ) c
  post c := holding (between m ρ) c
  X c := iprop(∃ r, prngReg c r)
  Y c := iprop(∃ r, prngReg c r)
  Z c := Pipeline.unscopedRest (Ix := Unit) (Name := ℕ) (U := UR sig nD τ) (Lvl := ℕ) spec0 c (startRef m ρ c)
  hentry c := by
    rw [Pipeline.ownSems0_none]
    have hsplit := Pipeline.arrays_of_unscopedBufs_shared (p := 0) (pcfgs (F := F)) adm (pdats m ρ) launch₀0.win launch₀0.sharedIn launch₀0.arr_whole c
      (fun _ _ => rfl) (startRef m ρ c) (fdat_A (startRef m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none]
    rw [show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays_shared (p := 0) (pcfgs (F := F)) adm (Ix := Unit) (Name := ℕ) (U := UR sig nD τ) (Lvl := ℕ)
      launch₀0.win launch₀0.sharedIn launch₀0.arr_whole c (pdats m ρ) (fun _ _ => rfl)
      (startRef m ρ c) (betweenRef m ρ c) ((pdats m ρ 0 c).arrAt · cfg0.N) (fun w => (between_arr m ρ c w).symm)
      (fun b hb => between_other m ρ c b fun w e => hb (Finset.mem_image.mpr ⟨w, Finset.mem_univ _, e⟩))
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- the library's lemmas are stated at the pinned configuration, so unification has to unfold plain definitions in types
set_option backward.isDefEq.respectTransparency.types false in
/-- The backward launch, entered from what the forward one leaves. -/
def backwardSeg : Pipeline.RegionSeg (pcfgs (F := F)) adm (pdats m ρ) () defs₀ Variants.none noSem level 1 where
  win := launch₀1.win
  block_pos := launch₀1.block_pos
  stage_whole := launch₀1.stage_whole
  K := PEmpty
  osem k := k.elim
  ho := Pipeline.OwnSemFacts.none _
  hbody c := (backward_obligation (betweenRef m ρ) c).loose
  hwaits := Pipeline.hwaits_of_owed_zero _ _ _ _ noSem level 1 fun _ _ => rfl
  pre c := holding (between m ρ) c
  post c := iprop(ended m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (betweenRef m ρ c)
  hentry c := by
    rw [Pipeline.ownSems0_none]
    have hsplit := Pipeline.arrays_of_unscopedBufs_shared (p := 1) (pcfgs (F := F)) adm (pdats m ρ) launch₀1.win launch₀1.sharedIn launch₀1.arr_whole c
      (fun _ _ => rfl) (betweenRef m ρ c) (bdat_A (betweenRef m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    have h := beside_in (betweenRef m ρ) c
    rw [show (pdats m ρ 1 c).Φ 0 = (bdat (betweenRef m ρ) c).Φ 0 from rfl]; unfold Pipeline.ΦA at h
    iintro ⟨Hp, -, Hr⟩
    iapply h
    isplitl [Hr]; · iexact Hr
    iexact Hp
  hout c := by
    rw [Pipeline.ownSems0_none]
    have h := beside_out (betweenRef m ρ) c
    rw [show (pdats m ρ 1 c).Φ (Fin.last _) = (bdat (betweenRef m ρ) c).Φ (Fin.last cfg1.N) from rfl]; unfold Pipeline.ΦA at h
    iintro H
    ihave H := h $$ H
    icases H with ⟨Hr, Hp⟩
    isplitl [Hp]; · iexact Hp
    isplitr; · iempintro
    iexact Hr
  hexit c := by
    have hjoin := Pipeline.unscopedBufs_of_arrays_shared (p := 1) (pcfgs (F := F)) adm (Ix := Unit) (Name := ℕ) (U := UR sig nD τ) (Lvl := ℕ)
      launch₀1.win launch₀1.sharedIn launch₀1.arr_whole c (pdats m ρ) (fun _ _ => rfl)
      (betweenRef m ρ c) (finalRef m ρ c) ((pdats m ρ 1 c).arrAt · cfg1.N) (fun w => (final_arr m ρ c w).symm)
      (fun b hb => final_other m ρ c b fun w e => hb (Finset.mem_image.mpr ⟨w, Finset.mem_univ _, e⟩))
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

abbrev segs : List (Pipeline.Seg (pcfgs (F := F)) adm (pdats m ρ) () defs₀ Variants.none noSem level) :=
  [.region (forwardSeg m ρ), .region (backwardSeg m ρ)]

theorem no_unscoped : ∀ sm : SemLoc sig, sm.isScoped .tc = true := by decide

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

set_option backward.isDefEq.respectTransparency.types false in
/-- From any memory with no counter set the two launches terminate; the arrays end as `final` has them, the counters at zero. -/
theorem run : θ_run defs (onTc (τ := τ) (main (F := F))) ⟨m, fun _ => 0, ρ⟩ (fun r => (∀ c : Dev nD, ∀ b ∈ Pipeline.ucRefs τ sig,
      r.2.mem (((c : Thread nD τ)).1, b) = final m ρ c b) ∧ r.2.sem = fun _ => 0) :=
  Pipeline.θ_run_regions_kit_sems (pcfgs (F := F)) adm (pdats m ρ) () cellOf_inj emb₁ defs₀ Variants.none noSem level m ρ main (segs m ρ)
    (fun c Q => by rw [main_segs adm (pdats m ρ) () Variants.none noSem level (forwardSeg m ρ) (backwardSeg m ρ) c])
    (by simp only [segs, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := holding (start m ρ)) (Tₙ := ended m ρ)
    (hch := ⟨fun _ => .rfl, fun _ => .rfl, fun _ => .rfl⟩)
    (hinit := by
      refine Pipeline.initEach noSem level fun c => ?_
      rw [show unscopedBufs c (fun b => m ((c : Thread nD τ).loc b)) = StableHlo.held (c : Thread nD τ) (Pipeline.ucRefs τ sig) (start m ρ c)
        from Pipeline.unscopedBufs_held c (start m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = final m ρ c b)
    (hfin := fun c s' => by
      iintro ⟨⟨Hh, -⟩, HSI⟩
      unfold StableHlo.held
      imodintro
      iapply (pointsTo_read_all (Pipeline.ucRefs τ sig) (fun b => (((c : Thread nD τ)).1, b)) (final m ρ c) s')
      isplitl [Hh] <;> iassumption)
    (hQ := fun s h hz => ⟨h, funext fun g => hz g (.inr (no_unscoped g.2))⟩)

/-- The arguments end unchanged, and the gradients are what the backward launch leaves of its last window, the output and the
    row log-sums what the forward launch leaves of its last two. -/
theorem run_all : θ_run defs (onTc (τ := τ) (main (F := F))) ⟨m, fun _ => 0, ρ⟩ (fun r => (∀ c : Dev nD,
      r.2.mem ((c.tc : Thread nD τ).loc main_v1) = (bdat (betweenRef m ρ) c).arrAt 9 cfg1.N
      ∧ r.2.mem ((c.tc : Thread nD τ).loc main_v0_0) = (fdat (startRef m ρ) c).arrAt 5 cfg0.N
      ∧ r.2.mem ((c.tc : Thread nD τ).loc main_v0_1) = (fdat (startRef m ρ) c).arrAt 6 cfg0.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  (θ_run defs _ _).mono (fun _ h => ⟨fun c => ⟨(h.1 c _ (mem_uc main_v1 (by decide))).trans (final_arr m ρ c 9),
    (h.1 c _ (mem_uc main_v0_0 (by decide))).trans (final_out m ρ c), (h.1 c _ (mem_uc main_v0_1 (by decide))).trans (final_log m ρ c),
    (h.1 c _ (mem_uc main_arg0 (by decide))).trans (final_arg0 m ρ c), (h.1 c _ (mem_uc main_arg1 (by decide))).trans (final_arg1 m ρ c),
    (h.1 c _ (mem_uc main_arg2 (by decide))).trans (final_arg2 m ρ c)⟩, h.2⟩) (run m ρ)

/-- The frame. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  (θ_run defs _ _).mono (fun _ h => ⟨fun c => (h.1 c).2.2.2, h.2⟩) (run_all m ρ)

end Cert.Attn

end
-- ==== Proof.Attn.Tile.lean ====
/- One tile of windowed attention over the reals: 128 query rows against 256 key rows (the tile before and its own), four
   heads of 64 lanes side by side, their softmax weights, and the gradients of queries, keys and values. -/
module

public import proofs.«01_k».proof.Proof.Reals
public import Idealize.ShloMosaic.Lib.Pipeline.ValueKit.Acc

@[expose] public section

noncomputable section

namespace Cert.Attn

open Idealize.ShloMosaic Cert.Reals
open scoped BigOperators

/-- A lane's head, and whether a lane is of head `h`, as one or zero. -/
def hd (l : Fin 256) : Fin 4 := ⟨l.val / 64, by omega⟩
def on (h : Fin 4) (l : Fin 256) : ℝ := if hd l = h then 1 else 0
/-- Lane `e` of head `h`. -/
def ln (h : Fin 4) (e : Fin 64) : Fin 256 := ⟨h.val * 64 + e.val, by omega⟩

/-- Row `k` of the window of 256: of the tile before, or of the tile itself. -/
def stack {α : Type} (p c : Fin 128 → α) (k : Fin 256) : α :=
  if h : k.val < 128 then p ⟨k.val, h⟩ else c ⟨k.val - 128, by omega⟩

/-- Query row `a` sees key row `k`: at most 128 rows back, and none before the sequence's first tile. -/
def ok (first : Bool) (a : Fin 128) (k : Fin 256) : Bool :=
  decide (a.val ≤ k.val ∧ k.val ≤ a.val + 128 ∧ (first = false ∨ 128 ≤ k.val))

/-- Every query row sees its own. -/
theorem ok_own (first : Bool) (a : Fin 128) : ok first a ⟨a.val + 128, by omega⟩ = true := by
  simp [ok]

theorem on_hd (l : Fin 256) : on (hd l) l = 1 := by simp [on]

/-- Over the four heads, only the lane's own counts. -/
theorem sum_on (f : Fin 4 → ℝ) (l : Fin 256) : ∑ h, f h * on h l = f (hd l) := by
  simp [on]

/-- A sum over a head's lanes. -/
theorem sum_lanes (h : Fin 4) (f : Fin 256 → ℝ) : ∑ l, f l * on h l = ∑ e, f (ln h e) := by
  have e (s : Fin 4) (k : Fin 64) (hl : s.val * 64 + k.val < 256) :
      f (ln s k) * (if s = h then 1 else 0) = (fun l => f l * on h l) ⟨s.val * 64 + k.val, hl⟩ := by
    show _ = f (ln s k) * on h (ln s k)
    have : hd (ln s k) = s := Fin.ext (by show (s.val * 64 + k.val) / 64 = s.val; omega)
    unfold on; rw [this]
  rw [← Fin.sum_mul_add_congr e (by decide)]
  simp

section

variable (f : Bool) (q : Fin 128 → Fin 256 → ℝ) (kk vv : Fin 256 → Fin 256 → ℝ) (g gl : Fin 128 → Fin 256 → ℝ)

/-- The scaled score of query row `a` with key row `k` in head `h`. -/
def score (h : Fin 4) (a : Fin 128) (k : Fin 256) : ℝ := ∑ l, q a l * (on h l * (1 / 8)) * kk k l
def expo (h : Fin 4) (a : Fin 128) (k : Fin 256) : ℝ := if ok f a k then Real.exp (score q kk h a k) else 0
/-- The softmax weight. -/
def weight (h : Fin 4) (a : Fin 128) (k : Fin 256) : ℝ := expo f q kk h a k / ∑ k', expo f q kk h a k'
/-- The gradient of a weight through the output, -/
def outGrad (h : Fin 4) (a : Fin 128) (k : Fin 256) : ℝ := ∑ l, g a l * on h l * vv k l
/-- its mean under the weights, -/
def pull (h : Fin 4) (a : Fin 128) : ℝ := ∑ k, weight f q kk h a k * outGrad vv g h a k
/-- the cotangent of the row log-sum, -/
def dlog (h : Fin 4) (a : Fin 128) : ℝ := ∑ l, gl a l * on h l
/-- and the gradient of a score. -/
def scoreGrad (h : Fin 4) (a : Fin 128) (k : Fin 256) : ℝ :=
  weight f q kk h a k * (outGrad vv g h a k - pull f q kk vv g h a + dlog gl h a)
/-- The gradients of queries, keys and values. -/
def qGrad (a : Fin 128) (l : Fin 256) : ℝ := (∑ k, scoreGrad f q kk vv g gl (hd l) a k * kk k l) * (1 / 8)
def kGrad (k : Fin 256) (l : Fin 256) : ℝ := (∑ a, scoreGrad f q kk vv g gl (hd l) a k * q a l) * (1 / 8)
def vGrad (k : Fin 256) (l : Fin 256) : ℝ := ∑ a, weight f q kk (hd l) a k * g a l

theorem expo_sum_pos (h : Fin 4) (a : Fin 128) : 0 < ∑ k, expo f q kk h a k := by
  refine Finset.sum_pos' (fun k _ => ?_) ⟨_, Finset.mem_univ ⟨a.val + 128, by omega⟩, ?_⟩
  · unfold expo; split_ifs
    · exact (Real.exp_pos _).le
    · exact le_rfl
  · unfold expo; rw [if_pos (ok_own f a)]; exact Real.exp_pos _

/-- The weights of a row sum to one. -/
theorem weight_sum (h : Fin 4) (a : Fin 128) : ∑ k, weight f q kk h a k = 1 := by
  unfold weight
  rw [← Finset.sum_div]
  exact div_self (expo_sum_pos f q kk h a).ne'

/-- A pair out of sight has weight zero. -/
theorem weight_out {h : Fin 4} {a : Fin 128} {k : Fin 256} (hk : ok f a k = false) : weight f q kk h a k = 0 := by
  simp [weight, expo, hk]

/-- The row sums of the output against its gradient are the weights' mean. -/
theorem pull_eq (h : Fin 4) (a : Fin 128) :
    ∑ l, g a l * (∑ k, weight f q kk (hd l) a k * vv k l) * on h l = pull f q kk vv g h a := by
  unfold pull outGrad
  have e (l : Fin 256) : g a l * (∑ k, weight f q kk (hd l) a k * vv k l) * on h l
      = ∑ k, weight f q kk h a k * (g a l * on h l * vv k l) := by
    unfold on
    by_cases hl : hd l = h
    · simp only [hl, if_true, mul_one, Finset.mul_sum]
      exact Finset.sum_congr rfl fun k _ => by ring
    · simp [hl]
  rw [Finset.sum_congr rfl fun l _ => e l, Finset.sum_comm]
  exact Finset.sum_congr rfl fun k _ => (Finset.mul_sum _ _ _).symm

/-- The gradients of a row's scores sum to the row log-sum's cotangent. -/
theorem scoreGrad_sum (h : Fin 4) (a : Fin 128) : ∑ k, scoreGrad f q kk vv g gl h a k = dlog gl h a := by
  unfold scoreGrad
  have e (k : Fin 256) : weight f q kk h a k * (outGrad vv g h a k - pull f q kk vv g h a + dlog gl h a)
      = weight f q kk h a k * outGrad vv g h a k + weight f q kk h a k * (dlog gl h a - pull f q kk vv g h a) := by ring
  simp only [e, Finset.sum_add_distrib, ← Finset.sum_mul, weight_sum]
  unfold pull
  ring

/-- Only rows that are seen matter: keys and values that agree there have the same weights and gradients of scores, -/
theorem seen_expo {kk' : Fin 256 → Fin 256 → ℝ} (hk : ∀ a k, ok f a k = true → kk k = kk' k) : expo f q kk = expo f q kk' := by
  funext h a k; unfold expo score
  split_ifs with c
  · rw [hk a k c]
  · rfl

theorem seen_weight {kk' : Fin 256 → Fin 256 → ℝ} (hk : ∀ a k, ok f a k = true → kk k = kk' k) : weight f q kk = weight f q kk' := by
  funext h a k; unfold weight; rw [seen_expo f q kk hk]

theorem seen_scoreGrad {kk' vv' : Fin 256 → Fin 256 → ℝ} (hk : ∀ a k, ok f a k = true → kk k = kk' k)
    (hv : ∀ a k, ok f a k = true → vv k = vv' k) : scoreGrad f q kk vv g gl = scoreGrad f q kk' vv' g gl := by
  have w := seen_weight f q kk hk
  have o (h : Fin 4) (a : Fin 128) (k : Fin 256) : weight f q kk' h a k * outGrad vv g h a k = weight f q kk' h a k * outGrad vv' g h a k := by
    by_cases c : ok f a k = true
    · unfold outGrad; rw [hv a k c]
    · rw [weight_out f q kk' (by simpa using c), zero_mul, zero_mul]
  funext h a k
  unfold scoreGrad pull
  rw [w]
  simp only [mul_add, mul_sub, o]

/-- and the same gradients. -/
theorem seen_qGrad {kk' vv' : Fin 256 → Fin 256 → ℝ} (hk : ∀ a k, ok f a k = true → kk k = kk' k)
    (hv : ∀ a k, ok f a k = true → vv k = vv' k) : qGrad f q kk vv g gl = qGrad f q kk' vv' g gl := by
  funext a l
  unfold qGrad
  rw [seen_scoreGrad f q kk vv g gl hk hv]
  refine congrArg (· * _) (Finset.sum_congr rfl fun k _ => ?_)
  by_cases c : ok f a k = true
  · rw [hk a k c]
  · unfold scoreGrad; rw [weight_out f q kk' (by simpa using c)]; simp

theorem seen_kGrad {kk' vv' : Fin 256 → Fin 256 → ℝ} (hk : ∀ a k, ok f a k = true → kk k = kk' k)
    (hv : ∀ a k, ok f a k = true → vv k = vv' k) : kGrad f q kk vv g gl = kGrad f q kk' vv' g gl := by
  funext k l
  unfold kGrad
  rw [seen_scoreGrad f q kk vv g gl hk hv]

theorem seen_vGrad {kk' : Fin 256 → Fin 256 → ℝ} (hk : ∀ a k, ok f a k = true → kk k = kk' k) :
    vGrad f q kk g = vGrad f q kk' g := by
  funext k l
  unfold vGrad
  rw [seen_weight f q kk hk]

end

/-! ## Row maxima -/

/-- The greatest of a row's values, the hidden ones at −∞, is a real number when one is seen. -/
theorem fold_max {n : ℕ} (p : Fin n → Bool) (s : Fin n → ℝ) (k₀ : Fin n) (h : p k₀ = true) :
    ∃ M : ℝ, Finset.fold max (⊥ : EReal) (fun k => if p k then (s k : EReal) else ⊥) Finset.univ = (M : EReal) := by
  change ∃ M : ℝ, Finset.univ.sup (fun k => if p k then (s k : EReal) else ⊥) = (M : EReal)
  obtain ⟨k, _, hk⟩ := Finset.exists_mem_eq_sup Finset.univ ⟨k₀, Finset.mem_univ _⟩ (fun k => if p k then (s k : EReal) else ⊥)
  rw [hk]
  cases hp : p k with
  | true => exact ⟨s k, by simp⟩
  | false =>
    have := Finset.le_sup (f := fun k => if p k then (s k : EReal) else ⊥) (Finset.mem_univ k₀)
    rw [hk] at this
    simp [h, hp] at this

/-- Of equal values it is their common value. -/
theorem fold_max_const {n : ℕ} (p : Fin n → Bool) (s : ℝ) (k₀ : Fin n) (h : p k₀ = true) :
    Finset.fold max (⊥ : EReal) (fun k => if p k then (s : EReal) else ⊥) Finset.univ = (s : EReal) := by
  change Finset.univ.sup (fun k => if p k then (s : EReal) else ⊥) = (s : EReal)
  refine le_antisymm (Finset.sup_le fun k _ => ?_) ?_
  · split_ifs
    · exact le_rfl
    · exact bot_le
  · have := Finset.le_sup (f := fun k => if p k then (s : EReal) else ⊥) (Finset.mem_univ k₀)
    simpa [h] using this

end Cert.Attn

end
-- ==== Proof.Attn.Payload.lean ====
/- What the two attention bodies compute from a tile of real numbers: the output, the row log-sums and the gradients of
   Attn/Tile.lean, the four heads stacked in 512 rows. -/
module

public import proofs.«01_k».proof.Proof.Attn.Data
public import proofs.«01_k».proof.Proof.Attn.Tile

@[expose] public section

set_option maxRecDepth 16384

noncomputable section

namespace Cert.Attn

open Idealize.ShloMosaic Idealize.ShloMosaic.TcCoe Idealize.ShloMosaic.Tactic
open Cert.KernelAttnIdeal Cert.KernelAttnIdeal.Gen Cert.Reals
open scoped BigOperators

/-- A tile of real numbers. -/
def rl (X : Fin 128 → Fin 256 → ℝ) : Vec Ideal S128x256 .f32 := fun j => ((X (j 0) (j 1) : ℝ) : EReal)

theorem rl_at (X : Fin 128 → Fin 256 → ℝ) (a : Fin 128) (l : Fin 256) : rl X (ix2 a l) = ((X a l : ℝ) : EReal) := rfl

/-- Row `a` of head `h` among the stacked rows. -/
def stk (h : Fin 4) (a : Fin 128) : Fin 512 := ⟨h.val * 128 + a.val, by omega⟩

/-- A stack of four pieces read at row `a` of piece `h`. -/
theorem quarter {α : Type} (f : Fin 4 → Fin 128 → α) (h : Fin 4) (a : Fin 128) :
    (if h1 : (stk h a).val < 128 then f 0 ⟨(stk h a).val, h1⟩
      else if h2 : (stk h a).val - 128 < 128 then f 1 ⟨(stk h a).val - 128, h2⟩
      else if h3 : (stk h a).val - 128 - 128 < 128 then f 2 ⟨(stk h a).val - 128 - 128, h3⟩
      else f 3 ⟨(stk h a).val - 128 - 128 - 128, by have := (stk h a).isLt; omega⟩) = f h a := by
  have ha := a.isLt
  have e : (stk h a).val = h.val * 128 + a.val := rfl
  have h4 : ∀ h : Fin 4, h = 0 ∨ h = 1 ∨ h = 2 ∨ h = 3 := by decide
  rcases h4 h with rfl | rfl | rfl | rfl
  · rw [dif_pos (by rw [e]; show 0 * 128 + a.val < 128; omega)]
    exact congrArg (f 0) (Fin.ext (by show 0 * 128 + a.val = a.val; omega))
  · rw [dif_neg (by rw [e]; show ¬ 1 * 128 + a.val < 128; omega), dif_pos (by rw [e]; show 1 * 128 + a.val - 128 < 128; omega)]
    exact congrArg (f 1) (Fin.ext (by show 1 * 128 + a.val - 128 = a.val; omega))
  · rw [dif_neg (by rw [e]; show ¬ 2 * 128 + a.val < 128; omega), dif_neg (by rw [e]; show ¬ 2 * 128 + a.val - 128 < 128; omega),
      dif_pos (by rw [e]; show 2 * 128 + a.val - 128 - 128 < 128; omega)]
    exact congrArg (f 2) (Fin.ext (by show 2 * 128 + a.val - 128 - 128 = a.val; omega))
  · rw [dif_neg (by rw [e]; show ¬ 3 * 128 + a.val < 128; omega), dif_neg (by rw [e]; show ¬ 3 * 128 + a.val - 128 < 128; omega),
      dif_neg (by rw [e]; show ¬ 3 * 128 + a.val - 128 - 128 < 128; omega)]
    exact congrArg (f 3) (Fin.ext (by show 3 * 128 + a.val - 128 - 128 - 128 = a.val; omega))

theorem mask_bot : (Named.named (F := Ideal) κ "mask" 0xF149F2CA#32 : Ideal .f32) = (⊥ : EReal) := rfl
theorem ofBits_eighth : Ideal.ofBits .f32 1040187392#32 = ((1 / 8 : ℝ) : EReal) := by
  simp [Ideal.ofBits, Ideal.ieee, -EReal.coe_mul]; norm_num
theorem ofBits_bot : Ideal.ofBits .f32 4286578688#32 = (⊥ : EReal) := by simp [Ideal.ofBits, Ideal.ieee]

/-- The printed head number of a lane. -/
def headWord (l : ℕ) : BitVec 32 :=
  Scalar.select
    (IntOp.andi
      (IntOp.cmpi CmpIPredicate.ne
        (IntOp.subi (BitVec.setWidth 32 (IntOp.cmpi CmpIPredicate.sgt (BitVec.ofNat 32 l) 0#32))
          (BitVec.setWidth 32 (IntOp.cmpi CmpIPredicate.slt (BitVec.ofNat 32 l) 0#32)))
        (Scalar.subi (Scalar.extui (Scalar.cmpi CmpIPredicate.sgt 64#32 0#32))
          (Scalar.extui (Scalar.cmpi CmpIPredicate.slt 64#32 0#32))))
      (IntOp.cmpi CmpIPredicate.ne (IntOp.remsi ArithUnit.vector (BitVec.ofNat 32 l) 64#32) 0#32))
    (IntOp.subi (IntOp.divsi ArithUnit.vector (BitVec.ofNat 32 l) 64#32) 1#32)
    (IntOp.divsi ArithUnit.vector (BitVec.ofNat 32 l) 64#32)

theorem headWord_eq : ∀ l : Fin 256, headWord l.val = BitVec.ofNat 32 (hd l).val := by decide +kernel

/-- The comparison of a lane's head with `h`, as a float. -/
theorem head_bit (h : Fin 4) (l : Fin 256) :
    (FloatOps.sitofp FTy.f32 (BitVec.setWidth 32 (IntOp.cmpi CmpIPredicate.eq (headWord l.val) (BitVec.ofNat 32 h.val))) : Ideal .f32)
      = ((on h l : ℝ) : EReal) := by
  rw [headWord_eq]
  have e : ∀ a b : Fin 4, (BitVec.setWidth 32 (IntOp.cmpi CmpIPredicate.eq (BitVec.ofNat 32 a.val) (BitVec.ofNat 32 b.val))) = if a = b then 1#32 else 0#32 := by
    decide
  rw [e]
  unfold on
  split_ifs with c
  · show (((1#32).toInt : ℝ) : EReal) = _; norm_num
  · show (((0#32).toInt : ℝ) : EReal) = _; norm_num

theorem heads (l : Fin 256) :
    ((head0 (F := Ideal) (ix2 0 l) : EReal) = ((on 0 l : ℝ) : EReal) ∧ (head1 (F := Ideal) (ix2 0 l) : EReal) = ((on 1 l : ℝ) : EReal))
    ∧ ((head2 (F := Ideal) (ix2 0 l) : EReal) = ((on 2 l : ℝ) : EReal) ∧ (head3 (F := Ideal) (ix2 0 l) : EReal) = ((on 3 l : ℝ) : EReal)) := by
  refine ⟨⟨?_, ?_⟩, ⟨?_, ?_⟩⟩
  · refine Eq.trans ?_ (head_bit 0 l); pointwise [head0, k1_pay13, k1_pay12, lane]; rfl
  · refine Eq.trans ?_ (head_bit 1 l); pointwise [head1, k1_pay14, k1_pay12, lane]; rfl
  · refine Eq.trans ?_ (head_bit 2 l); pointwise [head2, k1_pay15, k1_pay12, lane]; rfl
  · refine Eq.trans ?_ (head_bit 3 l); pointwise [head3, k1_pay16, k1_pay12, lane]; rfl

theorem heads0 (l : Fin 256) :
    ((k0_pay10 (F := Ideal) (ix2 0 l) : EReal) = ((on 0 l : ℝ) : EReal) ∧ (k0_pay12 (F := Ideal) k0_pay9 k0_pay11 (ix2 0 l) : EReal) = ((on 1 l : ℝ) : EReal))
    ∧ ((k0_pay13 (F := Ideal) k0_pay9 (ix2 0 l) : EReal) = ((on 2 l : ℝ) : EReal) ∧ (k0_pay14 (F := Ideal) k0_pay9 (ix2 0 l) : EReal) = ((on 3 l : ℝ) : EReal)) := by
  refine ⟨⟨?_, ?_⟩, ⟨?_, ?_⟩⟩
  · refine Eq.trans ?_ (head_bit 0 l); pointwise [k0_pay10, k0_pay9]; rfl
  · refine Eq.trans ?_ (head_bit 1 l); pointwise [k0_pay12, k0_pay11, k0_pay9]; rfl
  · refine Eq.trans ?_ (head_bit 2 l); pointwise [k0_pay13, k0_pay9]; rfl
  · refine Eq.trans ?_ (head_bit 3 l); pointwise [k0_pay14, k0_pay9]; rfl

/-- The printed number of a stacked row within its head, -/
def rowWord (r : ℕ) : BitVec 32 :=
  Scalar.select
    (IntOp.andi
      (IntOp.xori
        (IntOp.cmpi CmpIPredicate.slt
          (IntOp.remsi ArithUnit.vector (BitVec.ofNat 32 r) (Scalar.select (Scalar.cmpi CmpIPredicate.eq 128#32 0#32) 1#32 128#32)) 0#32)
        (Scalar.cmpi CmpIPredicate.slt (Scalar.select (Scalar.cmpi CmpIPredicate.eq 128#32 0#32) 1#32 128#32) 0#32))
      (IntOp.cmpi CmpIPredicate.ne
        (IntOp.remsi ArithUnit.vector (BitVec.ofNat 32 r) (Scalar.select (Scalar.cmpi CmpIPredicate.eq 128#32 0#32) 1#32 128#32)) 0#32))
    (IntOp.addi
      (IntOp.remsi ArithUnit.vector (BitVec.ofNat 32 r) (Scalar.select (Scalar.cmpi CmpIPredicate.eq 128#32 0#32) 1#32 128#32))
      (Scalar.select (Scalar.cmpi CmpIPredicate.eq 128#32 0#32) 1#32 128#32))
    (IntOp.remsi ArithUnit.vector (BitVec.ofNat 32 r) (Scalar.select (Scalar.cmpi CmpIPredicate.eq 128#32 0#32) 1#32 128#32))

theorem rowWord_eq : ∀ r : Fin 512, rowWord r.val = BitVec.ofNat 32 (r.val % 128) := by decide +kernel

/-- The printed mask of a row and a key row. -/
def seenWord (b : BitVec 1) (w : BitVec 32) (k : ℕ) : BitVec 1 :=
  IntOp.andi
    (IntOp.andi (IntOp.cmpi CmpIPredicate.sge (IntOp.subi (IntOp.addi (128#32) w) (BitVec.ofNat 32 k)) 0#32)
      (IntOp.cmpi CmpIPredicate.sle (IntOp.subi (IntOp.addi (128#32) w) (BitVec.ofNat 32 k)) 128#32))
    (IntOp.ori (Scalar.xori b 1#1) (IntOp.cmpi CmpIPredicate.sge (BitVec.ofNat 32 k) 128#32))

theorem seenWord_eq (b : BitVec 1) (h : Fin 4) (a : Fin 128) (k : Fin 256) :
    seenWord b (rowWord (stk h a).val) k.val = if ok (b == 1#1) a k then 1#1 else 0#1 := by
  have e1 : (stk h a).val % 128 = a.val := by show (h.val * 128 + a.val) % 128 = a.val; omega
  rw [rowWord_eq, e1]
  have ha : (BitVec.ofNat 32 a.val).toInt = (a.val : ℤ) := WordCmp.toInt_ofNat_of_lt (by have := a.isLt; omega)
  have hk : (BitVec.ofNat 32 k.val).toInt = (k.val : ℤ) := WordCmp.toInt_ofNat_of_lt (by have := k.isLt; omega)
  have z : (0#32 : BitVec 32).toInt = 0 := by decide
  have o : (128#32 : BitVec 32).toInt = 128 := by decide
  have hd : (IntOp.subi (IntOp.addi (128#32) (BitVec.ofNat 32 a.val)) (BitVec.ofNat 32 k.val)).toInt = 128 + (a.val : ℤ) - k.val := by
    have := a.isLt
    have := k.isLt
    unfold IntOp.subi IntOp.addi
    rw [BitVec.toInt_sub, BitVec.toInt_add, ha, hk, o, Int.bmod_eq_of_le_mul_two (x := 128 + (a.val : ℤ)) (by omega) (by omega),
      Int.bmod_eq_of_le_mul_two (by omega) (by omega)]
  unfold seenWord
  rw [WordCmp.cmpi_sge_eq, WordCmp.cmpi_sle_eq, WordCmp.cmpi_sge_eq, hd, hk]
  have hb : b = 0#1 ∨ b = 1#1 := by revert b; decide
  rw [z, o]
  have i1 : (0 ≤ 128 + (a.val : ℤ) - k.val) = (k.val ≤ a.val + 128) := by apply propext; omega
  have i2 : (128 + (a.val : ℤ) - k.val ≤ 128) = (a.val ≤ k.val) := by apply propext; omega
  have i3 : ((128 : ℤ) ≤ k.val) = (128 ≤ k.val) := by apply propext; omega
  simp only [i1, i2, i3]
  unfold ok
  rcases hb with rfl | rfl <;> by_cases c1 : k.val ≤ a.val + 128 <;> by_cases c2 : a.val ≤ k.val <;> by_cases c3 : 128 ≤ k.val <;>
    simp [c1, c2, c3, IntOp.andi, IntOp.ori, Scalar.xori, IntOp.xori]

theorem seen1 (b : BitVec 1) (h : Fin 4) (a : Fin 128) (k : Fin 256) :
    k1_pay11 b (ix2 (stk h a) k) = if ok (b == 1#1) a k then 1#1 else 0#1 := by
  refine Eq.trans ?_ (seenWord_eq b h a k); pointwise [k1_pay11]; rfl

theorem seen0 (b : BitVec 1) (h : Fin 4) (a : Fin 128) (k : Fin 256) :
    k0_pay8 b k0_pay5 k0_pay6 k0_pay7 (ix2 (stk h a) k) = if ok (b == 1#1) a k then 1#1 else 0#1 := by
  refine Eq.trans ?_ (seenWord_eq b h a k); pointwise [k0_pay8, k0_pay5, k0_pay6, k0_pay7]; rfl

/-! ## Scores -/

section

variable (n : BitVec 32) (q kp kc vp vc g gl : Fin 128 → Fin 256 → ℝ)

theorem queries_at (h : Fin 4) (a : Fin 128) (l : Fin 256) :
    ((queries (rl q) : FVec Ideal S512x256 .bf16) (ix2 (stk h a) l) : EReal) = ((q a l * (on h l * (1 / 8)) : ℝ) : EReal) := by
  pointwise [queries, k1_pay19, k1_pay17, k1_pay18]
  have e := heads l
  unfold head0 head1 at e
  rw [e.1.1, e.1.2, e.2.1, e.2.2, ofBits_eighth]
  refine (quarter (fun h a => rl q (ix2 a l) * (((on h l : ℝ) : EReal) * ((1 / 8 : ℝ) : EReal))) h a).trans ?_
  simp only [rl_at, EReal.coe_mul]

theorem keys_at (k l : Fin 256) : ((k1_pay9 (rl kp) (rl kc) : FVec Ideal S256x256 .bf16) (ix2 k l) : EReal) = ((stack kp kc k l : ℝ) : EReal) := by
  pointwise [k1_pay9]
  unfold stack
  split_ifs with c <;> rfl

theorem scores_at (h : Fin 4) (a : Fin 128) (k : Fin 256) :
    ((scores n (rl q) (rl kp) (rl kc) : FVec Ideal S512x256 .f32) (ix2 (stk h a) k) : EReal)
      = if ok (opens n == 1#1) a k then ((score q (stack kp kc) h a k : ℝ) : EReal) else ⊥ := by
  have e := fun x => queries_at q h a x
  unfold queries at e
  pointwise [scores, k1_pay20]
  rw [seen1, mask_bot]
  simp only [e, keys_at, ← EReal.coe_mul, coe_sum]
  split_ifs <;> rfl

/-- The forward body computes the same scores. -/
theorem scores_forward (q kp kc : Vec Ideal S128x256 .f32) :
    k0_pay15 q (k0_pay3 kp kc) (k0_pay8 (opens n) k0_pay5 k0_pay6 k0_pay7) k0_pay9 k0_pay10 k0_pay11 = scores n q kp kc := by
  sl_kernel_rfl

/-- Row `a` of the four pieces stacked. -/
theorem row0 (a : Fin 128) (p : a.val < 512) : (⟨a.val, p⟩ : Fin 512) = stk 0 a := Fin.ext (by show a.val = 0 * 128 + a.val; omega)
theorem row1 (a : Fin 128) (p : 128 + a.val < 512) : (⟨128 + a.val, p⟩ : Fin 512) = stk 1 a := Fin.ext (by show 128 + a.val = 1 * 128 + a.val; omega)
theorem row2 (a : Fin 128) (p : 256 + a.val < 512) : (⟨256 + a.val, p⟩ : Fin 512) = stk 2 a := Fin.ext (by show 256 + a.val = 2 * 128 + a.val; omega)
theorem row3 (a : Fin 128) (p : 384 + a.val < 512) : (⟨384 + a.val, p⟩ : Fin 512) = stk 3 a := Fin.ext (by show 384 + a.val = 3 * 128 + a.val; omega)

/-! ## The forward body -/

/-- The forward body's row maximum is some real number, which its exponentials and their sum are taken down by. -/
theorem soft (h : Fin 4) (a : Fin 128) : ∃ M : ℝ,
    (k0_pay16 (rl q) (k0_pay3 (rl kp) (rl kc)) (k0_pay8 (opens n) k0_pay5 k0_pay6 k0_pay7) k0_pay9 k0_pay10 k0_pay11 (ix2 (stk h a) 0) : EReal) = (M : EReal)
    ∧ (∀ k, (k0_pay17 (rl q) (k0_pay3 (rl kp) (rl kc)) (k0_pay8 (opens n) k0_pay5 k0_pay6 k0_pay7) k0_pay9 k0_pay10 k0_pay11 (ix2 (stk h a) k) : EReal)
        = ((expo (opens n == 1#1) q (stack kp kc) h a k * Real.exp (-M) : ℝ) : EReal))
    ∧ (k0_pay18 (rl q) (k0_pay3 (rl kp) (rl kc)) (k0_pay8 (opens n) k0_pay5 k0_pay6 k0_pay7) k0_pay9 k0_pay10 k0_pay11 (ix2 (stk h a) 0) : EReal)
        = (((∑ k, expo (opens n == 1#1) q (stack kp kc) h a k) * Real.exp (-M) : ℝ) : EReal) := by
  obtain ⟨M, hM⟩ := fold_max (ok (opens n == 1#1) a) (score q (stack kp kc) h a) ⟨a.val + 128, by omega⟩ (ok_own _ a)
  have e16 : (k0_pay16 (rl q) (k0_pay3 (rl kp) (rl kc)) (k0_pay8 (opens n) k0_pay5 k0_pay6 k0_pay7) k0_pay9 k0_pay10 k0_pay11 (ix2 (stk h a) 0) : EReal) = (M : EReal) := by
    pointwise [k0_pay16]
    rw [scores_forward, ofBits_bot, ← hM]
    exact Finset.fold_congr fun k _ => scores_at n q kp kc h a k
  have e17 (k : Fin 256) : (k0_pay17 (rl q) (k0_pay3 (rl kp) (rl kc)) (k0_pay8 (opens n) k0_pay5 k0_pay6 k0_pay7) k0_pay9 k0_pay10 k0_pay11 (ix2 (stk h a) k) : EReal)
        = ((expo (opens n == 1#1) q (stack kp kc) h a k * Real.exp (-M) : ℝ) : EReal) := by
    pointwise [k0_pay17]
    rw [e16, scores_forward, scores_at]
    unfold expo
    split_ifs
    · rw [← EReal.coe_sub, Ideal.exp_coe, sub_eq_add_neg, Real.exp_add]
    · rw [EReal.bot_sub, Ideal.exp_bot, zero_mul, EReal.coe_zero]
  refine ⟨M, e16, e17, ?_⟩
  pointwise [k0_pay18]
  simp only [e17, coe_sum, Finset.sum_mul]

/-- The row log-sum. -/
def lse (f : Bool) (q : Fin 128 → Fin 256 → ℝ) (kk : Fin 256 → Fin 256 → ℝ) (h : Fin 4) (a : Fin 128) : ℝ := Real.log (∑ k, expo f q kk h a k)

theorem attended_at (a : Fin 128) (l : Fin 256) : (attended n (rl q) (rl kp) (rl kc) (rl vp) (rl vc) (ix2 a l) : EReal)
    = ((∑ k, weight (opens n == 1#1) q (stack kp kc) (hd l) a k * stack vp vc k l : ℝ) : EReal) := by
  have e (h : Fin 4) : (k0_pay19 (rl q) (k0_pay3 (rl kp) (rl kc)) (k0_pay4 (rl vp) (rl vc)) (k0_pay8 (opens n) k0_pay5 k0_pay6 k0_pay7) k0_pay9 k0_pay10 k0_pay11 (ix2 (stk h a) l) : EReal)
      = ((∑ k, weight (opens n == 1#1) q (stack kp kc) h a k * stack vp vc k l : ℝ) : EReal) := by
    obtain ⟨M, -, e17, e18⟩ := soft n q kp kc h a
    have v (k : Fin 256) : (k0_pay4 (rl vp) (rl vc) (ix2 k l) : EReal) = ((stack vp vc k l : ℝ) : EReal) := keys_at vp vc k l
    have hS := (expo_sum_pos (opens n == 1#1) q (stack kp kc) h a).ne'
    have hM := (Real.exp_pos (-M)).ne'
    pointwise [k0_pay19]
    rw [e18]
    simp only [e17, v, Ideal.div_coe (mul_ne_zero hS hM), one_mul, ← EReal.coe_mul, coe_sum]
    refine congrArg _ (Finset.sum_congr rfl fun k _ => congrArg (· * _) ?_)
    unfold weight
    field_simp
  pointwise [attended, k0_pay1]
  have u := heads0 l
  rw [row0, row1, row2, row3, e, e, e, e, u.1.1, u.1.2, u.2.1, u.2.2,
    ← sum_on (fun h => ∑ k, weight (opens n == 1#1) q (stack kp kc) h a k * stack vp vc k l) l, Fin.sum_univ_four]
  simp only [EReal.coe_add, EReal.coe_mul]

theorem logSum_at (a : Fin 128) (l : Fin 256) : (logSum n (rl q) (rl kp) (rl kc) (ix2 a l) : EReal)
    = ((lse (opens n == 1#1) q (stack kp kc) (hd l) a : ℝ) : EReal) := by
  have e (h : Fin 4) : (k0_pay20 (rl q) (k0_pay3 (rl kp) (rl kc)) (k0_pay8 (opens n) k0_pay5 k0_pay6 k0_pay7) k0_pay9 k0_pay10 k0_pay11 (ix2 (stk h a) 0) : EReal)
      = ((lse (opens n == 1#1) q (stack kp kc) h a : ℝ) : EReal) := by
    obtain ⟨M, e16, -, e18⟩ := soft n q kp kc h a
    have hS := expo_sum_pos (opens n == 1#1) q (stack kp kc) h a
    have hM := Real.exp_pos (-M)
    pointwise [k0_pay20]
    rw [e16, e18, Ideal.log_coe, if_neg (not_le.2 (mul_pos hS hM)), Real.log_mul hS.ne' hM.ne', Real.log_exp, ← EReal.coe_add]
    exact congrArg Real.toEReal (by unfold lse; ring)
  pointwise [logSum, k0_pay2]
  have u := heads0 l
  rw [row0, row1, row2, row3, e, e, e, e, u.1.1, u.1.2, u.2.1, u.2.2,
    ← sum_on (fun h => lse (opens n == 1#1) q (stack kp kc) h a) l, Fin.sum_univ_four]
  simp only [EReal.coe_add, EReal.coe_mul]

/-! ## The backward body -/

/-- The saved row log-sums and output of a tile, as numbers. -/
abbrev logs (a : Fin 128) (l : Fin 256) : ℝ := lse (opens n == 1#1) q (stack kp kc) (hd l) a
abbrev outs (a : Fin 128) (l : Fin 256) : ℝ := ∑ k, weight (opens n == 1#1) q (stack kp kc) (hd l) a k * stack vp vc k l

theorem on_pos (h : Fin 4) (l : Fin 256) : (0 < ((on h l : ℝ) : EReal)) ↔ hd l = h := by
  unfold on; split_ifs with c <;> simp [c]

/-- A head's row log-sum is read back as the greatest over its lanes. -/
theorem lse_back (h : Fin 4) (a : Fin 128) :
    Finset.fold max (⊥ : EReal) (fun x => if 0 < ((on h x : ℝ) : EReal) then rl (logs n q kp kc) (ix2 a x) else ⊥) Finset.univ
      = ((lse (opens n == 1#1) q (stack kp kc) h a : ℝ) : EReal) := by
  rw [← fold_max_const (fun x => decide (hd x = h)) (lse (opens n == 1#1) q (stack kp kc) h a) (ln h 0)
    (decide_eq_true (Fin.ext (by show (h.val * 64 + 0) / 64 = h.val; omega)))]
  refine Finset.fold_congr fun x _ => ?_
  by_cases c : hd x = h
  · rw [if_pos ((on_pos h x).2 c), if_pos (decide_eq_true c), rl_at]; unfold logs; rw [c]
  · rw [if_neg (fun z => c ((on_pos h x).1 z)), if_neg (by simpa using c)]

theorem weights_at (h : Fin 4) (a : Fin 128) (k : Fin 256) :
    ((weights n (rl q) (rl kp) (rl kc) (rl (logs n q kp kc)) : FVec Ideal S512x256 .f32) (ix2 (stk h a) k) : EReal)
      = ((weight (opens n == 1#1) q (stack kp kc) h a k : ℝ) : EReal) := by
  pointwise [weights, k1_pay25, k1_pay21, k1_pay22, k1_pay23, k1_pay24]
  have u := fun l => heads l
  simp only [(u _).1.1, (u _).1.2, (u _).2.1, (u _).2.2]
  rw [mask_bot, ofBits_bot, scores_at]
  refine (congrArg (fun z => Ideal.exp ((if ok (opens n == 1#1) a k then ((score q (stack kp kc) h a k : ℝ) : EReal) else ⊥) - z))
    ((quarter (fun h a => Finset.fold max (⊥ : EReal) (fun x => if 0 < ((on h x : ℝ) : EReal) then rl (logs n q kp kc) (ix2 a x) else ⊥) Finset.univ) h a).trans
      (lse_back n q kp kc h a))).trans ?_
  unfold weight
  have hS := expo_sum_pos (opens n == 1#1) q (stack kp kc) h a
  split_ifs with c
  · rw [← EReal.coe_sub, Ideal.exp_coe, Real.exp_sub]
    unfold lse
    rw [Real.exp_log hS]
    refine congrArg Real.toEReal (congrArg (· / _) ?_)
    unfold expo; rw [if_pos c]
  · rw [EReal.bot_sub, Ideal.exp_bot]
    unfold expo; rw [if_neg c, zero_div, EReal.coe_zero]

/-- The gradient of the output on each head's lanes, stacked. -/
theorem stacked_at (h : Fin 4) (a : Fin 128) (l : Fin 256) :
    ((k1_pay26 (rl g) head0 head1 head2 head3 : FVec Ideal S512x256 .bf16) (ix2 (stk h a) l) : EReal) = ((g a l * on h l : ℝ) : EReal) := by
  pointwise [k1_pay26]
  have e := heads l
  rw [e.1.1, e.1.2, e.2.1, e.2.2]
  refine (quarter (fun h a => rl g (ix2 a l) * ((on h l : ℝ) : EReal)) h a).trans ?_
  simp only [rl_at, EReal.coe_mul]

/-- A sum over the stacked rows. -/
theorem sum_stk (u : Fin 512 → EReal) (v : Fin 4 → Fin 128 → ℝ) (h : ∀ s a, u (stk s a) = ((v s a : ℝ) : EReal)) :
    ∑ x, u x = ((∑ s, ∑ a, v s a : ℝ) : EReal) := by
  have e (s : Fin 4) (a : Fin 128) (hl : s.val * 128 + a.val < 512) : ((v s a : ℝ) : EReal) = u ⟨s.val * 128 + a.val, hl⟩ := (h s a).symm
  rw [← Fin.sum_mul_add_congr e (by decide)]
  simp only [coe_sum]

theorem valueGrads_at (k l : Fin 256) :
    ((valueGrads n (rl q) (rl kp) (rl kc) (rl (logs n q kp kc)) (rl g) : FVec Ideal S256x256 .f32) (ix2 k l) : EReal)
      = ((vGrad (opens n == 1#1) q (stack kp kc) g k l : ℝ) : EReal) := by
  have w := weights_at n q kp kc
  unfold weights at w
  pointwise [valueGrads, k1_pay27]
  rw [sum_stk _ (fun s a => weight (opens n == 1#1) q (stack kp kc) s a k * (g a l * on s l)) fun s a => by
    rw [w, stacked_at]; exact (EReal.coe_mul _ _).symm]
  refine congrArg Real.toEReal ?_
  unfold vGrad
  rw [← sum_on (fun s => ∑ a, weight (opens n == 1#1) q (stack kp kc) s a k * g a l) l]
  refine Finset.sum_congr rfl fun s _ => ?_
  rw [Finset.sum_mul]
  exact Finset.sum_congr rfl fun a _ => by ring

theorem products_at (h : Fin 4) (a : Fin 128) (k : Fin 256) :
    ((products (rl vp) (rl vc) (rl g) : FVec Ideal S512x256 .f32) (ix2 (stk h a) k) : EReal) = ((outGrad (stack vp vc) g h a k : ℝ) : EReal) := by
  have v (k l : Fin 256) : ((k1_pay10 (rl vp) (rl vc) : FVec Ideal S256x256 .bf16) (ix2 k l) : EReal) = ((stack vp vc k l : ℝ) : EReal) := keys_at vp vc k l
  pointwise [products, k1_pay28]
  simp only [stacked_at, v, ← EReal.coe_mul, coe_sum]
  rfl

theorem offsets_at (h : Fin 4) (a : Fin 128) :
    ((offsets (rl (outs n q kp kc vp vc)) (rl g) : FVec Ideal S512x1 .f32) (ix2 (stk h a) 0) : EReal)
      = ((pull (opens n == 1#1) q (stack kp kc) (stack vp vc) g h a : ℝ) : EReal) := by
  pointwise [offsets, k1_pay29]
  have u := fun l => heads l
  simp only [(u _).1.1, (u _).1.2, (u _).2.1, (u _).2.2]
  refine (quarter (fun h a => ∑ x, rl g (ix2 a x) * rl (outs n q kp kc vp vc) (ix2 a x) * ((on h x : ℝ) : EReal)) h a).trans ?_
  simp only [rl_at, ← EReal.coe_mul, coe_sum]
  exact congrArg Real.toEReal (pull_eq _ _ _ _ _ _ _)

/-- The gradients of the scores, from the saved row log-sums and output. -/
theorem scoreGrad_at (h : Fin 4) (a : Fin 128) (k : Fin 256) :
    ((k1_pay33 (rl gl) head3 (weights n (rl q) (rl kp) (rl kc) (rl (logs n q kp kc))) (products (rl vp) (rl vc) (rl g))
        (offsets (rl (outs n q kp kc vp vc)) (rl g)) (k1_pay30 (rl gl) head0) (k1_pay31 (rl gl) head1) (k1_pay32 (rl gl) head2) :
        FVec Ideal S512x256 .bf16) (ix2 (stk h a) k) : EReal)
      = ((scoreGrad (opens n == 1#1) q (stack kp kc) (stack vp vc) g gl h a k : ℝ) : EReal) := by
  pointwise [k1_pay33, k1_pay30, k1_pay31, k1_pay32]
  have u := fun l => heads l
  simp only [(u _).1.1, (u _).1.2, (u _).2.1, (u _).2.2]
  rw [weights_at, products_at, offsets_at]
  refine (congrArg (fun z => ((weight (opens n == 1#1) q (stack kp kc) h a k : ℝ) : EReal) * (((outGrad (stack vp vc) g h a k : ℝ) : EReal)
      - ((pull (opens n == 1#1) q (stack kp kc) (stack vp vc) g h a : ℝ) : EReal) + z))
    ((quarter (fun h a => ∑ x, rl gl (ix2 a x) * ((on h x : ℝ) : EReal)) h a).trans
      (show _ = ((dlog gl h a : ℝ) : EReal) by simp only [rl_at, ← EReal.coe_mul, coe_sum]; rfl))).trans ?_
  rw [← EReal.coe_sub, ← EReal.coe_add, ← EReal.coe_mul]
  rfl

/-- The gradients of the 256 key rows. -/
theorem keyGrads_at (k l : Fin 256) :
    ((k1_pay34 (rl gl) head3 (queries (rl q)) (weights n (rl q) (rl kp) (rl kc) (rl (logs n q kp kc))) (products (rl vp) (rl vc) (rl g))
        (offsets (rl (outs n q kp kc vp vc)) (rl g)) (k1_pay30 (rl gl) head0) (k1_pay31 (rl gl) head1) (k1_pay32 (rl gl) head2) :
        FVec Ideal S256x256 .f32) (ix2 k l) : EReal)
      = ((kGrad (opens n == 1#1) q (stack kp kc) (stack vp vc) g gl k l : ℝ) : EReal) := by
  pointwise [k1_pay34]
  rw [sum_stk _ (fun s a => scoreGrad (opens n == 1#1) q (stack kp kc) (stack vp vc) g gl s a k * (q a l * (on s l * (1 / 8)))) fun s a => by
    rw [scoreGrad_at, queries_at]; exact (EReal.coe_mul _ _).symm]
  refine congrArg Real.toEReal ?_
  unfold kGrad
  rw [← sum_on (fun s => ∑ a, scoreGrad (opens n == 1#1) q (stack kp kc) (stack vp vc) g gl s a k * q a l) l, Finset.sum_mul]
  refine Finset.sum_congr rfl fun s _ => ?_
  rw [Finset.sum_mul, Finset.sum_mul]
  exact Finset.sum_congr rfl fun a _ => by ring

/-- The tile's three blocks of gradients, and the two carried ones. -/
theorem ownQ_at (a : Fin 128) (l : Fin 256) :
    (ownQ n (rl q) (rl kp) (rl kc) (rl vp) (rl vc) (rl (outs n q kp kc vp vc)) (rl (logs n q kp kc)) (rl g) (rl gl) (ix2 a l) : EReal)
      = ((qGrad (opens n == 1#1) q (stack kp kc) (stack vp vc) g gl a l : ℝ) : EReal) := by
  pointwise [ownQ, k1_pay39]
  have u := heads l
  rw [row0, row1, row2, row3, u.1.1, u.1.2, u.2.1, u.2.2, ofBits_eighth]
  simp only [scoreGrad_at, keys_at, ← EReal.coe_mul, coe_sum, ← EReal.coe_add]
  refine congrArg Real.toEReal ?_
  unfold qGrad
  rw [← sum_on (fun s => ∑ k, scoreGrad (opens n == 1#1) q (stack kp kc) (stack vp vc) g gl s a k * stack kp kc k l) l, Fin.sum_univ_four]
  ring

theorem carryK_at (a : Fin 128) (l : Fin 256) :
    (carryK n (rl q) (rl kp) (rl kc) (rl vp) (rl vc) (rl (outs n q kp kc vp vc)) (rl (logs n q kp kc)) (rl g) (rl gl) (ix2 a l) : EReal)
      = ((kGrad (opens n == 1#1) q (stack kp kc) (stack vp vc) g gl ⟨a.val, by omega⟩ l : ℝ) : EReal) := by
  pointwise [carryK, k1_pay5, k1_pay35]
  exact keyGrads_at n q kp kc vp vc g gl _ l

theorem ownK_at (a : Fin 128) (l : Fin 256) :
    (ownK n (rl q) (rl kp) (rl kc) (rl vp) (rl vc) (rl (outs n q kp kc vp vc)) (rl (logs n q kp kc)) (rl g) (rl gl) (ix2 a l) : EReal)
      = ((kGrad (opens n == 1#1) q (stack kp kc) (stack vp vc) g gl ⟨128 + a.val, by omega⟩ l : ℝ) : EReal) := by
  pointwise [ownK, k1_pay1, k1_pay36]
  exact keyGrads_at n q kp kc vp vc g gl _ l

theorem carryV_at (a : Fin 128) (l : Fin 256) :
    (carryV n (rl q) (rl kp) (rl kc) (rl (logs n q kp kc)) (rl g) (ix2 a l) : EReal)
      = ((vGrad (opens n == 1#1) q (stack kp kc) g ⟨a.val, by omega⟩ l : ℝ) : EReal) := by
  pointwise [carryV, k1_pay6, k1_pay37]
  exact valueGrads_at n q kp kc g _ l

theorem ownV_at (a : Fin 128) (l : Fin 256) :
    (ownV n (rl q) (rl kp) (rl kc) (rl (logs n q kp kc)) (rl g) (ix2 a l) : EReal)
      = ((vGrad (opens n == 1#1) q (stack kp kc) g ⟨128 + a.val, by omega⟩ l : ℝ) : EReal) := by
  pointwise [ownV, k1_pay2, k1_pay38]
  exact valueGrads_at n q kp kc g _ l

end

end Cert.Attn

end
-- ==== Proof.Attn.Sequence.lean ====
/- Windowed attention over a sequence of 32 tiles, queries, keys and values side by side in 768 columns: its output, its row
   log-sums, and the gradient of those columns. -/
module

public import proofs.«01_k».proof.Proof.Attn.Tile

@[expose] public section

noncomputable section

namespace Cert.Attn

open Idealize.ShloMosaic Cert.Reals
open scoped BigOperators

/-- Row `a` of tile `n`, and a row's tile and place in it. -/
def rw_ (n : Fin 32) (a : Fin 128) : Fin 4096 := ⟨n.val * 128 + a.val, by omega⟩
def tl (i : Fin 4096) : Fin 32 := ⟨i.val / 128, by omega⟩
def pl (i : Fin 4096) : Fin 128 := ⟨i.val % 128, by omega⟩

theorem tl_rw (n : Fin 32) (a : Fin 128) : tl (rw_ n a) = n := Fin.ext (by show (n.val * 128 + a.val) / 128 = n.val; omega)
theorem pl_rw (n : Fin 32) (a : Fin 128) : pl (rw_ n a) = a := Fin.ext (by show (n.val * 128 + a.val) % 128 = a.val; omega)
theorem rw_tl (i : Fin 4096) : rw_ (tl i) (pl i) = i := Fin.ext (by show i.val / 128 * 128 + i.val % 128 = i.val; omega)

/-- The tile before, the first tile's being itself (its rows are not seen), and whether a tile is the first. -/
def pv (n : Fin 32) : Fin 32 := ⟨n.val - 1, by omega⟩
def fst (n : Fin 32) : Bool := decide (n.val = 0)

/-- A tile of a sequence's rows. -/
def tile_ (G : Fin 4096 → Fin 256 → ℝ) (n : Fin 32) (a : Fin 128) (l : Fin 256) : ℝ := G (rw_ n a) l

section

variable (X : Fin 4096 → Fin 768 → ℝ) (G H : Fin 4096 → Fin 256 → ℝ)

/-- A tile's queries, keys and values, -/
def qs (n : Fin 32) (a : Fin 128) (l : Fin 256) : ℝ := X (rw_ n a) ⟨l.val, by omega⟩
def ks (n : Fin 32) (a : Fin 128) (l : Fin 256) : ℝ := X (rw_ n a) ⟨256 + l.val, by omega⟩
def vs (n : Fin 32) (a : Fin 128) (l : Fin 256) : ℝ := X (rw_ n a) ⟨512 + l.val, by omega⟩
/-- and its windows of keys and values. -/
def kw (n : Fin 32) : Fin 256 → Fin 256 → ℝ := stack (ks X (pv n)) (ks X n)
def vw (n : Fin 32) : Fin 256 → Fin 256 → ℝ := stack (vs X (pv n)) (vs X n)

/-- The output of a tile. -/
def ot (n : Fin 32) (a : Fin 128) (l : Fin 256) : ℝ := ∑ k, weight (fst n) (qs X n) (kw X n) (hd l) a k * vw X n k l
/-- Its row log-sums, each head's on its lanes. -/
def lt (n : Fin 32) (a : Fin 128) (l : Fin 256) : ℝ := Real.log (∑ k, expo (fst n) (qs X n) (kw X n) (hd l) a k)

/-- The gradients of a tile's queries and of the keys and values in its window. -/
def dq (n : Fin 32) : Fin 128 → Fin 256 → ℝ := qGrad (fst n) (qs X n) (kw X n) (vw X n) (tile_ G n) (tile_ H n)
def dk (n : Fin 32) : Fin 256 → Fin 256 → ℝ := kGrad (fst n) (qs X n) (kw X n) (vw X n) (tile_ G n) (tile_ H n)
def dv (n : Fin 32) : Fin 256 → Fin 256 → ℝ := vGrad (fst n) (qs X n) (kw X n) (tile_ G n)

/-- What a tile's rows get: from its own window, and from the next tile's, whose window they open. -/
def both (d : Fin 32 → Fin 256 → Fin 256 → ℝ) (n : Fin 32) (a : Fin 128) (l : Fin 256) : ℝ :=
  d n ⟨128 + a.val, by omega⟩ l + if h : n.val + 1 < 32 then d ⟨n.val + 1, h⟩ ⟨a.val, by omega⟩ l else 0

/-- The gradient of the three side by side. -/
def grad (i : Fin 4096) (c : Fin 768) : ℝ :=
  if h : c.val < 256 then dq X G H (tl i) (pl i) ⟨c.val, h⟩
  else if h' : c.val < 512 then both (dk X G H) (tl i) (pl i) ⟨c.val - 256, by omega⟩
  else both (dv X G) (tl i) (pl i) ⟨c.val - 512, by omega⟩

end

end Cert.Attn

end
-- ==== Proof.Attn.Value.lean ====
/- What the two attention launches leave in their arrays over real arguments: the output and row log-sums of the forward
   one, and the gradient of queries, keys and values of the backward one (Attn/Sequence.lean). -/
module

public import proofs.«01_k».proof.Proof.Attn.Run
public import proofs.«01_k».proof.Proof.Attn.Payload
public import proofs.«01_k».proof.Proof.Attn.Sequence
public import Idealize.ShloMosaic.Lib.Pipeline.ValueKit

@[expose] public section

set_option maxRecDepth 16384

noncomputable section

namespace Cert.Attn

open Idealize.ShloMosaic Idealize.ShloMosaic.TcCoe Idealize.ShloMosaic.Tactic Idealize.SL.Sem
open Idealize.ShloMosaic.Pipeline (Dat)
open Cert.KernelAttnIdeal Cert.KernelAttnIdeal.Gen Cert.Reals
open scoped BigOperators

/-- Real arrays. -/
def wide (X : Fin 4096 → Fin 768 → ℝ) : FVec Ideal S4096x768 .f32 := fun j => ((X (j 0) (j 1) : ℝ) : EReal)
def lanes (X : Fin 4096 → Fin 256 → ℝ) : FVec Ideal S4096x256 .f32 := fun j => ((X (j 0) (j 1) : ℝ) : EReal)

/-- The forward launch's points are its tiles, -/
def fw (t : Fin cfg0.N) : Fin 32 := ⟨t.val, t.isLt⟩
/-- and the backward launch's walk them from the last. -/
def bw (t : Fin cfg1.N) : Fin 32 := ⟨31 - t.val, by omega⟩

theorem idx0 : ∀ t : Fin cfg0.N, win0_0.index t = ![t.val, 0] ∧ win0_1.index t = ![t.val - 1, 1] ∧ win0_2.index t = ![t.val, 1]
    ∧ win0_3.index t = ![t.val - 1, 2] ∧ win0_4.index t = ![t.val, 2] ∧ win0_5.index t = ![t.val, 0] ∧ win0_6.index t = ![t.val, 0] :=
  (by decide +kernel : ∀ t : Fin grid0.N, _)
theorem idx1 : ∀ t : Fin cfg1.N, win1_0.index t = ![31 - t.val, 0] ∧ win1_1.index t = ![31 - t.val - 1, 1] ∧ win1_2.index t = ![31 - t.val, 1]
    ∧ win1_3.index t = ![31 - t.val - 1, 2] ∧ win1_4.index t = ![31 - t.val, 2] ∧ win1_5.index t = ![31 - t.val, 0]
    ∧ win1_6.index t = ![31 - t.val, 0] ∧ win1_7.index t = ![31 - t.val, 0] ∧ win1_8.index t = ![31 - t.val, 0] ∧ win1_9.index t = ![31 - t.val, 0] :=
  (by decide +kernel : ∀ t : Fin grid1.N, _)

/-- Which tiles the bodies take for the first and the last. -/
theorem opens0 : ∀ t : Fin cfg0.N, (opens (ahead (grid0.coords t)) == 1#1) = fst (fw t) := (by decide +kernel : ∀ t : Fin grid0.N, _)
theorem opens1 : ∀ t : Fin cfg1.N, (opens (behind (grid1.coords t)) == 1#1) = fst (bw t) := (by decide +kernel : ∀ t : Fin grid1.N, _)
theorem closes1 : ∀ t : Fin cfg1.N, closes (behind (grid1.coords t)) = if t.val = 0 then 1#1 else 0#1 := (by decide +kernel : ∀ t : Fin grid1.N, _)

section

variable (V : (c : Dev nD) → (b : Ref sig .tc) → Buf (Elt Ideal) ((c : Thread nD τ).loc b)) (c : Dev nD) (X : Fin 4096 → Fin 768 → ℝ)
  (G H : Fin 4096 → Fin 256 → ℝ)

/-! ## Forward -/

theorem fblk0 (hX : V c main_arg0 = wide X) (t : Fin cfg0.N) : fblk V c 0 t = rl (qs X (fw t)) := by
  funext j; obtain ⟨a, l, rfl⟩ := ex2 j
  have he : ((win0_0.blk t).view.emb (ix2 a l)) = (ix2 (rw_ (fw t) a) ⟨l.val, by omega⟩ : S4096x768.Idx) := by
    blk_simp [rw_, fw, idx0 t]; blk_ext [idx0 t]
  blk_simp [fblk]; rw [he, hX]; rfl
theorem fblk1 (hX : V c main_arg0 = wide X) (t : Fin cfg0.N) : fblk V c 1 t = rl (ks X (pv (fw t))) := by
  funext j; obtain ⟨a, l, rfl⟩ := ex2 j
  have he : ((win0_1.blk t).view.emb (ix2 a l)) = (ix2 (rw_ (pv (fw t)) a) ⟨256 + l.val, by omega⟩ : S4096x768.Idx) := by
    blk_simp [rw_, pv, fw, idx0 t]; blk_ext [idx0 t]
  blk_simp [fblk]; rw [he, hX]; rfl
theorem fblk2 (hX : V c main_arg0 = wide X) (t : Fin cfg0.N) : fblk V c 2 t = rl (ks X (fw t)) := by
  funext j; obtain ⟨a, l, rfl⟩ := ex2 j
  have he : ((win0_2.blk t).view.emb (ix2 a l)) = (ix2 (rw_ (fw t) a) ⟨256 + l.val, by omega⟩ : S4096x768.Idx) := by
    blk_simp [rw_, fw, idx0 t]; blk_ext [idx0 t]
  blk_simp [fblk]; rw [he, hX]; rfl
theorem fblk3 (hX : V c main_arg0 = wide X) (t : Fin cfg0.N) : fblk V c 3 t = rl (vs X (pv (fw t))) := by
  funext j; obtain ⟨a, l, rfl⟩ := ex2 j
  have he : ((win0_3.blk t).view.emb (ix2 a l)) = (ix2 (rw_ (pv (fw t)) a) ⟨512 + l.val, by omega⟩ : S4096x768.Idx) := by
    blk_simp [rw_, pv, fw, idx0 t]; blk_ext [idx0 t]
  blk_simp [fblk]; rw [he, hX]; rfl
theorem fblk4 (hX : V c main_arg0 = wide X) (t : Fin cfg0.N) : fblk V c 4 t = rl (vs X (fw t)) := by
  funext j; obtain ⟨a, l, rfl⟩ := ex2 j
  have he : ((win0_4.blk t).view.emb (ix2 a l)) = (ix2 (rw_ (fw t) a) ⟨512 + l.val, by omega⟩ : S4096x768.Idx) := by
    blk_simp [rw_, fw, idx0 t]; blk_ext [idx0 t]
  blk_simp [fblk]; rw [he, hX]; rfl

/-- The output and the row log-sums as arrays. -/
def outArr : FVec Ideal S4096x256 .f32 := lanes fun i => ot X (tl i) (pl i)
def logArr : FVec Ideal S4096x256 .f32 := lanes fun i => lt X (tl i) (pl i)

theorem outArr_at (n : Fin 32) (a : Fin 128) (l : Fin 256) : outArr X (ix2 (rw_ n a) l) = ((ot X n a l : ℝ) : EReal) := by
  show ((ot X (tl (rw_ n a)) (pl (rw_ n a)) l : ℝ) : EReal) = _; rw [tl_rw, pl_rw]
theorem logArr_at (n : Fin 32) (a : Fin 128) (l : Fin 256) : logArr X (ix2 (rw_ n a) l) = ((lt X n a l : ℝ) : EReal) := by
  show ((lt X (tl (rw_ n a)) (pl (rw_ n a)) l : ℝ) : EReal) = _; rw [tl_rw, pl_rw]

theorem farr5 (hX : V c main_arg0 = wide X) : (fdat V c).arrAt 5 cfg0.N = outArr X := by
  refine (fdat V c).arrAt_eq_of_covers 5 _ (by decide +kernel) fun t _ y => ?_
  obtain ⟨a, l, rfl⟩ : ∃ (a : Fin 128) (l : Fin 256), y = ix2 a l := ex2 y
  have he : (((cfg0.win 5).blk t).view.emb (ix2 a l)) = (ix2 (rw_ (fw t) a) l : S4096x256.Idx) := by
    blk_simp [rw_, fw, idx0 t]; blk_ext [idx0 t]
  rw [he, outArr_at]
  show (outputAt V c t (ix2 a l) : EReal) = _
  unfold outputAt
  rw [fblk0 V c X hX, fblk1 V c X hX, fblk2 V c X hX, fblk3 V c X hX, fblk4 V c X hX]
  refine (attended_at _ _ _ _ _ _ a l).trans ?_
  rw [opens0]; rfl

theorem farr6 (hX : V c main_arg0 = wide X) : (fdat V c).arrAt 6 cfg0.N = logArr X := by
  refine (fdat V c).arrAt_eq_of_covers 6 _ (by decide +kernel) fun t _ y => ?_
  obtain ⟨a, l, rfl⟩ : ∃ (a : Fin 128) (l : Fin 256), y = ix2 a l := ex2 y
  have he : (((cfg0.win 6).blk t).view.emb (ix2 a l)) = (ix2 (rw_ (fw t) a) l : S4096x256.Idx) := by
    blk_simp [rw_, fw, idx0 t]; blk_ext [idx0 t]
  rw [he, logArr_at]
  show (logSumAt V c t (ix2 a l) : EReal) = _
  unfold logSumAt
  rw [fblk0 V c X hX, fblk1 V c X hX, fblk2 V c X hX]
  refine (logSum_at _ _ _ _ a l).trans ?_
  rw [opens0]; rfl

/-! ## Backward -/

theorem bblk0 (hX : V c main_arg0 = wide X) (t : Fin cfg1.N) : bblk V c 0 t = rl (qs X (bw t)) := by
  funext j; obtain ⟨a, l, rfl⟩ := ex2 j
  have he : ((win1_0.blk t).view.emb (ix2 a l)) = (ix2 (rw_ (bw t) a) ⟨l.val, by omega⟩ : S4096x768.Idx) := by
    blk_simp [rw_, bw, idx1 t]; blk_ext [idx1 t]
  blk_simp [bblk]; rw [he, hX]; rfl
theorem bblk1 (hX : V c main_arg0 = wide X) (t : Fin cfg1.N) : bblk V c 1 t = rl (ks X (pv (bw t))) := by
  funext j; obtain ⟨a, l, rfl⟩ := ex2 j
  have he : ((win1_1.blk t).view.emb (ix2 a l)) = (ix2 (rw_ (pv (bw t)) a) ⟨256 + l.val, by omega⟩ : S4096x768.Idx) := by
    blk_simp [rw_, pv, bw, idx1 t]; blk_ext [idx1 t]
  blk_simp [bblk]; rw [he, hX]; rfl
theorem bblk2 (hX : V c main_arg0 = wide X) (t : Fin cfg1.N) : bblk V c 2 t = rl (ks X (bw t)) := by
  funext j; obtain ⟨a, l, rfl⟩ := ex2 j
  have he : ((win1_2.blk t).view.emb (ix2 a l)) = (ix2 (rw_ (bw t) a) ⟨256 + l.val, by omega⟩ : S4096x768.Idx) := by
    blk_simp [rw_, bw, idx1 t]; blk_ext [idx1 t]
  blk_simp [bblk]; rw [he, hX]; rfl
theorem bblk3 (hX : V c main_arg0 = wide X) (t : Fin cfg1.N) : bblk V c 3 t = rl (vs X (pv (bw t))) := by
  funext j; obtain ⟨a, l, rfl⟩ := ex2 j
  have he : ((win1_3.blk t).view.emb (ix2 a l)) = (ix2 (rw_ (pv (bw t)) a) ⟨512 + l.val, by omega⟩ : S4096x768.Idx) := by
    blk_simp [rw_, pv, bw, idx1 t]; blk_ext [idx1 t]
  blk_simp [bblk]; rw [he, hX]; rfl
theorem bblk4 (hX : V c main_arg0 = wide X) (t : Fin cfg1.N) : bblk V c 4 t = rl (vs X (bw t)) := by
  funext j; obtain ⟨a, l, rfl⟩ := ex2 j
  have he : ((win1_4.blk t).view.emb (ix2 a l)) = (ix2 (rw_ (bw t) a) ⟨512 + l.val, by omega⟩ : S4096x768.Idx) := by
    blk_simp [rw_, bw, idx1 t]; blk_ext [idx1 t]
  blk_simp [bblk]; rw [he, hX]; rfl
theorem bblk5 (hO : V c main_v0_0 = outArr X) (t : Fin cfg1.N) : bblk V c 5 t = rl (ot X (bw t)) := by
  funext j; obtain ⟨a, l, rfl⟩ := ex2 j
  have he : ((win1_5.blk t).view.emb (ix2 a l)) = (ix2 (rw_ (bw t) a) l : S4096x256.Idx) := by
    blk_simp [rw_, bw, idx1 t]; blk_ext [idx1 t]
  blk_simp [bblk]; rw [he, hO]; exact outArr_at X _ a l
theorem bblk6 (hL : V c main_v0_1 = logArr X) (t : Fin cfg1.N) : bblk V c 6 t = rl (lt X (bw t)) := by
  funext j; obtain ⟨a, l, rfl⟩ := ex2 j
  have he : ((win1_6.blk t).view.emb (ix2 a l)) = (ix2 (rw_ (bw t) a) l : S4096x256.Idx) := by
    blk_simp [rw_, bw, idx1 t]; blk_ext [idx1 t]
  blk_simp [bblk]; rw [he, hL]; exact logArr_at X _ a l
theorem bblk7 (hG : V c main_arg1 = lanes G) (t : Fin cfg1.N) : bblk V c 7 t = rl (tile_ G (bw t)) := by
  funext j; obtain ⟨a, l, rfl⟩ := ex2 j
  have he : ((win1_7.blk t).view.emb (ix2 a l)) = (ix2 (rw_ (bw t) a) l : S4096x256.Idx) := by
    blk_simp [rw_, bw, idx1 t]; blk_ext [idx1 t]
  blk_simp [bblk]; rw [he, hG]; rfl
theorem bblk8 (hH : V c main_arg2 = lanes H) (t : Fin cfg1.N) : bblk V c 8 t = rl (tile_ H (bw t)) := by
  funext j; obtain ⟨a, l, rfl⟩ := ex2 j
  have he : ((win1_8.blk t).view.emb (ix2 a l)) = (ix2 (rw_ (bw t) a) l : S4096x256.Idx) := by
    blk_simp [rw_, bw, idx1 t]; blk_ext [idx1 t]
  blk_simp [bblk]; rw [he, hH]; rfl

/-- The gradient as an array. -/
def gradArr : FVec Ideal S4096x768 .f32 := wide (grad X G H)

/-- What the backward launch finds in its arrays. -/
structure Entry : Prop where
  x : V c main_arg0 = wide X
  o : V c main_v0_0 = outArr X
  l : V c main_v0_1 = logArr X
  g : V c main_arg1 = lanes G
  h : V c main_arg2 = lanes H

variable {V c X G H}

theorem keysAt_at (E : Entry V c X G H) (t : Fin cfg1.N) (a : Fin 128) (l : Fin 256) :
    (keysAt V c t (ix2 a l) : EReal) = ((dk X G H (bw t) ⟨a.val, by omega⟩ l : ℝ) : EReal) := by
  unfold keysAt
  rw [bblk0 V c X E.x, bblk1 V c X E.x, bblk2 V c X E.x, bblk3 V c X E.x, bblk4 V c X E.x, bblk5 V c X E.o, bblk6 V c X E.l, bblk7 V c G E.g, bblk8 V c H E.h]
  unfold dk; rw [← opens1 t]
  refine Eq.trans ?_ (carryK_at _ _ _ _ _ _ _ _ a l)
  unfold outs logs; rw [opens1 t]; rfl

theorem valuesAt_at (E : Entry V c X G H) (t : Fin cfg1.N) (a : Fin 128) (l : Fin 256) :
    (valuesAt V c t (ix2 a l) : EReal) = ((dv X G (bw t) ⟨a.val, by omega⟩ l : ℝ) : EReal) := by
  unfold valuesAt
  rw [bblk0 V c X E.x, bblk1 V c X E.x, bblk2 V c X E.x, bblk6 V c X E.l, bblk7 V c G E.g]
  unfold dv; rw [← opens1 t]
  refine Eq.trans ?_ (carryV_at _ _ _ _ _ a l)
  unfold logs; rw [opens1 t]; rfl

/-- What a point meets carried, added to its own unless it is the last tile. -/
theorem metK_at (E : Entry V c X G H) (t : Fin cfg1.N) (o : Vec Ideal S128x256 .f32) (a : Fin 128) (l : Fin 256)
    (ho : (o (ix2 a l) : EReal) = ((dk X G H (bw t) ⟨128 + a.val, by omega⟩ l : ℝ) : EReal)) :
    (k1_pay3 (closes (behind (grid1.coords t))) o (metK V c t) (ix2 a l) : EReal) = ((both (dk X G H) (bw t) a l : ℝ) : EReal) := by
  have ht : t.val < 32 := t.isLt
  rw [closes1]
  unfold metK both
  by_cases h : t.val = 0
  · rw [if_pos h, if_pos h, dif_neg (by show ¬ 31 - t.val + 1 < 32; omega)]
    pointwise [k1_pay3]
    rw [ho]
  · rw [if_neg h, if_neg h, dif_pos (by show 31 - t.val + 1 < 32; omega)]
    pointwise [k1_pay3]
    rw [ho]
    refine (congrArg₂ (fun y z : EReal => y + z) rfl (keysAt_at E _ a l)).trans ?_
    rw [← EReal.coe_add]
    have : bw ⟨t.val - 1, lt_of_le_of_lt (Nat.sub_le _ _) t.isLt⟩ = ⟨(bw t).val + 1, by show 31 - t.val + 1 < 32; omega⟩ :=
      Fin.ext (by show 31 - (t.val - 1) = 31 - t.val + 1; omega)
    rw [this]

theorem metV_at (E : Entry V c X G H) (t : Fin cfg1.N) (o : Vec Ideal S128x256 .f32) (a : Fin 128) (l : Fin 256)
    (ho : (o (ix2 a l) : EReal) = ((dv X G (bw t) ⟨128 + a.val, by omega⟩ l : ℝ) : EReal)) :
    (k1_pay4 (closes (behind (grid1.coords t))) o (metV V c t) (ix2 a l) : EReal) = ((both (dv X G) (bw t) a l : ℝ) : EReal) := by
  have ht : t.val < 32 := t.isLt
  rw [closes1]
  unfold metV both
  by_cases h : t.val = 0
  · rw [if_pos h, if_pos h, dif_neg (by show ¬ 31 - t.val + 1 < 32; omega)]
    pointwise [k1_pay4]
    rw [ho]
  · rw [if_neg h, if_neg h, dif_pos (by show 31 - t.val + 1 < 32; omega)]
    pointwise [k1_pay4]
    rw [ho]
    refine (congrArg₂ (fun y z : EReal => y + z) rfl (valuesAt_at E _ a l)).trans ?_
    rw [← EReal.coe_add]
    have : bw ⟨t.val - 1, lt_of_le_of_lt (Nat.sub_le _ _) t.isLt⟩ = ⟨(bw t).val + 1, by show 31 - t.val + 1 < 32; omega⟩ :=
      Fin.ext (by show 31 - (t.val - 1) = 31 - t.val + 1; omega)
    rw [this]

/-- Three stores of a block side by side, the outer two twice: the block, in its three parts. -/
theorem sideBySide (p4 p3 p2 p1 p0 : Vec Ideal S128x256 .f32) (a : Fin 128) (l : Fin 256) :
    let f : Vec Ideal S128x768 .f32 := View.canon [⟨colV, p4⟩, ⟨colK, p3⟩, ⟨colV, p2⟩, ⟨colK, p1⟩, ⟨colQ, p0⟩]
    f (ix2 a ⟨l.val, by omega⟩) = p0 (ix2 a l) ∧ f (ix2 a ⟨256 + l.val, by omega⟩) = p3 (ix2 a l) ∧ f (ix2 a ⟨512 + l.val, by omega⟩) = p4 (ix2 a l) := by
  have eQ : colQ.emb (ix2 a l) = (ix2 a ⟨l.val, by omega⟩ : S128x768.Idx) := by
    funext b; fin_cases b
    · exact Fin.ext (by show 0 + 1 * a.val = a.val; omega)
    · exact Fin.ext (by show 0 + 1 * l.val = l.val; omega)
  have eK : colK.emb (ix2 a l) = (ix2 a ⟨256 + l.val, by omega⟩ : S128x768.Idx) := by
    funext b; fin_cases b
    · exact Fin.ext (by show 0 + 1 * a.val = a.val; omega)
    · exact Fin.ext (by show 256 + 1 * l.val = 256 + l.val; omega)
  have eV : colV.emb (ix2 a l) = (ix2 a ⟨512 + l.val, by omega⟩ : S128x768.Idx) := by
    funext b; fin_cases b
    · exact Fin.ext (by show 0 + 1 * a.val = a.val; omega)
    · exact Fin.ext (by show 512 + 1 * l.val = 512 + l.val; omega)
  have nV (k : Fin 768) (hk : k.val < 512) : (ix2 a k : S128x768.Idx) ∉ colV.set := by
    rw [Rect.mem_set_unit]
    intro h
    have h1 : 512 ≤ k.val ∧ k.val < 512 + 256 := h 1
    omega
  have nK (k : Fin 768) (hk : k.val < 256) : (ix2 a k : S128x768.Idx) ∉ colK.set := by
    rw [Rect.mem_set_unit]
    intro h
    have h1 : 256 ≤ k.val ∧ k.val < 256 + 256 := h 1
    omega
  have oV (p : Vec Ideal S128x256 .f32) (L : List (View.Piece (Elt Ideal) S128x768 .f32)) (k : Fin 768) (hk : k.val < 512) :
      View.canon (⟨colV, p⟩ :: L) (ix2 a k) = View.canon L (ix2 a k) := View.canon_cons_of_not_mem ⟨colV, p⟩ L (nV k hk)
  have oK (p : Vec Ideal S128x256 .f32) (L : List (View.Piece (Elt Ideal) S128x768 .f32)) (k : Fin 768) (hk : k.val < 256) :
      View.canon (⟨colK, p⟩ :: L) (ix2 a k) = View.canon L (ix2 a k) := View.canon_cons_of_not_mem ⟨colK, p⟩ L (nK k hk)
  intro f
  refine ⟨?_, ?_, ?_⟩
  · have e1 := (oV p4 [⟨colK, p3⟩, ⟨colV, p2⟩, ⟨colK, p1⟩, ⟨colQ, p0⟩] ⟨l.val, by omega⟩ (show l.val < 512 by omega)).trans
      ((oK p3 _ _ l.isLt).trans ((oV p2 _ _ (show l.val < 512 by omega)).trans (oK p1 _ _ l.isLt)))
    exact e1.trans ((congrArg _ eQ.symm).trans (View.canon_cons_emb colQ p0 [] (ix2 a l)))
  · have e1 := oV p4 [⟨colK, p3⟩, ⟨colV, p2⟩, ⟨colK, p1⟩, ⟨colQ, p0⟩] ⟨256 + l.val, by omega⟩ (show 256 + l.val < 512 by omega)
    exact e1.trans ((congrArg _ eK.symm).trans (View.canon_cons_emb colK p3 _ (ix2 a l)))
  · exact (congrArg f eV.symm).trans (View.canon_cons_emb colV p4 _ (ix2 a l))

theorem gradients_at (n : BitVec 32) (q kp kc vp vc o l g gl k v : Vec Ideal S128x256 .f32) (a : Fin 128) (i : Fin 256) :
    gradients n q kp kc vp vc o l g gl k v (ix2 a ⟨i.val, by omega⟩) = ownQ n q kp kc vp vc o l g gl (ix2 a i)
    ∧ gradients n q kp kc vp vc o l g gl k v (ix2 a ⟨256 + i.val, by omega⟩) = k1_pay3 (closes n) (ownK n q kp kc vp vc o l g gl) k (ix2 a i)
    ∧ gradients n q kp kc vp vc o l g gl k v (ix2 a ⟨512 + i.val, by omega⟩) = k1_pay4 (closes n) (ownV n q kp kc l g) v (ix2 a i) :=
  sideBySide _ _ _ _ _ a i

/-- The three parts of a row of the gradient. -/
theorem gradArr_at (n : Fin 32) (a : Fin 128) (l : Fin 256) :
    (gradArr X G H (ix2 (rw_ n a) ⟨l.val, by omega⟩) : EReal) = ((dq X G H n a l : ℝ) : EReal)
    ∧ (gradArr X G H (ix2 (rw_ n a) ⟨256 + l.val, by omega⟩) : EReal) = ((both (dk X G H) n a l : ℝ) : EReal)
    ∧ (gradArr X G H (ix2 (rw_ n a) ⟨512 + l.val, by omega⟩) : EReal) = ((both (dv X G) n a l : ℝ) : EReal) := by
  have h (k : Fin 768) : (gradArr X G H (ix2 (rw_ n a) k) : EReal) = ((grad X G H (rw_ n a) k : ℝ) : EReal) := rfl
  refine ⟨(h _).trans ?_, (h _).trans ?_, (h _).trans ?_⟩ <;> unfold grad <;> rw [tl_rw, pl_rw]
  · rw [dif_pos (show l.val < 256 from l.isLt)]
  · rw [dif_neg (show ¬ 256 + l.val < 256 by omega), dif_pos (show 256 + l.val < 512 by omega)]
    exact congrArg (fun k => ((both (dk X G H) n a k : ℝ) : EReal)) (Fin.ext (show 256 + l.val - 256 = l.val by omega))
  · rw [dif_neg (show ¬ 512 + l.val < 256 by omega), dif_neg (show ¬ 512 + l.val < 512 by omega)]
    exact congrArg (fun k => ((both (dv X G) n a k : ℝ) : EReal)) (Fin.ext (show 512 + l.val - 512 = l.val by omega))

/-- A column is one of the three parts' lanes. -/
theorem part (k : Fin 768) : ∃ l : Fin 256, k = ⟨l.val, by omega⟩ ∨ k = ⟨256 + l.val, by omega⟩ ∨ k = ⟨512 + l.val, by omega⟩ := by
  have hk := k.isLt
  by_cases h : k.val < 256
  · exact ⟨⟨k.val, h⟩, .inl rfl⟩
  by_cases h' : k.val < 512
  · exact ⟨⟨k.val - 256, by omega⟩, .inr (.inl (Fin.ext (by show k.val = 256 + (k.val - 256); omega)))⟩
  · exact ⟨⟨k.val - 512, by omega⟩, .inr (.inr (Fin.ext (by show k.val = 512 + (k.val - 512); omega)))⟩

/-- A tile's own gradients. -/
theorem ownQ_bw (E : Entry V c X G H) (t : Fin cfg1.N) (a : Fin 128) (l : Fin 256) :
    (ownQ (behind (grid1.coords t)) (bblk V c 0 t) (bblk V c 1 t) (bblk V c 2 t) (bblk V c 3 t) (bblk V c 4 t) (bblk V c 5 t) (bblk V c 6 t) (bblk V c 7 t) (bblk V c 8 t) (ix2 a l) : EReal)
      = ((dq X G H (bw t) a l : ℝ) : EReal) := by
  rw [bblk0 V c X E.x, bblk1 V c X E.x, bblk2 V c X E.x, bblk3 V c X E.x, bblk4 V c X E.x, bblk5 V c X E.o, bblk6 V c X E.l, bblk7 V c G E.g, bblk8 V c H E.h]
  unfold dq; rw [← opens1 t]
  refine Eq.trans ?_ (ownQ_at _ _ _ _ _ _ _ _ a l)
  unfold outs logs; rw [opens1 t]; rfl
theorem ownK_bw (E : Entry V c X G H) (t : Fin cfg1.N) (a : Fin 128) (l : Fin 256) :
    (ownK (behind (grid1.coords t)) (bblk V c 0 t) (bblk V c 1 t) (bblk V c 2 t) (bblk V c 3 t) (bblk V c 4 t) (bblk V c 5 t) (bblk V c 6 t) (bblk V c 7 t) (bblk V c 8 t) (ix2 a l) : EReal)
      = ((dk X G H (bw t) ⟨128 + a.val, by omega⟩ l : ℝ) : EReal) := by
  rw [bblk0 V c X E.x, bblk1 V c X E.x, bblk2 V c X E.x, bblk3 V c X E.x, bblk4 V c X E.x, bblk5 V c X E.o, bblk6 V c X E.l, bblk7 V c G E.g, bblk8 V c H E.h]
  unfold dk; rw [← opens1 t]
  refine Eq.trans ?_ (ownK_at _ _ _ _ _ _ _ _ a l)
  unfold outs logs; rw [opens1 t]; rfl
theorem ownV_bw (E : Entry V c X G H) (t : Fin cfg1.N) (a : Fin 128) (l : Fin 256) :
    (ownV (behind (grid1.coords t)) (bblk V c 0 t) (bblk V c 1 t) (bblk V c 2 t) (bblk V c 6 t) (bblk V c 7 t) (ix2 a l) : EReal)
      = ((dv X G (bw t) ⟨128 + a.val, by omega⟩ l : ℝ) : EReal) := by
  rw [bblk0 V c X E.x, bblk1 V c X E.x, bblk2 V c X E.x, bblk6 V c X E.l, bblk7 V c G E.g]
  unfold dv; rw [← opens1 t]
  refine Eq.trans ?_ (ownV_at _ _ _ _ _ a l)
  unfold logs; rw [opens1 t]; rfl

/-- What a point leaves of its tile's gradient. -/
theorem gradsAt_at (E : Entry V c X G H) (t : Fin cfg1.N) (a : Fin 128) (k : Fin 768) :
    (gradsAt V c t (ix2 a k) : EReal) = gradArr X G H (ix2 (rw_ (bw t) a) k) := by
  obtain ⟨l, hl⟩ := part k
  unfold gradsAt
  obtain ⟨s0, s1, s2⟩ := gradients_at (behind (grid1.coords t)) (bblk V c 0 t) (bblk V c 1 t) (bblk V c 2 t) (bblk V c 3 t) (bblk V c 4 t)
    (bblk V c 5 t) (bblk V c 6 t) (bblk V c 7 t) (bblk V c 8 t) (metK V c t) (metV V c t) a l
  obtain ⟨g0, g1, g2⟩ := gradArr_at (X := X) (G := G) (H := H) (bw t) a l
  rcases hl with rfl | rfl | rfl
  · exact s0.trans ((ownQ_bw E t a l).trans g0.symm)
  · exact s1.trans ((metK_at E t _ a l (ownK_bw E t a l)).trans g1.symm)
  · exact s2.trans ((metV_at E t _ a l (ownV_bw E t a l)).trans g2.symm)

set_option maxHeartbeats 1000000 in
theorem barr9 (E : Entry V c X G H) : (bdat V c).arrAt 9 cfg1.N = gradArr X G H := by
  refine (bdat V c).arrAt_eq_of_covers 9 _ (by decide +kernel) fun t _ y => ?_
  obtain ⟨a, k, rfl⟩ : ∃ (a : Fin 128) (k : Fin 768), y = ix2 a k := ex2 y
  have he : (((cfg1.win 9).blk t).view.emb (ix2 a k)) = (ix2 (rw_ (bw t) a) k : S4096x768.Idx) := by
    blk_simp [rw_, bw, idx1 t]; blk_ext [idx1 t]
  refine Eq.trans ?_ ((gradsAt_at E t a k).trans (congrArg (gradArr X G H) he.symm))
  show (bdat V c).after 9 t (ix2 a k) = gradsAt V c t (ix2 a k)
  dsimp only [bdat]

/-- The kernel's result on real arguments. -/
theorem result (m : (ℓ : Loc nD τ sig) → Buf (Elt Ideal) ℓ) (ρ : Dev nD → PrngReg) (c : Dev nD) (X : Fin 4096 → Fin 768 → ℝ) (G H : Fin 4096 → Fin 256 → ℝ)
    (hX : m (c.tc.loc main_arg0) = wide X) (hG : m (c.tc.loc main_arg1) = lanes G) (hH : m (c.tc.loc main_arg2) = lanes H) :
    (bdat (betweenRef m ρ) c).arrAt 9 cfg1.N = gradArr X G H :=
  barr9 (V := betweenRef m ρ) ⟨(between_arg0 m ρ c).trans hX, (between_arr m ρ c 5).trans (farr5 (startRef m ρ) c X hX),
    (between_arr m ρ c 6).trans (farr6 (startRef m ρ) c X hX), (between_arg1 m ρ c).trans hG, (between_arg2 m ρ c).trans hH⟩

end

end Cert.Attn

end
-- ==== Proof.Attn.RefTerms.lean ====
/- The reference of the attention's gradient over real arguments, term by term: its windows of keys and values, scores,
   weights, and the gradients of scores, queries, keys and values of every tile (Attn/Sequence.lean). -/
module

public import proofs.«01_k».proof.Proof.Gen.ReferenceAttnIdeal.Run
public import proofs.«01_k».proof.Proof.Attn.Sequence
public import Idealize.ShloMosaic.Lib.WordCmp

@[expose] public section

set_option maxRecDepth 16384

noncomputable section

namespace Cert.Attn.Ref

open Idealize.ShloMosaic Idealize.ShloMosaic.TcCoe Idealize.ShloMosaic.Tactic Idealize.SL.Sem Idealize.ShloMosaic.StableHlo
open Cert.ReferenceAttnIdeal Cert.ReferenceAttnIdeal.Gen Cert.ReferenceAttnIdeal.Value Cert.Reals
open scoped BigOperators

section

variable (V0 : Valuation τ sig (Elt Ideal)) (X : Fin 4096 → Fin 768 → ℝ) (G H : Fin 4096 → Fin 256 → ℝ)

/-- The reference's windows: before the first tile come zeros. -/
def kz (n : Fin 32) : Fin 256 → Fin 256 → ℝ := stack (if n.val = 0 then fun _ _ => 0 else ks X (pv n)) (ks X n)
def vz (n : Fin 32) : Fin 256 → Fin 256 → ℝ := stack (if n.val = 0 then fun _ _ => 0 else vs X (pv n)) (vs X n)

theorem v3_at (hX : (V0 (Proc.devRef .tc main_arg0) : FVec Ideal S4096x768 .f32) = fun j => ((X (j 0) (j 1) : ℝ) : EReal))
    (n : Fin 32) (a : Fin 128) (h : Fin 4) (e : Fin 64) :
    (res_main_v3 V0 (ix4 n a h e) : EReal) = ((qs X n a (ln h e) : ℝ) : EReal) := by
  unfold res_main_v3; rw [hX]
  pointwise
  rfl

theorem v9_at (hX : (V0 (Proc.devRef .tc main_arg0) : FVec Ideal S4096x768 .f32) = fun j => ((X (j 0) (j 1) : ℝ) : EReal))
    (n : Fin 32) (k : Fin 256) (h : Fin 4) (e : Fin 64) :
    (res_main_v9 V0 (ix4 n k h e) : EReal) = ((kz X n k (ln h e) : ℝ) : EReal) := by
  unfold res_main_v9 res_main_v4; rw [hX]
  pointwise
  unfold kz stack
  by_cases h1 : k.val < 128
  · rw [dif_pos h1, dif_pos h1]
    by_cases h2 : n.val = 0
    · rw [if_pos h2, dif_pos (by omega)]; rfl
    · rw [if_neg h2, dif_neg (by omega)]; rfl
  · rw [dif_neg h1, dif_neg h1]; rfl

theorem v15_at (hX : (V0 (Proc.devRef .tc main_arg0) : FVec Ideal S4096x768 .f32) = fun j => ((X (j 0) (j 1) : ℝ) : EReal))
    (n : Fin 32) (k : Fin 256) (h : Fin 4) (e : Fin 64) :
    (res_main_v15 V0 (ix4 n k h e) : EReal) = ((vz X n k (ln h e) : ℝ) : EReal) := by
  unfold res_main_v15 res_main_v10; rw [hX]
  pointwise
  unfold vz stack
  by_cases h1 : k.val < 128
  · rw [dif_pos h1, dif_pos h1]
    by_cases h2 : n.val = 0
    · rw [if_pos h2, dif_pos (by omega)]; rfl
    · rw [if_neg h2, dif_neg (by omega)]; rfl
  · rw [dif_neg h1, dif_neg h1]; rfl

/-- The reference's test of distance and of place, on small numbers. -/
theorem near : ∀ (a : Fin 128) (k : Fin 256), IntOp.andi
        (IntOp.cmpi CmpIPredicate.sge (IntOp.subi (IntOp.addi (128#32) (BitVec.ofNat 32 a.val)) (BitVec.ofNat 32 k.val)) 0#32)
        (IntOp.cmpi CmpIPredicate.sle (IntOp.subi (IntOp.addi (128#32) (BitVec.ofNat 32 a.val)) (BitVec.ofNat 32 k.val)) 128#32)
      = BitVec.ofBool (decide (a.val ≤ k.val ∧ k.val ≤ a.val + 128)) := by decide +kernel
theorem inside : ∀ (n : Fin 32) (k : Fin 256), IntOp.cmpi CmpIPredicate.sge
        (IntOp.addi (IntOp.muli (IntOp.subi (BitVec.ofNat 32 n.val) 1#32) 128#32) (BitVec.ofNat 32 k.val)) 0#32
      = BitVec.ofBool (decide (fst n = false ∨ 128 ≤ k.val)) := by decide +kernel

theorem v50_1_at (n : Fin 32) (h : Fin 4) (a : Fin 128) (k : Fin 256) : res_main_v50_1 V0 (ix4 n h a k) = BitVec.ofBool (ok (fst n) a k) := by
  unfold res_main_v50_1 res_main_v27 res_main_v22
  pointwise
  rw [near, inside]
  unfold ok
  by_cases h1 : a.val ≤ k.val ∧ k.val ≤ a.val + 128 <;> by_cases h2 : fst n = false ∨ 128 ≤ k.val <;> simp [h1, h2, IntOp.andi, ← and_assoc]

theorem v81_at (hH : (V0 (Proc.devRef .tc main_arg2) : FVec Ideal S4096x256 .f32) = fun j => ((H (j 0) (j 1) : ℝ) : EReal))
    (n : Fin 32) (h : Fin 4) (a : Fin 128) : (res_main_v81 V0 (ix4 n h a 0) : EReal) = ((dlog (tile_ H n) h a : ℝ) : EReal) := by
  unfold res_main_v81; rw [hH]
  pointwise
  rw [coe_sum, dlog, sum_lanes]; rfl

theorem v83_at (hG : (V0 (Proc.devRef .tc main_arg1) : FVec Ideal S4096x256 .f32) = fun j => ((G (j 0) (j 1) : ℝ) : EReal))
    (n : Fin 32) (h : Fin 4) (e : Fin 64) (a : Fin 128) : (res_main_v83 V0 (ix4 n h e a) : EReal) = ((tile_ G n a (ln h e) : ℝ) : EReal) := by
  unfold res_main_v83; rw [hG]
  pointwise
  rfl

end

end Cert.Attn.Ref

end
-- ==== Proof.Attn.Reference.lean ====
/- The reference of the attention's gradient over real arguments, continued: scores, weights, and the gradients
   of scores, queries, keys and values of every tile. -/
module

public import proofs.«01_k».proof.Proof.Attn.RefTerms

@[expose] public section

set_option maxRecDepth 16384

noncomputable section

namespace Cert.Attn.Ref

open Idealize.ShloMosaic Idealize.ShloMosaic.TcCoe Idealize.ShloMosaic.Tactic Idealize.SL.Sem Idealize.ShloMosaic.StableHlo
open Cert.ReferenceAttnIdeal Cert.ReferenceAttnIdeal.Gen Cert.ReferenceAttnIdeal.Value Cert.Reals
open scoped BigOperators

section

theorem ofBits_8 : Ideal.ofBits .f32 1090519040#32 = ((8 : ℝ) : EReal) := by
  simp [Ideal.ofBits, Ideal.ieee, -EReal.coe_mul]; norm_num
theorem ofBits_bot : Ideal.ofBits .f32 4286578688#32 = (⊥ : EReal) := by simp [Ideal.ofBits, Ideal.ieee]
theorem sel (b : Bool) (x y : EReal) : (Scalar.select (BitVec.ofBool b) x y : EReal) = if b then x else y := by cases b <;> rfl
theorem bit (b : Bool) : (FloatOps.uitofp (F := Ideal) FTy.f32 (BitVec.ofBool b) : EReal) = (((if b then 1 else 0) : ℝ) : EReal) := by
  cases b <;> simp [FloatOps.uitofp]
/-- An ideal value, as an extended real. -/
def ev (x : Ideal .f32) : EReal := x
theorem ev_eq {x : Ideal .f32} {y : EReal} (h : (x : EReal) = y) : ev x = y := h
/-- A quotient of reals. -/
theorem div_real (x : ℝ) {y : ℝ} (hy : y ≠ 0) : Ideal.div (x : EReal) (y : EReal) = ((x / y : ℝ) : EReal) := by
  rw [Ideal.div_coe hy, ← EReal.coe_mul]; exact congrArg Real.toEReal (by ring)

variable {V0 : Valuation τ sig (Elt Ideal)} {X : Fin 4096 → Fin 768 → ℝ} {G H : Fin 4096 → Fin 256 → ℝ}

theorem hd_ln (h : Fin 4) (e : Fin 64) : hd (ln h e) = h := Fin.ext (by show (h.val * 64 + e.val) / 64 = h.val; omega)

/-- The masked scores, -/
theorem v50_0_at (hX : (V0 (Proc.devRef .tc main_arg0) : FVec Ideal S4096x768 .f32) = fun j => ((X (j 0) (j 1) : ℝ) : EReal))
    (n : Fin 32) (h : Fin 4) (a : Fin 128) (k : Fin 256) :
    (res_main_v50_0 V0 (ix4 n h a k) : EReal) = if ok (fst n) a k then ((score (qs X n) (kz X n) h a k : ℝ) : EReal) else ⊥ := by
  unfold res_main_v50_0
  pointwise
  have e : (∑ x, ev (res_main_v3 V0 (ix4 n a h x)) * ev (res_main_v9 V0 (ix4 n k h x))) = ((8 * score (qs X n) (kz X n) h a k : ℝ) : EReal) := by
    simp only [ev_eq (v3_at V0 X hX n _ _ _), ev_eq (v9_at V0 X hX n _ _ _), ← EReal.coe_mul, coe_sum]
    refine congrArg Real.toEReal ?_
    have : score (qs X n) (kz X n) h a k = ∑ l, (qs X n a l * kz X n k l * (1 / 8)) * on h l :=
      Finset.sum_congr rfl fun l _ => by ring
    rw [this, sum_lanes, Finset.mul_sum]
    exact Finset.sum_congr rfl fun l _ => by ring
  rw [v50_1_at]
  refine (sel _ _ _).trans (congrArg₂ (fun x y : EReal => if ok (fst n) a k then x else y) ?_ ofBits_bot)
  refine (congrArg₂ Ideal.div e ofBits_8).trans ((div_real _ (by norm_num)).trans (congrArg Real.toEReal (by ring)))

/-- a row's greatest, which is a score seen, -/
theorem v51_at (hX : (V0 (Proc.devRef .tc main_arg0) : FVec Ideal S4096x768 .f32) = fun j => ((X (j 0) (j 1) : ℝ) : EReal))
    (n : Fin 32) (h : Fin 4) (a : Fin 128) :
    ∃ (M : ℝ) (k : Fin 256), (res_main_v51 V0 (ix3 n h a) : EReal) = (M : EReal) ∧ (res_main_v50_0 V0 (ix4 n h a k) : EReal) = (M : EReal) := by
  have e : (res_main_v51 V0 (ix3 n h a) : EReal) = Finset.univ.sup (fun k => ev (res_main_v50_0 V0 (ix4 n h a k))) := by
    unfold res_main_v51
    generalize (res_main_v50_0 V0 : FVec Ideal S32x4x128x256 .f32) = s
    pointwise
    rw [ofBits_bot]
    exact Shape.ReducesTo.fold_fiber_r4_a3 reducesTo_S32x4x128x256_S32x4x128_d3 (ix3 n h a) max (⊥ : EReal) s
  obtain ⟨M, hM⟩ := fold_max (ok (fst n) a) (score (qs X n) (kz X n) h a) _ (ok_own (fst n) a)
  have e2 : Finset.univ.sup (fun k => ev (res_main_v50_0 V0 (ix4 n h a k))) = (M : EReal) := by
    rw [← hM]; simp only [ev_eq (v50_0_at hX n h a _)]; rfl
  obtain ⟨k, _, hk⟩ := Finset.exists_mem_eq_sup Finset.univ ⟨0, Finset.mem_univ _⟩ (fun k => ev (res_main_v50_0 V0 (ix4 n h a k)))
  exact ⟨M, k, e.trans e2, hk.symm.trans e2⟩

/-- and, over the row's greatest, their exponentials and those's sum. -/
theorem row_full (hX : (V0 (Proc.devRef .tc main_arg0) : FVec Ideal S4096x768 .f32) = fun j => ((X (j 0) (j 1) : ℝ) : EReal))
    (n : Fin 32) (h : Fin 4) (a : Fin 128) :
    ∃ M : ℝ, (res_main_v57 V0 (ix4 n h a 0) : EReal) = (M : EReal)
      ∧ (res_main_v62 V0 (ix4 n h a 0) : EReal) = (((∑ k, expo (fst n) (qs X n) (kz X n) h a k) * Real.exp (-M) : ℝ) : EReal)
      ∧ (∀ k, (res_main_v60 V0 (ix4 n h a k) : EReal) = ((expo (fst n) (qs X n) (kz X n) h a k * Real.exp (-M) : ℝ) : EReal)) := by
  obtain ⟨M, -, hM, -⟩ := v51_at hX n h a
  have e60 (k : Fin 256) : (res_main_v60 V0 (ix4 n h a k) : EReal) = ((expo (fst n) (qs X n) (kz X n) h a k * Real.exp (-M) : ℝ) : EReal) := by
    unfold res_main_v60 res_main_v57
    pointwise
    rw [v50_0_at hX, hM]
    unfold expo
    split_ifs
    · rw [← EReal.coe_sub, Ideal.exp_coe, ← Real.exp_add]; rfl
    · rw [EReal.bot_sub, Ideal.exp_bot, zero_mul]; rfl
  refine ⟨M, ?_, ?_, e60⟩
  · unfold res_main_v57
    pointwise
    exact hM
  · unfold res_main_v62
    pointwise
    simp only [e60, coe_sum, ← Finset.sum_mul]

theorem row_at (hX : (V0 (Proc.devRef .tc main_arg0) : FVec Ideal S4096x768 .f32) = fun j => ((X (j 0) (j 1) : ℝ) : EReal))
    (n : Fin 32) (h : Fin 4) (a : Fin 128) :
    ∃ d : ℝ, d ≠ 0 ∧ (res_main_v62 V0 (ix4 n h a 0) : EReal) = (d : EReal)
      ∧ (∀ k, (res_main_v60 V0 (ix4 n h a k) : EReal) = ((weight (fst n) (qs X n) (kz X n) h a k * d : ℝ) : EReal)) := by
  obtain ⟨M, -, e62, e60⟩ := row_full hX n h a
  have hs := expo_sum_pos (fst n) (qs X n) (kz X n) h a
  refine ⟨_, (mul_pos hs (Real.exp_pos _)).ne', e62, fun k => ?_⟩
  rw [e60]
  refine congrArg Real.toEReal ?_
  unfold weight
  field_simp

/-- The weights, -/
theorem v64_at (hX : (V0 (Proc.devRef .tc main_arg0) : FVec Ideal S4096x768 .f32) = fun j => ((X (j 0) (j 1) : ℝ) : EReal))
    (n : Fin 32) (h : Fin 4) (a : Fin 128) (k : Fin 256) :
    (res_main_v64 V0 (ix4 n h a k) : EReal) = ((weight (fst n) (qs X n) (kz X n) h a k : ℝ) : EReal) := by
  obtain ⟨d, hd, e62, e60⟩ := row_at hX n h a
  unfold res_main_v64
  pointwise
  refine (congrArg₂ Ideal.div (e60 k) e62).trans ((div_real _ hd).trans (congrArg Real.toEReal (by field_simp)))

/-- the gradient of a weight through the output, -/
theorem v84_at (hX : (V0 (Proc.devRef .tc main_arg0) : FVec Ideal S4096x768 .f32) = fun j => ((X (j 0) (j 1) : ℝ) : EReal))
    (hG : (V0 (Proc.devRef .tc main_arg1) : FVec Ideal S4096x256 .f32) = fun j => ((G (j 0) (j 1) : ℝ) : EReal))
    (n : Fin 32) (h : Fin 4) (a : Fin 128) (k : Fin 256) :
    (res_main_v84 V0 (ix4 n h a k) : EReal) = ((outGrad (vz X n) (tile_ G n) h a k : ℝ) : EReal) := by
  unfold res_main_v84
  pointwise
  show (∑ x, ev (res_main_v83 V0 (ix4 n h x a)) * ev (res_main_v15 V0 (ix4 n k h x))) = _
  simp only [ev_eq (v83_at V0 G hG n _ _ _), ev_eq (v15_at V0 X hX n _ _ _), ← EReal.coe_mul, coe_sum]
  refine congrArg Real.toEReal ?_
  have : outGrad (vz X n) (tile_ G n) h a k = ∑ l, (tile_ G n a l * vz X n k l) * on h l := Finset.sum_congr rfl fun l _ => by ring
  rw [this, sum_lanes]

/-- the gradients of the scores before the division by 8, -/
theorem v99_at (hX : (V0 (Proc.devRef .tc main_arg0) : FVec Ideal S4096x768 .f32) = fun j => ((X (j 0) (j 1) : ℝ) : EReal))
    (hG : (V0 (Proc.devRef .tc main_arg1) : FVec Ideal S4096x256 .f32) = fun j => ((G (j 0) (j 1) : ℝ) : EReal))
    (hH : (V0 (Proc.devRef .tc main_arg2) : FVec Ideal S4096x256 .f32) = fun j => ((H (j 0) (j 1) : ℝ) : EReal))
    (n : Fin 32) (h : Fin 4) (a : Fin 128) (k : Fin 256) :
    (res_main_v99 V0 (ix4 n h a k) : EReal) = ((scoreGrad (fst n) (qs X n) (kz X n) (vz X n) (tile_ G n) (tile_ H n) h a k : ℝ) : EReal) := by
  obtain ⟨d, hd, e62, e60⟩ := row_at hX n h a
  unfold res_main_v99
  pointwise
  simp only [Fin.sum_univ_one]
  show (Ideal.div (ev (res_main_v84 V0 (ix4 n h a k))) (ev (res_main_v62 V0 (ix4 n h a 0)))
    + (Ideal.div (ev (res_main_v81 V0 (ix4 n h a 0))) (ev (res_main_v62 V0 (ix4 n h a 0)))
      + -∑ x, ev (res_main_v84 V0 (ix4 n h a x)) * Ideal.div 1 (ev (res_main_v62 V0 (ix4 n h a 0)) * ev (res_main_v62 V0 (ix4 n h a 0))) * ev (res_main_v60 V0 (ix4 n h a x))))
    * ev (res_main_v60 V0 (ix4 n h a k)) = _
  simp only [ev_eq (v84_at hX hG n h a _), ev_eq (v81_at V0 H hH n h a), ev_eq e62, ev_eq (e60 _)]
  rw [← EReal.coe_mul d d, ← EReal.coe_one, div_real _ hd, div_real _ hd, div_real _ (mul_ne_zero hd hd)]
  simp only [← EReal.coe_mul, coe_sum, ← EReal.coe_neg, ← EReal.coe_add]
  refine congrArg Real.toEReal ?_
  unfold scoreGrad pull
  have : (∑ x, outGrad (vz X n) (tile_ G n) h a x * (1 / (d * d)) * (weight (fst n) (qs X n) (kz X n) h a x * d))
      = (∑ x, weight (fst n) (qs X n) (kz X n) h a x * outGrad (vz X n) (tile_ G n) h a x) / d := by
    rw [Finset.sum_div]
    exact Finset.sum_congr rfl fun x _ => by field_simp
  rw [this]
  field_simp
  ring

/-- which of a row's scores are its greatest: some are, -/
theorem v55_at (hX : (V0 (Proc.devRef .tc main_arg0) : FVec Ideal S4096x768 .f32) = fun j => ((X (j 0) (j 1) : ℝ) : EReal))
    (n : Fin 32) (h : Fin 4) (a : Fin 128) :
    ∃ u : Fin 256 → ℝ, ∑ k, u k ≠ 0 ∧ ∀ k, (res_main_v55 V0 (ix4 n h a k) : EReal) = ((u k : ℝ) : EReal) := by
  obtain ⟨M, k0, e51, e0⟩ := v51_at hX n h a
  have hb (k : Fin 256) : ∃ b : Bool, (res_main_v55 V0 (ix4 n h a k) : EReal) = (((if b then 1 else 0) : ℝ) : EReal)
      ∧ (ev (res_main_v50_0 V0 (ix4 n h a k)) = (M : EReal) → b = true) := by
    unfold res_main_v55
    pointwise
    refine ⟨_, bit _, fun hk => decide_eq_true ?_⟩
    exact (show (res_main_v50_0 V0 (ix4 n h a k) : EReal) = (M : EReal) from hk).trans e51.symm
  choose b hb1 hb2 using hb
  refine ⟨fun k => if b k then 1 else 0, (Finset.sum_pos' (fun x _ => ?_) ⟨k0, Finset.mem_univ _, ?_⟩).ne', hb1⟩
  · show (0 : ℝ) ≤ if b x then 1 else 0
    split_ifs <;> norm_num
  · show (0 : ℝ) < if b k0 then 1 else 0
    rw [if_pos (hb2 k0 e0)]; norm_num

/-- and after it: the greatest score's share of the row log-sum's cotangent cancels against the row's sum. -/
theorem v111_at (hX : (V0 (Proc.devRef .tc main_arg0) : FVec Ideal S4096x768 .f32) = fun j => ((X (j 0) (j 1) : ℝ) : EReal))
    (hG : (V0 (Proc.devRef .tc main_arg1) : FVec Ideal S4096x256 .f32) = fun j => ((G (j 0) (j 1) : ℝ) : EReal))
    (hH : (V0 (Proc.devRef .tc main_arg2) : FVec Ideal S4096x256 .f32) = fun j => ((H (j 0) (j 1) : ℝ) : EReal))
    (n : Fin 32) (h : Fin 4) (a : Fin 128) (k : Fin 256) :
    (res_main_v111 V0 (ix4 n h a k) : EReal) = ((scoreGrad (fst n) (qs X n) (kz X n) (vz X n) (tile_ G n) (tile_ H n) h a k * (1 / 8) : ℝ) : EReal) := by
  obtain ⟨u, hr, eu⟩ := v55_at hX n h a
  unfold res_main_v111
  pointwise
  simp only [Fin.sum_univ_one]
  rw [v50_1_at]
  show Ideal.div (Scalar.select (BitVec.ofBool (ok (fst n) a k))
    (ev (res_main_v99 V0 (ix4 n h a k)) + Ideal.div (ev (res_main_v81 V0 (ix4 n h a 0)) + ∑ x, -ev (res_main_v99 V0 (ix4 n h a x)))
        (∑ x, ev (res_main_v55 V0 (ix4 n h a x))) * ev (res_main_v55 V0 (ix4 n h a k))) 0) (Ideal.ofBits FTy.f32 1090519040#32) = _
  rw [sel]
  simp only [ev_eq (eu _), ev_eq (v99_at hX hG hH n h a _), ev_eq (v81_at V0 H hH n h a), ← EReal.coe_neg, coe_sum, ← EReal.coe_add]
  rw [Finset.sum_neg_distrib, scoreGrad_sum, add_neg_cancel, div_real _ hr, zero_div, EReal.coe_zero, zero_mul, add_zero, ofBits_8]
  cases hk : ok (fst n) a k with
  | true => rw [if_pos rfl, div_real _ (by norm_num)]; exact congrArg Real.toEReal (by ring)
  | false =>
    rw [if_neg (by simp), ← EReal.coe_zero, div_real _ (by norm_num)]
    unfold scoreGrad
    rw [weight_out _ _ _ hk]; exact congrArg Real.toEReal (by ring)

/-- The gradients of values and keys in a tile's window, -/
theorem v86_at (hX : (V0 (Proc.devRef .tc main_arg0) : FVec Ideal S4096x768 .f32) = fun j => ((X (j 0) (j 1) : ℝ) : EReal))
    (hG : (V0 (Proc.devRef .tc main_arg1) : FVec Ideal S4096x256 .f32) = fun j => ((G (j 0) (j 1) : ℝ) : EReal))
    (n : Fin 32) (k : Fin 256) (h : Fin 4) (e : Fin 64) :
    (res_main_v86 V0 (ix4 n k h e) : EReal) = ((vGrad (fst n) (qs X n) (kz X n) (tile_ G n) k (ln h e) : ℝ) : EReal) := by
  unfold res_main_v86
  pointwise
  show (∑ x, ev (res_main_v83 V0 (ix4 n h e x)) * ev (res_main_v64 V0 (ix4 n h x k))) = _
  simp only [ev_eq (v83_at V0 G hG n _ _ _), ev_eq (v64_at hX n _ _ _), ← EReal.coe_mul, coe_sum]
  unfold vGrad
  rw [hd_ln]
  exact congrArg Real.toEReal (Finset.sum_congr rfl fun a _ => by ring)

theorem v113_at (hX : (V0 (Proc.devRef .tc main_arg0) : FVec Ideal S4096x768 .f32) = fun j => ((X (j 0) (j 1) : ℝ) : EReal))
    (hG : (V0 (Proc.devRef .tc main_arg1) : FVec Ideal S4096x256 .f32) = fun j => ((G (j 0) (j 1) : ℝ) : EReal))
    (hH : (V0 (Proc.devRef .tc main_arg2) : FVec Ideal S4096x256 .f32) = fun j => ((H (j 0) (j 1) : ℝ) : EReal))
    (n : Fin 32) (k : Fin 256) (h : Fin 4) (e : Fin 64) :
    (res_main_v113 V0 (ix4 n k h e) : EReal) = ((kGrad (fst n) (qs X n) (kz X n) (vz X n) (tile_ G n) (tile_ H n) k (ln h e) : ℝ) : EReal) := by
  unfold res_main_v113
  pointwise
  show (∑ x, ev (res_main_v111 V0 (ix4 n h x k)) * ev (res_main_v3 V0 (ix4 n x h e))) = _
  simp only [ev_eq (v111_at hX hG hH n _ _ _), ev_eq (v3_at V0 X hX n _ _ _), ← EReal.coe_mul, coe_sum]
  unfold kGrad
  rw [hd_ln, Finset.sum_mul]
  exact congrArg Real.toEReal (Finset.sum_congr rfl fun a _ => by ring)

/-- and of a tile's queries. -/
theorem dq_at (hX : (V0 (Proc.devRef .tc main_arg0) : FVec Ideal S4096x768 .f32) = fun j => ((X (j 0) (j 1) : ℝ) : EReal))
    (hG : (V0 (Proc.devRef .tc main_arg1) : FVec Ideal S4096x256 .f32) = fun j => ((G (j 0) (j 1) : ℝ) : EReal))
    (hH : (V0 (Proc.devRef .tc main_arg2) : FVec Ideal S4096x256 .f32) = fun j => ((H (j 0) (j 1) : ℝ) : EReal))
    (n : Fin 32) (a : Fin 128) (h : Fin 4) (e : Fin 64) :
    (∑ k, ev (res_main_v111 V0 (ix4 n h a k)) * ev (res_main_v9 V0 (ix4 n k h e)))
      = ((qGrad (fst n) (qs X n) (kz X n) (vz X n) (tile_ G n) (tile_ H n) a (ln h e) : ℝ) : EReal) := by
  simp only [ev_eq (v111_at hX hG hH n _ _ _), ev_eq (v9_at V0 X hX n _ _ _), ← EReal.coe_mul, coe_sum]
  unfold qGrad
  rw [hd_ln, Finset.sum_mul]
  exact congrArg Real.toEReal (Finset.sum_congr rfl fun a _ => by ring)

/-- The zeros before the first tile are not seen. -/
theorem kz_seen (n : Fin 32) (a : Fin 128) (k : Fin 256) (h : ok (fst n) a k = true) : kz X n k = kw X n k := by
  unfold kz kw stack
  by_cases h1 : k.val < 128
  · rw [dif_pos h1, dif_pos h1]
    by_cases h2 : n.val = 0
    · simp [ok, fst, h2] at h; omega
    · rw [if_neg h2]
  · rw [dif_neg h1, dif_neg h1]
theorem vz_seen (n : Fin 32) (a : Fin 128) (k : Fin 256) (h : ok (fst n) a k = true) : vz X n k = vw X n k := by
  unfold vz vw stack
  by_cases h1 : k.val < 128
  · rw [dif_pos h1, dif_pos h1]
    by_cases h2 : n.val = 0
    · simp [ok, fst, h2] at h; omega
    · rw [if_neg h2]
  · rw [dif_neg h1, dif_neg h1]

theorem dq_eq (n : Fin 32) : qGrad (fst n) (qs X n) (kz X n) (vz X n) (tile_ G n) (tile_ H n) = dq X G H n :=
  seen_qGrad _ _ _ _ _ _ (kz_seen n) (vz_seen n)
theorem dk_eq (n : Fin 32) : kGrad (fst n) (qs X n) (kz X n) (vz X n) (tile_ G n) (tile_ H n) = dk X G H n :=
  seen_kGrad _ _ _ _ _ _ (kz_seen n) (vz_seen n)
theorem dv_eq (n : Fin 32) : vGrad (fst n) (qs X n) (kz X n) (tile_ G n) = dv X G n :=
  seen_vGrad _ _ _ _ (kz_seen n)

end

end Cert.Attn.Ref

end
-- ==== Proof.Attn.RefResult.lean ====
/- The reference's result over real arguments is the gradient of Attn/Sequence.lean. -/
module

public import proofs.«01_k».proof.Proof.Attn.Reference

@[expose] public section

set_option maxRecDepth 16384

noncomputable section

namespace Cert.Attn.Ref

open Idealize.ShloMosaic Idealize.ShloMosaic.TcCoe Idealize.ShloMosaic.Tactic Idealize.SL.Sem Idealize.ShloMosaic.StableHlo
open Cert.ReferenceAttnIdeal Cert.ReferenceAttnIdeal.Gen Cert.ReferenceAttnIdeal.Value Cert.Reals
open scoped BigOperators

section

/-- What the tiles' rows get of a window's gradients: the window's own half, and the next window's first half. -/
def shared (d : FVec Ideal S32x256x4x64 .f32) : FVec Ideal S4096x256 .f32 :=
  shapeCast _ (addf (extractStridedSlice S32x128x4x64 ![0, 128, 0, 0] d slices_S32x256x4x64_S32x128x4x64_0_128_0_0)
    (pad S32x128x4x64 ![0, 0, 0, 0] ![1, 0, 0, 0] ![0, 0, 0, 0] (extractStridedSlice S31x128x4x64 ![1, 0, 0, 0]
      (extractStridedSlice S32x128x4x64 ![0, 0, 0, 0] d slices_S32x256x4x64_S32x128x4x64_0_0_0_0) slices_S32x128x4x64_S31x128x4x64_1_0_0_0)
      (constant S_ .f32 0x00000000#32) pads_S31x128x4x64_S32x128x4x64_010_000_000_000 h_S_)) shapeCasts_S32x128x4x64_S4096x256

theorem ln_mod (l : Fin 256) : ln ⟨l.val / 64, by omega⟩ ⟨l.val % 64, by omega⟩ = l := Fin.ext (by show l.val / 64 * 64 + l.val % 64 = l.val; omega)

/-- The two halves' entries, at a row's place in its tile. -/
theorem shared_entry (d : FVec Ideal S32x256x4x64 .f32) (D : Fin 32 → Fin 256 → Fin 256 → ℝ)
    (hd : ∀ n k h e, (d (ix4 n k h e) : EReal) = ((D n k (ln h e) : ℝ) : EReal)) (n : Fin 32) (a : Fin 128) (l : Fin 256)
    (z : EReal) (hz : ∀ h : n.val + 1 < 32, z = (d (ix4 ⟨n.val + 1, h⟩ ⟨a.val, by omega⟩ ⟨l.val / 64, by omega⟩ ⟨l.val % 64, by omega⟩) : EReal))
    (h0 : ¬ n.val + 1 < 32 → z = 0) :
    (d (ix4 n ⟨128 + a.val, by omega⟩ ⟨l.val / 64, by omega⟩ ⟨l.val % 64, by omega⟩) : EReal) + z = ((both D n a l : ℝ) : EReal) := by
  have e1 := hd n ⟨128 + a.val, by omega⟩ ⟨l.val / 64, by omega⟩ ⟨l.val % 64, by omega⟩
  have e := ln_mod l
  rw [e] at e1
  unfold both
  refine Eq.trans ?_ (EReal.coe_add _ _).symm
  refine congrArg₂ (fun y z : EReal => y + z) e1 ?_
  by_cases h : n.val + 1 < 32
  · rw [dif_pos h, hz h]
    have e2 := hd ⟨n.val + 1, h⟩ ⟨a.val, by omega⟩ ⟨l.val / 64, by omega⟩ ⟨l.val % 64, by omega⟩
    rw [e] at e2
    exact e2
  · rw [dif_neg h, h0 h]; rfl

theorem shared_at (d : FVec Ideal S32x256x4x64 .f32) (D : Fin 32 → Fin 256 → Fin 256 → ℝ)
    (hd : ∀ n k h e, (d (ix4 n k h e) : EReal) = ((D n k (ln h e) : ℝ) : EReal)) (i : Fin 4096) (l : Fin 256) :
    (shared d (ix2 i l) : EReal) = ((both D (tl i) (pl i) l : ℝ) : EReal) := by
  unfold shared
  pointwise
  have hl := l.isLt
  refine shared_entry d D hd (tl i) (pl i) l _ (fun h => ?_) (fun h => ?_)
  · have h' : i.val / 128 + 1 < 32 := h
    refine (dif_pos ⟨by omega, by omega, by omega, by omega⟩).trans ?_
    refine congrArg (fun n => (d (ix4 n _ _ _) : EReal)) (Fin.ext ?_)
    show 1 + i.val / 128 = i.val / 128 + 1
    omega
  · have h' : ¬ i.val / 128 + 1 < 32 := h
    exact dif_neg (fun q => h' (by omega))

/-- The reference's result, from the gradients of values and keys in the windows and of the queries. -/
def total (v k : FVec Ideal S32x256x4x64 .f32) (q : FVec Ideal S32x4x128x64 .f32) : FVec Ideal S4096x768 .f32 :=
  addf (addf (pad S4096x768 ![0, 512] ![0, 0] ![0, 0] (shared v) (constant S_ .f32 0x00000000#32) pads_S4096x256_S4096x768_000_51200 h_S_)
    (pad S4096x768 ![0, 256] ![0, 256] ![0, 0] (shared k) (constant S_ .f32 0x00000000#32) pads_S4096x256_S4096x768_000_2562560 h_S_))
    (pad S4096x768 ![0, 0] ![0, 512] ![0, 0] (shapeCast _ (transpose S32x128x4x64 [0, 2, 1, 3] q transposes_S32x4x128x64_S32x128x4x64_0_2_1_3)
      shapeCasts_S32x128x4x64_S4096x256) (constant S_ .f32 0x00000000#32) pads_S4096x256_S4096x768_000_05120 h_S_)

theorem total_at (X : Fin 4096 → Fin 768 → ℝ) (G H : Fin 4096 → Fin 256 → ℝ) (v k : FVec Ideal S32x256x4x64 .f32) (q : FVec Ideal S32x4x128x64 .f32)
    (hv : ∀ n k h e, (v (ix4 n k h e) : EReal) = ((dv X G n k (ln h e) : ℝ) : EReal))
    (hk : ∀ n j h e, (k (ix4 n j h e) : EReal) = ((dk X G H n j (ln h e) : ℝ) : EReal))
    (hq : ∀ n h a e, (q (ix4 n h a e) : EReal) = ((dq X G H n a (ln h e) : ℝ) : EReal)) (i : Fin 4096) (j : Fin 768) :
    (total v k q (ix2 i j) : EReal) = ((grad X G H i j : ℝ) : EReal) := by
  unfold total
  pointwise
  have hj := j.isLt
  unfold grad
  by_cases h : j.val < 256
  · rw [dif_neg (by omega), dif_neg (by omega), dif_pos h, dif_pos h, zero_add, zero_add]
    have e := hq (tl i) ⟨j.val / 64, by omega⟩ (pl i) ⟨j.val % 64, by omega⟩
    rw [ln_mod ⟨j.val, h⟩] at e
    exact e
  by_cases h' : j.val < 512
  · rw [dif_neg (by omega), dif_pos (by omega), dif_neg h, dif_neg h, dif_pos h', zero_add, add_zero]
    exact shared_at k _ hk i _
  · rw [dif_pos (by omega), dif_neg (by omega), dif_neg h, dif_neg h, dif_neg h', add_zero, add_zero]
    exact shared_at v _ hv i _

/-- The reference's result. -/
theorem result (V0 : Valuation τ sig (Elt Ideal)) (X : Fin 4096 → Fin 768 → ℝ) (G H : Fin 4096 → Fin 256 → ℝ)
    (hX : (V0 (Proc.devRef .tc main_arg0) : FVec Ideal S4096x768 .f32) = fun j => ((X (j 0) (j 1) : ℝ) : EReal))
    (hG : (V0 (Proc.devRef .tc main_arg1) : FVec Ideal S4096x256 .f32) = fun j => ((G (j 0) (j 1) : ℝ) : EReal))
    (hH : (V0 (Proc.devRef .tc main_arg2) : FVec Ideal S4096x256 .f32) = fun j => ((H (j 0) (j 1) : ℝ) : EReal)) :
    total (res_main_v86 V0) (res_main_v113 V0) (Host.dotGeneral (F := Ideal) (φ₁ := .f32) (φ₂ := .f32) dot_S32x4x128x256_S32x256x4x64_S32x4x128x64_3_1_2_3_01_02 none
        (res_main_v111 V0 : FVec Ideal S32x4x128x256 .f32) (res_main_v9 V0 : FVec Ideal S32x256x4x64 .f32))
      = fun j => ((grad X G H (j 0) (j 1) : ℝ) : EReal) := by
  funext j
  obtain ⟨i, k, rfl⟩ := ex2 j
  refine total_at X G H _ _ _ (fun n k h e => ?_) (fun n k h e => ?_) (fun n h a e => ?_) i k
  · rw [← dv_eq]; exact v86_at hX hG n k h e
  · rw [← dk_eq]; exact v113_at hX hG hH n k h e
  · rw [← dq_eq]
    refine Eq.trans ?_ (dq_at hX hG hH n a h e)
    pointwise
    rfl

end

end Cert.Attn.Ref

end
-- ==== Proof.Attn.RefForward.lean ====
/- The reference's output and row log-sums over real arguments are those of Attn/Sequence.lean. -/
module

public import proofs.«01_k».proof.Proof.Attn.RefResult

@[expose] public section

set_option maxRecDepth 16384

noncomputable section

namespace Cert.Attn.Ref

open Idealize.ShloMosaic Idealize.ShloMosaic.TcCoe Idealize.ShloMosaic.Tactic Idealize.SL.Sem Idealize.ShloMosaic.StableHlo
open Cert.ReferenceAttnIdeal Cert.ReferenceAttnIdeal.Gen Cert.ReferenceAttnIdeal.Value Cert.Reals
open scoped BigOperators

section

variable {V0 : Valuation τ sig (Elt Ideal)} {X : Fin 4096 → Fin 768 → ℝ}

theorem log_pos {x : ℝ} (hx : 0 < x) : Ideal.log (x : EReal) = ((Real.log x : ℝ) : EReal) := by
  rw [Ideal.log_coe, if_neg (not_le.mpr hx)]

/-- A tile's output, at a head's lane. -/
theorem out_at (hX : (V0 (Proc.devRef .tc main_arg0) : FVec Ideal S4096x768 .f32) = fun j => ((X (j 0) (j 1) : ℝ) : EReal))
    (n : Fin 32) (h : Fin 4) (e : Fin 64) (a : Fin 128) :
    (∑ k, ev (res_main_v15 V0 (ix4 n k h e)) * ev (res_main_v64 V0 (ix4 n h a k))) = ((ot X n a (ln h e) : ℝ) : EReal) := by
  simp only [ev_eq (v15_at V0 X hX n _ _ _), ev_eq (v64_at hX n _ _ _), ← EReal.coe_mul, coe_sum]
  refine congrArg Real.toEReal ?_
  unfold ot
  rw [hd_ln, ← seen_weight (fst n) (qs X n) (kz X n) (kz_seen n)]
  refine Finset.sum_congr rfl fun k _ => ?_
  by_cases c : ok (fst n) a k = true
  · rw [vz_seen n a k c]; ring
  · rw [weight_out _ _ _ (by simpa using c), zero_mul, mul_zero]

/-- A row's log-sum. -/
theorem log_at (hX : (V0 (Proc.devRef .tc main_arg0) : FVec Ideal S4096x768 .f32) = fun j => ((X (j 0) (j 1) : ℝ) : EReal))
    (n : Fin 32) (h : Fin 4) (e : Fin 64) (a : Fin 128) :
    ev (res_main_v57 V0 (ix4 n h a 0)) + Ideal.log (ev (res_main_v62 V0 (ix4 n h a 0))) = ((lt X n a (ln h e) : ℝ) : EReal) := by
  obtain ⟨M, e57, e62, -⟩ := row_full hX n h a
  have hs := expo_sum_pos (fst n) (qs X n) (kz X n) h a
  rw [ev_eq e57, ev_eq e62]
  refine (congrArg (fun z : EReal => (M : EReal) + z) (log_pos (mul_pos hs (Real.exp_pos _)))).trans ((EReal.coe_add _ _).symm.trans ?_)
  refine congrArg Real.toEReal ?_
  rw [Real.log_mul hs.ne' (Real.exp_pos _).ne', Real.log_exp]
  unfold lt
  rw [hd_ln, ← seen_expo (fst n) (qs X n) (kz X n) (kz_seen n)]
  ring

/-- The entries of the row log-sums' array. -/
theorem rows_at (p d : FVec Ideal S32x4x128x1 .f32) (i : Fin 4096) (l : Fin 256) :
    ((shapeCast S4096x256 (broadcastInDim S4096x4x64 ![0, 1] bcast_S4096x4_S4096x4x64_0_1 (shapeCast S4096x4 (transpose S32x128x4 [0, 2, 1] (shapeCast S32x4x128
        (addf p (Host.log d)) shapeCasts_S32x4x128x1_S32x4x128) transposes_S32x4x128_S32x128x4_0_2_1) shapeCasts_S32x128x4_S4096x4)) shapeCasts_S4096x4x64_S4096x256
        : FVec Ideal S4096x256 .f32) (ix2 i l) : EReal)
      = ev (p (ix4 (tl i) ⟨l.val / 64, by omega⟩ (pl i) 0)) + Ideal.log (ev (d (ix4 (tl i) ⟨l.val / 64, by omega⟩ (pl i) 0))) := by
  pointwise
  rfl

/-- The reference's output. -/
theorem output (V0 : Valuation τ sig (Elt Ideal)) (X : Fin 4096 → Fin 768 → ℝ)
    (hX : (V0 (Proc.devRef .tc main_arg0) : FVec Ideal S4096x768 .f32) = fun j => ((X (j 0) (j 1) : ℝ) : EReal)) :
    (shapeCast S4096x256 (transpose S32x128x4x64 [0, 3, 1, 2] (Host.dotGeneral (F := Ideal) (φ₁ := .f32) (φ₂ := .f32) dot_S32x256x4x64_S32x4x128x256_S32x4x64x128_1_3_3_2_02_01 none
        (res_main_v15 V0 : FVec Ideal S32x256x4x64 .f32) (res_main_v64 V0 : FVec Ideal S32x4x128x256 .f32)) transposes_S32x4x64x128_S32x128x4x64_0_3_1_2)
        shapeCasts_S32x128x4x64_S4096x256 : FVec Ideal S4096x256 .f32)
      = fun j => ((ot X (tl (j 0)) (pl (j 0)) (j 1) : ℝ) : EReal) := by
  funext j
  obtain ⟨i, l, rfl⟩ := ex2 j
  have e := out_at hX (tl i) ⟨l.val / 64, by omega⟩ ⟨l.val % 64, by omega⟩ (pl i)
  rw [ln_mod l] at e
  refine Eq.trans ?_ e
  pointwise
  rfl

/-- Its row log-sums, each head's on its lanes. -/
theorem rowLogs (V0 : Valuation τ sig (Elt Ideal)) (X : Fin 4096 → Fin 768 → ℝ)
    (hX : (V0 (Proc.devRef .tc main_arg0) : FVec Ideal S4096x768 .f32) = fun j => ((X (j 0) (j 1) : ℝ) : EReal)) :
    (shapeCast S4096x256 (broadcastInDim S4096x4x64 ![0, 1] bcast_S4096x4_S4096x4x64_0_1 (shapeCast S4096x4 (transpose S32x128x4 [0, 2, 1] (shapeCast S32x4x128
        (addf (res_main_v57 V0 : FVec Ideal S32x4x128x1 .f32) (Host.log (res_main_v62 V0 : FVec Ideal S32x4x128x1 .f32))) shapeCasts_S32x4x128x1_S32x4x128)
        transposes_S32x4x128_S32x128x4_0_2_1) shapeCasts_S32x128x4_S4096x4)) shapeCasts_S4096x4x64_S4096x256 : FVec Ideal S4096x256 .f32)
      = fun j => ((lt X (tl (j 0)) (pl (j 0)) (j 1) : ℝ) : EReal) := by
  funext j
  obtain ⟨i, l, rfl⟩ := ex2 j
  have e := log_at hX (tl i) ⟨l.val / 64, by omega⟩ ⟨l.val % 64, by omega⟩ (pl i)
  rw [ln_mod l] at e
  exact (rows_at _ _ i l).trans e

end

end Cert.Attn.Ref

end
-- ==== Proof.Attn.Pair.lean ====
/- Windowed attention and its gradients against its plain definition and that one's derivative: the frames, and the equality of the two
   programs' results over finite arguments. -/
module

public import proofs.«01_k».proof.Defs
public import proofs.«01_k».proof.Proof.Attn.Run
public import proofs.«01_k».proof.Proof.Attn.Value
public import proofs.«01_k».proof.Proof.Attn.RefResult
public import proofs.«01_k».proof.Proof.Attn.RefForward
public import proofs.«01_k».proof.Proof.Gen.KernelAttn
public import proofs.«01_k».proof.Proof.Gen.Pre_attn_finite
public import Idealize.ShloMosaic.Lib.Quiescent

@[expose] public section

noncomputable section

open Idealize.ShloMosaic Idealize.ShloMosaic.TcCoe Idealize.ShloMosaic.Tactic Idealize.SL.Sem

namespace Cert.Proof.Attn

open Cert.Reals

/-- Over floats the mask is its word's value, so the two printed programs are one. -/
@[reducible] def wordMask : Named Bits := ⟨fun _ _ {φ} w => Scalar.ofBits φ w⟩

theorem frame_p : Cert.quiescent_KernelAttn := fun m ρ _ => by
  refine cast ?_ (letI := wordMask; Cert.Attn.frame (F := Bits) m ρ)
  sl_kernel_rfl
theorem frame_pi : Cert.quiescent_KernelAttnIdeal := fun m ρ _ => Cert.Attn.frame (F := Ideal) m ρ
theorem frame_pi_pre : Cert.quiescent_KernelAttnIdeal_pre_attn_finite := fun m ρ _ => frame_pi m ρ trivial
theorem frame_ri : Cert.quiescent_ReferenceAttnIdeal := fun m ρ _ =>
  (θ_run Cert.ReferenceAttnIdeal.defs _ _).mono (fun r h => ⟨fun c => (h c).2.2.2,
      Idealize.ShloMosaic.sem_eq_zero_of_no_sems (by decide) r.2⟩)
    (Cert.ReferenceAttnIdeal.Value.run (F := Ideal) m ρ)
theorem frame_ri_pre : Cert.quiescent_ReferenceAttnIdeal_pre_attn_finite := fun m ρ _ => frame_ri m ρ trivial

/-- The mask's word stands for −∞. -/
theorem preserves : Cert.preserves_KernelAttn_KernelAttnIdeal :=
  IdealRules.named_const.statement Cert.KernelAttnIdeal.κ "mask" .f32 0xF149F2CA#32 ⊥ rfl

/-- A finite array is a table of reals. -/
theorem table {p q : ℕ} (x : FVec Ideal ⟨2, ![p, q]⟩ .f32) (h : ∀ i k, IsReal (x (ix2 i k))) :
    ∃ X : Fin p → Fin q → ℝ, x = fun j => ((X (j 0) (j 1) : ℝ) : EReal) := by
  obtain ⟨r, e⟩ := lift (f := fun ik : Fin p × Fin q => (x (ix2 ik.1 ik.2) : EReal)) fun ik => h ik.1 ik.2
  refine ⟨fun i k => r (i, k), funext fun j => ?_⟩
  obtain ⟨i, k, rfl⟩ := ex2 j
  exact congrFun e (i, k)

/-- The two programs' results agree, over finite arguments. -/
theorem algebraic : Cert.algebraic_KernelAttnIdeal_ReferenceAttnIdeal_pre_attn_finite := by
  intro m ρ m' ρ' hp hagree
  have key : ∀ c : Dev Cert.KernelAttnIdeal.nD, ∃ (X : Fin 4096 → Fin 768 → ℝ) (G H : Fin 4096 → Fin 256 → ℝ),
      m (c.tc.loc Cert.KernelAttnIdeal.main_arg0) = Cert.Attn.wide X ∧ m (c.tc.loc Cert.KernelAttnIdeal.main_arg1) = Cert.Attn.lanes G
      ∧ m (c.tc.loc Cert.KernelAttnIdeal.main_arg2) = Cert.Attn.lanes H := by
    intro c
    obtain ⟨p0, p1, p2⟩ := hp c
    obtain ⟨X, hX⟩ := table (m (c.tc.loc Cert.KernelAttnIdeal.main_arg0) : FVec Ideal ⟨2, ![4096, 768]⟩ .f32) fun i k =>
      isReal_of_test (by have := congrFun p0 (ix2 i k); pointwise [Cert.Pre_attn_finite.fn] at this; exact this)
    obtain ⟨G, hG⟩ := table (m (c.tc.loc Cert.KernelAttnIdeal.main_arg1) : FVec Ideal ⟨2, ![4096, 256]⟩ .f32) fun i k =>
      isReal_of_test (by have := congrFun p1 (ix2 i k); pointwise [Cert.Pre_attn_finite.fn] at this; exact this)
    obtain ⟨H, hH⟩ := table (m (c.tc.loc Cert.KernelAttnIdeal.main_arg2) : FVec Ideal ⟨2, ![4096, 256]⟩ .f32) fun i k =>
      isReal_of_test (by have := congrFun p2 (ix2 i k); pointwise [Cert.Pre_attn_finite.fn] at this; exact this)
    exact ⟨X, G, H, hX, hG, hH⟩
  choose X G H hX hG hH using key
  refine ⟨fun c => Cert.Attn.gradArr (X c) (G c) (H c), fun c => Cert.Attn.outArr (X c), fun c => Cert.Attn.logArr (X c), (θ_run Cert.KernelAttnIdeal.defs _ _).mono (fun _ h c =>
      ⟨(h.1 c).1.trans (Cert.Attn.result m ρ c _ _ _ (hX c) (hG c) (hH c)),
        (h.1 c).2.1.trans (Cert.Attn.farr5 (Cert.Attn.startRef m ρ) c (X c) (hX c)),
        (h.1 c).2.2.1.trans (Cert.Attn.farr6 (Cert.Attn.startRef m ρ) c (X c) (hX c)), (h.1 c).2.2.2⟩) (Cert.Attn.run_all (F := Ideal) m ρ), ?_⟩
  refine (θ_run Cert.ReferenceAttnIdeal.defs _ _).mono
    (fun _ h c => ⟨(h c).1.trans ?_, (h c).2.1.trans ?_, (h c).2.2.1.trans ?_, (h c).2.2.2⟩)
    (Cert.ReferenceAttnIdeal.Value.run (F := Ideal) m' ρ')
  all_goals
    clear h
    obtain ⟨h0, h1, h2⟩ := hagree c
  · exact Cert.Attn.Ref.result (Idealize.ShloMosaic.StableHlo.launchContents m' c) (X c) (G c) (H c)
      (h0.trans (hX c)) (h1.trans (hG c)) (h2.trans (hH c))
  · exact Cert.Attn.Ref.output (Idealize.ShloMosaic.StableHlo.launchContents m' c) (X c) (h0.trans (hX c))
  · exact Cert.Attn.Ref.rowLogs (Idealize.ShloMosaic.StableHlo.launchContents m' c) (X c) (h0.trans (hX c))

end Cert.Proof.Attn

end
-- ==== Proof.Pool.Payload.lean ====
/- `pool_bwd`: what the body's values are, entry by entry: sums over the rows before or after by doubling, the lanes' group
   and the row count as words, and the products with the four groups' weights. -/
module

public import proofs.«01_k».proof.Proof.Gen.KernelPoolIdeal.Frame
public import proofs.«01_k».proof.Proof.Reals
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem

namespace Cert.KernelPoolIdeal.Value

open Cert.KernelPoolIdeal Cert.KernelPoolIdeal.Gen Cert.Reals

/-! ## Sums over neighbouring rows, by doubling -/

/-- A block of rows, each added to the one a rotation brings beside it. -/
def addRot (b : BitVec 32) (x : FVec Ideal S528x256 .f32) : FVec Ideal S528x256 .f32 := addf x (dynamicRotate 0 b none x rotates_S528x256_d0)

section

variable (x : FVec Ideal S528x256 .f32) (r : Fin 528) (q : Fin 256)

theorem addRot_1 : (addRot 1#32 x (ix2 r q) : EReal) = x (ix2 r q) + x (ix2 ⟨(r.val + 528 - 1) % 528, by omega⟩ q) := by
  unfold addRot; pointwise
theorem addRot_2 : (addRot 2#32 x (ix2 r q) : EReal) = x (ix2 r q) + x (ix2 ⟨(r.val + 528 - 2) % 528, by omega⟩ q) := by
  unfold addRot; pointwise
theorem addRot_4 : (addRot 4#32 x (ix2 r q) : EReal) = x (ix2 r q) + x (ix2 ⟨(r.val + 528 - 4) % 528, by omega⟩ q) := by
  unfold addRot; pointwise
theorem addRot_8 : (addRot 8#32 x (ix2 r q) : EReal) = x (ix2 r q) + x (ix2 ⟨(r.val + 528 - 8) % 528, by omega⟩ q) := by
  unfold addRot; pointwise
theorem addRot_527 : (addRot 527#32 x (ix2 r q) : EReal) = x (ix2 r q) + x (ix2 ⟨(r.val + 528 - 527) % 528, by omega⟩ q) := by
  unfold addRot; pointwise
theorem addRot_526 : (addRot 526#32 x (ix2 r q) : EReal) = x (ix2 r q) + x (ix2 ⟨(r.val + 528 - 526) % 528, by omega⟩ q) := by
  unfold addRot; pointwise
theorem addRot_524 : (addRot 524#32 x (ix2 r q) : EReal) = x (ix2 r q) + x (ix2 ⟨(r.val + 528 - 524) % 528, by omega⟩ q) := by
  unfold addRot; pointwise
theorem addRot_520 : (addRot 520#32 x (ix2 r q) : EReal) = x (ix2 r q) + x (ix2 ⟨(r.val + 528 - 520) % 528, by omega⟩ q) := by
  unfold addRot; pointwise

end

variable {X : ℕ → EReal}

/-- Entries that are sums of `k` rows back, and of `k` rows on. -/
def Back (X : ℕ → EReal) (q : Fin 256) (k : ℕ) (x : FVec Ideal S528x256 .f32) : Prop :=
  ∀ r : Fin 528, k ≤ r.val + 1 → (x (ix2 r q) : EReal) = ∑ j ∈ Finset.range k, X (r.val - j)
def Ahead (X : ℕ → EReal) (q : Fin 256) (k : ℕ) (x : FVec Ideal S528x256 .f32) : Prop :=
  ∀ r : Fin 528, r.val + k ≤ 528 → (x (ix2 r q) : EReal) = ∑ j ∈ Finset.range k, X (r.val + j)

theorem Back.double {q : Fin 256} {k : ℕ} {x y : FVec Ideal S528x256 .f32} (h : Back X q k x) (hk : 0 < k)
    (hy : ∀ r : Fin 528, (y (ix2 r q) : EReal) = x (ix2 r q) + x (ix2 ⟨(r.val + 528 - k) % 528, by omega⟩ q)) : Back X q (k + k) y := by
  intro r hr
  have e : (r.val + 528 - k) % 528 = r.val - k := by omega
  rw [hy, h r (by omega), h _ (by show k ≤ (r.val + 528 - k) % 528 + 1; omega), Finset.sum_range_add]
  refine congrArg (fun z : EReal => _ + z) (Finset.sum_congr rfl fun j _ => ?_)
  show X ((r.val + 528 - k) % 528 - j) = X (r.val - (k + j))
  rw [e, Nat.sub_sub]

theorem Ahead.double {q : Fin 256} {k : ℕ} {x y : FVec Ideal S528x256 .f32} (h : Ahead X q k x) (hk : 0 < k)
    (hy : ∀ r : Fin 528, (y (ix2 r q) : EReal) = x (ix2 r q) + x (ix2 ⟨(r.val + 528 - (528 - k)) % 528, by omega⟩ q)) : Ahead X q (k + k) y := by
  intro r hr
  have e : (r.val + 528 - (528 - k)) % 528 = r.val + k := by omega
  rw [hy, h r (by omega), h _ (by show (r.val + 528 - (528 - k)) % 528 + k ≤ 528; omega), Finset.sum_range_add]
  refine congrArg (fun z : EReal => _ + z) (Finset.sum_congr rfl fun j _ => ?_)
  show X ((r.val + 528 - (528 - k)) % 528 + j) = X (r.val + (k + j))
  rw [e, Nat.add_assoc]

theorem Back.all {q : Fin 256} {x : FVec Ideal S528x256 .f32} (h : ∀ r : Fin 528, (x (ix2 r q) : EReal) = X r.val) :
    Back X q 2 (addRot 1#32 x) ∧ Back X q 4 (addRot 2#32 (addRot 1#32 x)) ∧ Back X q 8 (addRot 4#32 (addRot 2#32 (addRot 1#32 x)))
      ∧ Back X q 16 (addRot 8#32 (addRot 4#32 (addRot 2#32 (addRot 1#32 x)))) := by
  have h1 : Back X q 1 x := fun r _ => by rw [h r]; simp
  have h2 := h1.double Nat.one_pos fun r => addRot_1 x r q
  have h4 := h2.double (by decide) fun r => addRot_2 _ r q
  have h8 := h4.double (by decide) fun r => addRot_4 _ r q
  exact ⟨h2, h4, h8, h8.double (by decide) fun r => addRot_8 _ r q⟩

theorem Ahead.all {q : Fin 256} {x : FVec Ideal S528x256 .f32} (h : ∀ r : Fin 528, (x (ix2 r q) : EReal) = X r.val) :
    Ahead X q 2 (addRot 527#32 x) ∧ Ahead X q 4 (addRot 526#32 (addRot 527#32 x)) ∧ Ahead X q 8 (addRot 524#32 (addRot 526#32 (addRot 527#32 x)))
      ∧ Ahead X q 16 (addRot 520#32 (addRot 524#32 (addRot 526#32 (addRot 527#32 x)))) := by
  have h1 : Ahead X q 1 x := fun r _ => by rw [h r]; simp
  have h2 := h1.double Nat.one_pos fun r => addRot_527 x r q
  have h4 := h2.double (by decide) fun r => addRot_526 _ r q
  have h8 := h4.double (by decide) fun r => addRot_524 _ r q
  exact ⟨h2, h4, h8, h8.double (by decide) fun r => addRot_520 _ r q⟩

/-! ## The lanes' groups and the row counts -/

/-- A lane's group and its window. -/
def gp (q : Fin 256) : Fin 4 := ⟨q.val / 64, by omega⟩
def win (q : Fin 256) : ℕ := 2 ^ (q.val / 64 + 1)
/-- How many rows a window holds at row `t`. -/
def count (t : ℕ) (q : Fin 256) : ℝ := ((min (t + 1) (win q) : ℕ) : ℝ)

/-- The lane's group as the body computes it, a floor division by 64. -/
def laneWord (q : Fin 256) : BitVec 32 :=
  Scalar.select (IntOp.andi (IntOp.cmpi CmpIPredicate.ne
      (IntOp.subi (BitVec.setWidth 32 (IntOp.cmpi CmpIPredicate.sgt (BitVec.ofNat 32 q.val) 0#32))
        (BitVec.setWidth 32 (IntOp.cmpi CmpIPredicate.slt (BitVec.ofNat 32 q.val) 0#32)))
      (Scalar.subi (Scalar.extui (Scalar.cmpi CmpIPredicate.sgt 64#32 0#32)) (Scalar.extui (Scalar.cmpi CmpIPredicate.slt 64#32 0#32))))
    (IntOp.cmpi CmpIPredicate.ne (IntOp.remsi ArithUnit.vector (BitVec.ofNat 32 q.val) 64#32) 0#32))
    (IntOp.subi (IntOp.divsi ArithUnit.vector (BitVec.ofNat 32 q.val) 64#32) 1#32)
    (IntOp.divsi ArithUnit.vector (BitVec.ofNat 32 q.val) 64#32)

theorem laneWord_eq : ∀ q : Fin 256, laneWord q = BitVec.ofNat 32 (gp q).val := by decide +kernel

/-- A choice by group. -/
def pick {α : Type} (w : BitVec 32) (a b c d : α) : α :=
  Scalar.select (IntOp.cmpi CmpIPredicate.eq w 0#32) a (Scalar.select (IntOp.cmpi CmpIPredicate.eq w 1#32) b (Scalar.select (IntOp.cmpi CmpIPredicate.eq w 2#32) c d))

theorem pick_eq (P : ℕ → EReal → Prop) (q : Fin 256) (a b c d : EReal) (h2 : P 2 a) (h4 : P 4 b) (h8 : P 8 c) (h16 : P 16 d) :
    P (win q) (pick (laneWord q) a b c d) := by
  rw [laneWord_eq]
  have hg : ∀ g : Fin 4, P (2 ^ (g.val + 1)) (pick (BitVec.ofNat 32 g.val) a b c d) := by
    intro g; fin_cases g
    · exact h2
    · exact h4
    · exact h8
    · exact h16
  exact hg (gp q)

theorem count_word : ∀ (t : Fin 9) (p : Fin 512) (g : Fin 4),
    (IntOp.minsi (IntOp.addi (IntOp.addi (Scalar.muli (BitVec.ofNat 32 t.val) 512#32) (BitVec.ofNat 32 p.val)) 1#32)
      (pick (BitVec.ofNat 32 g.val) 2#32 4#32 8#32 16#32)).toInt = ((min (t.val * 512 + p.val + 1) (2 ^ (g.val + 1)) : ℕ) : ℤ) := by decide +kernel

theorem count_at (t : Fin 9) (p : Fin 512) (q : Fin 256) :
    (FloatOps.sitofp (F := Ideal) FTy.f32 (IntOp.minsi (IntOp.addi (IntOp.addi (Scalar.muli (BitVec.ofNat 32 t.val) 512#32) (BitVec.ofNat 32 p.val)) 1#32)
      (pick (laneWord q) 2#32 4#32 8#32 16#32)) : EReal) = ((count (t.val * 512 + p.val) q : ℝ) : EReal) := by
  rw [laneWord_eq]
  show (((IntOp.minsi _ _ : BitVec 32).toInt : ℝ) : EReal) = _
  rw [count_word]
  rfl

/-! ## The payloads -/

theorem pooled_at (t : Fin 9) (u : FVec Ideal S512x256 .f32) (s2 s4 s8 s16 : FVec Ideal S528x256 .f32) (p : Fin 512) (q : Fin 256) :
    ((k0_pay10 (BitVec.ofNat 32 t.val) u s2 s4 s8 s16 k0_pay8 k0_pay9 : FVec Ideal S512x256 .bf16) (ix2 p q) : EReal)
      = Ideal.div (pick (laneWord q) (s2 (ix2 ⟨16 + p.val, by omega⟩ q)) (s4 (ix2 ⟨16 + p.val, by omega⟩ q)) (s8 (ix2 ⟨16 + p.val, by omega⟩ q)) (s16 (ix2 ⟨16 + p.val, by omega⟩ q)))
        ((count (t.val * 512 + p.val) q : ℝ) : EReal) - u (ix2 p q) := by
  rw [← count_at]
  pointwise [k0_pay10, k0_pay8, k0_pay9]
  rfl

theorem scaled_at (d : FVec Ideal S512x256 .f32) (s : FVec Ideal S1x256 .f32) (p : Fin 512) (q : Fin 256) :
    ((k0_pay12 d s : FVec Ideal S512x256 .bf16) (ix2 p q) : EReal) = d (ix2 p q) * s (ix2 0 q) := by
  pointwise [k0_pay12]

theorem dsc_at (P : FVec Ideal S512x256 .bf16) (d : FVec Ideal S512x256 .f32) (a : FVec Ideal S1x256 .f32) (w : FVec Ideal S256x256 .bf16) (q : Fin 256) :
    ((k0_pay11 P d a w : FVec Ideal S1x256 .f32) (ix2 0 q) : EReal)
      = a (ix2 0 q) + ∑ p : Fin 512, d (ix2 p q) * ∑ k : Fin 256, P (ix2 p k) * w (ix2 k q) := by
  pointwise [k0_pay11]

theorem dw_at (P : FVec Ideal S512x256 .bf16) (d : FVec Ideal S512x256 .f32) (s : FVec Ideal S1x256 .f32) (a : FVec Ideal S256x256 .f32) (k q : Fin 256) :
    ((k0_pay13 P d s a : FVec Ideal S256x256 .f32) (ix2 k q) : EReal)
      = a (ix2 k q) + ∑ p : Fin 512, P (ix2 p k) * (d (ix2 p q) * s (ix2 0 q)) := by
  pointwise [k0_pay13, k0_pay12]

theorem dpool_at (d : FVec Ideal S512x256 .f32) (s : FVec Ideal S1x256 .f32) (w : FVec Ideal S256x256 .bf16) (p : Fin 512) (k : Fin 256) :
    ((k0_pay14 d s w : FVec Ideal S512x256 .f32) (ix2 p k) : EReal) = ∑ q : Fin 256, d (ix2 p q) * s (ix2 0 q) * w (ix2 k q) := by
  pointwise [k0_pay14, k0_pay12]

/-- The cotangent of the pooled rows after the block, of the next block's first rows: zero past the end. -/
theorem next_at (t : Fin 8) (n : FVec Ideal S16x256 .f32) (s : FVec Ideal S1x256 .f32) (p : Fin 16) (q : Fin 256) :
    ((k0_pay19 (BitVec.ofNat 32 t.val) n s : FVec Ideal S16x256 .bf16) (ix2 p q) : EReal) = n (ix2 p q) * (if t.val = 7 then 0 else 1) * s (ix2 0 q) := by
  have e : ∀ t : Fin 8, (Scalar.extui (Scalar.cmpi CmpIPredicate.slt (BitVec.ofNat 32 t.val) 7#32) : BitVec 32).toInt = (if t.val = 7 then 0 else 1) := by
    decide +kernel
  pointwise [k0_pay19]
  rw [e]
  split_ifs <;> simp

/-! ## The input's gradient -/

theorem group_at (p : Fin 512) (q : Fin 256) :
    k0_pay17 (iota .tc S512x256 32 [1] iota_S512x256_d1_w32) 64#32 k0_pay15 k0_pay16 1#32 0#32 (ix2 p q) = laneWord q := by
  pointwise [k0_pay17, k0_pay15, k0_pay16]; rfl

theorem rows_at (t : Fin 9) (p : Fin 512) (q : Fin 256) :
    ((k0_pay18 (BitVec.ofNat 32 t.val) (iota .tc S512x256 32 [1] iota_S512x256_d1_w32) 64#32 k0_pay15 k0_pay16 1#32 0#32 : FVec Ideal S512x256 .f32) (ix2 p q) : EReal)
      = ((count (t.val * 512 + p.val) q : ℝ) : EReal) := by
  rw [← count_at]
  pointwise [k0_pay18]
  rw [group_at]
  rfl

theorem next_word : ∀ (t : Fin 8) (p : Fin 16) (g : Fin 4),
    (IntOp.minsi (IntOp.addi (IntOp.addi (Scalar.muli (Scalar.addi (BitVec.ofNat 32 t.val) 1#32) 512#32) (BitVec.ofNat 32 p.val)) 1#32)
      (pick (BitVec.ofNat 32 g.val) 2#32 4#32 8#32 16#32)).toInt = ((min ((t.val + 1) * 512 + p.val + 1) (2 ^ (g.val + 1)) : ℕ) : ℤ) := by decide +kernel

/-- What is summed: own rows' cotangents over their counts, then the next block's first rows'. -/
def base (v106 v152 : FVec Ideal S512x256 .f32) (v163 : FVec Ideal S16x256 .bf16) (v193 v206 v207 : IVec S16x256 32) (v211 : FVec Ideal S256x256 .bf16) : FVec Ideal S528x256 .f32 :=
  concatenate S528x256 0 [⟨S512x256, divf v106 v152⟩, ⟨S16x256, divf (matmul dot_S16x256_S256x256_S16x256_1_1_0_0_n_n none v163
    (shapeCast S256x256 v211 shapeCasts_S256x256_S256x256) (constant S16x256 .f32 0x00000000#32)) (sitofp .f32 (minsi (addi v193 v207) v206))⟩] concatenates_S512x256_S16x256_S528x256_d0

/-- The choice of a window's sum by group, less the cotangent itself. -/
def choose (v131 : IVec S512x256 32) (v106 : FVec Ideal S512x256 .f32) (a b c d : FVec Ideal S528x256 .f32) : FVec Ideal S512x256 .f32 :=
  shapeCast S512x256 (subf (select (cmpi .eq v131 (broadcast S512x256 0#32)) (extractStridedSlice S512x256 ![0, 0] a slices_S528x256_o0_0_S512x256)
    (select (cmpi .eq v131 (broadcast S512x256 1#32)) (extractStridedSlice S512x256 ![0, 0] b slices_S528x256_o0_0_S512x256)
      (select (cmpi .eq v131 (broadcast S512x256 2#32)) (extractStridedSlice S512x256 ![0, 0] c slices_S528x256_o0_0_S512x256)
        (extractStridedSlice S512x256 ![0, 0] d slices_S528x256_o0_0_S512x256)))) v106) shapeCasts_S512x256_S512x256

theorem choose_at (v131 : IVec S512x256 32) (v106 : FVec Ideal S512x256 .f32) (a b c d : FVec Ideal S528x256 .f32) (p : Fin 512) (q : Fin 256) :
    (choose v131 v106 a b c d (ix2 p q) : EReal) = pick (v131 (ix2 p q)) (a (ix2 ⟨p.val, by omega⟩ q)) (b (ix2 ⟨p.val, by omega⟩ q))
      (c (ix2 ⟨p.val, by omega⟩ q)) (d (ix2 ⟨p.val, by omega⟩ q)) - v106 (ix2 p q) := by
  unfold choose
  pointwise
  rfl

/-- The rows `base` holds, of one lane. -/
def rowsOf (t : ℕ) (A : FVec Ideal S512x256 .f32) (N : FVec Ideal S16x256 .bf16) (w : FVec Ideal S256x256 .bf16) (q : Fin 256) (r : ℕ) : EReal :=
  if h : r < 512 then Ideal.div (A (ix2 ⟨r, h⟩ q)) ((count (t * 512 + r) q : ℝ) : EReal)
  else if h' : r - 512 < 16 then Ideal.div (∑ k : Fin 256, N (ix2 ⟨r - 512, h'⟩ k) * w (ix2 q k)) ((count ((t + 1) * 512 + (r - 512)) q : ℝ) : EReal) else 0

theorem du_at (t : Fin 8) (A : FVec Ideal S512x256 .f32) (N : FVec Ideal S16x256 .bf16) (w : FVec Ideal S256x256 .bf16) (p : Fin 512) (q : Fin 256) :
    ((k0_pay1 A (k0_pay17 (iota .tc S512x256 32 [1] iota_S512x256_d1_w32) 64#32 k0_pay15 k0_pay16 1#32 0#32)
      (k0_pay18 (BitVec.ofNat 32 t.val) (iota .tc S512x256 32 [1] iota_S512x256_d1_w32) 64#32 k0_pay15 k0_pay16 1#32 0#32) N
      (k0_pay20 (BitVec.ofNat 32 t.val) 1#32) k0_pay21 k0_pay22 w : FVec Ideal S512x256 .f32) (ix2 p q) : EReal)
      = (∑ j ∈ Finset.range (win q), rowsOf t.val A N w q (p.val + j)) - A (ix2 p q) := by
  have hb : ∀ r : Fin 528, (base A (k0_pay18 (BitVec.ofNat 32 t.val) (iota .tc S512x256 32 [1] iota_S512x256_d1_w32) 64#32 k0_pay15 k0_pay16 1#32 0#32) N
      (k0_pay20 (BitVec.ofNat 32 t.val) 1#32) k0_pay21 k0_pay22 w (ix2 r q) : EReal) = rowsOf t.val A N w q r.val := by
    intro r
    have hc : ∀ p : Fin 16, (FloatOps.sitofp (F := Ideal) FTy.f32 (IntOp.minsi (IntOp.addi (IntOp.addi (Scalar.muli (Scalar.addi (BitVec.ofNat 32 t.val) 1#32) 512#32) (BitVec.ofNat 32 p.val)) 1#32)
        (pick (laneWord q) 2#32 4#32 8#32 16#32)) : EReal) = ((count ((t.val + 1) * 512 + p.val) q : ℝ) : EReal) := by
      intro p
      rw [laneWord_eq]
      show (((IntOp.minsi _ _ : BitVec 32).toInt : ℝ) : EReal) = _
      rw [next_word]
      rfl
    unfold base rowsOf
    pointwise [k0_pay20, k0_pay21, k0_pay22]
    by_cases h : r.val < 512
    · rw [dif_pos h, dif_pos h]
      exact congrArg (Ideal.div _) (rows_at ⟨t.val, by omega⟩ _ q)
    · rw [dif_neg h, dif_neg h, dif_pos (by omega)]
      exact congrArg (Ideal.div _) (hc ⟨r.val - 512, by omega⟩)
  obtain ⟨h2, h4, h8, h16⟩ := Ahead.all hb
  refine Eq.trans (b := choose _ A (addRot 527#32 _) (addRot 526#32 (addRot 527#32 _)) (addRot 524#32 (addRot 526#32 (addRot 527#32 _)))
    (addRot 520#32 (addRot 524#32 (addRot 526#32 (addRot 527#32 (base A _ N _ _ _ w))))) (ix2 p q)) rfl ?_
  rw [choose_at, group_at]
  refine congrArg (fun z : EReal => z - A (ix2 p q)) ?_
  exact pick_eq (fun k y => y = ∑ j ∈ Finset.range k, rowsOf t.val A N w q (p.val + j)) q _ _ _ _
    (h2 _ (by show p.val + 2 ≤ 528; omega)) (h4 _ (by show p.val + 4 ≤ 528; omega)) (h8 _ (by show p.val + 8 ≤ 528; omega)) (h16 _ (by show p.val + 16 ≤ 528; omega))

/-! ## The pooled rows -/

/-- A block with its halo in front. -/
def front (w : BitVec 32) (halo : FVec Ideal S16x256 .f32) (u : FVec Ideal S512x256 .f32) : FVec Ideal S528x256 .f32 :=
  concatenate S528x256 0 [⟨S16x256, mulf halo (broadcast S16x256 (Scalar.sitofp .f32 (Scalar.extui (Scalar.cmpi CmpIPredicate.sgt w 0#32))))⟩, ⟨S512x256, u⟩]
    concatenates_S16x256_S512x256_S528x256_d0

/-- The rows it holds, of one lane. -/
def rowsBefore (g : ℕ) (halo : FVec Ideal S16x256 .f32) (u : FVec Ideal S512x256 .f32) (q : Fin 256) (r : ℕ) : EReal :=
  if h : r < 16 then (if g = 0 then 0 else halo (ix2 ⟨r, h⟩ q)) else if h' : r - 16 < 512 then u (ix2 ⟨r - 16, h'⟩ q) else 0

theorem front_at (t : Fin 8) (halo : FVec Ideal S16x256 .f32) (u : FVec Ideal S512x256 .f32) (q : Fin 256) (r : Fin 528) :
    (front (BitVec.ofNat 32 t.val) halo u (ix2 r q) : EReal) = rowsBefore t.val halo u q r.val := by
  have e : ∀ t : Fin 8, (Scalar.extui (Scalar.cmpi CmpIPredicate.sgt (BitVec.ofNat 32 t.val) 0#32) : BitVec 32).toInt = (if t.val = 0 then 0 else 1) := by
    decide +kernel
  unfold front rowsBefore
  pointwise
  by_cases h : r.val < 16
  · rw [dif_pos h, dif_pos h]
    refine (congrArg (fun z : ℤ => halo (ix2 ⟨r.val, h⟩ q) * (((z : ℝ)) : EReal)) (e t)).trans ?_
    split_ifs <;> simp
  · rw [dif_neg h, dif_neg h, dif_pos (by omega)]

theorem pool_rows (t : Fin 8) (halo : FVec Ideal S16x256 .f32) (u : FVec Ideal S512x256 .f32) (p : Fin 512) (q : Fin 256) :
    ((k0_pay10 (BitVec.ofNat 32 t.val) u (addRot 1#32 (front (BitVec.ofNat 32 t.val) halo u)) (addRot 2#32 (addRot 1#32 (front (BitVec.ofNat 32 t.val) halo u)))
      (addRot 4#32 (addRot 2#32 (addRot 1#32 (front (BitVec.ofNat 32 t.val) halo u))))
      (addRot 8#32 (addRot 4#32 (addRot 2#32 (addRot 1#32 (front (BitVec.ofNat 32 t.val) halo u))))) k0_pay8 k0_pay9 : FVec Ideal S512x256 .bf16) (ix2 p q) : EReal)
      = Ideal.div (∑ j ∈ Finset.range (win q), rowsBefore t.val halo u q (16 + p.val - j)) ((count (t.val * 512 + p.val) q : ℝ) : EReal) - u (ix2 p q) := by
  obtain ⟨h2, h4, h8, h16⟩ := Back.all (front_at t halo u q)
  refine (pooled_at ⟨t.val, by omega⟩ u _ _ _ _ p q).trans ?_
  refine congrArg (fun z : EReal => Ideal.div z _ - u (ix2 p q)) ?_
  exact pick_eq (fun k y => y = ∑ j ∈ Finset.range k, rowsBefore t.val halo u q (16 + p.val - j)) q _ _ _ _
    (h2 _ (by show 2 ≤ 16 + p.val + 1; omega)) (h4 _ (by show 4 ≤ 16 + p.val + 1; omega)) (h8 _ (by show 8 ≤ 16 + p.val + 1; omega)) (h16 _ (by show 16 ≤ 16 + p.val + 1; omega))

end Cert.KernelPoolIdeal.Value

end
-- ==== Proof.Pool.Value.lean ====
/- `pool_bwd`: what the kernel's three result arrays hold. Grid point `t` handles rows `512 t … 512 t + 511`, with the
   previous point's last rows of the input and the next point's first rows of the cotangent beside its own. -/
module

public import proofs.«01_k».proof.Proof.Pool.Payload
public import Idealize.ShloMosaic.Lib.StableHlo.RunRead

@[expose] public section

set_option maxRecDepth 16384

noncomputable section

open Idealize.ShloMosaic Idealize.ShloMosaic.TcCoe Idealize.SL.Sem
open Idealize.ShloMosaic.Pipeline (Dat)

namespace Cert.KernelPoolIdeal.Value

open Cert.KernelPoolIdeal Cert.KernelPoolIdeal.Gen Cert.Reals

/-! ## The results, of the arguments -/

/-- A column of rows, continued by zero past the end. -/
def ext (f : Fin 4096 → EReal) (t : ℕ) : EReal := if h : t < 4096 then f ⟨t, h⟩ else 0

/-- A row's mean over its window, less the row. -/
def pooled (u : FVec Ideal S4096x256 .f32) (i : Fin 4096) (q : Fin 256) : EReal :=
  Ideal.div (∑ j ∈ Finset.range (win q), if j ≤ i.val then ext (fun s => u (ix2 s q)) (i.val - j) else 0) ((count i.val q : ℝ) : EReal) - u (ix2 i q)

/-- The four groups' weights as one matrix, zero between groups. -/
def blocks (w : FVec Ideal S4x64x64 .f32) (c d : Fin 256) : EReal :=
  if c.val / 64 = d.val / 64 then w (ix3 ⟨c.val / 64, by omega⟩ ⟨c.val % 64, by omega⟩ ⟨d.val % 64, by omega⟩) else 0

/-- The cotangent of the pooled rows. -/
def dpool (w : FVec Ideal S4x64x64 .f32) (s : FVec Ideal S256 .f32) (d : FVec Ideal S4096x256 .f32) (i : Fin 4096) (c : Fin 256) : EReal :=
  ∑ k : Fin 256, d (ix2 i k) * s (ix1 k) * blocks w c k

/-- The input's gradient: the cotangents of the windows a row is in, each over its count, less its own. -/
def du (w : FVec Ideal S4x64x64 .f32) (s : FVec Ideal S256 .f32) (d : FVec Ideal S4096x256 .f32) : FVec Ideal S4096x256 .f32 := fun y =>
  (∑ j ∈ Finset.range (win (y 1)), ext (fun i => Ideal.div (dpool w s d i (y 1)) ((count i.val (y 1) : ℝ) : EReal)) ((y 0).val + j)) - dpool w s d (y 0) (y 1)

theorem du_ix (w : FVec Ideal S4x64x64 .f32) (s : FVec Ideal S256 .f32) (d : FVec Ideal S4096x256 .f32) (i : Fin 4096) (q : Fin 256) :
    du w s d (ix2 i q) = (∑ j ∈ Finset.range (win q), ext (fun i => Ideal.div (dpool w s d i q) ((count i.val q : ℝ) : EReal)) (i.val + j)) - dpool w s d i q := rfl

/-- The gradient of the matrix of weights, and the weights' own: its diagonal blocks. -/
def dwp (u : FVec Ideal S4096x256 .f32) (s : FVec Ideal S256 .f32) (d : FVec Ideal S4096x256 .f32) : FVec Ideal S256x256 .f32 := fun y =>
  ∑ i : Fin 4096, pooled u i (y 0) * (d (ix2 i (y 1)) * s (ix1 (y 1)))
def dw (u : FVec Ideal S4096x256 .f32) (s : FVec Ideal S256 .f32) (d : FVec Ideal S4096x256 .f32) : FVec Ideal S4x64x64 .f32 := fun y =>
  dwp u s d (ix2 ⟨(y 0).val * 64 + (y 1).val, by have := (y 0).isLt; have := (y 1).isLt; change (y 0).val < 4 at *; change (y 1).val < 64 at *; omega⟩
    ⟨(y 0).val * 64 + (y 2).val, by have := (y 0).isLt; have := (y 2).isLt; change (y 0).val < 4 at *; change (y 2).val < 64 at *; omega⟩)

/-- The scale's gradient. -/
def dsc (u : FVec Ideal S4096x256 .f32) (w : FVec Ideal S4x64x64 .f32) (d : FVec Ideal S4096x256 .f32) : FVec Ideal S1x256 .f32 := fun y =>
  ∑ i : Fin 4096, d (ix2 i (y 1)) * ∑ k : Fin 256, pooled u i k * blocks w k (y 1)

/-! ## The blocks -/

variable (m : (ℓ : Loc nD τ sig) → Buf (Elt Ideal) ℓ)

/-- The arguments of device `c`. -/
def U (c : Dev nD) : FVec Ideal S4096x256 .f32 := m ((c : Thread nD τ).loc main_arg0)
def Wt (c : Dev nD) : FVec Ideal S4x64x64 .f32 := m ((c : Thread nD τ).loc main_arg1)
def Sc (c : Dev nD) : FVec Ideal S256 .f32 := m ((c : Thread nD τ).loc main_arg2)
def Dy (c : Dev nD) : FVec Ideal S4096x256 .f32 := m ((c : Thread nD τ).loc main_arg3)

theorem idx : ∀ t : Fin cfg0.N, win0_0.index t = ![t.val, 0] ∧ win0_1.index t = ![t.val * 32 - 1, 0] ∧ win0_2.index t = ![0, 0]
    ∧ win0_3.index t = ![0, 0] ∧ win0_4.index t = ![t.val, 0] ∧ win0_5.index t = ![min (t.val * 32 + 32) 255, 0] ∧ win0_6.index t = ![t.val, 0]
    ∧ t.val < 8 ∧ (grid0.coords t 0).val = t.val :=
  (by decide +kernel : ∀ t : Fin grid0.N, _)

theorem lt8 (t : Fin cfg0.N) : t.val < 8 := (idx t).2.2.2.2.2.2.2.1
theorem word (t : Fin cfg0.N) : (grid0.coords t 0).val = t.val := (idx t).2.2.2.2.2.2.2.2

/-- Row `a` of point `t`'s block is row `512 t + a` of the array. -/
def row (t : Fin cfg0.N) (a : Fin 512) : Fin 4096 := ⟨t.val * 512 + a.val, by have := lt8 t; omega⟩

theorem blk0 (c : Dev nD) (t : Fin cfg0.N) (a : Fin 512) (b : Fin 256) :
    (iblk m c 0 t : FVec Ideal S512x256 .f32) (ix2 a b) = U m c (ix2 (row t a) b) := by
  unfold U
  blk_simp [iblk, V, row, idx t]
  blk_ext [idx t]

theorem blk1 (c : Dev nD) (t : Fin cfg0.N) (a : Fin 16) (b : Fin 256) :
    (iblk m c 1 t : FVec Ideal S16x256 .f32) (ix2 a b) = U m c (ix2 ⟨(t.val * 32 - 1) * 16 + a.val, by have := lt8 t; omega⟩ b) := by
  unfold U
  blk_simp [iblk, V, idx t]
  blk_ext [idx t]

theorem blk4 (c : Dev nD) (t : Fin cfg0.N) (a : Fin 512) (b : Fin 256) :
    (iblk m c 4 t : FVec Ideal S512x256 .f32) (ix2 a b) = Dy m c (ix2 (row t a) b) := by
  unfold Dy
  blk_simp [iblk, V, row, idx t]
  blk_ext [idx t]

theorem blk5 (c : Dev nD) (t : Fin cfg0.N) (a : Fin 16) (b : Fin 256) :
    (iblk m c 5 t : FVec Ideal S16x256 .f32) (ix2 a b) = Dy m c (ix2 ⟨min (t.val * 32 + 32) 255 * 16 + a.val, by have := lt8 t; omega⟩ b) := by
  unfold Dy
  blk_simp [iblk, V, idx t]
  blk_ext [idx t]

theorem blk3 (c : Dev nD) (t : Fin cfg0.N) (b : Fin 256) :
    (iblk m c 3 t : FVec Ideal S1x256 .f32) (ix2 0 b) = Sc m c (ix1 b) := by
  have hV : V m c main_v14 = shapeCast S1x256 (Sc m c) shapeCasts_S256_S1x256 := by
    show StableHlo.after (hostOps0 ++ (hostOps0_1 ++ (hostOps0_2 ++ (hostOps0_3 ++ (hostOps0_4 ++ (hostOps0_5 ++ (hostOps0_6 ++ (hostOps0_7 ++ (hostOps0_8 ++ []))))))))) _ _ = _
    simp only [List.cons_append, List.nil_append]
    entry_read
    rfl
  blk_simp [iblk, idx t]
  show V m c main_v14 _ = _
  rw [hV]
  have he : (((View.whole main_v14).slice (win0_3.rect t)).emb (ix2 0 b)) = (ix2 0 b : S1x256.Idx) := by blk_ext [idx t]
  rw [he]
  pointwise

/-- One group's weights, padded to the width of all. -/
def padded (g : Fin 4) (w : FVec Ideal S4x64x64 .f32) : FVec Ideal S64x256 .f32 :=
  match g with
  | 0 => pad S64x256 ![0, 0] ![0, 192] ![0, 0] (shapeCast S64x64 (extractStridedSlice S1x64x64 ![0, 0, 0] w slices_S4x64x64_S1x64x64_0_0_0) shapeCasts_S1x64x64_S64x64)
      (sitofp .f32 (constantI S_ 32 0#32) : FVec Ideal S_ .f32) pads_S64x64_S64x256_000_01920 h_S_
  | 1 => pad S64x256 ![0, 64] ![0, 128] ![0, 0] (shapeCast S64x64 (extractStridedSlice S1x64x64 ![1, 0, 0] w slices_S4x64x64_S1x64x64_1_0_0) shapeCasts_S1x64x64_S64x64)
      (sitofp .f32 (constantI S_ 32 0#32) : FVec Ideal S_ .f32) pads_S64x64_S64x256_000_641280 h_S_
  | 2 => pad S64x256 ![0, 128] ![0, 64] ![0, 0] (shapeCast S64x64 (extractStridedSlice S1x64x64 ![2, 0, 0] w slices_S4x64x64_S1x64x64_2_0_0) shapeCasts_S1x64x64_S64x64)
      (sitofp .f32 (constantI S_ 32 0#32) : FVec Ideal S_ .f32) pads_S64x64_S64x256_000_128640 h_S_
  | 3 => pad S64x256 ![0, 192] ![0, 0] ![0, 0] (shapeCast S64x64 (extractStridedSlice S1x64x64 ![3, 0, 0] w slices_S4x64x64_S1x64x64_3_0_0) shapeCasts_S1x64x64_S64x64)
      (sitofp .f32 (constantI S_ 32 0#32) : FVec Ideal S_ .f32) pads_S64x64_S64x256_000_19200 h_S_

theorem padded_at (g : Fin 4) (w : FVec Ideal S4x64x64 .f32) (a : Fin 64) (d : Fin 256) :
    (padded g w (ix2 a d) : EReal) = if g.val = d.val / 64 then w (ix3 g a ⟨d.val % 64, by omega⟩) else 0 := by
  have hz : (FloatOps.sitofp (F := Ideal) FTy.f32 0#32 : EReal) = 0 := by
    show (((0#32 : BitVec 32).toInt : ℝ) : EReal) = 0
    simp
  have hd := d.isLt
  fin_cases g <;> simp only [padded] <;> pointwise
  · split_ifs with h h' h'
    · congr 2; apply Fin.ext; show d.val = d.val % 64; omega
    · exact absurd (show (0 : ℕ) = d.val / 64 by omega) h'
    · exact absurd (show (0 : ℕ) = d.val / 64 from h') (by omega)
    · exact hz
  · split_ifs with h h' h'
    · congr 2; apply Fin.ext; show d.val - 64 = d.val % 64; omega
    · exact absurd (show (1 : ℕ) = d.val / 64 by omega) h'
    · exact absurd (show (1 : ℕ) = d.val / 64 from h') (by omega)
    · exact hz
  · split_ifs with h h' h'
    · congr 2; apply Fin.ext; show d.val - 128 = d.val % 64; omega
    · exact absurd (show (2 : ℕ) = d.val / 64 by omega) h'
    · exact absurd (show (2 : ℕ) = d.val / 64 from h') (by omega)
    · exact hz
  · split_ifs with h h' h'
    · congr 2; apply Fin.ext; show d.val - 192 = d.val % 64; omega
    · exact absurd (show (3 : ℕ) = d.val / 64 by omega) h'
    · exact absurd (show (3 : ℕ) = d.val / 64 from h') (by omega)
    · exact hz

/-- The four of them, one below another. -/
def joined (a b c d : FVec Ideal S64x256 .f32) : FVec Ideal S256x256 .bf16 :=
  truncf .bf16 (concatenate S256x256 0 [⟨S64x256, a⟩, ⟨S64x256, b⟩, ⟨S64x256, c⟩, ⟨S64x256, d⟩] concatenates_S64x256_S64x256_S64x256_S64x256_S256x256_d0) bitsLt_bf16_f32

theorem joined_at (w : FVec Ideal S4x64x64 .f32) (a b : Fin 256) :
    (joined (padded 0 w) (padded 1 w) (padded 2 w) (padded 3 w) (ix2 a b) : EReal) = blocks w a b := by
  unfold joined
  pointwise
  simp only [padded_at]
  unfold blocks
  have ha := a.isLt
  by_cases h0 : a.val < 64
  · rw [dif_pos h0]
    have e : a.val / 64 = 0 := by omega
    refine if_congr (by rw [e]; rfl) ?_ rfl
    congr 2 <;> apply Fin.ext <;> simp only [Fin.val_zero] <;> omega
  rw [dif_neg h0]
  by_cases h1 : a.val - 64 < 64
  · rw [dif_pos h1]
    have e : a.val / 64 = 1 := by omega
    refine if_congr (by rw [e]; rfl) ?_ rfl
    congr 2 <;> apply Fin.ext <;> simp only [Fin.val_one] <;> omega
  rw [dif_neg h1]
  by_cases h2 : a.val - 64 - 64 < 64
  · rw [dif_pos h2]
    have e : a.val / 64 = 2 := by omega
    refine if_congr (by rw [e]; rfl) ?_ rfl
    congr 2 <;> apply Fin.ext <;> simp only [Fin.val_two] <;> omega
  rw [dif_neg h2]
  have e : a.val / 64 = 3 := by omega
  refine if_congr (by rw [e]; rfl) ?_ rfl
  congr 2 <;> apply Fin.ext
  · show 3 = a.val / 64; omega
  · show a.val - 64 - 64 - 64 = a.val % 64; omega

set_option maxHeartbeats 2000000 in
theorem blk2 (c : Dev nD) (t : Fin cfg0.N) (a b : Fin 256) :
    (iblk m c 2 t : FVec Ideal S256x256 .bf16) (ix2 a b) = blocks (Wt m c) a b := by
  have hV : V m c main_v13 = joined (padded 0 (Wt m c)) (padded 1 (Wt m c)) (padded 2 (Wt m c)) (padded 3 (Wt m c)) := by
    show StableHlo.after (hostOps0 ++ (hostOps0_1 ++ (hostOps0_2 ++ (hostOps0_3 ++ (hostOps0_4 ++ (hostOps0_5 ++ (hostOps0_6 ++ (hostOps0_7 ++ (hostOps0_8 ++ []))))))))) _ _ = _
    simp only [List.cons_append, List.nil_append]
    after_reads_simp
    rfl
  blk_simp [iblk, idx t]
  show V m c main_v13 _ = _
  rw [hV]
  have he : (((View.whole main_v13).slice (win0_2.rect t)).emb (ix2 a b)) = (ix2 a b : S256x256.Idx) := by blk_ext [idx t]
  rw [he]
  exact joined_at _ a b

/-! ## What the points store -/

theorem win_le (q : Fin 256) : win q ≤ 16 := by
  unfold win
  exact (Nat.pow_le_pow_right (by decide) (show q.val / 64 + 1 ≤ 4 by omega)).trans (by decide)

theorem win_pos (q : Fin 256) : 0 < win q := Nat.pow_pos (by decide)

theorem count_ne (i : ℕ) (q : Fin 256) : count i q ≠ 0 := by
  unfold count
  have := win_pos q
  exact_mod_cast (by omega : min (i + 1) (win q) ≠ 0)

theorem coordWord (t : Fin cfg0.N) : BitVec.ofNat 32 (grid0.coords t 0).val = BitVec.ofNat 32 t.val := by rw [word]

/-- The pooled rows of point `t`. -/
def P (c : Dev nD) (t : Fin cfg0.N) : FVec Ideal S512x256 .bf16 :=
  k0_pay10 (BitVec.ofNat 32 (grid0.coords t 0).val) (iblk m c 0 t) (k0_pay4 (grid0.coords t) (iblk m c 1 t) (iblk m c 0 t)) (k0_pay5 (grid0.coords t) (iblk m c 1 t) (iblk m c 0 t))
    (k0_pay6 (grid0.coords t) (iblk m c 1 t) (iblk m c 0 t)) (k0_pay7 (grid0.coords t) (iblk m c 1 t) (iblk m c 0 t)) k0_pay8 k0_pay9

theorem P_at (c : Dev nD) (t : Fin cfg0.N) (p : Fin 512) (q : Fin 256) : (P m c t (ix2 p q) : EReal) = pooled (U m c) (row t p) q := by
  have ht := lt8 t
  have hr : (row t p).val = t.val * 512 + p.val := rfl
  refine Eq.trans (b := k0_pay10 (BitVec.ofNat 32 (grid0.coords t 0).val) (iblk m c 0 t)
    (addRot 1#32 (front (BitVec.ofNat 32 (grid0.coords t 0).val) (iblk m c 1 t) (iblk m c 0 t)))
    (addRot 2#32 (addRot 1#32 (front (BitVec.ofNat 32 (grid0.coords t 0).val) (iblk m c 1 t) (iblk m c 0 t))))
    (addRot 4#32 (addRot 2#32 (addRot 1#32 (front (BitVec.ofNat 32 (grid0.coords t 0).val) (iblk m c 1 t) (iblk m c 0 t)))))
    (addRot 8#32 (addRot 4#32 (addRot 2#32 (addRot 1#32 (front (BitVec.ofNat 32 (grid0.coords t 0).val) (iblk m c 1 t) (iblk m c 0 t)))))) k0_pay8 k0_pay9 (ix2 p q)) rfl ?_
  rw [coordWord]
  refine (pool_rows ⟨t.val, lt8 t⟩ (iblk m c 1 t) (iblk m c 0 t) p q).trans ?_
  unfold pooled
  rw [blk0, hr]
  refine congrArg (fun z : EReal => Ideal.div z _ - _) (Finset.sum_congr rfl fun j hj => ?_)
  have hj' : j < 16 := lt_of_lt_of_le (Finset.mem_range.mp hj) (win_le q)
  simp only [rowsBefore, ext]
  by_cases h : j ≤ p.val
  · rw [dif_neg (by omega), dif_pos (by omega), if_pos (by omega), dif_pos (by omega), blk0]
    congr 2; apply Fin.ext; simp only [row]; omega
  · rw [dif_pos (by omega)]
    by_cases h0 : t.val = 0
    · rw [if_pos h0, if_neg (by omega)]
    · rw [if_neg h0, if_pos (by omega), dif_pos (by omega), blk1]
      congr 2; apply Fin.ext; simp only; omega

theorem A_at (c : Dev nD) (t : Fin cfg0.N) (p : Fin 512) (q : Fin 256) :
    ((k0_pay14 (iblk m c 4 t) (iblk m c 3 t) (iblk m c 2 t) : FVec Ideal S512x256 .f32) (ix2 p q) : EReal) = dpool (Wt m c) (Sc m c) (Dy m c) (row t p) q := by
  refine (dpool_at _ _ _ p q).trans (Finset.sum_congr rfl fun k _ => ?_)
  rw [blk4, blk3, blk2]

/-- What point `t` stores in the input-gradient block. -/
def stored (c : Dev nD) (t : Fin cfg0.N) : FVec Ideal S512x256 .f32 :=
  k0_pay1 (k0_pay14 (iblk m c 4 t) (iblk m c 3 t) (iblk m c 2 t)) (k0_pay17 (iota .tc S512x256 32 [1] iota_S512x256_d1_w32) 64#32 k0_pay15 k0_pay16 1#32 0#32)
    (k0_pay18 (BitVec.ofNat 32 (grid0.coords t 0).val) (iota .tc S512x256 32 [1] iota_S512x256_d1_w32) 64#32 k0_pay15 k0_pay16 1#32 0#32)
    (k0_pay19 (BitVec.ofNat 32 (grid0.coords t 0).val) (iblk m c 5 t) (iblk m c 3 t))
    (k0_pay20 (BitVec.ofNat 32 (grid0.coords t 0).val) 1#32) k0_pay21 k0_pay22 (iblk m c 2 t)

theorem stored_at (c : Dev nD) (t : Fin cfg0.N) (p : Fin 512) (q : Fin 256) :
    (stored m c t (ix2 p q) : EReal) = du (Wt m c) (Sc m c) (Dy m c) (ix2 (row t p) q) := by
  have ht := lt8 t
  have hr : (row t p).val = t.val * 512 + p.val := rfl
  unfold stored
  rw [coordWord]
  refine (du_at ⟨t.val, lt8 t⟩ _ _ _ p q).trans ?_
  rw [du_ix, A_at, hr]
  refine congrArg (fun z : EReal => z - _) (Finset.sum_congr rfl fun j hj => ?_)
  have hj' : j < 16 := lt_of_lt_of_le (Finset.mem_range.mp hj) (win_le q)
  simp only [rowsOf, ext]
  by_cases h : p.val + j < 512
  · rw [dif_pos h, dif_pos (by omega), A_at]
    have e : row t ⟨p.val + j, h⟩ = ⟨t.val * 512 + p.val + j, by omega⟩ := by apply Fin.ext; simp only [row]; omega
    rw [e]
    exact congrArg (fun n : ℕ => Ideal.div _ ((count n q : ℝ) : EReal)) (Nat.add_assoc _ _ _).symm
  · rw [dif_neg h, dif_pos (by omega)]
    have hn := fun k => next_at ⟨t.val, ht⟩ (iblk m c 5 t) (iblk m c 3 t) ⟨p.val + j - 512, by omega⟩ k
    simp only at hn
    by_cases h7 : t.val = 7
    · rw [dif_neg (by omega)]
      have : ∀ k : Fin 256, ((k0_pay19 (BitVec.ofNat 32 t.val) (iblk m c 5 t) (iblk m c 3 t) : FVec Ideal S16x256 .bf16) (ix2 ⟨p.val + j - 512, by omega⟩ k) : EReal) = 0 := by
        intro k; rw [hn k, if_pos h7, mul_zero, zero_mul]
      simp only [this, zero_mul, Finset.sum_const_zero]
      rw [Ideal.div_coe (count_ne _ _)]
      simp
    · rw [dif_pos (by omega)]
      have e : (t.val + 1) * 512 + (p.val + j - 512) = t.val * 512 + p.val + j := by omega
      refine congrArg₂ Ideal.div (Finset.sum_congr rfl fun k _ => ?_) (congrArg (fun n : ℕ => ((count n q : ℝ) : EReal)) e)
      rw [hn k, if_neg h7, mul_one, blk5, blk3, blk2]
      congr 4; apply Fin.ext; simp only; omega

theorem out6 (c : Dev nD) (t : Fin cfg0.N) : (outsAt0 m c t.val t.isLt).1 = stored m c t := by
  funext y
  by_cases h : t.val % 8 = 0
  · rw [outsAt0_A m c t h]
    frame_out
    rfl
  · rw [outsAt0_B m c t h]
    frame_out
    rfl

/-- The input-gradient array after the run. -/
theorem final6 (c : Dev nD) : (dats m 0 c).arrAt 6 cfg0.N = du (Wt m c) (Sc m c) (Dy m c) := by
  refine (dats m 0 c).arrAt_eq_of_covers 6 _ (by decide +kernel) fun t _ y => ?_
  obtain ⟨p, q, rfl⟩ : ∃ (p : Fin 512) (q : Fin 256), y = ix2 p q := ex2 y
  have he : (((cfg0.win 6).blk t).view.emb (ix2 p q)) = (ix2 (row t p) q : S4096x256.Idx) := by
    blk_simp [row, idx t]; blk_ext [idx t]
  rw [he]
  blk_simp
  rw [after0_6, out6]
  exact stored_at m c t p q

/-- Point `t`'s parts of the weights' and the scale's gradients. -/
def part7 (c : Dev nD) (t : Fin cfg0.N) : FVec Ideal S256x256 .f32 := fun y =>
  ∑ p : Fin 512, pooled (U m c) (row t p) (y 0) * (Dy m c (ix2 (row t p) (y 1)) * Sc m c (ix1 (y 1)))
def part8 (c : Dev nD) (t : Fin cfg0.N) : FVec Ideal S1x256 .f32 := fun y =>
  ∑ p : Fin 512, Dy m c (ix2 (row t p) (y 1)) * ∑ k : Fin 256, pooled (U m c) (row t p) k * blocks (Wt m c) k (y 1)

theorem step7 (c : Dev nD) (t : Fin cfg0.N) (a : FVec Ideal S256x256 .f32) (k q : Fin 256) :
    ((k0_pay13 (P m c t) (iblk m c 4 t) (iblk m c 3 t) a : FVec Ideal S256x256 .f32) (ix2 k q) : EReal) = a (ix2 k q) + part7 m c t (ix2 k q) := by
  refine (dw_at _ _ _ _ k q).trans (congrArg (fun z : EReal => _ + z) (Finset.sum_congr rfl fun p _ => ?_))
  rw [P_at, blk4, blk3]
  rfl

theorem step8 (c : Dev nD) (t : Fin cfg0.N) (a : FVec Ideal S1x256 .f32) (q : Fin 256) :
    ((k0_pay11 (P m c t) (iblk m c 4 t) a (iblk m c 2 t) : FVec Ideal S1x256 .f32) (ix2 0 q) : EReal) = a (ix2 0 q) + part8 m c t (ix2 0 q) := by
  refine (dsc_at _ _ _ _ q).trans (congrArg (fun z : EReal => _ + z) (Finset.sum_congr rfl fun p _ => ?_))
  rw [blk4]
  refine congrArg (fun z : EReal => _ * z) (Finset.sum_congr rfl fun k _ => ?_)
  rw [P_at, blk2]
  rfl

theorem out7_A (c : Dev nD) (t : Fin cfg0.N) (h : t.val % 8 = 0) (k q : Fin 256) :
    (outsAt0 m c t.val t.isLt).2.1 (ix2 k q) = 0 + part7 m c t (ix2 k q) := by
  rw [outsAt0_A m c t h]
  frame_out
  refine (step7 m c t k0_pay2 k q).trans ?_
  have : (k0_pay2 : FVec Ideal S256x256 .f32) (ix2 k q) = (0 : EReal) := by pointwise [k0_pay2]
  rw [this]

theorem out7_B (c : Dev nD) (t : Fin cfg0.N) (h : ¬t.val % 8 = 0) (k q : Fin 256) :
    (outsAt0 m c t.val t.isLt).2.1 (ix2 k q)
      = (outsAt0 m c (t.val - 1) (Nat.lt_of_le_of_lt (Nat.sub_le _ _) t.isLt)).2.1 (ix2 k q) + part7 m c t (ix2 k q) := by
  rw [outsAt0_B m c t h]
  frame_out
  exact step7 m c t _ k q

theorem out8_A (c : Dev nD) (t : Fin cfg0.N) (h : t.val % 8 = 0) (q : Fin 256) :
    (outsAt0 m c t.val t.isLt).2.2 (ix2 0 q) = 0 + part8 m c t (ix2 0 q) := by
  rw [outsAt0_A m c t h]
  frame_out
  refine (step8 m c t k0_pay3 q).trans ?_
  have : (k0_pay3 : FVec Ideal S1x256 .f32) (ix2 0 q) = (0 : EReal) := by pointwise [k0_pay3]
  rw [this]

theorem out8_B (c : Dev nD) (t : Fin cfg0.N) (h : ¬t.val % 8 = 0) (q : Fin 256) :
    (outsAt0 m c t.val t.isLt).2.2 (ix2 0 q)
      = (outsAt0 m c (t.val - 1) (Nat.lt_of_le_of_lt (Nat.sub_le _ _) t.isLt)).2.2 (ix2 0 q) + part8 m c t (ix2 0 q) := by
  rw [outsAt0_B m c t h]
  frame_out
  exact step8 m c t _ q

theorem final7 (c : Dev nD) : (dats m 0 c).arrAt 7 cfg0.N = dwp (U m c) (Sc m c) (Dy m c) := by
  have hA : (dats m 0 c).arrAt 7 cfg0.N = (∑ t : Fin cfg0.N, part7 m c t : FVec Ideal S256x256 .f32) := by
    refine (dats m 0 c).arrAt_eq_of_after_last 7 t0_7 (by decide +kernel) _ fun j => ?_
    obtain ⟨p, q, rfl⟩ : ∃ (p : Fin 256) (q : Fin 256), j = ix2 p q := ex2 j
    blk_simp
    rw [after0_7, Pipeline.eq_sum_fin_of_reset_step_apply_last (fun n h => (outsAt0 m c n h).2.1) 8 (fun _ => 0)
      (fun t => part7 m c t)
      (fun t h j => by
        obtain ⟨p, q, rfl⟩ : ∃ (p : Fin 256) (q : Fin 256), j = ix2 p q := ex2 j
        exact out7_A m c t h p q)
      (fun t h j => by
        obtain ⟨p, q, rfl⟩ : ∃ (p : Fin 256) (q : Fin 256), j = ix2 p q := ex2 j
        exact out7_B m c t h p q)
      (le_of_eq N_0) t0_7 rfl (ix2 p q), zero_add, Finset.sum_apply]
  rw [hA]
  funext y
  rw [Finset.sum_apply]
  refine Fin.sum_mul_add_congr fun s k hl => ?_
  rfl

theorem final8 (c : Dev nD) : (dats m 0 c).arrAt 8 cfg0.N = dsc (U m c) (Wt m c) (Dy m c) := by
  have hA : (dats m 0 c).arrAt 8 cfg0.N = (∑ t : Fin cfg0.N, part8 m c t : FVec Ideal S1x256 .f32) := by
    refine (dats m 0 c).arrAt_eq_of_after_last 8 t0_7 (by decide +kernel) _ fun j => ?_
    obtain ⟨p, q, rfl⟩ : ∃ (p : Fin 1) (q : Fin 256), j = ix2 p q := ex2 j
    obtain rfl : p = 0 := Subsingleton.elim _ _
    blk_simp
    rw [after0_8, Pipeline.eq_sum_fin_of_reset_step_apply_last (fun n h => (outsAt0 m c n h).2.2) 8 (fun _ => 0)
      (fun t => part8 m c t)
      (fun t h j => by
        obtain ⟨p, q, rfl⟩ : ∃ (p : Fin 1) (q : Fin 256), j = ix2 p q := ex2 j
        obtain rfl : p = 0 := Subsingleton.elim _ _
        exact out8_A m c t h q)
      (fun t h j => by
        obtain ⟨p, q, rfl⟩ : ∃ (p : Fin 1) (q : Fin 256), j = ix2 p q := ex2 j
        obtain rfl : p = 0 := Subsingleton.elim _ _
        exact out8_B m c t h q)
      (le_of_eq N_0) t0_7 rfl (ix2 0 q), zero_add, Finset.sum_apply]
  rw [hA]
  funext y
  rw [Finset.sum_apply]
  refine Fin.sum_mul_add_congr fun s k hl => ?_
  rfl

/-- The diagonal blocks of a matrix, stacked. -/
def stack (D : FVec Ideal S256x256 .f32) : FVec Ideal S4x64x64 .f32 :=
  concatenate S4x64x64 0 [⟨S1x64x64, broadcastInDim S1x64x64 ![1, 2] bcast_S64x64_S1x64x64_1_2 (extractStridedSlice S64x64 ![0, 0] D slices_S256x256_S64x64_0_0)⟩,
    ⟨S1x64x64, broadcastInDim S1x64x64 ![1, 2] bcast_S64x64_S1x64x64_1_2 (extractStridedSlice S64x64 ![64, 64] D slices_S256x256_S64x64_64_64)⟩,
    ⟨S1x64x64, broadcastInDim S1x64x64 ![1, 2] bcast_S64x64_S1x64x64_1_2 (extractStridedSlice S64x64 ![128, 128] D slices_S256x256_S64x64_128_128)⟩,
    ⟨S1x64x64, broadcastInDim S1x64x64 ![1, 2] bcast_S64x64_S1x64x64_1_2 (extractStridedSlice S64x64 ![192, 192] D slices_S256x256_S64x64_192_192)⟩]
    concatenates_S1x64x64_S1x64x64_S1x64x64_S1x64x64_S4x64x64_d0

theorem stack_at (D : FVec Ideal S256x256 .f32) (g : Fin 4) (p q : Fin 64) :
    (stack D (ix3 g p q) : EReal) = D (ix2 ⟨g.val * 64 + p.val, by omega⟩ ⟨g.val * 64 + q.val, by omega⟩) := by
  unfold stack
  pointwise
  fin_cases g
  · rw [dif_pos (by decide)]; congr 2 <;> apply Fin.ext <;> simp
  · rw [dif_neg (by decide), dif_pos (by decide)]; congr 2 <;> apply Fin.ext <;> simp
  · rw [dif_neg (by decide), dif_neg (by decide), dif_pos (by decide)]; congr 2 <;> apply Fin.ext <;> simp
  · rw [dif_neg (by decide), dif_neg (by decide), dif_neg (by decide)]; congr 2 <;> apply Fin.ext <;> simp

theorem after_stack (W : Valuation τ sig (Elt Ideal)) : StableHlo.after hostOps1 W (Proc.devRef .tc main_v24) = stack (W (Proc.devRef .tc main_v15_1)) := by
  after_reads_simp
  rfl

/-- The weights' gradient the kernel returns: the diagonal blocks. -/
theorem tail (c : Dev nD) : Pipeline.afterTail₀ cfgs (dats m) 0 (V0 m) [hostOps1] c main_v24 = dw (U m c) (Sc m c) (Dy m c) := by
  have hW : Pipeline.withArrays (cfgs 0).spec c (V0 m c) (fun w => (dats m 0 c).arrAt w (cfgs 0).N) (Proc.devRef .tc main_v15_1)
      = (dats m 0 c).arrAt 7 cfg0.N := (dats m 0 c).withArrays_arrAt launch₀0.sharedIn (V0 m c) (A_eq m c) 7
  unfold Pipeline.afterTail₀
  refine (after_stack _).trans ?_
  rw [hW, final7]
  funext j
  obtain ⟨g, p, q, rfl⟩ : ∃ (g : Fin 4) (p : Fin 64) (q : Fin 64), j = ix3 g p q := ex3 j
  exact stack_at _ g p q

end Cert.KernelPoolIdeal.Value

end
-- ==== Proof.Pool.Reference.lean ====
/- The reference's pooling gradients in named pieces: the means as differences of running sums, and their cotangents. -/
module

public import proofs.«01_k».proof.Proof.Gen.ReferencePoolIdeal.Run
public import proofs.«01_k».proof.Proof.Reals
public import Idealize.ShloMosaic.Lib.Pointwise

@[expose] public section

set_option maxRecDepth 16384

noncomputable section

open Idealize.ShloMosaic Idealize.ShloMosaic.TcCoe Idealize.SL.Sem

namespace Cert.ReferencePoolIdeal.Value

open Cert.ReferencePoolIdeal Cert.ReferencePoolIdeal.Gen Cert.Reals

/-! ## Running sums -/

theorem foldl_add {n : ℕ} (f : Fin n → EReal) (v : EReal) : (List.finRange n).foldl (fun r k => r + f k) v = v + ∑ k, f k := by
  have h : ∀ (l : List (Fin n)) (v : EReal), l.foldl (fun r k => r + f k) v = v + (l.map f).sum := by
    intro l
    induction l with
    | nil => intro v; simp
    | cons a l ih => intro v; rw [List.foldl_cons, ih, List.map_cons, List.sum_cons, add_assoc]
  rw [h, Fin.sum_univ_def]

/-- A column of rows, continued by zero past the end. -/
def past (f : Fin 4096 → EReal) (t : ℕ) : EReal := if h : t < 4096 then f ⟨t, h⟩ else 0

abbrev Win : Shape := ⟨3, ![4096, 1, 1]⟩

theorem sum_win (f : Win.Idx → EReal) : ∑ k, f k = ∑ a : Fin 4096, f (ix3 a 0 0) := by
  refine (Fintype.sum_bijective (fun a : Fin 4096 => (ix3 a 0 0 : Win.Idx)) ⟨fun a b h => ?_, fun y => ?_⟩ _ _ fun _ => rfl).symm
  · exact congrFun h 0
  · obtain ⟨a, b, d, rfl⟩ : ∃ (a : Fin 4096) (b : Fin 1) (d : Fin 1), y = ix3 a b d := ex3 y
    obtain rfl : b = 0 := Subsingleton.elim _ _
    obtain rfl : d = 0 := Subsingleton.elim _ _
    exact ⟨a, rfl⟩

/-- The running sum of rows, and the sum of the rows from one on. -/
def cum (x : FVec Ideal S4096x4x64 .f32) : FVec Ideal S4096x4x64 .f32 :=
  Host.reduceWindowAdd ![4096, 1, 1] ![1, 1, 1] ![4095, 0, 0] ![0, 0, 0] x (broadcastInDim S_ ![] bcast_S_S_ (constant S_ .f32 0x00000000#32))
    reduceWindows_S4096x4x64_S4096x4x64_w4096s1p4095_0_w1s1p0_0_w1s1p0_0 h_S_
def onward (x : FVec Ideal S4096x4x64 .f32) : FVec Ideal S4096x4x64 .f32 :=
  Host.reduceWindowAdd ![4096, 1, 1] ![1, 1, 1] ![0, 0, 0] ![4095, 0, 0] x (broadcastInDim S_ ![] bcast_S_S_ (constant S_ .f32 0x00000000#32))
    reduceWindows_S4096x4x64_S4096x4x64_w4096s1p0_4095_w1s1p0_0_w1s1p0_0 h_S_

theorem zero_at (k : S_.Idx) : ((broadcastInDim S_ ![] bcast_S_S_ (constant S_ .f32 0x00000000#32) : FVec Ideal S_ .f32) k : EReal) = 0 := by
  pointwise

/-- One term of a window's sum: the element it falls on, or the initial value. -/
def termOf {s t : Shape} (window strides lo hi : Fin s.rank → ℕ) (h : s.ReduceWindows window strides lo hi t) (x : s.Idx → EReal) (v : EReal)
    (j : t.Idx) (k : Shape.Idx ⟨s.rank, window⟩) : EReal :=
  if hin : ∀ a, lo a ≤ (j (a.cast h.1.symm)).val * strides a + (k a).val ∧ (j (a.cast h.1.symm)).val * strides a + (k a).val - lo a < s.size a then
    x (fun a => ⟨(j (a.cast h.1.symm)).val * strides a + (k a).val - lo a, (hin a).2⟩) else v

theorem window_sum {s t u : Shape} (window strides lo hi : Fin s.rank → ℕ) (x : FVec Ideal s .f32) (init : FVec Ideal u .f32)
    (h : s.ReduceWindows window strides lo hi t) (hu : 0 < u.numel) (j : t.Idx) (h0 : (init (Shape.Idx.first hu) : EReal) = 0) :
    (Host.reduceWindowAdd window strides lo hi x init h hu j : EReal) = ∑ k, termOf window strides lo hi h x 0 j k := by
  have e : (Host.reduceWindowAdd window strides lo hi x init h hu j : EReal)
      = (List.finRange (Shape.numel ⟨s.rank, window⟩)).foldl (fun (r : EReal) n => r + termOf window strides lo hi h x (init (Shape.Idx.first hu)) j ((Shape.rowMajor ⟨s.rank, window⟩).symm n)) (init (Shape.Idx.first hu)) := by
    show Ideal.hostReduceWindowAdd window strides lo hi h x (init (Shape.Idx.first hu)) j = _
    unfold Ideal.hostReduceWindowAdd Host.reduceWindow termOf
    dsimp only
    refine congrArg (fun f : EReal → Fin (Shape.numel ⟨s.rank, window⟩) → EReal => (List.finRange (Shape.numel ⟨s.rank, window⟩)).foldl f (init (Shape.Idx.first hu))) (funext fun r => funext fun n => congrArg (r + ·) ?_)
    congr
  rw [e, h0, foldl_add (fun n => termOf window strides lo hi h x 0 j ((Shape.rowMajor ⟨s.rank, window⟩).symm n)), zero_add, Equiv.sum_comp (Shape.rowMajor ⟨s.rank, window⟩).symm]

abbrev back := reduceWindows_S4096x4x64_S4096x4x64_w4096s1p4095_0_w1s1p0_0_w1s1p0_0
abbrev fore := reduceWindows_S4096x4x64_S4096x4x64_w4096s1p0_4095_w1s1p0_0_w1s1p0_0

variable (x : FVec Ideal S4096x4x64 .f32) (i : Fin 4096) (g : Fin 4) (c : Fin 64)

theorem term_back (a : Fin 4096) :
    termOf ![4096, 1, 1] ![1, 1, 1] ![4095, 0, 0] ![0, 0, 0] back x 0 (ix3 i g c : S4096x4x64.Idx) (ix3 a 0 0) = if 4095 ≤ i.val + a.val then past (fun s => x (ix3 s g c)) (i.val + a.val - 4095) else 0 := by
  unfold termOf past
  by_cases h : 4095 ≤ i.val + a.val
  · have h2 : i.val + a.val - 4095 < 4096 := by omega
    rw [if_pos h, dif_pos h2, dif_pos]
    · congr 1; funext b; fin_cases b <;> apply Fin.ext <;> simp
    · intro b; fin_cases b <;> simp <;> omega
  · rw [if_neg h, dif_neg]
    intro hin
    have := (hin 0).1
    simp at this
    omega

theorem term_on (a : Fin 4096) :
    termOf ![4096, 1, 1] ![1, 1, 1] ![0, 0, 0] ![4095, 0, 0] fore x 0 (ix3 i g c : S4096x4x64.Idx) (ix3 a 0 0) = past (fun s => x (ix3 s g c)) (i.val + a.val) := by
  unfold termOf past
  by_cases h : i.val + a.val < 4096
  · rw [dif_pos h, dif_pos]
    · congr 1; funext b; fin_cases b <;> apply Fin.ext <;> simp
    · intro b; fin_cases b <;> simp <;> omega
  · rw [dif_neg h, dif_neg]
    intro hin
    have := (hin 0).2
    simp at this
    omega

theorem cum_at : (cum x (ix3 i g c) : EReal) = ∑ s ∈ Finset.range (i.val + 1), past (fun s => x (ix3 s g c)) s := by
  refine (window_sum _ _ _ _ x _ _ _ _ (zero_at _)).trans ((sum_win _).trans ?_)
  simp only [term_back]
  refine (Finset.sum_range (fun a => if 4095 ≤ i.val + a then past (fun s => x (ix3 s g c)) (i.val + a - 4095) else 0)).symm.trans ?_
  have e : Finset.range 4096 = Finset.range ((4095 - i.val) + (i.val + 1)) := congrArg Finset.range (by omega)
  rw [e, Finset.sum_range_add, Finset.sum_eq_zero fun a ha => ?_, zero_add]
  · refine Finset.sum_congr rfl fun a ha => ?_
    rw [if_pos (show 4095 ≤ i.val + (4095 - i.val + a) by omega)]
    exact congrArg (past _) (by omega)
  · rw [if_neg (by have := Finset.mem_range.mp ha; omega)]

theorem onward_at : (onward x (ix3 i g c) : EReal) = ∑ k ∈ Finset.range 4096, past (fun s => x (ix3 s g c)) (i.val + k) := by
  refine (window_sum _ _ _ _ x _ _ _ _ (zero_at _)).trans ((sum_win _).trans ?_)
  simp only [term_on]
  exact (Finset.sum_range (fun a => past (fun s => x (ix3 s g c)) (i.val + a))).symm

/-! ## The groups -/

/-- A group's count of rows at row `i`. -/
def cnt (g : Fin 4) (i : Fin 4096) : ℝ := ((min (i.val + 1) (2 ^ (g.val + 1)) : ℕ) : ℝ)

def counts (w : BitVec 32) : FVec Ideal S4096x64 .f32 :=
  broadcastInDim S4096x64 ![0, 1] bcast_S4096x1_S4096x64_0_1 (broadcastInDim S4096x1 ![0] bcast_S4096_S4096x1_0
    (sitofp .f32 (minsi (addi (iotaInDim S4096 32 0) (broadcastInDim S4096 ![] bcast_S_S4096 (constantI S_ 32 1#32))) (broadcastInDim S4096 ![] bcast_S_S4096 (constantI S_ 32 w)))))

theorem counts_at (i : Fin 4096) (g : Fin 4) :
    (FloatOps.sitofp (F := Ideal) FTy.f32 (IntOp.minsi (IntOp.addi (BitVec.ofNat 32 i.val) 1#32) (BitVec.ofNat 32 (2 ^ (g.val + 1)))) : EReal) = ((cnt g i : ℝ) : EReal) := by
  have e : ∀ (i : Fin 4096) (g : Fin 4), (IntOp.minsi (IntOp.addi (BitVec.ofNat 32 i.val) 1#32) (BitVec.ofNat 32 (2 ^ (g.val + 1)))).toInt
      = ((min (i.val + 1) (2 ^ (g.val + 1)) : ℕ) : ℤ) := by decide +kernel
  show (((IntOp.minsi _ _ : BitVec 32).toInt : ℝ) : EReal) = _
  rw [e]
  rfl

/-- A later row over its count. -/
theorem later_at (z : FVec Ideal S4096x4x64 .f32) (w : ℕ) (g : Fin 4) (i : Fin 4096) (c : Fin 64) (h : i.val + w < 4096) :
    Ideal.div (z (ix3 ⟨w + i.val, by omega⟩ g c) : EReal)
      (FloatOps.sitofp (F := Ideal) FTy.f32 (IntOp.minsi (IntOp.addi (BitVec.ofNat 32 (w + i.val)) 1#32) (BitVec.ofNat 32 (2 ^ (g.val + 1)))))
      = Ideal.div (z (ix3 ⟨i.val + w, h⟩ g c)) ((cnt g ⟨i.val + w, h⟩ : ℝ) : EReal) := by
  have e : (⟨w + i.val, by omega⟩ : Fin 4096) = ⟨i.val + w, h⟩ := Fin.ext (Nat.add_comm ..)
  refine congrArg₂ Ideal.div (congrArg (fun k => (z (ix3 k g c) : EReal)) e) ?_
  rw [Nat.add_comm w]
  exact counts_at ⟨i.val + w, h⟩ g

/-- Group 0: its running sums, its means over 2 rows; and of a cotangent, its part over the counts, less the same 2 rows later. -/
def row0 (x : FVec Ideal S4096x4x64 .f32) : FVec Ideal S4096x64 .f32 :=
  shapeCast _ (extractStridedSlice S4096x1x64 ![0, 0, 0] x slices_S4096x4x64_S4096x1x64_0_0_0) shapeCasts_S4096x1x64_S4096x64
def mean0 (x : FVec Ideal S4096x4x64 .f32) : FVec Ideal S4096x1x64 .f32 :=
  broadcastInDim S4096x1x64 ![0, 2] bcast_S4096x64_S4096x1x64_0_2 (Host.divf (subf (row0 x) (concatenate S4096x64 0 [⟨S2x64, (broadcastInDim S2x64 ![] bcast_S_S2x64 (constant S_ .f32 0x00000000#32))⟩,
    ⟨S4094x64, (extractStridedSlice S4094x64 ![0, 0] (row0 x) slices_S4096x64_S4094x64_0_0)⟩] concatenates_S2x64_S4094x64_S4096x64_d0)) (counts 2#32))
def over0 (z : FVec Ideal S4096x4x64 .f32) : FVec Ideal S4096x64 .f32 := Host.divf (row0 z) (counts 2#32)
def less0 (z : FVec Ideal S4096x4x64 .f32) : FVec Ideal S4096x4x64 .f32 :=
  pad S4096x4x64 ![0, 0, 0] ![0, 3, 0] ![0, 0, 0] (broadcastInDim S4096x1x64 ![0, 2] bcast_S4096x64_S4096x1x64_0_2 (addf (over0 z)
    (pad S4096x64 ![0, 0] ![2, 0] ![0, 0] (extractStridedSlice S4094x64 ![2, 0] (Host.negf (over0 z)) slices_S4096x64_S4094x64_2_0) (constant S_ .f32 0x00000000#32)
      pads_S4094x64_S4096x64_020_000 h_S_))) (constant S_ .f32 0x00000000#32) pads_S4096x1x64_S4096x4x64_000_030_000 h_S_

theorem mean0_at (x : FVec Ideal S4096x4x64 .f32) (i : Fin 4096) (c : Fin 64) :
    (mean0 x (ix3 i 0 c) : EReal) = Ideal.div (x (ix3 i 0 c) - if h : i.val < 2 then 0 else x (ix3 ⟨i.val - 2, by omega⟩ 0 c)) ((cnt 0 i : ℝ) : EReal) := by
  unfold mean0 row0 counts
  pointwise
  exact congrArg (Ideal.div _) (counts_at i 0)

theorem less0_at (z : FVec Ideal S4096x4x64 .f32) (i : Fin 4096) (g : Fin 4) (c : Fin 64) :
    (less0 z (ix3 i g c) : EReal) = if g = 0 then Ideal.div (z (ix3 i 0 c)) ((cnt 0 i : ℝ) : EReal)
      + (if h : i.val + 2 < 4096 then -Ideal.div (z (ix3 ⟨i.val + 2, h⟩ 0 c)) ((cnt 0 ⟨i.val + 2, h⟩ : ℝ) : EReal) else 0) else 0 := by
  unfold less0 over0 row0 counts
  pointwise
  by_cases hg : g = 0
  · subst hg
    rw [if_pos rfl, dif_pos (by decide)]
    refine congrArg₂ (fun y z : EReal => y + z) (congrArg (Ideal.div _) (counts_at i 0)) ?_
    by_cases h : i.val + 2 < 4096
    · rw [dif_pos h, dif_pos (by omega)]
      exact congrArg (fun y : EReal => -y) (later_at z 2 0 i c h)
    · rw [dif_neg h, dif_neg (by omega)]
  · rw [if_neg hg, dif_neg (fun h => hg (Fin.ext (by show g.val = 0; omega)))]

/-- Group 1: its running sums, its means over 4 rows; and of a cotangent, its part over the counts, less the same 4 rows later. -/
def row1 (x : FVec Ideal S4096x4x64 .f32) : FVec Ideal S4096x64 .f32 :=
  shapeCast _ (extractStridedSlice S4096x1x64 ![0, 1, 0] x slices_S4096x4x64_S4096x1x64_0_1_0) shapeCasts_S4096x1x64_S4096x64
def mean1 (x : FVec Ideal S4096x4x64 .f32) : FVec Ideal S4096x1x64 .f32 :=
  broadcastInDim S4096x1x64 ![0, 2] bcast_S4096x64_S4096x1x64_0_2 (Host.divf (subf (row1 x) (concatenate S4096x64 0 [⟨S4x64, (broadcastInDim S4x64 ![] bcast_S_S4x64 (constant S_ .f32 0x00000000#32))⟩,
    ⟨S4092x64, (extractStridedSlice S4092x64 ![0, 0] (row1 x) slices_S4096x64_S4092x64_0_0)⟩] concatenates_S4x64_S4092x64_S4096x64_d0)) (counts 4#32))
def over1 (z : FVec Ideal S4096x4x64 .f32) : FVec Ideal S4096x64 .f32 := Host.divf (row1 z) (counts 4#32)
def less1 (z : FVec Ideal S4096x4x64 .f32) : FVec Ideal S4096x4x64 .f32 :=
  pad S4096x4x64 ![0, 1, 0] ![0, 2, 0] ![0, 0, 0] (broadcastInDim S4096x1x64 ![0, 2] bcast_S4096x64_S4096x1x64_0_2 (addf (over1 z)
    (pad S4096x64 ![0, 0] ![4, 0] ![0, 0] (extractStridedSlice S4092x64 ![4, 0] (Host.negf (over1 z)) slices_S4096x64_S4092x64_4_0) (constant S_ .f32 0x00000000#32)
      pads_S4092x64_S4096x64_040_000 h_S_))) (constant S_ .f32 0x00000000#32) pads_S4096x1x64_S4096x4x64_000_120_000 h_S_

theorem mean1_at (x : FVec Ideal S4096x4x64 .f32) (i : Fin 4096) (c : Fin 64) :
    (mean1 x (ix3 i 0 c) : EReal) = Ideal.div (x (ix3 i 1 c) - if h : i.val < 4 then 0 else x (ix3 ⟨i.val - 4, by omega⟩ 1 c)) ((cnt 1 i : ℝ) : EReal) := by
  unfold mean1 row1 counts
  pointwise
  exact congrArg (Ideal.div _) (counts_at i 1)

theorem less1_at (z : FVec Ideal S4096x4x64 .f32) (i : Fin 4096) (g : Fin 4) (c : Fin 64) :
    (less1 z (ix3 i g c) : EReal) = if g = 1 then Ideal.div (z (ix3 i 1 c)) ((cnt 1 i : ℝ) : EReal)
      + (if h : i.val + 4 < 4096 then -Ideal.div (z (ix3 ⟨i.val + 4, h⟩ 1 c)) ((cnt 1 ⟨i.val + 4, h⟩ : ℝ) : EReal) else 0) else 0 := by
  unfold less1 over1 row1 counts
  pointwise
  by_cases hg : g = 1
  · subst hg
    rw [if_pos rfl, dif_pos (by decide)]
    refine congrArg₂ (fun y z : EReal => y + z) (congrArg (Ideal.div _) (counts_at i 1)) ?_
    by_cases h : i.val + 4 < 4096
    · rw [dif_pos h, dif_pos (by omega)]
      exact congrArg (fun y : EReal => -y) (later_at z 4 1 i c h)
    · rw [dif_neg h, dif_neg (by omega)]
  · rw [if_neg hg, dif_neg (fun h => hg (Fin.ext (by show g.val = 1; omega)))]

/-- Group 2: its running sums, its means over 8 rows; and of a cotangent, its part over the counts, less the same 8 rows later. -/
def row2 (x : FVec Ideal S4096x4x64 .f32) : FVec Ideal S4096x64 .f32 :=
  shapeCast _ (extractStridedSlice S4096x1x64 ![0, 2, 0] x slices_S4096x4x64_S4096x1x64_0_2_0) shapeCasts_S4096x1x64_S4096x64
def mean2 (x : FVec Ideal S4096x4x64 .f32) : FVec Ideal S4096x1x64 .f32 :=
  broadcastInDim S4096x1x64 ![0, 2] bcast_S4096x64_S4096x1x64_0_2 (Host.divf (subf (row2 x) (concatenate S4096x64 0 [⟨S8x64, (broadcastInDim S8x64 ![] bcast_S_S8x64 (constant S_ .f32 0x00000000#32))⟩,
    ⟨S4088x64, (extractStridedSlice S4088x64 ![0, 0] (row2 x) slices_S4096x64_S4088x64_0_0)⟩] concatenates_S8x64_S4088x64_S4096x64_d0)) (counts 8#32))
def over2 (z : FVec Ideal S4096x4x64 .f32) : FVec Ideal S4096x64 .f32 := Host.divf (row2 z) (counts 8#32)
def less2 (z : FVec Ideal S4096x4x64 .f32) : FVec Ideal S4096x4x64 .f32 :=
  pad S4096x4x64 ![0, 2, 0] ![0, 1, 0] ![0, 0, 0] (broadcastInDim S4096x1x64 ![0, 2] bcast_S4096x64_S4096x1x64_0_2 (addf (over2 z)
    (pad S4096x64 ![0, 0] ![8, 0] ![0, 0] (extractStridedSlice S4088x64 ![8, 0] (Host.negf (over2 z)) slices_S4096x64_S4088x64_8_0) (constant S_ .f32 0x00000000#32)
      pads_S4088x64_S4096x64_080_000 h_S_))) (constant S_ .f32 0x00000000#32) pads_S4096x1x64_S4096x4x64_000_210_000 h_S_

theorem mean2_at (x : FVec Ideal S4096x4x64 .f32) (i : Fin 4096) (c : Fin 64) :
    (mean2 x (ix3 i 0 c) : EReal) = Ideal.div (x (ix3 i 2 c) - if h : i.val < 8 then 0 else x (ix3 ⟨i.val - 8, by omega⟩ 2 c)) ((cnt 2 i : ℝ) : EReal) := by
  unfold mean2 row2 counts
  pointwise
  exact congrArg (Ideal.div _) (counts_at i 2)

theorem less2_at (z : FVec Ideal S4096x4x64 .f32) (i : Fin 4096) (g : Fin 4) (c : Fin 64) :
    (less2 z (ix3 i g c) : EReal) = if g = 2 then Ideal.div (z (ix3 i 2 c)) ((cnt 2 i : ℝ) : EReal)
      + (if h : i.val + 8 < 4096 then -Ideal.div (z (ix3 ⟨i.val + 8, h⟩ 2 c)) ((cnt 2 ⟨i.val + 8, h⟩ : ℝ) : EReal) else 0) else 0 := by
  unfold less2 over2 row2 counts
  pointwise
  by_cases hg : g = 2
  · subst hg
    rw [if_pos rfl, dif_pos (by decide)]
    refine congrArg₂ (fun y z : EReal => y + z) (congrArg (Ideal.div _) (counts_at i 2)) ?_
    by_cases h : i.val + 8 < 4096
    · rw [dif_pos h, dif_pos (by omega)]
      exact congrArg (fun y : EReal => -y) (later_at z 8 2 i c h)
    · rw [dif_neg h, dif_neg (by omega)]
  · rw [if_neg hg, dif_neg (fun h => hg (Fin.ext (by show g.val = 2; omega)))]

/-- Group 3: its running sums, its means over 16 rows; and of a cotangent, its part over the counts, less the same 16 rows later. -/
def row3 (x : FVec Ideal S4096x4x64 .f32) : FVec Ideal S4096x64 .f32 :=
  shapeCast _ (extractStridedSlice S4096x1x64 ![0, 3, 0] x slices_S4096x4x64_S4096x1x64_0_3_0) shapeCasts_S4096x1x64_S4096x64
def mean3 (x : FVec Ideal S4096x4x64 .f32) : FVec Ideal S4096x1x64 .f32 :=
  broadcastInDim S4096x1x64 ![0, 2] bcast_S4096x64_S4096x1x64_0_2 (Host.divf (subf (row3 x) (concatenate S4096x64 0 [⟨S16x64, (broadcastInDim S16x64 ![] bcast_S_S16x64 (constant S_ .f32 0x00000000#32))⟩,
    ⟨S4080x64, (extractStridedSlice S4080x64 ![0, 0] (row3 x) slices_S4096x64_S4080x64_0_0)⟩] concatenates_S16x64_S4080x64_S4096x64_d0)) (counts 16#32))
def over3 (z : FVec Ideal S4096x4x64 .f32) : FVec Ideal S4096x64 .f32 := Host.divf (row3 z) (counts 16#32)
def less3 (z : FVec Ideal S4096x4x64 .f32) : FVec Ideal S4096x4x64 .f32 :=
  pad S4096x4x64 ![0, 3, 0] ![0, 0, 0] ![0, 0, 0] (broadcastInDim S4096x1x64 ![0, 2] bcast_S4096x64_S4096x1x64_0_2 (addf (over3 z)
    (pad S4096x64 ![0, 0] ![16, 0] ![0, 0] (extractStridedSlice S4080x64 ![16, 0] (Host.negf (over3 z)) slices_S4096x64_S4080x64_16_0) (constant S_ .f32 0x00000000#32)
      pads_S4080x64_S4096x64_0160_000 h_S_))) (constant S_ .f32 0x00000000#32) pads_S4096x1x64_S4096x4x64_000_300_000 h_S_

theorem mean3_at (x : FVec Ideal S4096x4x64 .f32) (i : Fin 4096) (c : Fin 64) :
    (mean3 x (ix3 i 0 c) : EReal) = Ideal.div (x (ix3 i 3 c) - if h : i.val < 16 then 0 else x (ix3 ⟨i.val - 16, by omega⟩ 3 c)) ((cnt 3 i : ℝ) : EReal) := by
  unfold mean3 row3 counts
  pointwise
  exact congrArg (Ideal.div _) (counts_at i 3)

theorem less3_at (z : FVec Ideal S4096x4x64 .f32) (i : Fin 4096) (g : Fin 4) (c : Fin 64) :
    (less3 z (ix3 i g c) : EReal) = if g = 3 then Ideal.div (z (ix3 i 3 c)) ((cnt 3 i : ℝ) : EReal)
      + (if h : i.val + 16 < 4096 then -Ideal.div (z (ix3 ⟨i.val + 16, h⟩ 3 c)) ((cnt 3 ⟨i.val + 16, h⟩ : ℝ) : EReal) else 0) else 0 := by
  unfold less3 over3 row3 counts
  pointwise
  by_cases hg : g = 3
  · subst hg
    rw [if_pos rfl, dif_pos (by decide)]
    refine congrArg₂ (fun y z : EReal => y + z) (congrArg (Ideal.div _) (counts_at i 3)) ?_
    by_cases h : i.val + 16 < 4096
    · rw [dif_pos h, dif_pos (by omega)]
      exact congrArg (fun y : EReal => -y) (later_at z 16 3 i c h)
    · rw [dif_neg h, dif_neg (by omega)]
  · rw [if_neg hg, dif_neg (fun h => hg (Fin.ext (by show g.val = 3; omega)))]

/-! ## The results -/

/-- The means of all groups. -/
def means (x : FVec Ideal S4096x4x64 .f32) : FVec Ideal S4096x4x64 .f32 :=
  concatenate S4096x4x64 1 [⟨S4096x1x64, mean0 x⟩, ⟨S4096x1x64, mean1 x⟩, ⟨S4096x1x64, mean2 x⟩, ⟨S4096x1x64, mean3 x⟩] concatenates_S4096x1x64_S4096x1x64_S4096x1x64_S4096x1x64_S4096x4x64_d1

/-- Input and cotangent by group, and the cotangent of the pooled rows. -/
def grouped (u : FVec Ideal S4096x256 .f32) : FVec Ideal S4096x4x64 .f32 := shapeCast _ u shapeCasts_S4096x256_S4096x4x64
def scaled (s : FVec Ideal S256 .f32) (d : FVec Ideal S4096x256 .f32) : FVec Ideal S4x64x4096 .f32 :=
  transpose S4x64x4096 [1, 2, 0] (shapeCast S4096x4x64 (mulf d (broadcastInDim S4096x256 ![0, 1] bcast_S1x256_S4096x256_0_1 (broadcastInDim S1x256 ![1] bcast_S256_S1x256_1 s))) shapeCasts_S4096x256_S4096x4x64)
    transposes_S4096x4x64_S4x64x4096_1_2_0
def dmean (w : FVec Ideal S4x64x64 .f32) (s : FVec Ideal S256 .f32) (d : FVec Ideal S4096x256 .f32) : FVec Ideal S4096x4x64 .f32 :=
  transpose S4096x4x64 [1, 0, 2] (Host.dotGeneral dot_S4x64x4096_S4x64x64_S4x4096x64_1_2_2_1_0_0 none (scaled s d) w) transposes_S4x4096x64_S4096x4x64_1_0_2
def rest (z : FVec Ideal S4096x4x64 .f32) : FVec Ideal S4096x4x64 .f32 := addf (addf (addf (less3 z) (less2 z)) (less1 z)) (less0 z)

def duRef (w : FVec Ideal S4x64x64 .f32) (s : FVec Ideal S256 .f32) (d : FVec Ideal S4096x256 .f32) : FVec Ideal S4096x256 .f32 :=
  shapeCast _ (addf (Host.negf (dmean w s d)) (onward (rest (dmean w s d)))) shapeCasts_S4096x4x64_S4096x256
def dwRef (u : FVec Ideal S4096x256 .f32) (s : FVec Ideal S256 .f32) (d : FVec Ideal S4096x256 .f32) : FVec Ideal S4x64x64 .f32 :=
  transpose S4x64x64 [0, 2, 1] (Host.dotGeneral dot_S4x64x4096_S4096x4x64_S4x64x64_2_0_1_2_0_1 none (scaled s d) (subf (means (cum (grouped u))) (grouped u))) transposes_S4x64x64_S4x64x64_0_2_1
def dsRef (u : FVec Ideal S4096x256 .f32) (w : FVec Ideal S4x64x64 .f32) (d : FVec Ideal S4096x256 .f32) : FVec Ideal S1x256 .f32 :=
  shapeCast _ (Host.reduceAdd (shapeCast S1x256 (Host.reduceAdd (mulf (shapeCast S4096x256 (transpose S4096x4x64 [2, 0, 1]
    (Host.dotGeneral dot_S4x64x64_S4096x4x64_S4x64x4096_1_2_2_0_0_1 none w (subf (means (cum (grouped u))) (grouped u))) transposes_S4x64x4096_S4096x4x64_2_0_1) shapeCasts_S4096x4x64_S4096x256) d)
    (constant S_ .f32 0x00000000#32) reducesTo_S4096x256_S256_d0 h_S_) shapeCasts_S256_S1x256) (constant S_ .f32 0x00000000#32) reducesTo_S1x256_S256_d0 h_S_) shapeCasts_S256_S1x256

variable (m : (ℓ : Loc nD τ sig) → Buf (Elt Ideal) ℓ) (c : Dev nD)

theorem du_eq : res_main_v137 m c = duRef (m ((c.tc : Thread nD τ).loc main_arg1)) (m ((c.tc : Thread nD τ).loc main_arg2)) (m ((c.tc : Thread nD τ).loc main_arg3)) := rfl
theorem dw_eq : res_main_v86 m c = dwRef (m ((c.tc : Thread nD τ).loc main_arg0)) (m ((c.tc : Thread nD τ).loc main_arg2)) (m ((c.tc : Thread nD τ).loc main_arg3)) := rfl
theorem ds_eq : res_main_v138 m c = dsRef (m ((c.tc : Thread nD τ).loc main_arg0)) (m ((c.tc : Thread nD τ).loc main_arg1)) (m ((c.tc : Thread nD τ).loc main_arg3)) := rfl

theorem dmean_at (w : FVec Ideal S4x64x64 .f32) (s : FVec Ideal S256 .f32) (d : FVec Ideal S4096x256 .f32) (i : Fin 4096) (g : Fin 4) (a : Fin 64) :
    (dmean w s d (ix3 i g a) : EReal)
      = ∑ b : Fin 64, d (ix2 i ⟨g.val * 64 + b.val, by omega⟩) * s (ix1 ⟨g.val * 64 + b.val, by omega⟩) * w (ix3 g a b) := by
  unfold dmean scaled
  pointwise

theorem means_at (x : FVec Ideal S4096x4x64 .f32) (i : Fin 4096) (g : Fin 4) (a : Fin 64) :
    (means x (ix3 i g a) : EReal) = Ideal.div (x (ix3 i g a) - if h : i.val < 2 ^ (g.val + 1) then 0 else x (ix3 ⟨i.val - 2 ^ (g.val + 1), lt_of_le_of_lt (Nat.sub_le _ _) i.isLt⟩ g a)) ((cnt g i : ℝ) : EReal) := by
  unfold means
  pointwise
  fin_cases g
  · rw [dif_pos (by decide)]; exact mean0_at x i a
  · rw [dif_neg (by decide), dif_pos (by decide)]; exact mean1_at x i a
  · rw [dif_neg (by decide), dif_neg (by decide), dif_pos (by decide)]; exact mean2_at x i a
  · rw [dif_neg (by decide), dif_neg (by decide), dif_neg (by decide)]; exact mean3_at x i a

theorem rest_at (z : FVec Ideal S4096x4x64 .f32) (i : Fin 4096) (g : Fin 4) (a : Fin 64) :
    (rest z (ix3 i g a) : EReal) = Ideal.div (z (ix3 i g a)) ((cnt g i : ℝ) : EReal)
      + (if h : i.val + 2 ^ (g.val + 1) < 4096 then -Ideal.div (z (ix3 ⟨i.val + 2 ^ (g.val + 1), h⟩ g a)) ((cnt g ⟨i.val + 2 ^ (g.val + 1), h⟩ : ℝ) : EReal) else 0) := by
  unfold rest
  pointwise
  rw [less3_at, less2_at, less1_at, less0_at]
  fin_cases g
  · rw [if_neg (by decide), if_neg (by decide), if_neg (by decide), if_pos (by decide), zero_add, zero_add, zero_add]; rfl
  · rw [if_neg (by decide), if_neg (by decide), if_pos (by decide), if_neg (by decide), zero_add, zero_add, add_zero]; rfl
  · rw [if_neg (by decide), if_pos (by decide), if_neg (by decide), if_neg (by decide), zero_add, add_zero, add_zero]; rfl
  · rw [if_pos (by decide), if_neg (by decide), if_neg (by decide), if_neg (by decide), add_zero, add_zero, add_zero]; rfl

theorem duRef_at (w : FVec Ideal S4x64x64 .f32) (s : FVec Ideal S256 .f32) (d : FVec Ideal S4096x256 .f32) (i : Fin 4096) (g : Fin 4) (a : Fin 64) (q : Fin 256)
    (hg : g.val = q.val / 64) (ha : a.val = q.val % 64) :
    (duRef w s d (ix2 i q) : EReal) = -dmean w s d (ix3 i g a) + onward (rest (dmean w s d)) (ix3 i g a) := by
  obtain rfl : g = ⟨q.val / 64, by clear hg ha; omega⟩ := Fin.ext hg
  obtain rfl : a = ⟨q.val % 64, by clear ha; omega⟩ := Fin.ext ha
  unfold duRef
  generalize dmean w s d = D
  pointwise

theorem dwRef_at (u : FVec Ideal S4096x256 .f32) (s : FVec Ideal S256 .f32) (d : FVec Ideal S4096x256 .f32) (g : Fin 4) (a b : Fin 64) :
    (dwRef u s d (ix3 g a b) : EReal) = ∑ x : Fin 4096, d (ix2 x ⟨g.val * 64 + b.val, by omega⟩) * s (ix1 ⟨g.val * 64 + b.val, by omega⟩)
      * (means (cum (grouped u)) (ix3 x g a) - u (ix2 x ⟨g.val * 64 + a.val, by omega⟩)) := by
  unfold dwRef scaled grouped
  pointwise

theorem dsRef_at (u : FVec Ideal S4096x256 .f32) (w : FVec Ideal S4x64x64 .f32) (d : FVec Ideal S4096x256 .f32) (g : Fin 4) (a : Fin 64) (q : Fin 256)
    (hg : g.val = q.val / 64) (ha : a.val = q.val % 64) :
    (dsRef u w d (ix2 0 q) : EReal) = ∑ x : Fin 4096, (∑ b : Fin 64, w (ix3 g b a)
      * (means (cum (grouped u)) (ix3 x g b) - u (ix2 x ⟨g.val * 64 + b.val, by omega⟩))) * d (ix2 x q) := by
  obtain rfl : g = ⟨q.val / 64, by clear hg ha; omega⟩ := Fin.ext hg
  obtain rfl : a = ⟨q.val % 64, by clear ha; omega⟩ := Fin.ext ha
  unfold dsRef grouped
  pointwise
  simp only [Finset.univ_unique, Finset.sum_singleton]

theorem grouped_at (u : FVec Ideal S4096x256 .f32) (i : Fin 4096) (g : Fin 4) (a : Fin 64) :
    (grouped u (ix3 i g a) : EReal) = u (ix2 i ⟨g.val * 64 + a.val, by omega⟩) := by
  unfold grouped
  pointwise

end Cert.ReferencePoolIdeal.Value

end
-- ==== Proof.Pool.Pair.lean ====
/- The pooling gradients: the kernel's results and the reference's are the same sums. -/
module

public import proofs.«01_k».proof.Defs
public import proofs.«01_k».proof.Proof.Pool.Value
public import proofs.«01_k».proof.Proof.Gen.KernelPool.Frame
public import proofs.«01_k».proof.Proof.Pool.Reference
public import proofs.«01_k».proof.Proof.Gen.Pre_pool_finite
public import Idealize.ShloMosaic.Lib.Quiescent

@[expose] public section

set_option maxRecDepth 16384

noncomputable section

open Idealize.ShloMosaic Idealize.ShloMosaic.TcCoe Idealize.SL.Sem
open Idealize.ShloMosaic.Pipeline (Dat)

namespace Cert.KernelPoolIdeal.Value

open Cert.KernelPoolIdeal Cert.KernelPoolIdeal.Gen

/-- The kernel's run: the three results, and the arguments unchanged. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v15_0) = du (Wt m c) (Sc m c) (Dy m c)
      ∧ r.2.mem ((c.tc : Thread nD τ).loc main_v24) = dw (U m c) (Sc m c) (Dy m c)
      ∧ r.2.mem ((c.tc : Thread nD τ).loc main_v15_2) = dsc (U m c) (Wt m c) (Dy m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun r h c => ⟨((h.1 c).1 6).trans (final6 m c),
      ((h.1 c).2 main_v24 (Pipeline.mem_restRefs_of main_v24 (by decide) (by decide))).trans (tail m c), ((h.1 c).1 8).trans (final8 m c), h.2 c⟩)
    (θ_run_and (run_main m ρ) (unchanged m ρ))

end Cert.KernelPoolIdeal.Value

namespace Cert.Proof.Pool

open Cert.Reals Cert.KernelPoolIdeal.Value

theorem frame_p : Cert.quiescent_KernelPool := fun m ρ _ => Cert.KernelPool.Gen.frame m ρ
theorem frame_pi : Cert.quiescent_KernelPoolIdeal := fun m ρ _ => Cert.KernelPoolIdeal.Gen.frame m ρ
theorem frame_pi_pre : Cert.quiescent_KernelPoolIdeal_pre_pool_finite := fun m ρ _ => Cert.KernelPoolIdeal.Gen.frame m ρ

theorem frame_ri : Cert.quiescent_ReferencePoolIdeal := fun m ρ _ =>
  (θ_run Cert.ReferencePoolIdeal.defs _ _).mono (fun r h => ⟨fun c => (h c).2.2.2,
      Idealize.ShloMosaic.sem_eq_zero_of_no_sems (by decide) r.2⟩)
    (Cert.ReferencePoolIdeal.Value.run (F := Ideal) m ρ)
theorem frame_ri_pre : Cert.quiescent_ReferencePoolIdeal_pre_pool_finite := fun m ρ _ => frame_ri m ρ trivial

open Cert.ReferencePoolIdeal.Value (past cnt grouped means cum onward rest dmean)

/-! ## Windows of a column of reals -/

/-- A real column continued by zero. -/
def colR (f : Fin 4096 → ℝ) (t : ℕ) : ℝ := if h : t < 4096 then f ⟨t, h⟩ else 0

theorem past_coe (f : Fin 4096 → ℝ) (t : ℕ) : past (fun i => ((f i : ℝ) : EReal)) t = ((colR f t : ℝ) : EReal) := by
  unfold past colR
  split <;> rfl

/-- A difference of running sums is the sum over the window between. -/
theorem window (X : ℕ → ℝ) (i w : ℕ) :
    ((∑ s ∈ Finset.range (i + 1), X s) - if i < w then 0 else ∑ s ∈ Finset.range (i - w + 1), X s)
      = ∑ j ∈ Finset.range w, if j ≤ i then X (i - j) else 0 := by
  by_cases h : i < w
  · obtain ⟨k, rfl⟩ : ∃ k, w = (i + 1) + k := ⟨w - (i + 1), by omega⟩
    rw [if_pos h, sub_zero, ← Finset.sum_range_reflect X (i + 1), Finset.sum_range_add _ (i + 1) k, Finset.sum_eq_zero (s := Finset.range k), add_zero]
    · refine Finset.sum_congr rfl fun j hj => ?_
      have := Finset.mem_range.mp hj
      rw [if_pos (show j ≤ i by omega)]
      exact congrArg X (by omega)
    · intro j _
      rw [if_neg (by omega)]
  · have e : Finset.range (i + 1) = Finset.range ((i - w + 1) + w) := congrArg Finset.range (by omega)
    rw [if_neg h, e, Finset.sum_range_add X (i - w + 1) w, add_sub_cancel_left, ← Finset.sum_range_reflect]
    refine Finset.sum_congr rfl fun j hj => ?_
    have := Finset.mem_range.mp hj
    rw [if_pos (show j ≤ i by omega)]
    exact congrArg X (by omega)

/-- Summed from a row on, a column less itself `w` rows later leaves its first `w` terms. -/
theorem telescope (Y : ℕ → ℝ) (w n : ℕ) (h : ∀ k, n ≤ k → Y k = 0) :
    ∑ k ∈ Finset.range n, (Y k - Y (w + k)) = ∑ k ∈ Finset.range w, Y k := by
  have e := Finset.sum_range_add Y n w
  rw [Nat.add_comm, Finset.sum_range_add, Finset.sum_eq_zero fun k _ => h (n + k) (by omega), add_zero] at e
  rw [Finset.sum_sub_distrib]
  linarith

theorem cnt_eq (i : Fin 4096) (q : Fin 256) (g : Fin 4) (hg : g.val = q.val / 64) : cnt g i = count i.val q := by
  unfold cnt KernelPoolIdeal.Value.count win
  rw [hg]

theorem pooled_eq (u : FVec Ideal Cert.ReferencePoolIdeal.S4096x256 .f32) (hu : ∀ i k, IsReal (u (ix2 i k))) (i : Fin 4096) (q : Fin 256) (g : Fin 4) (a : Fin 64)
    (hq : q.val = g.val * 64 + a.val) :
    means (cum (grouped u)) (ix3 i g a) - u (ix2 i q) = pooled u i q := by
  obtain ⟨U, hU⟩ : ∃ U : Fin 4096 → ℝ, (fun s => (u (ix2 s q) : EReal)) = fun s => ((U s : ℝ) : EReal) := lift fun s => hu s q
  have hg : (fun s => (grouped u (ix3 s g a) : EReal)) = fun s => ((U s : ℝ) : EReal) := by
    rw [← hU]
    funext s
    rw [Cert.ReferencePoolIdeal.Value.grouped_at]
    exact congrArg (fun k => (u (ix2 s k) : EReal)) (Fin.ext hq.symm)
  have hc : ∀ s : Fin 4096, (cum (grouped u) (ix3 s g a) : EReal) = ((∑ t ∈ Finset.range (s.val + 1), colR U t : ℝ) : EReal) := by
    intro s
    rw [Cert.ReferencePoolIdeal.Value.cum_at, hg, ← coe_sum]
    exact Finset.sum_congr rfl fun t _ => past_coe U t
  have hw : win q = 2 ^ (g.val + 1) := by
    unfold win
    exact congrArg (fun n => 2 ^ (n + 1)) (by omega)
  rw [Cert.ReferencePoolIdeal.Value.means_at, cnt_eq i q g (by omega)]
  unfold pooled
  refine congrArg (fun z : EReal => Ideal.div z ((count i.val q : ℝ) : EReal) - u (ix2 i q)) ?_
  rw [hc, hw]
  have e := congrArg Real.toEReal (window (colR U) i.val (2 ^ (g.val + 1)))
  rw [EReal.coe_sub, ← coe_sum (Finset.range (2 ^ (g.val + 1)))] at e
  refine Eq.trans ?_ (e.trans (Finset.sum_congr rfl fun j _ => ?_))
  · refine congrArg (fun z : EReal => _ - z) ?_
    by_cases h : i.val < 2 ^ (g.val + 1)
    · rw [dif_pos h, if_pos h]; rfl
    · rw [dif_neg h, if_neg h]
      exact hc ⟨i.val - 2 ^ (g.val + 1), lt_of_le_of_lt (Nat.sub_le _ _) i.isLt⟩
  · by_cases h : j ≤ i.val
    · rw [if_pos h, if_pos h]
      exact (past_coe U _).symm.trans (congrArg (fun f => past f (i.val - j)) hU.symm)
    · rw [if_neg h, if_neg h]; rfl

/-- What a block-diagonal matrix leaves of a sum. -/
theorem block_sum (F : Fin 256 → EReal) (g : Fin 4) (h : ∀ k : Fin 256, k.val / 64 ≠ g.val → F k = 0) :
    ∑ k, F k = ∑ b : Fin 64, F ⟨g.val * 64 + b.val, by omega⟩ := by
  refine (Fintype.sum_of_injective (fun b : Fin 64 => (⟨g.val * 64 + b.val, by omega⟩ : Fin 256)) (fun a b e => ?_) _ _ (fun k hk => ?_) fun _ => rfl).symm
  · have := congrArg Fin.val e
    exact Fin.ext (by simpa using this)
  · refine h k fun e => hk ⟨⟨k.val % 64, by omega⟩, Fin.ext ?_⟩
    show g.val * 64 + k.val % 64 = k.val
    omega

theorem blocks_in (w : FVec Ideal Cert.ReferencePoolIdeal.S4x64x64 .f32) (g : Fin 4) (a b : Fin 64) (p q : Fin 256)
    (hp : p.val = g.val * 64 + a.val) (hq : q.val = g.val * 64 + b.val) : blocks w p q = w (ix3 g a b) := by
  unfold blocks
  rw [if_pos (by omega)]
  have e0 : (⟨p.val / 64, by omega⟩ : Fin 4) = g := Fin.ext (by show p.val / 64 = g.val; omega)
  have e1 : (⟨p.val % 64, by omega⟩ : Fin 64) = a := Fin.ext (by show p.val % 64 = a.val; omega)
  have e2 : (⟨q.val % 64, by omega⟩ : Fin 64) = b := Fin.ext (by show q.val % 64 = b.val; omega)
  rw [e0, e1, e2]

section
variable (w : FVec Ideal Cert.ReferencePoolIdeal.S4x64x64 .f32) (s : FVec Ideal Cert.ReferencePoolIdeal.S256 .f32) (d : FVec Ideal Cert.ReferencePoolIdeal.S4096x256 .f32)

theorem dpool_eq (i : Fin 4096) (q : Fin 256) (g : Fin 4) (a : Fin 64) (hq : q.val = g.val * 64 + a.val) :
    (dmean w s d (ix3 i g a) : EReal) = dpool w s d i q := by
  rw [Cert.ReferencePoolIdeal.Value.dmean_at]
  unfold dpool
  rw [block_sum _ g fun k hk => ?_]
  · refine Finset.sum_congr rfl fun b _ => ?_
    rw [blocks_in w g a b q _ hq rfl]
  · unfold blocks
    rw [if_neg (by omega), mul_zero]

theorem isReal_dpool (hw : ∀ g a b, IsReal (w (ix3 g a b))) (hs : ∀ k, IsReal (s (ix1 k))) (hd : ∀ i k, IsReal (d (ix2 i k)))
    (i : Fin 4096) (q : Fin 256) : IsReal (dpool w s d i q) := by
  unfold dpool
  refine IsReal.sum fun k => ((hd i k).mul (hs k)).mul ?_
  unfold blocks
  split
  · exact hw _ _ _
  · exact ⟨0, rfl⟩

theorem du_eq (hw : ∀ g a b, IsReal (w (ix3 g a b))) (hs : ∀ k, IsReal (s (ix1 k))) (hd : ∀ i k, IsReal (d (ix2 i k)))
    (i : Fin 4096) (q : Fin 256) (g : Fin 4) (a : Fin 64) (hq : q.val = g.val * 64 + a.val) :
    -dmean w s d (ix3 i g a) + onward (rest (dmean w s d)) (ix3 i g a) = du w s d (ix2 i q) := by
  obtain ⟨Z, hZ⟩ : ∃ Z : Fin 4096 → ℝ, (fun i => dpool w s d i q) = fun i => ((Z i : ℝ) : EReal) := lift fun i => isReal_dpool w s d hw hs hd i q
  have hz : ∀ i, dpool w s d i q = ((Z i : ℝ) : EReal) := fun i => congrFun hZ i
  have hD : ∀ i, (dmean w s d (ix3 i g a) : EReal) = ((Z i : ℝ) : EReal) := fun i => (dpool_eq w s d i q g a hq).trans (hz i)
  have hwin : win q = 2 ^ (g.val + 1) := by
    unfold win
    exact congrArg (fun n => 2 ^ (n + 1)) (by omega)
  have hc : ∀ i, Ideal.div ((Z i : ℝ) : EReal) ((count i.val q : ℝ) : EReal) = ((Z i / count i.val q : ℝ) : EReal) := fun i => by
    rw [Ideal.div_coe (count_ne i.val q), ← EReal.coe_mul, mul_one_div]
  have hr : ∀ i : Fin 4096, (rest (dmean w s d) (ix3 i g a) : EReal)
      = ((colR (fun i => Z i / count i.val q) i.val - colR (fun i => Z i / count i.val q) (win q + i.val) : ℝ) : EReal) := by
    intro i
    rw [Cert.ReferencePoolIdeal.Value.rest_at, hD, cnt_eq i q g (by omega), hc, EReal.coe_sub, sub_eq_add_neg]
    refine congrArg₂ (fun y z : EReal => y + z) (congrArg Real.toEReal (by unfold colR; rw [dif_pos i.isLt])) ?_
    by_cases h : i.val + 2 ^ (g.val + 1) < 4096
    · rw [dif_pos h, hD, cnt_eq _ q g (by omega), hc]
      refine congrArg (fun z : EReal => -z) (congrArg Real.toEReal ?_)
      have hn : win q + i.val = i.val + 2 ^ (g.val + 1) := by rw [hwin, Nat.add_comm]
      rw [hn]
      unfold colR
      rw [dif_pos h]
    · rw [dif_neg h, hwin, Nat.add_comm]
      unfold colR
      rw [dif_neg h]
      simp
  rw [du_ix, hwin, Cert.ReferencePoolIdeal.Value.onward_at, hD]
  have hp : ∀ t, past (fun i => (rest (dmean w s d) (ix3 i g a) : EReal)) t
      = ((colR (fun i => Z i / count i.val q) t - colR (fun i => Z i / count i.val q) (win q + t) : ℝ) : EReal) := by
    intro t
    unfold past
    by_cases h : t < 4096
    · rw [dif_pos h]; exact hr ⟨t, h⟩
    · rw [dif_neg h]
      unfold colR
      rw [dif_neg h, dif_neg (by omega)]
      simp
  have ht := telescope (fun k => colR (fun i => Z i / count i.val q) (i.val + k)) (win q) 4096 fun k hk => by unfold colR; rw [dif_neg (by omega)]
  have hx : ∀ t, ext (fun i => Ideal.div (dpool w s d i q) ((count i.val q : ℝ) : EReal)) t = ((colR (fun i => Z i / count i.val q) t : ℝ) : EReal) := by
    intro t
    refine Eq.trans ?_ (past_coe _ t)
    exact congrArg (fun f => past f t) (funext fun i => (congrArg (fun z => Ideal.div z _) (hz i)).trans (hc i))
  rw [Finset.sum_congr rfl fun k _ => hp (i.val + k), Finset.sum_congr rfl fun k _ => hx (i.val + k), coe_sum, coe_sum, hz, ← EReal.coe_neg, ← EReal.coe_add,
    ← EReal.coe_sub, ← hwin, ← ht]
  refine congrArg Real.toEReal ?_
  rw [neg_add_eq_sub]
  refine congrArg (fun y : ℝ => y - Z i) (Finset.sum_congr rfl fun k _ => congrArg (fun n => colR (fun i => Z i / KernelPoolIdeal.Value.count i.val q) (i.val + k) - colR (fun i => Z i / KernelPoolIdeal.Value.count i.val q) n) (by omega))

end

/-- Both programs give the same three gradients at finite inputs. -/
theorem algebraic : Cert.algebraic_KernelPoolIdeal_ReferencePoolIdeal_pre_pool_finite := by
  intro m ρ m' ρ' hp hagree
  refine ⟨_, _, _, Cert.KernelPoolIdeal.Value.run m ρ, ?_⟩
  have key : ∀ c : Dev Cert.KernelPoolIdeal.nD,
      (∀ i k, IsReal (U m c (ix2 i k))) ∧ (∀ g a b, IsReal (Wt m c (ix3 g a b))) ∧ (∀ k, IsReal (Sc m c (ix1 k))) ∧ (∀ i k, IsReal (Dy m c (ix2 i k))) := by
    intro c
    obtain ⟨p0, p1, p2, p3⟩ := hp c
    refine ⟨fun i k => ?_, fun g a b => ?_, fun k => ?_, fun i k => ?_⟩
    · exact isReal_of_test (by have := congrFun p0 (ix2 i k); pointwise [Cert.Pre_pool_finite.fn] at this; exact this)
    · exact isReal_of_test (by have := congrFun p1 (ix3 g a b); pointwise [Cert.Pre_pool_finite.fn] at this; exact this)
    · exact isReal_of_test (by have := congrFun p2 (ix1 k); pointwise [Cert.Pre_pool_finite.fn] at this; exact this)
    · exact isReal_of_test (by have := congrFun p3 (ix2 i k); pointwise [Cert.Pre_pool_finite.fn] at this; exact this)
  refine (θ_run Cert.ReferencePoolIdeal.defs _ _).mono (fun _ h c => ⟨(h c).1.trans ?_, (h c).2.1.trans ?_, (h c).2.2.1.trans ?_, (h c).2.2.2⟩)
    (Cert.ReferencePoolIdeal.Value.run (F := Ideal) m' ρ')
  all_goals
    clear h
    obtain ⟨h0, h1, h2, h3⟩ := hagree c
    obtain ⟨k0, k1, k2, k3⟩ := key c
  · rw [Cert.ReferencePoolIdeal.Value.du_eq, h1, h2, h3]
    funext j
    obtain ⟨i, q, rfl⟩ : ∃ (i : Fin 4096) (q : Fin 256), j = ix2 i q := ex2 j
    refine (Cert.ReferencePoolIdeal.Value.duRef_at _ _ _ i ⟨q.val / 64, by omega⟩ ⟨q.val % 64, by omega⟩ q rfl rfl).trans ?_
    exact du_eq _ _ _ k1 k2 k3 i q _ _ (by show q.val = q.val / 64 * 64 + q.val % 64; omega)
  · rw [Cert.ReferencePoolIdeal.Value.dw_eq, h0, h2, h3]
    funext j
    obtain ⟨g, a, b, rfl⟩ : ∃ (g : Fin 4) (a b : Fin 64), j = ix3 g a b := ex3 j
    refine (Cert.ReferencePoolIdeal.Value.dwRef_at _ _ _ g a b).trans ?_
    show _ = ∑ x : Fin 4096, pooled (U m c) x ⟨g.val * 64 + a.val, by omega⟩ * (Dy m c (ix2 x ⟨g.val * 64 + b.val, by omega⟩) * Sc m c (ix1 ⟨g.val * 64 + b.val, by omega⟩))
    refine Finset.sum_congr rfl fun x _ => ?_
    rw [mul_comm]
    exact congrArg (fun z : EReal => z * _) (pooled_eq _ k0 x _ g a rfl)
  · rw [Cert.ReferencePoolIdeal.Value.ds_eq, h0, h1, h3]
    funext j
    obtain ⟨z, q, rfl⟩ : ∃ (z : Fin 1) (q : Fin 256), j = ix2 z q := ex2 j
    obtain rfl : z = 0 := Subsingleton.elim _ _
    have hq : q.val = q.val / 64 * 64 + q.val % 64 := by omega
    refine (Cert.ReferencePoolIdeal.Value.dsRef_at _ _ _ ⟨q.val / 64, by omega⟩ ⟨q.val % 64, by omega⟩ q rfl rfl).trans ?_
    show _ = ∑ x : Fin 4096, Dy m c (ix2 x q) * ∑ k : Fin 256, pooled (U m c) x k * blocks (Wt m c) k q
    refine Finset.sum_congr rfl fun x _ => ?_
    rw [mul_comm]
    refine congrArg (fun z : EReal => Dy m c (ix2 x q) * z) ?_
    rw [block_sum (fun k => pooled (U m c) x k * blocks (Wt m c) k q) ⟨q.val / 64, by omega⟩ fun k hk => ?_]
    · refine Finset.sum_congr rfl fun b _ => ?_
      rw [mul_comm, blocks_in _ ⟨q.val / 64, by omega⟩ b ⟨q.val % 64, by omega⟩ _ q rfl hq]
      exact congrArg (fun z : EReal => z * _) (pooled_eq _ k0 x _ ⟨q.val / 64, by omega⟩ b rfl)
    · unfold blocks
      rw [if_neg hk, mul_zero]

end Cert.Proof.Pool

end
-- ==== Proof.Post.Value.lean ====
/- `dn_post_bwd`: what the kernel's three result arrays hold. Grid point `t` handles rows `512 t … 512 t + 511`: it writes its
   rows of the gradients of the normed rows and of the gate, and adds its rows' part, over all heads, to the one weight-gradient row. -/
module

public import proofs.«01_k».proof.Proof.Gen.KernelPostIdeal.Value
public import proofs.«01_k».proof.Proof.Reals
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem
open Idealize.ShloMosaic.Pipeline (Dat)

/-! ## One head's row -/

namespace Cert.Gate

abbrev half : EReal := FloatOps.ofBits (F := Ideal) FTy.f32 0xBF000000#32
abbrev lanes : EReal := FloatOps.ofBits (F := Ideal) FTy.f32 0x43000000#32

/-- The mean square, with its epsilon, and its inverse root. -/
def ms (x : Fin 128 → EReal) : EReal := Ideal.div (∑ k, x k * x k) lanes + FloatOps.ofBits (F := Ideal) FTy.f32 0x358637BD#32
def rn (x : Fin 128 → EReal) : EReal := Ideal.rsqrt (ms x)

/-- The cotangent of the normed row, under its weight. -/
def ct (z d : Fin 128 → EReal) (k : Fin 128) : EReal := d k * (z k * Ideal.logistic (z k))

/-- The gradient through the mean square, at each lane twice. -/
def square (x z w d : Fin 128 → EReal) : EReal :=
  Ideal.div ((∑ k, x k * (ct z d k * w k)) * (half * Ideal.div (rn x) (ms x))) lanes

/-- The three gradients at a lane. -/
def dO (x z w d : Fin 128 → EReal) (k : Fin 128) : EReal := ct z d k * w k * rn x + x k * square x z w d + square x z w d * x k
def dz (x z w d : Fin 128 → EReal) (k : Fin 128) : EReal :=
  x k * rn x * w k * d k * Ideal.logistic (z k) + z k * (x k * rn x * w k * d k) * (Ideal.logistic (z k) * (1 - Ideal.logistic (z k)))
def dn (x z d : Fin 128 → EReal) (k : Fin 128) : EReal := x k * rn x * ct z d k

/-- Head `h` of row `i`. -/
def head {n : ℕ} (x : FVec Ideal ⟨2, ![n, 512]⟩ .f32) (i : Fin n) (h : Fin 4) (k : Fin 128) : EReal := x (ix2 i ⟨h.val * 128 + k.val, by omega⟩)

theorem head_0 {n : ℕ} (x : FVec Ideal ⟨2, ![n, 512]⟩ .f32) (i : Fin n) (k : Fin 128) : head x i 0 k = x (ix2 i ⟨k.val, by omega⟩) :=
  congrArg (fun b => (x (ix2 i b) : EReal)) (Fin.ext (by show 0 * 128 + k.val = k.val; omega))
theorem head_1 {n : ℕ} (x : FVec Ideal ⟨2, ![n, 512]⟩ .f32) (i : Fin n) (k : Fin 128) : head x i 1 k = x (ix2 i ⟨128 + k.val, by omega⟩) := rfl
theorem head_2 {n : ℕ} (x : FVec Ideal ⟨2, ![n, 512]⟩ .f32) (i : Fin n) (k : Fin 128) : head x i 2 k = x (ix2 i ⟨256 + k.val, by omega⟩) := rfl
theorem head_3 {n : ℕ} (x : FVec Ideal ⟨2, ![n, 512]⟩ .f32) (i : Fin n) (k : Fin 128) : head x i 3 k = x (ix2 i ⟨384 + k.val, by omega⟩) := rfl

end Cert.Gate

namespace Cert.KernelPostIdeal.Value

open Cert.KernelPostIdeal Cert.KernelPostIdeal.Gen Cert.Gate Cert.Reals

variable (m : (ℓ : Loc nD τ sig) → Buf (Elt Ideal) ℓ)

theorem idx : ∀ t : Fin cfg0.N, win0_0.index t = ![t.val, 0] ∧ win0_1.index t = ![t.val, 0] ∧ win0_2.index t = ![0, 0]
    ∧ win0_3.index t = ![t.val, 0] ∧ win0_4.index t = ![t.val, 0] ∧ win0_5.index t = ![t.val, 0] ∧ t.val < 8 :=
  (by decide +kernel : ∀ t : Fin grid0.N, _)

/-- Row `a` of point `t`'s block is row `512 t + a` of the array. -/
def row (t : Fin cfg0.N) (a : Fin 512) : Fin 4096 := ⟨t.val * 512 + a.val, by have := (idx t).2.2.2.2.2.2; omega⟩

def X (c : Dev nD) : FVec Ideal S4096x512 .f32 := m ((c : Thread nD τ).loc main_arg0)
def Z (c : Dev nD) : FVec Ideal S4096x512 .f32 := m ((c : Thread nD τ).loc main_arg1)
def Wt (c : Dev nD) : FVec Ideal S128 .f32 := m ((c : Thread nD τ).loc main_arg2)
def Dy (c : Dev nD) : FVec Ideal S4096x512 .f32 := m ((c : Thread nD τ).loc main_arg3)

theorem blk0 (c : Dev nD) (t : Fin cfg0.N) (a : Fin 512) (b : Fin 512) :
    (iblk m c 0 t : FVec Ideal S512x512 .f32) (ix2 a b) = X m c (ix2 (row t a) b) := by
  unfold X
  blk_simp [iblk, V, row, idx t]
  blk_ext [idx t]
theorem blk1 (c : Dev nD) (t : Fin cfg0.N) (a : Fin 512) (b : Fin 512) :
    (iblk m c 1 t : FVec Ideal S512x512 .f32) (ix2 a b) = Z m c (ix2 (row t a) b) := by
  unfold Z
  blk_simp [iblk, V, row, idx t]
  blk_ext [idx t]
theorem blk2 (c : Dev nD) (t : Fin cfg0.N) (b : Fin 128) :
    (iblk m c 2 t : FVec Ideal S1x128 .f32) (ix2 0 b) = Wt m c (ix1 b) := by
  unfold Wt
  blk_simp [iblk, idx t]
  entry_read
  pointwise
  blk_ext [idx t]
theorem blk3 (c : Dev nD) (t : Fin cfg0.N) (a : Fin 512) (b : Fin 512) :
    (iblk m c 3 t : FVec Ideal S512x512 .f32) (ix2 a b) = Dy m c (ix2 (row t a) b) := by
  unfold Dy
  blk_simp [iblk, V, row, idx t]
  blk_ext [idx t]

/-- A quarter of the lanes and a lane in it make a lane; every lane is one. -/
theorem lane (q : Fin 512) : ∃ (h : Fin 4) (k : Fin 128), q = ⟨h.val * 128 + k.val, by omega⟩ :=
  ⟨⟨q.val / 128, by omega⟩, ⟨q.val % 128, by omega⟩, Fin.ext (by show q.val = q.val / 128 * 128 + q.val % 128; omega)⟩

/-- The stored gradient of the normed rows. -/
def doBlk (x z d : FVec Ideal S512x512 .f32) (w : FVec Ideal S1x128 .f32) : FVec Ideal S512x512 .f32 :=
  k0_pay62 (k0_pay4 w) (k0_pay5 x) (k0_pay7 x) (k0_pay8 x)
      (k0_pay14 z) (k0_pay15 x) (k0_pay43 d)
      (k0_pay52 (k0_pay4 w) (k0_pay25 x) (k0_pay27 x) (k0_pay28 x)
        (k0_pay49 (k0_pay4 w) (k0_pay35 x) (k0_pay37 x) (k0_pay38 x)
          (k0_pay41 z) (k0_pay42 z) d)
        (k0_pay50 (k0_pay34 z) d))
      (k0_pay57 (k0_pay4 w) (k0_pay17 x) (k0_pay24 z) (k0_pay44 d))
      (k0_pay58 (k0_pay4 w) (k0_pay15 x) (k0_pay18 x) (k0_pay24 z)
        (k0_pay44 d))

theorem doBlk_at (x z d : FVec Ideal S512x512 .f32) (w : FVec Ideal S1x128 .f32) (p : Fin 512) (h : Fin 4) (k : Fin 128) :
    (doBlk x z d w (ix2 p ⟨h.val * 128 + k.val, by omega⟩) : EReal) = dO (head x p h) (head z p h) (fun k => w (ix2 0 k)) (head d p h) k := by
  unfold doBlk
  fin_cases h
  all_goals
    pointwise [k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62]
    simp only [dO, square, ct, rn, ms, Finset.univ_unique, Finset.sum_singleton]
    split_ifs <;> first | omega | skip
    simp only [zero_add, add_zero, Fin.zero_eta, Fin.mk_one, Fin.reduceFinMk, Fin.isValue, head_0, head_1, head_2, head_3]
    rfl

theorem out4 (c : Dev nD) (t : Fin cfg0.N) : (outsAt0 m c t.val t.isLt).1 = doBlk (iblk m c 0 t) (iblk m c 1 t) (iblk m c 3 t) (iblk m c 2 t) := by
  by_cases h0 : t.val % 8 = 0 <;> [rw [outsAt0_A m c t h0]; rw [outsAt0_B m c t h0]] <;> funext y <;> frame_out <;> rfl

/-- The stored gradient of the gate. -/
def dzBlk (x z d : FVec Ideal S512x512 .f32) (w : FVec Ideal S1x128 .f32) : FVec Ideal S512x512 .f32 :=
  k0_pay1 (k0_pay60 (k0_pay10 x w) (k0_pay11 z) (k0_pay12 z) (k0_pay13 z) (k0_pay43 d)
    (k0_pay54 (k0_pay20 (k0_pay4 w) (k0_pay15 x) (k0_pay17 x)) (k0_pay21 z) (k0_pay22 z) (k0_pay23 z) (k0_pay44 d)
      (k0_pay51 (k0_pay30 x (k0_pay4 w)) (k0_pay31 z) (k0_pay32 z) (k0_pay33 z) (k0_pay40 x (k0_pay4 w)) (k0_pay41 z) (k0_pay42 z) d)))

theorem dzBlk_at (x z d : FVec Ideal S512x512 .f32) (w : FVec Ideal S1x128 .f32) (p : Fin 512) (h : Fin 4) (k : Fin 128) :
    (dzBlk x z d w (ix2 p ⟨h.val * 128 + k.val, by omega⟩) : EReal) = dz (head x p h) (head z p h) (fun k => w (ix2 0 k)) (head d p h) k := by
  unfold dzBlk
  fin_cases h
  all_goals
    pointwise [k0_pay1, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62]
    simp only [dz, rn, ms]
    split_ifs <;> first | omega | skip
    simp only [zero_add, add_zero, Fin.zero_eta, Fin.mk_one, Fin.reduceFinMk, Fin.isValue, head_0, head_1, head_2, head_3]
    rfl

theorem out5 (c : Dev nD) (t : Fin cfg0.N) : (outsAt0 m c t.val t.isLt).2.1 = dzBlk (iblk m c 0 t) (iblk m c 1 t) (iblk m c 3 t) (iblk m c 2 t) := by
  by_cases h0 : t.val % 8 = 0 <;> [rw [outsAt0_A m c t h0]; rw [outsAt0_B m c t h0]] <;> funext y <;> frame_out <;> rfl

/-- A point's part of the weight gradient. -/
def dnBlk (x z d : FVec Ideal S512x512 .f32) : FVec Ideal S1x128 .f32 :=
  k0_pay61 (k0_pay9 x) (k0_pay14 z) (k0_pay43 d) (k0_pay55 (k0_pay19 (k0_pay15 x) (k0_pay17 x)) (k0_pay24 z) (k0_pay29 x) (k0_pay44 d)
    (k0_pay48 (k0_pay39 x) (k0_pay41 z) (k0_pay42 z) d) (k0_pay50 (k0_pay34 z) d))

theorem dnBlk_at (x z d : FVec Ideal S512x512 .f32) (k : Fin 128) :
    (dnBlk x z d (ix2 0 k) : EReal) = ∑ h : Fin 4, ∑ a : Fin 512, dn (head x a h) (head z a h) (head d a h) k := by
  unfold dnBlk
  pointwise [k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62]
  simp only [dn, ct, rn, ms, Fin.sum_univ_four, head_0, head_1, head_2, head_3]
  rw [add_comm, add_comm (_ + _) (∑ a : Fin 512, _), add_comm (∑ a : Fin 512, _) (∑ a : Fin 512, _)]
  simp only [add_assoc]
  rfl

/-! ## The arrays -/

def doArr (x z d : FVec Ideal S4096x512 .f32) (w : FVec Ideal S128 .f32) : FVec Ideal S4096x512 .f32 := fun y =>
  dO (head x (y 0) ⟨(y 1).val / 128, by have := (y 1).isLt; change (y 1).val < 512 at this; omega⟩) (head z (y 0) ⟨(y 1).val / 128, by have := (y 1).isLt; change (y 1).val < 512 at this; omega⟩)
    (fun k => w (ix1 k)) (head d (y 0) ⟨(y 1).val / 128, by have := (y 1).isLt; change (y 1).val < 512 at this; omega⟩) ⟨(y 1).val % 128, Nat.mod_lt _ (by decide)⟩

def dzArr (x z d : FVec Ideal S4096x512 .f32) (w : FVec Ideal S128 .f32) : FVec Ideal S4096x512 .f32 := fun y =>
  dz (head x (y 0) ⟨(y 1).val / 128, by have := (y 1).isLt; change (y 1).val < 512 at this; omega⟩) (head z (y 0) ⟨(y 1).val / 128, by have := (y 1).isLt; change (y 1).val < 512 at this; omega⟩)
    (fun k => w (ix1 k)) (head d (y 0) ⟨(y 1).val / 128, by have := (y 1).isLt; change (y 1).val < 512 at this; omega⟩) ⟨(y 1).val % 128, Nat.mod_lt _ (by decide)⟩

def dnArr (x z d : FVec Ideal S4096x512 .f32) : FVec Ideal S1x128 .f32 := fun y =>
  ∑ h : Fin 4, ∑ i : Fin 4096, dn (head x i h) (head z i h) (head d i h) (y 1)

theorem doArr_at (x z d : FVec Ideal S4096x512 .f32) (w : FVec Ideal S128 .f32) (i : Fin 4096) (h : Fin 4) (k : Fin 128) :
    doArr x z d w (ix2 i ⟨h.val * 128 + k.val, by omega⟩) = dO (head x i h) (head z i h) (fun k => w (ix1 k)) (head d i h) k := by
  have e : (⟨(h.val * 128 + k.val) / 128, by omega⟩ : Fin 4) = h := Fin.ext (by show (h.val * 128 + k.val) / 128 = h.val; omega)
  have e' : (⟨(h.val * 128 + k.val) % 128, by omega⟩ : Fin 128) = k := Fin.ext (by show (h.val * 128 + k.val) % 128 = k.val; omega)
  exact congrArg₂ (fun h k => dO (head x i h) (head z i h) (fun k => w (ix1 k)) (head d i h) k) e e'

theorem dzArr_at (x z d : FVec Ideal S4096x512 .f32) (w : FVec Ideal S128 .f32) (i : Fin 4096) (h : Fin 4) (k : Fin 128) :
    dzArr x z d w (ix2 i ⟨h.val * 128 + k.val, by omega⟩) = dz (head x i h) (head z i h) (fun k => w (ix1 k)) (head d i h) k := by
  have e : (⟨(h.val * 128 + k.val) / 128, by omega⟩ : Fin 4) = h := Fin.ext (by show (h.val * 128 + k.val) / 128 = h.val; omega)
  have e' : (⟨(h.val * 128 + k.val) % 128, by omega⟩ : Fin 128) = k := Fin.ext (by show (h.val * 128 + k.val) % 128 = k.val; omega)
  exact congrArg₂ (fun h k => dz (head x i h) (head z i h) (fun k => w (ix1 k)) (head d i h) k) e e'

theorem head0 (c : Dev nD) (t : Fin cfg0.N) (a : Fin 512) (h : Fin 4) : head (iblk m c 0 t : FVec Ideal S512x512 .f32) a h = head (X m c) (row t a) h :=
  funext fun k => blk0 m c t a _
theorem head1 (c : Dev nD) (t : Fin cfg0.N) (a : Fin 512) (h : Fin 4) : head (iblk m c 1 t : FVec Ideal S512x512 .f32) a h = head (Z m c) (row t a) h :=
  funext fun k => blk1 m c t a _
theorem head3 (c : Dev nD) (t : Fin cfg0.N) (a : Fin 512) (h : Fin 4) : head (iblk m c 3 t : FVec Ideal S512x512 .f32) a h = head (Dy m c) (row t a) h :=
  funext fun k => blk3 m c t a _

/-- The gradient of the normed rows after the run. -/
theorem final4 (c : Dev nD) : (dats m 0 c).arrAt 4 cfg0.N = doArr (X m c) (Z m c) (Dy m c) (Wt m c) := by
  refine (dats m 0 c).arrAt_eq_of_covers 4 _ (by decide +kernel) fun t _ y => ?_
  obtain ⟨p, q, rfl⟩ : ∃ (p : Fin 512) (q : Fin 512), y = ix2 p q := ex2 y
  have he : (((cfg0.win 4).blk t).view.emb (ix2 p q)) = (ix2 (row t p) q : S4096x512.Idx) := by
    blk_simp [row, idx t]; blk_ext [idx t]
  rw [he]
  blk_simp
  rw [after0_4, out4]
  obtain ⟨h, k, rfl⟩ := lane q
  refine (doBlk_at _ _ _ _ p h k).trans ((doArr_at _ _ _ _ (row t p) h k).trans ?_).symm
  rw [head0, head1, head3, funext fun k => blk2 m c t k]

/-- The gradient of the gate after the run. -/
theorem final5 (c : Dev nD) : (dats m 0 c).arrAt 5 cfg0.N = dzArr (X m c) (Z m c) (Dy m c) (Wt m c) := by
  refine (dats m 0 c).arrAt_eq_of_covers 5 _ (by decide +kernel) fun t _ y => ?_
  obtain ⟨p, q, rfl⟩ : ∃ (p : Fin 512) (q : Fin 512), y = ix2 p q := ex2 y
  have he : (((cfg0.win 5).blk t).view.emb (ix2 p q)) = (ix2 (row t p) q : S4096x512.Idx) := by
    blk_simp [row, idx t]; blk_ext [idx t]
  rw [he]
  blk_simp
  rw [after0_5, out5]
  obtain ⟨h, k, rfl⟩ := lane q
  refine (dzBlk_at _ _ _ _ p h k).trans ((dzArr_at _ _ _ _ (row t p) h k).trans ?_).symm
  rw [head0, head1, head3, funext fun k => blk2 m c t k]

/-- The weight-gradient row after the run. -/
theorem final6 (c : Dev nD) : (dats m 0 c).arrAt 6 cfg0.N = dnArr (X m c) (Z m c) (Dy m c) := by
  refine (dats m 0 c).arrAt_eq_of_after_last 6 t0_7 (by decide +kernel) _ fun j => ?_
  obtain ⟨p, q, rfl⟩ : ∃ (p : Fin 1) (q : Fin 128), j = ix2 p q := ex2 j
  obtain rfl : p = 0 := Subsingleton.elim _ _
  blk_simp
  rw [after0_6, Pipeline.eq_sum_fin_of_reset_step_apply_last (fun n h => (outsAt0 m c n h).2.2) 8 (fun _ => 0)
    (fun t => dnBlk (iblk m c 0 t) (iblk m c 1 t) (iblk m c 3 t))
    (fun t h j => by
      rw [outsAt0_A m c t h]; frame_out
      show k0_pay2 (F := Ideal) (dnBlk _ _ _) (k0_pay3 (F := Ideal)) j = _
      pointwise [k0_pay2, k0_pay3])
    (fun t h j => by
      rw [outsAt0_B m c t h]; frame_out
      show k0_pay2 (dnBlk _ _ _) _ j = _
      pointwise [k0_pay2])
    (le_of_eq N_0) t0_7 rfl (ix2 0 q), zero_add]
  simp only [dnBlk_at, head0, head1, head3]
  rw [Finset.sum_comm]
  show _ = ∑ h : Fin 4, ∑ i : Fin 4096, dn (head (X m c) i h) (head (Z m c) i h) (head (Dy m c) i h) q
  refine Finset.sum_congr rfl fun h _ => ?_
  refine Fin.sum_mul_add_congr fun s k hl => ?_
  have : (⟨s.val * 512 + k.val, hl⟩ : Fin 4096) = row s k := rfl
  rw [this]

end Cert.KernelPostIdeal.Value

end
-- ==== Proof.Post.Pair.lean ====
/- The gated norm's gradients: the kernel's results and the reference's are the same sums. -/
module

public import proofs.«01_k».proof.Defs
public import proofs.«01_k».proof.Proof.Post.Value
public import proofs.«01_k».proof.Proof.Gen.KernelPost.Frame
public import proofs.«01_k».proof.Proof.Gen.ReferencePostIdeal.Run
public import Idealize.ShloMosaic.Lib.Quiescent

@[expose] public section

set_option maxRecDepth 16384

noncomputable section

open Idealize.ShloMosaic Idealize.ShloMosaic.TcCoe Idealize.SL.Sem

namespace Cert.Proof.Post

open Cert.Reals Cert.Gate Cert.KernelPostIdeal.Value

theorem frame_p : Cert.quiescent_KernelPost := fun m ρ _ => Cert.KernelPost.Gen.frame m ρ
theorem frame_pi : Cert.quiescent_KernelPostIdeal := fun m ρ _ => Cert.KernelPostIdeal.Gen.frame m ρ
theorem frame_ri : Cert.quiescent_ReferencePostIdeal := fun m ρ _ =>
  (θ_run Cert.ReferencePostIdeal.defs _ _).mono (fun r h => ⟨fun c => (h c).2.2.2,
      Idealize.ShloMosaic.sem_eq_zero_of_no_sems (by decide) r.2⟩)
    (Cert.ReferencePostIdeal.Value.run (F := Ideal) m ρ)

/-- The sum over both leading axes, at a lane. -/
theorem sum_leading {n0 n1 n2 : ℕ} (h : (⟨3, ![n0, n1, n2]⟩ : Shape).ReducesTo [0, 1] ⟨1, ![n2]⟩)
    (v : (⟨3, ![n0, n1, n2]⟩ : Shape).Idx → EReal) (init : EReal) (k : Fin n2) :
    Ideal.hostReduceAdd h v init (ix1 k) = init + ∑ a : Fin n0, ∑ b : Fin n1, v (ix3 a b k) := by
  refine congrArg (init + ·) ?_
  refine (Finset.sum_filter_eq_sum_of_fiber _ (fun p : Fin n0 × Fin n1 => ix3 p.1 p.2 k)
    (fun _ _ e => Prod.ext (congrFun e 0) (congrFun e 1)) (fun i => ⟨fun e => ⟨(i 0, i 1), funext fun a => Fin.ext ?_⟩, ?_⟩) v).trans ?_
  · match a with
    | ⟨0, _⟩ => rfl
    | ⟨1, _⟩ => rfl
    | ⟨2, _⟩ => exact (congrArg Fin.val (congrFun e 0)).symm
  · rintro ⟨p, rfl⟩
    funext b
    apply Fin.ext
    match b with
    | ⟨0, _⟩ => rfl
  · simp only [Fintype.sum_prod_type]

set_option maxHeartbeats 1600000 in
/-- Both programs give the same three gradients. -/
theorem algebraic : Cert.algebraic_KernelPostIdeal_ReferencePostIdeal := by
  intro m ρ m' ρ' hp hagree
  refine ⟨_, _, _, Cert.KernelPostIdeal.Value.run_blocks (F := Ideal) m ρ, ?_⟩
  refine (θ_run Cert.ReferencePostIdeal.defs _ _).mono (fun _ h c => ⟨(h c).1.trans ?_, (h c).2.1.trans ?_, (h c).2.2.1.trans ?_, (h c).2.2.2⟩)
    (Cert.ReferencePostIdeal.Value.run (F := Ideal) m' ρ')
  all_goals
    clear h
    obtain ⟨h0, h1, h2, h3⟩ := hagree c
  · unfold Cert.ReferencePostIdeal.Value.res_main_v46
    rw [h0, h1, h2, h3, final4]
    unfold X Z Wt Dy
    generalize (m (c.tc.loc Cert.KernelPostIdeal.main_arg0) : FVec Ideal Cert.KernelPostIdeal.S4096x512 .f32) = x
    generalize (m (c.tc.loc Cert.KernelPostIdeal.main_arg1) : FVec Ideal Cert.KernelPostIdeal.S4096x512 .f32) = z
    generalize (m (c.tc.loc Cert.KernelPostIdeal.main_arg2) : FVec Ideal Cert.KernelPostIdeal.S128 .f32) = w
    generalize (m (c.tc.loc Cert.KernelPostIdeal.main_arg3) : FVec Ideal Cert.KernelPostIdeal.S4096x512 .f32) = d
    funext j
    obtain ⟨i, q, rfl⟩ : ∃ (i : Fin 4096) (q : Fin 512), j = ix2 i q := ex2 j
    obtain ⟨h, k, rfl⟩ := lane q
    refine Eq.trans ?_ (doArr_at x z d w i h k).symm
    have e : (h.val * 128 + k.val) / 128 = h.val := by omega
    have e' : (h.val * 128 + k.val) % 128 = k.val := by omega
    pointwise
    simp only [dO, square, ct, rn, ms, head, Finset.univ_unique, Finset.sum_singleton, e, e']
    rfl
  · rw [h0, h1, h2, h3, final5]
    unfold X Z Wt Dy
    generalize (m (c.tc.loc Cert.KernelPostIdeal.main_arg0) : FVec Ideal Cert.KernelPostIdeal.S4096x512 .f32) = x
    generalize (m (c.tc.loc Cert.KernelPostIdeal.main_arg1) : FVec Ideal Cert.KernelPostIdeal.S4096x512 .f32) = z
    generalize (m (c.tc.loc Cert.KernelPostIdeal.main_arg2) : FVec Ideal Cert.KernelPostIdeal.S128 .f32) = w
    generalize (m (c.tc.loc Cert.KernelPostIdeal.main_arg3) : FVec Ideal Cert.KernelPostIdeal.S4096x512 .f32) = d
    funext j
    obtain ⟨i, q, rfl⟩ : ∃ (i : Fin 4096) (q : Fin 512), j = ix2 i q := ex2 j
    obtain ⟨h, k, rfl⟩ := lane q
    refine Eq.trans ?_ (dzArr_at x z d w i h k).symm
    have e : (h.val * 128 + k.val) / 128 = h.val := by omega
    have e' : (h.val * 128 + k.val) % 128 = k.val := by omega
    pointwise
    simp only [dz, rn, ms, head, e, e']
    rfl
  · rw [h0, h1, h3, final6]
    unfold X Z Dy
    generalize (m (c.tc.loc Cert.KernelPostIdeal.main_arg0) : FVec Ideal Cert.KernelPostIdeal.S4096x512 .f32) = x
    generalize (m (c.tc.loc Cert.KernelPostIdeal.main_arg1) : FVec Ideal Cert.KernelPostIdeal.S4096x512 .f32) = z
    generalize (m (c.tc.loc Cert.KernelPostIdeal.main_arg3) : FVec Ideal Cert.KernelPostIdeal.S4096x512 .f32) = d
    funext j
    obtain ⟨i, k, rfl⟩ : ∃ (i : Fin 1) (k : Fin 128), j = ix2 i k := ex2 j
    obtain rfl : i = 0 := Subsingleton.elim _ _
    pointwise
    rw [sum_leading]
    pointwise
    rw [sum_leading]
    simp only [Finset.univ_unique, Finset.sum_singleton, zero_add]
    refine (Finset.sum_congr rfl fun a _ => Finset.sum_congr rfl fun b _ => (?_ : _ = dn (head x a b) (head z a b) (head d a b) k)).trans ?_
    · pointwise
      simp only [dn, ct, rn, ms, head]
      rfl
    · exact Finset.sum_comm

end Cert.Proof.Post

end
-- ==== Proof.Ffn.Value.lean ====
/- `ffn_bwd`: what the kernel's four result arrays hold. Grid point `(j, i)` handles chunk `j` of the hidden lanes over rows
   `512 i … 512 i + 511`: it adds its rows' parts to the three weight gradients of the chunk and stores its rows' part of the
   gradient of the normed input. -/
module

public import proofs.«01_k».proof.Proof.Reals
public import proofs.«01_k».proof.Proof.NormGrad
public import proofs.«01_k».proof.Proof.Gen.KernelFfnIdeal.Frame
public import Idealize.ShloMosaic.Lib.StableHlo.RunRead
public import Idealize.ShloMosaic.Lib.Pipeline.ReadBack
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem
open Idealize.ShloMosaic.Pipeline (Dat)

/-! ## One row of the forward values and of their gradients -/

namespace Cert.Ffn

open Cert.NormGrad

abbrev half : EReal := FloatOps.ofBits (F := Ideal) FTy.f32 0x3F000000#32

/-- The normed row. -/
def hF (x nw : Fin 1024 → EReal) (k : Fin 1024) : EReal := x k * rn x * nw k
/-- The normed row against one column of a weight. -/
def gF (x nw w : Fin 1024 → EReal) : EReal := ∑ k, hF x nw k * w k
/-- Half the cotangent's row against one row of the down weight. -/
def daF (d w : Fin 1024 → EReal) : EReal := ∑ k, half * d k * w k
/-- The gate's value. -/
def sF (g : EReal) : EReal := g * Ideal.logistic g
/-- The gradients at the two inputs of the gated product, of its cotangent `e`. -/
def dgF (e g u : EReal) : EReal := e * u * (Ideal.logistic g * (1 + g * (1 - Ideal.logistic g)))
def duF (e g : EReal) : EReal := e * sF g

end Cert.Ffn

namespace Cert.KernelFfnIdeal.Value

open Cert.KernelFfnIdeal Cert.KernelFfnIdeal.Gen Cert.Reals Cert.Ffn Cert.NormGrad

variable (m : (ℓ : Loc nD τ sig) → Buf (Elt Ideal) ℓ)

theorem idx : ∀ t : Fin cfg0.N, win0_0.index t = ![t.val % 8, 0] ∧ win0_1.index t = ![0, 0] ∧ win0_2.index t = ![t.val / 8, 0, 0]
    ∧ win0_3.index t = ![t.val / 8, 1, 0] ∧ win0_4.index t = ![t.val / 8, 2, 0] ∧ win0_5.index t = ![t.val % 8, 0]
    ∧ win0_6.index t = ![t.val / 8, 0, 0] ∧ win0_7.index t = ![t.val / 8, 0, 0] ∧ win0_8.index t = ![t.val / 8, 0, 0]
    ∧ win0_9.index t = ![t.val / 8, t.val % 8, 0] ∧ t.val < 32 :=
  (by decide +kernel : ∀ t : Fin grid0.N, _)

theorem lt32 (t : Fin cfg0.N) : t.val < 32 := (idx t).2.2.2.2.2.2.2.2.2.2

/-- Row `a` of point `t`'s block of rows; its chunk of the hidden lanes; lane `f` of that chunk. -/
def row (t : Fin cfg0.N) (a : Fin 512) : Fin 4096 := ⟨t.val % 8 * 512 + a.val, by omega⟩
def chunk (t : Fin cfg0.N) : Fin 4 := ⟨t.val / 8, by have := lt32 t; omega⟩
def lane (j : Fin 4) (f : Fin 704) : Fin 2816 := ⟨j.val * 704 + f.val, by omega⟩

def X (c : Dev nD) : FVec Ideal S4096x1024 .f32 := m ((c : Thread nD τ).loc main_arg0)
def Nw (c : Dev nD) : FVec Ideal S1024 .f32 := m ((c : Thread nD τ).loc main_arg1)
def Wg (c : Dev nD) : FVec Ideal S1024x2816 .f32 := m ((c : Thread nD τ).loc main_arg2)
def Wu (c : Dev nD) : FVec Ideal S1024x2816 .f32 := m ((c : Thread nD τ).loc main_arg3)
def Wd (c : Dev nD) : FVec Ideal S2816x1024 .f32 := m ((c : Thread nD τ).loc main_arg4)
def Dy (c : Dev nD) : FVec Ideal S4096x1024 .f32 := m ((c : Thread nD τ).loc main_arg5)

theorem blk0 (c : Dev nD) (t : Fin cfg0.N) (a : Fin 512) (b : Fin 1024) :
    (iblk m c 0 t : FVec Ideal S512x1024 .f32) (ix2 a b) = X m c (ix2 (row t a) b) := by
  unfold X
  blk_simp [iblk, V, row, idx t]
  blk_ext [idx t]

theorem blk5 (c : Dev nD) (t : Fin cfg0.N) (a : Fin 512) (b : Fin 1024) :
    (iblk m c 5 t : FVec Ideal S512x1024 .f32) (ix2 a b) = Dy m c (ix2 (row t a) b) := by
  unfold Dy
  blk_simp [iblk, V, row, idx t]
  blk_ext [idx t]

theorem blk1 (c : Dev nD) (t : Fin cfg0.N) (b : Fin 1024) :
    (iblk m c 1 t : FVec Ideal S1x1024 .f32) (ix2 0 b) = Nw m c (ix1 b) := by
  have hV : V m c main_v0 = shapeCast S1x1024 (Nw m c) shapeCasts_S1024_S1x1024 := by
    show StableHlo.after hostOps0 _ _ = _
    after_reads_simp
    rfl
  blk_simp [iblk, idx t]
  show V m c main_v0 _ = _
  rw [hV]
  have he : ((win0_1.blk t).view.emb (ix2 0 b)) = (ix2 0 b : S1x1024.Idx) := by
    blk_ext [idx t]
  rw [he]
  pointwise

/-- The packed weights: a chunk's gate columns, up columns and down rows under each other. -/
def blob (wg wu : FVec Ideal S1024x2816 .f32) (wd : FVec Ideal S2816x1024 .f32) : FVec Ideal S4x2112x1024 .bf16 :=
  truncf .bf16 (concatenate S4x2112x1024 1
    [⟨S4x704x1024, shapeCast S4x704x1024 (transpose S2816x1024 [1, 0] wg transposes_S1024x2816_S2816x1024_1_0) shapeCasts_S2816x1024_S4x704x1024⟩,
     ⟨S4x704x1024, shapeCast S4x704x1024 (transpose S2816x1024 [1, 0] wu transposes_S1024x2816_S2816x1024_1_0) shapeCasts_S2816x1024_S4x704x1024⟩,
     ⟨S4x704x1024, shapeCast S4x704x1024 wd shapeCasts_S2816x1024_S4x704x1024⟩] concatenates_S4x704x1024_S4x704x1024_S4x704x1024_S4x2112x1024_d1) bitsLt_bf16_f32

theorem blob_gate (wg wu : FVec Ideal S1024x2816 .f32) (wd : FVec Ideal S2816x1024 .f32) (j : Fin 4) (f : Fin 704) (k : Fin 1024) :
    (blob wg wu wd (ix3 j ⟨f.val, by omega⟩ k) : EReal) = wg (ix2 k (lane j f)) := by
  unfold blob
  pointwise
  rfl
theorem blob_up (wg wu : FVec Ideal S1024x2816 .f32) (wd : FVec Ideal S2816x1024 .f32) (j : Fin 4) (f : Fin 704) (k : Fin 1024) :
    (blob wg wu wd (ix3 j ⟨704 + f.val, by omega⟩ k) : EReal) = wu (ix2 k (lane j f)) := by
  unfold blob
  pointwise
  rfl
theorem blob_down (wg wu : FVec Ideal S1024x2816 .f32) (wd : FVec Ideal S2816x1024 .f32) (j : Fin 4) (f : Fin 704) (k : Fin 1024) :
    (blob wg wu wd (ix3 j ⟨1408 + f.val, by omega⟩ k) : EReal) = wd (ix2 (lane j f) k) := by
  unfold blob
  pointwise
  rw [dif_neg (by omega), dif_neg (by omega)]
  exact congrArg wd (congrArg (fun i => ix2 i k) (Fin.ext (by show j.val * 704 + (1408 + f.val - 704 - 704) = j.val * 704 + f.val; omega)))

theorem entry (c : Dev nD) : V m c main_v7 = blob (Wg m c) (Wu m c) (Wd m c) := by
  show StableHlo.after hostOps0 _ _ = _
  after_reads_simp
  rfl

theorem blk2 (c : Dev nD) (t : Fin cfg0.N) (f : Fin 704) (k : Fin 1024) :
    ((iblk m c 2 t : FVec Ideal S1x704x1024 .bf16) (ix3 0 f k) : EReal) = Wg m c (ix2 k (lane (chunk t) f)) := by
  rw [← blob_gate (Wg m c) (Wu m c) (Wd m c), ← entry m c]
  blk_simp [iblk, V, idx t]
  blk_ext [idx t, chunk]

theorem blk3 (c : Dev nD) (t : Fin cfg0.N) (f : Fin 704) (k : Fin 1024) :
    ((iblk m c 3 t : FVec Ideal S1x704x1024 .bf16) (ix3 0 f k) : EReal) = Wu m c (ix2 k (lane (chunk t) f)) := by
  rw [← blob_up (Wg m c) (Wu m c) (Wd m c), ← entry m c]
  blk_simp [iblk, V, idx t]
  blk_ext [idx t, chunk]

theorem blk4 (c : Dev nD) (t : Fin cfg0.N) (f : Fin 704) (k : Fin 1024) :
    ((iblk m c 4 t : FVec Ideal S1x704x1024 .bf16) (ix3 0 f k) : EReal) = Wd m c (ix2 (lane (chunk t) f) k) := by
  rw [← blob_down (Wg m c) (Wu m c) (Wd m c), ← entry m c]
  blk_simp [iblk, V, idx t]
  blk_ext [idx t, chunk]

/-! ## What a point adds and stores -/

section
variable (x d : FVec Ideal S512x1024 .f32) (nw : FVec Ideal S1x1024 .f32) (wg wu wd : FVec Ideal S1x704x1024 .bf16)

def hB (a : Fin 512) (k : Fin 1024) : EReal := hF (fun k => x (ix2 a k)) (fun k => nw (ix2 0 k)) k
def gB (w : FVec Ideal S1x704x1024 .bf16) (a : Fin 512) (f : Fin 704) : EReal := gF (fun k => x (ix2 a k)) (fun k => nw (ix2 0 k)) fun k => w (ix3 0 f k)
def eB (a : Fin 512) (f : Fin 704) : EReal := daF (fun k => d (ix2 a k)) fun k => wd (ix3 0 f k)

theorem pay8_at (a : Fin 512) (k : Fin 1024) : ((k0_pay8 x nw : FVec Ideal S512x1024 .bf16) (ix2 a k) : EReal) = hB x nw a k := by
  pointwise [k0_pay8]
  rfl
theorem pay9_at (a : Fin 512) (f : Fin 704) : ((k0_pay9 x nw wg : FVec Ideal S512x704 .f32) (ix2 a f) : EReal) = gB x nw wg a f := by
  pointwise [k0_pay9]
  simp only [pay8_at, zero_add]
  rfl
theorem pay10_at (a : Fin 512) (f : Fin 704) : ((k0_pay10 x nw wu : FVec Ideal S512x704 .f32) (ix2 a f) : EReal) = gB x nw wu a f := by
  pointwise [k0_pay10]
  simp only [pay8_at, zero_add]
  rfl
theorem pay11_at (a : Fin 512) (f : Fin 704) : ((k0_pay11 x nw wg : FVec Ideal S512x704 .f32) (ix2 a f) : EReal) = Ideal.logistic (gB x nw wg a f) := by
  pointwise [k0_pay11]
  rw [pay9_at]
theorem pay12_at (a : Fin 512) (f : Fin 704) : ((k0_pay12 x nw wg : FVec Ideal S512x704 .f32) (ix2 a f) : EReal) = sF (gB x nw wg a f) := by
  pointwise [k0_pay12]
  rw [pay9_at, pay11_at]
  rfl
theorem pay13_at (a : Fin 512) (f : Fin 704) : ((k0_pay13 x nw wg wu : FVec Ideal S512x704 .bf16) (ix2 a f) : EReal) = sF (gB x nw wg a f) * gB x nw wu a f := by
  pointwise [k0_pay13]
  rw [pay12_at, pay10_at]
theorem pay14_at (a : Fin 512) (k : Fin 1024) : ((k0_pay14 d : FVec Ideal S512x1024 .bf16) (ix2 a k) : EReal) = half * d (ix2 a k) := by
  pointwise [k0_pay14]
theorem pay15_at (a : Fin 512) (f : Fin 704) : ((k0_pay15 (k0_pay14 d) wd : FVec Ideal S512x704 .f32) (ix2 a f) : EReal) = eB d wd a f := by
  pointwise [k0_pay15]
  simp only [pay14_at, zero_add]
  rfl
theorem pay17_at (a : Fin 512) (f : Fin 704) :
    ((k0_pay17 (k0_pay12 x nw wg) (k0_pay14 d) wd : FVec Ideal S512x704 .bf16) (ix2 a f) : EReal) = duF (eB d wd a f) (gB x nw wg a f) := by
  pointwise [k0_pay17]
  rw [pay15_at, pay12_at]
  rfl
theorem pay18_at (a : Fin 512) (f : Fin 704) :
    ((k0_pay18 (k0_pay9 x nw wg) (k0_pay10 x nw wu) (k0_pay11 x nw wg) (k0_pay14 d) wd : FVec Ideal S512x704 .bf16) (ix2 a f) : EReal)
      = dgF (eB d wd a f) (gB x nw wg a f) (gB x nw wu a f) := by
  pointwise [k0_pay18]
  rw [pay15_at, pay10_at, pay11_at, pay9_at]
  rfl

/-- A point's parts of the three weight gradients. -/
def partG (y : S704x1024.Idx) : EReal := ∑ a : Fin 512, dgF (eB d wd a (y 0)) (gB x nw wg a (y 0)) (gB x nw wu a (y 0)) * hB x nw a (y 1)
def partU (y : S704x1024.Idx) : EReal := ∑ a : Fin 512, duF (eB d wd a (y 0)) (gB x nw wg a (y 0)) * hB x nw a (y 1)
def partD (y : S704x1024.Idx) : EReal := ∑ a : Fin 512, sF (gB x nw wg a (y 0)) * gB x nw wu a (y 0) * (half * d (ix2 a (y 1)))

theorem pay19_at (acc : FVec Ideal S704x1024 .f32) (y : S704x1024.Idx) :
    ((k0_pay19 (k0_pay8 x nw) (k0_pay9 x nw wg) (k0_pay10 x nw wu) (k0_pay11 x nw wg) (k0_pay14 d) wd acc : FVec Ideal S704x1024 .f32) y : EReal) = acc y + partG x d nw wg wu wd y := by
  obtain ⟨f, k, rfl⟩ : ∃ (f : Fin 704) (k : Fin 1024), y = ix2 f k := ex2 y
  pointwise [k0_pay19]
  simp only [pay18_at, pay8_at, zero_add]
  rfl
theorem pay20_at (acc : FVec Ideal S704x1024 .f32) (y : S704x1024.Idx) :
    ((k0_pay20 (k0_pay8 x nw) (k0_pay12 x nw wg) (k0_pay14 d) wd acc : FVec Ideal S704x1024 .f32) y : EReal) = acc y + partU x d nw wg wd y := by
  obtain ⟨f, k, rfl⟩ : ∃ (f : Fin 704) (k : Fin 1024), y = ix2 f k := ex2 y
  pointwise [k0_pay20]
  simp only [pay17_at, pay8_at, zero_add]
  rfl
theorem pay16_at (acc : FVec Ideal S704x1024 .f32) (y : S704x1024.Idx) :
    ((k0_pay16 (k0_pay13 x nw wg wu) (k0_pay14 d) acc : FVec Ideal S704x1024 .f32) y : EReal) = acc y + partD x d nw wg wu y := by
  obtain ⟨f, k, rfl⟩ : ∃ (f : Fin 704) (k : Fin 1024), y = ix2 f k := ex2 y
  pointwise [k0_pay16]
  simp only [pay13_at, pay14_at, zero_add]
  rfl

/-- A point's stored part of the normed input's gradient. -/
def dhBlk : FVec Ideal S1x512x1024 .bf16 :=
  k0_pay1 (k0_pay17 (k0_pay12 x nw wg) (k0_pay14 d) wd) (k0_pay21 (k0_pay9 x nw wg) (k0_pay10 x nw wu) (k0_pay11 x nw wg) (k0_pay14 d) wd wg) wu

theorem dhBlk_at (a : Fin 512) (k : Fin 1024) : (dhBlk x d nw wg wu wd (ix3 0 a k) : EReal)
    = (∑ f : Fin 704, dgF (eB d wd a f) (gB x nw wg a f) (gB x nw wu a f) * wg (ix3 0 f k)) + ∑ f : Fin 704, duF (eB d wd a f) (gB x nw wg a f) * wu (ix3 0 f k) := by
  unfold dhBlk
  pointwise [k0_pay1, k0_pay21]
  simp only [pay17_at, pay18_at, zero_add]

end

theorem hB_eq (c : Dev nD) (t : Fin cfg0.N) (a : Fin 512) (k : Fin 1024) :
    hB (iblk m c 0 t) (iblk m c 1 t) a k = hF (fun k => X m c (ix2 (row t a) k)) (fun k => Nw m c (ix1 k)) k := by
  unfold hB
  rw [funext fun k => blk0 m c t a k, funext fun k => blk1 m c t k]

theorem gG_eq (c : Dev nD) (t : Fin cfg0.N) (a : Fin 512) (f : Fin 704) :
    gB (iblk m c 0 t) (iblk m c 1 t) (iblk m c 2 t) a f
      = gF (fun k => X m c (ix2 (row t a) k)) (fun k => Nw m c (ix1 k)) fun k => Wg m c (ix2 k (lane (chunk t) f)) := by
  unfold gB
  rw [funext fun k => blk0 m c t a k, funext fun k => blk1 m c t k, funext fun k => blk2 m c t f k]

theorem gU_eq (c : Dev nD) (t : Fin cfg0.N) (a : Fin 512) (f : Fin 704) :
    gB (iblk m c 0 t) (iblk m c 1 t) (iblk m c 3 t) a f
      = gF (fun k => X m c (ix2 (row t a) k)) (fun k => Nw m c (ix1 k)) fun k => Wu m c (ix2 k (lane (chunk t) f)) := by
  unfold gB
  rw [funext fun k => blk0 m c t a k, funext fun k => blk1 m c t k, funext fun k => blk3 m c t f k]

theorem eB_eq (c : Dev nD) (t : Fin cfg0.N) (a : Fin 512) (f : Fin 704) :
    eB (iblk m c 5 t) (iblk m c 4 t) a f = daF (fun k => Dy m c (ix2 (row t a) k)) fun k => Wd m c (ix2 (lane (chunk t) f) k) := by
  unfold eB
  rw [funext fun k => blk5 m c t a k, funext fun k => blk4 m c t f k]

/-! ## The results, of the arguments -/

section
variable (x d : FVec Ideal S4096x1024 .f32) (nw : FVec Ideal S1024 .f32) (wg wu : FVec Ideal S1024x2816 .f32) (wd : FVec Ideal S2816x1024 .f32)

def hA (i : Fin 4096) (k : Fin 1024) : EReal := hF (fun k => x (ix2 i k)) (fun k => nw (ix1 k)) k
def gA (w : FVec Ideal S1024x2816 .f32) (i : Fin 4096) (q : Fin 2816) : EReal := gF (fun k => x (ix2 i k)) (fun k => nw (ix1 k)) fun k => w (ix2 k q)
def eA (i : Fin 4096) (q : Fin 2816) : EReal := daF (fun k => d (ix2 i k)) fun k => wd (ix2 q k)
def dgA (i : Fin 4096) (q : Fin 2816) : EReal := dgF (eA d wd i q) (gA x nw wg i q) (gA x nw wu i q)
def duA (i : Fin 4096) (q : Fin 2816) : EReal := duF (eA d wd i q) (gA x nw wg i q)

def dwgArr : FVec Ideal S4x704x1024 .bf16 := fun y => (∑ i : Fin 4096, dgA x d nw wg wu wd i (lane (y 0) (y 1)) * hA x nw i (y 2) : EReal)
def dwuArr : FVec Ideal S4x704x1024 .bf16 := fun y => (∑ i : Fin 4096, duA x d nw wg wd i (lane (y 0) (y 1)) * hA x nw i (y 2) : EReal)
def dwdArr : FVec Ideal S4x704x1024 .bf16 := fun y =>
  (∑ i : Fin 4096, sF (gA x nw wg i (lane (y 0) (y 1))) * gA x nw wu i (lane (y 0) (y 1)) * (half * d (ix2 i (y 2))) : EReal)
/-- One chunk's part of the normed input's gradient. -/
def dhPart : FVec Ideal S4x4096x1024 .bf16 := fun y =>
  ((∑ f : Fin 704, dgA x d nw wg wu wd (y 1) (lane (y 0) f) * wg (ix2 (y 2) (lane (y 0) f)))
    + ∑ f : Fin 704, duA x d nw wg wd (y 1) (lane (y 0) f) * wu (ix2 (y 2) (lane (y 0) f)) : EReal)
def dhArr : FVec Ideal S4096x1024 .f32 := fun y => (∑ j : Fin 4, dhPart x d nw wg wu wd (ix3 j (y 0) (y 1)) : EReal)

end

/-- The eight points of a chunk run through all rows. -/
theorem sum_rows (t : Fin cfg0.N) (ht : t.val % 8 = 7) (F : Fin 4096 → EReal) (H : Fin cfg0.N → EReal)
    (h : ∀ s : Fin cfg0.N, s.val / 8 = t.val / 8 → H s = ∑ a : Fin 512, F (row s a)) :
    ∑ s : Fin 8, H ⟨8 * (t.val / 8) + s.val, by have := lt32 t; have : cfg0.N = 32 := N_0; omega⟩ = ∑ i, F i := by
  refine Eq.trans (Finset.sum_congr rfl fun s _ => h _ (by show (8 * (t.val / 8) + s.val) / 8 = t.val / 8; omega)) ?_
  refine Fin.sum_mul_add_congr fun s k hl => congrArg F (Fin.ext ?_)
  show (8 * (t.val / 8) + s.val) % 8 * 512 + k.val = s.val * 512 + k.val
  omega

/-! ## The three accumulators -/

def tG (c : Dev nD) (t : Fin cfg0.N) (y : S704x1024.Idx) : EReal := partG (iblk m c 0 t) (iblk m c 5 t) (iblk m c 1 t) (iblk m c 2 t) (iblk m c 3 t) (iblk m c 4 t) y
def tU (c : Dev nD) (t : Fin cfg0.N) (y : S704x1024.Idx) : EReal := partU (iblk m c 0 t) (iblk m c 5 t) (iblk m c 1 t) (iblk m c 2 t) (iblk m c 4 t) y
def tD (c : Dev nD) (t : Fin cfg0.N) (y : S704x1024.Idx) : EReal := partD (iblk m c 0 t) (iblk m c 5 t) (iblk m c 1 t) (iblk m c 2 t) (iblk m c 3 t) y

/-- The point before. -/
abbrev prev (c : Dev nD) (t : Fin cfg0.N) := outsAt0 m c (t.val - 1) (Nat.lt_of_le_of_lt (Nat.sub_le _ _) t.isLt)

theorem reset (c : Dev nD) (t : Fin cfg0.N) (h : t.val % 8 = 0) (y : S704x1024.Idx) :
    (outsAt0 m c t.val t.isLt).2.2.2.2.1 y = 0 + tG m c t y
    ∧ (outsAt0 m c t.val t.isLt).2.2.2.2.2.1 y = 0 + tU m c t y
    ∧ (outsAt0 m c t.val t.isLt).2.2.2.2.2.2 y = 0 + tD m c t y := by
  rw [outsAt0_A m c t h (by omega)]
  refine ⟨?_, ?_, ?_⟩ <;> frame_out
  · refine (pay19_at _ _ _ _ _ _ _ y).trans (congrArg (· + _) ?_)
    pointwise [k0_pay5]
  · refine (pay20_at _ _ _ _ _ _ y).trans (congrArg (· + _) ?_)
    pointwise [k0_pay6]
  · refine (pay16_at _ _ _ _ _ _ y).trans (congrArg (· + _) ?_)
    pointwise [k0_pay7]

theorem step (c : Dev nD) (t : Fin cfg0.N) (h : ¬t.val % 8 = 0) (y : S704x1024.Idx) :
    (outsAt0 m c t.val t.isLt).2.2.2.2.1 y = (prev m c t).2.2.2.2.1 y + tG m c t y
    ∧ (outsAt0 m c t.val t.isLt).2.2.2.2.2.1 y = (prev m c t).2.2.2.2.2.1 y + tU m c t y
    ∧ (outsAt0 m c t.val t.isLt).2.2.2.2.2.2 y = (prev m c t).2.2.2.2.2.2 y + tD m c t y := by
  have hG (acc : FVec Ideal S704x1024 .f32) := pay19_at (iblk m c 0 t) (iblk m c 5 t) (iblk m c 1 t) (iblk m c 2 t) (iblk m c 3 t) (iblk m c 4 t) acc y
  have hU (acc : FVec Ideal S704x1024 .f32) := pay20_at (iblk m c 0 t) (iblk m c 5 t) (iblk m c 1 t) (iblk m c 2 t) (iblk m c 4 t) acc y
  have hD (acc : FVec Ideal S704x1024 .f32) := pay16_at (iblk m c 0 t) (iblk m c 5 t) (iblk m c 1 t) (iblk m c 2 t) (iblk m c 3 t) acc y
  by_cases h7 : t.val % 8 = 7
  · rw [outsAt0_C m c t h h7]
    refine ⟨?_, ?_, ?_⟩ <;> frame_out
    · rw [hG]; exact congrArg (fun z : EReal => z + tG m c t y) (congrFun ((Memref.isWhole_whole cc0_scratch0).read_unread _) y)
    · rw [hU]; exact congrArg (fun z : EReal => z + tU m c t y) (congrFun ((Memref.isWhole_whole cc0_scratch1).read_unread _) y)
    · rw [hD]; exact congrArg (fun z : EReal => z + tD m c t y) (congrFun ((Memref.isWhole_whole cc0_scratch2).read_unread _) y)
  · rw [outsAt0_B m c t h h7]
    refine ⟨?_, ?_, ?_⟩ <;> frame_out
    · rw [hG]; exact congrArg (fun z : EReal => z + tG m c t y) (congrFun ((Memref.isWhole_whole cc0_scratch0).read_unread _) y)
    · rw [hU]; exact congrArg (fun z : EReal => z + tU m c t y) (congrFun ((Memref.isWhole_whole cc0_scratch1).read_unread _) y)
    · rw [hD]; exact congrArg (fun z : EReal => z + tD m c t y) (congrFun ((Memref.isWhole_whole cc0_scratch2).read_unread _) y)

/-- At a chunk's last point the stored blocks are the accumulators. -/
theorem stored (c : Dev nD) (t : Fin cfg0.N) (h7 : t.val % 8 = 7) (f : Fin 704) (k : Fin 1024) :
    ((outsAt0 m c t.val t.isLt).1 (ix3 0 f k) : EReal) = (outsAt0 m c t.val t.isLt).2.2.2.2.1 (ix2 f k)
    ∧ ((outsAt0 m c t.val t.isLt).2.1 (ix3 0 f k) : EReal) = (outsAt0 m c t.val t.isLt).2.2.2.2.2.1 (ix2 f k)
    ∧ ((outsAt0 m c t.val t.isLt).2.2.1 (ix3 0 f k) : EReal) = (outsAt0 m c t.val t.isLt).2.2.2.2.2.2 (ix2 f k) := by
  rw [outsAt0_C m c t (by omega) h7]
  refine ⟨?_, ?_, ?_⟩ <;> frame_out
  · pointwise [k0_pay2]
  · pointwise [k0_pay3]
  · pointwise [k0_pay4]

theorem out9 (c : Dev nD) (t : Fin cfg0.N) :
    (outsAt0 m c t.val t.isLt).2.2.2.1 = dhBlk (iblk m c 0 t) (iblk m c 5 t) (iblk m c 1 t) (iblk m c 2 t) (iblk m c 3 t) (iblk m c 4 t) := by
  by_cases h0 : t.val % 8 = 0
  · rw [outsAt0_A m c t h0 (by omega)]; funext y; frame_out; rfl
  · by_cases h7 : t.val % 8 = 7 <;> [rw [outsAt0_C m c t h0 h7]; rw [outsAt0_B m c t h0 h7]] <;> funext y <;> frame_out <;> rfl

theorem flushed (c : Dev nD) (t : Fin cfg0.N) (h7 : t.val % 8 = 7) (f : Fin 704) (k : Fin 1024) :
    ((outsAt0 m c t.val t.isLt).1 (ix3 0 f k) : EReal) = dwgArr (X m c) (Dy m c) (Nw m c) (Wg m c) (Wu m c) (Wd m c) (ix3 (chunk t) f k)
    ∧ ((outsAt0 m c t.val t.isLt).2.1 (ix3 0 f k) : EReal) = dwuArr (X m c) (Dy m c) (Nw m c) (Wg m c) (Wd m c) (ix3 (chunk t) f k)
    ∧ ((outsAt0 m c t.val t.isLt).2.2.1 (ix3 0 f k) : EReal) = dwdArr (X m c) (Dy m c) (Nw m c) (Wg m c) (Wu m c) (ix3 (chunk t) f k) := by
  have hc : ∀ s : Fin cfg0.N, s.val / 8 = t.val / 8 → chunk s = chunk t := fun s h => Fin.ext h
  refine ⟨?_, ?_, ?_⟩
  · rw [(stored m c t h7 f k).1, Pipeline.eq_sum_fin_of_reset_step_apply_of_flush (M := EReal) (ι := S704x1024.Idx) (fun n h => (outsAt0 m c n h).2.2.2.2.1) 8 (fun _ => 0) (tG m c)
      (fun t h y => (reset m c t h y).1) (fun t h y => (step m c t h y).1) t h7 (ix2 f k), zero_add]
    refine sum_rows t h7 (fun i => dgA (X m c) (Dy m c) (Nw m c) (Wg m c) (Wu m c) (Wd m c) i (lane (chunk t) f) * hA (X m c) (Nw m c) i k)
      (fun s => tG m c s (ix2 f k)) fun s hs => ?_
    unfold tG partG
    refine Finset.sum_congr rfl fun a _ => ?_
    show dgF (eB _ _ a f) (gB _ _ _ a f) (gB _ _ _ a f) * hB _ _ a k = _
    rw [eB_eq, gG_eq, gU_eq, hB_eq, hc s hs]
    rfl
  · rw [(stored m c t h7 f k).2.1, Pipeline.eq_sum_fin_of_reset_step_apply_of_flush (M := EReal) (ι := S704x1024.Idx) (fun n h => (outsAt0 m c n h).2.2.2.2.2.1) 8 (fun _ => 0) (tU m c)
      (fun t h y => (reset m c t h y).2.1) (fun t h y => (step m c t h y).2.1) t h7 (ix2 f k), zero_add]
    refine sum_rows t h7 (fun i => duA (X m c) (Dy m c) (Nw m c) (Wg m c) (Wd m c) i (lane (chunk t) f) * hA (X m c) (Nw m c) i k)
      (fun s => tU m c s (ix2 f k)) fun s hs => ?_
    unfold tU partU
    refine Finset.sum_congr rfl fun a _ => ?_
    show duF (eB _ _ a f) (gB _ _ _ a f) * hB _ _ a k = _
    rw [eB_eq, gG_eq, hB_eq, hc s hs]
    rfl
  · rw [(stored m c t h7 f k).2.2, Pipeline.eq_sum_fin_of_reset_step_apply_of_flush (M := EReal) (ι := S704x1024.Idx) (fun n h => (outsAt0 m c n h).2.2.2.2.2.2) 8 (fun _ => 0) (tD m c)
      (fun t h y => (reset m c t h y).2.2) (fun t h y => (step m c t h y).2.2) t h7 (ix2 f k), zero_add]
    refine sum_rows t h7 (fun i => sF (gA (X m c) (Nw m c) (Wg m c) i (lane (chunk t) f)) * gA (X m c) (Nw m c) (Wu m c) i (lane (chunk t) f) * (half * Dy m c (ix2 i k)))
      (fun s => tD m c s (ix2 f k)) fun s hs => ?_
    unfold tD partD
    refine Finset.sum_congr rfl fun a _ => ?_
    show sF (gB _ _ _ a f) * gB _ _ _ a f * (half * iblk m c 5 s (ix2 a k)) = _
    rw [gG_eq, gU_eq, hc s hs, blk5]
    rfl

/-! ## The arrays after the run -/

theorem final6 (c : Dev nD) : (dats m 0 c).arrAt 6 cfg0.N = dwgArr (X m c) (Dy m c) (Nw m c) (Wg m c) (Wu m c) (Wd m c) := by
  refine (dats m 0 c).arrAt_eq_of_covers 6 _ (by decide +kernel) fun t hf y => ?_
  obtain ⟨z, p, q, rfl⟩ : ∃ (z : Fin 1) (p : Fin 704) (q : Fin 1024), y = ix3 z p q := ex3 y
  obtain rfl : z = 0 := Fin.ext (by omega)
  have he : ((cfg0.win 6).blk t).view.emb (ix3 0 p q) = (ix3 (chunk t) p q : S4x704x1024.Idx) := by
    blk_simp [idx t]
    blk_ext [idx t, chunk]
  rw [he]
  blk_simp
  rw [after0_6]
  exact (flushed m c t ((flush0_6 t).mp hf) p q).1

theorem final7 (c : Dev nD) : (dats m 0 c).arrAt 7 cfg0.N = dwuArr (X m c) (Dy m c) (Nw m c) (Wg m c) (Wd m c) := by
  refine (dats m 0 c).arrAt_eq_of_covers 7 _ (by decide +kernel) fun t hf y => ?_
  obtain ⟨z, p, q, rfl⟩ : ∃ (z : Fin 1) (p : Fin 704) (q : Fin 1024), y = ix3 z p q := ex3 y
  obtain rfl : z = 0 := Fin.ext (by omega)
  have he : ((cfg0.win 7).blk t).view.emb (ix3 0 p q) = (ix3 (chunk t) p q : S4x704x1024.Idx) := by
    blk_simp [idx t]
    blk_ext [idx t, chunk]
  rw [he]
  blk_simp
  rw [after0_7]
  exact (flushed m c t ((flush0_7 t).mp hf) p q).2.1

theorem final8 (c : Dev nD) : (dats m 0 c).arrAt 8 cfg0.N = dwdArr (X m c) (Dy m c) (Nw m c) (Wg m c) (Wu m c) := by
  refine (dats m 0 c).arrAt_eq_of_covers 8 _ (by decide +kernel) fun t hf y => ?_
  obtain ⟨z, p, q, rfl⟩ : ∃ (z : Fin 1) (p : Fin 704) (q : Fin 1024), y = ix3 z p q := ex3 y
  obtain rfl : z = 0 := Fin.ext (by omega)
  have he : ((cfg0.win 8).blk t).view.emb (ix3 0 p q) = (ix3 (chunk t) p q : S4x704x1024.Idx) := by
    blk_simp [idx t]
    blk_ext [idx t, chunk]
  rw [he]
  blk_simp
  rw [after0_8]
  exact (flushed m c t ((flush0_8 t).mp hf) p q).2.2

theorem final9 (c : Dev nD) : (dats m 0 c).arrAt 9 cfg0.N = dhPart (X m c) (Dy m c) (Nw m c) (Wg m c) (Wu m c) (Wd m c) := by
  refine (dats m 0 c).arrAt_eq_of_covers 9 _ (by decide +kernel) fun t hf y => ?_
  obtain ⟨z, p, q, rfl⟩ : ∃ (z : Fin 1) (p : Fin 512) (q : Fin 1024), y = ix3 z p q := ex3 y
  obtain rfl : z = 0 := Fin.ext (by omega)
  have he : ((cfg0.win 9).blk t).view.emb (ix3 0 p q) = (ix3 (chunk t) (row t p) q : S4x4096x1024.Idx) := by
    blk_simp [idx t]
    blk_ext [idx t, chunk, row]
  rw [he]
  blk_simp
  rw [after0_9, out9]
  refine (dhBlk_at _ _ _ _ _ _ p q).trans ?_
  simp only [eB_eq, gG_eq, gU_eq, blk2, blk3]
  rfl

/-- The chunks' parts added. -/
def added (b : FVec Ideal S4x4096x1024 .bf16) : FVec Ideal S4096x1024 .f32 :=
  Host.reduceAdd (extf .f32 b bitsLt_bf16_f32) (constant S_ .f32 0x00000000#32) reducesTo_S4x4096x1024_S4096x1024_d0 h_S_

theorem added_at (b : FVec Ideal S4x4096x1024 .bf16) (i : Fin 4096) (k : Fin 1024) : (added b (ix2 i k) : EReal) = ∑ j : Fin 4, b (ix3 j i k) := by
  unfold added
  pointwise

theorem after_dh (W : Valuation τ sig (Elt Ideal)) : StableHlo.after hostOps1 W (Proc.devRef .tc main_v10) = added (W (Proc.devRef .tc main_v8_3)) := by
  after_reads_simp
  rfl

/-- The normed input's gradient the kernel returns: the sum over the chunks. -/
theorem tail (c : Dev nD) : Pipeline.afterTail₀ cfgs (dats m) 0 (V0 m) [hostOps1] c main_v10 = dhArr (X m c) (Dy m c) (Nw m c) (Wg m c) (Wu m c) (Wd m c) := by
  have hW : Pipeline.withArrays (cfgs 0).spec c (V0 m c) (fun w => (dats m 0 c).arrAt w (cfgs 0).N) (Proc.devRef .tc main_v8_3)
      = (dats m 0 c).arrAt 9 cfg0.N := (dats m 0 c).withArrays_arrAt launch₀0.sharedIn (V0 m c) (A_eq m c) 9
  unfold Pipeline.afterTail₀
  refine (after_dh _).trans ?_
  rw [hW, final9]
  funext y
  obtain ⟨i, k, rfl⟩ : ∃ (i : Fin 4096) (k : Fin 1024), y = ix2 i k := ex2 y
  exact added_at _ i k

end Cert.KernelFfnIdeal.Value
-- ==== Proof.Ffn.Pair.lean ====
/- The gradients of the gated feed-forward part: the kernel's results and the reference's are the same sums. The two write the
   gate's slope differently; they agree where the arguments are finite. -/
module

public import proofs.«01_k».proof.Defs
public import proofs.«01_k».proof.Proof.Ffn.Value
public import proofs.«01_k».proof.Proof.Gen.KernelFfn.Frame
public import proofs.«01_k».proof.Proof.Gen.ReferenceFfnIdeal.Run
public import Idealize.ShloMosaic.Lib.Pointwise
public import proofs.«01_k».proof.Proof.Gen.Pre_ffn_finite
public import Idealize.ShloMosaic.Lib.Quiescent

@[expose] public section

set_option maxRecDepth 16384

noncomputable section

open Idealize.ShloMosaic Idealize.ShloMosaic.TcCoe Idealize.SL.Sem
open Idealize.ShloMosaic.Pipeline (Dat)

namespace Cert.KernelFfnIdeal.Value

open Cert.KernelFfnIdeal Cert.KernelFfnIdeal.Gen

/-- The kernel's run: the four results, and the arguments unchanged. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v8_0) = dwgArr (X m c) (Dy m c) (Nw m c) (Wg m c) (Wu m c) (Wd m c)
      ∧ r.2.mem ((c.tc : Thread nD τ).loc main_v8_1) = dwuArr (X m c) (Dy m c) (Nw m c) (Wg m c) (Wd m c)
      ∧ r.2.mem ((c.tc : Thread nD τ).loc main_v8_2) = dwdArr (X m c) (Dy m c) (Nw m c) (Wg m c) (Wu m c)
      ∧ r.2.mem ((c.tc : Thread nD τ).loc main_v10) = dhArr (X m c) (Dy m c) (Nw m c) (Wg m c) (Wu m c) (Wd m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun r h c => ⟨((h.1 c).1 6).trans (final6 m c), ((h.1 c).1 7).trans (final7 m c), ((h.1 c).1 8).trans (final8 m c),
      ((h.1 c).2 main_v10 (Pipeline.mem_restRefs_of main_v10 (by decide) (by decide))).trans (tail m c), h.2 c⟩)
    (θ_run_and (run_main m ρ) (unchanged m ρ))

end Cert.KernelFfnIdeal.Value

namespace Cert.Proof.Ffn

open Cert.Reals Cert.Ffn Cert.NormGrad Cert.KernelFfnIdeal.Value

/-- The gate input's gradient as the product rule gives it, of the logistic function's own derivative. -/
def dgR (e g u : EReal) : EReal := e * u * Ideal.logistic g + g * (e * u) * (Ideal.logistic g * (1 - Ideal.logistic g))

theorem dgR_eq {e g u : EReal} (he : IsReal e) (hg : IsReal g) (hu : IsReal u) : dgR e g u = dgF e g u := by
  obtain ⟨e, rfl⟩ := he
  obtain ⟨g, rfl⟩ := hg
  obtain ⟨u, rfl⟩ := hu
  unfold dgR dgF
  rw [Ideal.logistic_coe]
  norm_cast
  ring

theorem isReal_half : IsReal half := ⟨1 / 2, by show Ideal.ofBits .f32 0x3F000000#32 = _; simp [Ideal.ofBits, Ideal.ieee, -EReal.coe_mul]; norm_num⟩

theorem isReal_g {x nw w : Fin 1024 → EReal} (hx : ∀ k, IsReal (x k)) (hn : ∀ k, IsReal (nw k)) (hw : ∀ k, IsReal (w k)) : IsReal (gF x nw w) :=
  IsReal.sum fun k => (((hx k).mul (isReal_rn hx)).mul (hn k)).mul (hw k)

theorem isReal_e {d w : Fin 1024 → EReal} (hd : ∀ k, IsReal (d k)) (hw : ∀ k, IsReal (w k)) : IsReal (daF d w) :=
  IsReal.sum fun k => (isReal_half.mul (hd k)).mul (hw k)

/-- A sum over all hidden lanes, a chunk at a time. -/
theorem sum_lanes (F : Fin 2816 → EReal) : ∑ q, F q = ∑ j : Fin 4, ∑ f : Fin 704, F (lane j f) :=
  (Fin.sum_mul_add_congr fun j f hl => rfl).symm

theorem algebraic : Cert.algebraic_KernelFfnIdeal_ReferenceFfnIdeal_pre_ffn_finite := by
  intro m ρ m' ρ' hp hagree
  refine ⟨fun c => dwgArr (X m c) (Dy m c) (Nw m c) (Wg m c) (Wu m c) (Wd m c), fun c => dwuArr (X m c) (Dy m c) (Nw m c) (Wg m c) (Wd m c),
    fun c => dwdArr (X m c) (Dy m c) (Nw m c) (Wg m c) (Wu m c), fun c => dhArr (X m c) (Dy m c) (Nw m c) (Wg m c) (Wu m c) (Wd m c),
    Cert.KernelFfnIdeal.Value.run m ρ, ?_⟩
  have key : ∀ (c : Dev Cert.KernelFfnIdeal.nD) (i : Fin 4096) (q : Fin 2816),
      dgR (eA (Dy m c) (Wd m c) i q) (gA (X m c) (Nw m c) (Wg m c) i q) (gA (X m c) (Nw m c) (Wu m c) i q)
        = dgA (X m c) (Dy m c) (Nw m c) (Wg m c) (Wu m c) (Wd m c) i q := by
    intro c i q
    obtain ⟨p0, p1, p2, p3, p4, p5⟩ := hp c
    have k0 : ∀ i k, IsReal (X m c (ix2 i k)) := fun i k =>
      isReal_of_test (by have := congrFun p0 (ix2 i k); pointwise [Cert.Pre_ffn_finite.fn] at this; exact this)
    have k1 : ∀ k, IsReal (Nw m c (ix1 k)) := fun k =>
      isReal_of_test (by have := congrFun p1 (ix1 k); pointwise [Cert.Pre_ffn_finite.fn] at this; exact this)
    have k2 : ∀ k q, IsReal (Wg m c (ix2 k q)) := fun i k =>
      isReal_of_test (by have := congrFun p2 (ix2 i k); pointwise [Cert.Pre_ffn_finite.fn] at this; exact this)
    have k3 : ∀ k q, IsReal (Wu m c (ix2 k q)) := fun i k =>
      isReal_of_test (by have := congrFun p3 (ix2 i k); pointwise [Cert.Pre_ffn_finite.fn] at this; exact this)
    have k4 : ∀ q k, IsReal (Wd m c (ix2 q k)) := fun i k =>
      isReal_of_test (by have := congrFun p4 (ix2 i k); pointwise [Cert.Pre_ffn_finite.fn] at this; exact this)
    have k5 : ∀ i k, IsReal (Dy m c (ix2 i k)) := fun i k =>
      isReal_of_test (by have := congrFun p5 (ix2 i k); pointwise [Cert.Pre_ffn_finite.fn] at this; exact this)
    exact dgR_eq (isReal_e (fun k => k5 i k) fun k => k4 q k) (isReal_g (fun k => k0 i k) k1 fun k => k2 k q) (isReal_g (fun k => k0 i k) k1 fun k => k3 k q)
  refine (θ_run Cert.ReferenceFfnIdeal.defs _ _).mono (fun _ h c =>
    ⟨(h c).1.trans ?_, (h c).2.1.trans ?_, (h c).2.2.1.trans ?_, (h c).2.2.2.1.trans ?_, (h c).2.2.2.2⟩) (Cert.ReferenceFfnIdeal.Value.run (F := Ideal) m' ρ')
  all_goals
    clear h
    obtain ⟨h0, h1, h2, h3, h4, h5⟩ := hagree c
  · unfold Cert.ReferenceFfnIdeal.Value.res_main_v37
    rw [h0, h1, h2, h3, h4, h5]
    funext y
    obtain ⟨j, f, k, rfl⟩ : ∃ (j : Fin 4) (f : Fin 704) (k : Fin 1024), y = ix3 j f k := ex3 y
    pointwise
    refine Finset.sum_congr rfl fun i _ => ?_
    exact congrArg (fun z : EReal => z * hA (X m c) (Nw m c) i k) (key c i (lane j f))
  · rw [h0, h1, h2, h4, h5]
    funext y
    obtain ⟨j, f, k, rfl⟩ : ∃ (j : Fin 4) (f : Fin 704) (k : Fin 1024), y = ix3 j f k := ex3 y
    pointwise
    refine Finset.sum_congr rfl fun i _ => ?_
    exact congrArg (fun z : EReal => z * hA (X m c) (Nw m c) i k) (mul_comm (sF (gA (X m c) (Nw m c) (Wg m c) i (lane j f))) (eA (Dy m c) (Wd m c) i (lane j f)))
  · rw [h0, h1, h2, h3, h5]
    funext y
    obtain ⟨j, f, k, rfl⟩ : ∃ (j : Fin 4) (f : Fin 704) (k : Fin 1024), y = ix3 j f k := ex3 y
    pointwise
    refine Finset.sum_congr rfl fun i _ => ?_
    exact mul_comm (half * Dy m c (ix2 i k)) (sF (gA (X m c) (Nw m c) (Wg m c) i (lane j f)) * gA (X m c) (Nw m c) (Wu m c) i (lane j f))
  · unfold Cert.ReferenceFfnIdeal.Value.res_main_v34
    rw [h0, h1, h2, h3, h4, h5]
    funext y
    obtain ⟨i, k, rfl⟩ : ∃ (i : Fin 4096) (k : Fin 1024), y = ix2 i k := ex2 y
    pointwise
    show (∑ q : Fin 2816, sF (gA (X m c) (Nw m c) (Wg m c) i q) * eA (Dy m c) (Wd m c) i q * Wu m c (ix2 k q) : EReal)
      + ∑ q : Fin 2816, dgR (eA (Dy m c) (Wd m c) i q) (gA (X m c) (Nw m c) (Wg m c) i q) (gA (X m c) (Nw m c) (Wu m c) i q) * Wg m c (ix2 k q) = _
    simp only [key]
    rw [add_comm, sum_lanes, sum_lanes, ← Finset.sum_add_distrib]
    refine Finset.sum_congr rfl fun j _ => ?_
    refine congrArg₂ (fun y z : EReal => y + z) rfl (Finset.sum_congr rfl fun f _ => ?_)
    exact congrArg (fun z : EReal => z * Wu m c (ix2 k (lane j f))) (mul_comm _ _)

/-! ## The frames -/

theorem frame_p : Cert.quiescent_KernelFfn := fun m ρ _ => Cert.KernelFfn.Gen.frame m ρ
theorem frame_pi : Cert.quiescent_KernelFfnIdeal := fun m ρ _ => Cert.KernelFfnIdeal.Gen.frame m ρ
theorem frame_pi_pre : Cert.quiescent_KernelFfnIdeal_pre_ffn_finite := fun m ρ _ => Cert.KernelFfnIdeal.Gen.frame m ρ
theorem frame_ri : Cert.quiescent_ReferenceFfnIdeal := fun m ρ _ =>
  (θ_run Cert.ReferenceFfnIdeal.defs _ _).mono (fun r h => ⟨fun c => (h c).2.2.2.2,
      Idealize.ShloMosaic.sem_eq_zero_of_no_sems (by decide) r.2⟩)
    (Cert.ReferenceFfnIdeal.Value.run (F := Ideal) m ρ)
theorem frame_ri_pre : Cert.quiescent_ReferenceFfnIdeal_pre_ffn_finite := fun m ρ _ => frame_ri m ρ trivial

end Cert.Proof.Ffn

end
-- ==== Proof.ConvFwd.Pair.lean ====
/- `conv_fwd`: grid point `t` convolves rows `256 t … 256 t + 255`, with the last rows of the previous point's block before its
   own. Its result and the reference's are the same four products, added in either order. -/
module

public import proofs.«01_k».proof.Defs
public import proofs.«01_k».proof.Proof.Gen.KernelConvFwd.Frame
public import proofs.«01_k».proof.Proof.Gen.KernelConvFwdIdeal.Value
public import proofs.«01_k».proof.Proof.Gen.ReferenceConvFwdIdeal.Run
public import proofs.«01_k».proof.Proof.Reals
public import Idealize.ShloMosaic.Lib.Quiescent
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.KernelConvFwdIdeal.Value

open Cert.KernelConvFwdIdeal Cert.KernelConvFwdIdeal.Gen Cert.Reals

/-- The input `s` rows earlier, zero before the start. -/
def before (u : FVec Ideal S4096x1536 .f32) (s : ℕ) (i : Fin 4096) (q : Fin 1536) : EReal :=
  if h : s ≤ i.val then u (ix2 ⟨i.val - s, by omega⟩ q) else 0

/-- The convolved rows: tap `k` of the filter meets the row `3 - k` earlier. -/
def conv (w : FVec Ideal S4x1536 .f32) (u : FVec Ideal S4096x1536 .f32) : FVec Ideal S4096x1536 .f32 := fun j =>
  w (ix2 3 (j 1)) * u (ix2 (j 0) (j 1)) + w (ix2 2 (j 1)) * before u 1 (j 0) (j 1)
    + w (ix2 1 (j 1)) * before u 2 (j 0) (j 1) + w (ix2 0 (j 1)) * before u 3 (j 0) (j 1)

theorem conv_at (w : FVec Ideal S4x1536 .f32) (u : FVec Ideal S4096x1536 .f32) (i : Fin 4096) (q : Fin 1536) :
    conv w u (ix2 i q) = w (ix2 3 q) * u (ix2 i q) + w (ix2 2 q) * before u 1 i q + w (ix2 1 q) * before u 2 i q + w (ix2 0 q) * before u 3 i q := rfl

variable (m : (ℓ : Loc nD τ sig) → Buf (Elt Ideal) ℓ)

theorem idx : ∀ t : Fin cfg0.N, win0_0.index t = ![t.val, 0] ∧ win0_1.index t = ![t.val * 32 - 1, 0] ∧ win0_2.index t = ![0, 0]
    ∧ win0_3.index t = ![t.val, 0] ∧ t.val < 16 :=
  (by decide +kernel : ∀ t : Fin grid0.N, _)

/-- The mask of the halo: one inside the array, zero at its start. -/
theorem mask : ∀ t : Fin cfg0.N,
    (Scalar.extui (Scalar.cmpi CmpIPredicate.sgt (BitVec.ofNat 32 (grid0.coords t 0).val) 0#32) : BitVec 32).toInt = (if t.val = 0 then 0 else 1) :=
  (by decide +kernel : ∀ t : Fin grid0.N, _)

/-- Row `a` of point `t`'s block is row `256 t + a` of the array. -/
def row (t : Fin cfg0.N) (a : Fin 256) : Fin 4096 := ⟨t.val * 256 + a.val, by have := (idx t).2.2.2.2; omega⟩

theorem blk0 (c : Dev nD) (t : Fin cfg0.N) (a : Fin 256) (b : Fin 1536) :
    (iblk m c 0 t : FVec Ideal S256x1536 .f32) (ix2 a b) = (m ((c : Thread nD τ).loc main_arg0) : FVec Ideal S4096x1536 .f32) (ix2 (row t a) b) := by
  blk_simp [iblk, V, row, idx t]
  blk_ext [idx t]

theorem blk1 (c : Dev nD) (t : Fin cfg0.N) (a : Fin 8) (b : Fin 1536) :
    (iblk m c 1 t : FVec Ideal S8x1536 .f32) (ix2 a b) = (m ((c : Thread nD τ).loc main_arg0) : FVec Ideal S4096x1536 .f32)
      (ix2 ⟨(t.val * 32 - 1) * 8 + a.val, by have := (idx t).2.2.2.2; omega⟩ b) := by
  blk_simp [iblk, V, idx t]
  blk_ext [idx t]

theorem blk2 (c : Dev nD) (t : Fin cfg0.N) (a : Fin 8) (k : Fin 4) (b : Fin 1536) (h : a.val = k.val) :
    (iblk m c 2 t : FVec Ideal S8x1536 .f32) (ix2 a b) = (m ((c : Thread nD τ).loc main_arg1) : FVec Ideal S4x1536 .f32) (ix2 k b) := by
  have hV : V m c main_v0 = pad S8x1536 ![0, 0] ![4, 0] ![0, 0] (m ((c : Thread nD τ).loc main_arg1) : FVec Ideal S4x1536 .f32)
      (sitofp .f32 (constantI S_ 32 0#32) : FVec Ideal S_ .f32) pads_S4x1536_S8x1536_040_000 h_S_ := by
    show StableHlo.after (hostOps0 ++ (hostOps0_1 ++ [])) _ _ = _
    simp only [List.cons_append, List.nil_append]
    entry_read
    rfl
  blk_simp [iblk, idx t]
  show V m c main_v0 _ = _
  rw [hV]
  have he : (((View.whole main_v0).slice (win0_2.rect t)).emb (ix2 a b)) = (ix2 a b : S8x1536.Idx) := by blk_ext [idx t]
  rw [he]
  pointwise
  rw [dif_pos fun y => match y with
    | ⟨0, _⟩ => ⟨Nat.zero_le _, by show (a.val - 0) % (0 + 1) = 0; omega, by show (a.val - 0) / (0 + 1) < 4; omega⟩
    | ⟨1, _⟩ => ⟨Nat.zero_le _, by show (b.val - 0) % (0 + 1) = 0; omega, by show (b.val - 0) / (0 + 1) < 1536; omega⟩]
  congr 2; apply Fin.ext; exact h

/-- `before` inside one point's block: own rows, else the previous point's last rows. -/
def beforeBlk (u : FVec Ideal S256x1536 .f32) (n : FVec Ideal S8x1536 .f32) (g : ℤ) (s : ℕ) (a : Fin 256) (q : Fin 1536) : EReal :=
  if h : (8 + a.val + 264 - s) % 264 < 8 then n (ix2 ⟨(8 + a.val + 264 - s) % 264, h⟩ q) * ((g : ℝ) : EReal)
  else u (ix2 ⟨(8 + a.val + 264 - s) % 264 - 8, by omega⟩ q)

theorem beforeBlk_eq (c : Dev nD) (t : Fin cfg0.N) (s : ℕ) (hs : s < 4) (a : Fin 256) (q : Fin 1536) :
    beforeBlk (iblk m c 0 t) (iblk m c 1 t) (if t.val = 0 then 0 else 1) s a q = before (m ((c : Thread nD τ).loc main_arg0)) s (row t a) q := by
  have ht := (idx t).2.2.2.2
  have hr : (row t a).val = t.val * 256 + a.val := rfl
  simp only [beforeBlk, before, blk0, blk1]
  by_cases h : s ≤ a.val
  · rw [dif_neg (by omega), dif_pos (by omega)]
    congr 2; apply Fin.ext; simp only [row]; omega
  · rw [dif_pos (by omega)]
    by_cases h0 : t.val = 0
    · rw [if_pos h0, dif_neg (by omega)]; simp
    · rw [if_neg h0, dif_pos (by omega)]
      simp only [Int.cast_one, EReal.coe_one, mul_one]
      congr 2; apply Fin.ext; simp only [row]; omega

/-- What the body stores, of its input blocks. -/
def convBlk (w : FVec Ideal S8x1536 .f32) (u : FVec Ideal S256x1536 .f32) (n : FVec Ideal S8x1536 .f32) (g : ℤ) : FVec Ideal S256x1536 .f32 := fun y =>
  w (ix2 3 (y 1)) * u (ix2 (y 0) (y 1)) + w (ix2 2 (y 1)) * beforeBlk u n g 1 (y 0) (y 1)
    + w (ix2 1 (y 1)) * beforeBlk u n g 2 (y 0) (y 1) + w (ix2 0 (y 1)) * beforeBlk u n g 3 (y 0) (y 1)

theorem stored (c : Dev nD) (t : Fin cfg0.N) (p : Fin 256) (q : Fin 1536) :
    (out0_3 (grid0.coords t) (iblk m c 0 t) (iblk m c 1 t) (iblk m c 2 t) : FVec Ideal S256x1536 .f32) (ix2 p q)
      = convBlk (iblk m c 2 t) (iblk m c 0 t) (iblk m c 1 t) (if t.val = 0 then 0 else 1) (ix2 p q) := by
  unfold out0_3
  frame_out
  pointwise [k0_pay1]
  rw [mask t]
  rfl

/-- The convolved array after the run. -/
theorem final3 (c : Dev nD) : (dats m 0 c).arrAt 3 cfg0.N = conv (m ((c : Thread nD τ).loc main_arg1)) (m ((c : Thread nD τ).loc main_arg0)) := by
  refine (dats m 0 c).arrAt_eq_of_covers 3 _ (by decide +kernel) fun t _ y => ?_
  obtain ⟨p, q, rfl⟩ : ∃ (p : Fin 256) (q : Fin 1536), y = ix2 p q := ex2 y
  have he : (((cfg0.win 3).blk t).view.emb (ix2 p q)) = (ix2 (row t p) q : S4096x1536.Idx) := by
    blk_simp [row, idx t]; blk_ext [idx t]
  rw [he]
  blk_simp
  rw [after0_3]
  refine (stored m c t p q).trans ?_
  unfold convBlk
  simp only [ix2_0, ix2_1]
  rw [beforeBlk_eq m c t 1 (by decide), beforeBlk_eq m c t 2 (by decide), beforeBlk_eq m c t 3 (by decide), blk0,
    blk2 m c t 3 3 q rfl, blk2 m c t 2 2 q rfl, blk2 m c t 1 1 q rfl, blk2 m c t 0 0 q rfl]
  rfl

end Cert.KernelConvFwdIdeal.Value

namespace Cert.Proof.ConvFwd

open Cert.Reals Cert.KernelConvFwdIdeal.Value

theorem frame_p : Cert.quiescent_KernelConvFwd := fun m ρ _ => Cert.KernelConvFwd.Gen.frame m ρ
theorem frame_pi : Cert.quiescent_KernelConvFwdIdeal := fun m ρ _ => Cert.KernelConvFwdIdeal.Gen.frame m ρ
theorem frame_ri : Cert.quiescent_ReferenceConvFwdIdeal := fun m ρ _ =>
  (θ_run Cert.ReferenceConvFwdIdeal.defs _ _).mono (fun r h => ⟨fun c => (h c).2,
      Idealize.ShloMosaic.sem_eq_zero_of_no_sems (by decide) r.2⟩)
    (Cert.ReferenceConvFwdIdeal.Value.run (F := Ideal) m ρ)

/-- A row of the input under three zero rows is the row that much earlier. -/
theorem under (s : ℕ) (u : FVec Ideal Cert.KernelConvFwdIdeal.S4096x1536 .f32) (i : Fin 4096) (q : Fin 1536)
    (P : Prop) [Decidable P] (r : ¬P → Fin 4096) (hP : P ↔ i.val < s) (hr : ∀ h, (r h).val = i.val - s) :
    (if h : P then (0 : EReal) else u (ix2 (r h) q)) = before u s i q := by
  simp only [before]
  by_cases h : P
  · rw [dif_pos h, dif_neg (by have := hP.mp h; omega)]
  · rw [dif_neg h, dif_pos (by have := mt hP.mpr h; omega)]; congr 2; exact Fin.ext (hr h)

theorem algebraic : Cert.algebraic_KernelConvFwdIdeal_ReferenceConvFwdIdeal := by
  intro m ρ m' ρ' hp hagree
  refine ⟨_, Cert.KernelConvFwdIdeal.Value.run_blocks (F := Ideal) m ρ, ?_⟩
  refine (θ_run Cert.ReferenceConvFwdIdeal.defs _ _).mono (fun _ h c => ⟨(h c).1.trans ?_, (h c).2⟩)
    (Cert.ReferenceConvFwdIdeal.Value.run (F := Ideal) m' ρ')
  obtain ⟨h0, h1⟩ := hagree c
  rw [h0, h1, final3]
  generalize (m (c.tc.loc Cert.KernelConvFwdIdeal.main_arg0) : FVec Ideal Cert.KernelConvFwdIdeal.S4096x1536 .f32) = u
  generalize (m (c.tc.loc Cert.KernelConvFwdIdeal.main_arg1) : FVec Ideal Cert.KernelConvFwdIdeal.S4x1536 .f32) = w
  funext j
  obtain ⟨i, q, rfl⟩ : ∃ (i : Fin 4096) (q : Fin 1536), j = ix2 i q := ex2 j
  pointwise
  rw [under 3 u i q _ _ Iff.rfl (fun _ => rfl), under 2 u i q _ _ (by omega) (fun _ => by show 1 + i.val - 3 = _; omega),
    under 1 u i q _ _ (by omega) (fun _ => by show 2 + i.val - 3 = _; omega)]
  rw [conv_at]
  generalize before u 1 i q = a
  generalize before u 2 i q = b
  generalize before u 3 i q = d
  abel

end Cert.Proof.ConvFwd

end
-- ==== Proof.PostFwd.Pair.lean ====
/- `dn_post_fwd`: grid point `t` norms each head of rows `512 t … 512 t + 511` and gates it. Its result and the reference's
   are the same products. -/
module

public import proofs.«01_k».proof.Defs
public import proofs.«01_k».proof.Proof.Gen.KernelPostFwd.Frame
public import proofs.«01_k».proof.Proof.Gen.KernelPostFwdIdeal.Value
public import proofs.«01_k».proof.Proof.Gen.ReferencePostFwdIdeal.Run
public import proofs.«01_k».proof.Proof.Reals
public import Idealize.ShloMosaic.Lib.Quiescent
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.KernelPostFwdIdeal.Value

open Cert.KernelPostFwdIdeal Cert.KernelPostFwdIdeal.Gen Cert.Reals

/-- One head's row, normed by its mean square, weighted, and gated. -/
def gated (x z w : Fin 128 → EReal) (k : Fin 128) : EReal :=
  x k * Ideal.rsqrt (Ideal.div (∑ k, x k * x k) (FloatOps.ofBits (F := Ideal) FTy.f32 0x43000000#32) + FloatOps.ofBits (F := Ideal) FTy.f32 0x358637BD#32)
    * w k * (z k * Ideal.logistic (z k))

/-- Head `h` of row `i`. -/
def headOf {n : ℕ} (x : FVec Ideal ⟨2, ![n, 512]⟩ .f32) (i : Fin n) (h : Fin 4) (k : Fin 128) : EReal := x (ix2 i ⟨h.val * 128 + k.val, by omega⟩)

/-- Every lane is a head's. -/
theorem laneOf (q : Fin 512) : ∃ (h : Fin 4) (k : Fin 128), q = ⟨h.val * 128 + k.val, by omega⟩ :=
  ⟨⟨q.val / 128, by omega⟩, ⟨q.val % 128, by omega⟩, Fin.ext (by show q.val = q.val / 128 * 128 + q.val % 128; omega)⟩

variable (m : (ℓ : Loc nD τ sig) → Buf (Elt Ideal) ℓ)

theorem idx : ∀ t : Fin cfg0.N, win0_0.index t = ![t.val, 0] ∧ win0_1.index t = ![t.val, 0] ∧ win0_2.index t = ![0, 0]
    ∧ win0_3.index t = ![t.val, 0] ∧ t.val < 8 :=
  (by decide +kernel : ∀ t : Fin grid0.N, _)

/-- Row `a` of point `t`'s block is row `512 t + a` of the array. -/
def row (t : Fin cfg0.N) (a : Fin 512) : Fin 4096 := ⟨t.val * 512 + a.val, by have := (idx t).2.2.2.2; omega⟩

theorem blk0 (c : Dev nD) (t : Fin cfg0.N) (a : Fin 512) (b : Fin 512) :
    (iblk m c 0 t : FVec Ideal S512x512 .f32) (ix2 a b) = (m ((c : Thread nD τ).loc main_arg0) : FVec Ideal S4096x512 .f32) (ix2 (row t a) b) := by
  blk_simp [iblk, V, row, idx t]
  blk_ext [idx t]
theorem blk1 (c : Dev nD) (t : Fin cfg0.N) (a : Fin 512) (b : Fin 512) :
    (iblk m c 1 t : FVec Ideal S512x512 .f32) (ix2 a b) = (m ((c : Thread nD τ).loc main_arg1) : FVec Ideal S4096x512 .f32) (ix2 (row t a) b) := by
  blk_simp [iblk, V, row, idx t]
  blk_ext [idx t]
theorem blk2 (c : Dev nD) (t : Fin cfg0.N) (b : Fin 128) :
    (iblk m c 2 t : FVec Ideal S1x128 .f32) (ix2 0 b) = (m ((c : Thread nD τ).loc main_arg2) : FVec Ideal S128 .f32) (ix1 b) := by
  blk_simp [iblk, idx t]
  entry_read
  pointwise
  blk_ext [idx t]

/-- A head's gated lane, with the head's lanes given as lanes of the row. -/
theorem as_head (x z : FVec Ideal S512x512 .f32) (w : FVec Ideal S1x128 .f32) (p : Fin 512) (h : Fin 4) (k k' : Fin 128) (b : Fin 512) (e : Fin 128 → Fin 512)
    (hb : b.val = h.val * 128 + k.val) (hk : k' = k) (he : ∀ k, (e k).val = h.val * 128 + k.val) :
    (x (ix2 p b) * Ideal.rsqrt (Ideal.div (∑ j, x (ix2 p (e j)) * x (ix2 p (e j))) (Ideal.ofBits FTy.f32 0x43000000#32) + Ideal.ofBits FTy.f32 0x358637BD#32)
      * w (ix2 0 k') * (z (ix2 p b) * Ideal.logistic (z (ix2 p b))) : EReal) = gated (headOf x p h) (headOf z p h) (fun k => w (ix2 0 k)) k := by
  subst hk
  have e1 : b = ⟨h.val * 128 + k'.val, by have := h.isLt; have := k'.isLt; omega⟩ := Fin.ext hb
  have e3 : e = fun k => ⟨h.val * 128 + k.val, by have := h.isLt; have := k.isLt; omega⟩ := funext fun k => Fin.ext (he k)
  rw [e1, e3]
  rfl

/-- What the body stores, of any input blocks. -/
theorem stored (x z : FVec Ideal S512x512 .f32) (w : FVec Ideal S1x128 .f32) (p : Fin 512) (h : Fin 4) (k : Fin 128) :
    (k0_pay1 (F := Ideal) x z (k0_pay2 w) (k0_pay3 x z w) (k0_pay4 x z w) (k0_pay5 x) (k0_pay6 x) (Scalar.ofBits .f32 0x358637BD#32) (ix2 p ⟨h.val * 128 + k.val, by omega⟩) : EReal)
      = gated (headOf x p h) (headOf z p h) (fun k => w (ix2 0 k)) k := by
  fin_cases h
  all_goals
    pointwise [k0_pay1, k0_pay2, k0_pay3, k0_pay4, k0_pay5, k0_pay6]
  · exact as_head x z w p 0 k _ _ _ (by simp) rfl (by simp)
  · exact as_head x z w p 1 k _ _ _ (by simp) rfl (by simp)
  · rw [dif_neg (by omega), dif_neg (by omega), dif_pos (by omega)]
    exact as_head x z w p 2 k _ _ _ (by show 256 + (256 + k.val - 128 - 128) = 2 * 128 + k.val; omega) (Fin.ext (by show 256 + k.val - 128 - 128 = k.val; omega)) (fun _ => rfl)
  · rw [dif_neg (by omega), dif_neg (by omega), dif_neg (by omega)]
    exact as_head x z w p 3 k _ _ _ (by show 384 + (384 + k.val - 128 - 128 - 128) = 3 * 128 + k.val; omega) (Fin.ext (by show 384 + k.val - 128 - 128 - 128 = k.val; omega)) (fun _ => rfl)

/-- The gated rows. -/
def post (x z : FVec Ideal S4096x512 .f32) (w : FVec Ideal S128 .f32) : FVec Ideal S4096x512 .f32 := fun y =>
  gated (headOf x (y 0) ⟨(y 1).val / 128, by have := (y 1).isLt; show (y 1).val / 128 < 4; change (y 1).val < 512 at this; omega⟩)
    (headOf z (y 0) ⟨(y 1).val / 128, by have := (y 1).isLt; change (y 1).val < 512 at this; omega⟩) (fun k => w (ix1 k)) ⟨(y 1).val % 128, by omega⟩

theorem post_at (x z : FVec Ideal S4096x512 .f32) (w : FVec Ideal S128 .f32) (i : Fin 4096) (h : Fin 4) (k : Fin 128) :
    post x z w (ix2 i ⟨h.val * 128 + k.val, by omega⟩) = gated (headOf x i h) (headOf z i h) (fun k => w (ix1 k)) k := by
  have e : (⟨(h.val * 128 + k.val) / 128, by omega⟩ : Fin 4) = h := Fin.ext (by show (h.val * 128 + k.val) / 128 = h.val; omega)
  have e' : (⟨(h.val * 128 + k.val) % 128, by omega⟩ : Fin 128) = k := Fin.ext (by show (h.val * 128 + k.val) % 128 = k.val; omega)
  show gated (headOf x i ⟨(h.val * 128 + k.val) / 128, _⟩) (headOf z i ⟨(h.val * 128 + k.val) / 128, _⟩) _ ⟨(h.val * 128 + k.val) % 128, _⟩ = _
  rw [e, e']

/-- The gated array after the run. -/
theorem final3 (c : Dev nD) : (dats m 0 c).arrAt 3 cfg0.N
    = post (m ((c : Thread nD τ).loc main_arg0)) (m ((c : Thread nD τ).loc main_arg1)) (m ((c : Thread nD τ).loc main_arg2)) := by
  refine (dats m 0 c).arrAt_eq_of_covers 3 _ (by decide +kernel) fun t _ y => ?_
  obtain ⟨p, q, rfl⟩ : ∃ (p : Fin 512) (q : Fin 512), y = ix2 p q := ex2 y
  have he : (((cfg0.win 3).blk t).view.emb (ix2 p q)) = (ix2 (row t p) q : S4096x512.Idx) := by
    blk_simp [row, idx t]; blk_ext [idx t]
  rw [he]
  blk_simp
  rw [after0_3]
  obtain ⟨h, k, rfl⟩ := laneOf q
  rw [post_at]
  unfold out0_3
  frame_out
  refine (stored _ _ _ p h k).trans ?_
  unfold headOf
  simp only [blk0, blk1, blk2]

end Cert.KernelPostFwdIdeal.Value

namespace Cert.Proof.PostFwd

open Cert.Reals Cert.KernelPostFwdIdeal.Value

theorem frame_p : Cert.quiescent_KernelPostFwd := fun m ρ _ => Cert.KernelPostFwd.Gen.frame m ρ
theorem frame_pi : Cert.quiescent_KernelPostFwdIdeal := fun m ρ _ => Cert.KernelPostFwdIdeal.Gen.frame m ρ
theorem frame_ri : Cert.quiescent_ReferencePostFwdIdeal := fun m ρ _ =>
  (θ_run Cert.ReferencePostFwdIdeal.defs _ _).mono (fun r h => ⟨fun c => (h c).2,
      Idealize.ShloMosaic.sem_eq_zero_of_no_sems (by decide) r.2⟩)
    (Cert.ReferencePostFwdIdeal.Value.run (F := Ideal) m ρ)

theorem algebraic : Cert.algebraic_KernelPostFwdIdeal_ReferencePostFwdIdeal := by
  intro m ρ m' ρ' hp hagree
  refine ⟨_, Cert.KernelPostFwdIdeal.Value.run_blocks (F := Ideal) m ρ, ?_⟩
  refine (θ_run Cert.ReferencePostFwdIdeal.defs _ _).mono (fun _ h c => ⟨(h c).1.trans ?_, (h c).2⟩)
    (Cert.ReferencePostFwdIdeal.Value.run (F := Ideal) m' ρ')
  obtain ⟨h0, h1, h2⟩ := hagree c
  rw [h0, h1, h2, final3]
  generalize (m (c.tc.loc Cert.KernelPostFwdIdeal.main_arg0) : FVec Ideal Cert.KernelPostFwdIdeal.S4096x512 .f32) = x
  generalize (m (c.tc.loc Cert.KernelPostFwdIdeal.main_arg1) : FVec Ideal Cert.KernelPostFwdIdeal.S4096x512 .f32) = z
  generalize (m (c.tc.loc Cert.KernelPostFwdIdeal.main_arg2) : FVec Ideal Cert.KernelPostFwdIdeal.S128 .f32) = w
  funext j
  obtain ⟨i, q, rfl⟩ : ∃ (i : Fin 4096) (q : Fin 512), j = ix2 i q := ex2 j
  obtain ⟨h, k, rfl⟩ := laneOf q
  refine Eq.trans ?_ (post_at x z w i h k).symm
  have e : (h.val * 128 + k.val) / 128 = h.val := by omega
  have e' : (h.val * 128 + k.val) % 128 = k.val := by omega
  pointwise
  simp only [gated, headOf, e, e']
  rfl

end Cert.Proof.PostFwd

end
-- ==== Proof.PoolFwd.Pair.lean ====
/- `pool_fwd`: grid point `t` takes rows `512 t … 512 t + 511` with the 16 rows before them, sums each lane's window by doubling,
   and multiplies the means, less the rows, by the four groups' weights and the scale. The pooled rows are those of `pool_bwd`. -/
module

public import proofs.«01_k».proof.Defs
public import proofs.«01_k».proof.Proof.Pool.Pair
public import proofs.«01_k».proof.Proof.Gen.KernelPoolFwd.Frame
public import proofs.«01_k».proof.Proof.Gen.KernelPoolFwdIdeal.Value
public import proofs.«01_k».proof.Proof.Gen.ReferencePoolFwdIdeal.Run
public import proofs.«01_k».proof.Proof.Gen.Pre_pooled_finite
public import Idealize.ShloMosaic.Lib.Quiescent

@[expose] public section

set_option maxRecDepth 16384

noncomputable section

open Idealize.ShloMosaic Idealize.ShloMosaic.TcCoe Idealize.SL.Sem
open Idealize.ShloMosaic.Pipeline (Dat)

namespace Cert.KernelPoolFwdIdeal.Value

open Cert.KernelPoolFwdIdeal Cert.KernelPoolFwdIdeal.Gen Cert.Reals
open Cert.KernelPoolIdeal.Value (pooled blocks joined padded joined_at addRot front rowsBefore pool_rows win win_le count)

/-- The scaled products of the pooled rows with the groups' weights. -/
def pool (u : FVec Ideal S4096x256 .f32) (w : FVec Ideal S4x64x64 .f32) (s : FVec Ideal S256 .f32) : FVec Ideal S4096x256 .f32 := fun y =>
  (∑ k : Fin 256, pooled u (y 0) k * blocks w k (y 1)) * s (ix1 (y 1))

theorem pool_at (u : FVec Ideal S4096x256 .f32) (w : FVec Ideal S4x64x64 .f32) (s : FVec Ideal S256 .f32) (i : Fin 4096) (q : Fin 256) :
    pool u w s (ix2 i q) = (∑ k : Fin 256, pooled u i k * blocks w k q) * s (ix1 q) := rfl

variable (m : (ℓ : Loc nD τ sig) → Buf (Elt Ideal) ℓ)

/-- The arguments of device `c`. -/
def U (c : Dev nD) : FVec Ideal S4096x256 .f32 := m ((c : Thread nD τ).loc main_arg0)
def Wt (c : Dev nD) : FVec Ideal S4x64x64 .f32 := m ((c : Thread nD τ).loc main_arg1)
def Sc (c : Dev nD) : FVec Ideal S256 .f32 := m ((c : Thread nD τ).loc main_arg2)

theorem idx : ∀ t : Fin cfg0.N, win0_0.index t = ![t.val, 0] ∧ win0_1.index t = ![t.val * 32 - 1, 0] ∧ win0_2.index t = ![0, 0]
    ∧ win0_3.index t = ![0, 0] ∧ win0_4.index t = ![t.val, 0] ∧ t.val < 8 ∧ (grid0.coords t 0).val = t.val :=
  (by decide +kernel : ∀ t : Fin grid0.N, _)

theorem lt8 (t : Fin cfg0.N) : t.val < 8 := (idx t).2.2.2.2.2.1

/-- Row `a` of point `t`'s block is row `512 t + a` of the array. -/
def row (t : Fin cfg0.N) (a : Fin 512) : Fin 4096 := ⟨t.val * 512 + a.val, by have := lt8 t; omega⟩

theorem blk0 (c : Dev nD) (t : Fin cfg0.N) (a : Fin 512) (b : Fin 256) :
    (iblk m c 0 t : FVec Ideal S512x256 .f32) (ix2 a b) = U m c (ix2 (row t a) b) := by
  unfold U
  blk_simp [iblk, V, row, idx t]
  blk_ext [idx t]

theorem blk1 (c : Dev nD) (t : Fin cfg0.N) (a : Fin 16) (b : Fin 256) :
    (iblk m c 1 t : FVec Ideal S16x256 .f32) (ix2 a b) = U m c (ix2 ⟨(t.val * 32 - 1) * 16 + a.val, by have := lt8 t; omega⟩ b) := by
  unfold U
  blk_simp [iblk, V, idx t]
  blk_ext [idx t]

theorem blk3 (c : Dev nD) (t : Fin cfg0.N) (b : Fin 256) :
    (iblk m c 3 t : FVec Ideal S1x256 .f32) (ix2 0 b) = Sc m c (ix1 b) := by
  have hV : V m c main_v14 = shapeCast S1x256 (Sc m c) shapeCasts_S256_S1x256 := by
    show StableHlo.after (hostOps0 ++ (hostOps0_1 ++ (hostOps0_2 ++ (hostOps0_3 ++ (hostOps0_4 ++ (hostOps0_5 ++ (hostOps0_6 ++ (hostOps0_7 ++ (hostOps0_8 ++ []))))))))) _ _ = _
    simp only [List.cons_append, List.nil_append]
    entry_read
    rfl
  blk_simp [iblk, idx t]
  show V m c main_v14 _ = _
  rw [hV]
  have he : (((View.whole main_v14).slice (win0_3.rect t)).emb (ix2 0 b)) = (ix2 0 b : S1x256.Idx) := by blk_ext [idx t]
  rw [he]
  pointwise

set_option maxHeartbeats 2000000 in
theorem blk2 (c : Dev nD) (t : Fin cfg0.N) (a b : Fin 256) :
    (iblk m c 2 t : FVec Ideal S256x256 .bf16) (ix2 a b) = blocks (Wt m c) a b := by
  have hV : V m c main_v13 = joined (padded 0 (Wt m c)) (padded 1 (Wt m c)) (padded 2 (Wt m c)) (padded 3 (Wt m c)) := by
    show StableHlo.after (hostOps0 ++ (hostOps0_1 ++ (hostOps0_2 ++ (hostOps0_3 ++ (hostOps0_4 ++ (hostOps0_5 ++ (hostOps0_6 ++ (hostOps0_7 ++ (hostOps0_8 ++ []))))))))) _ _ = _
    simp only [List.cons_append, List.nil_append]
    after_reads_simp
    rfl
  blk_simp [iblk, idx t]
  show V m c main_v13 _ = _
  rw [hV]
  have he : (((View.whole main_v13).slice (win0_2.rect t)).emb (ix2 a b)) = (ix2 a b : S256x256.Idx) := by blk_ext [idx t]
  rw [he]
  exact joined_at _ a b

/-- The pooled rows of a block, of the block and the rows before it. -/
def means (w : BitVec 32) (halo : FVec Ideal S16x256 .f32) (u : FVec Ideal S512x256 .f32) : FVec Ideal S512x256 .bf16 :=
  Cert.KernelPoolIdeal.Gen.k0_pay10 w u (addRot 1#32 (front w halo u)) (addRot 2#32 (addRot 1#32 (front w halo u)))
    (addRot 4#32 (addRot 2#32 (addRot 1#32 (front w halo u)))) (addRot 8#32 (addRot 4#32 (addRot 2#32 (addRot 1#32 (front w halo u)))))
    Cert.KernelPoolIdeal.Gen.k0_pay8 Cert.KernelPoolIdeal.Gen.k0_pay9

theorem means_at (c : Dev nD) (t : Fin cfg0.N) (p : Fin 512) (q : Fin 256) :
    (means (BitVec.ofNat 32 t.val) (iblk m c 1 t) (iblk m c 0 t) (ix2 p q) : EReal) = pooled (U m c) (row t p) q := by
  have ht := lt8 t
  have hr : (row t p).val = t.val * 512 + p.val := rfl
  refine (pool_rows ⟨t.val, lt8 t⟩ (iblk m c 1 t) (iblk m c 0 t) p q).trans ?_
  unfold pooled
  rw [blk0, hr]
  refine congrArg (fun z : EReal => Ideal.div z _ - _) (Finset.sum_congr rfl fun j hj => ?_)
  have hj' : j < 16 := lt_of_lt_of_le (Finset.mem_range.mp hj) (win_le q)
  simp only [rowsBefore, Cert.KernelPoolIdeal.Value.ext]
  by_cases h : j ≤ p.val
  · rw [dif_neg (by omega), dif_pos (by omega), if_pos (by omega), dif_pos (by omega), blk0]
    congr 2; apply Fin.ext; simp only [row]; omega
  · rw [dif_pos (by omega)]
    by_cases h0 : t.val = 0
    · rw [if_pos h0, if_neg (by omega)]
    · rw [if_neg h0, if_pos (by omega), dif_pos (by omega), blk1]
      congr 2; apply Fin.ext; simp only; omega

/-- What the body stores: the pooled rows' products, scaled. -/
def scaledProduct (P : FVec Ideal S512x256 .bf16) (w : FVec Ideal S256x256 .bf16) (s : FVec Ideal S1x256 .f32) : FVec Ideal S512x256 .f32 :=
  shapeCast S512x256 (mulf (matmul dot_S512x256_S256x256_S512x256_1_0_0_1_n_n none P (shapeCast S256x256 w shapeCasts_S256x256_S256x256) (constant S512x256 .f32 0x00000000#32))
    (broadcastTo S512x256 (shapeCast S1x256 s shapeCasts_S1x256_S1x256) broadcasts_S1x256_S512x256)) shapeCasts_S512x256_S512x256

theorem scaledProduct_at (P : FVec Ideal S512x256 .bf16) (w : FVec Ideal S256x256 .bf16) (s : FVec Ideal S1x256 .f32) (p : Fin 512) (q : Fin 256) :
    (scaledProduct P w s (ix2 p q) : EReal) = (∑ k : Fin 256, P (ix2 p k) * w (ix2 k q)) * s (ix2 0 q) := by
  unfold scaledProduct
  pointwise

theorem stored (i : grid0.Coords) (u : FVec Ideal S512x256 .f32) (halo : FVec Ideal S16x256 .f32) (w : FVec Ideal S256x256 .bf16) (s : FVec Ideal S1x256 .f32) :
    k0_pay1 (F := Ideal) (k0_pay7 u (k0_pay2 i halo u) (k0_pay3 i halo u) (k0_pay4 i halo u) (k0_pay5 i halo u) k0_pay6 (Scalar.muli (BitVec.ofNat 32 (i 0).val) 512#32) w s)
      = scaledProduct (means (BitVec.ofNat 32 (i 0).val) halo u) w s := rfl

/-- The result array after the run. -/
theorem final4 (c : Dev nD) : (dats m 0 c).arrAt 4 cfg0.N = pool (U m c) (Wt m c) (Sc m c) := by
  refine (dats m 0 c).arrAt_eq_of_covers 4 _ (by decide +kernel) fun t _ y => ?_
  obtain ⟨p, q, rfl⟩ : ∃ (p : Fin 512) (q : Fin 256), y = ix2 p q := ex2 y
  have he : (((cfg0.win 4).blk t).view.emb (ix2 p q)) = (ix2 (row t p) q : S4096x256.Idx) := by
    blk_simp [row, idx t]; blk_ext [idx t]
  rw [he]
  blk_simp
  rw [after0_4, pool_at]
  unfold out0_4
  frame_out
  rw [stored, (idx t).2.2.2.2.2.2]
  refine (scaledProduct_at _ _ _ p q).trans ?_
  simp only [means_at m c t, blk2, blk3]

end Cert.KernelPoolFwdIdeal.Value

namespace Cert.ReferencePoolFwdIdeal.Value

open Cert.ReferencePoolFwdIdeal Cert.ReferencePoolFwdIdeal.Gen
open Cert.ReferencePoolIdeal.Value (means cum grouped)

def poolRef (u : FVec Ideal S4096x256 .f32) (w : FVec Ideal S4x64x64 .f32) (s : FVec Ideal S256 .f32) : FVec Ideal S4096x256 .f32 :=
  mulf (shapeCast S4096x256 (transpose S4096x4x64 [2, 0, 1] (Host.dotGeneral dot_S4x64x64_S4096x4x64_S4x64x4096_1_2_2_0_0_1 none w (subf (means (cum (grouped u))) (grouped u)))
    transposes_S4x64x4096_S4096x4x64_2_0_1) shapeCasts_S4096x4x64_S4096x256) (broadcastInDim S4096x256 ![0, 1] bcast_S1x256_S4096x256_0_1 (broadcastInDim S1x256 ![1] bcast_S256_S1x256_1 s))

theorem pool_eq (m : (ℓ : Loc nD τ sig) → Buf (Elt Ideal) ℓ) (c : Dev nD) : res_main_v70 m c
    = poolRef (m ((c.tc : Thread nD τ).loc main_arg0)) (m ((c.tc : Thread nD τ).loc main_arg1)) (m ((c.tc : Thread nD τ).loc main_arg2)) := rfl

theorem poolRef_at (u : FVec Ideal S4096x256 .f32) (w : FVec Ideal S4x64x64 .f32) (s : FVec Ideal S256 .f32) (i : Fin 4096) (g : Fin 4) (a : Fin 64) (q : Fin 256)
    (hg : g.val = q.val / 64) (ha : a.val = q.val % 64) :
    (poolRef u w s (ix2 i q) : EReal) = (∑ b : Fin 64, w (ix3 g b a) * (means (cum (grouped u)) (ix3 i g b) - u (ix2 i ⟨g.val * 64 + b.val, by omega⟩))) * s (ix1 q) := by
  obtain rfl : g = ⟨q.val / 64, by clear hg ha; omega⟩ := Fin.ext hg
  obtain rfl : a = ⟨q.val % 64, by clear ha; omega⟩ := Fin.ext ha
  unfold poolRef grouped
  pointwise

end Cert.ReferencePoolFwdIdeal.Value

namespace Cert.Proof.PoolFwd

open Cert.Reals Cert.KernelPoolFwdIdeal.Value

theorem frame_p : Cert.quiescent_KernelPoolFwd := fun m ρ _ => Cert.KernelPoolFwd.Gen.frame m ρ
theorem frame_pi : Cert.quiescent_KernelPoolFwdIdeal := fun m ρ _ => Cert.KernelPoolFwdIdeal.Gen.frame m ρ
theorem frame_pi_pre : Cert.quiescent_KernelPoolFwdIdeal_pre_pooled_finite := fun m ρ _ => Cert.KernelPoolFwdIdeal.Gen.frame m ρ
theorem frame_ri : Cert.quiescent_ReferencePoolFwdIdeal := fun m ρ _ =>
  (θ_run Cert.ReferencePoolFwdIdeal.defs _ _).mono (fun r h => ⟨fun c => (h c).2,
      Idealize.ShloMosaic.sem_eq_zero_of_no_sems (by decide) r.2⟩)
    (Cert.ReferencePoolFwdIdeal.Value.run (F := Ideal) m ρ)
theorem frame_ri_pre : Cert.quiescent_ReferencePoolFwdIdeal_pre_pooled_finite := fun m ρ _ => frame_ri m ρ trivial

/-- Both programs give the same rows where the pooled array is finite. -/
theorem algebraic : Cert.algebraic_KernelPoolFwdIdeal_ReferencePoolFwdIdeal_pre_pooled_finite := by
  intro m ρ m' ρ' hp hagree
  refine ⟨_, Cert.KernelPoolFwdIdeal.Value.run_blocks (F := Ideal) m ρ, ?_⟩
  have key : ∀ c : Dev Cert.KernelPoolFwdIdeal.nD, ∀ i k, IsReal (U m c (ix2 i k)) := fun c i k =>
    isReal_of_test (by have := congrFun (hp c) (ix2 i k); pointwise [Cert.Pre_pooled_finite.fn] at this; exact this)
  refine (θ_run Cert.ReferencePoolFwdIdeal.defs _ _).mono (fun _ h c => ⟨(h c).1.trans ?_, (h c).2⟩)
    (Cert.ReferencePoolFwdIdeal.Value.run (F := Ideal) m' ρ')
  clear h
  obtain ⟨h0, h1, h2⟩ := hagree c
  have k0 := key c
  rw [Cert.ReferencePoolFwdIdeal.Value.pool_eq, h0, h1, h2, final4]
  funext j
  obtain ⟨i, q, rfl⟩ : ∃ (i : Fin 4096) (q : Fin 256), j = ix2 i q := ex2 j
  have hq : q.val = q.val / 64 * 64 + q.val % 64 := by omega
  refine (Cert.ReferencePoolFwdIdeal.Value.poolRef_at _ _ _ i ⟨q.val / 64, by omega⟩ ⟨q.val % 64, by omega⟩ q rfl rfl).trans ?_
  rw [pool_at]
  refine congrArg (fun z : EReal => z * _) ?_
  rw [Cert.Proof.Pool.block_sum (fun k => Cert.KernelPoolIdeal.Value.pooled (U m c) i k * Cert.KernelPoolIdeal.Value.blocks (Wt m c) k q) ⟨q.val / 64, by omega⟩ fun k hk => ?_]
  · refine Finset.sum_congr rfl fun b _ => ?_
    rw [mul_comm, Cert.Proof.Pool.blocks_in _ ⟨q.val / 64, by omega⟩ b ⟨q.val % 64, by omega⟩ _ q rfl hq]
    exact congrArg (fun z : EReal => z * _) (Cert.Proof.Pool.pooled_eq _ k0 i _ ⟨q.val / 64, by omega⟩ b rfl)
  · unfold Cert.KernelPoolIdeal.Value.blocks
    rw [if_neg hk, mul_zero]

end Cert.Proof.PoolFwd

end
-- ==== Proof.FfnFwd.Pair.lean ====
/- `ffn_fwd`: grid point `(i, j)` handles chunk `j` of the hidden lanes over rows `512 i … 512 i + 511`. The first chunk's point norms
   the rows and keeps them; every point adds its chunk's part of the down product; the last one stores the rows plus half the sum. -/
module

public import proofs.«01_k».proof.Defs
public import proofs.«01_k».proof.Proof.Ffn.Pair
public import proofs.«01_k».proof.Proof.Gen.KernelFfnFwd.Frame
public import proofs.«01_k».proof.Proof.Gen.KernelFfnFwdIdeal.Frame
public import proofs.«01_k».proof.Proof.Gen.ReferenceFfnFwdIdeal.Run
public import Idealize.ShloMosaic.Lib.Quiescent

@[expose] public section

set_option maxRecDepth 16384

noncomputable section

open Idealize.ShloMosaic Idealize.ShloMosaic.TcCoe Idealize.SL.Sem
open Idealize.ShloMosaic.Pipeline (Dat)

namespace Cert.KernelFfnFwdIdeal.Value

open Cert.KernelFfnFwdIdeal Cert.KernelFfnFwdIdeal.Gen Cert.Reals Cert.Ffn Cert.NormGrad
open Cert.KernelFfnIdeal.Value (lane blob blob_gate blob_up blob_down)

variable (m : (ℓ : Loc nD τ sig) → Buf (Elt Ideal) ℓ)

theorem idx : ∀ t : Fin cfg0.N, win0_0.index t = ![t.val / 4, 0] ∧ win0_1.index t = ![0, 0] ∧ win0_2.index t = ![t.val % 4, 0, 0]
    ∧ win0_3.index t = ![t.val % 4, 1, 0] ∧ win0_4.index t = ![t.val % 4, 2, 0] ∧ win0_5.index t = ![t.val / 4, 0] ∧ t.val < 32 :=
  (by decide +kernel : ∀ t : Fin grid0.N, _)

theorem lt32 (t : Fin cfg0.N) : t.val < 32 := (idx t).2.2.2.2.2.2

/-- Row `a` of point `t`'s block of rows; its chunk of the hidden lanes. -/
def row (t : Fin cfg0.N) (a : Fin 512) : Fin 4096 := ⟨t.val / 4 * 512 + a.val, by have := lt32 t; omega⟩
def chunk (t : Fin cfg0.N) : Fin 4 := ⟨t.val % 4, by omega⟩

def X (c : Dev nD) : FVec Ideal S4096x1024 .f32 := m ((c : Thread nD τ).loc main_arg0)
def Nw (c : Dev nD) : FVec Ideal S1024 .f32 := m ((c : Thread nD τ).loc main_arg1)
def Wg (c : Dev nD) : FVec Ideal S1024x2816 .f32 := m ((c : Thread nD τ).loc main_arg2)
def Wu (c : Dev nD) : FVec Ideal S1024x2816 .f32 := m ((c : Thread nD τ).loc main_arg3)
def Wd (c : Dev nD) : FVec Ideal S2816x1024 .f32 := m ((c : Thread nD τ).loc main_arg4)

theorem blk0 (c : Dev nD) (t : Fin cfg0.N) (a : Fin 512) (b : Fin 1024) :
    (iblk m c 0 t : FVec Ideal S512x1024 .f32) (ix2 a b) = X m c (ix2 (row t a) b) := by
  unfold X
  blk_simp [iblk, V, row, idx t]
  blk_ext [idx t]

theorem blk1 (c : Dev nD) (t : Fin cfg0.N) (b : Fin 1024) :
    (iblk m c 1 t : FVec Ideal S1x1024 .f32) (ix2 0 b) = Nw m c (ix1 b) := by
  have hV : V m c main_v0 = shapeCast S1x1024 (Nw m c) shapeCasts_S1024_S1x1024 := by
    show StableHlo.after hostOps0 _ _ = _
    after_reads_simp
    rfl
  blk_simp [iblk, idx t]
  show V m c main_v0 _ = _
  rw [hV]
  have he : ((win0_1.blk t).view.emb (ix2 0 b)) = (ix2 0 b : S1x1024.Idx) := by
    blk_ext [idx t]
  rw [he]
  pointwise

theorem entry (c : Dev nD) : V m c main_v7 = blob (Wg m c) (Wu m c) (Wd m c) := by
  show StableHlo.after hostOps0 _ _ = _
  after_reads_simp
  rfl

theorem blk2 (c : Dev nD) (t : Fin cfg0.N) (f : Fin 704) (k : Fin 1024) :
    ((iblk m c 2 t : FVec Ideal S1x704x1024 .bf16) (ix3 0 f k) : EReal) = Wg m c (ix2 k (lane (chunk t) f)) := by
  rw [← blob_gate (Wg m c) (Wu m c) (Wd m c), ← entry m c]
  blk_simp [iblk, V, idx t]
  blk_ext [idx t, chunk]

theorem blk3 (c : Dev nD) (t : Fin cfg0.N) (f : Fin 704) (k : Fin 1024) :
    ((iblk m c 3 t : FVec Ideal S1x704x1024 .bf16) (ix3 0 f k) : EReal) = Wu m c (ix2 k (lane (chunk t) f)) := by
  rw [← blob_up (Wg m c) (Wu m c) (Wd m c), ← entry m c]
  blk_simp [iblk, V, idx t]
  blk_ext [idx t, chunk]

theorem blk4 (c : Dev nD) (t : Fin cfg0.N) (f : Fin 704) (k : Fin 1024) :
    ((iblk m c 4 t : FVec Ideal S1x704x1024 .bf16) (ix3 0 f k) : EReal) = Wd m c (ix2 (lane (chunk t) f) k) := by
  rw [← blob_down (Wg m c) (Wu m c) (Wd m c), ← entry m c]
  blk_simp [iblk, V, idx t]
  blk_ext [idx t, chunk]

/-! ## What a point adds and stores -/

/-- A chunk's part of the down product, of the normed rows and the chunk's weights. -/
def part (h : FVec Ideal S512x1024 .bf16) (wg wu wd : FVec Ideal S1x704x1024 .bf16) (a : Fin 512) (k : Fin 1024) : EReal :=
  ∑ f : Fin 704, sF (∑ e : Fin 1024, h (ix2 a e) * wg (ix3 0 f e)) * (∑ e : Fin 1024, h (ix2 a e) * wu (ix3 0 f e)) * wd (ix3 0 f k)

theorem normed_at (x : FVec Ideal S512x1024 .f32) (nw : FVec Ideal S1x1024 .f32) (a : Fin 512) (k : Fin 1024) :
    ((k0_pay1 x nw : FVec Ideal S512x1024 .bf16) (ix2 a k) : EReal) = hF (fun k => x (ix2 a k)) (fun k => nw (ix2 0 k)) k := by
  pointwise [k0_pay1]
  rfl

theorem added_at (h : FVec Ideal S512x1024 .bf16) (wg wu wd : FVec Ideal S1x704x1024 .bf16) (acc : FVec Ideal S512x1024 .f32) (a : Fin 512) (k : Fin 1024) :
    ((k0_pay3 h wg wu acc wd : FVec Ideal S512x1024 .f32) (ix2 a k) : EReal) = acc (ix2 a k) + part h wg wu wd a k := by
  pointwise [k0_pay3]
  rfl

section
variable (x : FVec Ideal S4096x1024 .f32) (nw : FVec Ideal S1024 .f32) (wg wu : FVec Ideal S1024x2816 .f32) (wd : FVec Ideal S2816x1024 .f32)

/-- A row's normed value, its gated hidden lane, and the result. -/
def hA (i : Fin 4096) (k : Fin 1024) : EReal := hF (fun k => x (ix2 i k)) (fun k => nw (ix1 k)) k
def gA (w : FVec Ideal S1024x2816 .f32) (i : Fin 4096) (q : Fin 2816) : EReal := gF (fun k => x (ix2 i k)) (fun k => nw (ix1 k)) fun k => w (ix2 k q)
def downTerm (i : Fin 4096) (k : Fin 1024) (q : Fin 2816) : EReal := sF (gA x nw wg i q) * gA x nw wu i q * wd (ix2 q k)
def ffn : FVec Ideal S4096x1024 .f32 := fun y => x (ix2 (y 0) (y 1)) + half * ∑ q, downTerm x nw wg wu wd (y 0) (y 1) q

end

/-- The part a point adds, of the arguments. -/
def tot (c : Dev nD) (t : Fin cfg0.N) (y : S512x1024.Idx) : EReal :=
  ∑ f : Fin 704, downTerm (X m c) (Nw m c) (Wg m c) (Wu m c) (Wd m c) (row t (y 0)) (y 1) (lane (chunk t) f)

theorem part_eq (c : Dev nD) (t : Fin cfg0.N) (h : FVec Ideal S512x1024 .bf16) (hh : ∀ a k, (h (ix2 a k) : EReal) = hA (X m c) (Nw m c) (row t a) k)
    (a : Fin 512) (k : Fin 1024) : part h (iblk m c 2 t) (iblk m c 3 t) (iblk m c 4 t) a k = tot m c t (ix2 a k) := by
  unfold part
  simp only [hh, blk2, blk3, blk4]
  rfl

theorem first (c : Dev nD) (t : Fin cfg0.N) (a : Fin 512) (k : Fin 1024) :
    ((k0_pay1 (iblk m c 0 t) (iblk m c 1 t) : FVec Ideal S512x1024 .bf16) (ix2 a k) : EReal) = hA (X m c) (Nw m c) (row t a) k := by
  refine (normed_at _ _ a k).trans ?_
  rw [funext fun k => blk0 m c t a k, funext fun k => blk1 m c t k]
  rfl

/-- The point before. -/
abbrev prev (c : Dev nD) (t : Fin cfg0.N) := outsAt0 m c (t.val - 1) (Nat.lt_of_le_of_lt (Nat.sub_le _ _) t.isLt)

/-- The kept rows: the first chunk's point stores them, the others leave them. -/
theorem kept (c : Dev nD) (t : Fin cfg0.N) (h : ¬t.val % 4 = 0) (y : S512x1024.Idx) : (outsAt0 m c t.val t.isLt).2.1 y = (prev m c t).2.1 y := by
  by_cases h3 : t.val % 4 = 3 <;> [rw [outsAt0_C m c t h h3]; rw [outsAt0_B m c t h h3]] <;> rfl

theorem normed (c : Dev nD) : ∀ (n : ℕ) (h : n < cfg0.N) (a : Fin 512) (k : Fin 1024),
    ((outsAt0 m c n h).2.1 (ix2 a k) : EReal) = hA (X m c) (Nw m c) (row ⟨n, h⟩ a) k := by
  intro n
  induction n with
  | zero =>
    intro h a k
    have e := outsAt0_A m c ⟨0, h⟩ rfl (by show ¬0 % 4 = 3; decide)
    refine (congrFun (congrArg (fun z => z.2.1) e) (ix2 a k)).trans ?_
    frame_out
    exact first m c ⟨0, h⟩ a k
  | succ n ih =>
    intro h a k
    by_cases h0 : (n + 1) % 4 = 0
    · have e := outsAt0_A m c ⟨n + 1, h⟩ h0 (by show ¬(n + 1) % 4 = 3; omega)
      refine (congrFun (congrArg (fun z => z.2.1) e) (ix2 a k)).trans ?_
      frame_out
      exact first m c ⟨n + 1, h⟩ a k
    · refine (kept m c ⟨n + 1, h⟩ h0 (ix2 a k)).trans ((ih (by omega) a k).trans ?_)
      congr 1
      apply Fin.ext
      show n / 4 * 512 + a.val = (n + 1) / 4 * 512 + a.val
      omega

theorem normed_prev (c : Dev nD) (t : Fin cfg0.N) (h : ¬t.val % 4 = 0) (a : Fin 512) (k : Fin 1024) :
    ((prev m c t).2.1 (ix2 a k) : EReal) = hA (X m c) (Nw m c) (row t a) k := by
  refine (normed m c _ _ a k).trans ?_
  congr 1
  apply Fin.ext
  show (t.val - 1) / 4 * 512 + a.val = t.val / 4 * 512 + a.val
  omega

theorem reset (c : Dev nD) (t : Fin cfg0.N) (h : t.val % 4 = 0) (y : S512x1024.Idx) :
    (outsAt0 m c t.val t.isLt).2.2 y = 0 + tot m c t y := by
  obtain ⟨a, k, rfl⟩ : ∃ (a : Fin 512) (k : Fin 1024), y = ix2 a k := ex2 y
  rw [outsAt0_A m c t h (by omega)]
  frame_out
  refine (added_at _ _ _ _ _ a k).trans (congrArg₂ (fun u v : EReal => u + v) ?_ (part_eq m c t _ (first m c t) a k))
  pointwise [k0_pay2]

theorem step (c : Dev nD) (t : Fin cfg0.N) (h : ¬t.val % 4 = 0) (y : S512x1024.Idx) :
    (outsAt0 m c t.val t.isLt).2.2 y = (prev m c t).2.2 y + tot m c t y := by
  obtain ⟨a, k, rfl⟩ : ∃ (a : Fin 512) (k : Fin 1024), y = ix2 a k := ex2 y
  by_cases h3 : t.val % 4 = 3 <;> [rw [outsAt0_C m c t h h3]; rw [outsAt0_B m c t h h3]] <;> frame_out <;>
  exact (added_at _ _ _ _ _ a k).trans (congrArg₂ (fun u v : EReal => u + v) (congrFun ((Memref.isWhole_whole cc0_scratch1).read_unread _) (ix2 a k))
    (part_eq m c t _ (fun a k => (congrFun ((Memref.isWhole_whole cc0_scratch0).read_unread _) (ix2 a k)).trans (normed_prev m c t h a k)) a k))

/-- At a block's last point the stored rows are the argument's plus half the accumulated sum. -/
theorem stored (c : Dev nD) (t : Fin cfg0.N) (h3 : t.val % 4 = 3) (a : Fin 512) (k : Fin 1024) :
    ((outsAt0 m c t.val t.isLt).1 (ix2 a k) : EReal) = X m c (ix2 (row t a) k) + half * (outsAt0 m c t.val t.isLt).2.2 (ix2 a k) := by
  rw [outsAt0_C m c t (by omega) h3, ← blk0]
  frame_out
  pointwise [k0_pay4]

/-- The result array after the run. -/
theorem final5 (c : Dev nD) : (dats m 0 c).arrAt 5 cfg0.N = ffn (X m c) (Nw m c) (Wg m c) (Wu m c) (Wd m c) := by
  refine (dats m 0 c).arrAt_eq_of_covers 5 _ (by decide +kernel) fun t hf y => ?_
  obtain ⟨p, q, rfl⟩ : ∃ (p : Fin 512) (q : Fin 1024), y = ix2 p q := ex2 y
  have he : ((cfg0.win 5).blk t).view.emb (ix2 p q) = (ix2 (row t p) q : S4096x1024.Idx) := by
    blk_simp [idx t]
    blk_ext [idx t, row]
  rw [he]
  blk_simp
  rw [after0_5]
  have h3 : t.val % 4 = 3 := (flush0_5 t).mp hf
  refine (stored m c t h3 p q).trans ?_
  rw [Pipeline.eq_sum_fin_of_reset_step_apply_of_flush (M := EReal) (ι := S512x1024.Idx) (fun n h => (outsAt0 m c n h).2.2) 4 (fun _ => 0) (tot m c)
    (reset m c) (step m c) t h3 (ix2 p q), zero_add]
  refine congrArg (fun z : EReal => _ + half * z) ((Finset.sum_congr rfl fun s _ => Finset.sum_congr rfl fun f _ => ?_).trans
    (Cert.Proof.Ffn.sum_lanes fun e => downTerm (X m c) (Nw m c) (Wg m c) (Wu m c) (Wd m c) (row t p) q e).symm)
  have hr : row (⟨4 * (t.val / 4) + s.val, by have := lt32 t; have : cfg0.N = 32 := N_0; omega⟩ : Fin cfg0.N) p = row t p :=
    Fin.ext (by show (4 * (t.val / 4) + s.val) / 4 * 512 + p.val = t.val / 4 * 512 + p.val; omega)
  have hc : chunk (⟨4 * (t.val / 4) + s.val, by have := lt32 t; have : cfg0.N = 32 := N_0; omega⟩ : Fin cfg0.N) = s :=
    Fin.ext (by show (4 * (t.val / 4) + s.val) % 4 = s.val; omega)
  exact congrArg₂ (fun i j => downTerm (X m c) (Nw m c) (Wg m c) (Wu m c) (Wd m c) i q (lane j f)) hr hc

/-- The kernel's run: the result, and the arguments unchanged. -/
theorem run (ρ : Dev nD → PrngReg) :
    θ_run defs (onTc (τ := τ) (main (F := Ideal))) ⟨m, fun _ => 0, ρ⟩ fun r => ∀ c : Dev nD,
      r.2.mem ((c.tc : Thread nD τ).loc main_v8) = ffn (X m c) (Nw m c) (Wg m c) (Wu m c) (Wd m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun r h c => ⟨((h.1 c).1 5).trans (final5 m c), h.2 c⟩)
    (θ_run_and (run_main m ρ) (unchanged m ρ))

end Cert.KernelFfnFwdIdeal.Value

namespace Cert.Proof.FfnFwd

open Cert.Reals Cert.Ffn Cert.NormGrad Cert.KernelFfnFwdIdeal.Value

theorem frame_p : Cert.quiescent_KernelFfnFwd := fun m ρ _ => Cert.KernelFfnFwd.Gen.frame m ρ
theorem frame_pi : Cert.quiescent_KernelFfnFwdIdeal := fun m ρ _ => Cert.KernelFfnFwdIdeal.Gen.frame m ρ
theorem frame_ri : Cert.quiescent_ReferenceFfnFwdIdeal := fun m ρ _ =>
  (θ_run Cert.ReferenceFfnFwdIdeal.defs _ _).mono (fun r h => ⟨fun c => (h c).2,
      Idealize.ShloMosaic.sem_eq_zero_of_no_sems (by decide) r.2⟩)
    (Cert.ReferenceFfnFwdIdeal.Value.run (F := Ideal) m ρ)

/-- Both programs give the same rows. -/
theorem algebraic : Cert.algebraic_KernelFfnFwdIdeal_ReferenceFfnFwdIdeal := by
  intro m ρ m' ρ' hp hagree
  refine ⟨fun c => ffn (X m c) (Nw m c) (Wg m c) (Wu m c) (Wd m c), Cert.KernelFfnFwdIdeal.Value.run m ρ, ?_⟩
  refine (θ_run Cert.ReferenceFfnFwdIdeal.defs _ _).mono (fun _ h c => ⟨(h c).1.trans ?_, (h c).2⟩)
    (Cert.ReferenceFfnFwdIdeal.Value.run (F := Ideal) m' ρ')
  clear h
  obtain ⟨h0, h1, h2, h3, h4⟩ := hagree c
  rw [h0, h1, h2, h3, h4]
  funext y
  obtain ⟨i, k, rfl⟩ : ∃ (i : Fin 4096) (k : Fin 1024), y = ix2 i k := ex2 y
  pointwise
  rfl

end Cert.Proof.FfnFwd

end
-- ==== Proof.Local.Pair.lean ====
/- The frames of `dn_local_bwd`, the gradient of the chunks of the gated delta rule. -/
module

public import proofs.«01_k».proof.Defs
public import proofs.«01_k».proof.Proof.Gen.KernelLocal.Frame
public import proofs.«01_k».proof.Proof.Gen.KernelLocalIdeal.Frame

@[expose] public section

noncomputable section

namespace Cert.Proof.Local

theorem frame_p : Cert.quiescent_KernelLocal := fun m ρ _ => Cert.KernelLocal.Gen.frame m ρ
theorem frame_pi : Cert.quiescent_KernelLocalIdeal := fun m ρ _ => Cert.KernelLocalIdeal.Gen.frame m ρ

end Cert.Proof.Local

end
-- ==== Proof.LocalFwd.Pair.lean ====
/- The frames of `dn_local_fwd`, the terms inside a chunk of the delta rule. -/
module

public import proofs.«01_k».proof.Defs
public import proofs.«01_k».proof.Proof.Gen.KernelLocalFwd.Frame
public import proofs.«01_k».proof.Proof.Gen.KernelLocalFwdIdeal.Frame

@[expose] public section

noncomputable section

namespace Cert.Proof.LocalFwd

theorem frame_p : Cert.quiescent_KernelLocalFwd := fun m ρ _ => Cert.KernelLocalFwd.Gen.frame m ρ
theorem frame_pi : Cert.quiescent_KernelLocalFwdIdeal := fun m ρ _ => Cert.KernelLocalFwdIdeal.Gen.frame m ρ

end Cert.Proof.LocalFwd

end
-- ==== Proof.InProj.Pair.lean ====
/- The frames of `inproj_bwd`, the gradient of the input projection with its norm and rotation. -/
module

public import proofs.«01_k».proof.Defs
public import proofs.«01_k».proof.Proof.Gen.KernelInProj.Frame
public import proofs.«01_k».proof.Proof.Gen.KernelInProjIdeal.Frame

@[expose] public section

noncomputable section

namespace Cert.Proof.InProj

theorem frame_p : Cert.quiescent_KernelInProj := fun m ρ _ => Cert.KernelInProj.Gen.frame m ρ
theorem frame_pi : Cert.quiescent_KernelInProjIdeal := fun m ρ _ => Cert.KernelInProjIdeal.Gen.frame m ρ

end Cert.Proof.InProj

end
-- ==== Proof.MergeFwd.Pair.lean ====
/- The frames of `merge_fwd`, the merge of the three dilations. -/
module

public import proofs.«01_k».proof.Defs
public import proofs.«01_k».proof.Proof.Gen.KernelMergeFwd.Frame
public import proofs.«01_k».proof.Proof.Gen.KernelMergeFwdIdeal.Frame

@[expose] public section

noncomputable section

namespace Cert.Proof.MergeFwd

theorem frame_p : Cert.quiescent_KernelMergeFwd := fun m ρ _ => Cert.KernelMergeFwd.Gen.frame m ρ
theorem frame_pi : Cert.quiescent_KernelMergeFwdIdeal := fun m ρ _ => Cert.KernelMergeFwdIdeal.Gen.frame m ρ

end Cert.Proof.MergeFwd

end
-- ==== Proof.Rec.Pair.lean ====
/- The frames of `dn_rec_bwd`, the gradient of the recurrence over chunks. -/
module

public import proofs.«01_k».proof.Defs
public import proofs.«01_k».proof.Proof.Gen.KernelRec.Frame
public import proofs.«01_k».proof.Proof.Gen.KernelRecIdeal.Frame

@[expose] public section

noncomputable section

namespace Cert.Proof.Rec

theorem frame_p : Cert.quiescent_KernelRec := fun m ρ _ => Cert.KernelRec.Gen.frame m ρ
theorem frame_pi : Cert.quiescent_KernelRecIdeal := fun m ρ _ => Cert.KernelRecIdeal.Gen.frame m ρ

end Cert.Proof.Rec

end
-- ==== Proof.RecFwd.Pair.lean ====
/- The frames of `dn_rec_fwd`, the recurrence over chunks. -/
module

public import proofs.«01_k».proof.Defs
public import proofs.«01_k».proof.Proof.Gen.KernelRecFwd.Frame
public import proofs.«01_k».proof.Proof.Gen.KernelRecFwdIdeal.Frame

@[expose] public section

noncomputable section

namespace Cert.Proof.RecFwd

theorem frame_p : Cert.quiescent_KernelRecFwd := fun m ρ _ => Cert.KernelRecFwd.Gen.frame m ρ
theorem frame_pi : Cert.quiescent_KernelRecFwdIdeal := fun m ρ _ => Cert.KernelRecFwdIdeal.Gen.frame m ρ

end Cert.Proof.RecFwd

end
-- ==== Proof.lean ====
module

public import proofs.«01_k».proof.Defs
public import proofs.«01_k».proof.Proof.Norm.Pair
public import proofs.«01_k».proof.Proof.Conv.Pair
public import proofs.«01_k».proof.Proof.Final.Pair
public import proofs.«01_k».proof.Proof.OutProj.Pair
public import proofs.«01_k».proof.Proof.Attn.Pair
public import proofs.«01_k».proof.Proof.Pool.Pair
public import proofs.«01_k».proof.Proof.Post.Pair
public import proofs.«01_k».proof.Proof.Ffn.Pair
public import proofs.«01_k».proof.Proof.ConvFwd.Pair
public import proofs.«01_k».proof.Proof.PostFwd.Pair
public import proofs.«01_k».proof.Proof.PoolFwd.Pair
public import proofs.«01_k».proof.Proof.FfnFwd.Pair
public import proofs.«01_k».proof.Proof.Local.Pair
public import proofs.«01_k».proof.Proof.LocalFwd.Pair
public import proofs.«01_k».proof.Proof.InProj.Pair
public import proofs.«01_k».proof.Proof.MergeFwd.Pair
public import proofs.«01_k».proof.Proof.Rec.Pair
public import proofs.«01_k».proof.Proof.RecFwd.Pair
public import Idealize.ShloMosaic.Adequacy
public import Idealize.ShloMosaic.Init

@[expose] public section

noncomputable section

namespace Cert.Proof

open Idealize.ShloMosaic Idealize.SL.Sem

theorem claim : Cert.Claim := ⟨Cert.KernelNorm.Gen.facts, Cert.KernelNormIdeal.Gen.facts, Cert.ReferenceNormIdeal.Gen.facts, Cert.KernelConv.Gen.facts, Cert.KernelConvIdeal.Gen.facts, Cert.ReferenceConvIdeal.Gen.facts, Cert.KernelFinal.Gen.facts, Cert.KernelFinalIdeal.Gen.facts, Cert.ReferenceFinalIdeal.Gen.facts, Cert.KernelOutProj.Gen.facts, Cert.KernelOutProjIdeal.Gen.facts, Cert.ReferenceOutProjIdeal.Gen.facts, Cert.KernelAttn.Gen.facts, Cert.KernelAttnIdeal.Gen.facts, Cert.ReferenceAttnIdeal.Gen.facts, Cert.KernelPool.Gen.facts, Cert.KernelPoolIdeal.Gen.facts, Cert.ReferencePoolIdeal.Gen.facts, Cert.KernelPost.Gen.facts, Cert.KernelPostIdeal.Gen.facts, Cert.ReferencePostIdeal.Gen.facts, Cert.KernelFfn.Gen.facts, Cert.KernelFfnIdeal.Gen.facts, Cert.ReferenceFfnIdeal.Gen.facts, Cert.KernelConvFwd.Gen.facts, Cert.KernelConvFwdIdeal.Gen.facts, Cert.ReferenceConvFwdIdeal.Gen.facts, Cert.KernelPostFwd.Gen.facts, Cert.KernelPostFwdIdeal.Gen.facts, Cert.ReferencePostFwdIdeal.Gen.facts, Cert.KernelPoolFwd.Gen.facts, Cert.KernelPoolFwdIdeal.Gen.facts, Cert.ReferencePoolFwdIdeal.Gen.facts, Cert.KernelFfnFwd.Gen.facts, Cert.KernelFfnFwdIdeal.Gen.facts, Cert.ReferenceFfnFwdIdeal.Gen.facts, Cert.KernelLocal.Gen.facts, Cert.KernelLocalIdeal.Gen.facts, Cert.KernelLocalFwd.Gen.facts, Cert.KernelLocalFwdIdeal.Gen.facts, Cert.KernelInProj.Gen.facts, Cert.KernelInProjIdeal.Gen.facts, Cert.KernelMergeFwd.Gen.facts, Cert.KernelMergeFwdIdeal.Gen.facts, Cert.KernelRec.Gen.facts, Cert.KernelRecIdeal.Gen.facts, Cert.KernelRecFwd.Gen.facts, Cert.KernelRecFwdIdeal.Gen.facts, Cert.Pre_norm_finite.Gen.facts, Cert.Pre_final_finite.Gen.facts, Cert.Pre_outproj_finite.Gen.facts, Cert.Pre_attn_finite.Gen.facts, Cert.Pre_pool_finite.Gen.facts, Cert.Pre_ffn_finite.Gen.facts, Cert.Pre_pooled_finite.Gen.facts,
  Norm.frame_p, Norm.frame_pi, Norm.frame_pi_pre, Norm.frame_ri, Norm.frame_ri_pre,
  Conv.frame_p, Conv.frame_pi, Conv.frame_ri,
  Final.frame_p, Final.frame_pi, Final.frame_pi_pre, Final.frame_ri, Final.frame_ri_pre,
  OutProj.frame_p, OutProj.frame_pi, OutProj.frame_pi_pre, OutProj.frame_ri, OutProj.frame_ri_pre,
  Attn.frame_p, Attn.frame_pi, Attn.frame_pi_pre, Attn.frame_ri, Attn.frame_ri_pre,
  Pool.frame_p, Pool.frame_pi, Pool.frame_pi_pre, Pool.frame_ri, Pool.frame_ri_pre,
  Post.frame_p, Post.frame_pi, Post.frame_ri,
  Ffn.frame_p, Ffn.frame_pi, Ffn.frame_pi_pre, Ffn.frame_ri, Ffn.frame_ri_pre,
  ConvFwd.frame_p, ConvFwd.frame_pi, ConvFwd.frame_ri,
  PostFwd.frame_p, PostFwd.frame_pi, PostFwd.frame_ri,
  PoolFwd.frame_p, PoolFwd.frame_pi, PoolFwd.frame_pi_pre, PoolFwd.frame_ri, PoolFwd.frame_ri_pre,
  FfnFwd.frame_p, FfnFwd.frame_pi, FfnFwd.frame_ri,
  Local.frame_p, Local.frame_pi,
  LocalFwd.frame_p, LocalFwd.frame_pi,
  InProj.frame_p, InProj.frame_pi,
  MergeFwd.frame_p, MergeFwd.frame_pi,
  Rec.frame_p, Rec.frame_pi,
  RecFwd.frame_p, RecFwd.frame_pi,
  trivial, Norm.algebraic,
  trivial, Conv.algebraic,
  trivial, Final.algebraic,
  trivial, OutProj.algebraic,
  Attn.preserves, Attn.algebraic,
  trivial, Pool.algebraic,
  trivial, Post.algebraic,
  trivial, Ffn.algebraic,
  trivial, ConvFwd.algebraic,
  trivial, PostFwd.algebraic,
  trivial, PoolFwd.algebraic,
  trivial, FfnFwd.algebraic,
  trivial,
  trivial,
  trivial,
  trivial,
  trivial,
  trivial⟩

end Cert.Proof

end
